-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def Pre_Kernel2 [hPre_in_range : Cert.Pre_in_range.Facts] (m : (ℓ : Loc Cert.Kernel2.nD Cert.Kernel2.τ Cert.Kernel2.sig) → Buf (Elt Bits) ℓ) : Prop :=
  ∀ c : Dev Cert.Kernel2.nD,
    (Cert.Pre_in_range.fn (F := Bits) (m ((c.tc : Thread Cert.Kernel2.nD Cert.Kernel2.τ).loc Cert.Kernel2.main_arg0)) (m ((c.tc : Thread Cert.Kernel2.nD Cert.Kernel2.τ).loc Cert.Kernel2.main_arg1)) (m ((c.tc : Thread Cert.Kernel2.nD Cert.Kernel2.τ).loc Cert.Kernel2.main_arg2)) (m ((c.tc : Thread Cert.Kernel2.nD Cert.Kernel2.τ).loc Cert.Kernel2.main_arg3)) (m ((c.tc : Thread Cert.Kernel2.nD Cert.Kernel2.τ).loc Cert.Kernel2.main_arg4)) (m ((c.tc : Thread Cert.Kernel2.nD Cert.Kernel2.τ).loc Cert.Kernel2.main_arg5))).1 = (fun _ => 1#1)
    ∧ (Cert.Pre_in_range.fn (F := Bits) (m ((c.tc : Thread Cert.Kernel2.nD Cert.Kernel2.τ).loc Cert.Kernel2.main_arg0)) (m ((c.tc : Thread Cert.Kernel2.nD Cert.Kernel2.τ).loc Cert.Kernel2.main_arg1)) (m ((c.tc : Thread Cert.Kernel2.nD Cert.Kernel2.τ).loc Cert.Kernel2.main_arg2)) (m ((c.tc : Thread Cert.Kernel2.nD Cert.Kernel2.τ).loc Cert.Kernel2.main_arg3)) (m ((c.tc : Thread Cert.Kernel2.nD Cert.Kernel2.τ).loc Cert.Kernel2.main_arg4)) (m ((c.tc : Thread Cert.Kernel2.nD Cert.Kernel2.τ).loc Cert.Kernel2.main_arg5))).2 = (fun _ => 1#1)

def Pre_Kernel2Ideal [hPre_in_range : Cert.Pre_in_range.Facts] (m : (ℓ : Loc Cert.Kernel2Ideal.nD Cert.Kernel2Ideal.τ Cert.Kernel2Ideal.sig) → Buf (Elt Ideal) ℓ) : Prop :=
  ∀ c : Dev Cert.Kernel2Ideal.nD,
    (Cert.Pre_in_range.fn (F := Ideal) (m ((c.tc : Thread Cert.Kernel2Ideal.nD Cert.Kernel2Ideal.τ).loc Cert.Kernel2Ideal.main_arg0)) (m ((c.tc : Thread Cert.Kernel2Ideal.nD Cert.Kernel2Ideal.τ).loc Cert.Kernel2Ideal.main_arg1)) (m ((c.tc : Thread Cert.Kernel2Ideal.nD Cert.Kernel2Ideal.τ).loc Cert.Kernel2Ideal.main_arg2)) (m ((c.tc : Thread Cert.Kernel2Ideal.nD Cert.Kernel2Ideal.τ).loc Cert.Kernel2Ideal.main_arg3)) (m ((c.tc : Thread Cert.Kernel2Ideal.nD Cert.Kernel2Ideal.τ).loc Cert.Kernel2Ideal.main_arg4)) (m ((c.tc : Thread Cert.Kernel2Ideal.nD Cert.Kernel2Ideal.τ).loc Cert.Kernel2Ideal.main_arg5))).1 = (fun _ => 1#1)
    ∧ (Cert.Pre_in_range.fn (F := Ideal) (m ((c.tc : Thread Cert.Kernel2Ideal.nD Cert.Kernel2Ideal.τ).loc Cert.Kernel2Ideal.main_arg0)) (m ((c.tc : Thread Cert.Kernel2Ideal.nD Cert.Kernel2Ideal.τ).loc Cert.Kernel2Ideal.main_arg1)) (m ((c.tc : Thread Cert.Kernel2Ideal.nD Cert.Kernel2Ideal.τ).loc Cert.Kernel2Ideal.main_arg2)) (m ((c.tc : Thread Cert.Kernel2Ideal.nD Cert.Kernel2Ideal.τ).loc Cert.Kernel2Ideal.main_arg3)) (m ((c.tc : Thread Cert.Kernel2Ideal.nD Cert.Kernel2Ideal.τ).loc Cert.Kernel2Ideal.main_arg4)) (m ((c.tc : Thread Cert.Kernel2Ideal.nD Cert.Kernel2Ideal.τ).loc Cert.Kernel2Ideal.main_arg5))).2 = (fun _ => 1#1)

def Pre_Reference2Ideal (m : (ℓ : Loc Cert.Reference2Ideal.nD Cert.Reference2Ideal.τ Cert.Reference2Ideal.sig) → Buf (Elt Ideal) ℓ) : Prop :=
  True

def Pre_Reference2Ideal_in_range [hPre_in_range : Cert.Pre_in_range.Facts] (m : (ℓ : Loc Cert.Reference2Ideal.nD Cert.Reference2Ideal.τ Cert.Reference2Ideal.sig) → Buf (Elt Ideal) ℓ) : Prop :=
  ∀ c : Dev Cert.Reference2Ideal.nD,
    (Cert.Pre_in_range.fn (F := Ideal) (m ((c.tc : Thread Cert.Reference2Ideal.nD Cert.Reference2Ideal.τ).loc Cert.Reference2Ideal.main_arg0)) (m ((c.tc : Thread Cert.Reference2Ideal.nD Cert.Reference2Ideal.τ).loc Cert.Reference2Ideal.main_arg1)) (m ((c.tc : Thread Cert.Reference2Ideal.nD Cert.Reference2Ideal.τ).loc Cert.Reference2Ideal.main_arg2)) (m ((c.tc : Thread Cert.Reference2Ideal.nD Cert.Reference2Ideal.τ).loc Cert.Reference2Ideal.main_arg3)) (m ((c.tc : Thread Cert.Reference2Ideal.nD Cert.Reference2Ideal.τ).loc Cert.Reference2Ideal.main_arg4)) (m ((c.tc : Thread Cert.Reference2Ideal.nD Cert.Reference2Ideal.τ).loc Cert.Reference2Ideal.main_arg5))).1 = (fun _ => 1#1)
    ∧ (Cert.Pre_in_range.fn (F := Ideal) (m ((c.tc : Thread Cert.Reference2Ideal.nD Cert.Reference2Ideal.τ).loc Cert.Reference2Ideal.main_arg0)) (m ((c.tc : Thread Cert.Reference2Ideal.nD Cert.Reference2Ideal.τ).loc Cert.Reference2Ideal.main_arg1)) (m ((c.tc : Thread Cert.Reference2Ideal.nD Cert.Reference2Ideal.τ).loc Cert.Reference2Ideal.main_arg2)) (m ((c.tc : Thread Cert.Reference2Ideal.nD Cert.Reference2Ideal.τ).loc Cert.Reference2Ideal.main_arg3)) (m ((c.tc : Thread Cert.Reference2Ideal.nD Cert.Reference2Ideal.τ).loc Cert.Reference2Ideal.main_arg4)) (m ((c.tc : Thread Cert.Reference2Ideal.nD Cert.Reference2Ideal.τ).loc Cert.Reference2Ideal.main_arg5))).2 = (fun _ => 1#1)

def Pre_Kernel3 (m : (ℓ : Loc Cert.Kernel3.nD Cert.Kernel3.τ Cert.Kernel3.sig) → Buf (Elt Bits) ℓ) : Prop :=
  True

def Pre_Kernel3Ideal (m : (ℓ : Loc Cert.Kernel3Ideal.nD Cert.Kernel3Ideal.τ Cert.Kernel3Ideal.sig) → Buf (Elt Ideal) ℓ) : Prop :=
  True

def Pre_Reference3Ideal (m : (ℓ : Loc Cert.Reference3Ideal.nD Cert.Reference3Ideal.τ Cert.Reference3Ideal.sig) → Buf (Elt Ideal) ℓ) : Prop :=
  True

def Pre_Kernel4 (m : (ℓ : Loc Cert.Kernel4.nD Cert.Kernel4.τ Cert.Kernel4.sig) → Buf (Elt Bits) ℓ) : Prop :=
  True

def Pre_Kernel4Ideal (m : (ℓ : Loc Cert.Kernel4Ideal.nD Cert.Kernel4Ideal.τ Cert.Kernel4Ideal.sig) → Buf (Elt Ideal) ℓ) : Prop :=
  True

def Pre_Reference4Ideal (m : (ℓ : Loc Cert.Reference4Ideal.nD Cert.Reference4Ideal.τ Cert.Reference4Ideal.sig) → Buf (Elt Ideal) ℓ) : Prop :=
  True

def Pre_Kernel5 (m : (ℓ : Loc Cert.Kernel5.nD Cert.Kernel5.τ Cert.Kernel5.sig) → Buf (Elt Bits) ℓ) : Prop :=
  True

def Pre_Kernel5Ideal (m : (ℓ : Loc Cert.Kernel5Ideal.nD Cert.Kernel5Ideal.τ Cert.Kernel5Ideal.sig) → Buf (Elt Ideal) ℓ) : Prop :=
  True

def Pre_Reference5Ideal (m : (ℓ : Loc Cert.Reference5Ideal.nD Cert.Reference5Ideal.τ Cert.Reference5Ideal.sig) → Buf (Elt Ideal) ℓ) : Prop :=
  True

def Pre_Kernel6 (m : (ℓ : Loc Cert.Kernel6.nD Cert.Kernel6.τ Cert.Kernel6.sig) → Buf (Elt Bits) ℓ) : Prop :=
  True

def Pre_Kernel6Ideal (m : (ℓ : Loc Cert.Kernel6Ideal.nD Cert.Kernel6Ideal.τ Cert.Kernel6Ideal.sig) → Buf (Elt Ideal) ℓ) : Prop :=
  True

def Pre_Reference6Ideal (m : (ℓ : Loc Cert.Reference6Ideal.nD Cert.Reference6Ideal.τ Cert.Reference6Ideal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0)

def quiescent_Kernel2 [hKernel2 : Cert.Kernel2.Facts] [hPre_in_range : Cert.Pre_in_range.Facts] : Prop :=
  ∀ (m : (ℓ : Loc Cert.Kernel2.nD Cert.Kernel2.τ Cert.Kernel2.sig) → Buf (Elt Bits) ℓ) (g : Dev Cert.Kernel2.nD → PrngReg), Pre_Kernel2 m →
    θ_run (Cert.Kernel2.defs (F := Bits)) (onTc (τ := Cert.Kernel2.τ) (Cert.Kernel2.main (F := Bits))) ⟨m, fun _ => 0, g⟩ (fun r => (∀ c : Dev Cert.Kernel2.nD,
      r.2.mem ((c.tc : Thread Cert.Kernel2.nD Cert.Kernel2.τ).loc Cert.Kernel2.main_arg0) = m ((c.tc : Thread Cert.Kernel2.nD Cert.Kernel2.τ).loc Cert.Kernel2.main_arg0)
      ∧ r.2.mem ((c.tc : Thread Cert.Kernel2.nD Cert.Kernel2.τ).loc Cert.Kernel2.main_arg1) = m ((c.tc : Thread Cert.Kernel2.nD Cert.Kernel2.τ).loc Cert.Kernel2.main_arg1)
      ∧ r.2.mem ((c.tc : Thread Cert.Kernel2.nD Cert.Kernel2.τ).loc Cert.Kernel2.main_arg2) = m ((c.tc : Thread Cert.Kernel2.nD Cert.Kernel2.τ).loc Cert.Kernel2.main_arg2)
      ∧ r.2.mem ((c.tc : Thread Cert.Kernel2.nD Cert.Kernel2.τ).loc Cert.Kernel2.main_arg3) = m ((c.tc : Thread Cert.Kernel2.nD Cert.Kernel2.τ).loc Cert.Kernel2.main_arg3)
      ∧ r.2.mem ((c.tc : Thread Cert.Kernel2.nD Cert.Kernel2.τ).loc Cert.Kernel2.main_arg4) = m ((c.tc : Thread Cert.Kernel2.nD Cert.Kernel2.τ).loc Cert.Kernel2.main_arg4)
      ∧ r.2.mem ((c.tc : Thread Cert.Kernel2.nD Cert.Kernel2.τ).loc Cert.Kernel2.main_arg5) = m ((c.tc : Thread Cert.Kernel2.nD Cert.Kernel2.τ).loc Cert.Kernel2.main_arg5))
      ∧ r.2.sem = fun _ => 0)

def quiescent_Kernel2Ideal [hKernel2Ideal : Cert.Kernel2Ideal.Facts] [hPre_in_range : Cert.Pre_in_range.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
      ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
      ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
      ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4)
      ∧ r.2.mem ((c.tc : Thread Cert.Kernel2Ideal.nD Cert.Kernel2Ideal.τ).loc Cert.Kernel2Ideal.main_arg5) = m ((c.tc : Thread Cert.Kernel2Ideal.nD Cert.Kernel2Ideal.τ).loc Cert.Kernel2Ideal.main_arg5))
      ∧ r.2.sem = fun _ => 0)

def quiescent_Reference2Ideal [hReference2Ideal : Cert.Reference2Ideal.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2)
      ∧ r.2.mem ((c.tc : Thread Cert.Reference2Ideal.nD Cert.Reference2Ideal.τ).loc Cert.Reference2Ideal.main_arg3) = m ((c.tc : Thread Cert.Reference2Ideal.nD Cert.Reference2Ideal.τ).loc Cert.Reference2Ideal.main_arg3)
      ∧ r.2.mem ((c.tc : Thread Cert.Reference2Ideal.nD Cert.Reference2Ideal.τ).loc Cert.Reference2Ideal.main_arg4) = m ((c.tc : Thread Cert.Reference2Ideal.nD Cert.Reference2Ideal.τ).loc Cert.Reference2Ideal.main_arg4)
      ∧ r.2.mem ((c.tc : Thread Cert.Reference2Ideal.nD Cert.Reference2Ideal.τ).loc Cert.Reference2Ideal.main_arg5) = m ((c.tc : Thread Cert.Reference2Ideal.nD Cert.Reference2Ideal.τ).loc Cert.Reference2Ideal.main_arg5))
      ∧ r.2.sem = fun _ => 0)

def quiescent_Reference2Ideal_pre_in_range [hReference2Ideal : Cert.Reference2Ideal.Facts] [hPre_in_range : Cert.Pre_in_range.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal_in_range m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2)
      ∧ r.2.mem ((c.tc : Thread Cert.Reference2Ideal.nD Cert.Reference2Ideal.τ).loc Cert.Reference2Ideal.main_arg3) = m ((c.tc : Thread Cert.Reference2Ideal.nD Cert.Reference2Ideal.τ).loc Cert.Reference2Ideal.main_arg3)
      ∧ r.2.mem ((c.tc : Thread Cert.Reference2Ideal.nD Cert.Reference2Ideal.τ).loc Cert.Reference2Ideal.main_arg4) = m ((c.tc : Thread Cert.Reference2Ideal.nD Cert.Reference2Ideal.τ).loc Cert.Reference2Ideal.main_arg4)
      ∧ r.2.mem ((c.tc : Thread Cert.Reference2Ideal.nD Cert.Reference2Ideal.τ).loc Cert.Reference2Ideal.main_arg5) = m ((c.tc : Thread Cert.Reference2Ideal.nD Cert.Reference2Ideal.τ).loc Cert.Reference2Ideal.main_arg5))
      ∧ r.2.sem = fun _ => 0)

def quiescent_Kernel3 [hKernel3 : Cert.Kernel3.Facts] : Prop :=
  ∀ (m : (ℓ : Loc Cert.Kernel3.nD Cert.Kernel3.τ Cert.Kernel3.sig) → Buf (Elt Bits) ℓ) (g : Dev Cert.Kernel3.nD → PrngReg), Pre_Kernel3 m →
    θ_run (Cert.Kernel3.defs (F := Bits)) (onTc (τ := Cert.Kernel3.τ) (Cert.Kernel3.main (F := Bits))) ⟨m, fun _ => 0, g⟩ (fun r => (∀ c : Dev Cert.Kernel3.nD,
      r.2.mem ((c.tc : Thread Cert.Kernel3.nD Cert.Kernel3.τ).loc Cert.Kernel3.main_arg0) = m ((c.tc : Thread Cert.Kernel3.nD Cert.Kernel3.τ).loc Cert.Kernel3.main_arg0)
      ∧ r.2.mem ((c.tc : Thread Cert.Kernel3.nD Cert.Kernel3.τ).loc Cert.Kernel3.main_arg1) = m ((c.tc : Thread Cert.Kernel3.nD Cert.Kernel3.τ).loc Cert.Kernel3.main_arg1)
      ∧ r.2.mem ((c.tc : Thread Cert.Kernel3.nD Cert.Kernel3.τ).loc Cert.Kernel3.main_arg2) = m ((c.tc : Thread Cert.Kernel3.nD Cert.Kernel3.τ).loc Cert.Kernel3.main_arg2)
      ∧ r.2.mem ((c.tc : Thread Cert.Kernel3.nD Cert.Kernel3.τ).loc Cert.Kernel3.main_arg3) = m ((c.tc : Thread Cert.Kernel3.nD Cert.Kernel3.τ).loc Cert.Kernel3.main_arg3)
      ∧ r.2.mem ((c.tc : Thread Cert.Kernel3.nD Cert.Kernel3.τ).loc Cert.Kernel3.main_arg4) = m ((c.tc : Thread Cert.Kernel3.nD Cert.Kernel3.τ).loc Cert.Kernel3.main_arg4)
      ∧ r.2.mem ((c.tc : Thread Cert.Kernel3.nD Cert.Kernel3.τ).loc Cert.Kernel3.main_arg5) = m ((c.tc : Thread Cert.Kernel3.nD Cert.Kernel3.τ).loc Cert.Kernel3.main_arg5)
      ∧ r.2.mem ((c.tc : Thread Cert.Kernel3.nD Cert.Kernel3.τ).loc Cert.Kernel3.main_arg6) = m ((c.tc : Thread Cert.Kernel3.nD Cert.Kernel3.τ).loc Cert.Kernel3.main_arg6)
      ∧ r.2.mem ((c.tc : Thread Cert.Kernel3.nD Cert.Kernel3.τ).loc Cert.Kernel3.main_arg7) = m ((c.tc : Thread Cert.Kernel3.nD Cert.Kernel3.τ).loc Cert.Kernel3.main_arg7)
      ∧ r.2.mem ((c.tc : Thread Cert.Kernel3.nD Cert.Kernel3.τ).loc Cert.Kernel3.main_arg8) = m ((c.tc : Thread Cert.Kernel3.nD Cert.Kernel3.τ).loc Cert.Kernel3.main_arg8)
      ∧ r.2.mem ((c.tc : Thread Cert.Kernel3.nD Cert.Kernel3.τ).loc Cert.Kernel3.main_arg9) = m ((c.tc : Thread Cert.Kernel3.nD Cert.Kernel3.τ).loc Cert.Kernel3.main_arg9)
      ∧ r.2.mem ((c.tc : Thread Cert.Kernel3.nD Cert.Kernel3.τ).loc Cert.Kernel3.main_arg10) = m ((c.tc : Thread Cert.Kernel3.nD Cert.Kernel3.τ).loc Cert.Kernel3.main_arg10)
      ∧ r.2.mem ((c.tc : Thread Cert.Kernel3.nD Cert.Kernel3.τ).loc Cert.Kernel3.main_arg11) = m ((c.tc : Thread Cert.Kernel3.nD Cert.Kernel3.τ).loc Cert.Kernel3.main_arg11)
      ∧ r.2.mem ((c.tc : Thread Cert.Kernel3.nD Cert.Kernel3.τ).loc Cert.Kernel3.main_arg12) = m ((c.tc : Thread Cert.Kernel3.nD Cert.Kernel3.τ).loc Cert.Kernel3.main_arg12)
      ∧ r.2.mem ((c.tc : Thread Cert.Kernel3.nD Cert.Kernel3.τ).loc Cert.Kernel3.main_arg13) = m ((c.tc : Thread Cert.Kernel3.nD Cert.Kernel3.τ).loc Cert.Kernel3.main_arg13)
      ∧ r.2.mem ((c.tc : Thread Cert.Kernel3.nD Cert.Kernel3.τ).loc Cert.Kernel3.main_arg14) = m ((c.tc : Thread Cert.Kernel3.nD Cert.Kernel3.τ).loc Cert.Kernel3.main_arg14))
      ∧ r.2.sem = fun _ => 0)

def quiescent_Kernel3Ideal [hKernel3Ideal : Cert.Kernel3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg), Pre_Kernel3Ideal m →
    θ_run (Cert.Kernel3Ideal.defs (F := Ideal)) (onTc (τ := Cert.Kernel3Ideal.τ) (Cert.Kernel3Ideal.main (F := Ideal))) ⟨m, fun _ => 0, g⟩ (fun r => (∀ c : Dev Cert.Kernel3Ideal.nD,
      r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
      ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
      ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
      ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
      ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4)
      ∧ r.2.mem ((c.tc : Thread Cert.Kernel3Ideal.nD Cert.Kernel3Ideal.τ).loc Cert.Kernel3Ideal.main_arg5) = m ((c.tc : Thread Cert.Kernel3Ideal.nD Cert.Kernel3Ideal.τ).loc Cert.Kernel3Ideal.main_arg5)
      ∧ r.2.mem ((c.tc : Thread Cert.Kernel3Ideal.nD Cert.Kernel3Ideal.τ).loc Cert.Kernel3Ideal.main_arg6) = m ((c.tc : Thread Cert.Kernel3Ideal.nD Cert.Kernel3Ideal.τ).loc Cert.Kernel3Ideal.main_arg6)
      ∧ r.2.mem ((c.tc : Thread Cert.Kernel3Ideal.nD Cert.Kernel3Ideal.τ).loc Cert.Kernel3Ideal.main_arg7) = m ((c.tc : Thread Cert.Kernel3Ideal.nD Cert.Kernel3Ideal.τ).loc Cert.Kernel3Ideal.main_arg7)
      ∧ r.2.mem ((c.tc : Thread Cert.Kernel3Ideal.nD Cert.Kernel3Ideal.τ).loc Cert.Kernel3Ideal.main_arg8) = m ((c.tc : Thread Cert.Kernel3Ideal.nD Cert.Kernel3Ideal.τ).loc Cert.Kernel3Ideal.main_arg8)
      ∧ r.2.mem ((c.tc : Thread Cert.Kernel3Ideal.nD Cert.Kernel3Ideal.τ).loc Cert.Kernel3Ideal.main_arg9) = m ((c.tc : Thread Cert.Kernel3Ideal.nD Cert.Kernel3Ideal.τ).loc Cert.Kernel3Ideal.main_arg9)
      ∧ r.2.mem ((c.tc : Thread Cert.Kernel3Ideal.nD Cert.Kernel3Ideal.τ).loc Cert.Kernel3Ideal.main_arg10) = m ((c.tc : Thread Cert.Kernel3Ideal.nD Cert.Kernel3Ideal.τ).loc Cert.Kernel3Ideal.main_arg10)
      ∧ r.2.mem ((c.tc : Thread Cert.Kernel3Ideal.nD Cert.Kernel3Ideal.τ).loc Cert.Kernel3Ideal.main_arg11) = m ((c.tc : Thread Cert.Kernel3Ideal.nD Cert.Kernel3Ideal.τ).loc Cert.Kernel3Ideal.main_arg11)
      ∧ r.2.mem ((c.tc : Thread Cert.Kernel3Ideal.nD Cert.Kernel3Ideal.τ).loc Cert.Kernel3Ideal.main_arg12) = m ((c.tc : Thread Cert.Kernel3Ideal.nD Cert.Kernel3Ideal.τ).loc Cert.Kernel3Ideal.main_arg12)
      ∧ r.2.mem ((c.tc : Thread Cert.Kernel3Ideal.nD Cert.Kernel3Ideal.τ).loc Cert.Kernel3Ideal.main_arg13) = m ((c.tc : Thread Cert.Kernel3Ideal.nD Cert.Kernel3Ideal.τ).loc Cert.Kernel3Ideal.main_arg13)
      ∧ r.2.mem ((c.tc : Thread Cert.Kernel3Ideal.nD Cert.Kernel3Ideal.τ).loc Cert.Kernel3Ideal.main_arg14) = m ((c.tc : Thread Cert.Kernel3Ideal.nD Cert.Kernel3Ideal.τ).loc Cert.Kernel3Ideal.main_arg14))
      ∧ r.2.sem = fun _ => 0)

def quiescent_Reference3Ideal [hReference3Ideal : Cert.Reference3Ideal.Facts] : Prop :=
  ∀ (m : (ℓ : Loc Cert.Reference3Ideal.nD Cert.Reference3Ideal.τ Cert.Reference3Ideal.sig) → Buf (Elt Ideal) ℓ) (g : Dev Cert.Reference3Ideal.nD → PrngReg), Pre_Reference3Ideal m →
    θ_run (Cert.Reference3Ideal.defs (F := Ideal)) (onTc (τ := Cert.Reference3Ideal.τ) (Cert.Reference3Ideal.main (F := Ideal))) ⟨m, fun _ => 0, g⟩ (fun r => (∀ c : Dev Cert.Reference3Ideal.nD,
      r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
      ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1)
      ∧ r.2.mem ((c.tc : Thread Cert.Reference3Ideal.nD Cert.Reference3Ideal.τ).loc Cert.Reference3Ideal.main_arg2) = m ((c.tc : Thread Cert.Reference3Ideal.nD Cert.Reference3Ideal.τ).loc Cert.Reference3Ideal.main_arg2)
      ∧ r.2.mem ((c.tc : Thread Cert.Reference3Ideal.nD Cert.Reference3Ideal.τ).loc Cert.Reference3Ideal.main_arg3) = m ((c.tc : Thread Cert.Reference3Ideal.nD Cert.Reference3Ideal.τ).loc Cert.Reference3Ideal.main_arg3)
      ∧ r.2.mem ((c.tc : Thread Cert.Reference3Ideal.nD Cert.Reference3Ideal.τ).loc Cert.Reference3Ideal.main_arg4) = m ((c.tc : Thread Cert.Reference3Ideal.nD Cert.Reference3Ideal.τ).loc Cert.Reference3Ideal.main_arg4)
      ∧ r.2.mem ((c.tc : Thread Cert.Reference3Ideal.nD Cert.Reference3Ideal.τ).loc Cert.Reference3Ideal.main_arg5) = m ((c.tc : Thread Cert.Reference3Ideal.nD Cert.Reference3Ideal.τ).loc Cert.Reference3Ideal.main_arg5)
      ∧ r.2.mem ((c.tc : Thread Cert.Reference3Ideal.nD Cert.Reference3Ideal.τ).loc Cert.Reference3Ideal.main_arg6) = m ((c.tc : Thread Cert.Reference3Ideal.nD Cert.Reference3Ideal.τ).loc Cert.Reference3Ideal.main_arg6)
      ∧ r.2.mem ((c.tc : Thread Cert.Reference3Ideal.nD Cert.Reference3Ideal.τ).loc Cert.Reference3Ideal.main_arg7) = m ((c.tc : Thread Cert.Reference3Ideal.nD Cert.Reference3Ideal.τ).loc Cert.Reference3Ideal.main_arg7)
      ∧ r.2.mem ((c.tc : Thread Cert.Reference3Ideal.nD Cert.Reference3Ideal.τ).loc Cert.Reference3Ideal.main_arg8) = m ((c.tc : Thread Cert.Reference3Ideal.nD Cert.Reference3Ideal.τ).loc Cert.Reference3Ideal.main_arg8)
      ∧ r.2.mem ((c.tc : Thread Cert.Reference3Ideal.nD Cert.Reference3Ideal.τ).loc Cert.Reference3Ideal.main_arg9) = m ((c.tc : Thread Cert.Reference3Ideal.nD Cert.Reference3Ideal.τ).loc Cert.Reference3Ideal.main_arg9)
      ∧ r.2.mem ((c.tc : Thread Cert.Reference3Ideal.nD Cert.Reference3Ideal.τ).loc Cert.Reference3Ideal.main_arg10) = m ((c.tc : Thread Cert.Reference3Ideal.nD Cert.Reference3Ideal.τ).loc Cert.Reference3Ideal.main_arg10)
      ∧ r.2.mem ((c.tc : Thread Cert.Reference3Ideal.nD Cert.Reference3Ideal.τ).loc Cert.Reference3Ideal.main_arg11) = m ((c.tc : Thread Cert.Reference3Ideal.nD Cert.Reference3Ideal.τ).loc Cert.Reference3Ideal.main_arg11)
      ∧ r.2.mem ((c.tc : Thread Cert.Reference3Ideal.nD Cert.Reference3Ideal.τ).loc Cert.Reference3Ideal.main_arg12) = m ((c.tc : Thread Cert.Reference3Ideal.nD Cert.Reference3Ideal.τ).loc Cert.Reference3Ideal.main_arg12)
      ∧ r.2.mem ((c.tc : Thread Cert.Reference3Ideal.nD Cert.Reference3Ideal.τ).loc Cert.Reference3Ideal.main_arg13) = m ((c.tc : Thread Cert.Reference3Ideal.nD Cert.Reference3Ideal.τ).loc Cert.Reference3Ideal.main_arg13)
      ∧ r.2.mem ((c.tc : Thread Cert.Reference3Ideal.nD Cert.Reference3Ideal.τ).loc Cert.Reference3Ideal.main_arg14) = m ((c.tc : Thread Cert.Reference3Ideal.nD Cert.Reference3Ideal.τ).loc Cert.Reference3Ideal.main_arg14))
      ∧ r.2.sem = fun _ => 0)

def quiescent_Kernel4 [hKernel4 : Cert.Kernel4.Facts] : Prop :=
  ∀ (m : (ℓ : Loc Cert.Kernel4.nD Cert.Kernel4.τ Cert.Kernel4.sig) → Buf (Elt Bits) ℓ) (g : Dev Cert.Kernel4.nD → PrngReg), Pre_Kernel4 m →
    θ_run (Cert.Kernel4.defs (F := Bits)) (onTc (τ := Cert.Kernel4.τ) (Cert.Kernel4.main (F := Bits))) ⟨m, fun _ => 0, g⟩ (fun r => (∀ c : Dev Cert.Kernel4.nD,
      r.2.mem ((c.tc : Thread Cert.Kernel4.nD Cert.Kernel4.τ).loc Cert.Kernel4.main_arg0) = m ((c.tc : Thread Cert.Kernel4.nD Cert.Kernel4.τ).loc Cert.Kernel4.main_arg0)
      ∧ r.2.mem ((c.tc : Thread Cert.Kernel4.nD Cert.Kernel4.τ).loc Cert.Kernel4.main_arg1) = m ((c.tc : Thread Cert.Kernel4.nD Cert.Kernel4.τ).loc Cert.Kernel4.main_arg1)
      ∧ r.2.mem ((c.tc : Thread Cert.Kernel4.nD Cert.Kernel4.τ).loc Cert.Kernel4.main_arg2) = m ((c.tc : Thread Cert.Kernel4.nD Cert.Kernel4.τ).loc Cert.Kernel4.main_arg2)
      ∧ r.2.mem ((c.tc : Thread Cert.Kernel4.nD Cert.Kernel4.τ).loc Cert.Kernel4.main_arg3) = m ((c.tc : Thread Cert.Kernel4.nD Cert.Kernel4.τ).loc Cert.Kernel4.main_arg3)
      ∧ r.2.mem ((c.tc : Thread Cert.Kernel4.nD Cert.Kernel4.τ).loc Cert.Kernel4.main_arg4) = m ((c.tc : Thread Cert.Kernel4.nD Cert.Kernel4.τ).loc Cert.Kernel4.main_arg4)
      ∧ r.2.mem ((c.tc : Thread Cert.Kernel4.nD Cert.Kernel4.τ).loc Cert.Kernel4.main_arg5) = m ((c.tc : Thread Cert.Kernel4.nD Cert.Kernel4.τ).loc Cert.Kernel4.main_arg5)
      ∧ r.2.mem ((c.tc : Thread Cert.Kernel4.nD Cert.Kernel4.τ).loc Cert.Kernel4.main_arg6) = m ((c.tc : Thread Cert.Kernel4.nD Cert.Kernel4.τ).loc Cert.Kernel4.main_arg6)
      ∧ r.2.mem ((c.tc : Thread Cert.Kernel4.nD Cert.Kernel4.τ).loc Cert.Kernel4.main_arg7) = m ((c.tc : Thread Cert.Kernel4.nD Cert.Kernel4.τ).loc Cert.Kernel4.main_arg7)
      ∧ r.2.mem ((c.tc : Thread Cert.Kernel4.nD Cert.Kernel4.τ).loc Cert.Kernel4.main_arg8) = m ((c.tc : Thread Cert.Kernel4.nD Cert.Kernel4.τ).loc Cert.Kernel4.main_arg8))
      ∧ r.2.sem = fun _ => 0)

def quiescent_Kernel4Ideal [hKernel4Ideal : Cert.Kernel4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg), Pre_Kernel4Ideal m →
    θ_run (Cert.Kernel4Ideal.defs (F := Ideal)) (onTc (τ := Cert.Kernel4Ideal.τ) (Cert.Kernel4Ideal.main (F := Ideal))) ⟨m, fun _ => 0, g⟩ (fun r => (∀ c : Dev Cert.Kernel4Ideal.nD,
      r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
      ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
      ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2)
      ∧ r.2.mem ((c.tc : Thread Cert.Kernel4Ideal.nD Cert.Kernel4Ideal.τ).loc Cert.Kernel4Ideal.main_arg3) = m ((c.tc : Thread Cert.Kernel4Ideal.nD Cert.Kernel4Ideal.τ).loc Cert.Kernel4Ideal.main_arg3)
      ∧ r.2.mem ((c.tc : Thread Cert.Kernel4Ideal.nD Cert.Kernel4Ideal.τ).loc Cert.Kernel4Ideal.main_arg4) = m ((c.tc : Thread Cert.Kernel4Ideal.nD Cert.Kernel4Ideal.τ).loc Cert.Kernel4Ideal.main_arg4)
      ∧ r.2.mem ((c.tc : Thread Cert.Kernel4Ideal.nD Cert.Kernel4Ideal.τ).loc Cert.Kernel4Ideal.main_arg5) = m ((c.tc : Thread Cert.Kernel4Ideal.nD Cert.Kernel4Ideal.τ).loc Cert.Kernel4Ideal.main_arg5)
      ∧ r.2.mem ((c.tc : Thread Cert.Kernel4Ideal.nD Cert.Kernel4Ideal.τ).loc Cert.Kernel4Ideal.main_arg6) = m ((c.tc : Thread Cert.Kernel4Ideal.nD Cert.Kernel4Ideal.τ).loc Cert.Kernel4Ideal.main_arg6)
      ∧ r.2.mem ((c.tc : Thread Cert.Kernel4Ideal.nD Cert.Kernel4Ideal.τ).loc Cert.Kernel4Ideal.main_arg7) = m ((c.tc : Thread Cert.Kernel4Ideal.nD Cert.Kernel4Ideal.τ).loc Cert.Kernel4Ideal.main_arg7)
      ∧ r.2.mem ((c.tc : Thread Cert.Kernel4Ideal.nD Cert.Kernel4Ideal.τ).loc Cert.Kernel4Ideal.main_arg8) = m ((c.tc : Thread Cert.Kernel4Ideal.nD Cert.Kernel4Ideal.τ).loc Cert.Kernel4Ideal.main_arg8))
      ∧ r.2.sem = fun _ => 0)

def quiescent_Reference4Ideal [hReference4Ideal : Cert.Reference4Ideal.Facts] : Prop :=
  ∀ (m : (ℓ : Loc Cert.Reference4Ideal.nD Cert.Reference4Ideal.τ Cert.Reference4Ideal.sig) → Buf (Elt Ideal) ℓ) (g : Dev Cert.Reference4Ideal.nD → PrngReg), Pre_Reference4Ideal m →
    θ_run (Cert.Reference4Ideal.defs (F := Ideal)) (onTc (τ := Cert.Reference4Ideal.τ) (Cert.Reference4Ideal.main (F := Ideal))) ⟨m, fun _ => 0, g⟩ (fun r => (∀ c : Dev Cert.Reference4Ideal.nD,
      r.2.mem ((c.tc : Thread Cert.Reference4Ideal.nD Cert.Reference4Ideal.τ).loc Cert.Reference4Ideal.main_arg0) = m ((c.tc : Thread Cert.Reference4Ideal.nD Cert.Reference4Ideal.τ).loc Cert.Reference4Ideal.main_arg0)
      ∧ r.2.mem ((c.tc : Thread Cert.Reference4Ideal.nD Cert.Reference4Ideal.τ).loc Cert.Reference4Ideal.main_arg1) = m ((c.tc : Thread Cert.Reference4Ideal.nD Cert.Reference4Ideal.τ).loc Cert.Reference4Ideal.main_arg1)
      ∧ r.2.mem ((c.tc : Thread Cert.Reference4Ideal.nD Cert.Reference4Ideal.τ).loc Cert.Reference4Ideal.main_arg2) = m ((c.tc : Thread Cert.Reference4Ideal.nD Cert.Reference4Ideal.τ).loc Cert.Reference4Ideal.main_arg2)
      ∧ r.2.mem ((c.tc : Thread Cert.Reference4Ideal.nD Cert.Reference4Ideal.τ).loc Cert.Reference4Ideal.main_arg3) = m ((c.tc : Thread Cert.Reference4Ideal.nD Cert.Reference4Ideal.τ).loc Cert.Reference4Ideal.main_arg3)
      ∧ r.2.mem ((c.tc : Thread Cert.Reference4Ideal.nD Cert.Reference4Ideal.τ).loc Cert.Reference4Ideal.main_arg4) = m ((c.tc : Thread Cert.Reference4Ideal.nD Cert.Reference4Ideal.τ).loc Cert.Reference4Ideal.main_arg4)
      ∧ r.2.mem ((c.tc : Thread Cert.Reference4Ideal.nD Cert.Reference4Ideal.τ).loc Cert.Reference4Ideal.main_arg5) = m ((c.tc : Thread Cert.Reference4Ideal.nD Cert.Reference4Ideal.τ).loc Cert.Reference4Ideal.main_arg5)
      ∧ r.2.mem ((c.tc : Thread Cert.Reference4Ideal.nD Cert.Reference4Ideal.τ).loc Cert.Reference4Ideal.main_arg6) = m ((c.tc : Thread Cert.Reference4Ideal.nD Cert.Reference4Ideal.τ).loc Cert.Reference4Ideal.main_arg6)
      ∧ r.2.mem ((c.tc : Thread Cert.Reference4Ideal.nD Cert.Reference4Ideal.τ).loc Cert.Reference4Ideal.main_arg7) = m ((c.tc : Thread Cert.Reference4Ideal.nD Cert.Reference4Ideal.τ).loc Cert.Reference4Ideal.main_arg7)
      ∧ r.2.mem ((c.tc : Thread Cert.Reference4Ideal.nD Cert.Reference4Ideal.τ).loc Cert.Reference4Ideal.main_arg8) = m ((c.tc : Thread Cert.Reference4Ideal.nD Cert.Reference4Ideal.τ).loc Cert.Reference4Ideal.main_arg8))
      ∧ r.2.sem = fun _ => 0)

def quiescent_Kernel5 [hKernel5 : Cert.Kernel5.Facts] : Prop :=
  ∀ (m : (ℓ : Loc Cert.Kernel5.nD Cert.Kernel5.τ Cert.Kernel5.sig) → Buf (Elt Bits) ℓ) (g : Dev Cert.Kernel5.nD → PrngReg), Pre_Kernel5 m →
    θ_run (Cert.Kernel5.defs (F := Bits)) (onTc (τ := Cert.Kernel5.τ) (Cert.Kernel5.main (F := Bits))) ⟨m, fun _ => 0, g⟩ (fun r => (∀ c : Dev Cert.Kernel5.nD,
      r.2.mem ((c.tc : Thread Cert.Kernel5.nD Cert.Kernel5.τ).loc Cert.Kernel5.main_arg0) = m ((c.tc : Thread Cert.Kernel5.nD Cert.Kernel5.τ).loc Cert.Kernel5.main_arg0)
      ∧ r.2.mem ((c.tc : Thread Cert.Kernel5.nD Cert.Kernel5.τ).loc Cert.Kernel5.main_arg1) = m ((c.tc : Thread Cert.Kernel5.nD Cert.Kernel5.τ).loc Cert.Kernel5.main_arg1)
      ∧ r.2.mem ((c.tc : Thread Cert.Kernel5.nD Cert.Kernel5.τ).loc Cert.Kernel5.main_arg2) = m ((c.tc : Thread Cert.Kernel5.nD Cert.Kernel5.τ).loc Cert.Kernel5.main_arg2)
      ∧ r.2.mem ((c.tc : Thread Cert.Kernel5.nD Cert.Kernel5.τ).loc Cert.Kernel5.main_arg3) = m ((c.tc : Thread Cert.Kernel5.nD Cert.Kernel5.τ).loc Cert.Kernel5.main_arg3)
      ∧ r.2.mem ((c.tc : Thread Cert.Kernel5.nD Cert.Kernel5.τ).loc Cert.Kernel5.main_arg4) = m ((c.tc : Thread Cert.Kernel5.nD Cert.Kernel5.τ).loc Cert.Kernel5.main_arg4)
      ∧ r.2.mem ((c.tc : Thread Cert.Kernel5.nD Cert.Kernel5.τ).loc Cert.Kernel5.main_arg5) = m ((c.tc : Thread Cert.Kernel5.nD Cert.Kernel5.τ).loc Cert.Kernel5.main_arg5)
      ∧ r.2.mem ((c.tc : Thread Cert.Kernel5.nD Cert.Kernel5.τ).loc Cert.Kernel5.main_arg6) = m ((c.tc : Thread Cert.Kernel5.nD Cert.Kernel5.τ).loc Cert.Kernel5.main_arg6)
      ∧ r.2.mem ((c.tc : Thread Cert.Kernel5.nD Cert.Kernel5.τ).loc Cert.Kernel5.main_arg7) = m ((c.tc : Thread Cert.Kernel5.nD Cert.Kernel5.τ).loc Cert.Kernel5.main_arg7)
      ∧ r.2.mem ((c.tc : Thread Cert.Kernel5.nD Cert.Kernel5.τ).loc Cert.Kernel5.main_arg8) = m ((c.tc : Thread Cert.Kernel5.nD Cert.Kernel5.τ).loc Cert.Kernel5.main_arg8))
      ∧ r.2.sem = fun _ => 0)

def quiescent_Kernel5Ideal [hKernel5Ideal : Cert.Kernel5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg), Pre_Kernel5Ideal m →
    θ_run (Cert.Kernel5Ideal.defs (F := Ideal)) (onTc (τ := Cert.Kernel5Ideal.τ) (Cert.Kernel5Ideal.main (F := Ideal))) ⟨m, fun _ => 0, g⟩ (fun r => (∀ c : Dev Cert.Kernel5Ideal.nD,
      r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
      ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
      ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2)
      ∧ r.2.mem ((c.tc : Thread Cert.Kernel5Ideal.nD Cert.Kernel5Ideal.τ).loc Cert.Kernel5Ideal.main_arg3) = m ((c.tc : Thread Cert.Kernel5Ideal.nD Cert.Kernel5Ideal.τ).loc Cert.Kernel5Ideal.main_arg3)
      ∧ r.2.mem ((c.tc : Thread Cert.Kernel5Ideal.nD Cert.Kernel5Ideal.τ).loc Cert.Kernel5Ideal.main_arg4) = m ((c.tc : Thread Cert.Kernel5Ideal.nD Cert.Kernel5Ideal.τ).loc Cert.Kernel5Ideal.main_arg4)
      ∧ r.2.mem ((c.tc : Thread Cert.Kernel5Ideal.nD Cert.Kernel5Ideal.τ).loc Cert.Kernel5Ideal.main_arg5) = m ((c.tc : Thread Cert.Kernel5Ideal.nD Cert.Kernel5Ideal.τ).loc Cert.Kernel5Ideal.main_arg5)
      ∧ r.2.mem ((c.tc : Thread Cert.Kernel5Ideal.nD Cert.Kernel5Ideal.τ).loc Cert.Kernel5Ideal.main_arg6) = m ((c.tc : Thread Cert.Kernel5Ideal.nD Cert.Kernel5Ideal.τ).loc Cert.Kernel5Ideal.main_arg6)
      ∧ r.2.mem ((c.tc : Thread Cert.Kernel5Ideal.nD Cert.Kernel5Ideal.τ).loc Cert.Kernel5Ideal.main_arg7) = m ((c.tc : Thread Cert.Kernel5Ideal.nD Cert.Kernel5Ideal.τ).loc Cert.Kernel5Ideal.main_arg7)
      ∧ r.2.mem ((c.tc : Thread Cert.Kernel5Ideal.nD Cert.Kernel5Ideal.τ).loc Cert.Kernel5Ideal.main_arg8) = m ((c.tc : Thread Cert.Kernel5Ideal.nD Cert.Kernel5Ideal.τ).loc Cert.Kernel5Ideal.main_arg8))
      ∧ r.2.sem = fun _ => 0)

def quiescent_Reference5Ideal [hReference5Ideal : Cert.Reference5Ideal.Facts] : Prop :=
  ∀ (m : (ℓ : Loc Cert.Reference5Ideal.nD Cert.Reference5Ideal.τ Cert.Reference5Ideal.sig) → Buf (Elt Ideal) ℓ) (g : Dev Cert.Reference5Ideal.nD → PrngReg), Pre_Reference5Ideal m →
    θ_run (Cert.Reference5Ideal.defs (F := Ideal)) (onTc (τ := Cert.Reference5Ideal.τ) (Cert.Reference5Ideal.main (F := Ideal))) ⟨m, fun _ => 0, g⟩ (fun r => (∀ c : Dev Cert.Reference5Ideal.nD,
      r.2.mem ((c.tc : Thread Cert.Reference5Ideal.nD Cert.Reference5Ideal.τ).loc Cert.Reference5Ideal.main_arg0) = m ((c.tc : Thread Cert.Reference5Ideal.nD Cert.Reference5Ideal.τ).loc Cert.Reference5Ideal.main_arg0)
      ∧ r.2.mem ((c.tc : Thread Cert.Reference5Ideal.nD Cert.Reference5Ideal.τ).loc Cert.Reference5Ideal.main_arg1) = m ((c.tc : Thread Cert.Reference5Ideal.nD Cert.Reference5Ideal.τ).loc Cert.Reference5Ideal.main_arg1)
      ∧ r.2.mem ((c.tc : Thread Cert.Reference5Ideal.nD Cert.Reference5Ideal.τ).loc Cert.Reference5Ideal.main_arg2) = m ((c.tc : Thread Cert.Reference5Ideal.nD Cert.Reference5Ideal.τ).loc Cert.Reference5Ideal.main_arg2)
      ∧ r.2.mem ((c.tc : Thread Cert.Reference5Ideal.nD Cert.Reference5Ideal.τ).loc Cert.Reference5Ideal.main_arg3) = m ((c.tc : Thread Cert.Reference5Ideal.nD Cert.Reference5Ideal.τ).loc Cert.Reference5Ideal.main_arg3)
      ∧ r.2.mem ((c.tc : Thread Cert.Reference5Ideal.nD Cert.Reference5Ideal.τ).loc Cert.Reference5Ideal.main_arg4) = m ((c.tc : Thread Cert.Reference5Ideal.nD Cert.Reference5Ideal.τ).loc Cert.Reference5Ideal.main_arg4)
      ∧ r.2.mem ((c.tc : Thread Cert.Reference5Ideal.nD Cert.Reference5Ideal.τ).loc Cert.Reference5Ideal.main_arg5) = m ((c.tc : Thread Cert.Reference5Ideal.nD Cert.Reference5Ideal.τ).loc Cert.Reference5Ideal.main_arg5)
      ∧ r.2.mem ((c.tc : Thread Cert.Reference5Ideal.nD Cert.Reference5Ideal.τ).loc Cert.Reference5Ideal.main_arg6) = m ((c.tc : Thread Cert.Reference5Ideal.nD Cert.Reference5Ideal.τ).loc Cert.Reference5Ideal.main_arg6)
      ∧ r.2.mem ((c.tc : Thread Cert.Reference5Ideal.nD Cert.Reference5Ideal.τ).loc Cert.Reference5Ideal.main_arg7) = m ((c.tc : Thread Cert.Reference5Ideal.nD Cert.Reference5Ideal.τ).loc Cert.Reference5Ideal.main_arg7)
      ∧ r.2.mem ((c.tc : Thread Cert.Reference5Ideal.nD Cert.Reference5Ideal.τ).loc Cert.Reference5Ideal.main_arg8) = m ((c.tc : Thread Cert.Reference5Ideal.nD Cert.Reference5Ideal.τ).loc Cert.Reference5Ideal.main_arg8))
      ∧ r.2.sem = fun _ => 0)

def quiescent_Kernel6 [hKernel6 : Cert.Kernel6.Facts] : Prop :=
  ∀ (m : (ℓ : Loc Cert.Kernel6.nD Cert.Kernel6.τ Cert.Kernel6.sig) → Buf (Elt Bits) ℓ) (g : Dev Cert.Kernel6.nD → PrngReg), Pre_Kernel6 m →
    θ_run (Cert.Kernel6.defs (F := Bits)) (onTc (τ := Cert.Kernel6.τ) (Cert.Kernel6.main (F := Bits))) ⟨m, fun _ => 0, g⟩ (fun r => (∀ c : Dev Cert.Kernel6.nD,
      r.2.mem ((c.tc : Thread Cert.Kernel6.nD Cert.Kernel6.τ).loc Cert.Kernel6.main_arg0) = m ((c.tc : Thread Cert.Kernel6.nD Cert.Kernel6.τ).loc Cert.Kernel6.main_arg0)
      ∧ r.2.mem ((c.tc : Thread Cert.Kernel6.nD Cert.Kernel6.τ).loc Cert.Kernel6.main_arg1) = m ((c.tc : Thread Cert.Kernel6.nD Cert.Kernel6.τ).loc Cert.Kernel6.main_arg1)
      ∧ r.2.mem ((c.tc : Thread Cert.Kernel6.nD Cert.Kernel6.τ).loc Cert.Kernel6.main_arg2) = m ((c.tc : Thread Cert.Kernel6.nD Cert.Kernel6.τ).loc Cert.Kernel6.main_arg2)
      ∧ r.2.mem ((c.tc : Thread Cert.Kernel6.nD Cert.Kernel6.τ).loc Cert.Kernel6.main_arg3) = m ((c.tc : Thread Cert.Kernel6.nD Cert.Kernel6.τ).loc Cert.Kernel6.main_arg3))
      ∧ r.2.sem = fun _ => 0)

def quiescent_Kernel6Ideal [hKernel6Ideal : Cert.Kernel6Ideal.Facts] : Prop :=
  ∀ (m : (ℓ : Loc Cert.Kernel6Ideal.nD Cert.Kernel6Ideal.τ Cert.Kernel6Ideal.sig) → Buf (Elt Ideal) ℓ) (g : Dev Cert.Kernel6Ideal.nD → PrngReg), Pre_Kernel6Ideal m →
    θ_run (Cert.Kernel6Ideal.defs (F := Ideal)) (onTc (τ := Cert.Kernel6Ideal.τ) (Cert.Kernel6Ideal.main (F := Ideal))) ⟨m, fun _ => 0, g⟩ (fun r => (∀ c : Dev Cert.Kernel6Ideal.nD,
      r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
      ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1)
      ∧ r.2.mem ((c.tc : Thread Cert.Kernel6Ideal.nD Cert.Kernel6Ideal.τ).loc Cert.Kernel6Ideal.main_arg2) = m ((c.tc : Thread Cert.Kernel6Ideal.nD Cert.Kernel6Ideal.τ).loc Cert.Kernel6Ideal.main_arg2)
      ∧ r.2.mem ((c.tc : Thread Cert.Kernel6Ideal.nD Cert.Kernel6Ideal.τ).loc Cert.Kernel6Ideal.main_arg3) = m ((c.tc : Thread Cert.Kernel6Ideal.nD Cert.Kernel6Ideal.τ).loc Cert.Kernel6Ideal.main_arg3))
      ∧ r.2.sem = fun _ => 0)

def quiescent_Reference6Ideal [hReference6Ideal : Cert.Reference6Ideal.Facts] : Prop :=
  ∀ (m : (ℓ : Loc Cert.Reference6Ideal.nD Cert.Reference6Ideal.τ Cert.Reference6Ideal.sig) → Buf (Elt Ideal) ℓ) (g : Dev Cert.Reference6Ideal.nD → PrngReg), Pre_Reference6Ideal m →
    θ_run (Cert.Reference6Ideal.defs (F := Ideal)) (onTc (τ := Cert.Reference6Ideal.τ) (Cert.Reference6Ideal.main (F := Ideal))) ⟨m, fun _ => 0, g⟩ (fun r => (∀ c : Dev Cert.Reference6Ideal.nD,
      r.2.mem ((c.tc : Thread Cert.Reference6Ideal.nD Cert.Reference6Ideal.τ).loc Cert.Reference6Ideal.main_arg0) = m ((c.tc : Thread Cert.Reference6Ideal.nD Cert.Reference6Ideal.τ).loc Cert.Reference6Ideal.main_arg0)
      ∧ r.2.mem ((c.tc : Thread Cert.Reference6Ideal.nD Cert.Reference6Ideal.τ).loc Cert.Reference6Ideal.main_arg1) = m ((c.tc : Thread Cert.Reference6Ideal.nD Cert.Reference6Ideal.τ).loc Cert.Reference6Ideal.main_arg1)
      ∧ r.2.mem ((c.tc : Thread Cert.Reference6Ideal.nD Cert.Reference6Ideal.τ).loc Cert.Reference6Ideal.main_arg2) = m ((c.tc : Thread Cert.Reference6Ideal.nD Cert.Reference6Ideal.τ).loc Cert.Reference6Ideal.main_arg2)
      ∧ r.2.mem ((c.tc : Thread Cert.Reference6Ideal.nD Cert.Reference6Ideal.τ).loc Cert.Reference6Ideal.main_arg3) = m ((c.tc : Thread Cert.Reference6Ideal.nD Cert.Reference6Ideal.τ).loc Cert.Reference6Ideal.main_arg3))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v52_0)) (v1 : (c : Dev Cert.KernelIdeal.nD) → Buf (Elt Ideal) ((c.tc : Thread Cert.KernelIdeal.nD Cert.KernelIdeal.τ).loc Cert.KernelIdeal.main_v52_1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v52_0) = v0 c
          ∧ r.2.mem ((c.tc : Thread Cert.KernelIdeal.nD Cert.KernelIdeal.τ).loc Cert.KernelIdeal.main_v52_1) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v90) = v0 c
          ∧ r.2.mem ((c.tc : Thread Cert.ReferenceIdeal.nD Cert.ReferenceIdeal.τ).loc Cert.ReferenceIdeal.main_v62_8) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def preserves_Kernel2_Kernel2Ideal : Prop :=
  True

def algebraic_Kernel2Ideal_Reference2Ideal [hKernel2Ideal : Cert.Kernel2Ideal.Facts] [hReference2Ideal : Cert.Reference2Ideal.Facts] [hPre_in_range : Cert.Pre_in_range.Facts] : Prop :=
  ∀ (m : (ℓ : Loc Cert.Kernel2Ideal.nD Cert.Kernel2Ideal.τ Cert.Kernel2Ideal.sig) → Buf (Elt Ideal) ℓ) (g : Dev Cert.Kernel2Ideal.nD → PrngReg)
    (m' : (ℓ : Loc Cert.Reference2Ideal.nD Cert.Reference2Ideal.τ Cert.Reference2Ideal.sig) → Buf (Elt Ideal) ℓ) (g' : Dev Cert.Reference2Ideal.nD → PrngReg), Pre_Kernel2Ideal m →
    (∀ c : Dev Cert.Kernel2Ideal.nD,
      m' ((c.tc : Thread Cert.Reference2Ideal.nD Cert.Reference2Ideal.τ).loc Cert.Reference2Ideal.main_arg0) = m ((c.tc : Thread Cert.Kernel2Ideal.nD Cert.Kernel2Ideal.τ).loc Cert.Kernel2Ideal.main_arg0)
      ∧ m' ((c.tc : Thread Cert.Reference2Ideal.nD Cert.Reference2Ideal.τ).loc Cert.Reference2Ideal.main_arg1) = m ((c.tc : Thread Cert.Kernel2Ideal.nD Cert.Kernel2Ideal.τ).loc Cert.Kernel2Ideal.main_arg1)
      ∧ m' ((c.tc : Thread Cert.Reference2Ideal.nD Cert.Reference2Ideal.τ).loc Cert.Reference2Ideal.main_arg2) = m ((c.tc : Thread Cert.Kernel2Ideal.nD Cert.Kernel2Ideal.τ).loc Cert.Kernel2Ideal.main_arg2)
      ∧ m' ((c.tc : Thread Cert.Reference2Ideal.nD Cert.Reference2Ideal.τ).loc Cert.Reference2Ideal.main_arg3) = m ((c.tc : Thread Cert.Kernel2Ideal.nD Cert.Kernel2Ideal.τ).loc Cert.Kernel2Ideal.main_arg3)
      ∧ m' ((c.tc : Thread Cert.Reference2Ideal.nD Cert.Reference2Ideal.τ).loc Cert.Reference2Ideal.main_arg4) = m ((c.tc : Thread Cert.Kernel2Ideal.nD Cert.Kernel2Ideal.τ).loc Cert.Kernel2Ideal.main_arg4)
      ∧ m' ((c.tc : Thread Cert.Reference2Ideal.nD Cert.Reference2Ideal.τ).loc Cert.Reference2Ideal.main_arg5) = m ((c.tc : Thread Cert.Kernel2Ideal.nD Cert.Kernel2Ideal.τ).loc Cert.Kernel2Ideal.main_arg5)) →
    ∃ (v0 : (c : Dev Cert.Kernel2Ideal.nD) → Buf (Elt Ideal) ((c.tc : Thread Cert.Kernel2Ideal.nD Cert.Kernel2Ideal.τ).loc Cert.Kernel2Ideal.main_v0)),
      θ_run (Cert.Kernel2Ideal.defs (F := Ideal)) (onTc (τ := Cert.Kernel2Ideal.τ) (Cert.Kernel2Ideal.main (F := Ideal))) ⟨m, fun _ => 0, g⟩ (fun r => ∀ c : Dev Cert.Kernel2Ideal.nD,
          r.2.mem ((c.tc : Thread Cert.Kernel2Ideal.nD Cert.Kernel2Ideal.τ).loc Cert.Kernel2Ideal.main_v0) = v0 c
          ∧ r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
          ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
          ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
          ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
          ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4)
          ∧ r.2.mem ((c.tc : Thread Cert.Kernel2Ideal.nD Cert.Kernel2Ideal.τ).loc Cert.Kernel2Ideal.main_arg5) = m ((c.tc : Thread Cert.Kernel2Ideal.nD Cert.Kernel2Ideal.τ).loc Cert.Kernel2Ideal.main_arg5))
      ∧ θ_run (Cert.Reference2Ideal.defs (F := Ideal)) (onTc (τ := Cert.Reference2Ideal.τ) (Cert.Reference2Ideal.main (F := Ideal))) ⟨m', fun _ => 0, g'⟩ (fun r => ∀ c : Dev Cert.Reference2Ideal.nD,
          r.2.mem ((c.tc : Thread Cert.Reference2Ideal.nD Cert.Reference2Ideal.τ).loc Cert.Reference2Ideal.main_v273) = v0 c
          ∧ r.2.mem ((c.tc : Thread Cert.Reference2Ideal.nD Cert.Reference2Ideal.τ).loc Cert.Reference2Ideal.main_arg0) = m' ((c.tc : Thread Cert.Reference2Ideal.nD Cert.Reference2Ideal.τ).loc Cert.Reference2Ideal.main_arg0)
          ∧ r.2.mem ((c.tc : Thread Cert.Reference2Ideal.nD Cert.Reference2Ideal.τ).loc Cert.Reference2Ideal.main_arg1) = m' ((c.tc : Thread Cert.Reference2Ideal.nD Cert.Reference2Ideal.τ).loc Cert.Reference2Ideal.main_arg1)
          ∧ r.2.mem ((c.tc : Thread Cert.Reference2Ideal.nD Cert.Reference2Ideal.τ).loc Cert.Reference2Ideal.main_arg2) = m' ((c.tc : Thread Cert.Reference2Ideal.nD Cert.Reference2Ideal.τ).loc Cert.Reference2Ideal.main_arg2)
          ∧ r.2.mem ((c.tc : Thread Cert.Reference2Ideal.nD Cert.Reference2Ideal.τ).loc Cert.Reference2Ideal.main_arg3) = m' ((c.tc : Thread Cert.Reference2Ideal.nD Cert.Reference2Ideal.τ).loc Cert.Reference2Ideal.main_arg3)
          ∧ r.2.mem ((c.tc : Thread Cert.Reference2Ideal.nD Cert.Reference2Ideal.τ).loc Cert.Reference2Ideal.main_arg4) = m' ((c.tc : Thread Cert.Reference2Ideal.nD Cert.Reference2Ideal.τ).loc Cert.Reference2Ideal.main_arg4)
          ∧ r.2.mem ((c.tc : Thread Cert.Reference2Ideal.nD Cert.Reference2Ideal.τ).loc Cert.Reference2Ideal.main_arg5) = m' ((c.tc : Thread Cert.Reference2Ideal.nD Cert.Reference2Ideal.τ).loc Cert.Reference2Ideal.main_arg5))

def preserves_Kernel3_Kernel3Ideal : Prop :=
  True

def algebraic_Kernel3Ideal_Reference3Ideal [hKernel3Ideal : Cert.Kernel3Ideal.Facts] [hReference3Ideal : Cert.Reference3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg)
    (m' : (ℓ : Loc Cert.Reference3Ideal.nD Cert.Reference3Ideal.τ Cert.Reference3Ideal.sig) → Buf (Elt Ideal) ℓ) (g' : Dev Cert.Reference3Ideal.nD → PrngReg), Pre_Kernel3Ideal m →
    (∀ c : Dev Cert.Kernel3Ideal.nD,
      m' ((c.tc : Thread Cert.Reference3Ideal.nD Cert.Reference3Ideal.τ).loc Cert.Reference3Ideal.main_arg0) = m ((c.tc : Thread Cert.Kernel3Ideal.nD Cert.Kernel3Ideal.τ).loc Cert.Kernel3Ideal.main_arg0)
      ∧ m' ((c.tc : Thread Cert.Reference3Ideal.nD Cert.Reference3Ideal.τ).loc Cert.Reference3Ideal.main_arg1) = m ((c.tc : Thread Cert.Kernel3Ideal.nD Cert.Kernel3Ideal.τ).loc Cert.Kernel3Ideal.main_arg1)
      ∧ m' ((c.tc : Thread Cert.Reference3Ideal.nD Cert.Reference3Ideal.τ).loc Cert.Reference3Ideal.main_arg2) = m ((c.tc : Thread Cert.Kernel3Ideal.nD Cert.Kernel3Ideal.τ).loc Cert.Kernel3Ideal.main_arg2)
      ∧ m' ((c.tc : Thread Cert.Reference3Ideal.nD Cert.Reference3Ideal.τ).loc Cert.Reference3Ideal.main_arg3) = m ((c.tc : Thread Cert.Kernel3Ideal.nD Cert.Kernel3Ideal.τ).loc Cert.Kernel3Ideal.main_arg3)
      ∧ m' ((c.tc : Thread Cert.Reference3Ideal.nD Cert.Reference3Ideal.τ).loc Cert.Reference3Ideal.main_arg4) = m ((c.tc : Thread Cert.Kernel3Ideal.nD Cert.Kernel3Ideal.τ).loc Cert.Kernel3Ideal.main_arg4)
      ∧ m' ((c.tc : Thread Cert.Reference3Ideal.nD Cert.Reference3Ideal.τ).loc Cert.Reference3Ideal.main_arg5) = m ((c.tc : Thread Cert.Kernel3Ideal.nD Cert.Kernel3Ideal.τ).loc Cert.Kernel3Ideal.main_arg5)
      ∧ m' ((c.tc : Thread Cert.Reference3Ideal.nD Cert.Reference3Ideal.τ).loc Cert.Reference3Ideal.main_arg6) = m ((c.tc : Thread Cert.Kernel3Ideal.nD Cert.Kernel3Ideal.τ).loc Cert.Kernel3Ideal.main_arg6)
      ∧ m' ((c.tc : Thread Cert.Reference3Ideal.nD Cert.Reference3Ideal.τ).loc Cert.Reference3Ideal.main_arg7) = m ((c.tc : Thread Cert.Kernel3Ideal.nD Cert.Kernel3Ideal.τ).loc Cert.Kernel3Ideal.main_arg7)
      ∧ m' ((c.tc : Thread Cert.Reference3Ideal.nD Cert.Reference3Ideal.τ).loc Cert.Reference3Ideal.main_arg8) = m ((c.tc : Thread Cert.Kernel3Ideal.nD Cert.Kernel3Ideal.τ).loc Cert.Kernel3Ideal.main_arg8)
      ∧ m' ((c.tc : Thread Cert.Reference3Ideal.nD Cert.Reference3Ideal.τ).loc Cert.Reference3Ideal.main_arg9) = m ((c.tc : Thread Cert.Kernel3Ideal.nD Cert.Kernel3Ideal.τ).loc Cert.Kernel3Ideal.main_arg9)
      ∧ m' ((c.tc : Thread Cert.Reference3Ideal.nD Cert.Reference3Ideal.τ).loc Cert.Reference3Ideal.main_arg10) = m ((c.tc : Thread Cert.Kernel3Ideal.nD Cert.Kernel3Ideal.τ).loc Cert.Kernel3Ideal.main_arg10)
      ∧ m' ((c.tc : Thread Cert.Reference3Ideal.nD Cert.Reference3Ideal.τ).loc Cert.Reference3Ideal.main_arg11) = m ((c.tc : Thread Cert.Kernel3Ideal.nD Cert.Kernel3Ideal.τ).loc Cert.Kernel3Ideal.main_arg11)
      ∧ m' ((c.tc : Thread Cert.Reference3Ideal.nD Cert.Reference3Ideal.τ).loc Cert.Reference3Ideal.main_arg12) = m ((c.tc : Thread Cert.Kernel3Ideal.nD Cert.Kernel3Ideal.τ).loc Cert.Kernel3Ideal.main_arg12)
      ∧ m' ((c.tc : Thread Cert.Reference3Ideal.nD Cert.Reference3Ideal.τ).loc Cert.Reference3Ideal.main_arg13) = m ((c.tc : Thread Cert.Kernel3Ideal.nD Cert.Kernel3Ideal.τ).loc Cert.Kernel3Ideal.main_arg13)
      ∧ m' ((c.tc : Thread Cert.Reference3Ideal.nD Cert.Reference3Ideal.τ).loc Cert.Reference3Ideal.main_arg14) = m ((c.tc : Thread Cert.Kernel3Ideal.nD Cert.Kernel3Ideal.τ).loc Cert.Kernel3Ideal.main_arg14)) →
    ∃ (v0 : (c : Dev Cert.Kernel3Ideal.nD) → Buf (Elt Ideal) ((c.tc : Thread Cert.Kernel3Ideal.nD Cert.Kernel3Ideal.τ).loc Cert.Kernel3Ideal.main_v17_0)) (v1 : (c : Dev Cert.Kernel3Ideal.nD) → Buf (Elt Ideal) ((c.tc : Thread Cert.Kernel3Ideal.nD Cert.Kernel3Ideal.τ).loc Cert.Kernel3Ideal.main_v17_1)),
      θ_run (Cert.Kernel3Ideal.defs (F := Ideal)) (onTc (τ := Cert.Kernel3Ideal.τ) (Cert.Kernel3Ideal.main (F := Ideal))) ⟨m, fun _ => 0, g⟩ (fun r => ∀ c : Dev Cert.Kernel3Ideal.nD,
          r.2.mem ((c.tc : Thread Cert.Kernel3Ideal.nD Cert.Kernel3Ideal.τ).loc Cert.Kernel3Ideal.main_v17_0) = v0 c
          ∧ r.2.mem ((c.tc : Thread Cert.Kernel3Ideal.nD Cert.Kernel3Ideal.τ).loc Cert.Kernel3Ideal.main_v17_1) = v1 c
          ∧ r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
          ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
          ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
          ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
          ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4)
          ∧ r.2.mem ((c.tc : Thread Cert.Kernel3Ideal.nD Cert.Kernel3Ideal.τ).loc Cert.Kernel3Ideal.main_arg5) = m ((c.tc : Thread Cert.Kernel3Ideal.nD Cert.Kernel3Ideal.τ).loc Cert.Kernel3Ideal.main_arg5)
          ∧ r.2.mem ((c.tc : Thread Cert.Kernel3Ideal.nD Cert.Kernel3Ideal.τ).loc Cert.Kernel3Ideal.main_arg6) = m ((c.tc : Thread Cert.Kernel3Ideal.nD Cert.Kernel3Ideal.τ).loc Cert.Kernel3Ideal.main_arg6)
          ∧ r.2.mem ((c.tc : Thread Cert.Kernel3Ideal.nD Cert.Kernel3Ideal.τ).loc Cert.Kernel3Ideal.main_arg7) = m ((c.tc : Thread Cert.Kernel3Ideal.nD Cert.Kernel3Ideal.τ).loc Cert.Kernel3Ideal.main_arg7)
          ∧ r.2.mem ((c.tc : Thread Cert.Kernel3Ideal.nD Cert.Kernel3Ideal.τ).loc Cert.Kernel3Ideal.main_arg8) = m ((c.tc : Thread Cert.Kernel3Ideal.nD Cert.Kernel3Ideal.τ).loc Cert.Kernel3Ideal.main_arg8)
          ∧ r.2.mem ((c.tc : Thread Cert.Kernel3Ideal.nD Cert.Kernel3Ideal.τ).loc Cert.Kernel3Ideal.main_arg9) = m ((c.tc : Thread Cert.Kernel3Ideal.nD Cert.Kernel3Ideal.τ).loc Cert.Kernel3Ideal.main_arg9)
          ∧ r.2.mem ((c.tc : Thread Cert.Kernel3Ideal.nD Cert.Kernel3Ideal.τ).loc Cert.Kernel3Ideal.main_arg10) = m ((c.tc : Thread Cert.Kernel3Ideal.nD Cert.Kernel3Ideal.τ).loc Cert.Kernel3Ideal.main_arg10)
          ∧ r.2.mem ((c.tc : Thread Cert.Kernel3Ideal.nD Cert.Kernel3Ideal.τ).loc Cert.Kernel3Ideal.main_arg11) = m ((c.tc : Thread Cert.Kernel3Ideal.nD Cert.Kernel3Ideal.τ).loc Cert.Kernel3Ideal.main_arg11)
          ∧ r.2.mem ((c.tc : Thread Cert.Kernel3Ideal.nD Cert.Kernel3Ideal.τ).loc Cert.Kernel3Ideal.main_arg12) = m ((c.tc : Thread Cert.Kernel3Ideal.nD Cert.Kernel3Ideal.τ).loc Cert.Kernel3Ideal.main_arg12)
          ∧ r.2.mem ((c.tc : Thread Cert.Kernel3Ideal.nD Cert.Kernel3Ideal.τ).loc Cert.Kernel3Ideal.main_arg13) = m ((c.tc : Thread Cert.Kernel3Ideal.nD Cert.Kernel3Ideal.τ).loc Cert.Kernel3Ideal.main_arg13)
          ∧ r.2.mem ((c.tc : Thread Cert.Kernel3Ideal.nD Cert.Kernel3Ideal.τ).loc Cert.Kernel3Ideal.main_arg14) = m ((c.tc : Thread Cert.Kernel3Ideal.nD Cert.Kernel3Ideal.τ).loc Cert.Kernel3Ideal.main_arg14))
      ∧ θ_run (Cert.Reference3Ideal.defs (F := Ideal)) (onTc (τ := Cert.Reference3Ideal.τ) (Cert.Reference3Ideal.main (F := Ideal))) ⟨m', fun _ => 0, g'⟩ (fun r => ∀ c : Dev Cert.Reference3Ideal.nD,
          r.2.mem ((c.tc : Thread Cert.Reference3Ideal.nD Cert.Reference3Ideal.τ).loc Cert.Reference3Ideal.main_v57) = v0 c
          ∧ r.2.mem ((c.tc : Thread Cert.Reference3Ideal.nD Cert.Reference3Ideal.τ).loc Cert.Reference3Ideal.main_v81) = v1 c
          ∧ r.2.mem ((c.tc : Thread Cert.Reference3Ideal.nD Cert.Reference3Ideal.τ).loc Cert.Reference3Ideal.main_arg0) = m' ((c.tc : Thread Cert.Reference3Ideal.nD Cert.Reference3Ideal.τ).loc Cert.Reference3Ideal.main_arg0)
          ∧ r.2.mem ((c.tc : Thread Cert.Reference3Ideal.nD Cert.Reference3Ideal.τ).loc Cert.Reference3Ideal.main_arg1) = m' ((c.tc : Thread Cert.Reference3Ideal.nD Cert.Reference3Ideal.τ).loc Cert.Reference3Ideal.main_arg1)
          ∧ r.2.mem ((c.tc : Thread Cert.Reference3Ideal.nD Cert.Reference3Ideal.τ).loc Cert.Reference3Ideal.main_arg2) = m' ((c.tc : Thread Cert.Reference3Ideal.nD Cert.Reference3Ideal.τ).loc Cert.Reference3Ideal.main_arg2)
          ∧ r.2.mem ((c.tc : Thread Cert.Reference3Ideal.nD Cert.Reference3Ideal.τ).loc Cert.Reference3Ideal.main_arg3) = m' ((c.tc : Thread Cert.Reference3Ideal.nD Cert.Reference3Ideal.τ).loc Cert.Reference3Ideal.main_arg3)
          ∧ r.2.mem ((c.tc : Thread Cert.Reference3Ideal.nD Cert.Reference3Ideal.τ).loc Cert.Reference3Ideal.main_arg4) = m' ((c.tc : Thread Cert.Reference3Ideal.nD Cert.Reference3Ideal.τ).loc Cert.Reference3Ideal.main_arg4)
          ∧ r.2.mem ((c.tc : Thread Cert.Reference3Ideal.nD Cert.Reference3Ideal.τ).loc Cert.Reference3Ideal.main_arg5) = m' ((c.tc : Thread Cert.Reference3Ideal.nD Cert.Reference3Ideal.τ).loc Cert.Reference3Ideal.main_arg5)
          ∧ r.2.mem ((c.tc : Thread Cert.Reference3Ideal.nD Cert.Reference3Ideal.τ).loc Cert.Reference3Ideal.main_arg6) = m' ((c.tc : Thread Cert.Reference3Ideal.nD Cert.Reference3Ideal.τ).loc Cert.Reference3Ideal.main_arg6)
          ∧ r.2.mem ((c.tc : Thread Cert.Reference3Ideal.nD Cert.Reference3Ideal.τ).loc Cert.Reference3Ideal.main_arg7) = m' ((c.tc : Thread Cert.Reference3Ideal.nD Cert.Reference3Ideal.τ).loc Cert.Reference3Ideal.main_arg7)
          ∧ r.2.mem ((c.tc : Thread Cert.Reference3Ideal.nD Cert.Reference3Ideal.τ).loc Cert.Reference3Ideal.main_arg8) = m' ((c.tc : Thread Cert.Reference3Ideal.nD Cert.Reference3Ideal.τ).loc Cert.Reference3Ideal.main_arg8)
          ∧ r.2.mem ((c.tc : Thread Cert.Reference3Ideal.nD Cert.Reference3Ideal.τ).loc Cert.Reference3Ideal.main_arg9) = m' ((c.tc : Thread Cert.Reference3Ideal.nD Cert.Reference3Ideal.τ).loc Cert.Reference3Ideal.main_arg9)
          ∧ r.2.mem ((c.tc : Thread Cert.Reference3Ideal.nD Cert.Reference3Ideal.τ).loc Cert.Reference3Ideal.main_arg10) = m' ((c.tc : Thread Cert.Reference3Ideal.nD Cert.Reference3Ideal.τ).loc Cert.Reference3Ideal.main_arg10)
          ∧ r.2.mem ((c.tc : Thread Cert.Reference3Ideal.nD Cert.Reference3Ideal.τ).loc Cert.Reference3Ideal.main_arg11) = m' ((c.tc : Thread Cert.Reference3Ideal.nD Cert.Reference3Ideal.τ).loc Cert.Reference3Ideal.main_arg11)
          ∧ r.2.mem ((c.tc : Thread Cert.Reference3Ideal.nD Cert.Reference3Ideal.τ).loc Cert.Reference3Ideal.main_arg12) = m' ((c.tc : Thread Cert.Reference3Ideal.nD Cert.Reference3Ideal.τ).loc Cert.Reference3Ideal.main_arg12)
          ∧ r.2.mem ((c.tc : Thread Cert.Reference3Ideal.nD Cert.Reference3Ideal.τ).loc Cert.Reference3Ideal.main_arg13) = m' ((c.tc : Thread Cert.Reference3Ideal.nD Cert.Reference3Ideal.τ).loc Cert.Reference3Ideal.main_arg13)
          ∧ r.2.mem ((c.tc : Thread Cert.Reference3Ideal.nD Cert.Reference3Ideal.τ).loc Cert.Reference3Ideal.main_arg14) = m' ((c.tc : Thread Cert.Reference3Ideal.nD Cert.Reference3Ideal.τ).loc Cert.Reference3Ideal.main_arg14))

def preserves_Kernel4_Kernel4Ideal : Prop :=
  True

def algebraic_Kernel4Ideal_Reference4Ideal [hKernel4Ideal : Cert.Kernel4Ideal.Facts] [hReference4Ideal : Cert.Reference4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg)
    (m' : (ℓ : Loc Cert.Reference4Ideal.nD Cert.Reference4Ideal.τ Cert.Reference4Ideal.sig) → Buf (Elt Ideal) ℓ) (g' : Dev Cert.Reference4Ideal.nD → PrngReg), Pre_Kernel4Ideal m →
    (∀ c : Dev Cert.Kernel4Ideal.nD,
      m' ((c.tc : Thread Cert.Reference4Ideal.nD Cert.Reference4Ideal.τ).loc Cert.Reference4Ideal.main_arg0) = m ((c.tc : Thread Cert.Kernel4Ideal.nD Cert.Kernel4Ideal.τ).loc Cert.Kernel4Ideal.main_arg0)
      ∧ m' ((c.tc : Thread Cert.Reference4Ideal.nD Cert.Reference4Ideal.τ).loc Cert.Reference4Ideal.main_arg1) = m ((c.tc : Thread Cert.Kernel4Ideal.nD Cert.Kernel4Ideal.τ).loc Cert.Kernel4Ideal.main_arg1)
      ∧ m' ((c.tc : Thread Cert.Reference4Ideal.nD Cert.Reference4Ideal.τ).loc Cert.Reference4Ideal.main_arg2) = m ((c.tc : Thread Cert.Kernel4Ideal.nD Cert.Kernel4Ideal.τ).loc Cert.Kernel4Ideal.main_arg2)
      ∧ m' ((c.tc : Thread Cert.Reference4Ideal.nD Cert.Reference4Ideal.τ).loc Cert.Reference4Ideal.main_arg3) = m ((c.tc : Thread Cert.Kernel4Ideal.nD Cert.Kernel4Ideal.τ).loc Cert.Kernel4Ideal.main_arg3)
      ∧ m' ((c.tc : Thread Cert.Reference4Ideal.nD Cert.Reference4Ideal.τ).loc Cert.Reference4Ideal.main_arg4) = m ((c.tc : Thread Cert.Kernel4Ideal.nD Cert.Kernel4Ideal.τ).loc Cert.Kernel4Ideal.main_arg4)
      ∧ m' ((c.tc : Thread Cert.Reference4Ideal.nD Cert.Reference4Ideal.τ).loc Cert.Reference4Ideal.main_arg5) = m ((c.tc : Thread Cert.Kernel4Ideal.nD Cert.Kernel4Ideal.τ).loc Cert.Kernel4Ideal.main_arg5)
      ∧ m' ((c.tc : Thread Cert.Reference4Ideal.nD Cert.Reference4Ideal.τ).loc Cert.Reference4Ideal.main_arg6) = m ((c.tc : Thread Cert.Kernel4Ideal.nD Cert.Kernel4Ideal.τ).loc Cert.Kernel4Ideal.main_arg6)
      ∧ m' ((c.tc : Thread Cert.Reference4Ideal.nD Cert.Reference4Ideal.τ).loc Cert.Reference4Ideal.main_arg7) = m ((c.tc : Thread Cert.Kernel4Ideal.nD Cert.Kernel4Ideal.τ).loc Cert.Kernel4Ideal.main_arg7)
      ∧ m' ((c.tc : Thread Cert.Reference4Ideal.nD Cert.Reference4Ideal.τ).loc Cert.Reference4Ideal.main_arg8) = m ((c.tc : Thread Cert.Kernel4Ideal.nD Cert.Kernel4Ideal.τ).loc Cert.Kernel4Ideal.main_arg8)) →
    ∃ (v0 : (c : Dev Cert.Kernel4Ideal.nD) → Buf (Elt Ideal) ((c.tc : Thread Cert.Kernel4Ideal.nD Cert.Kernel4Ideal.τ).loc Cert.Kernel4Ideal.main_v50_0)) (v1 : (c : Dev Cert.Kernel4Ideal.nD) → Buf (Elt Ideal) ((c.tc : Thread Cert.Kernel4Ideal.nD Cert.Kernel4Ideal.τ).loc Cert.Kernel4Ideal.main_v50_1)),
      θ_run (Cert.Kernel4Ideal.defs (F := Ideal)) (onTc (τ := Cert.Kernel4Ideal.τ) (Cert.Kernel4Ideal.main (F := Ideal))) ⟨m, fun _ => 0, g⟩ (fun r => ∀ c : Dev Cert.Kernel4Ideal.nD,
          r.2.mem ((c.tc : Thread Cert.Kernel4Ideal.nD Cert.Kernel4Ideal.τ).loc Cert.Kernel4Ideal.main_v50_0) = v0 c
          ∧ r.2.mem ((c.tc : Thread Cert.Kernel4Ideal.nD Cert.Kernel4Ideal.τ).loc Cert.Kernel4Ideal.main_v50_1) = v1 c
          ∧ r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
          ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
          ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2)
          ∧ r.2.mem ((c.tc : Thread Cert.Kernel4Ideal.nD Cert.Kernel4Ideal.τ).loc Cert.Kernel4Ideal.main_arg3) = m ((c.tc : Thread Cert.Kernel4Ideal.nD Cert.Kernel4Ideal.τ).loc Cert.Kernel4Ideal.main_arg3)
          ∧ r.2.mem ((c.tc : Thread Cert.Kernel4Ideal.nD Cert.Kernel4Ideal.τ).loc Cert.Kernel4Ideal.main_arg4) = m ((c.tc : Thread Cert.Kernel4Ideal.nD Cert.Kernel4Ideal.τ).loc Cert.Kernel4Ideal.main_arg4)
          ∧ r.2.mem ((c.tc : Thread Cert.Kernel4Ideal.nD Cert.Kernel4Ideal.τ).loc Cert.Kernel4Ideal.main_arg5) = m ((c.tc : Thread Cert.Kernel4Ideal.nD Cert.Kernel4Ideal.τ).loc Cert.Kernel4Ideal.main_arg5)
          ∧ r.2.mem ((c.tc : Thread Cert.Kernel4Ideal.nD Cert.Kernel4Ideal.τ).loc Cert.Kernel4Ideal.main_arg6) = m ((c.tc : Thread Cert.Kernel4Ideal.nD Cert.Kernel4Ideal.τ).loc Cert.Kernel4Ideal.main_arg6)
          ∧ r.2.mem ((c.tc : Thread Cert.Kernel4Ideal.nD Cert.Kernel4Ideal.τ).loc Cert.Kernel4Ideal.main_arg7) = m ((c.tc : Thread Cert.Kernel4Ideal.nD Cert.Kernel4Ideal.τ).loc Cert.Kernel4Ideal.main_arg7)
          ∧ r.2.mem ((c.tc : Thread Cert.Kernel4Ideal.nD Cert.Kernel4Ideal.τ).loc Cert.Kernel4Ideal.main_arg8) = m ((c.tc : Thread Cert.Kernel4Ideal.nD Cert.Kernel4Ideal.τ).loc Cert.Kernel4Ideal.main_arg8))
      ∧ θ_run (Cert.Reference4Ideal.defs (F := Ideal)) (onTc (τ := Cert.Reference4Ideal.τ) (Cert.Reference4Ideal.main (F := Ideal))) ⟨m', fun _ => 0, g'⟩ (fun r => ∀ c : Dev Cert.Reference4Ideal.nD,
          r.2.mem ((c.tc : Thread Cert.Reference4Ideal.nD Cert.Reference4Ideal.τ).loc Cert.Reference4Ideal.main_v153) = v0 c
          ∧ r.2.mem ((c.tc : Thread Cert.Reference4Ideal.nD Cert.Reference4Ideal.τ).loc Cert.Reference4Ideal.main_v109) = v1 c
          ∧ r.2.mem ((c.tc : Thread Cert.Reference4Ideal.nD Cert.Reference4Ideal.τ).loc Cert.Reference4Ideal.main_arg0) = m' ((c.tc : Thread Cert.Reference4Ideal.nD Cert.Reference4Ideal.τ).loc Cert.Reference4Ideal.main_arg0)
          ∧ r.2.mem ((c.tc : Thread Cert.Reference4Ideal.nD Cert.Reference4Ideal.τ).loc Cert.Reference4Ideal.main_arg1) = m' ((c.tc : Thread Cert.Reference4Ideal.nD Cert.Reference4Ideal.τ).loc Cert.Reference4Ideal.main_arg1)
          ∧ r.2.mem ((c.tc : Thread Cert.Reference4Ideal.nD Cert.Reference4Ideal.τ).loc Cert.Reference4Ideal.main_arg2) = m' ((c.tc : Thread Cert.Reference4Ideal.nD Cert.Reference4Ideal.τ).loc Cert.Reference4Ideal.main_arg2)
          ∧ r.2.mem ((c.tc : Thread Cert.Reference4Ideal.nD Cert.Reference4Ideal.τ).loc Cert.Reference4Ideal.main_arg3) = m' ((c.tc : Thread Cert.Reference4Ideal.nD Cert.Reference4Ideal.τ).loc Cert.Reference4Ideal.main_arg3)
          ∧ r.2.mem ((c.tc : Thread Cert.Reference4Ideal.nD Cert.Reference4Ideal.τ).loc Cert.Reference4Ideal.main_arg4) = m' ((c.tc : Thread Cert.Reference4Ideal.nD Cert.Reference4Ideal.τ).loc Cert.Reference4Ideal.main_arg4)
          ∧ r.2.mem ((c.tc : Thread Cert.Reference4Ideal.nD Cert.Reference4Ideal.τ).loc Cert.Reference4Ideal.main_arg5) = m' ((c.tc : Thread Cert.Reference4Ideal.nD Cert.Reference4Ideal.τ).loc Cert.Reference4Ideal.main_arg5)
          ∧ r.2.mem ((c.tc : Thread Cert.Reference4Ideal.nD Cert.Reference4Ideal.τ).loc Cert.Reference4Ideal.main_arg6) = m' ((c.tc : Thread Cert.Reference4Ideal.nD Cert.Reference4Ideal.τ).loc Cert.Reference4Ideal.main_arg6)
          ∧ r.2.mem ((c.tc : Thread Cert.Reference4Ideal.nD Cert.Reference4Ideal.τ).loc Cert.Reference4Ideal.main_arg7) = m' ((c.tc : Thread Cert.Reference4Ideal.nD Cert.Reference4Ideal.τ).loc Cert.Reference4Ideal.main_arg7)
          ∧ r.2.mem ((c.tc : Thread Cert.Reference4Ideal.nD Cert.Reference4Ideal.τ).loc Cert.Reference4Ideal.main_arg8) = m' ((c.tc : Thread Cert.Reference4Ideal.nD Cert.Reference4Ideal.τ).loc Cert.Reference4Ideal.main_arg8))

def preserves_Kernel5_Kernel5Ideal : Prop :=
  True

def algebraic_Kernel5Ideal_Reference5Ideal [hKernel5Ideal : Cert.Kernel5Ideal.Facts] [hReference5Ideal : Cert.Reference5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg)
    (m' : (ℓ : Loc Cert.Reference5Ideal.nD Cert.Reference5Ideal.τ Cert.Reference5Ideal.sig) → Buf (Elt Ideal) ℓ) (g' : Dev Cert.Reference5Ideal.nD → PrngReg), Pre_Kernel5Ideal m →
    (∀ c : Dev Cert.Kernel5Ideal.nD,
      m' ((c.tc : Thread Cert.Reference5Ideal.nD Cert.Reference5Ideal.τ).loc Cert.Reference5Ideal.main_arg0) = m ((c.tc : Thread Cert.Kernel5Ideal.nD Cert.Kernel5Ideal.τ).loc Cert.Kernel5Ideal.main_arg0)
      ∧ m' ((c.tc : Thread Cert.Reference5Ideal.nD Cert.Reference5Ideal.τ).loc Cert.Reference5Ideal.main_arg1) = m ((c.tc : Thread Cert.Kernel5Ideal.nD Cert.Kernel5Ideal.τ).loc Cert.Kernel5Ideal.main_arg1)
      ∧ m' ((c.tc : Thread Cert.Reference5Ideal.nD Cert.Reference5Ideal.τ).loc Cert.Reference5Ideal.main_arg2) = m ((c.tc : Thread Cert.Kernel5Ideal.nD Cert.Kernel5Ideal.τ).loc Cert.Kernel5Ideal.main_arg2)
      ∧ m' ((c.tc : Thread Cert.Reference5Ideal.nD Cert.Reference5Ideal.τ).loc Cert.Reference5Ideal.main_arg3) = m ((c.tc : Thread Cert.Kernel5Ideal.nD Cert.Kernel5Ideal.τ).loc Cert.Kernel5Ideal.main_arg3)
      ∧ m' ((c.tc : Thread Cert.Reference5Ideal.nD Cert.Reference5Ideal.τ).loc Cert.Reference5Ideal.main_arg4) = m ((c.tc : Thread Cert.Kernel5Ideal.nD Cert.Kernel5Ideal.τ).loc Cert.Kernel5Ideal.main_arg4)
      ∧ m' ((c.tc : Thread Cert.Reference5Ideal.nD Cert.Reference5Ideal.τ).loc Cert.Reference5Ideal.main_arg5) = m ((c.tc : Thread Cert.Kernel5Ideal.nD Cert.Kernel5Ideal.τ).loc Cert.Kernel5Ideal.main_arg5)
      ∧ m' ((c.tc : Thread Cert.Reference5Ideal.nD Cert.Reference5Ideal.τ).loc Cert.Reference5Ideal.main_arg6) = m ((c.tc : Thread Cert.Kernel5Ideal.nD Cert.Kernel5Ideal.τ).loc Cert.Kernel5Ideal.main_arg6)
      ∧ m' ((c.tc : Thread Cert.Reference5Ideal.nD Cert.Reference5Ideal.τ).loc Cert.Reference5Ideal.main_arg7) = m ((c.tc : Thread Cert.Kernel5Ideal.nD Cert.Kernel5Ideal.τ).loc Cert.Kernel5Ideal.main_arg7)
      ∧ m' ((c.tc : Thread Cert.Reference5Ideal.nD Cert.Reference5Ideal.τ).loc Cert.Reference5Ideal.main_arg8) = m ((c.tc : Thread Cert.Kernel5Ideal.nD Cert.Kernel5Ideal.τ).loc Cert.Kernel5Ideal.main_arg8)) →
    ∃ (v0 : (c : Dev Cert.Kernel5Ideal.nD) → Buf (Elt Ideal) ((c.tc : Thread Cert.Kernel5Ideal.nD Cert.Kernel5Ideal.τ).loc Cert.Kernel5Ideal.main_v63_0)) (v1 : (c : Dev Cert.Kernel5Ideal.nD) → Buf (Elt Ideal) ((c.tc : Thread Cert.Kernel5Ideal.nD Cert.Kernel5Ideal.τ).loc Cert.Kernel5Ideal.main_v63_1)),
      θ_run (Cert.Kernel5Ideal.defs (F := Ideal)) (onTc (τ := Cert.Kernel5Ideal.τ) (Cert.Kernel5Ideal.main (F := Ideal))) ⟨m, fun _ => 0, g⟩ (fun r => ∀ c : Dev Cert.Kernel5Ideal.nD,
          r.2.mem ((c.tc : Thread Cert.Kernel5Ideal.nD Cert.Kernel5Ideal.τ).loc Cert.Kernel5Ideal.main_v63_0) = v0 c
          ∧ r.2.mem ((c.tc : Thread Cert.Kernel5Ideal.nD Cert.Kernel5Ideal.τ).loc Cert.Kernel5Ideal.main_v63_1) = v1 c
          ∧ r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
          ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
          ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2)
          ∧ r.2.mem ((c.tc : Thread Cert.Kernel5Ideal.nD Cert.Kernel5Ideal.τ).loc Cert.Kernel5Ideal.main_arg3) = m ((c.tc : Thread Cert.Kernel5Ideal.nD Cert.Kernel5Ideal.τ).loc Cert.Kernel5Ideal.main_arg3)
          ∧ r.2.mem ((c.tc : Thread Cert.Kernel5Ideal.nD Cert.Kernel5Ideal.τ).loc Cert.Kernel5Ideal.main_arg4) = m ((c.tc : Thread Cert.Kernel5Ideal.nD Cert.Kernel5Ideal.τ).loc Cert.Kernel5Ideal.main_arg4)
          ∧ r.2.mem ((c.tc : Thread Cert.Kernel5Ideal.nD Cert.Kernel5Ideal.τ).loc Cert.Kernel5Ideal.main_arg5) = m ((c.tc : Thread Cert.Kernel5Ideal.nD Cert.Kernel5Ideal.τ).loc Cert.Kernel5Ideal.main_arg5)
          ∧ r.2.mem ((c.tc : Thread Cert.Kernel5Ideal.nD Cert.Kernel5Ideal.τ).loc Cert.Kernel5Ideal.main_arg6) = m ((c.tc : Thread Cert.Kernel5Ideal.nD Cert.Kernel5Ideal.τ).loc Cert.Kernel5Ideal.main_arg6)
          ∧ r.2.mem ((c.tc : Thread Cert.Kernel5Ideal.nD Cert.Kernel5Ideal.τ).loc Cert.Kernel5Ideal.main_arg7) = m ((c.tc : Thread Cert.Kernel5Ideal.nD Cert.Kernel5Ideal.τ).loc Cert.Kernel5Ideal.main_arg7)
          ∧ r.2.mem ((c.tc : Thread Cert.Kernel5Ideal.nD Cert.Kernel5Ideal.τ).loc Cert.Kernel5Ideal.main_arg8) = m ((c.tc : Thread Cert.Kernel5Ideal.nD Cert.Kernel5Ideal.τ).loc Cert.Kernel5Ideal.main_arg8))
      ∧ θ_run (Cert.Reference5Ideal.defs (F := Ideal)) (onTc (τ := Cert.Reference5Ideal.τ) (Cert.Reference5Ideal.main (F := Ideal))) ⟨m', fun _ => 0, g'⟩ (fun r => ∀ c : Dev Cert.Reference5Ideal.nD,
          r.2.mem ((c.tc : Thread Cert.Reference5Ideal.nD Cert.Reference5Ideal.τ).loc Cert.Reference5Ideal.main_v156) = v0 c
          ∧ r.2.mem ((c.tc : Thread Cert.Reference5Ideal.nD Cert.Reference5Ideal.τ).loc Cert.Reference5Ideal.main_v157) = v1 c
          ∧ r.2.mem ((c.tc : Thread Cert.Reference5Ideal.nD Cert.Reference5Ideal.τ).loc Cert.Reference5Ideal.main_arg0) = m' ((c.tc : Thread Cert.Reference5Ideal.nD Cert.Reference5Ideal.τ).loc Cert.Reference5Ideal.main_arg0)
          ∧ r.2.mem ((c.tc : Thread Cert.Reference5Ideal.nD Cert.Reference5Ideal.τ).loc Cert.Reference5Ideal.main_arg1) = m' ((c.tc : Thread Cert.Reference5Ideal.nD Cert.Reference5Ideal.τ).loc Cert.Reference5Ideal.main_arg1)
          ∧ r.2.mem ((c.tc : Thread Cert.Reference5Ideal.nD Cert.Reference5Ideal.τ).loc Cert.Reference5Ideal.main_arg2) = m' ((c.tc : Thread Cert.Reference5Ideal.nD Cert.Reference5Ideal.τ).loc Cert.Reference5Ideal.main_arg2)
          ∧ r.2.mem ((c.tc : Thread Cert.Reference5Ideal.nD Cert.Reference5Ideal.τ).loc Cert.Reference5Ideal.main_arg3) = m' ((c.tc : Thread Cert.Reference5Ideal.nD Cert.Reference5Ideal.τ).loc Cert.Reference5Ideal.main_arg3)
          ∧ r.2.mem ((c.tc : Thread Cert.Reference5Ideal.nD Cert.Reference5Ideal.τ).loc Cert.Reference5Ideal.main_arg4) = m' ((c.tc : Thread Cert.Reference5Ideal.nD Cert.Reference5Ideal.τ).loc Cert.Reference5Ideal.main_arg4)
          ∧ r.2.mem ((c.tc : Thread Cert.Reference5Ideal.nD Cert.Reference5Ideal.τ).loc Cert.Reference5Ideal.main_arg5) = m' ((c.tc : Thread Cert.Reference5Ideal.nD Cert.Reference5Ideal.τ).loc Cert.Reference5Ideal.main_arg5)
          ∧ r.2.mem ((c.tc : Thread Cert.Reference5Ideal.nD Cert.Reference5Ideal.τ).loc Cert.Reference5Ideal.main_arg6) = m' ((c.tc : Thread Cert.Reference5Ideal.nD Cert.Reference5Ideal.τ).loc Cert.Reference5Ideal.main_arg6)
          ∧ r.2.mem ((c.tc : Thread Cert.Reference5Ideal.nD Cert.Reference5Ideal.τ).loc Cert.Reference5Ideal.main_arg7) = m' ((c.tc : Thread Cert.Reference5Ideal.nD Cert.Reference5Ideal.τ).loc Cert.Reference5Ideal.main_arg7)
          ∧ r.2.mem ((c.tc : Thread Cert.Reference5Ideal.nD Cert.Reference5Ideal.τ).loc Cert.Reference5Ideal.main_arg8) = m' ((c.tc : Thread Cert.Reference5Ideal.nD Cert.Reference5Ideal.τ).loc Cert.Reference5Ideal.main_arg8))

def preserves_Kernel6_Kernel6Ideal : Prop :=
  True

def algebraic_Kernel6Ideal_Reference6Ideal [hKernel6Ideal : Cert.Kernel6Ideal.Facts] [hReference6Ideal : Cert.Reference6Ideal.Facts] : Prop :=
  ∀ (m : (ℓ : Loc Cert.Kernel6Ideal.nD Cert.Kernel6Ideal.τ Cert.Kernel6Ideal.sig) → Buf (Elt Ideal) ℓ) (g : Dev Cert.Kernel6Ideal.nD → PrngReg)
    (m' : (ℓ : Loc Cert.Reference6Ideal.nD Cert.Reference6Ideal.τ Cert.Reference6Ideal.sig) → Buf (Elt Ideal) ℓ) (g' : Dev Cert.Reference6Ideal.nD → PrngReg), Pre_Kernel6Ideal m →
    (∀ c : Dev Cert.Kernel6Ideal.nD,
      m' ((c.tc : Thread Cert.Reference6Ideal.nD Cert.Reference6Ideal.τ).loc Cert.Reference6Ideal.main_arg0) = m ((c.tc : Thread Cert.Kernel6Ideal.nD Cert.Kernel6Ideal.τ).loc Cert.Kernel6Ideal.main_arg0)
      ∧ m' ((c.tc : Thread Cert.Reference6Ideal.nD Cert.Reference6Ideal.τ).loc Cert.Reference6Ideal.main_arg1) = m ((c.tc : Thread Cert.Kernel6Ideal.nD Cert.Kernel6Ideal.τ).loc Cert.Kernel6Ideal.main_arg1)
      ∧ m' ((c.tc : Thread Cert.Reference6Ideal.nD Cert.Reference6Ideal.τ).loc Cert.Reference6Ideal.main_arg2) = m ((c.tc : Thread Cert.Kernel6Ideal.nD Cert.Kernel6Ideal.τ).loc Cert.Kernel6Ideal.main_arg2)
      ∧ m' ((c.tc : Thread Cert.Reference6Ideal.nD Cert.Reference6Ideal.τ).loc Cert.Reference6Ideal.main_arg3) = m ((c.tc : Thread Cert.Kernel6Ideal.nD Cert.Kernel6Ideal.τ).loc Cert.Kernel6Ideal.main_arg3)) →
    ∃ (v0 : (c : Dev Cert.Kernel6Ideal.nD) → Buf (Elt Ideal) ((c.tc : Thread Cert.Kernel6Ideal.nD Cert.Kernel6Ideal.τ).loc Cert.Kernel6Ideal.main_v3)),
      θ_run (Cert.Kernel6Ideal.defs (F := Ideal)) (onTc (τ := Cert.Kernel6Ideal.τ) (Cert.Kernel6Ideal.main (F := Ideal))) ⟨m, fun _ => 0, g⟩ (fun r => ∀ c : Dev Cert.Kernel6Ideal.nD,
          r.2.mem ((c.tc : Thread Cert.Kernel6Ideal.nD Cert.Kernel6Ideal.τ).loc Cert.Kernel6Ideal.main_v3) = v0 c
          ∧ r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
          ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1)
          ∧ r.2.mem ((c.tc : Thread Cert.Kernel6Ideal.nD Cert.Kernel6Ideal.τ).loc Cert.Kernel6Ideal.main_arg2) = m ((c.tc : Thread Cert.Kernel6Ideal.nD Cert.Kernel6Ideal.τ).loc Cert.Kernel6Ideal.main_arg2)
          ∧ r.2.mem ((c.tc : Thread Cert.Kernel6Ideal.nD Cert.Kernel6Ideal.τ).loc Cert.Kernel6Ideal.main_arg3) = m ((c.tc : Thread Cert.Kernel6Ideal.nD Cert.Kernel6Ideal.τ).loc Cert.Kernel6Ideal.main_arg3))
      ∧ θ_run (Cert.Reference6Ideal.defs (F := Ideal)) (onTc (τ := Cert.Reference6Ideal.τ) (Cert.Reference6Ideal.main (F := Ideal))) ⟨m', fun _ => 0, g'⟩ (fun r => ∀ c : Dev Cert.Reference6Ideal.nD,
          r.2.mem ((c.tc : Thread Cert.Reference6Ideal.nD Cert.Reference6Ideal.τ).loc Cert.Reference6Ideal.main_v42) = v0 c
          ∧ r.2.mem ((c.tc : Thread Cert.Reference6Ideal.nD Cert.Reference6Ideal.τ).loc Cert.Reference6Ideal.main_arg0) = m' ((c.tc : Thread Cert.Reference6Ideal.nD Cert.Reference6Ideal.τ).loc Cert.Reference6Ideal.main_arg0)
          ∧ r.2.mem ((c.tc : Thread Cert.Reference6Ideal.nD Cert.Reference6Ideal.τ).loc Cert.Reference6Ideal.main_arg1) = m' ((c.tc : Thread Cert.Reference6Ideal.nD Cert.Reference6Ideal.τ).loc Cert.Reference6Ideal.main_arg1)
          ∧ r.2.mem ((c.tc : Thread Cert.Reference6Ideal.nD Cert.Reference6Ideal.τ).loc Cert.Reference6Ideal.main_arg2) = m' ((c.tc : Thread Cert.Reference6Ideal.nD Cert.Reference6Ideal.τ).loc Cert.Reference6Ideal.main_arg2)
          ∧ r.2.mem ((c.tc : Thread Cert.Reference6Ideal.nD Cert.Reference6Ideal.τ).loc Cert.Reference6Ideal.main_arg3) = m' ((c.tc : Thread Cert.Reference6Ideal.nD Cert.Reference6Ideal.τ).loc Cert.Reference6Ideal.main_arg3))

def Claim : Prop :=
  ∃ (hKernel : Cert.Kernel.Facts) (hKernelIdeal : Cert.KernelIdeal.Facts) (hReferenceIdeal : Cert.ReferenceIdeal.Facts) (hKernel2 : Cert.Kernel2.Facts) (hKernel2Ideal : Cert.Kernel2Ideal.Facts) (hReference2Ideal : Cert.Reference2Ideal.Facts) (hKernel3 : Cert.Kernel3.Facts) (hKernel3Ideal : Cert.Kernel3Ideal.Facts) (hReference3Ideal : Cert.Reference3Ideal.Facts) (hKernel4 : Cert.Kernel4.Facts) (hKernel4Ideal : Cert.Kernel4Ideal.Facts) (hReference4Ideal : Cert.Reference4Ideal.Facts) (hKernel5 : Cert.Kernel5.Facts) (hKernel5Ideal : Cert.Kernel5Ideal.Facts) (hReference5Ideal : Cert.Reference5Ideal.Facts) (hKernel6 : Cert.Kernel6.Facts) (hKernel6Ideal : Cert.Kernel6Ideal.Facts) (hReference6Ideal : Cert.Reference6Ideal.Facts) (hPre_in_range : Cert.Pre_in_range.Facts),
    quiescent_Kernel (hKernel := hKernel)
    ∧ quiescent_KernelIdeal (hKernelIdeal := hKernelIdeal)
    ∧ quiescent_ReferenceIdeal (hReferenceIdeal := hReferenceIdeal)
    ∧ quiescent_Kernel2 (hKernel2 := hKernel2) (hPre_in_range := hPre_in_range)
    ∧ quiescent_Kernel2Ideal (hKernel2Ideal := hKernel2Ideal) (hPre_in_range := hPre_in_range)
    ∧ quiescent_Reference2Ideal (hReference2Ideal := hReference2Ideal)
    ∧ quiescent_Reference2Ideal_pre_in_range (hReference2Ideal := hReference2Ideal) (hPre_in_range := hPre_in_range)
    ∧ quiescent_Kernel3 (hKernel3 := hKernel3)
    ∧ quiescent_Kernel3Ideal (hKernel3Ideal := hKernel3Ideal)
    ∧ quiescent_Reference3Ideal (hReference3Ideal := hReference3Ideal)
    ∧ quiescent_Kernel4 (hKernel4 := hKernel4)
    ∧ quiescent_Kernel4Ideal (hKernel4Ideal := hKernel4Ideal)
    ∧ quiescent_Reference4Ideal (hReference4Ideal := hReference4Ideal)
    ∧ quiescent_Kernel5 (hKernel5 := hKernel5)
    ∧ quiescent_Kernel5Ideal (hKernel5Ideal := hKernel5Ideal)
    ∧ quiescent_Reference5Ideal (hReference5Ideal := hReference5Ideal)
    ∧ quiescent_Kernel6 (hKernel6 := hKernel6)
    ∧ quiescent_Kernel6Ideal (hKernel6Ideal := hKernel6Ideal)
    ∧ quiescent_Reference6Ideal (hReference6Ideal := hReference6Ideal)
    ∧ preserves_Kernel_KernelIdeal
    ∧ algebraic_KernelIdeal_ReferenceIdeal (hKernelIdeal := hKernelIdeal) (hReferenceIdeal := hReferenceIdeal)
    ∧ preserves_Kernel2_Kernel2Ideal
    ∧ algebraic_Kernel2Ideal_Reference2Ideal (hKernel2Ideal := hKernel2Ideal) (hReference2Ideal := hReference2Ideal) (hPre_in_range := hPre_in_range)
    ∧ preserves_Kernel3_Kernel3Ideal
    ∧ algebraic_Kernel3Ideal_Reference3Ideal (hKernel3Ideal := hKernel3Ideal) (hReference3Ideal := hReference3Ideal)
    ∧ preserves_Kernel4_Kernel4Ideal
    ∧ algebraic_Kernel4Ideal_Reference4Ideal (hKernel4Ideal := hKernel4Ideal) (hReference4Ideal := hReference4Ideal)
    ∧ preserves_Kernel5_Kernel5Ideal
    ∧ algebraic_Kernel5Ideal_Reference5Ideal (hKernel5Ideal := hKernel5Ideal) (hReference5Ideal := hReference5Ideal)
    ∧ preserves_Kernel6_Kernel6Ideal
    ∧ algebraic_Kernel6Ideal_Reference6Ideal (hKernel6Ideal := hKernel6Ideal) (hReference6Ideal := hReference6Ideal)
-- ==== Pre_in_range.lean ====
abbrev S174 : Shape := ⟨1, ![174]⟩
abbrev S1 : Shape := ⟨1, ![1]⟩
abbrev S89088x1024 : Shape := ⟨2, ![89088, 1024]⟩
abbrev S4x16x1024x512 : Shape := ⟨4, ![4, 16, 1024, 512]⟩
abbrev S4x16x512x1024 : Shape := ⟨4, ![4, 16, 512, 1024]⟩
abbrev S_ : Shape := ⟨0, ![]⟩

class Facts : Prop where
  bcast_S_S174 : S_.BroadcastsInDim S174 (![] : Fin 0 → Fin S174.rank)
  bcast_S_S1 : S_.BroadcastsInDim S1 (![] : Fin 0 → Fin S1.rank)

variable [Facts]

def fn {F : FTy → Type} [FloatOps F] (main_arg0 : IVec S174 32) (main_arg1 : IVec S1 32) (main_arg2 : FVec F S89088x1024 .bf16) (main_arg3 : FVec F S4x16x1024x512 .f32) (main_arg4 : FVec F S4x16x1024x512 .f32) (main_arg5 : FVec F S4x16x512x1024 .f32) : IVec S174 1 × IVec S1 1 :=
  let main_c : IVec S_ 32 := constantI S_ 32 0#32
  let main_v0 : IVec S174 32 := broadcastInDim S174 ![] bcast_S_S174 main_c
  let main_v1 : IVec S174 1 := cmpi .sge main_arg0 main_v0
  let main_c_0 : IVec S_ 32 := constantI S_ 32 16#32
  let main_v2 : IVec S174 32 := broadcastInDim S174 ![] bcast_S_S174 main_c_0
  let main_v3 : IVec S174 1 := cmpi .slt main_arg0 main_v2
  let main_v4 : IVec S174 1 := andi main_v1 main_v3
  let main_c_1 : IVec S_ 32 := constantI S_ 32 1#32
  let main_v5 : IVec S1 32 := broadcastInDim S1 ![] bcast_S_S1 main_c_1
  let main_v6 : IVec S1 1 := cmpi .sge main_arg1 main_v5
  let main_c_2 : IVec S_ 32 := constantI S_ 32 174#32
  let main_v7 : IVec S1 32 := broadcastInDim S1 ![] bcast_S_S1 main_c_2
  let main_v8 : IVec S1 1 := cmpi .sle main_arg1 main_v7
  let main_v9 : IVec S1 1 := andi main_v6 main_v8
  (main_v4, main_v9)
-- ==== Kernel.lean ====
abbrev S16x16x5632 : Shape := ⟨3, ![16, 16, 5632]⟩
abbrev S16x4x128x128 : Shape := ⟨4, ![16, 4, 128, 128]⟩
abbrev S512 : Shape := ⟨1, ![512]⟩
abbrev S1x512 : Shape := ⟨2, ![1, 512]⟩
abbrev S4 : Shape := ⟨1, ![4]⟩
abbrev S_ : Shape := ⟨0, ![]⟩
abbrev S16 : Shape := ⟨1, ![16]⟩
abbrev S16x1 : Shape := ⟨2, ![16, 1]⟩
abbrev S1x16 : Shape := ⟨2, ![1, 16]⟩
abbrev S16x16 : Shape := ⟨2, ![16, 16]⟩
abbrev S4x1x1 : Shape := ⟨3, ![4, 1, 1]⟩
abbrev S1x16x16 : Shape := ⟨3, ![1, 16, 16]⟩
abbrev S4x16x16 : Shape := ⟨3, ![4, 16, 16]⟩
abbrev S4x1 : Shape := ⟨2, ![4, 1]⟩
abbrev S4x16 : Shape := ⟨2, ![4, 16]⟩
abbrev S4x16x1 : Shape := ⟨3, ![4, 16, 1]⟩
abbrev S4x16x128 : Shape := ⟨3, ![4, 16, 128]⟩
abbrev S4x1x128 : Shape := ⟨3, ![4, 1, 128]⟩
abbrev S16x16x512 : Shape := ⟨3, ![16, 16, 512]⟩
abbrev S4x16x512 : Shape := ⟨3, ![4, 16, 512]⟩
abbrev S4x4x128x128 : Shape := ⟨4, ![4, 4, 128, 128]⟩
abbrev S1x16x128 : Shape := ⟨3, ![1, 16, 128]⟩
abbrev S16x128 : Shape := ⟨2, ![16, 128]⟩
abbrev S1x1x128x128 : Shape := ⟨4, ![1, 1, 128, 128]⟩
abbrev S128x128 : Shape := ⟨2, ![128, 128]⟩
abbrev S1x1x128 : Shape := ⟨3, ![1, 1, 128]⟩
abbrev S1x128 : Shape := ⟨2, ![1, 128]⟩

abbrev nBuf : Space → Nat
  | .hbm => 69
  | .vmem => 20
  | .smem => 0
  | _ => 0

abbrev bufTy : (tb : Table) → Fin (tcTables nBuf tb) → BufTy
  | .hbm, ⟨0, _⟩ => ⟨S16x16x5632, .bf16⟩
  | .hbm, ⟨1, _⟩ => ⟨S16x4x128x128, .f32⟩
  | .hbm, ⟨2, _⟩ => ⟨S512, .f32⟩
  | .hbm, ⟨3, _⟩ => ⟨S1x512, .f32⟩
  | .hbm, ⟨4, _⟩ => ⟨S4, .f32⟩
  | .hbm, ⟨5, _⟩ => ⟨S_, .f32⟩
  | .hbm, ⟨6, _⟩ => ⟨S4, .f32⟩
  | .hbm, ⟨7, _⟩ => ⟨S4, .f32⟩
  | .hbm, ⟨8, _⟩ => ⟨S_, .f32⟩
  | .hbm, ⟨9, _⟩ => ⟨S4, .f32⟩
  | .hbm, ⟨10, _⟩ => ⟨S4, .f32⟩
  | .hbm, ⟨11, _⟩ => ⟨S4, .f32⟩
  | .hbm, ⟨12, _⟩ => ⟨S_, .f32⟩
  | .hbm, ⟨13, _⟩ => ⟨S4, .f32⟩
  | .hbm, ⟨14, _⟩ => ⟨S4, .f32⟩
  | .hbm, ⟨15, _⟩ => ⟨S4, .f32⟩
  | .hbm, ⟨16, _⟩ => ⟨S16, .f32⟩
  | .hbm, ⟨17, _⟩ => ⟨S16x1, .f32⟩
  | .hbm, ⟨18, _⟩ => ⟨S1x16, .f32⟩
  | .hbm, ⟨19, _⟩ => ⟨S16x16, .f32⟩
  | .hbm, ⟨20, _⟩ => ⟨S16x16, .f32⟩
  | .hbm, ⟨21, _⟩ => ⟨S16x16, .f32⟩
  | .hbm, ⟨22, _⟩ => ⟨S_, .f32⟩
  | .hbm, ⟨23, _⟩ => ⟨S16x16, .f32⟩
  | .hbm, ⟨24, _⟩ => ⟨S16x16, .i1⟩
  | .hbm, ⟨25, _⟩ => ⟨S4x1x1, .f32⟩
  | .hbm, ⟨26, _⟩ => ⟨S_, .f32⟩
  | .hbm, ⟨27, _⟩ => ⟨S16x16, .f32⟩
  | .hbm, ⟨28, _⟩ => ⟨S16x16, .f32⟩
  | .hbm, ⟨29, _⟩ => ⟨S1x16x16, .f32⟩
  | .hbm, ⟨30, _⟩ => ⟨S4x16x16, .f32⟩
  | .hbm, ⟨31, _⟩ => ⟨S4x16x16, .f32⟩
  | .hbm, ⟨32, _⟩ => ⟨S4x16x16, .f32⟩
  | .hbm, ⟨33, _⟩ => ⟨S4x16x16, .f32⟩
  | .hbm, ⟨34, _⟩ => ⟨S_, .f32⟩
  | .hbm, ⟨35, _⟩ => ⟨S_, .f32⟩
  | .hbm, ⟨36, _⟩ => ⟨S4x16x16, .i1⟩
  | .hbm, ⟨37, _⟩ => ⟨S4x16x16, .f32⟩
  | .hbm, ⟨38, _⟩ => ⟨S4x16x16, .f32⟩
  | .hbm, ⟨39, _⟩ => ⟨S4x1, .f32⟩
  | .hbm, ⟨40, _⟩ => ⟨S_, .f32⟩
  | .hbm, ⟨41, _⟩ => ⟨S16, .f32⟩
  | .hbm, ⟨42, _⟩ => ⟨S16, .f32⟩
  | .hbm, ⟨43, _⟩ => ⟨S1x16, .f32⟩
  | .hbm, ⟨44, _⟩ => ⟨S4x16, .f32⟩
  | .hbm, ⟨45, _⟩ => ⟨S4x16, .f32⟩
  | .hbm, ⟨46, _⟩ => ⟨S4x16, .f32⟩
  | .hbm, ⟨47, _⟩ => ⟨S4x16, .f32⟩
  | .hbm, ⟨48, _⟩ => ⟨S4x16x1, .f32⟩
  | .hbm, ⟨49, _⟩ => ⟨S4x1, .f32⟩
  | .hbm, ⟨50, _⟩ => ⟨S_, .f32⟩
  | .hbm, ⟨51, _⟩ => ⟨S16, .f32⟩
  | .hbm, ⟨52, _⟩ => ⟨S16, .f32⟩
  | .hbm, ⟨53, _⟩ => ⟨S1x16, .f32⟩
  | .hbm, ⟨54, _⟩ => ⟨S4x16, .f32⟩
  | .hbm, ⟨55, _⟩ => ⟨S4x16, .f32⟩
  | .hbm, ⟨56, _⟩ => ⟨S4x16, .f32⟩
  | .hbm, ⟨57, _⟩ => ⟨S4x16, .f32⟩
  | .hbm, ⟨58, _⟩ => ⟨S4x16x1, .f32⟩
  | .hbm, ⟨59, _⟩ => ⟨S_, .f32⟩
  | .hbm, ⟨60, _⟩ => ⟨S4, .f32⟩
  | .hbm, ⟨61, _⟩ => ⟨S4, .f32⟩
  | .hbm, ⟨62, _⟩ => ⟨S4, .f32⟩
  | .hbm, ⟨63, _⟩ => ⟨S4x1x1, .f32⟩
  | .hbm, ⟨64, _⟩ => ⟨S4x16x128, .f32⟩
  | .hbm, ⟨65, _⟩ => ⟨S4x16x128, .f32⟩
  | .hbm, ⟨66, _⟩ => ⟨S4x1x128, .f32⟩
  | .hbm, ⟨67, _⟩ => ⟨S16x16x512, .bf16⟩
  | .hbm, ⟨68, _⟩ => ⟨S16x4x128x128, .f32⟩
  | .local _ .vmem, ⟨0, _⟩ => ⟨S4x16x512, .bf16⟩
  | .local _ .vmem, ⟨1, _⟩ => ⟨S4x16x512, .bf16⟩
  | .local _ .vmem, ⟨2, _⟩ => ⟨S4x16x512, .bf16⟩
  | .local _ .vmem, ⟨3, _⟩ => ⟨S4x16x512, .bf16⟩
  | .local _ .vmem, ⟨4, _⟩ => ⟨S4x16x512, .bf16⟩
  | .local _ .vmem, ⟨5, _⟩ => ⟨S4x16x512, .bf16⟩
  | .local _ .vmem, ⟨6, _⟩ => ⟨S4x16x512, .bf16⟩
  | .local _ .vmem, ⟨7, _⟩ => ⟨S4x16x512, .bf16⟩
  | .local _ .vmem, ⟨8, _⟩ => ⟨S4x4x128x128, .f32⟩
  | .local _ .vmem, ⟨9, _⟩ => ⟨S4x4x128x128, .f32⟩
  | .local _ .vmem, ⟨10, _⟩ => ⟨S4x16x16, .f32⟩
  | .local _ .vmem, ⟨11, _⟩ => ⟨S4x16x128, .f32⟩
  | .local _ .vmem, ⟨12, _⟩ => ⟨S4x16x128, .f32⟩
  | .local _ .vmem, ⟨13, _⟩ => ⟨S4x1x128, .f32⟩
  | .local _ .vmem, ⟨14, _⟩ => ⟨S1x512, .f32⟩
  | .local _ .vmem, ⟨15, _⟩ => ⟨S4x16x512, .bf16⟩
  | .local _ .vmem, ⟨16, _⟩ => ⟨S4x16x512, .bf16⟩
  | .local _ .vmem, ⟨17, _⟩ => ⟨S4x4x128x128, .f32⟩
  | .local _ .vmem, ⟨18, _⟩ => ⟨S4x4x128x128, .f32⟩
  | .local _ .vmem, ⟨19, _⟩ => ⟨S4x4x128x128, .f32⟩
  | _, _ => ⟨S16x16x5632, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | _, _ => false

abbrev semScoped : Fin 0 → Bool
  | ⟨_, h⟩ => absurd h (Nat.not_lt_zero _)

abbrev dmaSemScoped : Fin 19 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | _ => false

abbrev sig : RefSig :=
  ofTc nBuf bufTy 0 19 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_cst : Ref sig .tc := ⟨.hbm, 5, rfl⟩
abbrev main_v2 : Ref sig .tc := ⟨.hbm, 6, rfl⟩
abbrev main_v3 : Ref sig .tc := ⟨.hbm, 7, rfl⟩
abbrev main_cst_0 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_cst_1 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_cst_2 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_cst_3 : Ref sig .tc := ⟨.hbm, 26, rfl⟩
abbrev main_v19 : Ref sig .tc := ⟨.hbm, 27, rfl⟩
abbrev main_v20 : Ref sig .tc := ⟨.hbm, 28, rfl⟩
abbrev main_v21 : Ref sig .tc := ⟨.hbm, 29, rfl⟩
abbrev main_v22 : Ref sig .tc := ⟨.hbm, 30, rfl⟩
abbrev main_v23 : Ref sig .tc := ⟨.hbm, 31, rfl⟩
abbrev main_v24 : Ref sig .tc := ⟨.hbm, 32, rfl⟩
abbrev main_v25 : Ref sig .tc := ⟨.hbm, 33, rfl⟩
abbrev main_cst_4 : Ref sig .tc := ⟨.hbm, 34, rfl⟩
abbrev main_call0_v0 : Ref sig .tc := ⟨.hbm, 35, rfl⟩
abbrev main_call0_v1 : Ref sig .tc := ⟨.hbm, 36, rfl⟩
abbrev main_call0_v2 : Ref sig .tc := ⟨.hbm, 37, rfl⟩
abbrev main_v26 : Ref sig .tc := ⟨.hbm, 38, rfl⟩
abbrev main_v27 : Ref sig .tc := ⟨.hbm, 39, rfl⟩
abbrev main_cst_5 : Ref sig .tc := ⟨.hbm, 40, rfl⟩
abbrev main_v28 : Ref sig .tc := ⟨.hbm, 41, rfl⟩
abbrev main_v29 : Ref sig .tc := ⟨.hbm, 42, rfl⟩
abbrev main_v30 : Ref sig .tc := ⟨.hbm, 43, rfl⟩
abbrev main_v31 : Ref sig .tc := ⟨.hbm, 44, rfl⟩
abbrev main_v32 : Ref sig .tc := ⟨.hbm, 45, rfl⟩
abbrev main_v33 : Ref sig .tc := ⟨.hbm, 46, rfl⟩
abbrev main_v34 : Ref sig .tc := ⟨.hbm, 47, rfl⟩
abbrev main_v35 : Ref sig .tc := ⟨.hbm, 48, rfl⟩
abbrev main_v36 : Ref sig .tc := ⟨.hbm, 49, rfl⟩
abbrev main_cst_6 : Ref sig .tc := ⟨.hbm, 50, rfl⟩
abbrev main_v37 : Ref sig .tc := ⟨.hbm, 51, rfl⟩
abbrev main_v38 : Ref sig .tc := ⟨.hbm, 52, rfl⟩
abbrev main_v39 : Ref sig .tc := ⟨.hbm, 53, rfl⟩
abbrev main_v40 : Ref sig .tc := ⟨.hbm, 54, rfl⟩
abbrev main_v41 : Ref sig .tc := ⟨.hbm, 55, rfl⟩
abbrev main_v42 : Ref sig .tc := ⟨.hbm, 56, rfl⟩
abbrev main_v43 : Ref sig .tc := ⟨.hbm, 57, rfl⟩
abbrev main_v44 : Ref sig .tc := ⟨.hbm, 58, rfl⟩
abbrev main_cst_7 : Ref sig .tc := ⟨.hbm, 59, rfl⟩
abbrev main_v45 : Ref sig .tc := ⟨.hbm, 60, rfl⟩
abbrev main_v46 : Ref sig .tc := ⟨.hbm, 61, rfl⟩
abbrev main_v47 : Ref sig .tc := ⟨.hbm, 62, rfl⟩
abbrev main_v48 : Ref sig .tc := ⟨.hbm, 63, rfl⟩
abbrev main_v49 : Ref sig .tc := ⟨.hbm, 64, rfl⟩
abbrev main_v50 : Ref sig .tc := ⟨.hbm, 65, rfl⟩
abbrev main_v51 : Ref sig .tc := ⟨.hbm, 66, rfl⟩
abbrev main_v52_0 : Ref sig .tc := ⟨.hbm, 67, rfl⟩
abbrev main_v52_1 : Ref sig .tc := ⟨.hbm, 68, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg6_0 : Ref sig .tc := ⟨.vmem, 11, rfl⟩
abbrev cc0_stg7_0 : Ref sig .tc := ⟨.vmem, 12, rfl⟩
abbrev cc0_stg8_0 : Ref sig .tc := ⟨.vmem, 13, rfl⟩
abbrev cc0_stg9_0 : Ref sig .tc := ⟨.vmem, 14, rfl⟩
abbrev cc0_stg10_0 : Ref sig .tc := ⟨.vmem, 15, rfl⟩
abbrev cc0_stg10_1 : Ref sig .tc := ⟨.vmem, 16, rfl⟩
abbrev cc0_stg11_0 : Ref sig .tc := ⟨.vmem, 17, rfl⟩
abbrev cc0_stg11_1 : Ref sig .tc := ⟨.vmem, 18, rfl⟩
abbrev cc0_scratch0 : Ref sig .tc := ⟨.vmem, 19, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem6_0 : DmaSem sig := 11
abbrev cc0_sem7_0 : DmaSem sig := 12
abbrev cc0_sem8_0 : DmaSem sig := 13
abbrev cc0_sem9_0 : DmaSem sig := 14
abbrev cc0_sem10_0 : DmaSem sig := 15
abbrev cc0_sem10_1 : DmaSem sig := 16
abbrev cc0_sem11_0 : DmaSem sig := 17
abbrev cc0_sem11_1 : DmaSem sig := 18

abbrev nD : Nat := 1
abbrev τ : Topo := Topo.v7x

variable {F : FTy → Type} [FloatOps F]

abbrev grid0 : Pipeline.Grid := ⟨2, ![4, 1], ![false, false]⟩

def k0_mult1 : BitVec 32 :=
  let c0_i32_1 : BitVec 32 := 0#32
  let c16_i32 : BitVec 32 := 16#32
  let v3 : BitVec 32 := Scalar.muli c0_i32_1 c16_i32
  v3
def k0_off1 : Fin 3 → Nat :=
  let c0 : Index := 0#32
  let c0_i32_1 : BitVec 32 := 0#32
  let c16_i32 : BitVec 32 := 16#32
  let v3 : BitVec 32 := Scalar.muli c0_i32_1 c16_i32
  let v4 : BitVec 32 := v3
  let v5 : Index := Scalar.indexCast v4
  let c0_2 : Index := 0#32
  ![0, v5.toNat, 0]
def k0_off2 : Fin 3 → Nat :=
  let c0_45 : Index := 0#32
  let c0_i32_1 : BitVec 32 := 0#32
  let c16_i32 : BitVec 32 := 16#32
  let v3 : BitVec 32 := Scalar.muli c0_i32_1 c16_i32
  let v4 : BitVec 32 := v3
  let v78 : Index := Scalar.indexCast v4
  let c128 : Index := 128#32
  ![0, v78.toNat, 128]
def k0_off3 : Fin 3 → Nat :=
  let c0_88 : Index := 0#32
  let c0_i32_1 : BitVec 32 := 0#32
  let c16_i32 : BitVec 32 := 16#32
  let v3 : BitVec 32 := Scalar.muli c0_i32_1 c16_i32
  let v4 : BitVec 32 := v3
  let v151 : Index := Scalar.indexCast v4
  let c256 : Index := 256#32
  ![0, v151.toNat, 256]
def k0_off4 : Fin 3 → Nat :=
  let c0_131 : Index := 0#32
  let c0_i32_1 : BitVec 32 := 0#32
  let c16_i32 : BitVec 32 := 16#32
  let v3 : BitVec 32 := Scalar.muli c0_i32_1 c16_i32
  let v4 : BitVec 32 := v3
  let v224 : Index := Scalar.indexCast v4
  let c384 : Index := 384#32
  ![0, v224.toNat, 384]
def k0_off5 : Fin 3 → Nat :=
  let c1_174 : Index := 1#32
  let c0_i32_1 : BitVec 32 := 0#32
  let c16_i32 : BitVec 32 := 16#32
  let v3 : BitVec 32 := Scalar.muli c0_i32_1 c16_i32
  let v4 : BitVec 32 := v3
  let v297 : Index := Scalar.indexCast v4
  let c0_175 : Index := 0#32
  ![1, v297.toNat, 0]
def k0_off6 : Fin 3 → Nat :=
  let c1_219 : Index := 1#32
  let c0_i32_1 : BitVec 32 := 0#32
  let c16_i32 : BitVec 32 := 16#32
  let v3 : BitVec 32 := Scalar.muli c0_i32_1 c16_i32
  let v4 : BitVec 32 := v3
  let v370 : Index := Scalar.indexCast v4
  let c128_220 : Index := 128#32
  ![1, v370.toNat, 128]
def k0_off7 : Fin 3 → Nat :=
  let c1_264 : Index := 1#32
  let c0_i32_1 : BitVec 32 := 0#32
  let c16_i32 : BitVec 32 := 16#32
  let v3 : BitVec 32 := Scalar.muli c0_i32_1 c16_i32
  let v4 : BitVec 32 := v3
  let v443 : Index := Scalar.indexCast v4
  let c256_265 : Index := 256#32
  ![1, v443.toNat, 256]
def k0_off8 : Fin 3 → Nat :=
  let c1_309 : Index := 1#32
  let c0_i32_1 : BitVec 32 := 0#32
  let c16_i32 : BitVec 32 := 16#32
  let v3 : BitVec 32 := Scalar.muli c0_i32_1 c16_i32
  let v4 : BitVec 32 := v3
  let v516 : Index := Scalar.indexCast v4
  let c384_310 : Index := 384#32
  ![1, v516.toNat, 384]
def k0_off9 : Fin 3 → Nat :=
  let c2_354 : Index := 2#32
  let c0_i32_1 : BitVec 32 := 0#32
  let c16_i32 : BitVec 32 := 16#32
  let v3 : BitVec 32 := Scalar.muli c0_i32_1 c16_i32
  let v4 : BitVec 32 := v3
  let v589 : Index := Scalar.indexCast v4
  let c0_355 : Index := 0#32
  ![2, v589.toNat, 0]
def k0_off10 : Fin 3 → Nat :=
  let c2_399 : Index := 2#32
  let c0_i32_1 : BitVec 32 := 0#32
  let c16_i32 : BitVec 32 := 16#32
  let v3 : BitVec 32 := Scalar.muli c0_i32_1 c16_i32
  let v4 : BitVec 32 := v3
  let v662 : Index := Scalar.indexCast v4
  let c128_400 : Index := 128#32
  ![2, v662.toNat, 128]
def k0_off11 : Fin 3 → Nat :=
  let c2_444 : Index := 2#32
  let c0_i32_1 : BitVec 32 := 0#32
  let c16_i32 : BitVec 32 := 16#32
  let v3 : BitVec 32 := Scalar.muli c0_i32_1 c16_i32
  let v4 : BitVec 32 := v3
  let v735 : Index := Scalar.indexCast v4
  let c256_445 : Index := 256#32
  ![2, v735.toNat, 256]
def k0_off12 : Fin 3 → Nat :=
  let c2_489 : Index := 2#32
  let c0_i32_1 : BitVec 32 := 0#32
  let c16_i32 : BitVec 32 := 16#32
  let v3 : BitVec 32 := Scalar.muli c0_i32_1 c16_i32
  let v4 : BitVec 32 := v3
  let v808 : Index := Scalar.indexCast v4
  let c384_490 : Index := 384#32
  ![2, v808.toNat, 384]
def k0_off13 : Fin 3 → Nat :=
  let c3_534 : Index := 3#32
  let c0_i32_1 : BitVec 32 := 0#32
  let c16_i32 : BitVec 32 := 16#32
  let v3 : BitVec 32 := Scalar.muli c0_i32_1 c16_i32
  let v4 : BitVec 32 := v3
  let v881 : Index := Scalar.indexCast v4
  let c0_535 : Index := 0#32
  ![3, v881.toNat, 0]
def k0_off14 : Fin 3 → Nat :=
  let c3_579 : Index := 3#32
  let c0_i32_1 : BitVec 32 := 0#32
  let c16_i32 : BitVec 32 := 16#32
  let v3 : BitVec 32 := Scalar.muli c0_i32_1 c16_i32
  let v4 : BitVec 32 := v3
  let v954 : Index := Scalar.indexCast v4
  let c128_580 : Index := 128#32
  ![3, v954.toNat, 128]
def k0_off15 : Fin 3 → Nat :=
  let c3_624 : Index := 3#32
  let c0_i32_1 : BitVec 32 := 0#32
  let c16_i32 : BitVec 32 := 16#32
  let v3 : BitVec 32 := Scalar.muli c0_i32_1 c16_i32
  let v4 : BitVec 32 := v3
  let v1027 : Index := Scalar.indexCast v4
  let c256_625 : Index := 256#32
  ![3, v1027.toNat, 256]
def k0_off16 : Fin 3 → Nat :=
  let c3_669 : Index := 3#32
  let c0_i32_1 : BitVec 32 := 0#32
  let c16_i32 : BitVec 32 := 16#32
  let v3 : BitVec 32 := Scalar.muli c0_i32_1 c16_i32
  let v4 : BitVec 32 := v3
  let v1100 : Index := Scalar.indexCast v4
  let c384_670 : Index := 384#32
  ![3, v1100.toNat, 384]
def k0_cond2 (i : grid0.Coords) : BitVec 1 :=
  let arg1 : BitVec 32 := BitVec.ofNat 32 (i 1).val
  let c0_i32_714 : BitVec 32 := 0#32
  let v1173 : BitVec 1 := Scalar.cmpi .eq arg1 c0_i32_714
  let v1174 : BitVec 32 := Scalar.extui v1173
  let c0_i32_715 : BitVec 32 := 0#32
  let v1175 : BitVec 1 := Scalar.cmpi .ne v1174 c0_i32_715
  v1175

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c1_i32 : BitVec 32 := 1#32
  let c0_i32 : BitVec 32 := 0#32
  ![arg0.toNat, arg1.toNat, c1_i32.toNat]

def cc0_transform_2 (i : grid0.Coords) : Fin 3 → Nat :=
  let arg0 : BitVec 32 := BitVec.ofNat 32 (i 0).val
  let arg1 : BitVec 32 := BitVec.ofNat 32 (i 1).val
  let c2_i32 : BitVec 32 := 2#32
  let c0_i32 : BitVec 32 := 0#32
  ![arg0.toNat, arg1.toNat, c2_i32.toNat]

def cc0_transform_3 (i : grid0.Coords) : Fin 3 → Nat :=
  let arg0 : BitVec 32 := BitVec.ofNat 32 (i 0).val
  let arg1 : BitVec 32 := BitVec.ofNat 32 (i 1).val
  let c3_i32 : BitVec 32 := 3#32
  let c0_i32 : BitVec 32 := 0#32
  ![arg0.toNat, arg1.toNat, c3_i32.toNat]

def cc0_transform_4 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_6 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_7 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_8 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_9 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_11 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

abbrev stage0_0 : Fin 2 → Memref sig .tc .vmem S4x16x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S4x16x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S4x16x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S4x16x512 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S4x4x128x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]

abbrev stage0_5 : Fin 1 → Memref sig .tc .vmem S4x16x16 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 1 → Memref sig .tc .vmem S4x16x128 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false]

abbrev stage0_7 : Fin 1 → Memref sig .tc .vmem S4x16x128 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false, false]

abbrev stage0_8 : Fin 1 → Memref sig .tc .vmem S4x1x128 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false, false]

abbrev stage0_9 : Fin 1 → Memref sig .tc .vmem S1x512 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false, false]

abbrev stage0_10 : Fin 2 → Memref sig .tc .vmem S4x16x512 .bf16 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true, true]

abbrev stage0_11 : Fin 2 → Memref sig .tc .vmem S4x4x128x128 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true, false]
-- ==== ReferenceIdeal.lean ====
abbrev S16x16x5632 : Shape := ⟨3, ![16, 16, 5632]⟩
abbrev S16x4x128x128 : Shape := ⟨4, ![16, 4, 128, 128]⟩
abbrev S512 : Shape := ⟨1, ![512]⟩
abbrev S16x16x512 : Shape := ⟨3, ![16, 16, 512]⟩
abbrev S4 : Shape := ⟨1, ![4]⟩
abbrev S_ : Shape := ⟨0, ![]⟩
abbrev S16x16x4x128 : Shape := ⟨4, ![16, 16, 4, 128]⟩
abbrev S16 : Shape := ⟨1, ![16]⟩
abbrev S16x1 : Shape := ⟨2, ![16, 1]⟩
abbrev S1x16 : Shape := ⟨2, ![1, 16]⟩
abbrev S16x16 : Shape := ⟨2, ![16, 16]⟩
abbrev S4x1x1 : Shape := ⟨3, ![4, 1, 1]⟩
abbrev S1x16x16 : Shape := ⟨3, ![1, 16, 16]⟩
abbrev S4x16x16 : Shape := ⟨3, ![4, 16, 16]⟩
abbrev S4x1 : Shape := ⟨2, ![4, 1]⟩
abbrev S4x16 : Shape := ⟨2, ![4, 16]⟩
abbrev S4x16x1 : Shape := ⟨3, ![4, 16, 1]⟩
abbrev S16x1x16x4x128 : Shape := ⟨5, ![16, 1, 16, 4, 128]⟩
abbrev S1x16x4x16x128 : Shape := ⟨5, ![1, 16, 4, 16, 128]⟩
abbrev S16x4x16x128 : Shape := ⟨4, ![16, 4, 16, 128]⟩
abbrev S16x4x16x16 : Shape := ⟨4, ![16, 4, 16, 16]⟩
abbrev S1x4x16x16 : Shape := ⟨4, ![1, 4, 16, 16]⟩
abbrev S1x4x16x1 : Shape := ⟨4, ![1, 4, 16, 1]⟩
abbrev S1x4x1x1 : Shape := ⟨4, ![1, 4, 1, 1]⟩
abbrev S4x128 : Shape := ⟨2, ![4, 128]⟩
abbrev S16x16x4 : Shape := ⟨3, ![16, 16, 4]⟩
abbrev S16x16x4x1 : Shape := ⟨4, ![16, 16, 4, 1]⟩
abbrev S1x1x4x128 : Shape := ⟨4, ![1, 1, 4, 128]⟩

abbrev nBuf : Space → Nat
  | .hbm => 176
  | .vmem => 0
  | .smem => 0
  | _ => 0

abbrev hbmTy0_0 (i : Nat) : BufTy := match i % 128 with
  | 0 => ⟨S16x16x5632, .bf16⟩
  | 1 => ⟨S16x4x128x128, .f32⟩
  | 2 => ⟨S512, .f32⟩
  | 3 => ⟨S16x16x5632, .f32⟩
  | 4 => ⟨S16x16x512, .f32⟩
  | 5 => ⟨S16x16x512, .f32⟩
  | 6 => ⟨S16x16x512, .f32⟩
  | 7 => ⟨S4, .f32⟩
  | 8 => ⟨S_, .f32⟩
  | 9 => ⟨S4, .f32⟩
  | 10 => ⟨S4, .f32⟩
  | 11 => ⟨S_, .f32⟩
  | 12 => ⟨S4, .f32⟩
  | 13 => ⟨S4, .f32⟩
  | 14 => ⟨S4, .f32⟩
  | 15 => ⟨S_, .f32⟩
  | 16 => ⟨S4, .f32⟩
  | 17 => ⟨S4, .f32⟩
  | 18 => ⟨S4, .f32⟩
  | 19 => ⟨S16x16x4x128, .f32⟩
  | 20 => ⟨S16x16x4x128, .f32⟩
  | 21 => ⟨S16x16x4x128, .f32⟩
  | 22 => ⟨S16, .f32⟩
  | 23 => ⟨S16x1, .f32⟩
  | 24 => ⟨S1x16, .f32⟩
  | 25 => ⟨S16x16, .f32⟩
  | 26 => ⟨S16x16, .f32⟩
  | 27 => ⟨S16x16, .f32⟩
  | 28 => ⟨S_, .f32⟩
  | 29 => ⟨S16x16, .f32⟩
  | 30 => ⟨S16x16, .i1⟩
  | 31 => ⟨S4x1x1, .f32⟩
  | 32 => ⟨S_, .f32⟩
  | 33 => ⟨S16x16, .f32⟩
  | 34 => ⟨S16x16, .f32⟩
  | 35 => ⟨S1x16x16, .f32⟩
  | 36 => ⟨S4x16x16, .f32⟩
  | 37 => ⟨S4x16x16, .f32⟩
  | 38 => ⟨S4x16x16, .f32⟩
  | 39 => ⟨S4x16x16, .f32⟩
  | 40 => ⟨S_, .f32⟩
  | 41 => ⟨S_, .f32⟩
  | 42 => ⟨S4x16x16, .i1⟩
  | 43 => ⟨S4x16x16, .f32⟩
  | 44 => ⟨S4x16x16, .f32⟩
  | 45 => ⟨S4x1, .f32⟩
  | 46 => ⟨S_, .f32⟩
  | 47 => ⟨S16, .f32⟩
  | 48 => ⟨S16, .f32⟩
  | 49 => ⟨S1x16, .f32⟩
  | 50 => ⟨S4x16, .f32⟩
  | 51 => ⟨S4x16, .f32⟩
  | 52 => ⟨S4x16, .f32⟩
  | 53 => ⟨S4x16, .f32⟩
  | 54 => ⟨S4x16x1, .f32⟩
  | 55 => ⟨S4x1, .f32⟩
  | 56 => ⟨S_, .f32⟩
  | 57 => ⟨S16, .f32⟩
  | 58 => ⟨S16, .f32⟩
  | 59 => ⟨S1x16, .f32⟩
  | 60 => ⟨S4x16, .f32⟩
  | 61 => ⟨S4x16, .f32⟩
  | 62 => ⟨S4x16, .f32⟩
  | 63 => ⟨S4x16, .f32⟩
  | 64 => ⟨S4x16x1, .f32⟩
  | 65 => ⟨S_, .f32⟩
  | 66 => ⟨S4, .f32⟩
  | 67 => ⟨S4, .f32⟩
  | 68 => ⟨S4, .f32⟩
  | 69 => ⟨S4x1x1, .f32⟩
  | 70 => ⟨S16x1x16x4x128, .f32⟩
  | 71 => ⟨S1x16x4x16x128, .f32⟩
  | 72 => ⟨S16x1x16x4x128, .f32⟩
  | 73 => ⟨S1x16x4x16x128, .f32⟩
  | 74 => ⟨S16x1x16x4x128, .f32⟩
  | 75 => ⟨S1x16x4x16x128, .f32⟩
  | 76 => ⟨S_, .f32⟩
  | 77 => ⟨S1x16x4x16x128, .f32⟩
  | 78 => ⟨S_, .i32⟩
  | 79 => ⟨S1x16x4x16x128, .f32⟩
  | 80 => ⟨S1x16x4x16x128, .f32⟩
  | 81 => ⟨S1x16x4x16x128, .f32⟩
  | 82 => ⟨S4x16x16, .f32⟩
  | 83 => ⟨S4x16x1, .f32⟩
  | 84 => ⟨S4x1x1, .f32⟩
  | 85 => ⟨S4x16x1, .f32⟩
  | 86 => ⟨S_, .i32⟩
  | 87 => ⟨S16x4x128x128, .f32⟩
  | 88 => ⟨S1x16x4x16x128, .f32⟩
  | 89 => ⟨S_, .i32⟩
  | 90 => ⟨S_, .i1⟩
  | 91 => ⟨S_, .i32⟩
  | 92 => ⟨S_, .i32⟩
  | 93 => ⟨S_, .i32⟩
  | 94 => ⟨S_, .i32⟩
  | 95 => ⟨S1x16x4x16x128, .f32⟩
  | 96 => ⟨S16x4x16x128, .f32⟩
  | 97 => ⟨S_, .i32⟩
  | 98 => ⟨S_, .i32⟩
  | 99 => ⟨S_, .i32⟩
  | 100 => ⟨S_, .i32⟩
  | 101 => ⟨S1x16x4x16x128, .f32⟩
  | 102 => ⟨S16x4x16x128, .f32⟩
  | 103 => ⟨S_, .i32⟩
  | 104 => ⟨S_, .i32⟩
  | 105 => ⟨S_, .i32⟩
  | 106 => ⟨S_, .i32⟩
  | 107 => ⟨S1x16x4x16x128, .f32⟩
  | 108 => ⟨S16x4x16x128, .f32⟩
  | 109 => ⟨S16x4x16x16, .f32⟩
  | 110 => ⟨S1x4x16x16, .f32⟩
  | 111 => ⟨S16x4x16x16, .f32⟩
  | 112 => ⟨S16x4x16x16, .f32⟩
  | 113 => ⟨S16x4x16x128, .f32⟩
  | 114 => ⟨S1x4x16x1, .f32⟩
  | 115 => ⟨S16x4x16x128, .f32⟩
  | 116 => ⟨S16x4x16x128, .f32⟩
  | 117 => ⟨S16x4x16x128, .f32⟩
  | 118 => ⟨S16x4x16x128, .f32⟩
  | 119 => ⟨S1x4x1x1, .f32⟩
  | 120 => ⟨S16x4x128x128, .f32⟩
  | 121 => ⟨S16x4x128x128, .f32⟩
  | 122 => ⟨S1x4x16x1, .f32⟩
  | 123 => ⟨S16x4x16x128, .f32⟩
  | 124 => ⟨S16x4x16x128, .f32⟩
  | 125 => ⟨S16x4x128x128, .f32⟩
  | 126 => ⟨S16x4x128x128, .f32⟩
  | 127 => ⟨S1x16x4x16x128, .f32⟩
  | _ => ⟨S16x16x5632, .bf16⟩

abbrev hbmTy0_1 (i : Nat) : BufTy := match i % 128 with
  | 0 => ⟨S_, .i32⟩
  | 1 => ⟨S_, .i32⟩
  | 2 => ⟨S_, .i32⟩
  | 3 => ⟨S_, .i32⟩
  | 4 => ⟨S1x16x4x16x128, .f32⟩
  | 5 => ⟨S_, .i32⟩
  | 6 => ⟨S_, .i32⟩
  | 7 => ⟨S16x1x16x4x128, .f32⟩
  | 8 => ⟨S16x16x4x128, .f32⟩
  | 9 => ⟨S4x128, .f32⟩
  | 10 => ⟨S_, .f32⟩
  | 11 => ⟨S16x16x4, .f32⟩
  | 12 => ⟨S16x16x4x1, .f32⟩
  | 13 => ⟨S_, .f32⟩
  | 14 => ⟨S16x16x4x1, .f32⟩
  | 15 => ⟨S16x16x4x1, .f32⟩
  | 16 => ⟨S16x16x4x128, .f32⟩
  | 17 => ⟨S16x16x4x128, .f32⟩
  | 18 => ⟨S16x16x4x128, .f32⟩
  | 19 => ⟨S_, .f32⟩
  | 20 => ⟨S16x16x4, .f32⟩
  | 21 => ⟨S16x16x4x1, .f32⟩
  | 22 => ⟨S_, .f32⟩
  | 23 => ⟨S16x16x4x1, .f32⟩
  | 24 => ⟨S16x16x4x1, .f32⟩
  | 25 => ⟨S_, .f32⟩
  | 26 => ⟨S16x16x4x1, .f32⟩
  | 27 => ⟨S16x16x4x1, .f32⟩
  | 28 => ⟨S16x16x4x1, .f32⟩
  | 29 => ⟨S16x16x4x128, .f32⟩
  | 30 => ⟨S16x16x4x128, .f32⟩
  | 31 => ⟨S1x1x4x128, .f32⟩
  | 32 => ⟨S16x16x4x128, .f32⟩
  | 33 => ⟨S16x16x4x128, .f32⟩
  | 34 => ⟨S16x16x512, .f32⟩
  | 35 => ⟨S16x16x512, .bf16⟩
  | 36 => ⟨S16x16x512, .f32⟩
  | 37 => ⟨S16x16x512, .f32⟩
  | 38 => ⟨S16x16x512, .f32⟩
  | 39 => ⟨S_, .f32⟩
  | 40 => ⟨S16x16x512, .f32⟩
  | 41 => ⟨S16x16x512, .f32⟩
  | 42 => ⟨S_, .f32⟩
  | 43 => ⟨S16x16x512, .f32⟩
  | 44 => ⟨S16x16x512, .f32⟩
  | 45 => ⟨S16x16x512, .f32⟩
  | 46 => ⟨S16x16x512, .f32⟩
  | 47 => ⟨S16x16x512, .bf16⟩
  | _ => ⟨S16x16x5632, .bf16⟩

abbrev hbmTy (i : Nat) : BufTy := match i / 128 with
  | 0 => hbmTy0_0 i
  | 1 => hbmTy0_1 i
  | _ => ⟨S16x16x5632, .bf16⟩

abbrev bufTy : (tb : Table) → Fin (tcTables nBuf tb) → BufTy
  | .hbm, ⟨i, _⟩ => hbmTy i
  | _, _ => ⟨S16x16x5632, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_cst : Ref sig .tc := ⟨.hbm, 8, rfl⟩
abbrev main_v5 : Ref sig .tc := ⟨.hbm, 9, rfl⟩
abbrev main_v6 : Ref sig .tc := ⟨.hbm, 10, rfl⟩
abbrev main_cst_0 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_cst_1 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩
abbrev main_v19 : Ref sig .tc := ⟨.hbm, 25, rfl⟩
abbrev main_v20 : Ref sig .tc := ⟨.hbm, 26, rfl⟩
abbrev main_v21 : Ref sig .tc := ⟨.hbm, 27, rfl⟩
abbrev main_cst_2 : Ref sig .tc := ⟨.hbm, 28, rfl⟩
abbrev main_v22 : Ref sig .tc := ⟨.hbm, 29, rfl⟩
abbrev main_v23 : Ref sig .tc := ⟨.hbm, 30, rfl⟩
abbrev main_v24 : Ref sig .tc := ⟨.hbm, 31, rfl⟩
abbrev main_cst_3 : Ref sig .tc := ⟨.hbm, 32, rfl⟩
abbrev main_v25 : Ref sig .tc := ⟨.hbm, 33, rfl⟩
abbrev main_v26 : Ref sig .tc := ⟨.hbm, 34, rfl⟩
abbrev main_v27 : Ref sig .tc := ⟨.hbm, 35, rfl⟩
abbrev main_v28 : Ref sig .tc := ⟨.hbm, 36, rfl⟩
abbrev main_v29 : Ref sig .tc := ⟨.hbm, 37, rfl⟩
abbrev main_v30 : Ref sig .tc := ⟨.hbm, 38, rfl⟩
abbrev main_v31 : Ref sig .tc := ⟨.hbm, 39, rfl⟩
abbrev main_cst_4 : Ref sig .tc := ⟨.hbm, 40, rfl⟩
abbrev main_call0_v0 : Ref sig .tc := ⟨.hbm, 41, rfl⟩
abbrev main_call0_v1 : Ref sig .tc := ⟨.hbm, 42, rfl⟩
abbrev main_call0_v2 : Ref sig .tc := ⟨.hbm, 43, rfl⟩
abbrev main_v32 : Ref sig .tc := ⟨.hbm, 44, rfl⟩
abbrev main_v33 : Ref sig .tc := ⟨.hbm, 45, rfl⟩
abbrev main_cst_5 : Ref sig .tc := ⟨.hbm, 46, rfl⟩
abbrev main_v34 : Ref sig .tc := ⟨.hbm, 47, rfl⟩
abbrev main_v35 : Ref sig .tc := ⟨.hbm, 48, rfl⟩
abbrev main_v36 : Ref sig .tc := ⟨.hbm, 49, rfl⟩
abbrev main_v37 : Ref sig .tc := ⟨.hbm, 50, rfl⟩
abbrev main_v38 : Ref sig .tc := ⟨.hbm, 51, rfl⟩
abbrev main_v39 : Ref sig .tc := ⟨.hbm, 52, rfl⟩
abbrev main_v40 : Ref sig .tc := ⟨.hbm, 53, rfl⟩
abbrev main_v41 : Ref sig .tc := ⟨.hbm, 54, rfl⟩
abbrev main_v42 : Ref sig .tc := ⟨.hbm, 55, rfl⟩
abbrev main_cst_6 : Ref sig .tc := ⟨.hbm, 56, rfl⟩
abbrev main_v43 : Ref sig .tc := ⟨.hbm, 57, rfl⟩
abbrev main_v44 : Ref sig .tc := ⟨.hbm, 58, rfl⟩
abbrev main_v45 : Ref sig .tc := ⟨.hbm, 59, rfl⟩
abbrev main_v46 : Ref sig .tc := ⟨.hbm, 60, rfl⟩
abbrev main_v47 : Ref sig .tc := ⟨.hbm, 61, rfl⟩
abbrev main_v48 : Ref sig .tc := ⟨.hbm, 62, rfl⟩
abbrev main_v49 : Ref sig .tc := ⟨.hbm, 63, rfl⟩
abbrev main_v50 : Ref sig .tc := ⟨.hbm, 64, rfl⟩
abbrev main_cst_7 : Ref sig .tc := ⟨.hbm, 65, rfl⟩
abbrev main_v51 : Ref sig .tc := ⟨.hbm, 66, rfl⟩
abbrev main_v52 : Ref sig .tc := ⟨.hbm, 67, rfl⟩
abbrev main_v53 : Ref sig .tc := ⟨.hbm, 68, rfl⟩
abbrev main_v54 : Ref sig .tc := ⟨.hbm, 69, rfl⟩
abbrev main_v55 : Ref sig .tc := ⟨.hbm, 70, rfl⟩
abbrev main_v56 : Ref sig .tc := ⟨.hbm, 71, rfl⟩
abbrev main_v57 : Ref sig .tc := ⟨.hbm, 72, rfl⟩
abbrev main_v58 : Ref sig .tc := ⟨.hbm, 73, rfl⟩
abbrev main_v59 : Ref sig .tc := ⟨.hbm, 74, rfl⟩
abbrev main_v60 : Ref sig .tc := ⟨.hbm, 75, rfl⟩
abbrev main_cst_8 : Ref sig .tc := ⟨.hbm, 76, rfl⟩
abbrev main_v61 : Ref sig .tc := ⟨.hbm, 77, rfl⟩
abbrev main_c : Ref sig .tc := ⟨.hbm, 78, rfl⟩
abbrev main_v62_0 : Ref sig .tc := ⟨.hbm, 79, rfl⟩
abbrev main_v62_1 : Ref sig .tc := ⟨.hbm, 80, rfl⟩
abbrev main_v62_2 : Ref sig .tc := ⟨.hbm, 81, rfl⟩
abbrev main_v62_3 : Ref sig .tc := ⟨.hbm, 82, rfl⟩
abbrev main_v62_4 : Ref sig .tc := ⟨.hbm, 83, rfl⟩
abbrev main_v62_5 : Ref sig .tc := ⟨.hbm, 84, rfl⟩
abbrev main_v62_6 : Ref sig .tc := ⟨.hbm, 85, rfl⟩
abbrev main_v62_7 : Ref sig .tc := ⟨.hbm, 86, rfl⟩
abbrev main_v62_8 : Ref sig .tc := ⟨.hbm, 87, rfl⟩
abbrev main_v62_9 : Ref sig .tc := ⟨.hbm, 88, rfl⟩
abbrev main_while0c_c_23 : Ref sig .tc := ⟨.hbm, 89, rfl⟩
abbrev main_while0c_v91 : Ref sig .tc := ⟨.hbm, 90, rfl⟩
abbrev main_while0b_call1_c : Ref sig .tc := ⟨.hbm, 91, rfl⟩
abbrev main_while0b_call1_c_0 : Ref sig .tc := ⟨.hbm, 92, rfl⟩
abbrev main_while0b_call1_c_1 : Ref sig .tc := ⟨.hbm, 93, rfl⟩
abbrev main_while0b_call1_c_2 : Ref sig .tc := ⟨.hbm, 94, rfl⟩
abbrev main_while0b_call1_v0 : Ref sig .tc := ⟨.hbm, 95, rfl⟩
abbrev main_while0b_v91 : Ref sig .tc := ⟨.hbm, 96, rfl⟩
abbrev main_while0b_call2_c : Ref sig .tc := ⟨.hbm, 97, rfl⟩
abbrev main_while0b_call2_c_0 : Ref sig .tc := ⟨.hbm, 98, rfl⟩
abbrev main_while0b_call2_c_1 : Ref sig .tc := ⟨.hbm, 99, rfl⟩
abbrev main_while0b_call2_c_2 : Ref sig .tc := ⟨.hbm, 100, rfl⟩
abbrev main_while0b_call2_v0 : Ref sig .tc := ⟨.hbm, 101, rfl⟩
abbrev main_while0b_v92 : Ref sig .tc := ⟨.hbm, 102, rfl⟩
abbrev main_while0b_call3_c : Ref sig .tc := ⟨.hbm, 103, rfl⟩
abbrev main_while0b_call3_c_0 : Ref sig .tc := ⟨.hbm, 104, rfl⟩
abbrev main_while0b_call3_c_1 : Ref sig .tc := ⟨.hbm, 105, rfl⟩
abbrev main_while0b_call3_c_2 : Ref sig .tc := ⟨.hbm, 106, rfl⟩
abbrev main_while0b_call3_v0 : Ref sig .tc := ⟨.hbm, 107, rfl⟩
abbrev main_while0b_v93 : Ref sig .tc := ⟨.hbm, 108, rfl⟩
abbrev main_while0b_v94 : Ref sig .tc := ⟨.hbm, 109, rfl⟩
abbrev main_while0b_v95 : Ref sig .tc := ⟨.hbm, 110, rfl⟩
abbrev main_while0b_v96 : Ref sig .tc := ⟨.hbm, 111, rfl⟩
abbrev main_while0b_v97 : Ref sig .tc := ⟨.hbm, 112, rfl⟩
abbrev main_while0b_v98 : Ref sig .tc := ⟨.hbm, 113, rfl⟩
abbrev main_while0b_v99 : Ref sig .tc := ⟨.hbm, 114, rfl⟩
abbrev main_while0b_v100 : Ref sig .tc := ⟨.hbm, 115, rfl⟩
abbrev main_while0b_v101 : Ref sig .tc := ⟨.hbm, 116, rfl⟩
abbrev main_while0b_v102 : Ref sig .tc := ⟨.hbm, 117, rfl⟩
abbrev main_while0b_v103 : Ref sig .tc := ⟨.hbm, 118, rfl⟩
abbrev main_while0b_v104 : Ref sig .tc := ⟨.hbm, 119, rfl⟩
abbrev main_while0b_v105 : Ref sig .tc := ⟨.hbm, 120, rfl⟩
abbrev main_while0b_v106 : Ref sig .tc := ⟨.hbm, 121, rfl⟩
abbrev main_while0b_v107 : Ref sig .tc := ⟨.hbm, 122, rfl⟩
abbrev main_while0b_v108 : Ref sig .tc := ⟨.hbm, 123, rfl⟩
abbrev main_while0b_v109 : Ref sig .tc := ⟨.hbm, 124, rfl⟩
abbrev main_while0b_v110 : Ref sig .tc := ⟨.hbm, 125, rfl⟩
abbrev main_while0b_v111 : Ref sig .tc := ⟨.hbm, 126, rfl⟩
abbrev main_while0b_call4_v0 : Ref sig .tc := ⟨.hbm, 127, rfl⟩
abbrev main_while0b_call4_c : Ref sig .tc := ⟨.hbm, 128, rfl⟩
abbrev main_while0b_call4_c_0 : Ref sig .tc := ⟨.hbm, 129, rfl⟩
abbrev main_while0b_call4_c_1 : Ref sig .tc := ⟨.hbm, 130, rfl⟩
abbrev main_while0b_call4_c_2 : Ref sig .tc := ⟨.hbm, 131, rfl⟩
abbrev main_while0b_v112 : Ref sig .tc := ⟨.hbm, 132, rfl⟩
abbrev main_while0b_c_23 : Ref sig .tc := ⟨.hbm, 133, rfl⟩
abbrev main_while0b_v113 : Ref sig .tc := ⟨.hbm, 134, rfl⟩
abbrev main_v63 : Ref sig .tc := ⟨.hbm, 135, rfl⟩
abbrev main_v64 : Ref sig .tc := ⟨.hbm, 136, rfl⟩
abbrev main_v65 : Ref sig .tc := ⟨.hbm, 137, rfl⟩
abbrev main_cst_9 : Ref sig .tc := ⟨.hbm, 138, rfl⟩
abbrev main_v66 : Ref sig .tc := ⟨.hbm, 139, rfl⟩
abbrev main_v67 : Ref sig .tc := ⟨.hbm, 140, rfl⟩
abbrev main_cst_10 : Ref sig .tc := ⟨.hbm, 141, rfl⟩
abbrev main_v68 : Ref sig .tc := ⟨.hbm, 142, rfl⟩
abbrev main_v69 : Ref sig .tc := ⟨.hbm, 143, rfl⟩
abbrev main_v70 : Ref sig .tc := ⟨.hbm, 144, rfl⟩
abbrev main_v71 : Ref sig .tc := ⟨.hbm, 145, rfl⟩
abbrev main_v72 : Ref sig .tc := ⟨.hbm, 146, rfl⟩
abbrev main_cst_11 : Ref sig .tc := ⟨.hbm, 147, rfl⟩
abbrev main_v73 : Ref sig .tc := ⟨.hbm, 148, rfl⟩
abbrev main_v74 : Ref sig .tc := ⟨.hbm, 149, rfl⟩
abbrev main_cst_12 : Ref sig .tc := ⟨.hbm, 150, rfl⟩
abbrev main_v75 : Ref sig .tc := ⟨.hbm, 151, rfl⟩
abbrev main_v76 : Ref sig .tc := ⟨.hbm, 152, rfl⟩
abbrev main_cst_13 : Ref sig .tc := ⟨.hbm, 153, rfl⟩
abbrev main_v77 : Ref sig .tc := ⟨.hbm, 154, rfl⟩
abbrev main_v78 : Ref sig .tc := ⟨.hbm, 155, rfl⟩
abbrev main_v79 : Ref sig .tc := ⟨.hbm, 156, rfl⟩
abbrev main_v80 : Ref sig .tc := ⟨.hbm, 157, rfl⟩
abbrev main_v81 : Ref sig .tc := ⟨.hbm, 158, rfl⟩
abbrev main_v82 : Ref sig .tc := ⟨.hbm, 159, rfl⟩
abbrev main_v83 : Ref sig .tc := ⟨.hbm, 160, rfl⟩
abbrev main_v84 : Ref sig .tc := ⟨.hbm, 161, rfl⟩
abbrev main_v85 : Ref sig .tc := ⟨.hbm, 162, rfl⟩
abbrev main_v86 : Ref sig .tc := ⟨.hbm, 163, rfl⟩
abbrev main_v87 : Ref sig .tc := ⟨.hbm, 164, rfl⟩
abbrev main_call5_v0 : Ref sig .tc := ⟨.hbm, 165, rfl⟩
abbrev main_call5_v1 : Ref sig .tc := ⟨.hbm, 166, rfl⟩
abbrev main_call5_cst : Ref sig .tc := ⟨.hbm, 167, rfl⟩
abbrev main_call5_v2 : Ref sig .tc := ⟨.hbm, 168, rfl⟩
abbrev main_call5_v3 : Ref sig .tc := ⟨.hbm, 169, rfl⟩
abbrev main_call5_cst_0 : Ref sig .tc := ⟨.hbm, 170, rfl⟩
abbrev main_call5_v4 : Ref sig .tc := ⟨.hbm, 171, rfl⟩
abbrev main_call5_v5 : Ref sig .tc := ⟨.hbm, 172, rfl⟩
abbrev main_v88 : Ref sig .tc := ⟨.hbm, 173, rfl⟩
abbrev main_v89 : Ref sig .tc := ⟨.hbm, 174, rfl⟩
abbrev main_v90 : Ref sig .tc := ⟨.hbm, 175, rfl⟩

abbrev nD : Nat := 1
abbrev τ : Topo := Topo.v7x

variable {F : FTy → Type} [FloatOps F]

abbrev main_while0_count : Scf.Loop 32 := ⟨0#32, 1#32, 1#32⟩
-- ==== Kernel2.lean ====
abbrev S174 : Shape := ⟨1, ![174]⟩
abbrev S1 : Shape := ⟨1, ![1]⟩
abbrev S89088x1024 : Shape := ⟨2, ![89088, 1024]⟩
abbrev S4x16x1024x512 : Shape := ⟨4, ![4, 16, 1024, 512]⟩
abbrev S4x16x512x1024 : Shape := ⟨4, ![4, 16, 512, 1024]⟩
abbrev S512x1024 : Shape := ⟨2, ![512, 1024]⟩
abbrev S1x1x1024x512 : Shape := ⟨4, ![1, 1, 1024, 512]⟩
abbrev S1x1x512x1024 : Shape := ⟨4, ![1, 1, 512, 1024]⟩
abbrev S2x512x512 : Shape := ⟨3, ![2, 512, 512]⟩
abbrev S1024x512 : Shape := ⟨2, ![1024, 512]⟩
abbrev S512x512 : Shape := ⟨2, ![512, 512]⟩
abbrev S1x512x512 : Shape := ⟨3, ![1, 512, 512]⟩

abbrev nBuf : Space → Nat
  | .hbm => 5
  | .vmem => 11
  | .smem => 2
  | _ => 0

abbrev bufTy : (tb : Table) → Fin (tcTables nBuf tb) → BufTy
  | .hbm, ⟨0, _⟩ => ⟨S89088x1024, .bf16⟩
  | .hbm, ⟨1, _⟩ => ⟨S4x16x1024x512, .f32⟩
  | .hbm, ⟨2, _⟩ => ⟨S4x16x1024x512, .f32⟩
  | .hbm, ⟨3, _⟩ => ⟨S4x16x512x1024, .f32⟩
  | .hbm, ⟨4, _⟩ => ⟨S89088x1024, .bf16⟩
  | .local _ .vmem, ⟨0, _⟩ => ⟨S512x1024, .bf16⟩
  | .local _ .vmem, ⟨1, _⟩ => ⟨S512x1024, .bf16⟩
  | .local _ .vmem, ⟨2, _⟩ => ⟨S1x1x1024x512, .f32⟩
  | .local _ .vmem, ⟨3, _⟩ => ⟨S1x1x1024x512, .f32⟩
  | .local _ .vmem, ⟨4, _⟩ => ⟨S1x1x1024x512, .f32⟩
  | .local _ .vmem, ⟨5, _⟩ => ⟨S1x1x1024x512, .f32⟩
  | .local _ .vmem, ⟨6, _⟩ => ⟨S1x1x512x1024, .f32⟩
  | .local _ .vmem, ⟨7, _⟩ => ⟨S1x1x512x1024, .f32⟩
  | .local _ .vmem, ⟨8, _⟩ => ⟨S512x1024, .bf16⟩
  | .local _ .vmem, ⟨9, _⟩ => ⟨S512x1024, .bf16⟩
  | .local _ .vmem, ⟨10, _⟩ => ⟨S2x512x512, .bf16⟩
  | .local _ .smem, ⟨0, _⟩ => ⟨S174, .i32⟩
  | .local _ .smem, ⟨1, _⟩ => ⟨S1, .i32⟩
  | _, _ => ⟨S89088x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg2 : Ref sig .tc := ⟨.hbm, 0, rfl⟩
abbrev main_arg3 : Ref sig .tc := ⟨.hbm, 1, rfl⟩
abbrev main_arg4 : Ref sig .tc := ⟨.hbm, 2, rfl⟩
abbrev main_arg5 : Ref sig .tc := ⟨.hbm, 3, rfl⟩
abbrev main_v0 : Ref sig .tc := ⟨.hbm, 4, rfl⟩
abbrev main_arg0 : Ref sig .tc := ⟨.smem, 0, rfl⟩
abbrev main_arg1 : Ref sig .tc := ⟨.smem, 1, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_scratch0 : Ref sig .tc := ⟨.vmem, 10, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9

abbrev nD : Nat := 1
abbrev τ : Topo := Topo.v7x

variable {F : FTy → Type} [FloatOps F]

abbrev grid0 : Pipeline.Grid := ⟨1, ![175], ![false]⟩

abbrev pre0 : Pipeline.Prefetch sig := ⟨2, ![main_arg0.idx, main_arg1.idx], fun | 0 => main_arg0.names | 1 => main_arg1.names | ⟨_ + 2, h⟩ => absurd h (Nat.not_lt.2 (Nat.le_add_left _ _)), fun | 0 => rfl | 1 => rfl | ⟨_ + 2, h⟩ => absurd h (Nat.not_lt.2 (Nat.le_add_left _ _))⟩

def k0_off1 (i : grid0.Coords) : Fin 1 → Nat :=
  let arg0 : BitVec 32 := BitVec.ofNat 32 (i 0).val
  let c173_i32 : BitVec 32 := 173#32
  let v0 : BitVec 32 := Scalar.minsi arg0 c173_i32
  let v1 : Index := Scalar.indexCast v0
  ![v1.toNat]
def k0_off2 (i : grid0.Coords) : Fin 1 → Nat :=
  let arg0 : BitVec 32 := BitVec.ofNat 32 (i 0).val
  let c1_i32 : BitVec 32 := 1#32
  let v0 : BitVec 32 := Scalar.subi arg0 c1_i32
  let c0_i32 : BitVec 32 := 0#32
  let v1 : BitVec 32 := Scalar.maxsi v0 c0_i32
  let v2 : Index := Scalar.indexCast v1
  ![v2.toNat]
def k0_cond1 (i : grid0.Coords) : BitVec 1 :=
  let arg0 : BitVec 32 := BitVec.ofNat 32 (i 0).val
  let c0_i32 : BitVec 32 := 0#32
  let v2 : BitVec 1 := Scalar.cmpi .eq arg0 c0_i32
  let v3 : BitVec 32 := Scalar.extui v2
  let c0_i32_0 : BitVec 32 := 0#32
  let v4 : BitVec 1 := Scalar.cmpi .ne v3 c0_i32_0
  v4

def k0_off3 (i : grid0.Coords) : Fin 3 → Nat :=
  let arg0 : BitVec 32 := BitVec.ofNat 32 (i 0).val
  let c2_i32 : BitVec 32 := 2#32
  let v1 : BitVec 32 := Scalar.remsi arg0 c2_i32
  let v31 : Index := Scalar.indexCast v1
  let c0_16 : Index := 0#32
  let c0_17 : Index := 0#32
  ![v31.toNat, 0, 0]
def k0_off4 (i : grid0.Coords) : Fin 3 → Nat :=
  let c1_i32_5 : BitVec 32 := 1#32
  let arg0 : BitVec 32 := BitVec.ofNat 32 (i 0).val
  let c2_i32 : BitVec 32 := 2#32
  let v1 : BitVec 32 := Scalar.remsi arg0 c2_i32
  let v18 : BitVec 32 := Scalar.subi c1_i32_5 v1
  let v19 : Index := Scalar.indexCast v18
  let c0_6 : Index := 0#32
  let c0_7 : Index := 0#32
  ![v19.toNat, 0, 0]
def k0_off5 (i : grid0.Coords) : Fin 3 → Nat :=
  let arg0 : BitVec 32 := BitVec.ofNat 32 (i 0).val
  let c2_i32 : BitVec 32 := 2#32
  let v1 : BitVec 32 := Scalar.remsi arg0 c2_i32
  let v41 : Index := Scalar.indexCast v1
  let c0_26 : Index := 0#32
  let c0_27 : Index := 0#32
  ![v41.toNat, 0, 0]
def k0_off6 (i : grid0.Coords) : Fin 3 → Nat :=
  let c1_i32_5 : BitVec 32 := 1#32
  let arg0 : BitVec 32 := BitVec.ofNat 32 (i 0).val
  let c2_i32 : BitVec 32 := 2#32
  let v1 : BitVec 32 := Scalar.remsi arg0 c2_i32
  let v18 : BitVec 32 := Scalar.subi c1_i32_5 v1
  let v19 : Index := Scalar.indexCast v18
  let c0_6 : Index := 0#32
  let c0_7 : Index := 0#32
  ![v19.toNat, 0, 0]
def k0_cond2 (i : grid0.Coords) (v0 : BitVec 32) : BitVec 1 :=
  let arg0 : BitVec 32 := BitVec.ofNat 32 (i 0).val
  let c1_i32 : BitVec 32 := 1#32
  let v5 : BitVec 1 := Scalar.cmpi .sge arg0 c1_i32
  let v6 : BitVec 1 := Scalar.cmpi .slt arg0 v0
  let v7 : BitVec 1 := Scalar.andi v5 v6
  let v8 : BitVec 32 := Scalar.extui v7
  let c0_i32_1 : BitVec 32 := 0#32
  let v9 : BitVec 1 := Scalar.cmpi .ne v8 c0_i32_1
  v9

def k0_cond3 (i : grid0.Coords) (v0 : BitVec 32) : BitVec 1 :=
  let arg0 : BitVec 32 := BitVec.ofNat 32 (i 0).val
  let c1_i32_2 : BitVec 32 := 1#32
  let v10 : BitVec 1 := Scalar.cmpi .sge arg0 c1_i32_2
  let v11 : BitVec 1 := Scalar.cmpi .eq arg0 v0
  let v12 : BitVec 1 := Scalar.andi v10 v11
  let v13 : BitVec 32 := Scalar.extui v12
  let c0_i32_3 : BitVec 32 := 0#32
  let v14 : BitVec 1 := Scalar.cmpi .ne v13 c0_i32_3
  v14

def k0_cond4 (i : grid0.Coords) (v0 : BitVec 32) : BitVec 1 :=
  let arg0 : BitVec 32 := BitVec.ofNat 32 (i 0).val
  let v15 : BitVec 1 := Scalar.cmpi .sgt arg0 v0
  let v16 : BitVec 32 := Scalar.extui v15
  let c0_i32_4 : BitVec 32 := 0#32
  let v17 : BitVec 1 := Scalar.cmpi .ne v16 c0_i32_4
  v17

def cc0_transform_0 (inb_S1_S1_0 : ∀ a, (![0] : Fin 1 → Nat) a + S1.size a ≤ S1.size a) (numel1_S1 : S1.numel = 1) (pf : pre0.Contents (Elt F)) (i : grid0.Coords) : Fin 2 → Nat :=
  let arg0 : BitVec 32 := BitVec.ofNat 32 (i 0).val
  let c0 : Index := 0#32
  let v0 : BitVec 32 := pf.at 1 (Rect.unit (s := S1) ![0] S1.size inb_S1_S1_0) numel1_S1
  let c1_i32 : BitVec 32 := 1#32
  let v1 : BitVec 32 := Scalar.subi v0 c1_i32
  let v2 : BitVec 32 := Scalar.minsi arg0 v1
  let c0_i32 : BitVec 32 := 0#32
  let c0_i32_0 : BitVec 32 := 0#32
  ![v2.toNat, c0_i32.toNat]

def cc0_transform_1 (k0_off1_inb : ∀ i : grid0.Coords, ∀ a, (k0_off1 i) a + S1.size a ≤ S174.size a) (numel1_S1 : S1.numel = 1) (pf : pre0.Contents (Elt F)) (i : grid0.Coords) : Fin 4 → Nat :=
  let arg0 : BitVec 32 := BitVec.ofNat 32 (i 0).val
  let c173_i32 : BitVec 32 := 173#32
  let v0 : BitVec 32 := Scalar.minsi arg0 c173_i32
  let v1 : Index := Scalar.indexCast v0
  let v2 : BitVec 32 := pf.at 0 (Rect.unit (s := S174) ![v1.toNat] S1.size (k0_off1_inb i)) numel1_S1
  let c0_i32 : BitVec 32 := 0#32
  let c0_i32_0 : BitVec 32 := 0#32
  let c0_i32_1 : BitVec 32 := 0#32
  let c0_i32_2 : BitVec 32 := 0#32
  ![c0_i32.toNat, v2.toNat, c0_i32_0.toNat, c0_i32_1.toNat]

def cc0_transform_2 (k0_off1_inb : ∀ i : grid0.Coords, ∀ a, (k0_off1 i) a + S1.size a ≤ S174.size a) (numel1_S1 : S1.numel = 1) (pf : pre0.Contents (Elt F)) (i : grid0.Coords) : Fin 4 → Nat :=
  let arg0 : BitVec 32 := BitVec.ofNat 32 (i 0).val
  let c173_i32 : BitVec 32 := 173#32
  let v0 : BitVec 32 := Scalar.minsi arg0 c173_i32
  let v1 : Index := Scalar.indexCast v0
  let v2 : BitVec 32 := pf.at 0 (Rect.unit (s := S174) ![v1.toNat] S1.size (k0_off1_inb i)) numel1_S1
  let c0_i32 : BitVec 32 := 0#32
  let c0_i32_0 : BitVec 32 := 0#32
  let c0_i32_1 : BitVec 32 := 0#32
  let c0_i32_2 : BitVec 32 := 0#32
  ![c0_i32.toNat, v2.toNat, c0_i32_0.toNat, c0_i32_1.toNat]

def cc0_transform_3 (k0_off2_inb : ∀ i : grid0.Coords, ∀ a, (k0_off2 i) a + S1.size a ≤ S174.size a) (numel1_S1 : S1.numel = 1) (pf : pre0.Contents (Elt F)) (i : grid0.Coords) : Fin 4 → Nat :=
  let arg0 : BitVec 32 := BitVec.ofNat 32 (i 0).val
  let c1_i32 : BitVec 32 := 1#32
  let v0 : BitVec 32 := Scalar.subi arg0 c1_i32
  let c0_i32 : BitVec 32 := 0#32
  let v1 : BitVec 32 := Scalar.maxsi v0 c0_i32
  let v2 : Index := Scalar.indexCast v1
  let v3 : BitVec 32 := pf.at 0 (Rect.unit (s := S174) ![v2.toNat] S1.size (k0_off2_inb i)) numel1_S1
  let c0_i32_0 : BitVec 32 := 0#32
  let c0_i32_1 : BitVec 32 := 0#32
  let c0_i32_2 : BitVec 32 := 0#32
  let c0_i32_3 : BitVec 32 := 0#32
  ![c0_i32_0.toNat, v3.toNat, c0_i32_1.toNat, c0_i32_2.toNat]

def cc0_transform_4 (i : grid0.Coords) : Fin 2 → Nat :=
  let arg0 : BitVec 32 := BitVec.ofNat 32 (i 0).val
  let c1_i32 : BitVec 32 := 1#32
  let v0 : BitVec 32 := Scalar.subi arg0 c1_i32
  let c0_i32 : BitVec 32 := 0#32
  let v1 : BitVec 32 := Scalar.maxsi v0 c0_i32
  let c0_i32_0 : BitVec 32 := 0#32
  let c0_i32_1 : BitVec 32 := 0#32
  ![v1.toNat, c0_i32_0.toNat]

abbrev stage0_0 : Fin 2 → Memref sig .tc .vmem S512x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x1x1024x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x1x1024x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1x1x512x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S512x1024 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]
-- ==== Reference2Ideal.lean ====
abbrev S174 : Shape := ⟨1, ![174]⟩
abbrev S1 : Shape := ⟨1, ![1]⟩
abbrev S89088x1024 : Shape := ⟨2, ![89088, 1024]⟩
abbrev S4x16x1024x512 : Shape := ⟨4, ![4, 16, 1024, 512]⟩
abbrev S4x16x512x1024 : Shape := ⟨4, ![4, 16, 512, 1024]⟩
abbrev S89088 : Shape := ⟨1, ![89088]⟩
abbrev S_ : Shape := ⟨0, ![]⟩
abbrev S174x512 : Shape := ⟨2, ![174, 512]⟩
abbrev S89088x1 : Shape := ⟨2, ![89088, 1]⟩
abbrev S16 : Shape := ⟨1, ![16]⟩
abbrev S1x16 : Shape := ⟨2, ![1, 16]⟩
abbrev S89088x16 : Shape := ⟨2, ![89088, 16]⟩
abbrev S1x1x1024x512 : Shape := ⟨4, ![1, 1, 1024, 512]⟩
abbrev S1024x512 : Shape := ⟨2, ![1024, 512]⟩
abbrev S89088x512 : Shape := ⟨2, ![89088, 512]⟩
abbrev S1x1x512x1024 : Shape := ⟨4, ![1, 1, 512, 1024]⟩
abbrev S512x1024 : Shape := ⟨2, ![512, 1024]⟩

abbrev nBuf : Space → Nat
  | .hbm => 433
  | .vmem => 0
  | .smem => 0
  | _ => 0

abbrev hbmTy0_0 (i : Nat) : BufTy := match i % 128 with
  | 0 => ⟨S174, .i32⟩
  | 1 => ⟨S1, .i32⟩
  | 2 => ⟨S89088x1024, .bf16⟩
  | 3 => ⟨S4x16x1024x512, .f32⟩
  | 4 => ⟨S4x16x1024x512, .f32⟩
  | 5 => ⟨S4x16x512x1024, .f32⟩
  | 6 => ⟨S89088, .i32⟩
  | 7 => ⟨S_, .i32⟩
  | 8 => ⟨S_, .i32⟩
  | 9 => ⟨S89088, .i32⟩
  | 10 => ⟨S89088, .i32⟩
  | 11 => ⟨S89088, .i32⟩
  | 12 => ⟨S_, .i32⟩
  | 13 => ⟨S89088, .i32⟩
  | 14 => ⟨S89088, .i1⟩
  | 15 => ⟨S89088, .i32⟩
  | 16 => ⟨S89088, .i32⟩
  | 17 => ⟨S_, .i32⟩
  | 18 => ⟨S89088, .i32⟩
  | 19 => ⟨S89088, .i1⟩
  | 20 => ⟨S89088, .i1⟩
  | 21 => ⟨S_, .i32⟩
  | 22 => ⟨S89088, .i32⟩
  | 23 => ⟨S89088, .i32⟩
  | 24 => ⟨S89088, .i32⟩
  | 25 => ⟨S_, .i32⟩
  | 26 => ⟨S89088, .i32⟩
  | 27 => ⟨S89088, .i1⟩
  | 28 => ⟨S174x512, .i32⟩
  | 29 => ⟨S89088, .i32⟩
  | 30 => ⟨S_, .i32⟩
  | 31 => ⟨S_, .i32⟩
  | 32 => ⟨S89088, .i32⟩
  | 33 => ⟨S89088, .i32⟩
  | 34 => ⟨S89088x1024, .f32⟩
  | 35 => ⟨S_, .f32⟩
  | 36 => ⟨S89088x1024, .f32⟩
  | 37 => ⟨S89088x1, .i32⟩
  | 38 => ⟨S16, .i32⟩
  | 39 => ⟨S1x16, .i32⟩
  | 40 => ⟨S89088x16, .i32⟩
  | 41 => ⟨S89088x16, .i32⟩
  | 42 => ⟨S89088x16, .i1⟩
  | 43 => ⟨S_, .f32⟩
  | 44 => ⟨S_, .f32⟩
  | 45 => ⟨S89088x16, .f32⟩
  | 46 => ⟨S89088x16, .f32⟩
  | 47 => ⟨S89088x16, .f32⟩
  | 48 => ⟨S1x1x1024x512, .f32⟩
  | 49 => ⟨S1024x512, .f32⟩
  | 50 => ⟨S89088x512, .f32⟩
  | 51 => ⟨S89088x512, .f32⟩
  | 52 => ⟨S89088x512, .f32⟩
  | 53 => ⟨S_, .f32⟩
  | 54 => ⟨S89088x512, .f32⟩
  | 55 => ⟨S89088x512, .f32⟩
  | 56 => ⟨S_, .f32⟩
  | 57 => ⟨S89088x512, .f32⟩
  | 58 => ⟨S89088x512, .f32⟩
  | 59 => ⟨S89088x512, .f32⟩
  | 60 => ⟨S1x1x1024x512, .f32⟩
  | 61 => ⟨S1024x512, .f32⟩
  | 62 => ⟨S89088x512, .f32⟩
  | 63 => ⟨S89088x512, .f32⟩
  | 64 => ⟨S89088x1, .f32⟩
  | 65 => ⟨S1x1x512x1024, .f32⟩
  | 66 => ⟨S512x1024, .f32⟩
  | 67 => ⟨S89088x1024, .f32⟩
  | 68 => ⟨S89088x1, .f32⟩
  | 69 => ⟨S89088x1024, .f32⟩
  | 70 => ⟨S89088x1024, .f32⟩
  | 71 => ⟨S89088x1024, .f32⟩
  | 72 => ⟨S1x1x1024x512, .f32⟩
  | 73 => ⟨S1024x512, .f32⟩
  | 74 => ⟨S89088x512, .f32⟩
  | 75 => ⟨S89088x512, .f32⟩
  | 76 => ⟨S89088x512, .f32⟩
  | 77 => ⟨S_, .f32⟩
  | 78 => ⟨S89088x512, .f32⟩
  | 79 => ⟨S89088x512, .f32⟩
  | 80 => ⟨S_, .f32⟩
  | 81 => ⟨S89088x512, .f32⟩
  | 82 => ⟨S89088x512, .f32⟩
  | 83 => ⟨S89088x512, .f32⟩
  | 84 => ⟨S1x1x1024x512, .f32⟩
  | 85 => ⟨S1024x512, .f32⟩
  | 86 => ⟨S89088x512, .f32⟩
  | 87 => ⟨S89088x512, .f32⟩
  | 88 => ⟨S89088x1, .f32⟩
  | 89 => ⟨S1x1x512x1024, .f32⟩
  | 90 => ⟨S512x1024, .f32⟩
  | 91 => ⟨S89088x1024, .f32⟩
  | 92 => ⟨S89088x1, .f32⟩
  | 93 => ⟨S89088x1024, .f32⟩
  | 94 => ⟨S89088x1024, .f32⟩
  | 95 => ⟨S89088x1024, .f32⟩
  | 96 => ⟨S1x1x1024x512, .f32⟩
  | 97 => ⟨S1024x512, .f32⟩
  | 98 => ⟨S89088x512, .f32⟩
  | 99 => ⟨S89088x512, .f32⟩
  | 100 => ⟨S89088x512, .f32⟩
  | 101 => ⟨S_, .f32⟩
  | 102 => ⟨S89088x512, .f32⟩
  | 103 => ⟨S89088x512, .f32⟩
  | 104 => ⟨S_, .f32⟩
  | 105 => ⟨S89088x512, .f32⟩
  | 106 => ⟨S89088x512, .f32⟩
  | 107 => ⟨S89088x512, .f32⟩
  | 108 => ⟨S1x1x1024x512, .f32⟩
  | 109 => ⟨S1024x512, .f32⟩
  | 110 => ⟨S89088x512, .f32⟩
  | 111 => ⟨S89088x512, .f32⟩
  | 112 => ⟨S89088x1, .f32⟩
  | 113 => ⟨S1x1x512x1024, .f32⟩
  | 114 => ⟨S512x1024, .f32⟩
  | 115 => ⟨S89088x1024, .f32⟩
  | 116 => ⟨S89088x1, .f32⟩
  | 117 => ⟨S89088x1024, .f32⟩
  | 118 => ⟨S89088x1024, .f32⟩
  | 119 => ⟨S89088x1024, .f32⟩
  | 120 => ⟨S1x1x1024x512, .f32⟩
  | 121 => ⟨S1024x512, .f32⟩
  | 122 => ⟨S89088x512, .f32⟩
  | 123 => ⟨S89088x512, .f32⟩
  | 124 => ⟨S89088x512, .f32⟩
  | 125 => ⟨S_, .f32⟩
  | 126 => ⟨S89088x512, .f32⟩
  | 127 => ⟨S89088x512, .f32⟩
  | _ => ⟨S174, .i32⟩

abbrev hbmTy0_1 (i : Nat) : BufTy := match i % 128 with
  | 0 => ⟨S_, .f32⟩
  | 1 => ⟨S89088x512, .f32⟩
  | 2 => ⟨S89088x512, .f32⟩
  | 3 => ⟨S89088x512, .f32⟩
  | 4 => ⟨S1x1x1024x512, .f32⟩
  | 5 => ⟨S1024x512, .f32⟩
  | 6 => ⟨S89088x512, .f32⟩
  | 7 => ⟨S89088x512, .f32⟩
  | 8 => ⟨S89088x1, .f32⟩
  | 9 => ⟨S1x1x512x1024, .f32⟩
  | 10 => ⟨S512x1024, .f32⟩
  | 11 => ⟨S89088x1024, .f32⟩
  | 12 => ⟨S89088x1, .f32⟩
  | 13 => ⟨S89088x1024, .f32⟩
  | 14 => ⟨S89088x1024, .f32⟩
  | 15 => ⟨S89088x1024, .f32⟩
  | 16 => ⟨S1x1x1024x512, .f32⟩
  | 17 => ⟨S1024x512, .f32⟩
  | 18 => ⟨S89088x512, .f32⟩
  | 19 => ⟨S89088x512, .f32⟩
  | 20 => ⟨S89088x512, .f32⟩
  | 21 => ⟨S_, .f32⟩
  | 22 => ⟨S89088x512, .f32⟩
  | 23 => ⟨S89088x512, .f32⟩
  | 24 => ⟨S_, .f32⟩
  | 25 => ⟨S89088x512, .f32⟩
  | 26 => ⟨S89088x512, .f32⟩
  | 27 => ⟨S89088x512, .f32⟩
  | 28 => ⟨S1x1x1024x512, .f32⟩
  | 29 => ⟨S1024x512, .f32⟩
  | 30 => ⟨S89088x512, .f32⟩
  | 31 => ⟨S89088x512, .f32⟩
  | 32 => ⟨S89088x1, .f32⟩
  | 33 => ⟨S1x1x512x1024, .f32⟩
  | 34 => ⟨S512x1024, .f32⟩
  | 35 => ⟨S89088x1024, .f32⟩
  | 36 => ⟨S89088x1, .f32⟩
  | 37 => ⟨S89088x1024, .f32⟩
  | 38 => ⟨S89088x1024, .f32⟩
  | 39 => ⟨S89088x1024, .f32⟩
  | 40 => ⟨S1x1x1024x512, .f32⟩
  | 41 => ⟨S1024x512, .f32⟩
  | 42 => ⟨S89088x512, .f32⟩
  | 43 => ⟨S89088x512, .f32⟩
  | 44 => ⟨S89088x512, .f32⟩
  | 45 => ⟨S_, .f32⟩
  | 46 => ⟨S89088x512, .f32⟩
  | 47 => ⟨S89088x512, .f32⟩
  | 48 => ⟨S_, .f32⟩
  | 49 => ⟨S89088x512, .f32⟩
  | 50 => ⟨S89088x512, .f32⟩
  | 51 => ⟨S89088x512, .f32⟩
  | 52 => ⟨S1x1x1024x512, .f32⟩
  | 53 => ⟨S1024x512, .f32⟩
  | 54 => ⟨S89088x512, .f32⟩
  | 55 => ⟨S89088x512, .f32⟩
  | 56 => ⟨S89088x1, .f32⟩
  | 57 => ⟨S1x1x512x1024, .f32⟩
  | 58 => ⟨S512x1024, .f32⟩
  | 59 => ⟨S89088x1024, .f32⟩
  | 60 => ⟨S89088x1, .f32⟩
  | 61 => ⟨S89088x1024, .f32⟩
  | 62 => ⟨S89088x1024, .f32⟩
  | 63 => ⟨S89088x1024, .f32⟩
  | 64 => ⟨S1x1x1024x512, .f32⟩
  | 65 => ⟨S1024x512, .f32⟩
  | 66 => ⟨S89088x512, .f32⟩
  | 67 => ⟨S89088x512, .f32⟩
  | 68 => ⟨S89088x512, .f32⟩
  | 69 => ⟨S_, .f32⟩
  | 70 => ⟨S89088x512, .f32⟩
  | 71 => ⟨S89088x512, .f32⟩
  | 72 => ⟨S_, .f32⟩
  | 73 => ⟨S89088x512, .f32⟩
  | 74 => ⟨S89088x512, .f32⟩
  | 75 => ⟨S89088x512, .f32⟩
  | 76 => ⟨S1x1x1024x512, .f32⟩
  | 77 => ⟨S1024x512, .f32⟩
  | 78 => ⟨S89088x512, .f32⟩
  | 79 => ⟨S89088x512, .f32⟩
  | 80 => ⟨S89088x1, .f32⟩
  | 81 => ⟨S1x1x512x1024, .f32⟩
  | 82 => ⟨S512x1024, .f32⟩
  | 83 => ⟨S89088x1024, .f32⟩
  | 84 => ⟨S89088x1, .f32⟩
  | 85 => ⟨S89088x1024, .f32⟩
  | 86 => ⟨S89088x1024, .f32⟩
  | 87 => ⟨S89088x1024, .f32⟩
  | 88 => ⟨S1x1x1024x512, .f32⟩
  | 89 => ⟨S1024x512, .f32⟩
  | 90 => ⟨S89088x512, .f32⟩
  | 91 => ⟨S89088x512, .f32⟩
  | 92 => ⟨S89088x512, .f32⟩
  | 93 => ⟨S_, .f32⟩
  | 94 => ⟨S89088x512, .f32⟩
  | 95 => ⟨S89088x512, .f32⟩
  | 96 => ⟨S_, .f32⟩
  | 97 => ⟨S89088x512, .f32⟩
  | 98 => ⟨S89088x512, .f32⟩
  | 99 => ⟨S89088x512, .f32⟩
  | 100 => ⟨S1x1x1024x512, .f32⟩
  | 101 => ⟨S1024x512, .f32⟩
  | 102 => ⟨S89088x512, .f32⟩
  | 103 => ⟨S89088x512, .f32⟩
  | 104 => ⟨S89088x1, .f32⟩
  | 105 => ⟨S1x1x512x1024, .f32⟩
  | 106 => ⟨S512x1024, .f32⟩
  | 107 => ⟨S89088x1024, .f32⟩
  | 108 => ⟨S89088x1, .f32⟩
  | 109 => ⟨S89088x1024, .f32⟩
  | 110 => ⟨S89088x1024, .f32⟩
  | 111 => ⟨S89088x1024, .f32⟩
  | 112 => ⟨S1x1x1024x512, .f32⟩
  | 113 => ⟨S1024x512, .f32⟩
  | 114 => ⟨S89088x512, .f32⟩
  | 115 => ⟨S89088x512, .f32⟩
  | 116 => ⟨S89088x512, .f32⟩
  | 117 => ⟨S_, .f32⟩
  | 118 => ⟨S89088x512, .f32⟩
  | 119 => ⟨S89088x512, .f32⟩
  | 120 => ⟨S_, .f32⟩
  | 121 => ⟨S89088x512, .f32⟩
  | 122 => ⟨S89088x512, .f32⟩
  | 123 => ⟨S89088x512, .f32⟩
  | 124 => ⟨S1x1x1024x512, .f32⟩
  | 125 => ⟨S1024x512, .f32⟩
  | 126 => ⟨S89088x512, .f32⟩
  | 127 => ⟨S89088x512, .f32⟩
  | _ => ⟨S174, .i32⟩

abbrev hbmTy0_2 (i : Nat) : BufTy := match i % 128 with
  | 0 => ⟨S89088x1, .f32⟩
  | 1 => ⟨S1x1x512x1024, .f32⟩
  | 2 => ⟨S512x1024, .f32⟩
  | 3 => ⟨S89088x1024, .f32⟩
  | 4 => ⟨S89088x1, .f32⟩
  | 5 => ⟨S89088x1024, .f32⟩
  | 6 => ⟨S89088x1024, .f32⟩
  | 7 => ⟨S89088x1024, .f32⟩
  | 8 => ⟨S1x1x1024x512, .f32⟩
  | 9 => ⟨S1024x512, .f32⟩
  | 10 => ⟨S89088x512, .f32⟩
  | 11 => ⟨S89088x512, .f32⟩
  | 12 => ⟨S89088x512, .f32⟩
  | 13 => ⟨S_, .f32⟩
  | 14 => ⟨S89088x512, .f32⟩
  | 15 => ⟨S89088x512, .f32⟩
  | 16 => ⟨S_, .f32⟩
  | 17 => ⟨S89088x512, .f32⟩
  | 18 => ⟨S89088x512, .f32⟩
  | 19 => ⟨S89088x512, .f32⟩
  | 20 => ⟨S1x1x1024x512, .f32⟩
  | 21 => ⟨S1024x512, .f32⟩
  | 22 => ⟨S89088x512, .f32⟩
  | 23 => ⟨S89088x512, .f32⟩
  | 24 => ⟨S89088x1, .f32⟩
  | 25 => ⟨S1x1x512x1024, .f32⟩
  | 26 => ⟨S512x1024, .f32⟩
  | 27 => ⟨S89088x1024, .f32⟩
  | 28 => ⟨S89088x1, .f32⟩
  | 29 => ⟨S89088x1024, .f32⟩
  | 30 => ⟨S89088x1024, .f32⟩
  | 31 => ⟨S89088x1024, .f32⟩
  | 32 => ⟨S1x1x1024x512, .f32⟩
  | 33 => ⟨S1024x512, .f32⟩
  | 34 => ⟨S89088x512, .f32⟩
  | 35 => ⟨S89088x512, .f32⟩
  | 36 => ⟨S89088x512, .f32⟩
  | 37 => ⟨S_, .f32⟩
  | 38 => ⟨S89088x512, .f32⟩
  | 39 => ⟨S89088x512, .f32⟩
  | 40 => ⟨S_, .f32⟩
  | 41 => ⟨S89088x512, .f32⟩
  | 42 => ⟨S89088x512, .f32⟩
  | 43 => ⟨S89088x512, .f32⟩
  | 44 => ⟨S1x1x1024x512, .f32⟩
  | 45 => ⟨S1024x512, .f32⟩
  | 46 => ⟨S89088x512, .f32⟩
  | 47 => ⟨S89088x512, .f32⟩
  | 48 => ⟨S89088x1, .f32⟩
  | 49 => ⟨S1x1x512x1024, .f32⟩
  | 50 => ⟨S512x1024, .f32⟩
  | 51 => ⟨S89088x1024, .f32⟩
  | 52 => ⟨S89088x1, .f32⟩
  | 53 => ⟨S89088x1024, .f32⟩
  | 54 => ⟨S89088x1024, .f32⟩
  | 55 => ⟨S89088x1024, .f32⟩
  | 56 => ⟨S1x1x1024x512, .f32⟩
  | 57 => ⟨S1024x512, .f32⟩
  | 58 => ⟨S89088x512, .f32⟩
  | 59 => ⟨S89088x512, .f32⟩
  | 60 => ⟨S89088x512, .f32⟩
  | 61 => ⟨S_, .f32⟩
  | 62 => ⟨S89088x512, .f32⟩
  | 63 => ⟨S89088x512, .f32⟩
  | 64 => ⟨S_, .f32⟩
  | 65 => ⟨S89088x512, .f32⟩
  | 66 => ⟨S89088x512, .f32⟩
  | 67 => ⟨S89088x512, .f32⟩
  | 68 => ⟨S1x1x1024x512, .f32⟩
  | 69 => ⟨S1024x512, .f32⟩
  | 70 => ⟨S89088x512, .f32⟩
  | 71 => ⟨S89088x512, .f32⟩
  | 72 => ⟨S89088x1, .f32⟩
  | 73 => ⟨S1x1x512x1024, .f32⟩
  | 74 => ⟨S512x1024, .f32⟩
  | 75 => ⟨S89088x1024, .f32⟩
  | 76 => ⟨S89088x1, .f32⟩
  | 77 => ⟨S89088x1024, .f32⟩
  | 78 => ⟨S89088x1024, .f32⟩
  | 79 => ⟨S89088x1024, .f32⟩
  | 80 => ⟨S1x1x1024x512, .f32⟩
  | 81 => ⟨S1024x512, .f32⟩
  | 82 => ⟨S89088x512, .f32⟩
  | 83 => ⟨S89088x512, .f32⟩
  | 84 => ⟨S89088x512, .f32⟩
  | 85 => ⟨S_, .f32⟩
  | 86 => ⟨S89088x512, .f32⟩
  | 87 => ⟨S89088x512, .f32⟩
  | 88 => ⟨S_, .f32⟩
  | 89 => ⟨S89088x512, .f32⟩
  | 90 => ⟨S89088x512, .f32⟩
  | 91 => ⟨S89088x512, .f32⟩
  | 92 => ⟨S1x1x1024x512, .f32⟩
  | 93 => ⟨S1024x512, .f32⟩
  | 94 => ⟨S89088x512, .f32⟩
  | 95 => ⟨S89088x512, .f32⟩
  | 96 => ⟨S89088x1, .f32⟩
  | 97 => ⟨S1x1x512x1024, .f32⟩
  | 98 => ⟨S512x1024, .f32⟩
  | 99 => ⟨S89088x1024, .f32⟩
  | 100 => ⟨S89088x1, .f32⟩
  | 101 => ⟨S89088x1024, .f32⟩
  | 102 => ⟨S89088x1024, .f32⟩
  | 103 => ⟨S89088x1024, .f32⟩
  | 104 => ⟨S1x1x1024x512, .f32⟩
  | 105 => ⟨S1024x512, .f32⟩
  | 106 => ⟨S89088x512, .f32⟩
  | 107 => ⟨S89088x512, .f32⟩
  | 108 => ⟨S89088x512, .f32⟩
  | 109 => ⟨S_, .f32⟩
  | 110 => ⟨S89088x512, .f32⟩
  | 111 => ⟨S89088x512, .f32⟩
  | 112 => ⟨S_, .f32⟩
  | 113 => ⟨S89088x512, .f32⟩
  | 114 => ⟨S89088x512, .f32⟩
  | 115 => ⟨S89088x512, .f32⟩
  | 116 => ⟨S1x1x1024x512, .f32⟩
  | 117 => ⟨S1024x512, .f32⟩
  | 118 => ⟨S89088x512, .f32⟩
  | 119 => ⟨S89088x512, .f32⟩
  | 120 => ⟨S89088x1, .f32⟩
  | 121 => ⟨S1x1x512x1024, .f32⟩
  | 122 => ⟨S512x1024, .f32⟩
  | 123 => ⟨S89088x1024, .f32⟩
  | 124 => ⟨S89088x1, .f32⟩
  | 125 => ⟨S89088x1024, .f32⟩
  | 126 => ⟨S89088x1024, .f32⟩
  | 127 => ⟨S89088x1024, .f32⟩
  | _ => ⟨S174, .i32⟩

abbrev hbmTy0_3 (i : Nat) : BufTy := match i % 128 with
  | 0 => ⟨S1x1x1024x512, .f32⟩
  | 1 => ⟨S1024x512, .f32⟩
  | 2 => ⟨S89088x512, .f32⟩
  | 3 => ⟨S89088x512, .f32⟩
  | 4 => ⟨S89088x512, .f32⟩
  | 5 => ⟨S_, .f32⟩
  | 6 => ⟨S89088x512, .f32⟩
  | 7 => ⟨S89088x512, .f32⟩
  | 8 => ⟨S_, .f32⟩
  | 9 => ⟨S89088x512, .f32⟩
  | 10 => ⟨S89088x512, .f32⟩
  | 11 => ⟨S89088x512, .f32⟩
  | 12 => ⟨S1x1x1024x512, .f32⟩
  | 13 => ⟨S1024x512, .f32⟩
  | 14 => ⟨S89088x512, .f32⟩
  | 15 => ⟨S89088x512, .f32⟩
  | 16 => ⟨S89088x1, .f32⟩
  | 17 => ⟨S1x1x512x1024, .f32⟩
  | 18 => ⟨S512x1024, .f32⟩
  | 19 => ⟨S89088x1024, .f32⟩
  | 20 => ⟨S89088x1, .f32⟩
  | 21 => ⟨S89088x1024, .f32⟩
  | 22 => ⟨S89088x1024, .f32⟩
  | 23 => ⟨S89088x1024, .f32⟩
  | 24 => ⟨S1x1x1024x512, .f32⟩
  | 25 => ⟨S1024x512, .f32⟩
  | 26 => ⟨S89088x512, .f32⟩
  | 27 => ⟨S89088x512, .f32⟩
  | 28 => ⟨S89088x512, .f32⟩
  | 29 => ⟨S_, .f32⟩
  | 30 => ⟨S89088x512, .f32⟩
  | 31 => ⟨S89088x512, .f32⟩
  | 32 => ⟨S_, .f32⟩
  | 33 => ⟨S89088x512, .f32⟩
  | 34 => ⟨S89088x512, .f32⟩
  | 35 => ⟨S89088x512, .f32⟩
  | 36 => ⟨S1x1x1024x512, .f32⟩
  | 37 => ⟨S1024x512, .f32⟩
  | 38 => ⟨S89088x512, .f32⟩
  | 39 => ⟨S89088x512, .f32⟩
  | 40 => ⟨S89088x1, .f32⟩
  | 41 => ⟨S1x1x512x1024, .f32⟩
  | 42 => ⟨S512x1024, .f32⟩
  | 43 => ⟨S89088x1024, .f32⟩
  | 44 => ⟨S89088x1, .f32⟩
  | 45 => ⟨S89088x1024, .f32⟩
  | 46 => ⟨S89088x1024, .f32⟩
  | 47 => ⟨S89088x1024, .f32⟩
  | 48 => ⟨S89088x1024, .bf16⟩
  | _ => ⟨S174, .i32⟩

abbrev hbmTy (i : Nat) : BufTy := match i / 128 with
  | 0 => hbmTy0_0 i
  | 1 => hbmTy0_1 i
  | 2 => hbmTy0_2 i
  | 3 => hbmTy0_3 i
  | _ => ⟨S174, .i32⟩

abbrev bufTy : (tb : Table) → Fin (tcTables nBuf tb) → BufTy
  | .hbm, ⟨i, _⟩ => hbmTy i
  | _, _ => ⟨S174, .i32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_c : Ref sig .tc := ⟨.hbm, 7, rfl⟩
abbrev main_call0_v0 : Ref sig .tc := ⟨.hbm, 8, rfl⟩
abbrev main_call0_v1 : Ref sig .tc := ⟨.hbm, 9, rfl⟩
abbrev main_call0_v2 : Ref sig .tc := ⟨.hbm, 10, rfl⟩
abbrev main_call0_v3 : Ref sig .tc := ⟨.hbm, 11, rfl⟩
abbrev main_call0_v4 : Ref sig .tc := ⟨.hbm, 12, rfl⟩
abbrev main_call0_v5 : Ref sig .tc := ⟨.hbm, 13, rfl⟩
abbrev main_call0_v6 : Ref sig .tc := ⟨.hbm, 14, rfl⟩
abbrev main_call0_v7 : Ref sig .tc := ⟨.hbm, 15, rfl⟩
abbrev main_call0_v8 : Ref sig .tc := ⟨.hbm, 16, rfl⟩
abbrev main_call0_c : Ref sig .tc := ⟨.hbm, 17, rfl⟩
abbrev main_call0_v9 : Ref sig .tc := ⟨.hbm, 18, rfl⟩
abbrev main_call0_v10 : Ref sig .tc := ⟨.hbm, 19, rfl⟩
abbrev main_call0_v11 : Ref sig .tc := ⟨.hbm, 20, rfl⟩
abbrev main_call0_c_0 : Ref sig .tc := ⟨.hbm, 21, rfl⟩
abbrev main_call0_v12 : Ref sig .tc := ⟨.hbm, 22, rfl⟩
abbrev main_call0_v13 : Ref sig .tc := ⟨.hbm, 23, rfl⟩
abbrev main_v1 : Ref sig .tc := ⟨.hbm, 24, rfl⟩
abbrev main_v2 : Ref sig .tc := ⟨.hbm, 25, rfl⟩
abbrev main_v3 : Ref sig .tc := ⟨.hbm, 26, rfl⟩
abbrev main_v4 : Ref sig .tc := ⟨.hbm, 27, rfl⟩
abbrev main_v5 : Ref sig .tc := ⟨.hbm, 28, rfl⟩
abbrev main_v6 : Ref sig .tc := ⟨.hbm, 29, rfl⟩
abbrev main_c_0 : Ref sig .tc := ⟨.hbm, 30, rfl⟩
abbrev main_call1_v0 : Ref sig .tc := ⟨.hbm, 31, rfl⟩
abbrev main_call1_v1 : Ref sig .tc := ⟨.hbm, 32, rfl⟩
abbrev main_v7 : Ref sig .tc := ⟨.hbm, 33, rfl⟩
abbrev main_v8 : Ref sig .tc := ⟨.hbm, 34, rfl⟩
abbrev main_cst : Ref sig .tc := ⟨.hbm, 35, rfl⟩
abbrev main_v9 : Ref sig .tc := ⟨.hbm, 36, rfl⟩
abbrev main_v10 : Ref sig .tc := ⟨.hbm, 37, rfl⟩
abbrev main_v11 : Ref sig .tc := ⟨.hbm, 38, rfl⟩
abbrev main_v12 : Ref sig .tc := ⟨.hbm, 39, rfl⟩
abbrev main_v13 : Ref sig .tc := ⟨.hbm, 40, rfl⟩
abbrev main_v14 : Ref sig .tc := ⟨.hbm, 41, rfl⟩
abbrev main_v15 : Ref sig .tc := ⟨.hbm, 42, rfl⟩
abbrev main_cst_1 : Ref sig .tc := ⟨.hbm, 43, rfl⟩
abbrev main_cst_2 : Ref sig .tc := ⟨.hbm, 44, rfl⟩
abbrev main_call2_v0 : Ref sig .tc := ⟨.hbm, 45, rfl⟩
abbrev main_call2_v1 : Ref sig .tc := ⟨.hbm, 46, rfl⟩
abbrev main_v16 : Ref sig .tc := ⟨.hbm, 47, rfl⟩
abbrev main_v17 : Ref sig .tc := ⟨.hbm, 48, rfl⟩
abbrev main_v18 : Ref sig .tc := ⟨.hbm, 49, rfl⟩
abbrev main_v19 : Ref sig .tc := ⟨.hbm, 50, rfl⟩
abbrev main_call3_v0 : Ref sig .tc := ⟨.hbm, 51, rfl⟩
abbrev main_call3_v1 : Ref sig .tc := ⟨.hbm, 52, rfl⟩
abbrev main_call3_cst : Ref sig .tc := ⟨.hbm, 53, rfl⟩
abbrev main_call3_v2 : Ref sig .tc := ⟨.hbm, 54, rfl⟩
abbrev main_call3_v3 : Ref sig .tc := ⟨.hbm, 55, rfl⟩
abbrev main_call3_cst_0 : Ref sig .tc := ⟨.hbm, 56, rfl⟩
abbrev main_call3_v4 : Ref sig .tc := ⟨.hbm, 57, rfl⟩
abbrev main_call3_v5 : Ref sig .tc := ⟨.hbm, 58, rfl⟩
abbrev main_v20 : Ref sig .tc := ⟨.hbm, 59, rfl⟩
abbrev main_v21 : Ref sig .tc := ⟨.hbm, 60, rfl⟩
abbrev main_v22 : Ref sig .tc := ⟨.hbm, 61, rfl⟩
abbrev main_v23 : Ref sig .tc := ⟨.hbm, 62, rfl⟩
abbrev main_v24 : Ref sig .tc := ⟨.hbm, 63, rfl⟩
abbrev main_v25 : Ref sig .tc := ⟨.hbm, 64, rfl⟩
abbrev main_v26 : Ref sig .tc := ⟨.hbm, 65, rfl⟩
abbrev main_v27 : Ref sig .tc := ⟨.hbm, 66, rfl⟩
abbrev main_v28 : Ref sig .tc := ⟨.hbm, 67, rfl⟩
abbrev main_v29 : Ref sig .tc := ⟨.hbm, 68, rfl⟩
abbrev main_v30 : Ref sig .tc := ⟨.hbm, 69, rfl⟩
abbrev main_v31 : Ref sig .tc := ⟨.hbm, 70, rfl⟩
abbrev main_v32 : Ref sig .tc := ⟨.hbm, 71, rfl⟩
abbrev main_v33 : Ref sig .tc := ⟨.hbm, 72, rfl⟩
abbrev main_v34 : Ref sig .tc := ⟨.hbm, 73, rfl⟩
abbrev main_v35 : Ref sig .tc := ⟨.hbm, 74, rfl⟩
abbrev main_call4_v0 : Ref sig .tc := ⟨.hbm, 75, rfl⟩
abbrev main_call4_v1 : Ref sig .tc := ⟨.hbm, 76, rfl⟩
abbrev main_call4_cst : Ref sig .tc := ⟨.hbm, 77, rfl⟩
abbrev main_call4_v2 : Ref sig .tc := ⟨.hbm, 78, rfl⟩
abbrev main_call4_v3 : Ref sig .tc := ⟨.hbm, 79, rfl⟩
abbrev main_call4_cst_0 : Ref sig .tc := ⟨.hbm, 80, rfl⟩
abbrev main_call4_v4 : Ref sig .tc := ⟨.hbm, 81, rfl⟩
abbrev main_call4_v5 : Ref sig .tc := ⟨.hbm, 82, rfl⟩
abbrev main_v36 : Ref sig .tc := ⟨.hbm, 83, rfl⟩
abbrev main_v37 : Ref sig .tc := ⟨.hbm, 84, rfl⟩
abbrev main_v38 : Ref sig .tc := ⟨.hbm, 85, rfl⟩
abbrev main_v39 : Ref sig .tc := ⟨.hbm, 86, rfl⟩
abbrev main_v40 : Ref sig .tc := ⟨.hbm, 87, rfl⟩
abbrev main_v41 : Ref sig .tc := ⟨.hbm, 88, rfl⟩
abbrev main_v42 : Ref sig .tc := ⟨.hbm, 89, rfl⟩
abbrev main_v43 : Ref sig .tc := ⟨.hbm, 90, rfl⟩
abbrev main_v44 : Ref sig .tc := ⟨.hbm, 91, rfl⟩
abbrev main_v45 : Ref sig .tc := ⟨.hbm, 92, rfl⟩
abbrev main_v46 : Ref sig .tc := ⟨.hbm, 93, rfl⟩
abbrev main_v47 : Ref sig .tc := ⟨.hbm, 94, rfl⟩
abbrev main_v48 : Ref sig .tc := ⟨.hbm, 95, rfl⟩
abbrev main_v49 : Ref sig .tc := ⟨.hbm, 96, rfl⟩
abbrev main_v50 : Ref sig .tc := ⟨.hbm, 97, rfl⟩
abbrev main_v51 : Ref sig .tc := ⟨.hbm, 98, rfl⟩
abbrev main_call5_v0 : Ref sig .tc := ⟨.hbm, 99, rfl⟩
abbrev main_call5_v1 : Ref sig .tc := ⟨.hbm, 100, rfl⟩
abbrev main_call5_cst : Ref sig .tc := ⟨.hbm, 101, rfl⟩
abbrev main_call5_v2 : Ref sig .tc := ⟨.hbm, 102, rfl⟩
abbrev main_call5_v3 : Ref sig .tc := ⟨.hbm, 103, rfl⟩
abbrev main_call5_cst_0 : Ref sig .tc := ⟨.hbm, 104, rfl⟩
abbrev main_call5_v4 : Ref sig .tc := ⟨.hbm, 105, rfl⟩
abbrev main_call5_v5 : Ref sig .tc := ⟨.hbm, 106, rfl⟩
abbrev main_v52 : Ref sig .tc := ⟨.hbm, 107, rfl⟩
abbrev main_v53 : Ref sig .tc := ⟨.hbm, 108, rfl⟩
abbrev main_v54 : Ref sig .tc := ⟨.hbm, 109, rfl⟩
abbrev main_v55 : Ref sig .tc := ⟨.hbm, 110, rfl⟩
abbrev main_v56 : Ref sig .tc := ⟨.hbm, 111, rfl⟩
abbrev main_v57 : Ref sig .tc := ⟨.hbm, 112, rfl⟩
abbrev main_v58 : Ref sig .tc := ⟨.hbm, 113, rfl⟩
abbrev main_v59 : Ref sig .tc := ⟨.hbm, 114, rfl⟩
abbrev main_v60 : Ref sig .tc := ⟨.hbm, 115, rfl⟩
abbrev main_v61 : Ref sig .tc := ⟨.hbm, 116, rfl⟩
abbrev main_v62 : Ref sig .tc := ⟨.hbm, 117, rfl⟩
abbrev main_v63 : Ref sig .tc := ⟨.hbm, 118, rfl⟩
abbrev main_v64 : Ref sig .tc := ⟨.hbm, 119, rfl⟩
abbrev main_v65 : Ref sig .tc := ⟨.hbm, 120, rfl⟩
abbrev main_v66 : Ref sig .tc := ⟨.hbm, 121, rfl⟩
abbrev main_v67 : Ref sig .tc := ⟨.hbm, 122, rfl⟩
abbrev main_call6_v0 : Ref sig .tc := ⟨.hbm, 123, rfl⟩
abbrev main_call6_v1 : Ref sig .tc := ⟨.hbm, 124, rfl⟩
abbrev main_call6_cst : Ref sig .tc := ⟨.hbm, 125, rfl⟩
abbrev main_call6_v2 : Ref sig .tc := ⟨.hbm, 126, rfl⟩
abbrev main_call6_v3 : Ref sig .tc := ⟨.hbm, 127, rfl⟩
abbrev main_call6_cst_0 : Ref sig .tc := ⟨.hbm, 128, rfl⟩
abbrev main_call6_v4 : Ref sig .tc := ⟨.hbm, 129, rfl⟩
abbrev main_call6_v5 : Ref sig .tc := ⟨.hbm, 130, rfl⟩
abbrev main_v68 : Ref sig .tc := ⟨.hbm, 131, rfl⟩
abbrev main_v69 : Ref sig .tc := ⟨.hbm, 132, rfl⟩
abbrev main_v70 : Ref sig .tc := ⟨.hbm, 133, rfl⟩
abbrev main_v71 : Ref sig .tc := ⟨.hbm, 134, rfl⟩
abbrev main_v72 : Ref sig .tc := ⟨.hbm, 135, rfl⟩
abbrev main_v73 : Ref sig .tc := ⟨.hbm, 136, rfl⟩
abbrev main_v74 : Ref sig .tc := ⟨.hbm, 137, rfl⟩
abbrev main_v75 : Ref sig .tc := ⟨.hbm, 138, rfl⟩
abbrev main_v76 : Ref sig .tc := ⟨.hbm, 139, rfl⟩
abbrev main_v77 : Ref sig .tc := ⟨.hbm, 140, rfl⟩
abbrev main_v78 : Ref sig .tc := ⟨.hbm, 141, rfl⟩
abbrev main_v79 : Ref sig .tc := ⟨.hbm, 142, rfl⟩
abbrev main_v80 : Ref sig .tc := ⟨.hbm, 143, rfl⟩
abbrev main_v81 : Ref sig .tc := ⟨.hbm, 144, rfl⟩
abbrev main_v82 : Ref sig .tc := ⟨.hbm, 145, rfl⟩
abbrev main_v83 : Ref sig .tc := ⟨.hbm, 146, rfl⟩
abbrev main_call7_v0 : Ref sig .tc := ⟨.hbm, 147, rfl⟩
abbrev main_call7_v1 : Ref sig .tc := ⟨.hbm, 148, rfl⟩
abbrev main_call7_cst : Ref sig .tc := ⟨.hbm, 149, rfl⟩
abbrev main_call7_v2 : Ref sig .tc := ⟨.hbm, 150, rfl⟩
abbrev main_call7_v3 : Ref sig .tc := ⟨.hbm, 151, rfl⟩
abbrev main_call7_cst_0 : Ref sig .tc := ⟨.hbm, 152, rfl⟩
abbrev main_call7_v4 : Ref sig .tc := ⟨.hbm, 153, rfl⟩
abbrev main_call7_v5 : Ref sig .tc := ⟨.hbm, 154, rfl⟩
abbrev main_v84 : Ref sig .tc := ⟨.hbm, 155, rfl⟩
abbrev main_v85 : Ref sig .tc := ⟨.hbm, 156, rfl⟩
abbrev main_v86 : Ref sig .tc := ⟨.hbm, 157, rfl⟩
abbrev main_v87 : Ref sig .tc := ⟨.hbm, 158, rfl⟩
abbrev main_v88 : Ref sig .tc := ⟨.hbm, 159, rfl⟩
abbrev main_v89 : Ref sig .tc := ⟨.hbm, 160, rfl⟩
abbrev main_v90 : Ref sig .tc := ⟨.hbm, 161, rfl⟩
abbrev main_v91 : Ref sig .tc := ⟨.hbm, 162, rfl⟩
abbrev main_v92 : Ref sig .tc := ⟨.hbm, 163, rfl⟩
abbrev main_v93 : Ref sig .tc := ⟨.hbm, 164, rfl⟩
abbrev main_v94 : Ref sig .tc := ⟨.hbm, 165, rfl⟩
abbrev main_v95 : Ref sig .tc := ⟨.hbm, 166, rfl⟩
abbrev main_v96 : Ref sig .tc := ⟨.hbm, 167, rfl⟩
abbrev main_v97 : Ref sig .tc := ⟨.hbm, 168, rfl⟩
abbrev main_v98 : Ref sig .tc := ⟨.hbm, 169, rfl⟩
abbrev main_v99 : Ref sig .tc := ⟨.hbm, 170, rfl⟩
abbrev main_call8_v0 : Ref sig .tc := ⟨.hbm, 171, rfl⟩
abbrev main_call8_v1 : Ref sig .tc := ⟨.hbm, 172, rfl⟩
abbrev main_call8_cst : Ref sig .tc := ⟨.hbm, 173, rfl⟩
abbrev main_call8_v2 : Ref sig .tc := ⟨.hbm, 174, rfl⟩
abbrev main_call8_v3 : Ref sig .tc := ⟨.hbm, 175, rfl⟩
abbrev main_call8_cst_0 : Ref sig .tc := ⟨.hbm, 176, rfl⟩
abbrev main_call8_v4 : Ref sig .tc := ⟨.hbm, 177, rfl⟩
abbrev main_call8_v5 : Ref sig .tc := ⟨.hbm, 178, rfl⟩
abbrev main_v100 : Ref sig .tc := ⟨.hbm, 179, rfl⟩
abbrev main_v101 : Ref sig .tc := ⟨.hbm, 180, rfl⟩
abbrev main_v102 : Ref sig .tc := ⟨.hbm, 181, rfl⟩
abbrev main_v103 : Ref sig .tc := ⟨.hbm, 182, rfl⟩
abbrev main_v104 : Ref sig .tc := ⟨.hbm, 183, rfl⟩
abbrev main_v105 : Ref sig .tc := ⟨.hbm, 184, rfl⟩
abbrev main_v106 : Ref sig .tc := ⟨.hbm, 185, rfl⟩
abbrev main_v107 : Ref sig .tc := ⟨.hbm, 186, rfl⟩
abbrev main_v108 : Ref sig .tc := ⟨.hbm, 187, rfl⟩
abbrev main_v109 : Ref sig .tc := ⟨.hbm, 188, rfl⟩
abbrev main_v110 : Ref sig .tc := ⟨.hbm, 189, rfl⟩
abbrev main_v111 : Ref sig .tc := ⟨.hbm, 190, rfl⟩
abbrev main_v112 : Ref sig .tc := ⟨.hbm, 191, rfl⟩
abbrev main_v113 : Ref sig .tc := ⟨.hbm, 192, rfl⟩
abbrev main_v114 : Ref sig .tc := ⟨.hbm, 193, rfl⟩
abbrev main_v115 : Ref sig .tc := ⟨.hbm, 194, rfl⟩
abbrev main_call9_v0 : Ref sig .tc := ⟨.hbm, 195, rfl⟩
abbrev main_call9_v1 : Ref sig .tc := ⟨.hbm, 196, rfl⟩
abbrev main_call9_cst : Ref sig .tc := ⟨.hbm, 197, rfl⟩
abbrev main_call9_v2 : Ref sig .tc := ⟨.hbm, 198, rfl⟩
abbrev main_call9_v3 : Ref sig .tc := ⟨.hbm, 199, rfl⟩
abbrev main_call9_cst_0 : Ref sig .tc := ⟨.hbm, 200, rfl⟩
abbrev main_call9_v4 : Ref sig .tc := ⟨.hbm, 201, rfl⟩
abbrev main_call9_v5 : Ref sig .tc := ⟨.hbm, 202, rfl⟩
abbrev main_v116 : Ref sig .tc := ⟨.hbm, 203, rfl⟩
abbrev main_v117 : Ref sig .tc := ⟨.hbm, 204, rfl⟩
abbrev main_v118 : Ref sig .tc := ⟨.hbm, 205, rfl⟩
abbrev main_v119 : Ref sig .tc := ⟨.hbm, 206, rfl⟩
abbrev main_v120 : Ref sig .tc := ⟨.hbm, 207, rfl⟩
abbrev main_v121 : Ref sig .tc := ⟨.hbm, 208, rfl⟩
abbrev main_v122 : Ref sig .tc := ⟨.hbm, 209, rfl⟩
abbrev main_v123 : Ref sig .tc := ⟨.hbm, 210, rfl⟩
abbrev main_v124 : Ref sig .tc := ⟨.hbm, 211, rfl⟩
abbrev main_v125 : Ref sig .tc := ⟨.hbm, 212, rfl⟩
abbrev main_v126 : Ref sig .tc := ⟨.hbm, 213, rfl⟩
abbrev main_v127 : Ref sig .tc := ⟨.hbm, 214, rfl⟩
abbrev main_v128 : Ref sig .tc := ⟨.hbm, 215, rfl⟩
abbrev main_v129 : Ref sig .tc := ⟨.hbm, 216, rfl⟩
abbrev main_v130 : Ref sig .tc := ⟨.hbm, 217, rfl⟩
abbrev main_v131 : Ref sig .tc := ⟨.hbm, 218, rfl⟩
abbrev main_call10_v0 : Ref sig .tc := ⟨.hbm, 219, rfl⟩
abbrev main_call10_v1 : Ref sig .tc := ⟨.hbm, 220, rfl⟩
abbrev main_call10_cst : Ref sig .tc := ⟨.hbm, 221, rfl⟩
abbrev main_call10_v2 : Ref sig .tc := ⟨.hbm, 222, rfl⟩
abbrev main_call10_v3 : Ref sig .tc := ⟨.hbm, 223, rfl⟩
abbrev main_call10_cst_0 : Ref sig .tc := ⟨.hbm, 224, rfl⟩
abbrev main_call10_v4 : Ref sig .tc := ⟨.hbm, 225, rfl⟩
abbrev main_call10_v5 : Ref sig .tc := ⟨.hbm, 226, rfl⟩
abbrev main_v132 : Ref sig .tc := ⟨.hbm, 227, rfl⟩
abbrev main_v133 : Ref sig .tc := ⟨.hbm, 228, rfl⟩
abbrev main_v134 : Ref sig .tc := ⟨.hbm, 229, rfl⟩
abbrev main_v135 : Ref sig .tc := ⟨.hbm, 230, rfl⟩
abbrev main_v136 : Ref sig .tc := ⟨.hbm, 231, rfl⟩
abbrev main_v137 : Ref sig .tc := ⟨.hbm, 232, rfl⟩
abbrev main_v138 : Ref sig .tc := ⟨.hbm, 233, rfl⟩
abbrev main_v139 : Ref sig .tc := ⟨.hbm, 234, rfl⟩
abbrev main_v140 : Ref sig .tc := ⟨.hbm, 235, rfl⟩
abbrev main_v141 : Ref sig .tc := ⟨.hbm, 236, rfl⟩
abbrev main_v142 : Ref sig .tc := ⟨.hbm, 237, rfl⟩
abbrev main_v143 : Ref sig .tc := ⟨.hbm, 238, rfl⟩
abbrev main_v144 : Ref sig .tc := ⟨.hbm, 239, rfl⟩
abbrev main_v145 : Ref sig .tc := ⟨.hbm, 240, rfl⟩
abbrev main_v146 : Ref sig .tc := ⟨.hbm, 241, rfl⟩
abbrev main_v147 : Ref sig .tc := ⟨.hbm, 242, rfl⟩
abbrev main_call11_v0 : Ref sig .tc := ⟨.hbm, 243, rfl⟩
abbrev main_call11_v1 : Ref sig .tc := ⟨.hbm, 244, rfl⟩
abbrev main_call11_cst : Ref sig .tc := ⟨.hbm, 245, rfl⟩
abbrev main_call11_v2 : Ref sig .tc := ⟨.hbm, 246, rfl⟩
abbrev main_call11_v3 : Ref sig .tc := ⟨.hbm, 247, rfl⟩
abbrev main_call11_cst_0 : Ref sig .tc := ⟨.hbm, 248, rfl⟩
abbrev main_call11_v4 : Ref sig .tc := ⟨.hbm, 249, rfl⟩
abbrev main_call11_v5 : Ref sig .tc := ⟨.hbm, 250, rfl⟩
abbrev main_v148 : Ref sig .tc := ⟨.hbm, 251, rfl⟩
abbrev main_v149 : Ref sig .tc := ⟨.hbm, 252, rfl⟩
abbrev main_v150 : Ref sig .tc := ⟨.hbm, 253, rfl⟩
abbrev main_v151 : Ref sig .tc := ⟨.hbm, 254, rfl⟩
abbrev main_v152 : Ref sig .tc := ⟨.hbm, 255, rfl⟩
abbrev main_v153 : Ref sig .tc := ⟨.hbm, 256, rfl⟩
abbrev main_v154 : Ref sig .tc := ⟨.hbm, 257, rfl⟩
abbrev main_v155 : Ref sig .tc := ⟨.hbm, 258, rfl⟩
abbrev main_v156 : Ref sig .tc := ⟨.hbm, 259, rfl⟩
abbrev main_v157 : Ref sig .tc := ⟨.hbm, 260, rfl⟩
abbrev main_v158 : Ref sig .tc := ⟨.hbm, 261, rfl⟩
abbrev main_v159 : Ref sig .tc := ⟨.hbm, 262, rfl⟩
abbrev main_v160 : Ref sig .tc := ⟨.hbm, 263, rfl⟩
abbrev main_v161 : Ref sig .tc := ⟨.hbm, 264, rfl⟩
abbrev main_v162 : Ref sig .tc := ⟨.hbm, 265, rfl⟩
abbrev main_v163 : Ref sig .tc := ⟨.hbm, 266, rfl⟩
abbrev main_call12_v0 : Ref sig .tc := ⟨.hbm, 267, rfl⟩
abbrev main_call12_v1 : Ref sig .tc := ⟨.hbm, 268, rfl⟩
abbrev main_call12_cst : Ref sig .tc := ⟨.hbm, 269, rfl⟩
abbrev main_call12_v2 : Ref sig .tc := ⟨.hbm, 270, rfl⟩
abbrev main_call12_v3 : Ref sig .tc := ⟨.hbm, 271, rfl⟩
abbrev main_call12_cst_0 : Ref sig .tc := ⟨.hbm, 272, rfl⟩
abbrev main_call12_v4 : Ref sig .tc := ⟨.hbm, 273, rfl⟩
abbrev main_call12_v5 : Ref sig .tc := ⟨.hbm, 274, rfl⟩
abbrev main_v164 : Ref sig .tc := ⟨.hbm, 275, rfl⟩
abbrev main_v165 : Ref sig .tc := ⟨.hbm, 276, rfl⟩
abbrev main_v166 : Ref sig .tc := ⟨.hbm, 277, rfl⟩
abbrev main_v167 : Ref sig .tc := ⟨.hbm, 278, rfl⟩
abbrev main_v168 : Ref sig .tc := ⟨.hbm, 279, rfl⟩
abbrev main_v169 : Ref sig .tc := ⟨.hbm, 280, rfl⟩
abbrev main_v170 : Ref sig .tc := ⟨.hbm, 281, rfl⟩
abbrev main_v171 : Ref sig .tc := ⟨.hbm, 282, rfl⟩
abbrev main_v172 : Ref sig .tc := ⟨.hbm, 283, rfl⟩
abbrev main_v173 : Ref sig .tc := ⟨.hbm, 284, rfl⟩
abbrev main_v174 : Ref sig .tc := ⟨.hbm, 285, rfl⟩
abbrev main_v175 : Ref sig .tc := ⟨.hbm, 286, rfl⟩
abbrev main_v176 : Ref sig .tc := ⟨.hbm, 287, rfl⟩
abbrev main_v177 : Ref sig .tc := ⟨.hbm, 288, rfl⟩
abbrev main_v178 : Ref sig .tc := ⟨.hbm, 289, rfl⟩
abbrev main_v179 : Ref sig .tc := ⟨.hbm, 290, rfl⟩
abbrev main_call13_v0 : Ref sig .tc := ⟨.hbm, 291, rfl⟩
abbrev main_call13_v1 : Ref sig .tc := ⟨.hbm, 292, rfl⟩
abbrev main_call13_cst : Ref sig .tc := ⟨.hbm, 293, rfl⟩
abbrev main_call13_v2 : Ref sig .tc := ⟨.hbm, 294, rfl⟩
abbrev main_call13_v3 : Ref sig .tc := ⟨.hbm, 295, rfl⟩
abbrev main_call13_cst_0 : Ref sig .tc := ⟨.hbm, 296, rfl⟩
abbrev main_call13_v4 : Ref sig .tc := ⟨.hbm, 297, rfl⟩
abbrev main_call13_v5 : Ref sig .tc := ⟨.hbm, 298, rfl⟩
abbrev main_v180 : Ref sig .tc := ⟨.hbm, 299, rfl⟩
abbrev main_v181 : Ref sig .tc := ⟨.hbm, 300, rfl⟩
abbrev main_v182 : Ref sig .tc := ⟨.hbm, 301, rfl⟩
abbrev main_v183 : Ref sig .tc := ⟨.hbm, 302, rfl⟩
abbrev main_v184 : Ref sig .tc := ⟨.hbm, 303, rfl⟩
abbrev main_v185 : Ref sig .tc := ⟨.hbm, 304, rfl⟩
abbrev main_v186 : Ref sig .tc := ⟨.hbm, 305, rfl⟩
abbrev main_v187 : Ref sig .tc := ⟨.hbm, 306, rfl⟩
abbrev main_v188 : Ref sig .tc := ⟨.hbm, 307, rfl⟩
abbrev main_v189 : Ref sig .tc := ⟨.hbm, 308, rfl⟩
abbrev main_v190 : Ref sig .tc := ⟨.hbm, 309, rfl⟩
abbrev main_v191 : Ref sig .tc := ⟨.hbm, 310, rfl⟩
abbrev main_v192 : Ref sig .tc := ⟨.hbm, 311, rfl⟩
abbrev main_v193 : Ref sig .tc := ⟨.hbm, 312, rfl⟩
abbrev main_v194 : Ref sig .tc := ⟨.hbm, 313, rfl⟩
abbrev main_v195 : Ref sig .tc := ⟨.hbm, 314, rfl⟩
abbrev main_call14_v0 : Ref sig .tc := ⟨.hbm, 315, rfl⟩
abbrev main_call14_v1 : Ref sig .tc := ⟨.hbm, 316, rfl⟩
abbrev main_call14_cst : Ref sig .tc := ⟨.hbm, 317, rfl⟩
abbrev main_call14_v2 : Ref sig .tc := ⟨.hbm, 318, rfl⟩
abbrev main_call14_v3 : Ref sig .tc := ⟨.hbm, 319, rfl⟩
abbrev main_call14_cst_0 : Ref sig .tc := ⟨.hbm, 320, rfl⟩
abbrev main_call14_v4 : Ref sig .tc := ⟨.hbm, 321, rfl⟩
abbrev main_call14_v5 : Ref sig .tc := ⟨.hbm, 322, rfl⟩
abbrev main_v196 : Ref sig .tc := ⟨.hbm, 323, rfl⟩
abbrev main_v197 : Ref sig .tc := ⟨.hbm, 324, rfl⟩
abbrev main_v198 : Ref sig .tc := ⟨.hbm, 325, rfl⟩
abbrev main_v199 : Ref sig .tc := ⟨.hbm, 326, rfl⟩
abbrev main_v200 : Ref sig .tc := ⟨.hbm, 327, rfl⟩
abbrev main_v201 : Ref sig .tc := ⟨.hbm, 328, rfl⟩
abbrev main_v202 : Ref sig .tc := ⟨.hbm, 329, rfl⟩
abbrev main_v203 : Ref sig .tc := ⟨.hbm, 330, rfl⟩
abbrev main_v204 : Ref sig .tc := ⟨.hbm, 331, rfl⟩
abbrev main_v205 : Ref sig .tc := ⟨.hbm, 332, rfl⟩
abbrev main_v206 : Ref sig .tc := ⟨.hbm, 333, rfl⟩
abbrev main_v207 : Ref sig .tc := ⟨.hbm, 334, rfl⟩
abbrev main_v208 : Ref sig .tc := ⟨.hbm, 335, rfl⟩
abbrev main_v209 : Ref sig .tc := ⟨.hbm, 336, rfl⟩
abbrev main_v210 : Ref sig .tc := ⟨.hbm, 337, rfl⟩
abbrev main_v211 : Ref sig .tc := ⟨.hbm, 338, rfl⟩
abbrev main_call15_v0 : Ref sig .tc := ⟨.hbm, 339, rfl⟩
abbrev main_call15_v1 : Ref sig .tc := ⟨.hbm, 340, rfl⟩
abbrev main_call15_cst : Ref sig .tc := ⟨.hbm, 341, rfl⟩
abbrev main_call15_v2 : Ref sig .tc := ⟨.hbm, 342, rfl⟩
abbrev main_call15_v3 : Ref sig .tc := ⟨.hbm, 343, rfl⟩
abbrev main_call15_cst_0 : Ref sig .tc := ⟨.hbm, 344, rfl⟩
abbrev main_call15_v4 : Ref sig .tc := ⟨.hbm, 345, rfl⟩
abbrev main_call15_v5 : Ref sig .tc := ⟨.hbm, 346, rfl⟩
abbrev main_v212 : Ref sig .tc := ⟨.hbm, 347, rfl⟩
abbrev main_v213 : Ref sig .tc := ⟨.hbm, 348, rfl⟩
abbrev main_v214 : Ref sig .tc := ⟨.hbm, 349, rfl⟩
abbrev main_v215 : Ref sig .tc := ⟨.hbm, 350, rfl⟩
abbrev main_v216 : Ref sig .tc := ⟨.hbm, 351, rfl⟩
abbrev main_v217 : Ref sig .tc := ⟨.hbm, 352, rfl⟩
abbrev main_v218 : Ref sig .tc := ⟨.hbm, 353, rfl⟩
abbrev main_v219 : Ref sig .tc := ⟨.hbm, 354, rfl⟩
abbrev main_v220 : Ref sig .tc := ⟨.hbm, 355, rfl⟩
abbrev main_v221 : Ref sig .tc := ⟨.hbm, 356, rfl⟩
abbrev main_v222 : Ref sig .tc := ⟨.hbm, 357, rfl⟩
abbrev main_v223 : Ref sig .tc := ⟨.hbm, 358, rfl⟩
abbrev main_v224 : Ref sig .tc := ⟨.hbm, 359, rfl⟩
abbrev main_v225 : Ref sig .tc := ⟨.hbm, 360, rfl⟩
abbrev main_v226 : Ref sig .tc := ⟨.hbm, 361, rfl⟩
abbrev main_v227 : Ref sig .tc := ⟨.hbm, 362, rfl⟩
abbrev main_call16_v0 : Ref sig .tc := ⟨.hbm, 363, rfl⟩
abbrev main_call16_v1 : Ref sig .tc := ⟨.hbm, 364, rfl⟩
abbrev main_call16_cst : Ref sig .tc := ⟨.hbm, 365, rfl⟩
abbrev main_call16_v2 : Ref sig .tc := ⟨.hbm, 366, rfl⟩
abbrev main_call16_v3 : Ref sig .tc := ⟨.hbm, 367, rfl⟩
abbrev main_call16_cst_0 : Ref sig .tc := ⟨.hbm, 368, rfl⟩
abbrev main_call16_v4 : Ref sig .tc := ⟨.hbm, 369, rfl⟩
abbrev main_call16_v5 : Ref sig .tc := ⟨.hbm, 370, rfl⟩
abbrev main_v228 : Ref sig .tc := ⟨.hbm, 371, rfl⟩
abbrev main_v229 : Ref sig .tc := ⟨.hbm, 372, rfl⟩
abbrev main_v230 : Ref sig .tc := ⟨.hbm, 373, rfl⟩
abbrev main_v231 : Ref sig .tc := ⟨.hbm, 374, rfl⟩
abbrev main_v232 : Ref sig .tc := ⟨.hbm, 375, rfl⟩
abbrev main_v233 : Ref sig .tc := ⟨.hbm, 376, rfl⟩
abbrev main_v234 : Ref sig .tc := ⟨.hbm, 377, rfl⟩
abbrev main_v235 : Ref sig .tc := ⟨.hbm, 378, rfl⟩
abbrev main_v236 : Ref sig .tc := ⟨.hbm, 379, rfl⟩
abbrev main_v237 : Ref sig .tc := ⟨.hbm, 380, rfl⟩
abbrev main_v238 : Ref sig .tc := ⟨.hbm, 381, rfl⟩
abbrev main_v239 : Ref sig .tc := ⟨.hbm, 382, rfl⟩
abbrev main_v240 : Ref sig .tc := ⟨.hbm, 383, rfl⟩
abbrev main_v241 : Ref sig .tc := ⟨.hbm, 384, rfl⟩
abbrev main_v242 : Ref sig .tc := ⟨.hbm, 385, rfl⟩
abbrev main_v243 : Ref sig .tc := ⟨.hbm, 386, rfl⟩
abbrev main_call17_v0 : Ref sig .tc := ⟨.hbm, 387, rfl⟩
abbrev main_call17_v1 : Ref sig .tc := ⟨.hbm, 388, rfl⟩
abbrev main_call17_cst : Ref sig .tc := ⟨.hbm, 389, rfl⟩
abbrev main_call17_v2 : Ref sig .tc := ⟨.hbm, 390, rfl⟩
abbrev main_call17_v3 : Ref sig .tc := ⟨.hbm, 391, rfl⟩
abbrev main_call17_cst_0 : Ref sig .tc := ⟨.hbm, 392, rfl⟩
abbrev main_call17_v4 : Ref sig .tc := ⟨.hbm, 393, rfl⟩
abbrev main_call17_v5 : Ref sig .tc := ⟨.hbm, 394, rfl⟩
abbrev main_v244 : Ref sig .tc := ⟨.hbm, 395, rfl⟩
abbrev main_v245 : Ref sig .tc := ⟨.hbm, 396, rfl⟩
abbrev main_v246 : Ref sig .tc := ⟨.hbm, 397, rfl⟩
abbrev main_v247 : Ref sig .tc := ⟨.hbm, 398, rfl⟩
abbrev main_v248 : Ref sig .tc := ⟨.hbm, 399, rfl⟩
abbrev main_v249 : Ref sig .tc := ⟨.hbm, 400, rfl⟩
abbrev main_v250 : Ref sig .tc := ⟨.hbm, 401, rfl⟩
abbrev main_v251 : Ref sig .tc := ⟨.hbm, 402, rfl⟩
abbrev main_v252 : Ref sig .tc := ⟨.hbm, 403, rfl⟩
abbrev main_v253 : Ref sig .tc := ⟨.hbm, 404, rfl⟩
abbrev main_v254 : Ref sig .tc := ⟨.hbm, 405, rfl⟩
abbrev main_v255 : Ref sig .tc := ⟨.hbm, 406, rfl⟩
abbrev main_v256 : Ref sig .tc := ⟨.hbm, 407, rfl⟩
abbrev main_v257 : Ref sig .tc := ⟨.hbm, 408, rfl⟩
abbrev main_v258 : Ref sig .tc := ⟨.hbm, 409, rfl⟩
abbrev main_v259 : Ref sig .tc := ⟨.hbm, 410, rfl⟩
abbrev main_call18_v0 : Ref sig .tc := ⟨.hbm, 411, rfl⟩
abbrev main_call18_v1 : Ref sig .tc := ⟨.hbm, 412, rfl⟩
abbrev main_call18_cst : Ref sig .tc := ⟨.hbm, 413, rfl⟩
abbrev main_call18_v2 : Ref sig .tc := ⟨.hbm, 414, rfl⟩
abbrev main_call18_v3 : Ref sig .tc := ⟨.hbm, 415, rfl⟩
abbrev main_call18_cst_0 : Ref sig .tc := ⟨.hbm, 416, rfl⟩
abbrev main_call18_v4 : Ref sig .tc := ⟨.hbm, 417, rfl⟩
abbrev main_call18_v5 : Ref sig .tc := ⟨.hbm, 418, rfl⟩
abbrev main_v260 : Ref sig .tc := ⟨.hbm, 419, rfl⟩
abbrev main_v261 : Ref sig .tc := ⟨.hbm, 420, rfl⟩
abbrev main_v262 : Ref sig .tc := ⟨.hbm, 421, rfl⟩
abbrev main_v263 : Ref sig .tc := ⟨.hbm, 422, rfl⟩
abbrev main_v264 : Ref sig .tc := ⟨.hbm, 423, rfl⟩
abbrev main_v265 : Ref sig .tc := ⟨.hbm, 424, rfl⟩
abbrev main_v266 : Ref sig .tc := ⟨.hbm, 425, rfl⟩
abbrev main_v267 : Ref sig .tc := ⟨.hbm, 426, rfl⟩
abbrev main_v268 : Ref sig .tc := ⟨.hbm, 427, rfl⟩
abbrev main_v269 : Ref sig .tc := ⟨.hbm, 428, rfl⟩
abbrev main_v270 : Ref sig .tc := ⟨.hbm, 429, rfl⟩
abbrev main_v271 : Ref sig .tc := ⟨.hbm, 430, rfl⟩
abbrev main_v272 : Ref sig .tc := ⟨.hbm, 431, rfl⟩
abbrev main_v273 : Ref sig .tc := ⟨.hbm, 432, rfl⟩

abbrev nD : Nat := 1
abbrev τ : Topo := Topo.v7x

variable {F : FTy → Type} [FloatOps F]
-- ==== Kernel3.lean ====
abbrev S4x8192x1024 : Shape := ⟨3, ![4, 8192, 1024]⟩
abbrev S4x8192x512 : Shape := ⟨3, ![4, 8192, 512]⟩
abbrev S4x1024 : Shape := ⟨2, ![4, 1024]⟩
abbrev S4x1024x3072 : Shape := ⟨3, ![4, 1024, 3072]⟩
abbrev S4x3072 : Shape := ⟨2, ![4, 3072]⟩
abbrev S4x3x512x1024 : Shape := ⟨4, ![4, 3, 512, 1024]⟩
abbrev S4x1024x1024 : Shape := ⟨3, ![4, 1024, 1024]⟩
abbrev S4x1x1024 : Shape := ⟨3, ![4, 1, 1024]⟩
abbrev S1x1024 : Shape := ⟨2, ![1, 1024]⟩
abbrev S1024 : Shape := ⟨1, ![1024]⟩
abbrev S1x3072 : Shape := ⟨2, ![1, 3072]⟩
abbrev S3072 : Shape := ⟨1, ![3072]⟩
abbrev S1x512x1024 : Shape := ⟨3, ![1, 512, 1024]⟩
abbrev S1x512x512 : Shape := ⟨3, ![1, 512, 512]⟩
abbrev S1x1x1024 : Shape := ⟨3, ![1, 1, 1024]⟩
abbrev S1x1024x3072 : Shape := ⟨3, ![1, 1024, 3072]⟩
abbrev S1x3x512x1024 : Shape := ⟨4, ![1, 3, 512, 1024]⟩
abbrev S1x1024x1024 : Shape := ⟨3, ![1, 1024, 1024]⟩
abbrev S512x1024 : Shape := ⟨2, ![512, 1024]⟩
abbrev S512 : Shape := ⟨1, ![512]⟩
abbrev S512x1 : Shape := ⟨2, ![512, 1]⟩
abbrev S1024x1024 : Shape := ⟨2, ![1024, 1024]⟩
abbrev S512x512 : Shape := ⟨2, ![512, 512]⟩
abbrev S1x1x512x1024 : Shape := ⟨4, ![1, 1, 512, 1024]⟩

abbrev nBuf : Space → Nat
  | .hbm => 34
  | .vmem => 28
  | .smem => 0
  | _ => 0

abbrev bufTy : (tb : Table) → Fin (tcTables nBuf tb) → BufTy
  | .hbm, ⟨0, _⟩ => ⟨S4x8192x1024, .f32⟩
  | .hbm, ⟨1, _⟩ => ⟨S4x8192x512, .bf16⟩
  | .hbm, ⟨2, _⟩ => ⟨S4x8192x512, .bf16⟩
  | .hbm, ⟨3, _⟩ => ⟨S4x8192x512, .bf16⟩
  | .hbm, ⟨4, _⟩ => ⟨S4x1024, .f32⟩
  | .hbm, ⟨5, _⟩ => ⟨S4x1024, .f32⟩
  | .hbm, ⟨6, _⟩ => ⟨S4x1024, .f32⟩
  | .hbm, ⟨7, _⟩ => ⟨S4x1024, .f32⟩
  | .hbm, ⟨8, _⟩ => ⟨S4x1024, .f32⟩
  | .hbm, ⟨9, _⟩ => ⟨S4x1024, .f32⟩
  | .hbm, ⟨10, _⟩ => ⟨S4x1024, .f32⟩
  | .hbm, ⟨11, _⟩ => ⟨S4x1024x3072, .f32⟩
  | .hbm, ⟨12, _⟩ => ⟨S4x3072, .f32⟩
  | .hbm, ⟨13, _⟩ => ⟨S4x3x512x1024, .f32⟩
  | .hbm, ⟨14, _⟩ => ⟨S4x1024x1024, .f32⟩
  | .hbm, ⟨15, _⟩ => ⟨S4x1x1024, .f32⟩
  | .hbm, ⟨16, _⟩ => ⟨S4x1x1024, .f32⟩
  | .hbm, ⟨17, _⟩ => ⟨S4x1x1024, .f32⟩
  | .hbm, ⟨18, _⟩ => ⟨S4x1x1024, .f32⟩
  | .hbm, ⟨19, _⟩ => ⟨S4x1x1024, .f32⟩
  | .hbm, ⟨20, _⟩ => ⟨S4x1024x3072, .bf16⟩
  | .hbm, ⟨21, _⟩ => ⟨S4x3x512x1024, .bf16⟩
  | .hbm, ⟨22, _⟩ => ⟨S4x1024x1024, .bf16⟩
  | .hbm, ⟨23, _⟩ => ⟨S1x1024, .f32⟩
  | .hbm, ⟨24, _⟩ => ⟨S1024, .f32⟩
  | .hbm, ⟨25, _⟩ => ⟨S1x1024, .f32⟩
  | .hbm, ⟨26, _⟩ => ⟨S1x1024, .f32⟩
  | .hbm, ⟨27, _⟩ => ⟨S1024, .f32⟩
  | .hbm, ⟨28, _⟩ => ⟨S1x1024, .f32⟩
  | .hbm, ⟨29, _⟩ => ⟨S1x3072, .f32⟩
  | .hbm, ⟨30, _⟩ => ⟨S3072, .f32⟩
  | .hbm, ⟨31, _⟩ => ⟨S1x3072, .f32⟩
  | .hbm, ⟨32, _⟩ => ⟨S4x8192x1024, .f32⟩
  | .hbm, ⟨33, _⟩ => ⟨S4x8192x1024, .bf16⟩
  | .local _ .vmem, ⟨0, _⟩ => ⟨S1x512x1024, .f32⟩
  | .local _ .vmem, ⟨1, _⟩ => ⟨S1x512x1024, .f32⟩
  | .local _ .vmem, ⟨2, _⟩ => ⟨S1x512x512, .bf16⟩
  | .local _ .vmem, ⟨3, _⟩ => ⟨S1x512x512, .bf16⟩
  | .local _ .vmem, ⟨4, _⟩ => ⟨S1x512x512, .bf16⟩
  | .local _ .vmem, ⟨5, _⟩ => ⟨S1x512x512, .bf16⟩
  | .local _ .vmem, ⟨6, _⟩ => ⟨S1x512x512, .bf16⟩
  | .local _ .vmem, ⟨7, _⟩ => ⟨S1x512x512, .bf16⟩
  | .local _ .vmem, ⟨8, _⟩ => ⟨S1x1x1024, .f32⟩
  | .local _ .vmem, ⟨9, _⟩ => ⟨S1x1x1024, .f32⟩
  | .local _ .vmem, ⟨10, _⟩ => ⟨S1x1x1024, .f32⟩
  | .local _ .vmem, ⟨11, _⟩ => ⟨S1x1x1024, .f32⟩
  | .local _ .vmem, ⟨12, _⟩ => ⟨S1x1x1024, .f32⟩
  | .local _ .vmem, ⟨13, _⟩ => ⟨S1x1x1024, .f32⟩
  | .local _ .vmem, ⟨14, _⟩ => ⟨S1x1x1024, .f32⟩
  | .local _ .vmem, ⟨15, _⟩ => ⟨S1x1x1024, .f32⟩
  | .local _ .vmem, ⟨16, _⟩ => ⟨S1x1x1024, .f32⟩
  | .local _ .vmem, ⟨17, _⟩ => ⟨S1x1x1024, .f32⟩
  | .local _ .vmem, ⟨18, _⟩ => ⟨S1x1024, .f32⟩
  | .local _ .vmem, ⟨19, _⟩ => ⟨S1x1024, .f32⟩
  | .local _ .vmem, ⟨20, _⟩ => ⟨S1x1024x3072, .bf16⟩
  | .local _ .vmem, ⟨21, _⟩ => ⟨S1x3072, .f32⟩
  | .local _ .vmem, ⟨22, _⟩ => ⟨S1x3x512x1024, .bf16⟩
  | .local _ .vmem, ⟨23, _⟩ => ⟨S1x1024x1024, .bf16⟩
  | .local _ .vmem, ⟨24, _⟩ => ⟨S1x512x1024, .f32⟩
  | .local _ .vmem, ⟨25, _⟩ => ⟨S1x512x1024, .f32⟩
  | .local _ .vmem, ⟨26, _⟩ => ⟨S1x512x1024, .bf16⟩
  | .local _ .vmem, ⟨27, _⟩ => ⟨S1x512x1024, .bf16⟩
  | _, _ => ⟨S4x8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | _, _ => false

abbrev semScoped : Fin 0 → Bool
  | ⟨_, h⟩ => absurd h (Nat.not_lt_zero _)

abbrev dmaSemScoped : Fin 28 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | _ => false

abbrev sig : RefSig :=
  ofTc nBuf bufTy 0 28 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_v0 : Ref sig .tc := ⟨.hbm, 15, rfl⟩
abbrev main_v1 : Ref sig .tc := ⟨.hbm, 16, rfl⟩
abbrev main_v2 : Ref sig .tc := ⟨.hbm, 17, rfl⟩
abbrev main_v3 : Ref sig .tc := ⟨.hbm, 18, rfl⟩
abbrev main_v4 : Ref sig .tc := ⟨.hbm, 19, rfl⟩
abbrev main_v5 : Ref sig .tc := ⟨.hbm, 20, rfl⟩
abbrev main_v6 : Ref sig .tc := ⟨.hbm, 21, rfl⟩
abbrev main_v7 : Ref sig .tc := ⟨.hbm, 22, rfl⟩
abbrev main_v8 : Ref sig .tc := ⟨.hbm, 23, rfl⟩
abbrev main_v9 : Ref sig .tc := ⟨.hbm, 24, rfl⟩
abbrev main_v10 : Ref sig .tc := ⟨.hbm, 25, rfl⟩
abbrev main_v11 : Ref sig .tc := ⟨.hbm, 26, rfl⟩
abbrev main_v12 : Ref sig .tc := ⟨.hbm, 27, rfl⟩
abbrev main_v13 : Ref sig .tc := ⟨.hbm, 28, rfl⟩
abbrev main_v14 : Ref sig .tc := ⟨.hbm, 29, rfl⟩
abbrev main_v15 : Ref sig .tc := ⟨.hbm, 30, rfl⟩
abbrev main_v16 : Ref sig .tc := ⟨.hbm, 31, rfl⟩
abbrev main_v17_0 : Ref sig .tc := ⟨.hbm, 32, rfl⟩
abbrev main_v17_1 : Ref sig .tc := ⟨.hbm, 33, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_stg9_0 : Ref sig .tc := ⟨.vmem, 18, rfl⟩
abbrev cc0_stg10_0 : Ref sig .tc := ⟨.vmem, 19, rfl⟩
abbrev cc0_stg11_0 : Ref sig .tc := ⟨.vmem, 20, rfl⟩
abbrev cc0_stg12_0 : Ref sig .tc := ⟨.vmem, 21, rfl⟩
abbrev cc0_stg13_0 : Ref sig .tc := ⟨.vmem, 22, rfl⟩
abbrev cc0_stg14_0 : Ref sig .tc := ⟨.vmem, 23, rfl⟩
abbrev cc0_stg15_0 : Ref sig .tc := ⟨.vmem, 24, rfl⟩
abbrev cc0_stg15_1 : Ref sig .tc := ⟨.vmem, 25, rfl⟩
abbrev cc0_stg16_0 : Ref sig .tc := ⟨.vmem, 26, rfl⟩
abbrev cc0_stg16_1 : Ref sig .tc := ⟨.vmem, 27, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17
abbrev cc0_sem9_0 : DmaSem sig := 18
abbrev cc0_sem10_0 : DmaSem sig := 19
abbrev cc0_sem11_0 : DmaSem sig := 20
abbrev cc0_sem12_0 : DmaSem sig := 21
abbrev cc0_sem13_0 : DmaSem sig := 22
abbrev cc0_sem14_0 : DmaSem sig := 23
abbrev cc0_sem15_0 : DmaSem sig := 24
abbrev cc0_sem15_1 : DmaSem sig := 25
abbrev cc0_sem16_0 : DmaSem sig := 26
abbrev cc0_sem16_1 : DmaSem sig := 27

abbrev nD : Nat := 1
abbrev τ : Topo := Topo.v7x

variable {F : FTy → Type} [FloatOps F]

abbrev grid0 : Pipeline.Grid := ⟨2, ![4, 16], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_6 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_7 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_8 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_9 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_12 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_13 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  let c0_i32_3 : BitVec 32 := 0#32
  ![c0_i32.toNat, c0_i32_0.toNat, c0_i32_1.toNat, c0_i32_2.toNat]

def cc0_transform_14 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_15 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_16 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x512x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x512x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x512x512 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1x1x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]

abbrev stage0_5 : Fin 2 → Memref sig .tc .vmem S1x1x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, false]

abbrev stage0_6 : Fin 2 → Memref sig .tc .vmem S1x1x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, false]

abbrev stage0_7 : Fin 2 → Memref sig .tc .vmem S1x1x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, false]

abbrev stage0_8 : Fin 2 → Memref sig .tc .vmem S1x1x1024 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, false]

abbrev stage0_9 : Fin 1 → Memref sig .tc .vmem S1x1024 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false, false]

abbrev stage0_10 : Fin 1 → Memref sig .tc .vmem S1x1024 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false, false]

abbrev stage0_11 : Fin 1 → Memref sig .tc .vmem S1x1024x3072 .bf16 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false, false]

abbrev stage0_12 : Fin 1 → Memref sig .tc .vmem S1x3072 .f32 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false, false]

abbrev stage0_13 : Fin 1 → Memref sig .tc .vmem S1x3x512x1024 .bf16 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))
abbrev reads0_13 : Fin grid0.rank → Bool := ![false, false]

abbrev stage0_14 : Fin 1 → Memref sig .tc .vmem S1x1024x1024 .bf16 := fun | 0 => Memref.whole cc0_stg14_0 | ⟨_ + 1, h⟩ => absurd h (Nat.not_lt.2 (Nat.le_add_left _ _))
abbrev sem0_14 : Fin 1 → DmaSem sig := fun | 0 => cc0_sem14_0 | ⟨_ + 1, h⟩ => absurd h (Nat.not_lt.2 (Nat.le_add_left _ _))
abbrev reads0_14 : Fin grid0.rank → Bool := ![false, false]

abbrev stage0_15 : Fin 2 → Memref sig .tc .vmem S1x512x1024 .f32 := fun | 0 => Memref.whole cc0_stg15_0 | 1 => Memref.whole cc0_stg15_1 | ⟨_ + 2, h⟩ => absurd h (Nat.not_lt.2 (Nat.le_add_left _ _))
abbrev sem0_15 : Fin 2 → DmaSem sig := fun | 0 => cc0_sem15_0 | 1 => cc0_sem15_1 | ⟨_ + 2, h⟩ => absurd h (Nat.not_lt.2 (Nat.le_add_left _ _))
abbrev reads0_15 : Fin grid0.rank → Bool := ![true, true]

abbrev stage0_16 : Fin 2 → Memref sig .tc .vmem S1x512x1024 .bf16 := fun | 0 => Memref.whole cc0_stg16_0 | 1 => Memref.whole cc0_stg16_1 | ⟨_ + 2, h⟩ => absurd h (Nat.not_lt.2 (Nat.le_add_left _ _))
abbrev sem0_16 : Fin 2 → DmaSem sig := fun | 0 => cc0_sem16_0 | 1 => cc0_sem16_1 | ⟨_ + 2, h⟩ => absurd h (Nat.not_lt.2 (Nat.le_add_left _ _))
abbrev reads0_16 : Fin grid0.rank → Bool := ![true, true]
-- ==== Reference3Ideal.lean ====
abbrev S4x8192x1024 : Shape := ⟨3, ![4, 8192, 1024]⟩
abbrev S4x8192x512 : Shape := ⟨3, ![4, 8192, 512]⟩
abbrev S4x1024 : Shape := ⟨2, ![4, 1024]⟩
abbrev S4x1024x3072 : Shape := ⟨3, ![4, 1024, 3072]⟩
abbrev S4x3072 : Shape := ⟨2, ![4, 3072]⟩
abbrev S4x3x512x1024 : Shape := ⟨4, ![4, 3, 512, 1024]⟩
abbrev S4x1024x1024 : Shape := ⟨3, ![4, 1024, 1024]⟩
abbrev S1x1024 : Shape := ⟨2, ![1, 1024]⟩
abbrev S1024 : Shape := ⟨1, ![1024]⟩
abbrev S_ : Shape := ⟨0, ![]⟩
abbrev S4x8192 : Shape := ⟨2, ![4, 8192]⟩
abbrev S4x8192x1 : Shape := ⟨3, ![4, 8192, 1]⟩
abbrev S1x1x1024 : Shape := ⟨3, ![1, 1, 1024]⟩
abbrev S4x1x1024 : Shape := ⟨3, ![4, 1, 1024]⟩
abbrev S4x8192x1x512 : Shape := ⟨4, ![4, 8192, 1, 512]⟩
abbrev S4x8192x3x512 : Shape := ⟨4, ![4, 8192, 3, 512]⟩
abbrev S1x3x512x1024 : Shape := ⟨4, ![1, 3, 512, 1024]⟩
abbrev S3x512x1024 : Shape := ⟨3, ![3, 512, 1024]⟩
abbrev S3x1024x4x8192 : Shape := ⟨4, ![3, 1024, 4, 8192]⟩
abbrev S4x8192x3x1024 : Shape := ⟨4, ![4, 8192, 3, 1024]⟩
abbrev S1x1024x3072 : Shape := ⟨3, ![1, 1024, 3072]⟩
abbrev S1024x3072 : Shape := ⟨2, ![1024, 3072]⟩
abbrev S4x8192x3072 : Shape := ⟨3, ![4, 8192, 3072]⟩
abbrev S1x3072 : Shape := ⟨2, ![1, 3072]⟩
abbrev S3072 : Shape := ⟨1, ![3072]⟩
abbrev S1x1x3072 : Shape := ⟨3, ![1, 1, 3072]⟩
abbrev S1x1024x1024 : Shape := ⟨3, ![1, 1024, 1024]⟩
abbrev S1024x1024 : Shape := ⟨2, ![1024, 1024]⟩

abbrev nBuf : Space → Nat
  | .hbm => 108
  | .vmem => 0
  | .smem => 0
  | _ => 0

abbrev bufTy : (tb : Table) → Fin (tcTables nBuf tb) → BufTy
  | .hbm, ⟨0, _⟩ => ⟨S4x8192x1024, .f32⟩
  | .hbm, ⟨1, _⟩ => ⟨S4x8192x512, .bf16⟩
  | .hbm, ⟨2, _⟩ => ⟨S4x8192x512, .bf16⟩
  | .hbm, ⟨3, _⟩ => ⟨S4x8192x512, .bf16⟩
  | .hbm, ⟨4, _⟩ => ⟨S4x1024, .f32⟩
  | .hbm, ⟨5, _⟩ => ⟨S4x1024, .f32⟩
  | .hbm, ⟨6, _⟩ => ⟨S4x1024, .f32⟩
  | .hbm, ⟨7, _⟩ => ⟨S4x1024, .f32⟩
  | .hbm, ⟨8, _⟩ => ⟨S4x1024, .f32⟩
  | .hbm, ⟨9, _⟩ => ⟨S4x1024, .f32⟩
  | .hbm, ⟨10, _⟩ => ⟨S4x1024, .f32⟩
  | .hbm, ⟨11, _⟩ => ⟨S4x1024x3072, .f32⟩
  | .hbm, ⟨12, _⟩ => ⟨S4x3072, .f32⟩
  | .hbm, ⟨13, _⟩ => ⟨S4x3x512x1024, .f32⟩
  | .hbm, ⟨14, _⟩ => ⟨S4x1024x1024, .f32⟩
  | .hbm, ⟨15, _⟩ => ⟨S1x1024, .f32⟩
  | .hbm, ⟨16, _⟩ => ⟨S1024, .f32⟩
  | .hbm, ⟨17, _⟩ => ⟨S4x8192x1024, .f32⟩
  | .hbm, ⟨18, _⟩ => ⟨S_, .f32⟩
  | .hbm, ⟨19, _⟩ => ⟨S4x8192, .f32⟩
  | .hbm, ⟨20, _⟩ => ⟨S4x8192x1, .f32⟩
  | .hbm, ⟨21, _⟩ => ⟨S_, .f32⟩
  | .hbm, ⟨22, _⟩ => ⟨S4x8192x1, .f32⟩
  | .hbm, ⟨23, _⟩ => ⟨S4x8192x1, .f32⟩
  | .hbm, ⟨24, _⟩ => ⟨S_, .f32⟩
  | .hbm, ⟨25, _⟩ => ⟨S4x8192x1, .f32⟩
  | .hbm, ⟨26, _⟩ => ⟨S4x8192x1, .f32⟩
  | .hbm, ⟨27, _⟩ => ⟨S4x8192x1, .f32⟩
  | .hbm, ⟨28, _⟩ => ⟨S4x8192x1024, .f32⟩
  | .hbm, ⟨29, _⟩ => ⟨S4x8192x1024, .f32⟩
  | .hbm, ⟨30, _⟩ => ⟨S1x1x1024, .f32⟩
  | .hbm, ⟨31, _⟩ => ⟨S4x8192x1024, .f32⟩
  | .hbm, ⟨32, _⟩ => ⟨S4x8192x1024, .f32⟩
  | .hbm, ⟨33, _⟩ => ⟨S4x1x1024, .f32⟩
  | .hbm, ⟨34, _⟩ => ⟨S_, .f32⟩
  | .hbm, ⟨35, _⟩ => ⟨S4x1x1024, .f32⟩
  | .hbm, ⟨36, _⟩ => ⟨S4x1x1024, .f32⟩
  | .hbm, ⟨37, _⟩ => ⟨S4x8192x1024, .f32⟩
  | .hbm, ⟨38, _⟩ => ⟨S4x8192x1024, .f32⟩
  | .hbm, ⟨39, _⟩ => ⟨S4x1x1024, .f32⟩
  | .hbm, ⟨40, _⟩ => ⟨S4x8192x1024, .f32⟩
  | .hbm, ⟨41, _⟩ => ⟨S4x8192x1024, .f32⟩
  | .hbm, ⟨42, _⟩ => ⟨S4x8192x512, .f32⟩
  | .hbm, ⟨43, _⟩ => ⟨S4x8192x512, .f32⟩
  | .hbm, ⟨44, _⟩ => ⟨S4x8192x512, .f32⟩
  | .hbm, ⟨45, _⟩ => ⟨S4x8192x1x512, .f32⟩
  | .hbm, ⟨46, _⟩ => ⟨S4x8192x1x512, .f32⟩
  | .hbm, ⟨47, _⟩ => ⟨S4x8192x1x512, .f32⟩
  | .hbm, ⟨48, _⟩ => ⟨S4x8192x3x512, .f32⟩
  | .hbm, ⟨49, _⟩ => ⟨S1x3x512x1024, .f32⟩
  | .hbm, ⟨50, _⟩ => ⟨S3x512x1024, .f32⟩
  | .hbm, ⟨51, _⟩ => ⟨S3x1024x4x8192, .f32⟩
  | .hbm, ⟨52, _⟩ => ⟨S4x8192x3x1024, .f32⟩
  | .hbm, ⟨53, _⟩ => ⟨S1x1024x3072, .f32⟩
  | .hbm, ⟨54, _⟩ => ⟨S1024x3072, .f32⟩
  | .hbm, ⟨55, _⟩ => ⟨S4x8192x3072, .f32⟩
  | .hbm, ⟨56, _⟩ => ⟨S1x3072, .f32⟩
  | .hbm, ⟨57, _⟩ => ⟨S3072, .f32⟩
  | .hbm, ⟨58, _⟩ => ⟨S1x1x3072, .f32⟩
  | .hbm, ⟨59, _⟩ => ⟨S4x8192x3072, .f32⟩
  | .hbm, ⟨60, _⟩ => ⟨S4x8192x3072, .f32⟩
  | .hbm, ⟨61, _⟩ => ⟨S4x8192x3072, .f32⟩
  | .hbm, ⟨62, _⟩ => ⟨S4x8192x3072, .f32⟩
  | .hbm, ⟨63, _⟩ => ⟨S_, .f32⟩
  | .hbm, ⟨64, _⟩ => ⟨S4x8192x3072, .f32⟩
  | .hbm, ⟨65, _⟩ => ⟨S4x8192x3072, .f32⟩
  | .hbm, ⟨66, _⟩ => ⟨S_, .f32⟩
  | .hbm, ⟨67, _⟩ => ⟨S4x8192x3072, .f32⟩
  | .hbm, ⟨68, _⟩ => ⟨S4x8192x3072, .f32⟩
  | .hbm, ⟨69, _⟩ => ⟨S4x8192x3x1024, .f32⟩
  | .hbm, ⟨70, _⟩ => ⟨S4x8192x3x1024, .f32⟩
  | .hbm, ⟨71, _⟩ => ⟨S_, .f32⟩
  | .hbm, ⟨72, _⟩ => ⟨S4x8192x1024, .f32⟩
  | .hbm, ⟨73, _⟩ => ⟨S4x1x1024, .f32⟩
  | .hbm, ⟨74, _⟩ => ⟨S1x1024x1024, .f32⟩
  | .hbm, ⟨75, _⟩ => ⟨S1024x1024, .f32⟩
  | .hbm, ⟨76, _⟩ => ⟨S4x8192x1024, .f32⟩
  | .hbm, ⟨77, _⟩ => ⟨S4x8192x1024, .f32⟩
  | .hbm, ⟨78, _⟩ => ⟨S4x8192x1024, .f32⟩
  | .hbm, ⟨79, _⟩ => ⟨S4x8192x1024, .f32⟩
  | .hbm, ⟨80, _⟩ => ⟨S1x1024, .f32⟩
  | .hbm, ⟨81, _⟩ => ⟨S1024, .f32⟩
  | .hbm, ⟨82, _⟩ => ⟨S4x8192x1024, .f32⟩
  | .hbm, ⟨83, _⟩ => ⟨S_, .f32⟩
  | .hbm, ⟨84, _⟩ => ⟨S4x8192, .f32⟩
  | .hbm, ⟨85, _⟩ => ⟨S4x8192x1, .f32⟩
  | .hbm, ⟨86, _⟩ => ⟨S_, .f32⟩
  | .hbm, ⟨87, _⟩ => ⟨S4x8192x1, .f32⟩
  | .hbm, ⟨88, _⟩ => ⟨S4x8192x1, .f32⟩
  | .hbm, ⟨89, _⟩ => ⟨S_, .f32⟩
  | .hbm, ⟨90, _⟩ => ⟨S4x8192x1, .f32⟩
  | .hbm, ⟨91, _⟩ => ⟨S4x8192x1, .f32⟩
  | .hbm, ⟨92, _⟩ => ⟨S4x8192x1, .f32⟩
  | .hbm, ⟨93, _⟩ => ⟨S4x8192x1024, .f32⟩
  | .hbm, ⟨94, _⟩ => ⟨S4x8192x1024, .f32⟩
  | .hbm, ⟨95, _⟩ => ⟨S1x1x1024, .f32⟩
  | .hbm, ⟨96, _⟩ => ⟨S4x8192x1024, .f32⟩
  | .hbm, ⟨97, _⟩ => ⟨S4x8192x1024, .f32⟩
  | .hbm, ⟨98, _⟩ => ⟨S4x1x1024, .f32⟩
  | .hbm, ⟨99, _⟩ => ⟨S_, .f32⟩
  | .hbm, ⟨100, _⟩ => ⟨S4x1x1024, .f32⟩
  | .hbm, ⟨101, _⟩ => ⟨S4x1x1024, .f32⟩
  | .hbm, ⟨102, _⟩ => ⟨S4x8192x1024, .f32⟩
  | .hbm, ⟨103, _⟩ => ⟨S4x8192x1024, .f32⟩
  | .hbm, ⟨104, _⟩ => ⟨S4x1x1024, .f32⟩
  | .hbm, ⟨105, _⟩ => ⟨S4x8192x1024, .f32⟩
  | .hbm, ⟨106, _⟩ => ⟨S4x8192x1024, .f32⟩
  | .hbm, ⟨107, _⟩ => ⟨S4x8192x1024, .bf16⟩
  | _, _ => ⟨S4x8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_v0 : Ref sig .tc := ⟨.hbm, 15, rfl⟩
abbrev main_v1 : Ref sig .tc := ⟨.hbm, 16, rfl⟩
abbrev main_v2 : Ref sig .tc := ⟨.hbm, 17, rfl⟩
abbrev main_cst : Ref sig .tc := ⟨.hbm, 18, rfl⟩
abbrev main_v3 : Ref sig .tc := ⟨.hbm, 19, rfl⟩
abbrev main_v4 : Ref sig .tc := ⟨.hbm, 20, rfl⟩
abbrev main_cst_0 : Ref sig .tc := ⟨.hbm, 21, rfl⟩
abbrev main_v5 : Ref sig .tc := ⟨.hbm, 22, rfl⟩
abbrev main_v6 : Ref sig .tc := ⟨.hbm, 23, rfl⟩
abbrev main_cst_1 : Ref sig .tc := ⟨.hbm, 24, rfl⟩
abbrev main_v7 : Ref sig .tc := ⟨.hbm, 25, rfl⟩
abbrev main_v8 : Ref sig .tc := ⟨.hbm, 26, rfl⟩
abbrev main_v9 : Ref sig .tc := ⟨.hbm, 27, rfl⟩
abbrev main_v10 : Ref sig .tc := ⟨.hbm, 28, rfl⟩
abbrev main_v11 : Ref sig .tc := ⟨.hbm, 29, rfl⟩
abbrev main_v12 : Ref sig .tc := ⟨.hbm, 30, rfl⟩
abbrev main_v13 : Ref sig .tc := ⟨.hbm, 31, rfl⟩
abbrev main_v14 : Ref sig .tc := ⟨.hbm, 32, rfl⟩
abbrev main_v15 : Ref sig .tc := ⟨.hbm, 33, rfl⟩
abbrev main_cst_2 : Ref sig .tc := ⟨.hbm, 34, rfl⟩
abbrev main_v16 : Ref sig .tc := ⟨.hbm, 35, rfl⟩
abbrev main_v17 : Ref sig .tc := ⟨.hbm, 36, rfl⟩
abbrev main_v18 : Ref sig .tc := ⟨.hbm, 37, rfl⟩
abbrev main_v19 : Ref sig .tc := ⟨.hbm, 38, rfl⟩
abbrev main_v20 : Ref sig .tc := ⟨.hbm, 39, rfl⟩
abbrev main_v21 : Ref sig .tc := ⟨.hbm, 40, rfl⟩
abbrev main_v22 : Ref sig .tc := ⟨.hbm, 41, rfl⟩
abbrev main_v23 : Ref sig .tc := ⟨.hbm, 42, rfl⟩
abbrev main_v24 : Ref sig .tc := ⟨.hbm, 43, rfl⟩
abbrev main_v25 : Ref sig .tc := ⟨.hbm, 44, rfl⟩
abbrev main_v26 : Ref sig .tc := ⟨.hbm, 45, rfl⟩
abbrev main_v27 : Ref sig .tc := ⟨.hbm, 46, rfl⟩
abbrev main_v28 : Ref sig .tc := ⟨.hbm, 47, rfl⟩
abbrev main_v29 : Ref sig .tc := ⟨.hbm, 48, rfl⟩
abbrev main_v30 : Ref sig .tc := ⟨.hbm, 49, rfl⟩
abbrev main_v31 : Ref sig .tc := ⟨.hbm, 50, rfl⟩
abbrev main_v32 : Ref sig .tc := ⟨.hbm, 51, rfl⟩
abbrev main_v33 : Ref sig .tc := ⟨.hbm, 52, rfl⟩
abbrev main_v34 : Ref sig .tc := ⟨.hbm, 53, rfl⟩
abbrev main_v35 : Ref sig .tc := ⟨.hbm, 54, rfl⟩
abbrev main_v36 : Ref sig .tc := ⟨.hbm, 55, rfl⟩
abbrev main_v37 : Ref sig .tc := ⟨.hbm, 56, rfl⟩
abbrev main_v38 : Ref sig .tc := ⟨.hbm, 57, rfl⟩
abbrev main_v39 : Ref sig .tc := ⟨.hbm, 58, rfl⟩
abbrev main_v40 : Ref sig .tc := ⟨.hbm, 59, rfl⟩
abbrev main_v41 : Ref sig .tc := ⟨.hbm, 60, rfl⟩
abbrev main_v42 : Ref sig .tc := ⟨.hbm, 61, rfl⟩
abbrev main_v43 : Ref sig .tc := ⟨.hbm, 62, rfl⟩
abbrev main_cst_3 : Ref sig .tc := ⟨.hbm, 63, rfl⟩
abbrev main_v44 : Ref sig .tc := ⟨.hbm, 64, rfl⟩
abbrev main_v45 : Ref sig .tc := ⟨.hbm, 65, rfl⟩
abbrev main_cst_4 : Ref sig .tc := ⟨.hbm, 66, rfl⟩
abbrev main_v46 : Ref sig .tc := ⟨.hbm, 67, rfl⟩
abbrev main_v47 : Ref sig .tc := ⟨.hbm, 68, rfl⟩
abbrev main_v48 : Ref sig .tc := ⟨.hbm, 69, rfl⟩
abbrev main_v49 : Ref sig .tc := ⟨.hbm, 70, rfl⟩
abbrev main_cst_5 : Ref sig .tc := ⟨.hbm, 71, rfl⟩
abbrev main_v50 : Ref sig .tc := ⟨.hbm, 72, rfl⟩
abbrev main_v51 : Ref sig .tc := ⟨.hbm, 73, rfl⟩
abbrev main_v52 : Ref sig .tc := ⟨.hbm, 74, rfl⟩
abbrev main_v53 : Ref sig .tc := ⟨.hbm, 75, rfl⟩
abbrev main_v54 : Ref sig .tc := ⟨.hbm, 76, rfl⟩
abbrev main_v55 : Ref sig .tc := ⟨.hbm, 77, rfl⟩
abbrev main_v56 : Ref sig .tc := ⟨.hbm, 78, rfl⟩
abbrev main_v57 : Ref sig .tc := ⟨.hbm, 79, rfl⟩
abbrev main_v58 : Ref sig .tc := ⟨.hbm, 80, rfl⟩
abbrev main_v59 : Ref sig .tc := ⟨.hbm, 81, rfl⟩
abbrev main_v60 : Ref sig .tc := ⟨.hbm, 82, rfl⟩
abbrev main_cst_6 : Ref sig .tc := ⟨.hbm, 83, rfl⟩
abbrev main_v61 : Ref sig .tc := ⟨.hbm, 84, rfl⟩
abbrev main_v62 : Ref sig .tc := ⟨.hbm, 85, rfl⟩
abbrev main_cst_7 : Ref sig .tc := ⟨.hbm, 86, rfl⟩
abbrev main_v63 : Ref sig .tc := ⟨.hbm, 87, rfl⟩
abbrev main_v64 : Ref sig .tc := ⟨.hbm, 88, rfl⟩
abbrev main_cst_8 : Ref sig .tc := ⟨.hbm, 89, rfl⟩
abbrev main_v65 : Ref sig .tc := ⟨.hbm, 90, rfl⟩
abbrev main_v66 : Ref sig .tc := ⟨.hbm, 91, rfl⟩
abbrev main_v67 : Ref sig .tc := ⟨.hbm, 92, rfl⟩
abbrev main_v68 : Ref sig .tc := ⟨.hbm, 93, rfl⟩
abbrev main_v69 : Ref sig .tc := ⟨.hbm, 94, rfl⟩
abbrev main_v70 : Ref sig .tc := ⟨.hbm, 95, rfl⟩
abbrev main_v71 : Ref sig .tc := ⟨.hbm, 96, rfl⟩
abbrev main_v72 : Ref sig .tc := ⟨.hbm, 97, rfl⟩
abbrev main_v73 : Ref sig .tc := ⟨.hbm, 98, rfl⟩
abbrev main_cst_9 : Ref sig .tc := ⟨.hbm, 99, rfl⟩
abbrev main_v74 : Ref sig .tc := ⟨.hbm, 100, rfl⟩
abbrev main_v75 : Ref sig .tc := ⟨.hbm, 101, rfl⟩
abbrev main_v76 : Ref sig .tc := ⟨.hbm, 102, rfl⟩
abbrev main_v77 : Ref sig .tc := ⟨.hbm, 103, rfl⟩
abbrev main_v78 : Ref sig .tc := ⟨.hbm, 104, rfl⟩
abbrev main_v79 : Ref sig .tc := ⟨.hbm, 105, rfl⟩
abbrev main_v80 : Ref sig .tc := ⟨.hbm, 106, rfl⟩
abbrev main_v81 : Ref sig .tc := ⟨.hbm, 107, rfl⟩

abbrev nD : Nat := 1
abbrev τ : Topo := Topo.v7x

variable {F : FTy → Type} [FloatOps F]
-- ==== Kernel4.lean ====
abbrev S4x8192x1024 : Shape := ⟨3, ![4, 8192, 1024]⟩
abbrev S4x1024 : Shape := ⟨2, ![4, 1024]⟩
abbrev S4x1024x5648 : Shape := ⟨3, ![4, 1024, 5648]⟩
abbrev S4x16x512 : Shape := ⟨3, ![4, 16, 512]⟩
abbrev S4x512 : Shape := ⟨2, ![4, 512]⟩
abbrev S4x64 : Shape := ⟨2, ![4, 64]⟩
abbrev S4x1024x4096 : Shape := ⟨3, ![4, 1024, 4096]⟩
abbrev S4x1024x1536 : Shape := ⟨3, ![4, 1024, 1536]⟩
abbrev S4x1024x5632 : Shape := ⟨3, ![4, 1024, 5632]⟩
abbrev S4x1024x16 : Shape := ⟨3, ![4, 1024, 16]⟩
abbrev S_ : Shape := ⟨0, ![]⟩
abbrev S4x1024x128 : Shape := ⟨3, ![4, 1024, 128]⟩
abbrev S4x128x512 : Shape := ⟨3, ![4, 128, 512]⟩
abbrev S8192 : Shape := ⟨1, ![8192]⟩
abbrev S64 : Shape := ⟨1, ![64]⟩
abbrev S8192x1 : Shape := ⟨2, ![8192, 1]⟩
abbrev S1x64 : Shape := ⟨2, ![1, 64]⟩
abbrev S8192x64 : Shape := ⟨2, ![8192, 64]⟩
abbrev S8192x128 : Shape := ⟨2, ![8192, 128]⟩
abbrev S4x1x1024 : Shape := ⟨3, ![4, 1, 1024]⟩
abbrev S1x1024 : Shape := ⟨2, ![1, 1024]⟩
abbrev S1024 : Shape := ⟨1, ![1024]⟩
abbrev S1x1024x128 : Shape := ⟨3, ![1, 1024, 128]⟩
abbrev S1024x128 : Shape := ⟨2, ![1024, 128]⟩
abbrev S1x128x512 : Shape := ⟨3, ![1, 128, 512]⟩
abbrev S128x512 : Shape := ⟨2, ![128, 512]⟩
abbrev S1x512 : Shape := ⟨2, ![1, 512]⟩
abbrev S512 : Shape := ⟨1, ![512]⟩
abbrev S8x64 : Shape := ⟨2, ![8, 64]⟩
abbrev S4x8192x5632 : Shape := ⟨3, ![4, 8192, 5632]⟩
abbrev S4x8192x512 : Shape := ⟨3, ![4, 8192, 512]⟩
abbrev S1x512x1024 : Shape := ⟨3, ![1, 512, 1024]⟩
abbrev S1x1x1024 : Shape := ⟨3, ![1, 1, 1024]⟩
abbrev S1x1024x5632 : Shape := ⟨3, ![1, 1024, 5632]⟩
abbrev S512x128 : Shape := ⟨2, ![512, 128]⟩
abbrev S1x512x5632 : Shape := ⟨3, ![1, 512, 5632]⟩
abbrev S1x512x512 : Shape := ⟨3, ![1, 512, 512]⟩
abbrev S512x1024 : Shape := ⟨2, ![512, 1024]⟩
abbrev S512x1 : Shape := ⟨2, ![512, 1]⟩
abbrev S1x1024x512 : Shape := ⟨3, ![1, 1024, 512]⟩
abbrev S1024x512 : Shape := ⟨2, ![1024, 512]⟩
abbrev S512x512 : Shape := ⟨2, ![512, 512]⟩
abbrev S1x128 : Shape := ⟨2, ![1, 128]⟩

abbrev nBuf : Space → Nat
  | .hbm => 67
  | .vmem => 21
  | .smem => 0
  | _ => 0

abbrev bufTy : (tb : Table) → Fin (tcTables nBuf tb) → BufTy
  | .hbm, ⟨0, _⟩ => ⟨S4x8192x1024, .f32⟩
  | .hbm, ⟨1, _⟩ => ⟨S4x1024, .f32⟩
  | .hbm, ⟨2, _⟩ => ⟨S4x1024, .f32⟩
  | .hbm, ⟨3, _⟩ => ⟨S4x1024, .f32⟩
  | .hbm, ⟨4, _⟩ => ⟨S4x1024x5648, .f32⟩
  | .hbm, ⟨5, _⟩ => ⟨S4x16x512, .f32⟩
  | .hbm, ⟨6, _⟩ => ⟨S4x512, .f32⟩
  | .hbm, ⟨7, _⟩ => ⟨S4x64, .f32⟩
  | .hbm, ⟨8, _⟩ => ⟨S4x64, .f32⟩
  | .hbm, ⟨9, _⟩ => ⟨S4x1024x4096, .f32⟩
  | .hbm, ⟨10, _⟩ => ⟨S4x1024x1536, .f32⟩
  | .hbm, ⟨11, _⟩ => ⟨S4x1024x5632, .f32⟩
  | .hbm, ⟨12, _⟩ => ⟨S4x1024x5632, .bf16⟩
  | .hbm, ⟨13, _⟩ => ⟨S4x1024x16, .f32⟩
  | .hbm, ⟨14, _⟩ => ⟨S_, .i32⟩
  | .hbm, ⟨15, _⟩ => ⟨S_, .f32⟩
  | .hbm, ⟨16, _⟩ => ⟨S4x1024x128, .f32⟩
  | .hbm, ⟨17, _⟩ => ⟨S4x1024x128, .bf16⟩
  | .hbm, ⟨18, _⟩ => ⟨S_, .i32⟩
  | .hbm, ⟨19, _⟩ => ⟨S_, .f32⟩
  | .hbm, ⟨20, _⟩ => ⟨S4x128x512, .f32⟩
  | .hbm, ⟨21, _⟩ => ⟨S4x128x512, .bf16⟩
  | .hbm, ⟨22, _⟩ => ⟨S8192, .f32⟩
  | .hbm, ⟨23, _⟩ => ⟨S64, .f32⟩
  | .hbm, ⟨24, _⟩ => ⟨S64, .f32⟩
  | .hbm, ⟨25, _⟩ => ⟨S_, .f32⟩
  | .hbm, ⟨26, _⟩ => ⟨S64, .f32⟩
  | .hbm, ⟨27, _⟩ => ⟨S64, .f32⟩
  | .hbm, ⟨28, _⟩ => ⟨S_, .f32⟩
  | .hbm, ⟨29, _⟩ => ⟨S64, .f32⟩
  | .hbm, ⟨30, _⟩ => ⟨S64, .f32⟩
  | .hbm, ⟨31, _⟩ => ⟨S8192x1, .f32⟩
  | .hbm, ⟨32, _⟩ => ⟨S1x64, .f32⟩
  | .hbm, ⟨33, _⟩ => ⟨S8192x64, .f32⟩
  | .hbm, ⟨34, _⟩ => ⟨S8192x64, .f32⟩
  | .hbm, ⟨35, _⟩ => ⟨S8192x64, .f32⟩
  | .hbm, ⟨36, _⟩ => ⟨S8192x64, .f32⟩
  | .hbm, ⟨37, _⟩ => ⟨S8192x64, .f32⟩
  | .hbm, ⟨38, _⟩ => ⟨S8192x128, .f32⟩
  | .hbm, ⟨39, _⟩ => ⟨S8192x64, .f32⟩
  | .hbm, ⟨40, _⟩ => ⟨S8192x128, .f32⟩
  | .hbm, ⟨41, _⟩ => ⟨S4x1x1024, .f32⟩
  | .hbm, ⟨42, _⟩ => ⟨S4x1x1024, .f32⟩
  | .hbm, ⟨43, _⟩ => ⟨S1x1024, .f32⟩
  | .hbm, ⟨44, _⟩ => ⟨S1024, .f32⟩
  | .hbm, ⟨45, _⟩ => ⟨S1x1024, .f32⟩
  | .hbm, ⟨46, _⟩ => ⟨S1x1024x128, .bf16⟩
  | .hbm, ⟨47, _⟩ => ⟨S1024x128, .bf16⟩
  | .hbm, ⟨48, _⟩ => ⟨S1x128x512, .bf16⟩
  | .hbm, ⟨49, _⟩ => ⟨S128x512, .bf16⟩
  | .hbm, ⟨50, _⟩ => ⟨S1x512, .f32⟩
  | .hbm, ⟨51, _⟩ => ⟨S512, .f32⟩
  | .hbm, ⟨52, _⟩ => ⟨S1x512, .f32⟩
  | .hbm, ⟨53, _⟩ => ⟨S1x64, .f32⟩
  | .hbm, ⟨54, _⟩ => ⟨S64, .f32⟩
  | .hbm, ⟨55, _⟩ => ⟨S1x64, .f32⟩
  | .hbm, ⟨56, _⟩ => ⟨S8x64, .f32⟩
  | .hbm, ⟨57, _⟩ => ⟨S512, .f32⟩
  | .hbm, ⟨58, _⟩ => ⟨S1x512, .f32⟩
  | .hbm, ⟨59, _⟩ => ⟨S1x64, .f32⟩
  | .hbm, ⟨60, _⟩ => ⟨S64, .f32⟩
  | .hbm, ⟨61, _⟩ => ⟨S1x64, .f32⟩
  | .hbm, ⟨62, _⟩ => ⟨S8x64, .f32⟩
  | .hbm, ⟨63, _⟩ => ⟨S512, .f32⟩
  | .hbm, ⟨64, _⟩ => ⟨S1x512, .f32⟩
  | .hbm, ⟨65, _⟩ => ⟨S4x8192x5632, .bf16⟩
  | .hbm, ⟨66, _⟩ => ⟨S4x8192x512, .f32⟩
  | .local _ .vmem, ⟨0, _⟩ => ⟨S1x512x1024, .f32⟩
  | .local _ .vmem, ⟨1, _⟩ => ⟨S1x512x1024, .f32⟩
  | .local _ .vmem, ⟨2, _⟩ => ⟨S1x1x1024, .f32⟩
  | .local _ .vmem, ⟨3, _⟩ => ⟨S1x1x1024, .f32⟩
  | .local _ .vmem, ⟨4, _⟩ => ⟨S1x1x1024, .f32⟩
  | .local _ .vmem, ⟨5, _⟩ => ⟨S1x1x1024, .f32⟩
  | .local _ .vmem, ⟨6, _⟩ => ⟨S1x1024, .f32⟩
  | .local _ .vmem, ⟨7, _⟩ => ⟨S1x1024x5632, .bf16⟩
  | .local _ .vmem, ⟨8, _⟩ => ⟨S1024x128, .bf16⟩
  | .local _ .vmem, ⟨9, _⟩ => ⟨S128x512, .bf16⟩
  | .local _ .vmem, ⟨10, _⟩ => ⟨S1x512, .f32⟩
  | .local _ .vmem, ⟨11, _⟩ => ⟨S512x128, .f32⟩
  | .local _ .vmem, ⟨12, _⟩ => ⟨S512x128, .f32⟩
  | .local _ .vmem, ⟨13, _⟩ => ⟨S512x128, .f32⟩
  | .local _ .vmem, ⟨14, _⟩ => ⟨S512x128, .f32⟩
  | .local _ .vmem, ⟨15, _⟩ => ⟨S1x512, .f32⟩
  | .local _ .vmem, ⟨16, _⟩ => ⟨S1x512, .f32⟩
  | .local _ .vmem, ⟨17, _⟩ => ⟨S1x512x5632, .bf16⟩
  | .local _ .vmem, ⟨18, _⟩ => ⟨S1x512x5632, .bf16⟩
  | .local _ .vmem, ⟨19, _⟩ => ⟨S1x512x512, .f32⟩
  | .local _ .vmem, ⟨20, _⟩ => ⟨S1x512x512, .f32⟩
  | _, _ => ⟨S4x8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | _, _ => false

abbrev semScoped : Fin 0 → Bool
  | ⟨_, h⟩ => absurd h (Nat.not_lt_zero _)

abbrev dmaSemScoped : Fin 21 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | _ => false

abbrev sig : RefSig :=
  ofTc nBuf bufTy 0 21 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_c : Ref sig .tc := ⟨.hbm, 14, rfl⟩
abbrev main_call0_v0 : Ref sig .tc := ⟨.hbm, 15, rfl⟩
abbrev main_v5 : Ref sig .tc := ⟨.hbm, 16, rfl⟩
abbrev main_v6 : Ref sig .tc := ⟨.hbm, 17, rfl⟩
abbrev main_c_0 : Ref sig .tc := ⟨.hbm, 18, rfl⟩
abbrev main_call1_v0 : Ref sig .tc := ⟨.hbm, 19, rfl⟩
abbrev main_v7 : Ref sig .tc := ⟨.hbm, 20, rfl⟩
abbrev main_v8 : Ref sig .tc := ⟨.hbm, 21, rfl⟩
abbrev main_v9 : Ref sig .tc := ⟨.hbm, 22, rfl⟩
abbrev main_v10 : Ref sig .tc := ⟨.hbm, 23, rfl⟩
abbrev main_v11 : Ref sig .tc := ⟨.hbm, 24, rfl⟩
abbrev main_cst : Ref sig .tc := ⟨.hbm, 25, rfl⟩
abbrev main_v12 : Ref sig .tc := ⟨.hbm, 26, rfl⟩
abbrev main_v13 : Ref sig .tc := ⟨.hbm, 27, rfl⟩
abbrev main_cst_1 : Ref sig .tc := ⟨.hbm, 28, rfl⟩
abbrev main_v14 : Ref sig .tc := ⟨.hbm, 29, rfl⟩
abbrev main_v15 : Ref sig .tc := ⟨.hbm, 30, rfl⟩
abbrev main_v16 : Ref sig .tc := ⟨.hbm, 31, rfl⟩
abbrev main_v17 : Ref sig .tc := ⟨.hbm, 32, rfl⟩
abbrev main_v18 : Ref sig .tc := ⟨.hbm, 33, rfl⟩
abbrev main_v19 : Ref sig .tc := ⟨.hbm, 34, rfl⟩
abbrev main_v20 : Ref sig .tc := ⟨.hbm, 35, rfl⟩
abbrev main_v21 : Ref sig .tc := ⟨.hbm, 36, rfl⟩
abbrev main_v22 : Ref sig .tc := ⟨.hbm, 37, rfl⟩
abbrev main_v23 : Ref sig .tc := ⟨.hbm, 38, rfl⟩
abbrev main_v24 : Ref sig .tc := ⟨.hbm, 39, rfl⟩
abbrev main_v25 : Ref sig .tc := ⟨.hbm, 40, rfl⟩
abbrev main_v26 : Ref sig .tc := ⟨.hbm, 41, rfl⟩
abbrev main_v27 : Ref sig .tc := ⟨.hbm, 42, rfl⟩
abbrev main_v28 : Ref sig .tc := ⟨.hbm, 43, rfl⟩
abbrev main_v29 : Ref sig .tc := ⟨.hbm, 44, rfl⟩
abbrev main_v30 : Ref sig .tc := ⟨.hbm, 45, rfl⟩
abbrev main_v31 : Ref sig .tc := ⟨.hbm, 46, rfl⟩
abbrev main_v32 : Ref sig .tc := ⟨.hbm, 47, rfl⟩
abbrev main_v33 : Ref sig .tc := ⟨.hbm, 48, rfl⟩
abbrev main_v34 : Ref sig .tc := ⟨.hbm, 49, rfl⟩
abbrev main_v35 : Ref sig .tc := ⟨.hbm, 50, rfl⟩
abbrev main_v36 : Ref sig .tc := ⟨.hbm, 51, rfl⟩
abbrev main_v37 : Ref sig .tc := ⟨.hbm, 52, rfl⟩
abbrev main_v38 : Ref sig .tc := ⟨.hbm, 53, rfl⟩
abbrev main_v39 : Ref sig .tc := ⟨.hbm, 54, rfl⟩
abbrev main_v40 : Ref sig .tc := ⟨.hbm, 55, rfl⟩
abbrev main_v41 : Ref sig .tc := ⟨.hbm, 56, rfl⟩
abbrev main_v42 : Ref sig .tc := ⟨.hbm, 57, rfl⟩
abbrev main_v43 : Ref sig .tc := ⟨.hbm, 58, rfl⟩
abbrev main_v44 : Ref sig .tc := ⟨.hbm, 59, rfl⟩
abbrev main_v45 : Ref sig .tc := ⟨.hbm, 60, rfl⟩
abbrev main_v46 : Ref sig .tc := ⟨.hbm, 61, rfl⟩
abbrev main_v47 : Ref sig .tc := ⟨.hbm, 62, rfl⟩
abbrev main_v48 : Ref sig .tc := ⟨.hbm, 63, rfl⟩
abbrev main_v49 : Ref sig .tc := ⟨.hbm, 64, rfl⟩
abbrev main_v50_0 : Ref sig .tc := ⟨.hbm, 65, rfl⟩
abbrev main_v50_1 : Ref sig .tc := ⟨.hbm, 66, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg7_0 : Ref sig .tc := ⟨.vmem, 10, rfl⟩
abbrev cc0_stg8_0 : Ref sig .tc := ⟨.vmem, 11, rfl⟩
abbrev cc0_stg8_1 : Ref sig .tc := ⟨.vmem, 12, rfl⟩
abbrev cc0_stg9_0 : Ref sig .tc := ⟨.vmem, 13, rfl⟩
abbrev cc0_stg9_1 : Ref sig .tc := ⟨.vmem, 14, rfl⟩
abbrev cc0_stg10_0 : Ref sig .tc := ⟨.vmem, 15, rfl⟩
abbrev cc0_stg11_0 : Ref sig .tc := ⟨.vmem, 16, rfl⟩
abbrev cc0_stg12_0 : Ref sig .tc := ⟨.vmem, 17, rfl⟩
abbrev cc0_stg12_1 : Ref sig .tc := ⟨.vmem, 18, rfl⟩
abbrev cc0_stg13_0 : Ref sig .tc := ⟨.vmem, 19, rfl⟩
abbrev cc0_stg13_1 : Ref sig .tc := ⟨.vmem, 20, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem6_0 : DmaSem sig := 9
abbrev cc0_sem7_0 : DmaSem sig := 10
abbrev cc0_sem8_0 : DmaSem sig := 11
abbrev cc0_sem8_1 : DmaSem sig := 12
abbrev cc0_sem9_0 : DmaSem sig := 13
abbrev cc0_sem9_1 : DmaSem sig := 14
abbrev cc0_sem10_0 : DmaSem sig := 15
abbrev cc0_sem11_0 : DmaSem sig := 16
abbrev cc0_sem12_0 : DmaSem sig := 17
abbrev cc0_sem12_1 : DmaSem sig := 18
abbrev cc0_sem13_0 : DmaSem sig := 19
abbrev cc0_sem13_1 : DmaSem sig := 20

abbrev nD : Nat := 1
abbrev τ : Topo := Topo.v7x

variable {F : FTy → Type} [FloatOps F]

abbrev grid0 : Pipeline.Grid := ⟨2, ![4, 16], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_9 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_10 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_13 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x1x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S1x1x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 1 → Memref sig .tc .vmem S1x1024x5632 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 1 → Memref sig .tc .vmem S1024x128 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 1 → Memref sig .tc .vmem S128x512 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false]

abbrev stage0_7 : Fin 1 → Memref sig .tc .vmem S1x512 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false, false]

abbrev stage0_8 : Fin 2 → Memref sig .tc .vmem S512x128 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![false, true]

abbrev stage0_9 : Fin 2 → Memref sig .tc .vmem S512x128 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![false, true]

abbrev stage0_10 : Fin 1 → Memref sig .tc .vmem S1x512 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false, false]

abbrev stage0_11 : Fin 1 → Memref sig .tc .vmem S1x512 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false, false]

abbrev stage0_12 : Fin 2 → Memref sig .tc .vmem S1x512x5632 .bf16 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true, true]

abbrev stage0_13 : Fin 2 → Memref sig .tc .vmem S1x512x512 .f32 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true, true]
-- ==== Reference4Ideal.lean ====
abbrev S4x8192x1024 : Shape := ⟨3, ![4, 8192, 1024]⟩
abbrev S4x1024 : Shape := ⟨2, ![4, 1024]⟩
abbrev S4x1024x5648 : Shape := ⟨3, ![4, 1024, 5648]⟩
abbrev S4x16x512 : Shape := ⟨3, ![4, 16, 512]⟩
abbrev S4x512 : Shape := ⟨2, ![4, 512]⟩
abbrev S4x64 : Shape := ⟨2, ![4, 64]⟩
abbrev S1x1024 : Shape := ⟨2, ![1, 1024]⟩
abbrev S1024 : Shape := ⟨1, ![1024]⟩
abbrev S_ : Shape := ⟨0, ![]⟩
abbrev S4x8192 : Shape := ⟨2, ![4, 8192]⟩
abbrev S4x8192x1 : Shape := ⟨3, ![4, 8192, 1]⟩
abbrev S1x1x1024 : Shape := ⟨3, ![1, 1, 1024]⟩
abbrev S4x1x1024 : Shape := ⟨3, ![4, 1, 1024]⟩
abbrev S1x1024x5648 : Shape := ⟨3, ![1, 1024, 5648]⟩
abbrev S1024x5648 : Shape := ⟨2, ![1024, 5648]⟩
abbrev S4x8192x5648 : Shape := ⟨3, ![4, 8192, 5648]⟩
abbrev S4x8192x512 : Shape := ⟨3, ![4, 8192, 512]⟩
abbrev S4x8192x16 : Shape := ⟨3, ![4, 8192, 16]⟩
abbrev S8192 : Shape := ⟨1, ![8192]⟩
abbrev S4x8192x4x128 : Shape := ⟨4, ![4, 8192, 4, 128]⟩
abbrev S64 : Shape := ⟨1, ![64]⟩
abbrev S8192x1 : Shape := ⟨2, ![8192, 1]⟩
abbrev S1x64 : Shape := ⟨2, ![1, 64]⟩
abbrev S8192x64 : Shape := ⟨2, ![8192, 64]⟩
abbrev S1x8192x1x64 : Shape := ⟨4, ![1, 8192, 1, 64]⟩
abbrev S4x8192x4x64 : Shape := ⟨4, ![4, 8192, 4, 64]⟩
abbrev S1x16x512 : Shape := ⟨3, ![1, 16, 512]⟩
abbrev S16x512 : Shape := ⟨2, ![16, 512]⟩
abbrev S1x512 : Shape := ⟨2, ![1, 512]⟩
abbrev S512 : Shape := ⟨1, ![512]⟩
abbrev S1x1x512 : Shape := ⟨3, ![1, 1, 512]⟩
abbrev S4x8192x8x64 : Shape := ⟨4, ![4, 8192, 8, 64]⟩
abbrev S4x8192x8 : Shape := ⟨3, ![4, 8192, 8]⟩
abbrev S4x8192x8x1 : Shape := ⟨4, ![4, 8192, 8, 1]⟩
abbrev S1x1x1x64 : Shape := ⟨4, ![1, 1, 1, 64]⟩
abbrev S4x8192x5632 : Shape := ⟨3, ![4, 8192, 5632]⟩

abbrev nBuf : Space → Nat
  | .hbm => 196
  | .vmem => 0
  | .smem => 0
  | _ => 0

abbrev hbmTy0_0 (i : Nat) : BufTy := match i % 128 with
  | 0 => ⟨S4x8192x1024, .f32⟩
  | 1 => ⟨S4x1024, .f32⟩
  | 2 => ⟨S4x1024, .f32⟩
  | 3 => ⟨S4x1024, .f32⟩
  | 4 => ⟨S4x1024x5648, .f32⟩
  | 5 => ⟨S4x16x512, .f32⟩
  | 6 => ⟨S4x512, .f32⟩
  | 7 => ⟨S4x64, .f32⟩
  | 8 => ⟨S4x64, .f32⟩
  | 9 => ⟨S1x1024, .f32⟩
  | 10 => ⟨S1024, .f32⟩
  | 11 => ⟨S4x8192x1024, .f32⟩
  | 12 => ⟨S_, .f32⟩
  | 13 => ⟨S4x8192, .f32⟩
  | 14 => ⟨S4x8192x1, .f32⟩
  | 15 => ⟨S_, .f32⟩
  | 16 => ⟨S4x8192x1, .f32⟩
  | 17 => ⟨S4x8192x1, .f32⟩
  | 18 => ⟨S_, .f32⟩
  | 19 => ⟨S4x8192x1, .f32⟩
  | 20 => ⟨S4x8192x1, .f32⟩
  | 21 => ⟨S4x8192x1, .f32⟩
  | 22 => ⟨S4x8192x1024, .f32⟩
  | 23 => ⟨S4x8192x1024, .f32⟩
  | 24 => ⟨S1x1x1024, .f32⟩
  | 25 => ⟨S4x8192x1024, .f32⟩
  | 26 => ⟨S4x8192x1024, .f32⟩
  | 27 => ⟨S4x1x1024, .f32⟩
  | 28 => ⟨S_, .f32⟩
  | 29 => ⟨S4x1x1024, .f32⟩
  | 30 => ⟨S4x1x1024, .f32⟩
  | 31 => ⟨S4x8192x1024, .f32⟩
  | 32 => ⟨S4x8192x1024, .f32⟩
  | 33 => ⟨S4x1x1024, .f32⟩
  | 34 => ⟨S4x8192x1024, .f32⟩
  | 35 => ⟨S4x8192x1024, .f32⟩
  | 36 => ⟨S1x1024x5648, .f32⟩
  | 37 => ⟨S1024x5648, .f32⟩
  | 38 => ⟨S4x8192x5648, .f32⟩
  | 39 => ⟨S4x8192x512, .f32⟩
  | 40 => ⟨S4x8192x512, .f32⟩
  | 41 => ⟨S4x8192x512, .f32⟩
  | 42 => ⟨S4x8192x512, .f32⟩
  | 43 => ⟨S4x8192x512, .f32⟩
  | 44 => ⟨S4x8192x512, .f32⟩
  | 45 => ⟨S4x8192x512, .f32⟩
  | 46 => ⟨S4x8192x512, .f32⟩
  | 47 => ⟨S4x8192x16, .f32⟩
  | 48 => ⟨S4x8192x512, .f32⟩
  | 49 => ⟨S4x8192x512, .f32⟩
  | 50 => ⟨S4x8192x512, .f32⟩
  | 51 => ⟨S8192, .f32⟩
  | 52 => ⟨S4x8192x4x128, .f32⟩
  | 53 => ⟨S64, .f32⟩
  | 54 => ⟨S64, .f32⟩
  | 55 => ⟨S_, .f32⟩
  | 56 => ⟨S64, .f32⟩
  | 57 => ⟨S64, .f32⟩
  | 58 => ⟨S_, .f32⟩
  | 59 => ⟨S64, .f32⟩
  | 60 => ⟨S64, .f32⟩
  | 61 => ⟨S8192x1, .f32⟩
  | 62 => ⟨S1x64, .f32⟩
  | 63 => ⟨S8192x64, .f32⟩
  | 64 => ⟨S8192x64, .f32⟩
  | 65 => ⟨S8192x64, .f32⟩
  | 66 => ⟨S8192x64, .f32⟩
  | 67 => ⟨S1x8192x1x64, .f32⟩
  | 68 => ⟨S8192x64, .f32⟩
  | 69 => ⟨S1x8192x1x64, .f32⟩
  | 70 => ⟨S4x8192x4x64, .f32⟩
  | 71 => ⟨S4x8192x4x64, .f32⟩
  | 72 => ⟨S4x8192x4x64, .f32⟩
  | 73 => ⟨S4x8192x4x64, .f32⟩
  | 74 => ⟨S4x8192x4x64, .f32⟩
  | 75 => ⟨S4x8192x4x64, .f32⟩
  | 76 => ⟨S4x8192x4x64, .f32⟩
  | 77 => ⟨S4x8192x4x64, .f32⟩
  | 78 => ⟨S4x8192x4x64, .f32⟩
  | 79 => ⟨S4x8192x4x64, .f32⟩
  | 80 => ⟨S4x8192x4x64, .f32⟩
  | 81 => ⟨S4x8192x4x64, .f32⟩
  | 82 => ⟨S4x8192x4x128, .f32⟩
  | 83 => ⟨S4x8192x4x128, .f32⟩
  | 84 => ⟨S64, .f32⟩
  | 85 => ⟨S64, .f32⟩
  | 86 => ⟨S_, .f32⟩
  | 87 => ⟨S64, .f32⟩
  | 88 => ⟨S64, .f32⟩
  | 89 => ⟨S_, .f32⟩
  | 90 => ⟨S64, .f32⟩
  | 91 => ⟨S64, .f32⟩
  | 92 => ⟨S8192x1, .f32⟩
  | 93 => ⟨S1x64, .f32⟩
  | 94 => ⟨S8192x64, .f32⟩
  | 95 => ⟨S8192x64, .f32⟩
  | 96 => ⟨S8192x64, .f32⟩
  | 97 => ⟨S8192x64, .f32⟩
  | 98 => ⟨S1x8192x1x64, .f32⟩
  | 99 => ⟨S8192x64, .f32⟩
  | 100 => ⟨S1x8192x1x64, .f32⟩
  | 101 => ⟨S4x8192x4x64, .f32⟩
  | 102 => ⟨S4x8192x4x64, .f32⟩
  | 103 => ⟨S4x8192x4x64, .f32⟩
  | 104 => ⟨S4x8192x4x64, .f32⟩
  | 105 => ⟨S4x8192x4x64, .f32⟩
  | 106 => ⟨S4x8192x4x64, .f32⟩
  | 107 => ⟨S4x8192x4x64, .f32⟩
  | 108 => ⟨S4x8192x4x64, .f32⟩
  | 109 => ⟨S4x8192x4x64, .f32⟩
  | 110 => ⟨S4x8192x4x64, .f32⟩
  | 111 => ⟨S4x8192x4x64, .f32⟩
  | 112 => ⟨S4x8192x4x64, .f32⟩
  | 113 => ⟨S4x8192x4x128, .f32⟩
  | 114 => ⟨S_, .f32⟩
  | 115 => ⟨S4x8192x4x128, .f32⟩
  | 116 => ⟨S4x8192x4x128, .f32⟩
  | 117 => ⟨S1x16x512, .f32⟩
  | 118 => ⟨S16x512, .f32⟩
  | 119 => ⟨S4x8192x512, .f32⟩
  | 120 => ⟨S1x512, .f32⟩
  | 121 => ⟨S512, .f32⟩
  | 122 => ⟨S1x1x512, .f32⟩
  | 123 => ⟨S4x8192x512, .f32⟩
  | 124 => ⟨S4x8192x512, .f32⟩
  | 125 => ⟨S4x8192x512, .f32⟩
  | 126 => ⟨S_, .f32⟩
  | 127 => ⟨S4x8192x512, .f32⟩
  | _ => ⟨S4x8192x1024, .f32⟩

abbrev hbmTy0_1 (i : Nat) : BufTy := match i % 128 with
  | 0 => ⟨S4x8192x512, .f32⟩
  | 1 => ⟨S4x8192x512, .f32⟩
  | 2 => ⟨S4x8192x512, .f32⟩
  | 3 => ⟨S4x8192x512, .i1⟩
  | 4 => ⟨S4x8192x512, .f32⟩
  | 5 => ⟨S4x8192x512, .f32⟩
  | 6 => ⟨S4x8192x512, .f32⟩
  | 7 => ⟨S4x8192x512, .f32⟩
  | 8 => ⟨S4x8192x512, .f32⟩
  | 9 => ⟨S4x8192x512, .f32⟩
  | 10 => ⟨S4x8192x512, .f32⟩
  | 11 => ⟨S4x8192x512, .f32⟩
  | 12 => ⟨S4x8192x512, .f32⟩
  | 13 => ⟨S_, .f32⟩
  | 14 => ⟨S4x8192x512, .f32⟩
  | 15 => ⟨S4x8192x512, .f32⟩
  | 16 => ⟨S4x8192x4x128, .f32⟩
  | 17 => ⟨S_, .f32⟩
  | 18 => ⟨S4x8192x4x128, .f32⟩
  | 19 => ⟨S4x8192x4x128, .f32⟩
  | 20 => ⟨S4x8192x8x64, .f32⟩
  | 21 => ⟨S4x8192x8x64, .f32⟩
  | 22 => ⟨S4x8192x8x64, .f32⟩
  | 23 => ⟨S_, .f32⟩
  | 24 => ⟨S4x8192x8, .f32⟩
  | 25 => ⟨S4x8192x8x1, .f32⟩
  | 26 => ⟨S_, .f32⟩
  | 27 => ⟨S4x8192x8x1, .f32⟩
  | 28 => ⟨S4x8192x8x1, .f32⟩
  | 29 => ⟨S_, .f32⟩
  | 30 => ⟨S4x8192x8x1, .f32⟩
  | 31 => ⟨S4x8192x8x1, .f32⟩
  | 32 => ⟨S4x8192x8x1, .f32⟩
  | 33 => ⟨S4x8192x8x64, .f32⟩
  | 34 => ⟨S4x8192x8x64, .f32⟩
  | 35 => ⟨S1x64, .f32⟩
  | 36 => ⟨S64, .f32⟩
  | 37 => ⟨S1x1x1x64, .f32⟩
  | 38 => ⟨S4x8192x8x64, .f32⟩
  | 39 => ⟨S4x8192x8x64, .f32⟩
  | 40 => ⟨S4x8192x8x64, .f32⟩
  | 41 => ⟨S_, .f32⟩
  | 42 => ⟨S4x8192x8, .f32⟩
  | 43 => ⟨S4x8192x8x1, .f32⟩
  | 44 => ⟨S_, .f32⟩
  | 45 => ⟨S4x8192x8x1, .f32⟩
  | 46 => ⟨S4x8192x8x1, .f32⟩
  | 47 => ⟨S_, .f32⟩
  | 48 => ⟨S4x8192x8x1, .f32⟩
  | 49 => ⟨S4x8192x8x1, .f32⟩
  | 50 => ⟨S4x8192x8x1, .f32⟩
  | 51 => ⟨S4x8192x8x64, .f32⟩
  | 52 => ⟨S4x8192x8x64, .f32⟩
  | 53 => ⟨S1x64, .f32⟩
  | 54 => ⟨S64, .f32⟩
  | 55 => ⟨S1x1x1x64, .f32⟩
  | 56 => ⟨S4x8192x8x64, .f32⟩
  | 57 => ⟨S4x8192x8x64, .f32⟩
  | 58 => ⟨S4x8192x512, .f32⟩
  | 59 => ⟨S4x8192x512, .f32⟩
  | 60 => ⟨S4x8192x512, .f32⟩
  | 61 => ⟨S_, .f32⟩
  | 62 => ⟨S4x8192x8x64, .f32⟩
  | 63 => ⟨S4x8192x8x64, .f32⟩
  | 64 => ⟨S4x8192x512, .f32⟩
  | 65 => ⟨S4x8192x512, .f32⟩
  | 66 => ⟨S4x8192x5632, .f32⟩
  | 67 => ⟨S4x8192x5632, .bf16⟩
  | _ => ⟨S4x8192x1024, .f32⟩

abbrev hbmTy (i : Nat) : BufTy := match i / 128 with
  | 0 => hbmTy0_0 i
  | 1 => hbmTy0_1 i
  | _ => ⟨S4x8192x1024, .f32⟩

abbrev bufTy : (tb : Table) → Fin (tcTables nBuf tb) → BufTy
  | .hbm, ⟨i, _⟩ => hbmTy i
  | _, _ => ⟨S4x8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_cst : Ref sig .tc := ⟨.hbm, 12, rfl⟩
abbrev main_v3 : Ref sig .tc := ⟨.hbm, 13, rfl⟩
abbrev main_v4 : Ref sig .tc := ⟨.hbm, 14, rfl⟩
abbrev main_cst_0 : Ref sig .tc := ⟨.hbm, 15, rfl⟩
abbrev main_v5 : Ref sig .tc := ⟨.hbm, 16, rfl⟩
abbrev main_v6 : Ref sig .tc := ⟨.hbm, 17, rfl⟩
abbrev main_cst_1 : Ref sig .tc := ⟨.hbm, 18, rfl⟩
abbrev main_v7 : Ref sig .tc := ⟨.hbm, 19, rfl⟩
abbrev main_v8 : Ref sig .tc := ⟨.hbm, 20, rfl⟩
abbrev main_v9 : Ref sig .tc := ⟨.hbm, 21, rfl⟩
abbrev main_v10 : Ref sig .tc := ⟨.hbm, 22, rfl⟩
abbrev main_v11 : Ref sig .tc := ⟨.hbm, 23, rfl⟩
abbrev main_v12 : Ref sig .tc := ⟨.hbm, 24, rfl⟩
abbrev main_v13 : Ref sig .tc := ⟨.hbm, 25, rfl⟩
abbrev main_v14 : Ref sig .tc := ⟨.hbm, 26, rfl⟩
abbrev main_v15 : Ref sig .tc := ⟨.hbm, 27, rfl⟩
abbrev main_cst_2 : Ref sig .tc := ⟨.hbm, 28, rfl⟩
abbrev main_v16 : Ref sig .tc := ⟨.hbm, 29, rfl⟩
abbrev main_v17 : Ref sig .tc := ⟨.hbm, 30, rfl⟩
abbrev main_v18 : Ref sig .tc := ⟨.hbm, 31, rfl⟩
abbrev main_v19 : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩
abbrev main_v26 : Ref sig .tc := ⟨.hbm, 39, rfl⟩
abbrev main_v27 : Ref sig .tc := ⟨.hbm, 40, rfl⟩
abbrev main_v28 : Ref sig .tc := ⟨.hbm, 41, rfl⟩
abbrev main_v29 : Ref sig .tc := ⟨.hbm, 42, rfl⟩
abbrev main_v30 : Ref sig .tc := ⟨.hbm, 43, rfl⟩
abbrev main_v31 : Ref sig .tc := ⟨.hbm, 44, rfl⟩
abbrev main_v32 : Ref sig .tc := ⟨.hbm, 45, rfl⟩
abbrev main_v33 : Ref sig .tc := ⟨.hbm, 46, rfl⟩
abbrev main_v34 : Ref sig .tc := ⟨.hbm, 47, rfl⟩
abbrev main_v35 : Ref sig .tc := ⟨.hbm, 48, rfl⟩
abbrev main_v36 : Ref sig .tc := ⟨.hbm, 49, rfl⟩
abbrev main_v37 : Ref sig .tc := ⟨.hbm, 50, rfl⟩
abbrev main_v38 : Ref sig .tc := ⟨.hbm, 51, rfl⟩
abbrev main_v39 : Ref sig .tc := ⟨.hbm, 52, rfl⟩
abbrev main_v40 : Ref sig .tc := ⟨.hbm, 53, rfl⟩
abbrev main_v41 : Ref sig .tc := ⟨.hbm, 54, rfl⟩
abbrev main_cst_3 : Ref sig .tc := ⟨.hbm, 55, rfl⟩
abbrev main_v42 : Ref sig .tc := ⟨.hbm, 56, rfl⟩
abbrev main_v43 : Ref sig .tc := ⟨.hbm, 57, rfl⟩
abbrev main_cst_4 : Ref sig .tc := ⟨.hbm, 58, rfl⟩
abbrev main_v44 : Ref sig .tc := ⟨.hbm, 59, rfl⟩
abbrev main_v45 : Ref sig .tc := ⟨.hbm, 60, rfl⟩
abbrev main_v46 : Ref sig .tc := ⟨.hbm, 61, rfl⟩
abbrev main_v47 : Ref sig .tc := ⟨.hbm, 62, rfl⟩
abbrev main_v48 : Ref sig .tc := ⟨.hbm, 63, rfl⟩
abbrev main_v49 : Ref sig .tc := ⟨.hbm, 64, rfl⟩
abbrev main_v50 : Ref sig .tc := ⟨.hbm, 65, rfl⟩
abbrev main_v51 : Ref sig .tc := ⟨.hbm, 66, rfl⟩
abbrev main_v52 : Ref sig .tc := ⟨.hbm, 67, rfl⟩
abbrev main_v53 : Ref sig .tc := ⟨.hbm, 68, rfl⟩
abbrev main_v54 : Ref sig .tc := ⟨.hbm, 69, rfl⟩
abbrev main_v55 : Ref sig .tc := ⟨.hbm, 70, rfl⟩
abbrev main_v56 : Ref sig .tc := ⟨.hbm, 71, rfl⟩
abbrev main_v57 : Ref sig .tc := ⟨.hbm, 72, rfl⟩
abbrev main_v58 : Ref sig .tc := ⟨.hbm, 73, rfl⟩
abbrev main_v59 : Ref sig .tc := ⟨.hbm, 74, rfl⟩
abbrev main_v60 : Ref sig .tc := ⟨.hbm, 75, rfl⟩
abbrev main_v61 : Ref sig .tc := ⟨.hbm, 76, rfl⟩
abbrev main_v62 : Ref sig .tc := ⟨.hbm, 77, rfl⟩
abbrev main_v63 : Ref sig .tc := ⟨.hbm, 78, rfl⟩
abbrev main_v64 : Ref sig .tc := ⟨.hbm, 79, rfl⟩
abbrev main_v65 : Ref sig .tc := ⟨.hbm, 80, rfl⟩
abbrev main_v66 : Ref sig .tc := ⟨.hbm, 81, rfl⟩
abbrev main_v67 : Ref sig .tc := ⟨.hbm, 82, rfl⟩
abbrev main_v68 : Ref sig .tc := ⟨.hbm, 83, rfl⟩
abbrev main_v69 : Ref sig .tc := ⟨.hbm, 84, rfl⟩
abbrev main_v70 : Ref sig .tc := ⟨.hbm, 85, rfl⟩
abbrev main_cst_5 : Ref sig .tc := ⟨.hbm, 86, rfl⟩
abbrev main_v71 : Ref sig .tc := ⟨.hbm, 87, rfl⟩
abbrev main_v72 : Ref sig .tc := ⟨.hbm, 88, rfl⟩
abbrev main_cst_6 : Ref sig .tc := ⟨.hbm, 89, rfl⟩
abbrev main_v73 : Ref sig .tc := ⟨.hbm, 90, rfl⟩
abbrev main_v74 : Ref sig .tc := ⟨.hbm, 91, rfl⟩
abbrev main_v75 : Ref sig .tc := ⟨.hbm, 92, rfl⟩
abbrev main_v76 : Ref sig .tc := ⟨.hbm, 93, rfl⟩
abbrev main_v77 : Ref sig .tc := ⟨.hbm, 94, rfl⟩
abbrev main_v78 : Ref sig .tc := ⟨.hbm, 95, rfl⟩
abbrev main_v79 : Ref sig .tc := ⟨.hbm, 96, rfl⟩
abbrev main_v80 : Ref sig .tc := ⟨.hbm, 97, rfl⟩
abbrev main_v81 : Ref sig .tc := ⟨.hbm, 98, rfl⟩
abbrev main_v82 : Ref sig .tc := ⟨.hbm, 99, rfl⟩
abbrev main_v83 : Ref sig .tc := ⟨.hbm, 100, rfl⟩
abbrev main_v84 : Ref sig .tc := ⟨.hbm, 101, rfl⟩
abbrev main_v85 : Ref sig .tc := ⟨.hbm, 102, rfl⟩
abbrev main_v86 : Ref sig .tc := ⟨.hbm, 103, rfl⟩
abbrev main_v87 : Ref sig .tc := ⟨.hbm, 104, rfl⟩
abbrev main_v88 : Ref sig .tc := ⟨.hbm, 105, rfl⟩
abbrev main_v89 : Ref sig .tc := ⟨.hbm, 106, rfl⟩
abbrev main_v90 : Ref sig .tc := ⟨.hbm, 107, rfl⟩
abbrev main_v91 : Ref sig .tc := ⟨.hbm, 108, rfl⟩
abbrev main_v92 : Ref sig .tc := ⟨.hbm, 109, rfl⟩
abbrev main_v93 : Ref sig .tc := ⟨.hbm, 110, rfl⟩
abbrev main_v94 : Ref sig .tc := ⟨.hbm, 111, rfl⟩
abbrev main_v95 : Ref sig .tc := ⟨.hbm, 112, rfl⟩
abbrev main_v96 : Ref sig .tc := ⟨.hbm, 113, rfl⟩
abbrev main_cst_7 : Ref sig .tc := ⟨.hbm, 114, rfl⟩
abbrev main_v97 : Ref sig .tc := ⟨.hbm, 115, rfl⟩
abbrev main_v98 : Ref sig .tc := ⟨.hbm, 116, rfl⟩
abbrev main_v99 : Ref sig .tc := ⟨.hbm, 117, rfl⟩
abbrev main_v100 : Ref sig .tc := ⟨.hbm, 118, rfl⟩
abbrev main_v101 : Ref sig .tc := ⟨.hbm, 119, rfl⟩
abbrev main_v102 : Ref sig .tc := ⟨.hbm, 120, rfl⟩
abbrev main_v103 : Ref sig .tc := ⟨.hbm, 121, rfl⟩
abbrev main_v104 : Ref sig .tc := ⟨.hbm, 122, rfl⟩
abbrev main_v105 : Ref sig .tc := ⟨.hbm, 123, rfl⟩
abbrev main_v106 : Ref sig .tc := ⟨.hbm, 124, rfl⟩
abbrev main_call0_v0 : Ref sig .tc := ⟨.hbm, 125, rfl⟩
abbrev main_call0_call0_cst : Ref sig .tc := ⟨.hbm, 126, rfl⟩
abbrev main_call0_call0_v0 : Ref sig .tc := ⟨.hbm, 127, rfl⟩
abbrev main_call0_call0_v1 : Ref sig .tc := ⟨.hbm, 128, rfl⟩
abbrev main_call0_call0_v2 : Ref sig .tc := ⟨.hbm, 129, rfl⟩
abbrev main_call0_call0_v3 : Ref sig .tc := ⟨.hbm, 130, rfl⟩
abbrev main_call0_call0_v4 : Ref sig .tc := ⟨.hbm, 131, rfl⟩
abbrev main_call0_call0_v5 : Ref sig .tc := ⟨.hbm, 132, rfl⟩
abbrev main_call0_call0_v6 : Ref sig .tc := ⟨.hbm, 133, rfl⟩
abbrev main_call0_call0_v7 : Ref sig .tc := ⟨.hbm, 134, rfl⟩
abbrev main_call0_call0_v8 : Ref sig .tc := ⟨.hbm, 135, rfl⟩
abbrev main_call0_call0_v9 : Ref sig .tc := ⟨.hbm, 136, rfl⟩
abbrev main_call0_call0_v10 : Ref sig .tc := ⟨.hbm, 137, rfl⟩
abbrev main_call0_call0_v11 : Ref sig .tc := ⟨.hbm, 138, rfl⟩
abbrev main_call0_v1 : Ref sig .tc := ⟨.hbm, 139, rfl⟩
abbrev main_v107 : Ref sig .tc := ⟨.hbm, 140, rfl⟩
abbrev main_cst_8 : Ref sig .tc := ⟨.hbm, 141, rfl⟩
abbrev main_v108 : Ref sig .tc := ⟨.hbm, 142, rfl⟩
abbrev main_v109 : Ref sig .tc := ⟨.hbm, 143, rfl⟩
abbrev main_v110 : Ref sig .tc := ⟨.hbm, 144, rfl⟩
abbrev main_cst_9 : Ref sig .tc := ⟨.hbm, 145, rfl⟩
abbrev main_v111 : Ref sig .tc := ⟨.hbm, 146, rfl⟩
abbrev main_v112 : Ref sig .tc := ⟨.hbm, 147, rfl⟩
abbrev main_v113 : Ref sig .tc := ⟨.hbm, 148, rfl⟩
abbrev main_v114 : Ref sig .tc := ⟨.hbm, 149, rfl⟩
abbrev main_v115 : Ref sig .tc := ⟨.hbm, 150, rfl⟩
abbrev main_cst_10 : Ref sig .tc := ⟨.hbm, 151, rfl⟩
abbrev main_v116 : Ref sig .tc := ⟨.hbm, 152, rfl⟩
abbrev main_v117 : Ref sig .tc := ⟨.hbm, 153, rfl⟩
abbrev main_cst_11 : Ref sig .tc := ⟨.hbm, 154, rfl⟩
abbrev main_v118 : Ref sig .tc := ⟨.hbm, 155, rfl⟩
abbrev main_v119 : Ref sig .tc := ⟨.hbm, 156, rfl⟩
abbrev main_cst_12 : Ref sig .tc := ⟨.hbm, 157, rfl⟩
abbrev main_v120 : Ref sig .tc := ⟨.hbm, 158, rfl⟩
abbrev main_v121 : Ref sig .tc := ⟨.hbm, 159, rfl⟩
abbrev main_v122 : Ref sig .tc := ⟨.hbm, 160, rfl⟩
abbrev main_v123 : Ref sig .tc := ⟨.hbm, 161, rfl⟩
abbrev main_v124 : Ref sig .tc := ⟨.hbm, 162, rfl⟩
abbrev main_v125 : Ref sig .tc := ⟨.hbm, 163, rfl⟩
abbrev main_v126 : Ref sig .tc := ⟨.hbm, 164, rfl⟩
abbrev main_v127 : Ref sig .tc := ⟨.hbm, 165, rfl⟩
abbrev main_v128 : Ref sig .tc := ⟨.hbm, 166, rfl⟩
abbrev main_v129 : Ref sig .tc := ⟨.hbm, 167, rfl⟩
abbrev main_v130 : Ref sig .tc := ⟨.hbm, 168, rfl⟩
abbrev main_cst_13 : Ref sig .tc := ⟨.hbm, 169, rfl⟩
abbrev main_v131 : Ref sig .tc := ⟨.hbm, 170, rfl⟩
abbrev main_v132 : Ref sig .tc := ⟨.hbm, 171, rfl⟩
abbrev main_cst_14 : Ref sig .tc := ⟨.hbm, 172, rfl⟩
abbrev main_v133 : Ref sig .tc := ⟨.hbm, 173, rfl⟩
abbrev main_v134 : Ref sig .tc := ⟨.hbm, 174, rfl⟩
abbrev main_cst_15 : Ref sig .tc := ⟨.hbm, 175, rfl⟩
abbrev main_v135 : Ref sig .tc := ⟨.hbm, 176, rfl⟩
abbrev main_v136 : Ref sig .tc := ⟨.hbm, 177, rfl⟩
abbrev main_v137 : Ref sig .tc := ⟨.hbm, 178, rfl⟩
abbrev main_v138 : Ref sig .tc := ⟨.hbm, 179, rfl⟩
abbrev main_v139 : Ref sig .tc := ⟨.hbm, 180, rfl⟩
abbrev main_v140 : Ref sig .tc := ⟨.hbm, 181, rfl⟩
abbrev main_v141 : Ref sig .tc := ⟨.hbm, 182, rfl⟩
abbrev main_v142 : Ref sig .tc := ⟨.hbm, 183, rfl⟩
abbrev main_v143 : Ref sig .tc := ⟨.hbm, 184, rfl⟩
abbrev main_v144 : Ref sig .tc := ⟨.hbm, 185, rfl⟩
abbrev main_v145 : Ref sig .tc := ⟨.hbm, 186, rfl⟩
abbrev main_v146 : Ref sig .tc := ⟨.hbm, 187, rfl⟩
abbrev main_v147 : Ref sig .tc := ⟨.hbm, 188, rfl⟩
abbrev main_cst_16 : Ref sig .tc := ⟨.hbm, 189, rfl⟩
abbrev main_v148 : Ref sig .tc := ⟨.hbm, 190, rfl⟩
abbrev main_v149 : Ref sig .tc := ⟨.hbm, 191, rfl⟩
abbrev main_v150 : Ref sig .tc := ⟨.hbm, 192, rfl⟩
abbrev main_v151 : Ref sig .tc := ⟨.hbm, 193, rfl⟩
abbrev main_v152 : Ref sig .tc := ⟨.hbm, 194, rfl⟩
abbrev main_v153 : Ref sig .tc := ⟨.hbm, 195, rfl⟩

abbrev nD : Nat := 1
abbrev τ : Topo := Topo.v7x

variable {F : FTy → Type} [FloatOps F]
-- ==== Kernel5.lean ====
abbrev S16x16x1024 : Shape := ⟨3, ![16, 16, 1024]⟩
abbrev S16x1024 : Shape := ⟨2, ![16, 1024]⟩
abbrev S4x1024 : Shape := ⟨2, ![4, 1024]⟩
abbrev S4x1024x5648 : Shape := ⟨3, ![4, 1024, 5648]⟩
abbrev S4x16x512 : Shape := ⟨3, ![4, 16, 512]⟩
abbrev S4x512 : Shape := ⟨2, ![4, 512]⟩
abbrev S4x64 : Shape := ⟨2, ![4, 64]⟩
abbrev S4x1024x4096 : Shape := ⟨3, ![4, 1024, 4096]⟩
abbrev S4x1024x1536 : Shape := ⟨3, ![4, 1024, 1536]⟩
abbrev S4x1024x5632 : Shape := ⟨3, ![4, 1024, 5632]⟩
abbrev S4x1024x16 : Shape := ⟨3, ![4, 1024, 16]⟩
abbrev S_ : Shape := ⟨0, ![]⟩
abbrev S4x1024x128 : Shape := ⟨3, ![4, 1024, 128]⟩
abbrev S4x128x512 : Shape := ⟨3, ![4, 128, 512]⟩
abbrev S16 : Shape := ⟨1, ![16]⟩
abbrev S64 : Shape := ⟨1, ![64]⟩
abbrev S16x1 : Shape := ⟨2, ![16, 1]⟩
abbrev S1x64 : Shape := ⟨2, ![1, 64]⟩
abbrev S16x64 : Shape := ⟨2, ![16, 64]⟩
abbrev S16x128 : Shape := ⟨2, ![16, 128]⟩
abbrev S1x16x1x128 : Shape := ⟨4, ![1, 16, 1, 128]⟩
abbrev S16x16x1x128 : Shape := ⟨4, ![16, 16, 1, 128]⟩
abbrev S256x128 : Shape := ⟨2, ![256, 128]⟩
abbrev S1x256x1024 : Shape := ⟨3, ![1, 256, 1024]⟩
abbrev S256x1024 : Shape := ⟨2, ![256, 1024]⟩
abbrev S1x1024 : Shape := ⟨2, ![1, 1024]⟩
abbrev S1024 : Shape := ⟨1, ![1024]⟩
abbrev S1x1024x128 : Shape := ⟨3, ![1, 1024, 128]⟩
abbrev S1024x128 : Shape := ⟨2, ![1024, 128]⟩
abbrev S1x128x512 : Shape := ⟨3, ![1, 128, 512]⟩
abbrev S128x512 : Shape := ⟨2, ![128, 512]⟩
abbrev S1x512 : Shape := ⟨2, ![1, 512]⟩
abbrev S512 : Shape := ⟨1, ![512]⟩
abbrev S8x64 : Shape := ⟨2, ![8, 64]⟩
abbrev S1x256x5632 : Shape := ⟨3, ![1, 256, 5632]⟩
abbrev S1x256x512 : Shape := ⟨3, ![1, 256, 512]⟩
abbrev S1x1024x5632 : Shape := ⟨3, ![1, 1024, 5632]⟩
abbrev S256 : Shape := ⟨1, ![256]⟩
abbrev S256x1 : Shape := ⟨2, ![256, 1]⟩
abbrev S1x1024x512 : Shape := ⟨3, ![1, 1024, 512]⟩
abbrev S1024x512 : Shape := ⟨2, ![1024, 512]⟩
abbrev S256x512 : Shape := ⟨2, ![256, 512]⟩
abbrev S1x128 : Shape := ⟨2, ![1, 128]⟩

abbrev nBuf : Space → Nat
  | .hbm => 81
  | .vmem => 14
  | .smem => 0
  | _ => 0

abbrev bufTy : (tb : Table) → Fin (tcTables nBuf tb) → BufTy
  | .hbm, ⟨0, _⟩ => ⟨S16x16x1024, .f32⟩
  | .hbm, ⟨1, _⟩ => ⟨S16x1024, .f32⟩
  | .hbm, ⟨2, _⟩ => ⟨S16x1024, .f32⟩
  | .hbm, ⟨3, _⟩ => ⟨S4x1024, .f32⟩
  | .hbm, ⟨4, _⟩ => ⟨S4x1024x5648, .f32⟩
  | .hbm, ⟨5, _⟩ => ⟨S4x16x512, .f32⟩
  | .hbm, ⟨6, _⟩ => ⟨S4x512, .f32⟩
  | .hbm, ⟨7, _⟩ => ⟨S4x64, .f32⟩
  | .hbm, ⟨8, _⟩ => ⟨S4x64, .f32⟩
  | .hbm, ⟨9, _⟩ => ⟨S4x1024x4096, .f32⟩
  | .hbm, ⟨10, _⟩ => ⟨S4x1024x1536, .f32⟩
  | .hbm, ⟨11, _⟩ => ⟨S4x1024x5632, .f32⟩
  | .hbm, ⟨12, _⟩ => ⟨S4x1024x5632, .bf16⟩
  | .hbm, ⟨13, _⟩ => ⟨S4x1024x16, .f32⟩
  | .hbm, ⟨14, _⟩ => ⟨S_, .i32⟩
  | .hbm, ⟨15, _⟩ => ⟨S_, .f32⟩
  | .hbm, ⟨16, _⟩ => ⟨S4x1024x128, .f32⟩
  | .hbm, ⟨17, _⟩ => ⟨S4x1024x128, .bf16⟩
  | .hbm, ⟨18, _⟩ => ⟨S_, .i32⟩
  | .hbm, ⟨19, _⟩ => ⟨S_, .f32⟩
  | .hbm, ⟨20, _⟩ => ⟨S4x128x512, .f32⟩
  | .hbm, ⟨21, _⟩ => ⟨S4x128x512, .bf16⟩
  | .hbm, ⟨22, _⟩ => ⟨S16, .f32⟩
  | .hbm, ⟨23, _⟩ => ⟨S_, .f32⟩
  | .hbm, ⟨24, _⟩ => ⟨S16, .f32⟩
  | .hbm, ⟨25, _⟩ => ⟨S16, .f32⟩
  | .hbm, ⟨26, _⟩ => ⟨S64, .f32⟩
  | .hbm, ⟨27, _⟩ => ⟨S64, .f32⟩
  | .hbm, ⟨28, _⟩ => ⟨S_, .f32⟩
  | .hbm, ⟨29, _⟩ => ⟨S64, .f32⟩
  | .hbm, ⟨30, _⟩ => ⟨S64, .f32⟩
  | .hbm, ⟨31, _⟩ => ⟨S_, .f32⟩
  | .hbm, ⟨32, _⟩ => ⟨S64, .f32⟩
  | .hbm, ⟨33, _⟩ => ⟨S64, .f32⟩
  | .hbm, ⟨34, _⟩ => ⟨S16x1, .f32⟩
  | .hbm, ⟨35, _⟩ => ⟨S1x64, .f32⟩
  | .hbm, ⟨36, _⟩ => ⟨S16x64, .f32⟩
  | .hbm, ⟨37, _⟩ => ⟨S16x64, .f32⟩
  | .hbm, ⟨38, _⟩ => ⟨S16x64, .f32⟩
  | .hbm, ⟨39, _⟩ => ⟨S16x64, .f32⟩
  | .hbm, ⟨40, _⟩ => ⟨S16x64, .f32⟩
  | .hbm, ⟨41, _⟩ => ⟨S16x128, .f32⟩
  | .hbm, ⟨42, _⟩ => ⟨S16x64, .f32⟩
  | .hbm, ⟨43, _⟩ => ⟨S16x128, .f32⟩
  | .hbm, ⟨44, _⟩ => ⟨S1x16x1x128, .f32⟩
  | .hbm, ⟨45, _⟩ => ⟨S16x16x1x128, .f32⟩
  | .hbm, ⟨46, _⟩ => ⟨S256x128, .f32⟩
  | .hbm, ⟨47, _⟩ => ⟨S1x16x1x128, .f32⟩
  | .hbm, ⟨48, _⟩ => ⟨S16x16x1x128, .f32⟩
  | .hbm, ⟨49, _⟩ => ⟨S256x128, .f32⟩
  | .hbm, ⟨50, _⟩ => ⟨S1x256x1024, .f32⟩
  | .hbm, ⟨51, _⟩ => ⟨S16x16x1024, .f32⟩
  | .hbm, ⟨52, _⟩ => ⟨S256x1024, .f32⟩
  | .hbm, ⟨53, _⟩ => ⟨S1x256x1024, .f32⟩
  | .hbm, ⟨54, _⟩ => ⟨S16x16x1024, .f32⟩
  | .hbm, ⟨55, _⟩ => ⟨S256x1024, .f32⟩
  | .hbm, ⟨56, _⟩ => ⟨S1x256x1024, .f32⟩
  | .hbm, ⟨57, _⟩ => ⟨S1x1024, .f32⟩
  | .hbm, ⟨58, _⟩ => ⟨S1024, .f32⟩
  | .hbm, ⟨59, _⟩ => ⟨S1x1024, .f32⟩
  | .hbm, ⟨60, _⟩ => ⟨S1x1024x128, .bf16⟩
  | .hbm, ⟨61, _⟩ => ⟨S1024x128, .bf16⟩
  | .hbm, ⟨62, _⟩ => ⟨S1x128x512, .bf16⟩
  | .hbm, ⟨63, _⟩ => ⟨S128x512, .bf16⟩
  | .hbm, ⟨64, _⟩ => ⟨S1x512, .f32⟩
  | .hbm, ⟨65, _⟩ => ⟨S512, .f32⟩
  | .hbm, ⟨66, _⟩ => ⟨S1x512, .f32⟩
  | .hbm, ⟨67, _⟩ => ⟨S1x64, .f32⟩
  | .hbm, ⟨68, _⟩ => ⟨S64, .f32⟩
  | .hbm, ⟨69, _⟩ => ⟨S1x64, .f32⟩
  | .hbm, ⟨70, _⟩ => ⟨S8x64, .f32⟩
  | .hbm, ⟨71, _⟩ => ⟨S512, .f32⟩
  | .hbm, ⟨72, _⟩ => ⟨S1x512, .f32⟩
  | .hbm, ⟨73, _⟩ => ⟨S1x64, .f32⟩
  | .hbm, ⟨74, _⟩ => ⟨S64, .f32⟩
  | .hbm, ⟨75, _⟩ => ⟨S1x64, .f32⟩
  | .hbm, ⟨76, _⟩ => ⟨S8x64, .f32⟩
  | .hbm, ⟨77, _⟩ => ⟨S512, .f32⟩
  | .hbm, ⟨78, _⟩ => ⟨S1x512, .f32⟩
  | .hbm, ⟨79, _⟩ => ⟨S1x256x5632, .bf16⟩
  | .hbm, ⟨80, _⟩ => ⟨S1x256x512, .f32⟩
  | .local _ .vmem, ⟨0, _⟩ => ⟨S1x256x1024, .f32⟩
  | .local _ .vmem, ⟨1, _⟩ => ⟨S1x256x1024, .f32⟩
  | .local _ .vmem, ⟨2, _⟩ => ⟨S1x256x1024, .f32⟩
  | .local _ .vmem, ⟨3, _⟩ => ⟨S1x1024, .f32⟩
  | .local _ .vmem, ⟨4, _⟩ => ⟨S1x1024x5632, .bf16⟩
  | .local _ .vmem, ⟨5, _⟩ => ⟨S1024x128, .bf16⟩
  | .local _ .vmem, ⟨6, _⟩ => ⟨S128x512, .bf16⟩
  | .local _ .vmem, ⟨7, _⟩ => ⟨S1x512, .f32⟩
  | .local _ .vmem, ⟨8, _⟩ => ⟨S256x128, .f32⟩
  | .local _ .vmem, ⟨9, _⟩ => ⟨S256x128, .f32⟩
  | .local _ .vmem, ⟨10, _⟩ => ⟨S1x512, .f32⟩
  | .local _ .vmem, ⟨11, _⟩ => ⟨S1x512, .f32⟩
  | .local _ .vmem, ⟨12, _⟩ => ⟨S1x256x5632, .bf16⟩
  | .local _ .vmem, ⟨13, _⟩ => ⟨S1x256x512, .f32⟩
  | _, _ => ⟨S16x16x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_c : Ref sig .tc := ⟨.hbm, 14, rfl⟩
abbrev main_call0_v0 : Ref sig .tc := ⟨.hbm, 15, rfl⟩
abbrev main_v5 : Ref sig .tc := ⟨.hbm, 16, rfl⟩
abbrev main_v6 : Ref sig .tc := ⟨.hbm, 17, rfl⟩
abbrev main_c_0 : Ref sig .tc := ⟨.hbm, 18, rfl⟩
abbrev main_call1_v0 : Ref sig .tc := ⟨.hbm, 19, rfl⟩
abbrev main_v7 : Ref sig .tc := ⟨.hbm, 20, rfl⟩
abbrev main_v8 : Ref sig .tc := ⟨.hbm, 21, rfl⟩
abbrev main_v9 : Ref sig .tc := ⟨.hbm, 22, rfl⟩
abbrev main_cst : Ref sig .tc := ⟨.hbm, 23, rfl⟩
abbrev main_v10 : Ref sig .tc := ⟨.hbm, 24, rfl⟩
abbrev main_v11 : Ref sig .tc := ⟨.hbm, 25, rfl⟩
abbrev main_v12 : Ref sig .tc := ⟨.hbm, 26, rfl⟩
abbrev main_v13 : Ref sig .tc := ⟨.hbm, 27, rfl⟩
abbrev main_cst_1 : Ref sig .tc := ⟨.hbm, 28, rfl⟩
abbrev main_v14 : Ref sig .tc := ⟨.hbm, 29, rfl⟩
abbrev main_v15 : Ref sig .tc := ⟨.hbm, 30, rfl⟩
abbrev main_cst_2 : Ref sig .tc := ⟨.hbm, 31, rfl⟩
abbrev main_v16 : Ref sig .tc := ⟨.hbm, 32, rfl⟩
abbrev main_v17 : Ref sig .tc := ⟨.hbm, 33, rfl⟩
abbrev main_v18 : Ref sig .tc := ⟨.hbm, 34, rfl⟩
abbrev main_v19 : Ref sig .tc := ⟨.hbm, 35, rfl⟩
abbrev main_v20 : Ref sig .tc := ⟨.hbm, 36, rfl⟩
abbrev main_v21 : Ref sig .tc := ⟨.hbm, 37, rfl⟩
abbrev main_v22 : Ref sig .tc := ⟨.hbm, 38, rfl⟩
abbrev main_v23 : Ref sig .tc := ⟨.hbm, 39, rfl⟩
abbrev main_v24 : Ref sig .tc := ⟨.hbm, 40, rfl⟩
abbrev main_v25 : Ref sig .tc := ⟨.hbm, 41, rfl⟩
abbrev main_v26 : Ref sig .tc := ⟨.hbm, 42, rfl⟩
abbrev main_v27 : Ref sig .tc := ⟨.hbm, 43, rfl⟩
abbrev main_v28 : Ref sig .tc := ⟨.hbm, 44, rfl⟩
abbrev main_v29 : Ref sig .tc := ⟨.hbm, 45, rfl⟩
abbrev main_v30 : Ref sig .tc := ⟨.hbm, 46, rfl⟩
abbrev main_v31 : Ref sig .tc := ⟨.hbm, 47, rfl⟩
abbrev main_v32 : Ref sig .tc := ⟨.hbm, 48, rfl⟩
abbrev main_v33 : Ref sig .tc := ⟨.hbm, 49, rfl⟩
abbrev main_v34 : Ref sig .tc := ⟨.hbm, 50, rfl⟩
abbrev main_v35 : Ref sig .tc := ⟨.hbm, 51, rfl⟩
abbrev main_v36 : Ref sig .tc := ⟨.hbm, 52, rfl⟩
abbrev main_v37 : Ref sig .tc := ⟨.hbm, 53, rfl⟩
abbrev main_v38 : Ref sig .tc := ⟨.hbm, 54, rfl⟩
abbrev main_v39 : Ref sig .tc := ⟨.hbm, 55, rfl⟩
abbrev main_v40 : Ref sig .tc := ⟨.hbm, 56, rfl⟩
abbrev main_v41 : Ref sig .tc := ⟨.hbm, 57, rfl⟩
abbrev main_v42 : Ref sig .tc := ⟨.hbm, 58, rfl⟩
abbrev main_v43 : Ref sig .tc := ⟨.hbm, 59, rfl⟩
abbrev main_v44 : Ref sig .tc := ⟨.hbm, 60, rfl⟩
abbrev main_v45 : Ref sig .tc := ⟨.hbm, 61, rfl⟩
abbrev main_v46 : Ref sig .tc := ⟨.hbm, 62, rfl⟩
abbrev main_v47 : Ref sig .tc := ⟨.hbm, 63, rfl⟩
abbrev main_v48 : Ref sig .tc := ⟨.hbm, 64, rfl⟩
abbrev main_v49 : Ref sig .tc := ⟨.hbm, 65, rfl⟩
abbrev main_v50 : Ref sig .tc := ⟨.hbm, 66, rfl⟩
abbrev main_v51 : Ref sig .tc := ⟨.hbm, 67, rfl⟩
abbrev main_v52 : Ref sig .tc := ⟨.hbm, 68, rfl⟩
abbrev main_v53 : Ref sig .tc := ⟨.hbm, 69, rfl⟩
abbrev main_v54 : Ref sig .tc := ⟨.hbm, 70, rfl⟩
abbrev main_v55 : Ref sig .tc := ⟨.hbm, 71, rfl⟩
abbrev main_v56 : Ref sig .tc := ⟨.hbm, 72, rfl⟩
abbrev main_v57 : Ref sig .tc := ⟨.hbm, 73, rfl⟩
abbrev main_v58 : Ref sig .tc := ⟨.hbm, 74, rfl⟩
abbrev main_v59 : Ref sig .tc := ⟨.hbm, 75, rfl⟩
abbrev main_v60 : Ref sig .tc := ⟨.hbm, 76, rfl⟩
abbrev main_v61 : Ref sig .tc := ⟨.hbm, 77, rfl⟩
abbrev main_v62 : Ref sig .tc := ⟨.hbm, 78, rfl⟩
abbrev main_v63_0 : Ref sig .tc := ⟨.hbm, 79, rfl⟩
abbrev main_v63_1 : Ref sig .tc := ⟨.hbm, 80, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_stg8_0 : Ref sig .tc := ⟨.vmem, 8, rfl⟩
abbrev cc0_stg9_0 : Ref sig .tc := ⟨.vmem, 9, rfl⟩
abbrev cc0_stg10_0 : Ref sig .tc := ⟨.vmem, 10, rfl⟩
abbrev cc0_stg11_0 : Ref sig .tc := ⟨.vmem, 11, rfl⟩
abbrev cc0_stg12_0 : Ref sig .tc := ⟨.vmem, 12, rfl⟩
abbrev cc0_stg13_0 : Ref sig .tc := ⟨.vmem, 13, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7
abbrev cc0_sem8_0 : DmaSem sig := 8
abbrev cc0_sem9_0 : DmaSem sig := 9
abbrev cc0_sem10_0 : DmaSem sig := 10
abbrev cc0_sem11_0 : DmaSem sig := 11
abbrev cc0_sem12_0 : DmaSem sig := 12
abbrev cc0_sem13_0 : DmaSem sig := 13

abbrev nD : Nat := 1
abbrev τ : Topo := Topo.v7x

variable {F : FTy → Type} [FloatOps F]

abbrev grid0 : Pipeline.Grid := ⟨2, ![1, 1], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_9 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_10 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_13 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 1 → Memref sig .tc .vmem S1x256x1024 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true, true]

abbrev stage0_1 : Fin 1 → Memref sig .tc .vmem S1x256x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true, true]

abbrev stage0_2 : Fin 1 → Memref sig .tc .vmem S1x256x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true, true]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 1 → Memref sig .tc .vmem S1x1024x5632 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 1 → Memref sig .tc .vmem S1024x128 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 1 → Memref sig .tc .vmem S128x512 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false]

abbrev stage0_7 : Fin 1 → Memref sig .tc .vmem S1x512 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false, false]

abbrev stage0_8 : Fin 1 → Memref sig .tc .vmem S256x128 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false, true]

abbrev stage0_9 : Fin 1 → Memref sig .tc .vmem S256x128 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false, true]

abbrev stage0_10 : Fin 1 → Memref sig .tc .vmem S1x512 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false, false]

abbrev stage0_11 : Fin 1 → Memref sig .tc .vmem S1x512 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false, false]

abbrev stage0_12 : Fin 1 → Memref sig .tc .vmem S1x256x5632 .bf16 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![true, true]

abbrev stage0_13 : Fin 1 → Memref sig .tc .vmem S1x256x512 .f32 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))
abbrev reads0_13 : Fin grid0.rank → Bool := ![true, true]
-- ==== Reference5Ideal.lean ====
abbrev S16x16x1024 : Shape := ⟨3, ![16, 16, 1024]⟩
abbrev S16x1024 : Shape := ⟨2, ![16, 1024]⟩
abbrev S4x1024 : Shape := ⟨2, ![4, 1024]⟩
abbrev S4x1024x5648 : Shape := ⟨3, ![4, 1024, 5648]⟩
abbrev S4x16x512 : Shape := ⟨3, ![4, 16, 512]⟩
abbrev S4x512 : Shape := ⟨2, ![4, 512]⟩
abbrev S4x64 : Shape := ⟨2, ![4, 64]⟩
abbrev S1x1024 : Shape := ⟨2, ![1, 1024]⟩
abbrev S1024 : Shape := ⟨1, ![1024]⟩
abbrev S_ : Shape := ⟨0, ![]⟩
abbrev S16x16 : Shape := ⟨2, ![16, 16]⟩
abbrev S16x16x1 : Shape := ⟨3, ![16, 16, 1]⟩
abbrev S1x1x1024 : Shape := ⟨3, ![1, 1, 1024]⟩
abbrev S16x1x1024 : Shape := ⟨3, ![16, 1, 1024]⟩
abbrev S1x1024x5648 : Shape := ⟨3, ![1, 1024, 5648]⟩
abbrev S1024x5648 : Shape := ⟨2, ![1024, 5648]⟩
abbrev S16x16x5648 : Shape := ⟨3, ![16, 16, 5648]⟩
abbrev S16x16x512 : Shape := ⟨3, ![16, 16, 512]⟩
abbrev S16x16x16 : Shape := ⟨3, ![16, 16, 16]⟩
abbrev S16 : Shape := ⟨1, ![16]⟩
abbrev S16x16x4x128 : Shape := ⟨4, ![16, 16, 4, 128]⟩
abbrev S64 : Shape := ⟨1, ![64]⟩
abbrev S16x1 : Shape := ⟨2, ![16, 1]⟩
abbrev S1x64 : Shape := ⟨2, ![1, 64]⟩
abbrev S16x64 : Shape := ⟨2, ![16, 64]⟩
abbrev S1x16x1x64 : Shape := ⟨4, ![1, 16, 1, 64]⟩
abbrev S16x16x4x64 : Shape := ⟨4, ![16, 16, 4, 64]⟩
abbrev S1x16x512 : Shape := ⟨3, ![1, 16, 512]⟩
abbrev S16x512 : Shape := ⟨2, ![16, 512]⟩
abbrev S1x512 : Shape := ⟨2, ![1, 512]⟩
abbrev S512 : Shape := ⟨1, ![512]⟩
abbrev S1x1x512 : Shape := ⟨3, ![1, 1, 512]⟩
abbrev S16x16x8x64 : Shape := ⟨4, ![16, 16, 8, 64]⟩
abbrev S16x16x8 : Shape := ⟨3, ![16, 16, 8]⟩
abbrev S16x16x8x1 : Shape := ⟨4, ![16, 16, 8, 1]⟩
abbrev S1x1x1x64 : Shape := ⟨4, ![1, 1, 1, 64]⟩
abbrev S16x16x5632 : Shape := ⟨3, ![16, 16, 5632]⟩
abbrev S1x256x5632 : Shape := ⟨3, ![1, 256, 5632]⟩
abbrev S1x256x512 : Shape := ⟨3, ![1, 256, 512]⟩

abbrev nBuf : Space → Nat
  | .hbm => 201
  | .vmem => 0
  | .smem => 0
  | _ => 0

abbrev hbmTy0_0 (i : Nat) : BufTy := match i % 128 with
  | 0 => ⟨S16x16x1024, .f32⟩
  | 1 => ⟨S16x1024, .f32⟩
  | 2 => ⟨S16x1024, .f32⟩
  | 3 => ⟨S4x1024, .f32⟩
  | 4 => ⟨S4x1024x5648, .f32⟩
  | 5 => ⟨S4x16x512, .f32⟩
  | 6 => ⟨S4x512, .f32⟩
  | 7 => ⟨S4x64, .f32⟩
  | 8 => ⟨S4x64, .f32⟩
  | 9 => ⟨S1x1024, .f32⟩
  | 10 => ⟨S1024, .f32⟩
  | 11 => ⟨S16x16x1024, .f32⟩
  | 12 => ⟨S_, .f32⟩
  | 13 => ⟨S16x16, .f32⟩
  | 14 => ⟨S16x16x1, .f32⟩
  | 15 => ⟨S_, .f32⟩
  | 16 => ⟨S16x16x1, .f32⟩
  | 17 => ⟨S16x16x1, .f32⟩
  | 18 => ⟨S_, .f32⟩
  | 19 => ⟨S16x16x1, .f32⟩
  | 20 => ⟨S16x16x1, .f32⟩
  | 21 => ⟨S16x16x1, .f32⟩
  | 22 => ⟨S16x16x1024, .f32⟩
  | 23 => ⟨S16x16x1024, .f32⟩
  | 24 => ⟨S1x1x1024, .f32⟩
  | 25 => ⟨S16x16x1024, .f32⟩
  | 26 => ⟨S16x16x1024, .f32⟩
  | 27 => ⟨S16x1x1024, .f32⟩
  | 28 => ⟨S_, .f32⟩
  | 29 => ⟨S16x1x1024, .f32⟩
  | 30 => ⟨S16x1x1024, .f32⟩
  | 31 => ⟨S16x16x1024, .f32⟩
  | 32 => ⟨S16x16x1024, .f32⟩
  | 33 => ⟨S16x1x1024, .f32⟩
  | 34 => ⟨S16x16x1024, .f32⟩
  | 35 => ⟨S16x16x1024, .f32⟩
  | 36 => ⟨S1x1024x5648, .f32⟩
  | 37 => ⟨S1024x5648, .f32⟩
  | 38 => ⟨S16x16x5648, .f32⟩
  | 39 => ⟨S16x16x512, .f32⟩
  | 40 => ⟨S16x16x512, .f32⟩
  | 41 => ⟨S16x16x512, .f32⟩
  | 42 => ⟨S16x16x512, .f32⟩
  | 43 => ⟨S16x16x512, .f32⟩
  | 44 => ⟨S16x16x512, .f32⟩
  | 45 => ⟨S16x16x512, .f32⟩
  | 46 => ⟨S16x16x512, .f32⟩
  | 47 => ⟨S16x16x16, .f32⟩
  | 48 => ⟨S16x16x512, .f32⟩
  | 49 => ⟨S16x16x512, .f32⟩
  | 50 => ⟨S16x16x512, .f32⟩
  | 51 => ⟨S16, .f32⟩
  | 52 => ⟨S_, .f32⟩
  | 53 => ⟨S16, .f32⟩
  | 54 => ⟨S16, .f32⟩
  | 55 => ⟨S16x16x4x128, .f32⟩
  | 56 => ⟨S64, .f32⟩
  | 57 => ⟨S64, .f32⟩
  | 58 => ⟨S_, .f32⟩
  | 59 => ⟨S64, .f32⟩
  | 60 => ⟨S64, .f32⟩
  | 61 => ⟨S_, .f32⟩
  | 62 => ⟨S64, .f32⟩
  | 63 => ⟨S64, .f32⟩
  | 64 => ⟨S16x1, .f32⟩
  | 65 => ⟨S1x64, .f32⟩
  | 66 => ⟨S16x64, .f32⟩
  | 67 => ⟨S16x64, .f32⟩
  | 68 => ⟨S16x64, .f32⟩
  | 69 => ⟨S16x64, .f32⟩
  | 70 => ⟨S1x16x1x64, .f32⟩
  | 71 => ⟨S16x64, .f32⟩
  | 72 => ⟨S1x16x1x64, .f32⟩
  | 73 => ⟨S16x16x4x64, .f32⟩
  | 74 => ⟨S16x16x4x64, .f32⟩
  | 75 => ⟨S16x16x4x64, .f32⟩
  | 76 => ⟨S16x16x4x64, .f32⟩
  | 77 => ⟨S16x16x4x64, .f32⟩
  | 78 => ⟨S16x16x4x64, .f32⟩
  | 79 => ⟨S16x16x4x64, .f32⟩
  | 80 => ⟨S16x16x4x64, .f32⟩
  | 81 => ⟨S16x16x4x64, .f32⟩
  | 82 => ⟨S16x16x4x64, .f32⟩
  | 83 => ⟨S16x16x4x64, .f32⟩
  | 84 => ⟨S16x16x4x64, .f32⟩
  | 85 => ⟨S16x16x4x128, .f32⟩
  | 86 => ⟨S16x16x4x128, .f32⟩
  | 87 => ⟨S64, .f32⟩
  | 88 => ⟨S64, .f32⟩
  | 89 => ⟨S_, .f32⟩
  | 90 => ⟨S64, .f32⟩
  | 91 => ⟨S64, .f32⟩
  | 92 => ⟨S_, .f32⟩
  | 93 => ⟨S64, .f32⟩
  | 94 => ⟨S64, .f32⟩
  | 95 => ⟨S16x1, .f32⟩
  | 96 => ⟨S1x64, .f32⟩
  | 97 => ⟨S16x64, .f32⟩
  | 98 => ⟨S16x64, .f32⟩
  | 99 => ⟨S16x64, .f32⟩
  | 100 => ⟨S16x64, .f32⟩
  | 101 => ⟨S1x16x1x64, .f32⟩
  | 102 => ⟨S16x64, .f32⟩
  | 103 => ⟨S1x16x1x64, .f32⟩
  | 104 => ⟨S16x16x4x64, .f32⟩
  | 105 => ⟨S16x16x4x64, .f32⟩
  | 106 => ⟨S16x16x4x64, .f32⟩
  | 107 => ⟨S16x16x4x64, .f32⟩
  | 108 => ⟨S16x16x4x64, .f32⟩
  | 109 => ⟨S16x16x4x64, .f32⟩
  | 110 => ⟨S16x16x4x64, .f32⟩
  | 111 => ⟨S16x16x4x64, .f32⟩
  | 112 => ⟨S16x16x4x64, .f32⟩
  | 113 => ⟨S16x16x4x64, .f32⟩
  | 114 => ⟨S16x16x4x64, .f32⟩
  | 115 => ⟨S16x16x4x64, .f32⟩
  | 116 => ⟨S16x16x4x128, .f32⟩
  | 117 => ⟨S_, .f32⟩
  | 118 => ⟨S16x16x4x128, .f32⟩
  | 119 => ⟨S16x16x4x128, .f32⟩
  | 120 => ⟨S1x16x512, .f32⟩
  | 121 => ⟨S16x512, .f32⟩
  | 122 => ⟨S16x16x512, .f32⟩
  | 123 => ⟨S1x512, .f32⟩
  | 124 => ⟨S512, .f32⟩
  | 125 => ⟨S1x1x512, .f32⟩
  | 126 => ⟨S16x16x512, .f32⟩
  | 127 => ⟨S16x16x512, .f32⟩
  | _ => ⟨S16x16x1024, .f32⟩

abbrev hbmTy0_1 (i : Nat) : BufTy := match i % 128 with
  | 0 => ⟨S16x16x512, .f32⟩
  | 1 => ⟨S_, .f32⟩
  | 2 => ⟨S16x16x512, .f32⟩
  | 3 => ⟨S16x16x512, .f32⟩
  | 4 => ⟨S16x16x512, .f32⟩
  | 5 => ⟨S16x16x512, .f32⟩
  | 6 => ⟨S16x16x512, .i1⟩
  | 7 => ⟨S16x16x512, .f32⟩
  | 8 => ⟨S16x16x512, .f32⟩
  | 9 => ⟨S16x16x512, .f32⟩
  | 10 => ⟨S16x16x512, .f32⟩
  | 11 => ⟨S16x16x512, .f32⟩
  | 12 => ⟨S16x16x512, .f32⟩
  | 13 => ⟨S16x16x512, .f32⟩
  | 14 => ⟨S16x16x512, .f32⟩
  | 15 => ⟨S16x16x512, .f32⟩
  | 16 => ⟨S_, .f32⟩
  | 17 => ⟨S16x16x512, .f32⟩
  | 18 => ⟨S16x16x512, .f32⟩
  | 19 => ⟨S16x16x4x128, .f32⟩
  | 20 => ⟨S_, .f32⟩
  | 21 => ⟨S16x16x4x128, .f32⟩
  | 22 => ⟨S16x16x4x128, .f32⟩
  | 23 => ⟨S16x16x8x64, .f32⟩
  | 24 => ⟨S16x16x8x64, .f32⟩
  | 25 => ⟨S16x16x8x64, .f32⟩
  | 26 => ⟨S_, .f32⟩
  | 27 => ⟨S16x16x8, .f32⟩
  | 28 => ⟨S16x16x8x1, .f32⟩
  | 29 => ⟨S_, .f32⟩
  | 30 => ⟨S16x16x8x1, .f32⟩
  | 31 => ⟨S16x16x8x1, .f32⟩
  | 32 => ⟨S_, .f32⟩
  | 33 => ⟨S16x16x8x1, .f32⟩
  | 34 => ⟨S16x16x8x1, .f32⟩
  | 35 => ⟨S16x16x8x1, .f32⟩
  | 36 => ⟨S16x16x8x64, .f32⟩
  | 37 => ⟨S16x16x8x64, .f32⟩
  | 38 => ⟨S1x64, .f32⟩
  | 39 => ⟨S64, .f32⟩
  | 40 => ⟨S1x1x1x64, .f32⟩
  | 41 => ⟨S16x16x8x64, .f32⟩
  | 42 => ⟨S16x16x8x64, .f32⟩
  | 43 => ⟨S16x16x8x64, .f32⟩
  | 44 => ⟨S_, .f32⟩
  | 45 => ⟨S16x16x8, .f32⟩
  | 46 => ⟨S16x16x8x1, .f32⟩
  | 47 => ⟨S_, .f32⟩
  | 48 => ⟨S16x16x8x1, .f32⟩
  | 49 => ⟨S16x16x8x1, .f32⟩
  | 50 => ⟨S_, .f32⟩
  | 51 => ⟨S16x16x8x1, .f32⟩
  | 52 => ⟨S16x16x8x1, .f32⟩
  | 53 => ⟨S16x16x8x1, .f32⟩
  | 54 => ⟨S16x16x8x64, .f32⟩
  | 55 => ⟨S16x16x8x64, .f32⟩
  | 56 => ⟨S1x64, .f32⟩
  | 57 => ⟨S64, .f32⟩
  | 58 => ⟨S1x1x1x64, .f32⟩
  | 59 => ⟨S16x16x8x64, .f32⟩
  | 60 => ⟨S16x16x8x64, .f32⟩
  | 61 => ⟨S16x16x512, .f32⟩
  | 62 => ⟨S16x16x512, .f32⟩
  | 63 => ⟨S16x16x512, .f32⟩
  | 64 => ⟨S_, .f32⟩
  | 65 => ⟨S16x16x8x64, .f32⟩
  | 66 => ⟨S16x16x8x64, .f32⟩
  | 67 => ⟨S16x16x512, .f32⟩
  | 68 => ⟨S16x16x512, .f32⟩
  | 69 => ⟨S16x16x5632, .f32⟩
  | 70 => ⟨S16x16x5632, .bf16⟩
  | 71 => ⟨S1x256x5632, .bf16⟩
  | 72 => ⟨S1x256x512, .f32⟩
  | _ => ⟨S16x16x1024, .f32⟩

abbrev hbmTy (i : Nat) : BufTy := match i / 128 with
  | 0 => hbmTy0_0 i
  | 1 => hbmTy0_1 i
  | _ => ⟨S16x16x1024, .f32⟩

abbrev bufTy : (tb : Table) → Fin (tcTables nBuf tb) → BufTy
  | .hbm, ⟨i, _⟩ => hbmTy i
  | _, _ => ⟨S16x16x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_cst : Ref sig .tc := ⟨.hbm, 12, rfl⟩
abbrev main_v3 : Ref sig .tc := ⟨.hbm, 13, rfl⟩
abbrev main_v4 : Ref sig .tc := ⟨.hbm, 14, rfl⟩
abbrev main_cst_0 : Ref sig .tc := ⟨.hbm, 15, rfl⟩
abbrev main_v5 : Ref sig .tc := ⟨.hbm, 16, rfl⟩
abbrev main_v6 : Ref sig .tc := ⟨.hbm, 17, rfl⟩
abbrev main_cst_1 : Ref sig .tc := ⟨.hbm, 18, rfl⟩
abbrev main_v7 : Ref sig .tc := ⟨.hbm, 19, rfl⟩
abbrev main_v8 : Ref sig .tc := ⟨.hbm, 20, rfl⟩
abbrev main_v9 : Ref sig .tc := ⟨.hbm, 21, rfl⟩
abbrev main_v10 : Ref sig .tc := ⟨.hbm, 22, rfl⟩
abbrev main_v11 : Ref sig .tc := ⟨.hbm, 23, rfl⟩
abbrev main_v12 : Ref sig .tc := ⟨.hbm, 24, rfl⟩
abbrev main_v13 : Ref sig .tc := ⟨.hbm, 25, rfl⟩
abbrev main_v14 : Ref sig .tc := ⟨.hbm, 26, rfl⟩
abbrev main_v15 : Ref sig .tc := ⟨.hbm, 27, rfl⟩
abbrev main_cst_2 : Ref sig .tc := ⟨.hbm, 28, rfl⟩
abbrev main_v16 : Ref sig .tc := ⟨.hbm, 29, rfl⟩
abbrev main_v17 : Ref sig .tc := ⟨.hbm, 30, rfl⟩
abbrev main_v18 : Ref sig .tc := ⟨.hbm, 31, rfl⟩
abbrev main_v19 : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩
abbrev main_v26 : Ref sig .tc := ⟨.hbm, 39, rfl⟩
abbrev main_v27 : Ref sig .tc := ⟨.hbm, 40, rfl⟩
abbrev main_v28 : Ref sig .tc := ⟨.hbm, 41, rfl⟩
abbrev main_v29 : Ref sig .tc := ⟨.hbm, 42, rfl⟩
abbrev main_v30 : Ref sig .tc := ⟨.hbm, 43, rfl⟩
abbrev main_v31 : Ref sig .tc := ⟨.hbm, 44, rfl⟩
abbrev main_v32 : Ref sig .tc := ⟨.hbm, 45, rfl⟩
abbrev main_v33 : Ref sig .tc := ⟨.hbm, 46, rfl⟩
abbrev main_v34 : Ref sig .tc := ⟨.hbm, 47, rfl⟩
abbrev main_v35 : Ref sig .tc := ⟨.hbm, 48, rfl⟩
abbrev main_v36 : Ref sig .tc := ⟨.hbm, 49, rfl⟩
abbrev main_v37 : Ref sig .tc := ⟨.hbm, 50, rfl⟩
abbrev main_v38 : Ref sig .tc := ⟨.hbm, 51, rfl⟩
abbrev main_cst_3 : Ref sig .tc := ⟨.hbm, 52, rfl⟩
abbrev main_v39 : Ref sig .tc := ⟨.hbm, 53, rfl⟩
abbrev main_v40 : Ref sig .tc := ⟨.hbm, 54, rfl⟩
abbrev main_v41 : Ref sig .tc := ⟨.hbm, 55, rfl⟩
abbrev main_v42 : Ref sig .tc := ⟨.hbm, 56, rfl⟩
abbrev main_v43 : Ref sig .tc := ⟨.hbm, 57, rfl⟩
abbrev main_cst_4 : Ref sig .tc := ⟨.hbm, 58, rfl⟩
abbrev main_v44 : Ref sig .tc := ⟨.hbm, 59, rfl⟩
abbrev main_v45 : Ref sig .tc := ⟨.hbm, 60, rfl⟩
abbrev main_cst_5 : Ref sig .tc := ⟨.hbm, 61, rfl⟩
abbrev main_v46 : Ref sig .tc := ⟨.hbm, 62, rfl⟩
abbrev main_v47 : Ref sig .tc := ⟨.hbm, 63, rfl⟩
abbrev main_v48 : Ref sig .tc := ⟨.hbm, 64, rfl⟩
abbrev main_v49 : Ref sig .tc := ⟨.hbm, 65, rfl⟩
abbrev main_v50 : Ref sig .tc := ⟨.hbm, 66, rfl⟩
abbrev main_v51 : Ref sig .tc := ⟨.hbm, 67, rfl⟩
abbrev main_v52 : Ref sig .tc := ⟨.hbm, 68, rfl⟩
abbrev main_v53 : Ref sig .tc := ⟨.hbm, 69, rfl⟩
abbrev main_v54 : Ref sig .tc := ⟨.hbm, 70, rfl⟩
abbrev main_v55 : Ref sig .tc := ⟨.hbm, 71, rfl⟩
abbrev main_v56 : Ref sig .tc := ⟨.hbm, 72, rfl⟩
abbrev main_v57 : Ref sig .tc := ⟨.hbm, 73, rfl⟩
abbrev main_v58 : Ref sig .tc := ⟨.hbm, 74, rfl⟩
abbrev main_v59 : Ref sig .tc := ⟨.hbm, 75, rfl⟩
abbrev main_v60 : Ref sig .tc := ⟨.hbm, 76, rfl⟩
abbrev main_v61 : Ref sig .tc := ⟨.hbm, 77, rfl⟩
abbrev main_v62 : Ref sig .tc := ⟨.hbm, 78, rfl⟩
abbrev main_v63 : Ref sig .tc := ⟨.hbm, 79, rfl⟩
abbrev main_v64 : Ref sig .tc := ⟨.hbm, 80, rfl⟩
abbrev main_v65 : Ref sig .tc := ⟨.hbm, 81, rfl⟩
abbrev main_v66 : Ref sig .tc := ⟨.hbm, 82, rfl⟩
abbrev main_v67 : Ref sig .tc := ⟨.hbm, 83, rfl⟩
abbrev main_v68 : Ref sig .tc := ⟨.hbm, 84, rfl⟩
abbrev main_v69 : Ref sig .tc := ⟨.hbm, 85, rfl⟩
abbrev main_v70 : Ref sig .tc := ⟨.hbm, 86, rfl⟩
abbrev main_v71 : Ref sig .tc := ⟨.hbm, 87, rfl⟩
abbrev main_v72 : Ref sig .tc := ⟨.hbm, 88, rfl⟩
abbrev main_cst_6 : Ref sig .tc := ⟨.hbm, 89, rfl⟩
abbrev main_v73 : Ref sig .tc := ⟨.hbm, 90, rfl⟩
abbrev main_v74 : Ref sig .tc := ⟨.hbm, 91, rfl⟩
abbrev main_cst_7 : Ref sig .tc := ⟨.hbm, 92, rfl⟩
abbrev main_v75 : Ref sig .tc := ⟨.hbm, 93, rfl⟩
abbrev main_v76 : Ref sig .tc := ⟨.hbm, 94, rfl⟩
abbrev main_v77 : Ref sig .tc := ⟨.hbm, 95, rfl⟩
abbrev main_v78 : Ref sig .tc := ⟨.hbm, 96, rfl⟩
abbrev main_v79 : Ref sig .tc := ⟨.hbm, 97, rfl⟩
abbrev main_v80 : Ref sig .tc := ⟨.hbm, 98, rfl⟩
abbrev main_v81 : Ref sig .tc := ⟨.hbm, 99, rfl⟩
abbrev main_v82 : Ref sig .tc := ⟨.hbm, 100, rfl⟩
abbrev main_v83 : Ref sig .tc := ⟨.hbm, 101, rfl⟩
abbrev main_v84 : Ref sig .tc := ⟨.hbm, 102, rfl⟩
abbrev main_v85 : Ref sig .tc := ⟨.hbm, 103, rfl⟩
abbrev main_v86 : Ref sig .tc := ⟨.hbm, 104, rfl⟩
abbrev main_v87 : Ref sig .tc := ⟨.hbm, 105, rfl⟩
abbrev main_v88 : Ref sig .tc := ⟨.hbm, 106, rfl⟩
abbrev main_v89 : Ref sig .tc := ⟨.hbm, 107, rfl⟩
abbrev main_v90 : Ref sig .tc := ⟨.hbm, 108, rfl⟩
abbrev main_v91 : Ref sig .tc := ⟨.hbm, 109, rfl⟩
abbrev main_v92 : Ref sig .tc := ⟨.hbm, 110, rfl⟩
abbrev main_v93 : Ref sig .tc := ⟨.hbm, 111, rfl⟩
abbrev main_v94 : Ref sig .tc := ⟨.hbm, 112, rfl⟩
abbrev main_v95 : Ref sig .tc := ⟨.hbm, 113, rfl⟩
abbrev main_v96 : Ref sig .tc := ⟨.hbm, 114, rfl⟩
abbrev main_v97 : Ref sig .tc := ⟨.hbm, 115, rfl⟩
abbrev main_v98 : Ref sig .tc := ⟨.hbm, 116, rfl⟩
abbrev main_cst_8 : Ref sig .tc := ⟨.hbm, 117, rfl⟩
abbrev main_v99 : Ref sig .tc := ⟨.hbm, 118, rfl⟩
abbrev main_v100 : Ref sig .tc := ⟨.hbm, 119, rfl⟩
abbrev main_v101 : Ref sig .tc := ⟨.hbm, 120, rfl⟩
abbrev main_v102 : Ref sig .tc := ⟨.hbm, 121, rfl⟩
abbrev main_v103 : Ref sig .tc := ⟨.hbm, 122, rfl⟩
abbrev main_v104 : Ref sig .tc := ⟨.hbm, 123, rfl⟩
abbrev main_v105 : Ref sig .tc := ⟨.hbm, 124, rfl⟩
abbrev main_v106 : Ref sig .tc := ⟨.hbm, 125, rfl⟩
abbrev main_v107 : Ref sig .tc := ⟨.hbm, 126, rfl⟩
abbrev main_v108 : Ref sig .tc := ⟨.hbm, 127, rfl⟩
abbrev main_call0_v0 : Ref sig .tc := ⟨.hbm, 128, rfl⟩
abbrev main_call0_call0_cst : Ref sig .tc := ⟨.hbm, 129, rfl⟩
abbrev main_call0_call0_v0 : Ref sig .tc := ⟨.hbm, 130, rfl⟩
abbrev main_call0_call0_v1 : Ref sig .tc := ⟨.hbm, 131, rfl⟩
abbrev main_call0_call0_v2 : Ref sig .tc := ⟨.hbm, 132, rfl⟩
abbrev main_call0_call0_v3 : Ref sig .tc := ⟨.hbm, 133, rfl⟩
abbrev main_call0_call0_v4 : Ref sig .tc := ⟨.hbm, 134, rfl⟩
abbrev main_call0_call0_v5 : Ref sig .tc := ⟨.hbm, 135, rfl⟩
abbrev main_call0_call0_v6 : Ref sig .tc := ⟨.hbm, 136, rfl⟩
abbrev main_call0_call0_v7 : Ref sig .tc := ⟨.hbm, 137, rfl⟩
abbrev main_call0_call0_v8 : Ref sig .tc := ⟨.hbm, 138, rfl⟩
abbrev main_call0_call0_v9 : Ref sig .tc := ⟨.hbm, 139, rfl⟩
abbrev main_call0_call0_v10 : Ref sig .tc := ⟨.hbm, 140, rfl⟩
abbrev main_call0_call0_v11 : Ref sig .tc := ⟨.hbm, 141, rfl⟩
abbrev main_call0_v1 : Ref sig .tc := ⟨.hbm, 142, rfl⟩
abbrev main_v109 : Ref sig .tc := ⟨.hbm, 143, rfl⟩
abbrev main_cst_9 : Ref sig .tc := ⟨.hbm, 144, rfl⟩
abbrev main_v110 : Ref sig .tc := ⟨.hbm, 145, rfl⟩
abbrev main_v111 : Ref sig .tc := ⟨.hbm, 146, rfl⟩
abbrev main_v112 : Ref sig .tc := ⟨.hbm, 147, rfl⟩
abbrev main_cst_10 : Ref sig .tc := ⟨.hbm, 148, rfl⟩
abbrev main_v113 : Ref sig .tc := ⟨.hbm, 149, rfl⟩
abbrev main_v114 : Ref sig .tc := ⟨.hbm, 150, rfl⟩
abbrev main_v115 : Ref sig .tc := ⟨.hbm, 151, rfl⟩
abbrev main_v116 : Ref sig .tc := ⟨.hbm, 152, rfl⟩
abbrev main_v117 : Ref sig .tc := ⟨.hbm, 153, rfl⟩
abbrev main_cst_11 : Ref sig .tc := ⟨.hbm, 154, rfl⟩
abbrev main_v118 : Ref sig .tc := ⟨.hbm, 155, rfl⟩
abbrev main_v119 : Ref sig .tc := ⟨.hbm, 156, rfl⟩
abbrev main_cst_12 : Ref sig .tc := ⟨.hbm, 157, rfl⟩
abbrev main_v120 : Ref sig .tc := ⟨.hbm, 158, rfl⟩
abbrev main_v121 : Ref sig .tc := ⟨.hbm, 159, rfl⟩
abbrev main_cst_13 : Ref sig .tc := ⟨.hbm, 160, rfl⟩
abbrev main_v122 : Ref sig .tc := ⟨.hbm, 161, rfl⟩
abbrev main_v123 : Ref sig .tc := ⟨.hbm, 162, rfl⟩
abbrev main_v124 : Ref sig .tc := ⟨.hbm, 163, rfl⟩
abbrev main_v125 : Ref sig .tc := ⟨.hbm, 164, rfl⟩
abbrev main_v126 : Ref sig .tc := ⟨.hbm, 165, rfl⟩
abbrev main_v127 : Ref sig .tc := ⟨.hbm, 166, rfl⟩
abbrev main_v128 : Ref sig .tc := ⟨.hbm, 167, rfl⟩
abbrev main_v129 : Ref sig .tc := ⟨.hbm, 168, rfl⟩
abbrev main_v130 : Ref sig .tc := ⟨.hbm, 169, rfl⟩
abbrev main_v131 : Ref sig .tc := ⟨.hbm, 170, rfl⟩
abbrev main_v132 : Ref sig .tc := ⟨.hbm, 171, rfl⟩
abbrev main_cst_14 : Ref sig .tc := ⟨.hbm, 172, rfl⟩
abbrev main_v133 : Ref sig .tc := ⟨.hbm, 173, rfl⟩
abbrev main_v134 : Ref sig .tc := ⟨.hbm, 174, rfl⟩
abbrev main_cst_15 : Ref sig .tc := ⟨.hbm, 175, rfl⟩
abbrev main_v135 : Ref sig .tc := ⟨.hbm, 176, rfl⟩
abbrev main_v136 : Ref sig .tc := ⟨.hbm, 177, rfl⟩
abbrev main_cst_16 : Ref sig .tc := ⟨.hbm, 178, rfl⟩
abbrev main_v137 : Ref sig .tc := ⟨.hbm, 179, rfl⟩
abbrev main_v138 : Ref sig .tc := ⟨.hbm, 180, rfl⟩
abbrev main_v139 : Ref sig .tc := ⟨.hbm, 181, rfl⟩
abbrev main_v140 : Ref sig .tc := ⟨.hbm, 182, rfl⟩
abbrev main_v141 : Ref sig .tc := ⟨.hbm, 183, rfl⟩
abbrev main_v142 : Ref sig .tc := ⟨.hbm, 184, rfl⟩
abbrev main_v143 : Ref sig .tc := ⟨.hbm, 185, rfl⟩
abbrev main_v144 : Ref sig .tc := ⟨.hbm, 186, rfl⟩
abbrev main_v145 : Ref sig .tc := ⟨.hbm, 187, rfl⟩
abbrev main_v146 : Ref sig .tc := ⟨.hbm, 188, rfl⟩
abbrev main_v147 : Ref sig .tc := ⟨.hbm, 189, rfl⟩
abbrev main_v148 : Ref sig .tc := ⟨.hbm, 190, rfl⟩
abbrev main_v149 : Ref sig .tc := ⟨.hbm, 191, rfl⟩
abbrev main_cst_17 : Ref sig .tc := ⟨.hbm, 192, rfl⟩
abbrev main_v150 : Ref sig .tc := ⟨.hbm, 193, rfl⟩
abbrev main_v151 : Ref sig .tc := ⟨.hbm, 194, rfl⟩
abbrev main_v152 : Ref sig .tc := ⟨.hbm, 195, rfl⟩
abbrev main_v153 : Ref sig .tc := ⟨.hbm, 196, rfl⟩
abbrev main_v154 : Ref sig .tc := ⟨.hbm, 197, rfl⟩
abbrev main_v155 : Ref sig .tc := ⟨.hbm, 198, rfl⟩
abbrev main_v156 : Ref sig .tc := ⟨.hbm, 199, rfl⟩
abbrev main_v157 : Ref sig .tc := ⟨.hbm, 200, rfl⟩

abbrev nD : Nat := 1
abbrev τ : Topo := Topo.v7x

variable {F : FTy → Type} [FloatOps F]
-- ==== Kernel6.lean ====
abbrev S4x1024 : Shape := ⟨2, ![4, 1024]⟩
abbrev S16x1024 : Shape := ⟨2, ![16, 1024]⟩
abbrev S4x1024x6144 : Shape := ⟨3, ![4, 1024, 6144]⟩
abbrev S4x6144 : Shape := ⟨2, ![4, 6144]⟩
abbrev S_ : Shape := ⟨0, ![]⟩
abbrev S24x1024 : Shape := ⟨2, ![24, 1024]⟩
abbrev S4x1x6144 : Shape := ⟨3, ![4, 1, 6144]⟩
abbrev S4x24x6144 : Shape := ⟨3, ![4, 24, 6144]⟩
abbrev S1x1024x1536 : Shape := ⟨3, ![1, 1024, 1536]⟩
abbrev S1x1x1536 : Shape := ⟨3, ![1, 1, 1536]⟩
abbrev S1x24x1536 : Shape := ⟨3, ![1, 24, 1536]⟩
abbrev S1024x1536 : Shape := ⟨2, ![1024, 1536]⟩
abbrev S24x1536 : Shape := ⟨2, ![24, 1536]⟩
abbrev S1x1536 : Shape := ⟨2, ![1, 1536]⟩

abbrev nBuf : Space → Nat
  | .hbm => 9
  | .vmem => 7
  | .smem => 0
  | _ => 0

abbrev bufTy : (tb : Table) → Fin (tcTables nBuf tb) → BufTy
  | .hbm, ⟨0, _⟩ => ⟨S4x1024, .f32⟩
  | .hbm, ⟨1, _⟩ => ⟨S16x1024, .f32⟩
  | .hbm, ⟨2, _⟩ => ⟨S4x1024x6144, .f32⟩
  | .hbm, ⟨3, _⟩ => ⟨S4x6144, .f32⟩
  | .hbm, ⟨4, _⟩ => ⟨S_, .f32⟩
  | .hbm, ⟨5, _⟩ => ⟨S4x1024, .f32⟩
  | .hbm, ⟨6, _⟩ => ⟨S24x1024, .f32⟩
  | .hbm, ⟨7, _⟩ => ⟨S4x1x6144, .f32⟩
  | .hbm, ⟨8, _⟩ => ⟨S4x24x6144, .f32⟩
  | .local _ .vmem, ⟨0, _⟩ => ⟨S24x1024, .f32⟩
  | .local _ .vmem, ⟨1, _⟩ => ⟨S1x1024x1536, .f32⟩
  | .local _ .vmem, ⟨2, _⟩ => ⟨S1x1024x1536, .f32⟩
  | .local _ .vmem, ⟨3, _⟩ => ⟨S1x1x1536, .f32⟩
  | .local _ .vmem, ⟨4, _⟩ => ⟨S1x1x1536, .f32⟩
  | .local _ .vmem, ⟨5, _⟩ => ⟨S1x24x1536, .f32⟩
  | .local _ .vmem, ⟨6, _⟩ => ⟨S1x24x1536, .f32⟩
  | _, _ => ⟨S4x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4
abbrev cc0_sem3_0 : DmaSem sig := 5
abbrev cc0_sem3_1 : DmaSem sig := 6

abbrev nD : Nat := 1
abbrev τ : Topo := Topo.v7x

variable {F : FTy → Type} [FloatOps F]

abbrev grid0 : Pipeline.Grid := ⟨2, ![4, 4], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

abbrev stage0_0 : Fin 1 → Memref sig .tc .vmem S24x1024 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false, false]

abbrev stage0_1 : Fin 2 → Memref sig .tc .vmem S1x1024x1536 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x1x1536 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x24x1536 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]
-- ==== Reference6Ideal.lean ====
abbrev S4x1024 : Shape := ⟨2, ![4, 1024]⟩
abbrev S16x1024 : Shape := ⟨2, ![16, 1024]⟩
abbrev S4x1024x6144 : Shape := ⟨3, ![4, 1024, 6144]⟩
abbrev S4x6144 : Shape := ⟨2, ![4, 6144]⟩
abbrev S_ : Shape := ⟨0, ![]⟩
abbrev S24x1024 : Shape := ⟨2, ![24, 1024]⟩
abbrev S1x1024x6144 : Shape := ⟨3, ![1, 1024, 6144]⟩
abbrev S1024x6144 : Shape := ⟨2, ![1024, 6144]⟩
abbrev S24x6144 : Shape := ⟨2, ![24, 6144]⟩
abbrev S1x6144 : Shape := ⟨2, ![1, 6144]⟩
abbrev S6144 : Shape := ⟨1, ![6144]⟩
abbrev S1x24x6144 : Shape := ⟨3, ![1, 24, 6144]⟩
abbrev S4x24x6144 : Shape := ⟨3, ![4, 24, 6144]⟩

abbrev nBuf : Space → Nat
  | .hbm => 80
  | .vmem => 0
  | .smem => 0
  | _ => 0

abbrev bufTy : (tb : Table) → Fin (tcTables nBuf tb) → BufTy
  | .hbm, ⟨0, _⟩ => ⟨S4x1024, .f32⟩
  | .hbm, ⟨1, _⟩ => ⟨S16x1024, .f32⟩
  | .hbm, ⟨2, _⟩ => ⟨S4x1024x6144, .f32⟩
  | .hbm, ⟨3, _⟩ => ⟨S4x6144, .f32⟩
  | .hbm, ⟨4, _⟩ => ⟨S_, .f32⟩
  | .hbm, ⟨5, _⟩ => ⟨S4x1024, .f32⟩
  | .hbm, ⟨6, _⟩ => ⟨S24x1024, .f32⟩
  | .hbm, ⟨7, _⟩ => ⟨S24x1024, .f32⟩
  | .hbm, ⟨8, _⟩ => ⟨S24x1024, .f32⟩
  | .hbm, ⟨9, _⟩ => ⟨S_, .f32⟩
  | .hbm, ⟨10, _⟩ => ⟨S24x1024, .f32⟩
  | .hbm, ⟨11, _⟩ => ⟨S24x1024, .f32⟩
  | .hbm, ⟨12, _⟩ => ⟨S_, .f32⟩
  | .hbm, ⟨13, _⟩ => ⟨S24x1024, .f32⟩
  | .hbm, ⟨14, _⟩ => ⟨S24x1024, .f32⟩
  | .hbm, ⟨15, _⟩ => ⟨S24x1024, .f32⟩
  | .hbm, ⟨16, _⟩ => ⟨S1x1024x6144, .f32⟩
  | .hbm, ⟨17, _⟩ => ⟨S1024x6144, .f32⟩
  | .hbm, ⟨18, _⟩ => ⟨S24x6144, .f32⟩
  | .hbm, ⟨19, _⟩ => ⟨S1x6144, .f32⟩
  | .hbm, ⟨20, _⟩ => ⟨S6144, .f32⟩
  | .hbm, ⟨21, _⟩ => ⟨S1x6144, .f32⟩
  | .hbm, ⟨22, _⟩ => ⟨S24x6144, .f32⟩
  | .hbm, ⟨23, _⟩ => ⟨S24x6144, .f32⟩
  | .hbm, ⟨24, _⟩ => ⟨S24x1024, .f32⟩
  | .hbm, ⟨25, _⟩ => ⟨S24x1024, .f32⟩
  | .hbm, ⟨26, _⟩ => ⟨S_, .f32⟩
  | .hbm, ⟨27, _⟩ => ⟨S24x1024, .f32⟩
  | .hbm, ⟨28, _⟩ => ⟨S24x1024, .f32⟩
  | .hbm, ⟨29, _⟩ => ⟨S_, .f32⟩
  | .hbm, ⟨30, _⟩ => ⟨S24x1024, .f32⟩
  | .hbm, ⟨31, _⟩ => ⟨S24x1024, .f32⟩
  | .hbm, ⟨32, _⟩ => ⟨S24x1024, .f32⟩
  | .hbm, ⟨33, _⟩ => ⟨S1x1024x6144, .f32⟩
  | .hbm, ⟨34, _⟩ => ⟨S1024x6144, .f32⟩
  | .hbm, ⟨35, _⟩ => ⟨S24x6144, .f32⟩
  | .hbm, ⟨36, _⟩ => ⟨S1x6144, .f32⟩
  | .hbm, ⟨37, _⟩ => ⟨S6144, .f32⟩
  | .hbm, ⟨38, _⟩ => ⟨S1x6144, .f32⟩
  | .hbm, ⟨39, _⟩ => ⟨S24x6144, .f32⟩
  | .hbm, ⟨40, _⟩ => ⟨S24x6144, .f32⟩
  | .hbm, ⟨41, _⟩ => ⟨S24x1024, .f32⟩
  | .hbm, ⟨42, _⟩ => ⟨S24x1024, .f32⟩
  | .hbm, ⟨43, _⟩ => ⟨S_, .f32⟩
  | .hbm, ⟨44, _⟩ => ⟨S24x1024, .f32⟩
  | .hbm, ⟨45, _⟩ => ⟨S24x1024, .f32⟩
  | .hbm, ⟨46, _⟩ => ⟨S_, .f32⟩
  | .hbm, ⟨47, _⟩ => ⟨S24x1024, .f32⟩
  | .hbm, ⟨48, _⟩ => ⟨S24x1024, .f32⟩
  | .hbm, ⟨49, _⟩ => ⟨S24x1024, .f32⟩
  | .hbm, ⟨50, _⟩ => ⟨S1x1024x6144, .f32⟩
  | .hbm, ⟨51, _⟩ => ⟨S1024x6144, .f32⟩
  | .hbm, ⟨52, _⟩ => ⟨S24x6144, .f32⟩
  | .hbm, ⟨53, _⟩ => ⟨S1x6144, .f32⟩
  | .hbm, ⟨54, _⟩ => ⟨S6144, .f32⟩
  | .hbm, ⟨55, _⟩ => ⟨S1x6144, .f32⟩
  | .hbm, ⟨56, _⟩ => ⟨S24x6144, .f32⟩
  | .hbm, ⟨57, _⟩ => ⟨S24x6144, .f32⟩
  | .hbm, ⟨58, _⟩ => ⟨S24x1024, .f32⟩
  | .hbm, ⟨59, _⟩ => ⟨S24x1024, .f32⟩
  | .hbm, ⟨60, _⟩ => ⟨S_, .f32⟩
  | .hbm, ⟨61, _⟩ => ⟨S24x1024, .f32⟩
  | .hbm, ⟨62, _⟩ => ⟨S24x1024, .f32⟩
  | .hbm, ⟨63, _⟩ => ⟨S_, .f32⟩
  | .hbm, ⟨64, _⟩ => ⟨S24x1024, .f32⟩
  | .hbm, ⟨65, _⟩ => ⟨S24x1024, .f32⟩
  | .hbm, ⟨66, _⟩ => ⟨S24x1024, .f32⟩
  | .hbm, ⟨67, _⟩ => ⟨S1x1024x6144, .f32⟩
  | .hbm, ⟨68, _⟩ => ⟨S1024x6144, .f32⟩
  | .hbm, ⟨69, _⟩ => ⟨S24x6144, .f32⟩
  | .hbm, ⟨70, _⟩ => ⟨S1x6144, .f32⟩
  | .hbm, ⟨71, _⟩ => ⟨S6144, .f32⟩
  | .hbm, ⟨72, _⟩ => ⟨S1x6144, .f32⟩
  | .hbm, ⟨73, _⟩ => ⟨S24x6144, .f32⟩
  | .hbm, ⟨74, _⟩ => ⟨S24x6144, .f32⟩
  | .hbm, ⟨75, _⟩ => ⟨S1x24x6144, .f32⟩
  | .hbm, ⟨76, _⟩ => ⟨S1x24x6144, .f32⟩
  | .hbm, ⟨77, _⟩ => ⟨S1x24x6144, .f32⟩
  | .hbm, ⟨78, _⟩ => ⟨S1x24x6144, .f32⟩
  | .hbm, ⟨79, _⟩ => ⟨S4x24x6144, .f32⟩
  | _, _ => ⟨S4x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_call0_v0 : Ref sig .tc := ⟨.hbm, 7, rfl⟩
abbrev main_call0_v1 : Ref sig .tc := ⟨.hbm, 8, rfl⟩
abbrev main_call0_cst : Ref sig .tc := ⟨.hbm, 9, rfl⟩
abbrev main_call0_v2 : Ref sig .tc := ⟨.hbm, 10, rfl⟩
abbrev main_call0_v3 : Ref sig .tc := ⟨.hbm, 11, rfl⟩
abbrev main_call0_cst_0 : Ref sig .tc := ⟨.hbm, 12, rfl⟩
abbrev main_call0_v4 : Ref sig .tc := ⟨.hbm, 13, rfl⟩
abbrev main_call0_v5 : Ref sig .tc := ⟨.hbm, 14, rfl⟩
abbrev main_v2 : Ref sig .tc := ⟨.hbm, 15, rfl⟩
abbrev main_v3 : Ref sig .tc := ⟨.hbm, 16, rfl⟩
abbrev main_v4 : Ref sig .tc := ⟨.hbm, 17, rfl⟩
abbrev main_v5 : Ref sig .tc := ⟨.hbm, 18, rfl⟩
abbrev main_v6 : Ref sig .tc := ⟨.hbm, 19, rfl⟩
abbrev main_v7 : Ref sig .tc := ⟨.hbm, 20, rfl⟩
abbrev main_v8 : Ref sig .tc := ⟨.hbm, 21, rfl⟩
abbrev main_v9 : Ref sig .tc := ⟨.hbm, 22, rfl⟩
abbrev main_v10 : Ref sig .tc := ⟨.hbm, 23, rfl⟩
abbrev main_call1_v0 : Ref sig .tc := ⟨.hbm, 24, rfl⟩
abbrev main_call1_v1 : Ref sig .tc := ⟨.hbm, 25, rfl⟩
abbrev main_call1_cst : Ref sig .tc := ⟨.hbm, 26, rfl⟩
abbrev main_call1_v2 : Ref sig .tc := ⟨.hbm, 27, rfl⟩
abbrev main_call1_v3 : Ref sig .tc := ⟨.hbm, 28, rfl⟩
abbrev main_call1_cst_0 : Ref sig .tc := ⟨.hbm, 29, rfl⟩
abbrev main_call1_v4 : Ref sig .tc := ⟨.hbm, 30, rfl⟩
abbrev main_call1_v5 : Ref sig .tc := ⟨.hbm, 31, rfl⟩
abbrev main_v11 : Ref sig .tc := ⟨.hbm, 32, rfl⟩
abbrev main_v12 : Ref sig .tc := ⟨.hbm, 33, rfl⟩
abbrev main_v13 : Ref sig .tc := ⟨.hbm, 34, rfl⟩
abbrev main_v14 : Ref sig .tc := ⟨.hbm, 35, rfl⟩
abbrev main_v15 : Ref sig .tc := ⟨.hbm, 36, rfl⟩
abbrev main_v16 : Ref sig .tc := ⟨.hbm, 37, rfl⟩
abbrev main_v17 : Ref sig .tc := ⟨.hbm, 38, rfl⟩
abbrev main_v18 : Ref sig .tc := ⟨.hbm, 39, rfl⟩
abbrev main_v19 : Ref sig .tc := ⟨.hbm, 40, rfl⟩
abbrev main_call2_v0 : Ref sig .tc := ⟨.hbm, 41, rfl⟩
abbrev main_call2_v1 : Ref sig .tc := ⟨.hbm, 42, rfl⟩
abbrev main_call2_cst : Ref sig .tc := ⟨.hbm, 43, rfl⟩
abbrev main_call2_v2 : Ref sig .tc := ⟨.hbm, 44, rfl⟩
abbrev main_call2_v3 : Ref sig .tc := ⟨.hbm, 45, rfl⟩
abbrev main_call2_cst_0 : Ref sig .tc := ⟨.hbm, 46, rfl⟩
abbrev main_call2_v4 : Ref sig .tc := ⟨.hbm, 47, rfl⟩
abbrev main_call2_v5 : Ref sig .tc := ⟨.hbm, 48, rfl⟩
abbrev main_v20 : Ref sig .tc := ⟨.hbm, 49, rfl⟩
abbrev main_v21 : Ref sig .tc := ⟨.hbm, 50, rfl⟩
abbrev main_v22 : Ref sig .tc := ⟨.hbm, 51, rfl⟩
abbrev main_v23 : Ref sig .tc := ⟨.hbm, 52, rfl⟩
abbrev main_v24 : Ref sig .tc := ⟨.hbm, 53, rfl⟩
abbrev main_v25 : Ref sig .tc := ⟨.hbm, 54, rfl⟩
abbrev main_v26 : Ref sig .tc := ⟨.hbm, 55, rfl⟩
abbrev main_v27 : Ref sig .tc := ⟨.hbm, 56, rfl⟩
abbrev main_v28 : Ref sig .tc := ⟨.hbm, 57, rfl⟩
abbrev main_call3_v0 : Ref sig .tc := ⟨.hbm, 58, rfl⟩
abbrev main_call3_v1 : Ref sig .tc := ⟨.hbm, 59, rfl⟩
abbrev main_call3_cst : Ref sig .tc := ⟨.hbm, 60, rfl⟩
abbrev main_call3_v2 : Ref sig .tc := ⟨.hbm, 61, rfl⟩
abbrev main_call3_v3 : Ref sig .tc := ⟨.hbm, 62, rfl⟩
abbrev main_call3_cst_0 : Ref sig .tc := ⟨.hbm, 63, rfl⟩
abbrev main_call3_v4 : Ref sig .tc := ⟨.hbm, 64, rfl⟩
abbrev main_call3_v5 : Ref sig .tc := ⟨.hbm, 65, rfl⟩
abbrev main_v29 : Ref sig .tc := ⟨.hbm, 66, rfl⟩
abbrev main_v30 : Ref sig .tc := ⟨.hbm, 67, rfl⟩
abbrev main_v31 : Ref sig .tc := ⟨.hbm, 68, rfl⟩
abbrev main_v32 : Ref sig .tc := ⟨.hbm, 69, rfl⟩
abbrev main_v33 : Ref sig .tc := ⟨.hbm, 70, rfl⟩
abbrev main_v34 : Ref sig .tc := ⟨.hbm, 71, rfl⟩
abbrev main_v35 : Ref sig .tc := ⟨.hbm, 72, rfl⟩
abbrev main_v36 : Ref sig .tc := ⟨.hbm, 73, rfl⟩
abbrev main_v37 : Ref sig .tc := ⟨.hbm, 74, rfl⟩
abbrev main_v38 : Ref sig .tc := ⟨.hbm, 75, rfl⟩
abbrev main_v39 : Ref sig .tc := ⟨.hbm, 76, rfl⟩
abbrev main_v40 : Ref sig .tc := ⟨.hbm, 77, rfl⟩
abbrev main_v41 : Ref sig .tc := ⟨.hbm, 78, rfl⟩
abbrev main_v42 : Ref sig .tc := ⟨.hbm, 79, rfl⟩

abbrev nD : Nat := 1
abbrev τ : Topo := Topo.v7x

variable {F : FTy → Type} [FloatOps F]
-- ==== Proof.Cell.lean ====
/- One head of one sequence in the kernel's body, as mathematics: what the decayed attention over the chunk plus the carried state gives
   (`headOut`), what the state becomes (`headState`), the normalisation over the head's 128 lanes (`headNorm`), and that the payloads the body
   stores are these. -/
module

public import proofs.«01_k».proof.Proof.Gen.KernelIdeal.Skeleton
public import Idealize.ShloMosaic.Lib.Pointwise

@[expose] public section

set_option maxRecDepth 16384

noncomputable section

namespace Cert.Ret

open Cert.KernelIdeal Cert.KernelIdeal.Gen Idealize.ShloMosaic Idealize.ShloMosaic.TcCoe

/-- The head's output before normalisation: the scores within the chunk weighted by the decay mask `dm`, times the values, plus the decayed
    query against the state. -/
def headOut (q k v : Fin 16 → Fin 128 → EReal) (dm : Fin 16 → Fin 16 → EReal) (qd : Fin 16 → Fin 128 → EReal) (S : Fin 128 → Fin 128 → EReal)
    (t : Fin 16) (e : Fin 128) : EReal :=
  (∑ m : Fin 16, (∑ d : Fin 128, q t d * k m d) * dm t m * v m e) + ∑ d : Fin 128, q t d * qd t d * S d e

/-- The state after the chunk: the old one decayed, plus the decayed keys against the values. -/
def headState (k v : Fin 16 → Fin 128 → EReal) (bd : Fin 128 → EReal) (kd : Fin 16 → Fin 128 → EReal) (S : Fin 128 → Fin 128 → EReal)
    (d e : Fin 128) : EReal :=
  S d e * bd e + ∑ m : Fin 16, k m d * kd m d * v m e

/-- The normalisation of one row over the head's lanes, with the gain `g`. -/
def headNorm (o : Fin 128 → EReal) (g : EReal) (e : Fin 128) : EReal :=
  (o e - Ideal.div (∑ d : Fin 128, o d) (Ideal.ofBits .f32 0x43000000#32))
    * Ideal.rsqrt (Ideal.div (∑ d : Fin 128, (o d - Ideal.div (∑ d : Fin 128, o d) (Ideal.ofBits .f32 0x43000000#32))
        * (o d - Ideal.div (∑ d : Fin 128, o d) (Ideal.ofBits .f32 0x43000000#32))) (Ideal.ofBits .f32 0x43000000#32)
      + Ideal.ofBits .f32 0x3727C5AC#32) * g

theorem pay5_apply (q k v : Vec Ideal S1x16x128 .bf16) (dm : Vec Ideal S1x16x16 .f32) (qd : Vec Ideal S1x16x128 .f32)
    (S : Vec Ideal S1x1x128x128 .f32) (t : Fin 16) (e : Fin 128) :
    k0_pay5 q k v dm qd S (ix2 t e) = headOut (fun t d => q (ix3 0 t d)) (fun t d => k (ix3 0 t d)) (fun t d => v (ix3 0 t d))
      (fun t m => dm (ix3 0 t m)) (fun t d => qd (ix3 0 t d)) (fun d e => S (ix4 0 0 d e)) t e := by
  pointwise [k0_pay5, k0_pay3, k0_pay4, headOut]

theorem pay6_apply (k v : Vec Ideal S1x16x128 .bf16) (S : Vec Ideal S1x1x128x128 .f32) (bd : Vec Ideal S1x1x128 .f32)
    (kd : Vec Ideal S1x16x128 .f32) (d e : Fin 128) :
    k0_pay6 (k0_pay3 k) (k0_pay4 v) S bd kd (ix4 0 0 d e) = headState (fun t d => k (ix3 0 t d)) (fun t d => v (ix3 0 t d))
      (fun e => bd (ix3 0 0 e)) (fun t d => kd (ix3 0 t d)) (fun d e => S (ix4 0 0 d e)) d e := by
  pointwise [k0_pay6, k0_pay3, k0_pay4, headState]

theorem pay7_apply (o : FVec Ideal S16x128 .f32) (g : Vec Ideal S1x128 .f32) (t : Fin 16) (e : Fin 128) :
    k0_pay7 o g (ix2 t e) = headNorm (fun d => o (ix2 t d)) (g (ix2 0 e)) e := by
  pointwise [k0_pay7, headNorm]

theorem pay9_apply (o : FVec Ideal S16x128 .f32) (g : Vec Ideal S1x16x128 .bf16) (t : Fin 16) (e : Fin 128) :
    k0_pay9 o (k0_pay8 g) (ix3 0 t e) = g (ix3 0 t e) * Ideal.logistic (g (ix3 0 t e)) * o (ix2 t e) := by
  pointwise [k0_pay9, k0_pay8]

end Cert.Ret

end
-- ==== Proof.Pair.lean ====
/- What one grid point of the kernel leaves in its two output blocks: each of the 16 (sequence, head) pairs of the block writes its lanes of
   the output and its slab of the state, so each block is one function of the index (`blockOut`, `blockState`). -/
module

public import proofs.«01_k».proof.Proof.Cell
public import proofs.«01_k».proof.Proof.Gen.KernelIdeal.Value
public import Idealize.ShloMosaic.Lib.Pipeline.ReadBack
public import Idealize.ShloMosaic.Lib.Pipeline.ValueKit

@[expose] public section

set_option maxRecDepth 16384

noncomputable section

namespace Cert.Ret

open Cert.KernelIdeal Cert.KernelIdeal.Gen Idealize.ShloMosaic Idealize.ShloMosaic.TcCoe Idealize.SL.Sem

/-- Lane `128 h + d` of a row of four heads. -/
abbrev lane (h : Fin 4) (d : Fin 128) : Fin 512 := ⟨128 * h.val + d.val, by omega⟩

/-- The output of head `h` of sequence `b` of the block, at row `t` and lane `e`. -/
def pairOut (x0 x1 x2 x3 : Vec Ideal S4x16x512 .bf16) (x4 : Vec Ideal S4x4x128x128 .f32) (x5 : Vec Ideal S4x16x16 .f32)
    (x6 : Vec Ideal S4x16x128 .f32) (x9 : Vec Ideal S1x512 .f32) (b h : Fin 4) (t : Fin 16) (e : Fin 128) : EReal :=
  x3 (ix3 b t (lane h e)) * Ideal.logistic (x3 (ix3 b t (lane h e)))
    * headNorm (headOut (fun t d => x0 (ix3 b t (lane h d))) (fun t d => x1 (ix3 b t (lane h d))) (fun t d => x2 (ix3 b t (lane h d)))
        (fun t m => x5 (ix3 h t m)) (fun t d => x6 (ix3 h t d)) (fun d e => x4 (ix4 b h d e)) t) (x9 (ix2 0 (lane h e))) e

/-- The output block. -/
def blockOut (x0 x1 x2 x3 : Vec Ideal S4x16x512 .bf16) (x4 : Vec Ideal S4x4x128x128 .f32) (x5 : Vec Ideal S4x16x16 .f32)
    (x6 : Vec Ideal S4x16x128 .f32) (x9 : Vec Ideal S1x512 .f32) : Vec Ideal S4x16x512 .bf16 := fun y =>
  pairOut x0 x1 x2 x3 x4 x5 x6 x9 ⟨(y 0).val, (y 0).isLt⟩ ⟨(y 2).val / 128, by have : (y 2).val < 512 := (y 2).isLt; omega⟩
    ⟨(y 1).val, (y 1).isLt⟩ ⟨(y 2).val % 128, Nat.mod_lt _ (by decide)⟩

/-- The state block. -/
def blockState (x1 x2 : Vec Ideal S4x16x512 .bf16) (x4 : Vec Ideal S4x4x128x128 .f32) (x7 : Vec Ideal S4x16x128 .f32)
    (x8 : Vec Ideal S4x1x128 .f32) : Vec Ideal S4x4x128x128 .f32 := fun y =>
  headState (fun t d => x1 (ix3 (y 0) t (lane (y 1) d))) (fun t d => x2 (ix3 (y 0) t (lane (y 1) d)))
    (fun e => x8 (ix3 (y 1) 0 e)) (fun t d => x7 (ix3 (y 1) t d)) (fun d e => x4 (ix4 (y 0) (y 1) d e)) (y 2) (y 3)

theorem blockOut_at (x0 x1 x2 x3 : Vec Ideal S4x16x512 .bf16) (x4 : Vec Ideal S4x4x128x128 .f32) (x5 : Vec Ideal S4x16x16 .f32)
    (x6 : Vec Ideal S4x16x128 .f32) (x9 : Vec Ideal S1x512 .f32) (b h : Fin 4) (t : Fin 16) (e : Fin 128) (y : S4x16x512.Idx)
    (h0 : (y 0).val = b.val) (h1 : (y 1).val = t.val) (h2 : (y 2).val = 128 * h.val + e.val) :
    blockOut x0 x1 x2 x3 x4 x5 x6 x9 y = pairOut x0 x1 x2 x3 x4 x5 x6 x9 b h t e := by
  unfold blockOut
  congr 1
  · exact Fin.ext h0
  · apply Fin.ext; show (y 2).val / 128 = h.val; omega
  · exact Fin.ext h1
  · apply Fin.ext; show (y 2).val % 128 = e.val; omega

theorem pay2_eq (x4 : Vec Ideal S4x4x128x128 .f32) : k0_pay2 (View.ld x4 (Rect.unit ![0, 0, 0, 0] ![4, 4, 128, 128] inb_S4x4x128x128_S4x4x128x128_0_0_0_0)) = x4 := by
  funext y
  idx_vars y
  pointwise [k0_pay2]

/-- The store of one (sequence, head) pair into the output block holds that pair's output. -/
theorem cell_out (b h : Fin 4) (x0 x1 x2 x3 : Vec Ideal S4x16x512 .bf16) (x4 : Vec Ideal S4x4x128x128 .f32) (x5 : Vec Ideal S4x16x16 .f32)
    (x6 : Vec Ideal S4x16x128 .f32) (x9 : Vec Ideal S1x512 .f32) {o : Fin 3 → ℕ} (ho : o = ![b.val, 0, 128 * h.val])
    {o5 : Fin 3 → ℕ} (h5 : o5 = ![h.val, 0, 0]) {o4 : Fin 4 → ℕ} (h4 : o4 = ![b.val, h.val, 0, 0]) {o9 : Fin 2 → ℕ} (h9 : o9 = ![0, 128 * h.val])
    (i : ∀ a, o a + ![1, 16, 128] a ≤ S4x16x512.size a) (i5 : ∀ a, o5 a + ![1, 16, 16] a ≤ S4x16x16.size a)
    (i6 : ∀ a, o5 a + ![1, 16, 128] a ≤ S4x16x128.size a) (i4 : ∀ a, o4 a + ![1, 1, 128, 128] a ≤ S4x4x128x128.size a)
    (i9 : ∀ a, o9 a + ![1, 128] a ≤ S1x512.size a) (x : S1x16x128.Idx) :
    k0_pay9 (k0_pay7 (k0_pay5 (View.ld x0 (Rect.unit o ![1, 16, 128] i)) (View.ld x1 (Rect.unit o ![1, 16, 128] i))
        (View.ld x2 (Rect.unit o ![1, 16, 128] i)) (View.ld x5 (Rect.unit o5 ![1, 16, 16] i5)) (View.ld x6 (Rect.unit o5 ![1, 16, 128] i6))
        (View.ld x4 (Rect.unit o4 ![1, 1, 128, 128] i4))) (View.ld x9 (Rect.unit o9 ![1, 128] i9)))
      (k0_pay8 (View.ld x3 (Rect.unit o ![1, 16, 128] i))) x
    = blockOut x0 x1 x2 x3 x4 x5 x6 x9 ((Rect.unit (s := S4x16x512) o ![1, 16, 128] i).emb x) := by
  subst ho h5 h4 h9
  obtain ⟨t, e, rfl⟩ : ∃ (t : Fin 16) (e : Fin 128), x = ix3 0 t e := ⟨x 1, x 2, by
    rw [eq_ix3 x]; congr 1; exact Subsingleton.elim (α := Fin 1) _ _⟩
  rw [blockOut_at (b := b) (h := h) (t := t) (e := e), pay9_apply, pay7_apply]
  · simp only [pay5_apply]
    pointwise [pairOut]
  · simp
  · simp
  · simp

/-- The store of one (sequence, head) pair into the state holds that pair's state. -/
theorem cell_state (b h : Fin 4) (x1 x2 : Vec Ideal S4x16x512 .bf16) (x4 : Vec Ideal S4x4x128x128 .f32) (x7 : Vec Ideal S4x16x128 .f32)
    (x8 : Vec Ideal S4x1x128 .f32) {o : Fin 3 → ℕ} (ho : o = ![b.val, 0, 128 * h.val])
    {o7 : Fin 3 → ℕ} (h7 : o7 = ![h.val, 0, 0]) {o4 : Fin 4 → ℕ} (h4 : o4 = ![b.val, h.val, 0, 0]) {o8 : Fin 3 → ℕ} (h8 : o8 = ![h.val, 0, 0])
    (i : ∀ a, o a + ![1, 16, 128] a ≤ S4x16x512.size a)
    (i7 : ∀ a, o7 a + ![1, 16, 128] a ≤ S4x16x128.size a) (i4 : ∀ a, o4 a + ![1, 1, 128, 128] a ≤ S4x4x128x128.size a)
    (i8 : ∀ a, o8 a + ![1, 1, 128] a ≤ S4x1x128.size a) (x : S1x1x128x128.Idx) :
    k0_pay6 (k0_pay3 (View.ld x1 (Rect.unit o ![1, 16, 128] i))) (k0_pay4 (View.ld x2 (Rect.unit o ![1, 16, 128] i)))
        (View.ld x4 (Rect.unit o4 ![1, 1, 128, 128] i4)) (View.ld x8 (Rect.unit o8 ![1, 1, 128] i8)) (View.ld x7 (Rect.unit o7 ![1, 16, 128] i7)) x
    = blockState x1 x2 x4 x7 x8 ((Rect.unit (s := S4x4x128x128) o4 ![1, 1, 128, 128] i4).emb x) := by
  subst ho h7 h4 h8
  obtain ⟨d, e, rfl⟩ : ∃ (d : Fin 128) (e : Fin 128), x = ix4 0 0 d e := ⟨x 2, x 3, by
    rw [eq_ix4 x]; congr 1 <;> exact Subsingleton.elim (α := Fin 1) _ _⟩
  rw [pay6_apply]
  have e0 : (Rect.unit (s := S4x4x128x128) ![b.val, h.val, 0, 0] ![1, 1, 128, 128] i4).emb (ix4 0 0 d e) = ix4 b h d e := by
    funext a; fin_cases a <;> apply Fin.ext <;> simp
  rw [e0]
  pointwise [blockState]

end Cert.Ret

end
-- ==== Proof.Point.lean ====
/- One grid point's two output blocks, read off the body's stores. -/
module

public import proofs.«01_k».proof.Proof.Pair

@[expose] public section

set_option maxRecDepth 16384

noncomputable section

namespace Cert.Ret

open Cert.KernelIdeal Cert.KernelIdeal.Gen Idealize.ShloMosaic Idealize.ShloMosaic.TcCoe Idealize.SL.Sem

/-- Pieces that all agree with `G`, written over others: where they cover, what is read back is `G`. -/
theorem canon_over {s : Shape} {e : EltTy} (G : s.Idx → Elt Ideal e) (L L' : List (View.Piece (Elt Ideal) s e)) {M : List (View.Piece (Elt Ideal) s e)}
    (hM : M = L ++ L') (h : View.PiecesOf G L) (y : s.Idx) (hc : ∃ p ∈ L, y ∈ p.1.set) : View.canon M y = G y := by
  subst hM
  exact View.canon_append_of_piecesOf G L' L h y hc

variable (c : Dev nD) (i : grid0.Coords) (arg2 : Memref sig .tc .vmem S4x16x512 .bf16) (harg2 : arg2.IsWhole) (arg3 : Memref sig .tc .vmem S4x16x512 .bf16) (harg3 : arg3.IsWhole) (arg4 : Memref sig .tc .vmem S4x16x512 .bf16) (harg4 : arg4.IsWhole) (arg5 : Memref sig .tc .vmem S4x16x512 .bf16) (harg5 : arg5.IsWhole) (arg6 : Memref sig .tc .vmem S4x4x128x128 .f32) (harg6 : arg6.IsWhole) (arg7 : Memref sig .tc .vmem S4x16x16 .f32) (harg7 : arg7.IsWhole) (arg8 : Memref sig .tc .vmem S4x16x128 .f32) (harg8 : arg8.IsWhole) (arg9 : Memref sig .tc .vmem S4x16x128 .f32) (harg9 : arg9.IsWhole) (arg10 : Memref sig .tc .vmem S4x1x128 .f32) (harg10 : arg10.IsWhole) (arg11 : Memref sig .tc .vmem S1x512 .f32) (harg11 : arg11.IsWhole) (arg12 : Memref sig .tc .vmem S4x16x512 .bf16) (harg12 : arg12.IsWhole) (arg13 : Memref sig .tc .vmem S4x4x128x128 .f32) (harg13 : arg13.IsWhole) (arg14 : Memref sig .tc .vmem S4x4x128x128 .f32) (harg14 : arg14.IsWhole)  (hc0 : cond0_0 i) (hc1 : cond0_1 i) (x0 : Vec Ideal S4x16x512 .bf16) (x1 : Vec Ideal S4x16x512 .bf16) (x2 : Vec Ideal S4x16x512 .bf16) (x3 : Vec Ideal S4x16x512 .bf16) (x4 : Vec Ideal S4x4x128x128 .f32) (x5 : Vec Ideal S4x16x16 .f32) (x6 : Vec Ideal S4x16x128 .f32) (x7 : Vec Ideal S4x16x128 .f32) (x8 : Vec Ideal S4x1x128 .f32) (x9 : Vec Ideal S1x512 .f32)

include hc0 hc1

theorem out10_eq :
    out0_A_10 c i arg2 harg2 arg3 harg3 arg4 harg4 arg5 harg5 arg6 harg6 arg7 harg7 arg8 harg8 arg9 harg9 arg10 harg10 arg11 harg11 arg12 harg12 arg13 harg13 arg14 harg14 hc0 hc1 x0 x1 x2 x3 x4 x5 x6 x7 x8 x9 = blockOut x0 x1 x2 x3 x4 x5 x6 x9 := by
  funext y
  have hc := cover0_A_10 c i arg2 harg2 arg3 harg3 arg4 harg4 arg5 harg5 arg6 harg6 arg7 harg7 arg8 harg8 arg9 harg9 arg10 harg10 arg11 harg11 arg12 harg12 arg13 harg13 arg14 harg14 hc0 hc1 x0 x1 x2 x3 x4 x5 x6 x7 x8 x9 y
  unfold out0_A_10
  rw [View.read_writes_junk_eq_canon]
  refine View.canon_apply_of_pieces _ _ (View.PiecesOf.mem ?_) y hc
  unfold kernelRun0_A
  dsimp only
  sl_unfold_run_names
  simp (disch := decide) only [↓View.readCov_skip, ↓View.readCov_fill, k0_off1_eq, k0_off2_eq, k0_off3_eq, k0_off4_eq, k0_off5_eq, k0_off6_eq, k0_off7_eq, k0_off8_eq, k0_off9_eq, k0_off10_eq, k0_off11_eq, k0_off12_eq, k0_off13_eq, k0_off14_eq, k0_off15_eq, k0_off16_eq, View.readAt_eq_ld, harg2.read_unread, harg3.read_unread, harg4.read_unread, harg5.read_unread, harg6.read_unread, harg7.read_unread, harg8.read_unread, harg9.read_unread, harg10.read_unread, harg11.read_unread]
  rw [pay2_eq]
  refine ⟨?_, ?_, ?_, ?_, ?_, ?_, ?_, ?_, ?_, ?_, ?_, ?_, ?_, ?_, ?_, ?_, trivial⟩
  · intro x; exact cell_out 3 3 x0 x1 x2 x3 x4 x5 x6 x9 k0_off16_eq rfl rfl rfl _ _ _ _ _ x
  · intro x; exact cell_out 3 2 x0 x1 x2 x3 x4 x5 x6 x9 k0_off15_eq rfl rfl rfl _ _ _ _ _ x
  · intro x; exact cell_out 3 1 x0 x1 x2 x3 x4 x5 x6 x9 k0_off14_eq rfl rfl rfl _ _ _ _ _ x
  · intro x; exact cell_out 3 0 x0 x1 x2 x3 x4 x5 x6 x9 k0_off13_eq rfl rfl rfl _ _ _ _ _ x
  · intro x; exact cell_out 2 3 x0 x1 x2 x3 x4 x5 x6 x9 k0_off12_eq rfl rfl rfl _ _ _ _ _ x
  · intro x; exact cell_out 2 2 x0 x1 x2 x3 x4 x5 x6 x9 k0_off11_eq rfl rfl rfl _ _ _ _ _ x
  · intro x; exact cell_out 2 1 x0 x1 x2 x3 x4 x5 x6 x9 k0_off10_eq rfl rfl rfl _ _ _ _ _ x
  · intro x; exact cell_out 2 0 x0 x1 x2 x3 x4 x5 x6 x9 k0_off9_eq rfl rfl rfl _ _ _ _ _ x
  · intro x; exact cell_out 1 3 x0 x1 x2 x3 x4 x5 x6 x9 k0_off8_eq rfl rfl rfl _ _ _ _ _ x
  · intro x; exact cell_out 1 2 x0 x1 x2 x3 x4 x5 x6 x9 k0_off7_eq rfl rfl rfl _ _ _ _ _ x
  · intro x; exact cell_out 1 1 x0 x1 x2 x3 x4 x5 x6 x9 k0_off6_eq rfl rfl rfl _ _ _ _ _ x
  · intro x; exact cell_out 1 0 x0 x1 x2 x3 x4 x5 x6 x9 k0_off5_eq rfl rfl rfl _ _ _ _ _ x
  · intro x; exact cell_out 0 3 x0 x1 x2 x3 x4 x5 x6 x9 k0_off4_eq rfl rfl rfl _ _ _ _ _ x
  · intro x; exact cell_out 0 2 x0 x1 x2 x3 x4 x5 x6 x9 k0_off3_eq rfl rfl rfl _ _ _ _ _ x
  · intro x; exact cell_out 0 1 x0 x1 x2 x3 x4 x5 x6 x9 k0_off2_eq rfl rfl rfl _ _ _ _ _ x
  · intro x; exact cell_out 0 0 x0 x1 x2 x3 x4 x5 x6 x9 k0_off1_eq rfl rfl rfl _ _ _ _ _ x

theorem out11_eq :
    out0_A_11 c i arg2 harg2 arg3 harg3 arg4 harg4 arg5 harg5 arg6 harg6 arg7 harg7 arg8 harg8 arg9 harg9 arg10 harg10 arg11 harg11 arg12 harg12 arg13 harg13 arg14 harg14 hc0 hc1 x0 x1 x2 x3 x4 x5 x6 x7 x8 x9 = blockState x1 x2 x4 x7 x8 := by
  funext y
  unfold out0_A_11
  rw [View.read_writes_junk_eq_canon]
  unfold kernelRun0_A
  dsimp only
  sl_unfold_run_names
  simp (disch := decide) only [↓View.readCov_skip, ↓View.readCov_fill, k0_off1_eq, k0_off2_eq, k0_off3_eq, k0_off4_eq, k0_off5_eq, k0_off6_eq, k0_off7_eq, k0_off8_eq, k0_off9_eq, k0_off10_eq, k0_off11_eq, k0_off12_eq, k0_off13_eq, k0_off14_eq, k0_off15_eq, k0_off16_eq, View.readAt_eq_ld, harg2.read_unread, harg3.read_unread, harg4.read_unread, harg5.read_unread, harg6.read_unread, harg7.read_unread, harg8.read_unread, harg9.read_unread, harg10.read_unread, harg11.read_unread]
  rw [pay2_eq, View.canon_unit_zero (by decide)]
  rw [View.readCov_eq_canon']
  refine (?_ : _ = blockState x1 x2 x4 x7 x8 ((Rect.unit (s := S4x4x128x128) ![0, 0, 0, 0] ![4, 4, 128, 128] inb_S4x4x128x128_S4x4x128x128_0_0_0_0).toLoadRect.idx y)).trans (congrArg _ (funext fun a => Fin.ext (by fin_cases a <;> simp)))
  refine canon_over (blockState x1 x2 x4 x7 x8) [_, _, _, _, _, _, _, _, _, _, _, _, _, _, _, _] [_] rfl ?_ _ ?_
  · refine ⟨?_, ?_, ?_, ?_, ?_, ?_, ?_, ?_, ?_, ?_, ?_, ?_, ?_, ?_, ?_, ?_, trivial⟩
    · intro x; exact cell_state 3 3 x1 x2 x4 x7 x8 k0_off16_eq rfl rfl rfl _ _ _ _ x
    · intro x; exact cell_state 3 2 x1 x2 x4 x7 x8 k0_off15_eq rfl rfl rfl _ _ _ _ x
    · intro x; exact cell_state 3 1 x1 x2 x4 x7 x8 k0_off14_eq rfl rfl rfl _ _ _ _ x
    · intro x; exact cell_state 3 0 x1 x2 x4 x7 x8 k0_off13_eq rfl rfl rfl _ _ _ _ x
    · intro x; exact cell_state 2 3 x1 x2 x4 x7 x8 k0_off12_eq rfl rfl rfl _ _ _ _ x
    · intro x; exact cell_state 2 2 x1 x2 x4 x7 x8 k0_off11_eq rfl rfl rfl _ _ _ _ x
    · intro x; exact cell_state 2 1 x1 x2 x4 x7 x8 k0_off10_eq rfl rfl rfl _ _ _ _ x
    · intro x; exact cell_state 2 0 x1 x2 x4 x7 x8 k0_off9_eq rfl rfl rfl _ _ _ _ x
    · intro x; exact cell_state 1 3 x1 x2 x4 x7 x8 k0_off8_eq rfl rfl rfl _ _ _ _ x
    · intro x; exact cell_state 1 2 x1 x2 x4 x7 x8 k0_off7_eq rfl rfl rfl _ _ _ _ x
    · intro x; exact cell_state 1 1 x1 x2 x4 x7 x8 k0_off6_eq rfl rfl rfl _ _ _ _ x
    · intro x; exact cell_state 1 0 x1 x2 x4 x7 x8 k0_off5_eq rfl rfl rfl _ _ _ _ x
    · intro x; exact cell_state 0 3 x1 x2 x4 x7 x8 k0_off4_eq rfl rfl rfl _ _ _ _ x
    · intro x; exact cell_state 0 2 x1 x2 x4 x7 x8 k0_off3_eq rfl rfl rfl _ _ _ _ x
    · intro x; exact cell_state 0 1 x1 x2 x4 x7 x8 k0_off2_eq rfl rfl rfl _ _ _ _ x
    · intro x; exact cell_state 0 0 x1 x2 x4 x7 x8 k0_off1_eq rfl rfl rfl _ _ _ _ x
  · exact View.cover_of_tiledL (s := S4x4x128x128) _ ![1, 1, 128, 128] (by sl_kernel_rfl) _

end Cert.Ret

end
-- ==== Proof.Tables.lean ====
/- The decay tables of the four heads, and that the kernel's host code and the reference both make them. -/
module

public import proofs.«01_k».proof.Proof.Gen.KernelIdeal.Value
public import proofs.«01_k».proof.Proof.Gen.ReferenceIdeal.Run
public import Idealize.ShloMosaic.Lib.Pointwise
public import Idealize.ShloMosaic.Lib.Claim

@[expose] public section

set_option maxRecDepth 16384

noncomputable section

namespace Cert.Ret

open Idealize.ShloMosaic Idealize.ShloMosaic.TcCoe Idealize.SL.Sem

/-- A position's number. -/
def posn (k : ℕ) : EReal := FloatOps.sitofp (F := Ideal) .f32 (BitVec.ofNat 32 k)

/-- The logarithm of head `h`'s decay. -/
def lgOf (h : Fin 4) : EReal :=
  Ideal.log (Ideal.ofBits .f32 1065353216#32 - Ideal.exp (Ideal.ofBits .f32 1060205080#32 * (Ideal.ofBits .f32 3231711232#32 - posn h.val)))

/-- The weight of row `m` in row `t`'s sum. -/
def maskOf (h : Fin 4) (t m : Fin 16) : EReal :=
  if 0 ≤ posn t.val - posn m.val then Ideal.exp (lgOf h * max (posn t.val - posn m.val) (Ideal.ofBits .f32 0#32)) else Ideal.ofBits .f32 0#32

/-- The decay of the state at row `t`. -/
def qdOf (h : Fin 4) (t : Fin 16) : EReal := Ideal.exp (lgOf h * (posn t.val + Ideal.ofBits .f32 1065353216#32))

/-- The decay of row `t`'s key up to the end of the chunk. -/
def kdOf (h : Fin 4) (t : Fin 16) : EReal := Ideal.exp (lgOf h * (Ideal.ofBits .f32 1097859072#32 - posn t.val))

/-- The decay of the state over the chunk. -/
def bdOf (h : Fin 4) : EReal := Ideal.exp (lgOf h * Ideal.ofBits .f32 1098907648#32)

section
open Cert.KernelIdeal Cert.KernelIdeal.Gen

variable (m : (l : Idealize.ShloMosaic.Loc nD τ sig) → Buf (Elt Ideal) l) (c : Dev nD)

theorem V_qd (h : Fin 4) (t : Fin 16) (d : Fin 128) : V m c main_v49 (ix3 h t d) = qdOf h t := by
  entry_read
  simp only [hostOps0, hostOps0_1, hostOps0_2, List.flatten_cons, List.flatten_nil, List.cons_append, List.nil_append, List.append_nil]
  after_results
  pointwise [qdOf, lgOf, posn]

theorem V_kd (h : Fin 4) (t : Fin 16) (d : Fin 128) : V m c main_v50 (ix3 h t d) = kdOf h t := by
  entry_read
  simp only [hostOps0, hostOps0_1, hostOps0_2, List.flatten_cons, List.flatten_nil, List.cons_append, List.nil_append, List.append_nil]
  after_results
  pointwise [kdOf, lgOf, posn]

theorem V_bd (h : Fin 4) (d : Fin 128) : V m c main_v51 (ix3 h 0 d) = bdOf h := by
  entry_read
  simp only [hostOps0, hostOps0_1, hostOps0_2, List.flatten_cons, List.flatten_nil, List.cons_append, List.nil_append, List.append_nil]
  after_results
  pointwise [bdOf, lgOf, posn]

theorem V_gn (d : Fin 512) : V m c main_v0 (ix2 0 d) = m ((c : Thread nD τ).loc main_arg2) (ix1 d) := by
  entry_read
  simp only [hostOps0, hostOps0_1, hostOps0_2, List.flatten_cons, List.flatten_nil, List.cons_append, List.nil_append, List.append_nil]
  after_results
  pointwise

theorem V_mask (h : Fin 4) (t s : Fin 16) : V m c main_v26 (ix3 h t s) = maskOf h t s := by
  entry_read
  simp only [hostOps0, hostOps0_1, hostOps0_2, List.flatten_cons, List.flatten_nil, List.cons_append, List.nil_append, List.append_nil]
  after_results
  simp only [StableHlo.TRef.ofBuf_toBuf, StableHlo.TRef.toBuf, StableHlo.TRef.ofBuf, cast_eq, id_eq]
  pointwise [maskOf, lgOf, posn]
end

section
open Cert.ReferenceIdeal Cert.ReferenceIdeal.Gen Cert.ReferenceIdeal.Value

variable (m : (l : Idealize.ShloMosaic.Loc nD τ sig) → Buf (Elt Ideal) l) (c : Dev nD)

/-- What the reference's loop starts from. -/
abbrev ent : Valuation τ sig (Elt Ideal) := StableHlo.entryContents preI m c

/-- One of the projection's column groups, split into chunks and heads. -/
theorem chunk_apply (A : FVec Ideal S16x16x5632 .bf16) (o : ℕ) (ho : o + 512 ≤ 5632) (hx : FTy.bf16.bits < FTy.f32.bits)
    (hs : S16x16x5632.Slices ![0, 0, o] S16x16x512) (hc' : S16x16x512.ShapeCasts S16x16x4x128) (hc : S16x16x4x128.ShapeCasts S16x1x16x4x128)
    (ht : S16x1x16x4x128.Transposes [1, 0, 3, 2, 4] S1x16x4x16x128) (b : Fin 16) (h : Fin 4) (t : Fin 16) (d : Fin 128) :
    transpose S1x16x4x16x128 [1, 0, 3, 2, 4] (shapeCast S16x1x16x4x128 (shapeCast S16x16x4x128
      (extractStridedSlice S16x16x512 ![0, 0, o] (extf FTy.f32 A hx) hs) hc') hc) ht
      (ix5 0 b h t d) = A (ix3 b t ⟨o + (128 * h.val + d.val), by omega⟩) := by
  pointwise
  simp only [Nat.mul_comm]

theorem ent_q (b : Fin 16) (h : Fin 4) (t : Fin 16) (d : Fin 128) : ent m c (Proc.devRef .tc main_v62_0) (ix5 0 b h t d)
    = m ((c : Thread nD τ).loc main_arg0) (ix3 b t ⟨0 + (128 * h.val + d.val), by omega⟩) := by
  simp only [ent, StableHlo.entryContents, StableHlo.afterL_cons, StableHlo.afterL_nil]
  after_reads_simp
  exact chunk_apply (m ((c : Thread nD τ).loc main_arg0)) 0 (by omega) _ _ _ _ _ b h t d

theorem ent_k (b : Fin 16) (h : Fin 4) (t : Fin 16) (d : Fin 128) : ent m c (Proc.devRef .tc main_v62_1) (ix5 0 b h t d)
    = m ((c : Thread nD τ).loc main_arg0) (ix3 b t ⟨512 + (128 * h.val + d.val), by omega⟩) := by
  simp only [ent, StableHlo.entryContents, StableHlo.afterL_cons, StableHlo.afterL_nil]
  after_reads_simp
  exact chunk_apply (m ((c : Thread nD τ).loc main_arg0)) 512 (by omega) _ _ _ _ _ b h t d

theorem ent_v (b : Fin 16) (h : Fin 4) (t : Fin 16) (d : Fin 128) : ent m c (Proc.devRef .tc main_v62_2) (ix5 0 b h t d)
    = m ((c : Thread nD τ).loc main_arg0) (ix3 b t ⟨1024 + (128 * h.val + d.val), by omega⟩) := by
  simp only [ent, StableHlo.entryContents, StableHlo.afterL_cons, StableHlo.afterL_nil]
  after_reads_simp
  exact chunk_apply (m ((c : Thread nD τ).loc main_arg0)) 1024 (by omega) _ _ _ _ _ b h t d

theorem ent_mask (h : Fin 4) (t s : Fin 16) : ent m c (Proc.devRef .tc main_v62_3) (ix3 h t s) = maskOf h t s := by
  simp only [ent, StableHlo.entryContents, StableHlo.afterL_cons, StableHlo.afterL_nil]
  after_reads_simp
  simp only [StableHlo.TRef.ofBuf_toBuf, StableHlo.TRef.toBuf, StableHlo.TRef.ofBuf, cast_eq, id_eq]
  pointwise [maskOf, lgOf, posn]

theorem ent_qd (h : Fin 4) (t : Fin 16) : ent m c (Proc.devRef .tc main_v62_4) (ix3 h t 0) = qdOf h t := by
  simp only [ent, StableHlo.entryContents, StableHlo.afterL_cons, StableHlo.afterL_nil]
  after_reads_simp
  rw [id_eq]
  pointwise [qdOf, lgOf, posn]

theorem ent_bd (h : Fin 4) : ent m c (Proc.devRef .tc main_v62_5) (ix3 h 0 0) = bdOf h := by
  simp only [ent, StableHlo.entryContents, StableHlo.afterL_cons, StableHlo.afterL_nil]
  after_reads_simp
  rw [id_eq]
  pointwise [bdOf, lgOf, posn]

theorem ent_kd (h : Fin 4) (t : Fin 16) : ent m c (Proc.devRef .tc main_v62_6) (ix3 h t 0) = kdOf h t := by
  simp only [ent, StableHlo.entryContents, StableHlo.afterL_cons, StableHlo.afterL_nil]
  after_reads_simp
  rw [id_eq]
  pointwise [kdOf, lgOf, posn]

theorem ent_ctr : ent m c (Proc.devRef .tc main_v62_7) = fun _ => (0#32 : BitVec 32) := ctr_entry m c

theorem ent_state : ent m c (Proc.devRef .tc main_v62_8) = m ((c : Thread nD τ).loc main_arg1) := by
  simp only [ent, StableHlo.entryContents, StableHlo.afterL_cons, StableHlo.afterL_nil]
  after_reads_simp
  rfl

end

end Cert.Ret

end
-- ==== Proof.RefValue.lean ====
/- The reference's results, read at an index: its one pass over the chunk gives every head's output and state. -/
module

public import proofs.«01_k».proof.Proof.Tables
public import proofs.«01_k».proof.Proof.Cell

@[expose] public section

set_option maxRecDepth 16384

noncomputable section

namespace Cert.Ret

open Cert.ReferenceIdeal Cert.ReferenceIdeal.Gen Cert.ReferenceIdeal.Value Idealize.ShloMosaic Idealize.ShloMosaic.TcCoe Idealize.SL.Sem

/-- The last operations: normalise every head's row and gate it. -/
theorem tail_apply (V0 : Valuation τ sig (Elt Ideal)) (A : FVec Ideal S16x16x5632 .bf16) (hA : V0 (Proc.devRef .tc main_arg0) = A)
    (b : Fin 16) (t : Fin 16) (h : Fin 4) (e : Fin 128) :
    out_main_v90 V0 (ix3 b t ⟨128 * h.val + e.val, by omega⟩)
    = A (ix3 b t ⟨1536 + (128 * h.val + e.val), by omega⟩) * Ideal.logistic (A (ix3 b t ⟨1536 + (128 * h.val + e.val), by omega⟩))
      * headNorm (fun d => V0 (Proc.devRef .tc main_v62_9) (ix5 0 b h t d))
          (V0 (Proc.devRef .tc main_arg2) (ix1 ⟨128 * h.val + e.val, by omega⟩)) e := by
  unfold out_main_v90
  rw [hA]
  pointwise [headNorm, Ideal.logistic]
  simp only [Nat.mul_comm]

/-- An update the size of the array replaces it. -/
theorem update_full {s : Shape} {α : Type} (x upd : s.Idx → α) (start : Fin s.rank → Int) (h : s.Slices (fun _ => 0) s) :
    Host.dynamicUpdateSlice x upd start h = upd := by
  have h0 : ∀ a, Host.clampedStart s s h.1 start a = 0 := fun a => by
    have := Host.clampedStart_le h.1 start a (Nat.le_refl _)
    simpa using this
  funext i
  rw [Host.dynamicUpdateSlice_apply, dif_pos (fun a => ⟨by rw [h0]; exact Nat.zero_le _, by rw [h0, Nat.zero_add]; exact (i a).isLt⟩)]
  refine congrArg upd ?_
  funext b
  apply Fin.ext
  show (i b).val - Host.clampedStart s s h.1 start b = (i b).val
  rw [h0, Nat.sub_zero]

/-- A slice the size of the array is the array. -/
theorem slice_full {s : Shape} {α : Type} (x : s.Idx → α) (start : Fin s.rank → Int) (h : s.Slices (fun _ => 0) s) :
    Host.dynamicSlice s x start h = x := by
  have h0 : ∀ a, Host.clampedStart s s h.1 start a = 0 := fun a => by
    have := Host.clampedStart_le h.1 start a (Nat.le_refl _)
    simpa using this
  funext i
  rw [Host.dynamicSlice_apply]
  refine congrArg x ?_
  funext b
  apply Fin.ext
  show Host.clampedStart s s h.1 start b + (i b).val = (i b).val
  rw [h0, Nat.zero_add]

/-- The one chunk, read from the array of chunks. -/
theorem chunk_read (X : FVec Ideal S1x16x4x16x128 .f32) (start : Fin 5 → Int) (hs : S1x16x4x16x128.Slices (fun _ => 0) S1x16x4x16x128)
    (hc : S1x16x4x16x128.ShapeCasts S16x4x16x128) (b : Fin 16) (h : Fin 4) (t : Fin 16) (d : Fin 128) :
    shapeCast S16x4x16x128 (Host.dynamicSlice S1x16x4x16x128 X start hs) hc (ix4 b h t d) = X (ix5 0 b h t d) := by
  rw [slice_full]
  pointwise

variable (m : (l : Idealize.ShloMosaic.Loc nD τ sig) → Buf (Elt Ideal) l) (c : Dev nD)

theorem q_apply (b : Fin 16) (h : Fin 4) (t : Fin 16) (d : Fin 128) : res_main_while0b_v91 (ent m c) (ix4 b h t d)
    = m ((c : Thread nD τ).loc main_arg0) (ix3 b t ⟨0 + (128 * h.val + d.val), by omega⟩) := by
  unfold res_main_while0b_v91
  exact (chunk_read _ _ _ _ b h t d).trans (ent_q m c b h t d)

theorem k_apply (b : Fin 16) (h : Fin 4) (t : Fin 16) (d : Fin 128) : res_main_while0b_v92 (ent m c) (ix4 b h t d)
    = m ((c : Thread nD τ).loc main_arg0) (ix3 b t ⟨512 + (128 * h.val + d.val), by omega⟩) := by
  unfold res_main_while0b_v92
  exact (chunk_read _ _ _ _ b h t d).trans (ent_k m c b h t d)

theorem v_apply (b : Fin 16) (h : Fin 4) (t : Fin 16) (d : Fin 128) : res_main_while0b_v93 (ent m c) (ix4 b h t d)
    = m ((c : Thread nD τ).loc main_arg0) (ix3 b t ⟨1024 + (128 * h.val + d.val), by omega⟩) := by
  unfold res_main_while0b_v93
  exact (chunk_read _ _ _ _ b h t d).trans (ent_v m c b h t d)

/-- The projection's columns from `o` on, of head `h` of sequence `b`. -/
abbrev cols (A : FVec Ideal S16x16x5632 .bf16) (o : ℕ) (ho : o + 512 ≤ 5632) (b : Fin 16) (h : Fin 4) (t : Fin 16) (d : Fin 128) : EReal :=
  A (ix3 b t ⟨o + (128 * h.val + d.val), by omega⟩)

/-- The reference's output of head `h` before its normalisation. -/
theorem chunkOut_apply (b : Fin 16) (h : Fin 4) (t : Fin 16) (e : Fin 128) :
    step_main_v62_9 (ent m c) (ix5 0 b h t e)
    = headOut (cols (m ((c : Thread nD τ).loc main_arg0)) 0 (by omega) b h) (cols (m ((c : Thread nD τ).loc main_arg0)) 512 (by omega) b h)
        (cols (m ((c : Thread nD τ).loc main_arg0)) 1024 (by omega) b h) (maskOf h) (fun t _ => qdOf h t)
        (fun d e => m ((c : Thread nD τ).loc main_arg1) (ix4 b h d e)) t e := by
  unfold step_main_v62_9
  rw [id_eq]
  refine (congrFun (update_full _ _ _ _) _).trans ?_
  rw [ent_state]
  pointwise [q_apply, k_apply, v_apply]
  simp only [headOut, cols, Nat.zero_add, ent_mask m c, ent_qd m c]

/-- The reference's state of head `h`. -/
theorem state_apply (b : Fin 16) (h : Fin 4) (d e : Fin 128) :
    step_main_v62_8 (ent m c) (ix4 b h d e)
    = headState (cols (m ((c : Thread nD τ).loc main_arg0)) 512 (by omega) b h)
        (cols (m ((c : Thread nD τ).loc main_arg0)) 1024 (by omega) b h) (fun _ => bdOf h) (fun t _ => kdOf h t)
        (fun d e => m ((c : Thread nD τ).loc main_arg1) (ix4 b h d e)) d e := by
  unfold step_main_v62_8
  rw [id_eq, ent_state]
  pointwise [k_apply, v_apply]
  simp only [headState, cols, ent_bd m c, ent_kd m c]

end Cert.Ret

end
-- ==== Proof.Arrays.lean ====
/- The kernel's two result arrays after the run, index by index, of its arguments. -/
module

public import proofs.«01_k».proof.Proof.Point
public import proofs.«01_k».proof.Proof.RefValue

@[expose] public section

set_option maxRecDepth 16384

noncomputable section

namespace Cert.Ret

open Cert.KernelIdeal Cert.KernelIdeal.Gen Cert.KernelIdeal.Value Idealize.ShloMosaic Idealize.ShloMosaic.TcCoe Idealize.SL.Sem

variable (m : (l : Idealize.ShloMosaic.Loc nD τ sig) → Buf (Elt Ideal) l) (c : Dev nD)

/-- Which block each window holds at a grid point. -/
theorem idx_all : ∀ t : Fin cfg0.N, win0_0.index t = ![t.val, 0, 0] ∧ win0_1.index t = ![t.val, 0, 1] ∧ win0_2.index t = ![t.val, 0, 2]
    ∧ win0_3.index t = ![t.val, 0, 3] ∧ win0_4.index t = ![t.val, 0, 0, 0] ∧ win0_5.index t = ![0, 0, 0] ∧ win0_6.index t = ![0, 0, 0]
    ∧ win0_7.index t = ![0, 0, 0] ∧ win0_8.index t = ![0, 0, 0] ∧ win0_9.index t = ![0, 0] ∧ win0_10.index t = ![t.val, 0, 0]
    ∧ win0_11.index t = ![t.val, 0, 0, 0] :=
  (by decide +kernel : ∀ t : Fin grid0.N, _)

/-- Sequence `b` of grid point `t`'s block. -/
abbrev seqOf (t : Fin cfg0.N) (b : Fin 4) : Fin 16 := ⟨4 * t.val + b.val, by have := t.isLt; have : cfg0.N = 4 := rfl; omega⟩

theorem blk_q (t : Fin cfg0.N) (b : Fin 4) (r : Fin 16) (h : Fin 4) (d : Fin 128) : iblk m c 0 t (ix3 b r (lane h d))
    = m ((c : Thread nD τ).loc main_arg0) (ix3 (seqOf t b) r ⟨0 + (128 * h.val + d.val), by omega⟩) := by
  obtain ⟨h0, h1, h2, h3, h4, h5, h6, h7, h8, h9, h10, h11⟩ := idx_all t
  blk_ext [iblk, h0, V_main_arg0]

theorem blk_k (t : Fin cfg0.N) (b : Fin 4) (r : Fin 16) (h : Fin 4) (d : Fin 128) : iblk m c 1 t (ix3 b r (lane h d))
    = m ((c : Thread nD τ).loc main_arg0) (ix3 (seqOf t b) r ⟨512 + (128 * h.val + d.val), by omega⟩) := by
  obtain ⟨h0, h1, h2, h3, h4, h5, h6, h7, h8, h9, h10, h11⟩ := idx_all t
  blk_ext [iblk, h1, V_main_arg0]

theorem blk_v (t : Fin cfg0.N) (b : Fin 4) (r : Fin 16) (h : Fin 4) (d : Fin 128) : iblk m c 2 t (ix3 b r (lane h d))
    = m ((c : Thread nD τ).loc main_arg0) (ix3 (seqOf t b) r ⟨1024 + (128 * h.val + d.val), by omega⟩) := by
  obtain ⟨h0, h1, h2, h3, h4, h5, h6, h7, h8, h9, h10, h11⟩ := idx_all t
  blk_ext [iblk, h2, V_main_arg0]

theorem blk_g (t : Fin cfg0.N) (b : Fin 4) (r : Fin 16) (h : Fin 4) (d : Fin 128) : iblk m c 3 t (ix3 b r (lane h d))
    = m ((c : Thread nD τ).loc main_arg0) (ix3 (seqOf t b) r ⟨1536 + (128 * h.val + d.val), by omega⟩) := by
  obtain ⟨h0, h1, h2, h3, h4, h5, h6, h7, h8, h9, h10, h11⟩ := idx_all t
  blk_ext [iblk, h3, V_main_arg0]

theorem blk_s (t : Fin cfg0.N) (b h : Fin 4) (d e : Fin 128) : iblk m c 4 t (ix4 b h d e)
    = m ((c : Thread nD τ).loc main_arg1) (ix4 (seqOf t b) h d e) := by
  obtain ⟨h0, h1, h2, h3, h4, h5, h6, h7, h8, h9, h10, h11⟩ := idx_all t
  blk_ext [iblk, h4, V_main_arg1]

theorem blk_mask (t : Fin cfg0.N) (h : Fin 4) (r s : Fin 16) : iblk m c 5 t (ix3 h r s) = maskOf h r s := by
  obtain ⟨h0, h1, h2, h3, h4, h5, h6, h7, h8, h9, h10, h11⟩ := idx_all t
  refine Eq.trans ?_ (V_mask m c h r s)
  blk_ext [iblk, h5]

theorem blk_qd (t : Fin cfg0.N) (h : Fin 4) (r : Fin 16) (d : Fin 128) : iblk m c 6 t (ix3 h r d) = qdOf h r := by
  obtain ⟨h0, h1, h2, h3, h4, h5, h6, h7, h8, h9, h10, h11⟩ := idx_all t
  refine Eq.trans ?_ (V_qd m c h r d)
  blk_ext [iblk, h6]

theorem blk_kd (t : Fin cfg0.N) (h : Fin 4) (r : Fin 16) (d : Fin 128) : iblk m c 7 t (ix3 h r d) = kdOf h r := by
  obtain ⟨h0, h1, h2, h3, h4, h5, h6, h7, h8, h9, h10, h11⟩ := idx_all t
  refine Eq.trans ?_ (V_kd m c h r d)
  blk_ext [iblk, h7]

theorem blk_bd (t : Fin cfg0.N) (h : Fin 4) (d : Fin 128) : iblk m c 8 t (ix3 h 0 d) = bdOf h := by
  obtain ⟨h0, h1, h2, h3, h4, h5, h6, h7, h8, h9, h10, h11⟩ := idx_all t
  refine Eq.trans ?_ (V_bd m c h d)
  blk_ext [iblk, h8]

theorem blk_gn (t : Fin cfg0.N) (d : Fin 512) : iblk m c 9 t (ix2 0 d) = m ((c : Thread nD τ).loc main_arg2) (ix1 d) := by
  obtain ⟨h0, h1, h2, h3, h4, h5, h6, h7, h8, h9, h10, h11⟩ := idx_all t
  refine Eq.trans ?_ (V_gn m c d)
  blk_ext [iblk, h9]

/-- The gated output of head `h` of sequence `b` at row `t`, lane `e`, of the projection, the state and the gain. -/
def outAt (A : FVec Ideal S16x16x5632 .bf16) (S0 : FVec Ideal S16x4x128x128 .f32) (g : FVec Ideal S512 .f32)
    (b : Fin 16) (t : Fin 16) (h : Fin 4) (e : Fin 128) : EReal :=
  A (ix3 b t ⟨1536 + (128 * h.val + e.val), by omega⟩) * Ideal.logistic (A (ix3 b t ⟨1536 + (128 * h.val + e.val), by omega⟩))
    * headNorm (headOut (cols A 0 (by omega) b h) (cols A 512 (by omega) b h) (cols A 1024 (by omega) b h) (maskOf h) (fun t _ => qdOf h t)
        (fun d e => S0 (ix4 b h d e)) t) (g (ix1 ⟨128 * h.val + e.val, by omega⟩)) e

/-- The new state of head `h` of sequence `b`. -/
def stateAt (A : FVec Ideal S16x16x5632 .bf16) (S0 : FVec Ideal S16x4x128x128 .f32) (b : Fin 16) (h : Fin 4) (d e : Fin 128) : EReal :=
  headState (cols A 512 (by omega) b h) (cols A 1024 (by omega) b h) (fun _ => bdOf h) (fun t _ => kdOf h t)
    (fun d e => S0 (ix4 b h d e)) d e

/-- The output array. -/
def outArr (A : FVec Ideal S16x16x5632 .bf16) (S0 : FVec Ideal S16x4x128x128 .f32) (g : FVec Ideal S512 .f32) : FVec Ideal S16x16x512 .bf16 := fun y =>
  outAt A S0 g (y 0) (y 1) ⟨(y 2).val / 128, by have : (y 2).val < 512 := (y 2).isLt; omega⟩ ⟨(y 2).val % 128, Nat.mod_lt _ (by decide)⟩

/-- The state array. -/
def stateArr (A : FVec Ideal S16x16x5632 .bf16) (S0 : FVec Ideal S16x4x128x128 .f32) : FVec Ideal S16x4x128x128 .f32 := fun y =>
  stateAt A S0 (y 0) (y 1) (y 2) (y 3)

theorem outArr_at (A : FVec Ideal S16x16x5632 .bf16) (S0 : FVec Ideal S16x4x128x128 .f32) (g : FVec Ideal S512 .f32)
    (b : Fin 16) (t : Fin 16) (h : Fin 4) (e : Fin 128) : outArr A S0 g (ix3 b t (lane h e)) = outAt A S0 g b t h e := by
  show outAt A S0 g b t _ _ = _
  congr 1
  · apply Fin.ext; show (128 * h.val + e.val) / 128 = h.val; omega
  · apply Fin.ext; show (128 * h.val + e.val) % 128 = e.val; omega

theorem lane_surj (l : Fin 512) : ∃ (h : Fin 4) (e : Fin 128), l = lane h e :=
  ⟨⟨l.val / 128, by omega⟩, ⟨l.val % 128, by omega⟩, Fin.ext (by show l.val = 128 * (l.val / 128) + l.val % 128; omega)⟩

/-- The kernel's output array after the run. -/
theorem final10 : (dats m 0 c).arrAt 10 cfg0.N = outArr (m ((c : Thread nD τ).loc main_arg0)) (m ((c : Thread nD τ).loc main_arg1)) (m ((c : Thread nD τ).loc main_arg2)) := by
  refine (dats m 0 c).arrAt_eq_of_covers 10 _ (by decide +kernel) fun t hf y => ?_
  have e := congrFun (flushed10_A m c t) y
  rw [out10_eq] at e
  obtain ⟨b, r, l, rfl⟩ : ∃ (b : Fin 4) (r : Fin 16) (l : Fin 512), y = ix3 b r l := ⟨y 0, y 1, y 2, eq_ix3 y⟩
  obtain ⟨h, d, rfl⟩ := lane_surj l
  have ey : ((cfg0.win 10).blk t).view.emb (ix3 b r (lane h d)) = ix3 (seqOf t b) r (lane h d) := by
    obtain ⟨h0, h1, h2, h3, h4, h5, h6, h7, h8, h9, h10, h11⟩ := idx_all t
    blk_ext [h10]
  rw [ey, outArr_at]
  refine e.trans ?_
  show blockOut (iblk m c 0 t) (iblk m c 1 t) (iblk m c 2 t) (iblk m c 3 t) (iblk m c 4 t) (iblk m c 5 t) (iblk m c 6 t) (iblk m c 9 t)
    (ix3 b r (lane h d)) = _
  rw [blockOut_at (b := b) (h := h) (t := r) (e := d) _ _ _ _ _ _ _ _ _ rfl rfl rfl]
  unfold pairOut outAt
  simp only [blk_q, blk_k, blk_v, blk_g, blk_s, blk_mask, blk_qd, blk_gn]

/-- The kernel's state array after the run. -/
theorem final11 : (dats m 0 c).arrAt 11 cfg0.N = stateArr (m ((c : Thread nD τ).loc main_arg0)) (m ((c : Thread nD τ).loc main_arg1)) := by
  refine (dats m 0 c).arrAt_eq_of_covers 11 _ (by decide +kernel) fun t hf y => ?_
  have e := congrFun (flushed11_A m c t) y
  rw [out11_eq] at e
  obtain ⟨b, h, d, f, rfl⟩ : ∃ (b h : Fin 4) (d f : Fin 128), y = ix4 b h d f := ⟨y 0, y 1, y 2, y 3, eq_ix4 y⟩
  have ey : ((cfg0.win 11).blk t).view.emb (ix4 b h d f) = ix4 (seqOf t b) h d f := by
    obtain ⟨h0, h1, h2, h3, h4, h5, h6, h7, h8, h9, h10, h11⟩ := idx_all t
    blk_ext [h11]
  rw [ey]
  refine e.trans ?_
  show headState (fun r d => iblk m c 1 t (ix3 b r (lane h d))) (fun r d => iblk m c 2 t (ix3 b r (lane h d)))
    (fun e => iblk m c 8 t (ix3 h 0 e)) (fun r d => iblk m c 7 t (ix3 h r d)) (fun d e => iblk m c 4 t (ix4 b h d e)) d f
    = stateAt _ _ (seqOf t b) h d f
  unfold stateAt
  simp only [blk_k, blk_v, blk_s, blk_bd, blk_kd]

/-- The kernel's run: both results, of the arguments. -/
theorem kernel_run (ρ : Dev nD → PrngReg) : θ_run defs (onTc (τ := τ) (main (F := Ideal))) ⟨m, fun _ => 0, ρ⟩ fun r => ∀ c : Dev nD,
      r.2.mem ((c : Thread nD τ).loc main_v52_0) = outArr (m ((c : Thread nD τ).loc main_arg0)) (m ((c : Thread nD τ).loc main_arg1)) (m ((c : Thread nD τ).loc main_arg2))
      ∧ r.2.mem ((c : Thread nD τ).loc main_v52_1) = stateArr (m ((c : Thread nD τ).loc main_arg0)) (m ((c : Thread nD τ).loc main_arg1))
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2) :=
  (θ_run defs _ _).mono (fun _ h c => ⟨(h c).1.trans (final10 m c), (h c).2.1.trans (final11 m c), (h c).2.2⟩) (run_blocks m ρ)

end Cert.Ret

end
-- ==== Proof.RefRun.lean ====
/- The reference's run: both results, of the arguments, are the arrays the kernel ends with. -/
module

public import proofs.«01_k».proof.Proof.Arrays

@[expose] public section

set_option maxRecDepth 16384

noncomputable section

namespace Cert.Ret

open Cert.ReferenceIdeal Cert.ReferenceIdeal.Gen Cert.ReferenceIdeal.Value Idealize.ShloMosaic Idealize.ShloMosaic.TcCoe Idealize.SL.Sem

variable (m : (l : Idealize.ShloMosaic.Loc nD τ sig) → Buf (Elt Ideal) l) (c : Dev nD)

theorem ref_state : (STEP^[1] (ent m c)) (Proc.devRef .tc main_v62_8)
    = stateArr (m ((c : Thread nD τ).loc main_arg0)) (m ((c : Thread nD τ).loc main_arg1)) := by
  rw [Function.iterate_one, STEP_main_v62_8]
  funext y
  obtain ⟨b, h, d, e, rfl⟩ : ∃ (b : Fin 16) (h : Fin 4) (d e : Fin 128), y = ix4 b h d e := ⟨y 0, y 1, y 2, y 3, eq_ix4 y⟩
  exact state_apply m c b h d e

theorem ref_out : out_main_v90 (STEP^[1] (ent m c))
    = outArr (m ((c : Thread nD τ).loc main_arg0)) (m ((c : Thread nD τ).loc main_arg1)) (m ((c : Thread nD τ).loc main_arg2)) := by
  funext y
  obtain ⟨b, t, l, rfl⟩ : ∃ (b t : Fin 16) (l : Fin 512), y = ix3 b t l := ⟨y 0, y 1, y 2, eq_ix3 y⟩
  obtain ⟨h, e, rfl⟩ := lane_surj l
  rw [outArr_at]
  refine (tail_apply (STEP^[1] (ent m c)) (m ((c : Thread nD τ).loc main_arg0)) (iter_main_arg0 m c 1) b t h e).trans ?_
  rw [iter_main_arg2, Function.iterate_one, STEP_main_v62_9]
  simp only [chunkOut_apply]
  rfl

/-- The reference's run. -/
theorem reference_run (ρ : Dev nD → PrngReg) : θ_run (defs (F := Ideal)) (onTc (τ := τ) (main (F := Ideal))) ⟨m, fun _ => 0, ρ⟩ fun r => ∀ c : Dev nD,
      r.2.mem ((c : Thread nD τ).loc main_v90) = outArr (m ((c : Thread nD τ).loc main_arg0)) (m ((c : Thread nD τ).loc main_arg1)) (m ((c : Thread nD τ).loc main_arg2))
      ∧ r.2.mem ((c : Thread nD τ).loc main_v62_8) = stateArr (m ((c : Thread nD τ).loc main_arg0)) (m ((c : Thread nD τ).loc main_arg1))
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2) :=
  (θ_run defs _ _).mono (fun _ h c => ⟨(h c).1.trans (ref_out m c), (h c).2.1.trans (ref_state m c), (h c).2.2⟩) (run m ρ)

end Cert.Ret

end
-- ==== Proof.ExpWords.lean ====
/- The words the experts kernel computes from its grid coordinate and from the number of blocks that hold rows: decided
   over every point of the grid and every such number. -/
module

public import proofs.«01_k».proof.Proof.Gen.Kernel2Ideal.Skeleton

@[expose] public section

noncomputable section

namespace Cert.Exp

open Cert.Kernel2Ideal Cert.Kernel2Ideal.Gen
open Idealize.ShloMosaic

theorem min_word : ∀ n k : Fin 175, 1 ≤ k.val →
    (Scalar.minsi (BitVec.ofNat 32 n.val) (Scalar.subi (BitVec.ofNat 32 k.val) 1#32)).toNat = min n.val (k.val - 1) := by
  decide +kernel

theorem off1_eq : ∀ i : grid0.Coords, k0_off1 i = ![min (i 0).val 173] := by decide +kernel
theorem off2_eq : ∀ i : grid0.Coords, k0_off2 i = ![(i 0).val - 1] := by decide +kernel
theorem off3_eq : ∀ i : grid0.Coords, k0_off3 i = ![(i 0).val % 2, 0, 0] := by decide +kernel
theorem off4_eq : ∀ i : grid0.Coords, k0_off4 i = ![((i 0).val + 1) % 2, 0, 0] := by decide +kernel
theorem off5_eq : ∀ i : grid0.Coords, k0_off5 i = ![(i 0).val % 2, 0, 0] := by decide +kernel
theorem off6_eq : ∀ i : grid0.Coords, k0_off6 i = ![((i 0).val + 1) % 2, 0, 0] := by decide +kernel

theorem cond1_iff : ∀ i : grid0.Coords, k0_cond1 i = 1#1 ↔ (i 0).val = 0 := by decide +kernel
theorem cond2_all : ∀ (i : grid0.Coords) (k : Fin 175), k0_cond2 i (BitVec.ofNat 32 k.val) = 1#1 ↔ 1 ≤ (i 0).val ∧ (i 0).val < k.val := by
  decide +kernel
theorem cond3_all : ∀ (i : grid0.Coords) (k : Fin 175), k0_cond3 i (BitVec.ofNat 32 k.val) = 1#1 ↔ 1 ≤ (i 0).val ∧ (i 0).val = k.val := by
  decide +kernel
theorem cond4_all : ∀ (i : grid0.Coords) (k : Fin 175), k0_cond4 i (BitVec.ofNat 32 k.val) = 1#1 ↔ k.val < (i 0).val := by
  decide +kernel

end Cert.Exp

end
-- ==== Proof.ExpTables.lean ====
/- The two tables of the experts call: the expert of every block of 512 rows, and the number of blocks that hold rows.
   What the precondition says of them, and what the kernel's index maps and branch conditions then are. -/
module

public import proofs.«01_k».proof.Proof.ExpWords
public import proofs.«01_k».proof.Proof.Gen.Kernel2Ideal.Launch
public import Idealize.ShloMosaic.Lib.Affine

@[expose] public section

noncomputable section

namespace Cert.Exp

open Cert.Kernel2Ideal Cert.Kernel2Ideal.Gen
open Idealize.ShloMosaic Idealize.ShloMosaic.TcCoe

variable {F : FTy → Type} [FloatOps F]

/-- What is asked of the tables: every block's expert is one of the 16, and between 1 and 174 blocks hold rows. -/
structure Good (be : S174.Idx → BitVec 32) (nv : S1.Idx → BitVec 32) : Prop where
  be_lt : ∀ x, (be x).toNat < 16
  nv_pos : ∀ x, 1 ≤ (nv x).toNat
  nv_le : ∀ x, (nv x).toNat ≤ 174

/-- The one index of the table of length one. -/
def only : S1.Idx := fun a => ⟨0, by fin_cases a; decide⟩

theorem idx_one (x : S1.Idx) : x = only := by
  funext a; fin_cases a
  refine Fin.ext ?_
  have h := (x 0).isLt
  change (x 0).val < 1 at h
  show (x 0).val = 0
  omega

/-- The number of blocks that hold rows, as a natural number. -/
def count (nv : S1.Idx → BitVec 32) : ℕ := (nv only).toNat

/-- Entry `n` of the table of experts, the last one where `n` is past the end. -/
def entry (n : ℕ) : S174.Idx := fun a => match a with | ⟨0, _⟩ => ⟨min n 173, by show min n 173 < 174; omega⟩

/-- The expert of block `n`. -/
def expert (be : S174.Idx → BitVec 32) (n : ℕ) : ℕ := (be (entry n)).toNat

section
variable {be : S174.Idx → BitVec 32} {nv : S1.Idx → BitVec 32} (hg : Good be nv)
include hg

theorem count_pos : 1 ≤ count nv := hg.nv_pos _
theorem count_lt : count nv < 175 := Nat.lt_of_le_of_lt (hg.nv_le _) (by decide)
theorem expert_lt (n : ℕ) : expert be n < 16 := hg.be_lt _
omit hg in
theorem word_eq (nv : S1.Idx → BitVec 32) (x : S1.Idx) : nv x = BitVec.ofNat 32 (count nv) := by
  rw [idx_one x]; unfold count; simp

theorem cond2_iff (i : grid0.Coords) (x : S1.Idx) : k0_cond2 i (nv x) = 1#1 ↔ 1 ≤ (i 0).val ∧ (i 0).val < count nv := by
  rw [word_eq nv x]; exact cond2_all i ⟨count nv, count_lt hg⟩
theorem cond3_iff (i : grid0.Coords) (x : S1.Idx) : k0_cond3 i (nv x) = 1#1 ↔ 1 ≤ (i 0).val ∧ (i 0).val = count nv := by
  rw [word_eq nv x]; exact cond3_all i ⟨count nv, count_lt hg⟩
theorem cond4_iff (i : grid0.Coords) (x : S1.Idx) : k0_cond4 i (nv x) = 1#1 ↔ count nv < (i 0).val := by
  rw [word_eq nv x]; exact cond4_all i ⟨count nv, count_lt hg⟩
end

section
variable (pf : pre0.Contents (Elt F)) (hg : Good (pf 0) (pf 1))

/-- The rows' block: the point's own, the last one that holds rows past it. -/
theorem t0_eq (hg : Good (pf 0) (pf 1)) (i : grid0.Coords) :
    cc0_transform_0 inb_S1_S1_0 numel1_S1 pf i = ![min (i 0).val (count (pf 1) - 1), 0] := by
  have hw := word_eq (pf 1) ((Rect.unit (s := S1) ![0] S1.size inb_S1_S1_0).emb (Shape.Idx.first (numel1_S1.symm ▸ Nat.one_pos)))
  have hm := min_word ⟨(i 0).val, (i 0).isLt⟩ ⟨count (pf 1), count_lt hg⟩ (count_pos hg)
  funext a; fin_cases a
  · exact (congrArg (fun w : BitVec 32 => (Scalar.minsi (BitVec.ofNat 32 (i 0).val) (Scalar.subi w 1#32)).toNat) hw).trans hm
  · rfl

theorem entry_eq {off : Fin 1 → ℕ} {n : ℕ} (h : off = ![n]) (hn : n < 174) (hb : ∀ a, off a + S1.size a ≤ S174.size a) (x : S1.Idx) :
    (Rect.unit (s := S174) off S1.size hb).emb x = entry n := by
  subst h
  funext a; fin_cases a
  refine Fin.ext ?_
  have hx : (x 0).val = 0 := by have := (x 0).isLt; simp at this; omega
  simp [Rect.emb, Rect.unit, entry, hx]
  omega

/-- The experts' blocks of the first two weights: the point's own expert. -/
theorem t1_eq (i : grid0.Coords) :
    cc0_transform_1 k0_off1_inb numel1_S1 pf i = ![0, expert (pf 0) (i 0).val, 0, 0] := by
  have he := entry_eq (off1_eq i) (by omega) (k0_off1_inb i) (Shape.Idx.first (numel1_S1.symm ▸ Nat.one_pos))
  have h2 : entry (min (i 0).val 173) = entry (i 0).val := by
    funext a; fin_cases a; exact Fin.ext (by simp [entry])
  funext a; fin_cases a
  · rfl
  · exact congrArg (fun x => (pf 0 x : BitVec 32).toNat) (he.trans h2)
  · rfl
  · rfl

theorem t2_eq (i : grid0.Coords) :
    cc0_transform_2 k0_off1_inb numel1_S1 pf i = ![0, expert (pf 0) (i 0).val, 0, 0] := t1_eq pf i

/-- The expert's block of the last weight: the expert of the block before. -/
theorem t3_eq (i : grid0.Coords) :
    cc0_transform_3 k0_off2_inb numel1_S1 pf i = ![0, expert (pf 0) ((i 0).val - 1), 0, 0] := by
  have he := entry_eq (off2_eq i) (by have := (i 0).isLt; change (i 0).val < 175 at this; omega) (k0_off2_inb i) (Shape.Idx.first (numel1_S1.symm ▸ Nat.one_pos))
  funext a; fin_cases a
  · rfl
  · exact congrArg (fun x => (pf 0 x : BitVec 32).toNat) he
  · rfl
  · rfl

/-- The result's block: the block before the point. -/
theorem t4_eq : ∀ i : grid0.Coords, cc0_transform_4 i = ![(i 0).val - 1, 0] := by decide +kernel

/-- Every block lies inside its array. -/
theorem ok_of_good (hg : Good (pf 0) (pf 1)) : ok0 pf := by
  have hc := count_lt hg
  have hp := count_pos hg
  refine ⟨fun i => ?_, fun i => ?_, fun i => ?_, fun i => ?_⟩
  · refine ⟨?_, .inr (Affine.block_words_dvd (s := S89088x1024) (p := EltTy.packing .bf16) (by decide) (by decide))⟩
    rw [t0_eq pf hg i]; intro a
    fin_cases a
    · show (min (i 0).val (count (pf 1) - 1) + 1) * 512 ≤ 89088; omega
    · show (0 + 1) * 1024 ≤ 1024; omega
  · refine ⟨?_, .inl rfl⟩
    rw [t1_eq pf i]; intro a
    have := expert_lt hg (i 0).val
    fin_cases a
    · show (0 + 1) * 1 ≤ 4; omega
    · show (expert (pf 0) (i 0).val + 1) * 1 ≤ 16; omega
    · show (0 + 1) * 1024 ≤ 1024; omega
    · show (0 + 1) * 512 ≤ 512; omega
  · refine ⟨?_, .inl rfl⟩
    rw [t2_eq pf i]; intro a
    have := expert_lt hg (i 0).val
    fin_cases a
    · show (0 + 1) * 1 ≤ 4; omega
    · show (expert (pf 0) (i 0).val + 1) * 1 ≤ 16; omega
    · show (0 + 1) * 1024 ≤ 1024; omega
    · show (0 + 1) * 512 ≤ 512; omega
  · refine ⟨?_, .inl rfl⟩
    rw [t3_eq pf i]; intro a
    have := expert_lt hg ((i 0).val - 1)
    fin_cases a
    · show (0 + 1) * 1 ≤ 4; omega
    · show (expert (pf 0) ((i 0).val - 1) + 1) * 1 ≤ 16; omega
    · show (0 + 1) * 512 ≤ 512; omega
    · show (0 + 1) * 1024 ≤ 1024; omega
end

end Cert.Exp

end
-- ==== Proof.ExpBody.lean ====
/- The body of the experts kernel, run: one theorem per branch that the grid coordinate and the count of blocks select.
   The scratch's slot of the point's parity takes the point's activations, and the slot of the other parity is read for the
   product with the last weight, which the result's buffer takes. -/
module

public import proofs.«01_k».proof.Proof.ExpTables
public import Idealize.ShloMosaic.Lib.Pipeline.Quiescent
public import Idealize.ShloMosaic.Lib.Pipeline.TableIdle
public import Idealize.ShloMosaic.Lib.Pipeline.FrameBody
public import Idealize.ShloMosaic.Lib.Writes
public import Idealize.ShloMosaic.Lib.VecWindow
public import Idealize.ShloMosaic.Lib.Ring
public import Idealize.ShloMosaic.Lib.Exec
public import Idealize.ShloMosaic.Lib.Tactic

@[expose] public section

set_option maxRecDepth 16384
set_option Elab.async false

noncomputable section

namespace Cert.Exp

open Cert.Kernel2Ideal Cert.Kernel2Ideal.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ (UR sig nD τ) ℕ

/-- The two tables and the scratch, whole. -/
abbrev tb0 : Memref sig .tc .smem S174 .i32 := Memref.whole main_arg0
abbrev tb1 : Memref sig .tc .smem S1 .i32 := Memref.whole main_arg1
abbrev scr : Memref sig .tc .vmem S2x512x512 .bf16 := Memref.whole cc0_scratch0

/-- The word the body reads of the second table. -/
abbrev cnt (T1 : S1.Idx → Elt F .i32) : BitVec 32 :=
  View.readAt (Elt F) tb1.view (Rect.unit (s := S1) ![0] S1.size inb_S1_S1_0).toLoadRect T1 (Shape.Idx.first (numel1_S1.symm ▸ Nat.one_pos))

/-- The scratch's slot of parity `n`. -/
theorem slot_inb (n : ℕ) : ∀ a, (![n % 2, 0, 0] : Fin 3 → ℕ) a + S1x512x512.size a ≤ S2x512x512.size a := by
  intro a; fin_cases a
  · show n % 2 + 1 ≤ 2; omega
  · show 0 + 512 ≤ 512; omega
  · show 0 + 512 ≤ 512; omega

/-- What the slot of parity `n` of the scratch holds. -/
def slot {c : Dev nD} (n : ℕ) (f : Buf (Elt F) ((c : Thread nD τ).loc cc0_scratch0)) : S1x512x512.Idx → Elt F .bf16 :=
  View.readAt (Elt F) scr.view (Rect.unit (s := S2x512x512) ![n % 2, 0, 0] S1x512x512.size (slot_inb n)).toLoadRect f

theorem slot_read {c : Dev nD} {n : ℕ} {off : Fin 3 → ℕ} (h : off = ![n % 2, 0, 0]) (hb : ∀ a, off a + S1x512x512.size a ≤ S2x512x512.size a)
    (f : Buf (Elt F) ((c : Thread nD τ).loc cc0_scratch0)) :
    View.readAt (Elt F) scr.view (Rect.unit (s := S2x512x512) off S1x512x512.size hb).toLoadRect f = slot n f := by
  subst h; rfl

theorem slot_write {c : Dev nD} {n : ℕ} {off : Fin 3 → ℕ} (h : off = ![n % 2, 0, 0]) (hb : ∀ a, off a + S1x512x512.size a ≤ S2x512x512.size a)
    (f : Buf (Elt F) ((c : Thread nD τ).loc cc0_scratch0)) (w : (Rect.unit (s := S2x512x512) off S1x512x512.size hb).shape.Idx → Elt F .bf16) :
    slot (c := c) n (scr.view.writes (Elt F) f [⟨Rect.unit (s := S2x512x512) off S1x512x512.size hb, w⟩]) = w := by
  rw [← slot_read h hb]
  funext y
  exact View.read_writes_cons_emb scr.view f (Rect.unit (s := S2x512x512) off S1x512x512.size hb) w [] y

/-- The activations of a block: the rows' products with the first two weights, the first through the gate's function. -/
abbrev up (x0 : S512x1024.Idx → Elt F .bf16) (x1 x2 : S1x1x1024x512.Idx → Elt F .f32) : S1x512x512.Idx → Elt F .bf16 := k0_pay1 x0 x1 x2
/-- The result's block: the activations' product with the last weight. -/
abbrev down (a : S1x512x512.Idx → Elt F .bf16) (x3 : S1x1x512x1024.Idx → Elt F .f32) : S512x1024.Idx → Elt F .bf16 := k0_pay2 a x3

theorem up_read {arg3 : Memref sig .tc .vmem S512x1024 .bf16} {arg4 arg5 : Memref sig .tc .vmem S1x1x1024x512 .f32}
    (x0 : S512x1024.Idx → Elt F .bf16) (x1 x2 : S1x1x1024x512.Idx → Elt F .f32) :
    k0_pay1 (View.readAt (Elt F) arg3.view (Rect.unit (s := S512x1024) ![0, 0] S512x1024.size inb_S512x1024_S512x1024_0_0).toLoadRect (arg3.view.rep x0))
      (View.readAt (Elt F) arg4.view (Rect.unit (s := S1x1x1024x512) ![0, 0, 0, 0] S1x1x1024x512.size inb_S1x1x1024x512_S1x1x1024x512_0_0_0_0).toLoadRect (arg4.view.rep x1))
      (View.readAt (Elt F) arg5.view (Rect.unit (s := S1x1x1024x512) ![0, 0, 0, 0] S1x1x1024x512.size inb_S1x1x1024x512_S1x1x1024x512_0_0_0_0).toLoadRect (arg5.view.rep x2))
      = up x0 x1 x2 := by
  rw [View.readAt_rep_full, View.readAt_rep_full, View.readAt_rep_full]

theorem down_read {arg6 : Memref sig .tc .vmem S1x1x512x1024 .f32} {c : Dev nD} {n : ℕ} {off : Fin 3 → ℕ} (h : off = ![n % 2, 0, 0])
    (hb : ∀ a, off a + S1x512x512.size a ≤ S2x512x512.size a) (f : Buf (Elt F) ((c : Thread nD τ).loc cc0_scratch0)) (x3 : S1x1x512x1024.Idx → Elt F .f32) :
    k0_pay2 (View.readAt (Elt F) scr.view (Rect.unit (s := S2x512x512) off S1x512x512.size hb).toLoadRect f)
      (View.readAt (Elt F) arg6.view (Rect.unit (s := S1x1x512x1024) ![0, 0, 0, 0] S1x1x512x1024.size inb_S1x1x512x1024_S1x1x512x1024_0_0_0_0).toLoadRect (arg6.view.rep x3))
      = down (slot n f) x3 := by
  rw [View.readAt_rep_full, slot_read h]

/-- What the body takes besides the result's buffer, the scratch and its continuation: the staged inputs and the tables. -/
abbrev Ins (c : Dev nD) (arg3 : Memref sig .tc .vmem S512x1024 .bf16) (arg4 arg5 : Memref sig .tc .vmem S1x1x1024x512 .f32) (arg6 : Memref sig .tc .vmem S1x1x512x1024 .f32)
    (T0 : S174.Idx → Elt F .i32) (T1 : S1.Idx → Elt F .i32)
    (x0 : S512x1024.Idx → Elt F .bf16) (x1 x2 : S1x1x1024x512.Idx → Elt F .f32) (x3 : S1x1x512x1024.Idx → Elt F .f32) : sProp 𝕄 :=
  iprop((arg3.view.loc (c : Thread nD τ) ↦[arg3.view.set]{fullShare} arg3.view.rep x0)
    ∗ (arg4.view.loc (c : Thread nD τ) ↦[arg4.view.set]{fullShare} arg4.view.rep x1)
    ∗ (arg5.view.loc (c : Thread nD τ) ↦[arg5.view.set]{fullShare} arg5.view.rep x2)
    ∗ (arg6.view.loc (c : Thread nD τ) ↦[arg6.view.set]{fullShare} arg6.view.rep x3)
    ∗ (tb0.view.loc (c : Thread nD τ) ↦{fullShare.right} T0)
    ∗ (tb1.view.loc (c : Thread nD τ) ↦{fullShare.right} T1))

set_option maxHeartbeats 8000000 in
/-- At the first point: the slot of parity 0 takes the activations; the result's buffer is left. -/
theorem run_first (c : Dev nD) (i : grid0.Coords) (arg3 : Memref sig .tc .vmem S512x1024 .bf16) (harg3 : arg3.IsWhole) (arg4 : Memref sig .tc .vmem S1x1x1024x512 .f32) (harg4 : arg4.IsWhole) (arg5 : Memref sig .tc .vmem S1x1x1024x512 .f32) (harg5 : arg5.IsWhole) (arg6 : Memref sig .tc .vmem S1x1x512x1024 .f32) (harg6 : arg6.IsWhole) (arg7 : Memref sig .tc .vmem S512x1024 .bf16) (harg7 : arg7.IsWhole)
    (T0 : S174.Idx → Elt F .i32) (T1 : S1.Idx → Elt F .i32)
    (x0 : S512x1024.Idx → Elt F .bf16) (x1 : S1x1x1024x512.Idx → Elt F .f32) (x2 : S1x1x1024x512.Idx → Elt F .f32) (x3 : S1x1x512x1024.Idx → Elt F .f32)
    (xa : Buf (Elt F) ((c : Thread nD τ).loc cc0_scratch0)) (y : S512x1024.Idx → Elt F .bf16)
    (k0_h1 : (k0_cond1 i = 1#1)) (k0_h2 : ¬(k0_cond2 i (cnt T1) = 1#1)) (k0_h3 : ¬(k0_cond3 i (cnt T1) = 1#1)) (k0_h4 : ¬(k0_cond4 i (cnt T1) = 1#1)) (K : PUnit → sProp 𝕄) :
    iprop(Ins c arg3 arg4 arg5 arg6 T0 T1 x0 x1 x2 x3
        ∗ owns (c : Thread nD τ) arg7 fullShare y
        ∗ (scr.view.loc (c : Thread nD τ) ↦{fullShare} xa)
        ∗ (iprop(Ins c arg3 arg4 arg5 arg6 T0 T1 x0 x1 x2 x3
            ∗ owns (c : Thread nD τ) arg7 fullShare y
            ∗ (∃ a, ⌜slot (c := c) (i 0).val a = up x0 x1 x2⌝ ∗ (scr.view.loc (c : Thread nD τ) ↦{fullShare} a))) -∗ K ⟨⟩))
      ⊢ wp frame (wpE (defs₀ (F := F)) Variants.none c none) Set.univ (cc0_moe_experts i tb0 (Memref.isWhole_whole _) tb1 (Memref.isWhole_whole _) arg3 harg3 arg4 harg4 arg5 harg5 arg6 harg6 arg7 harg7 scr (Memref.isWhole_whole _)) K := by
  unfold owns
  rw [cc0_moe_experts_eq_skeleton]; unfold cc0_moe_experts_skel
  iintro ⟨⟨H0, H1, H2, H3, HT0, HT1⟩, ⟨%f4, %hf4, HO4⟩, HS0, Hk⟩
  obtain rfl := harg7.eq_unread hf4
  have hS0 : scr.IsWhole := Memref.isWhole_whole _
  have hT0 : tb0.IsWhole := Memref.isWhole_whole _
  have hT1 : tb1.IsWhole := Memref.isWhole_whole _
  sl_exec! (disch := first | (guard_target = (k0_cond1 _ = _); exact k0_h1) | (guard_target = ¬(k0_cond2 _ _ = _); exact k0_h2) | (guard_target = ¬(k0_cond3 _ _ = _); exact k0_h3) | (guard_target = ¬(k0_cond4 _ _ = _); exact k0_h4))
  sl_step
  iapply Hk
  isplitl [H0 H1 H2 H3 HT0 HT1]
  · isplitl [H0]; · iexact H0
    isplitl [H1]; · iexact H1
    isplitl [H2]; · iexact H2
    isplitl [H3]; · iexact H3
    isplitl [HT0]; · iexact HT0
    iexact HT1
  isplitl [HO4]
  · iexists _; isplitr; swap
    · iexact HO4
    · ipureintro
      exact harg7.read_unread _
  iexists _; isplitr; swap
  · iexact HS0
  · ipureintro
    exact (slot_write (off3_eq i) _ xa _).trans (up_read x0 x1 x2)

set_option maxHeartbeats 8000000 in
/-- At a point whose own block holds rows, past the first: the block before goes through the last weight, the own block's activations into the slot. -/
theorem run_mid (c : Dev nD) (i : grid0.Coords) (arg3 : Memref sig .tc .vmem S512x1024 .bf16) (harg3 : arg3.IsWhole) (arg4 : Memref sig .tc .vmem S1x1x1024x512 .f32) (harg4 : arg4.IsWhole) (arg5 : Memref sig .tc .vmem S1x1x1024x512 .f32) (harg5 : arg5.IsWhole) (arg6 : Memref sig .tc .vmem S1x1x512x1024 .f32) (harg6 : arg6.IsWhole) (arg7 : Memref sig .tc .vmem S512x1024 .bf16) (harg7 : arg7.IsWhole)
    (T0 : S174.Idx → Elt F .i32) (T1 : S1.Idx → Elt F .i32)
    (x0 : S512x1024.Idx → Elt F .bf16) (x1 : S1x1x1024x512.Idx → Elt F .f32) (x2 : S1x1x1024x512.Idx → Elt F .f32) (x3 : S1x1x512x1024.Idx → Elt F .f32)
    (xa : Buf (Elt F) ((c : Thread nD τ).loc cc0_scratch0)) (y : S512x1024.Idx → Elt F .bf16)
    (k0_h1 : ¬(k0_cond1 i = 1#1)) (k0_h2 : (k0_cond2 i (cnt T1) = 1#1)) (k0_h3 : ¬(k0_cond3 i (cnt T1) = 1#1)) (k0_h4 : ¬(k0_cond4 i (cnt T1) = 1#1)) (K : PUnit → sProp 𝕄) :
    iprop(Ins c arg3 arg4 arg5 arg6 T0 T1 x0 x1 x2 x3
        ∗ owns (c : Thread nD τ) arg7 fullShare y
        ∗ (scr.view.loc (c : Thread nD τ) ↦{fullShare} xa)
        ∗ (iprop(Ins c arg3 arg4 arg5 arg6 T0 T1 x0 x1 x2 x3
            ∗ owns (c : Thread nD τ) arg7 fullShare (down (slot (c := c) ((i 0).val + 1) xa) x3)
            ∗ (∃ a, ⌜slot (c := c) (i 0).val a = up x0 x1 x2⌝ ∗ (scr.view.loc (c : Thread nD τ) ↦{fullShare} a))) -∗ K ⟨⟩))
      ⊢ wp frame (wpE (defs₀ (F := F)) Variants.none c none) Set.univ (cc0_moe_experts i tb0 (Memref.isWhole_whole _) tb1 (Memref.isWhole_whole _) arg3 harg3 arg4 harg4 arg5 harg5 arg6 harg6 arg7 harg7 scr (Memref.isWhole_whole _)) K := by
  unfold owns
  rw [cc0_moe_experts_eq_skeleton]; unfold cc0_moe_experts_skel
  iintro ⟨⟨H0, H1, H2, H3, HT0, HT1⟩, ⟨%f4, %hf4, HO4⟩, HS0, Hk⟩
  obtain rfl := harg7.eq_unread hf4
  have hS0 : scr.IsWhole := Memref.isWhole_whole _
  have hT0 : tb0.IsWhole := Memref.isWhole_whole _
  have hT1 : tb1.IsWhole := Memref.isWhole_whole _
  sl_exec! (disch := first | (guard_target = ¬(k0_cond1 _ = _); exact k0_h1) | (guard_target = (k0_cond2 _ _ = _); exact k0_h2) | (guard_target = ¬(k0_cond3 _ _ = _); exact k0_h3) | (guard_target = ¬(k0_cond4 _ _ = _); exact k0_h4))
  sl_step
  iapply Hk
  isplitl [H0 H1 H2 H3 HT0 HT1]
  · isplitl [H0]; · iexact H0
    isplitl [H1]; · iexact H1
    isplitl [H2]; · iexact H2
    isplitl [H3]; · iexact H3
    isplitl [HT0]; · iexact HT0
    iexact HT1
  isplitl [HO4]
  · iexists _; isplitr; swap
    · iexact HO4
    · ipureintro
      exact (View.read_writes_full _ _ _ _ _).trans (down_read (off4_eq i) _ xa x3)
  iexists _; isplitr; swap
  · iexact HS0
  · ipureintro
    exact (slot_write (off5_eq i) _ xa _).trans (up_read x0 x1 x2)

set_option maxHeartbeats 8000000 in
/-- At the point after the last block that holds rows: that block goes through the last weight. -/
theorem run_last (c : Dev nD) (i : grid0.Coords) (arg3 : Memref sig .tc .vmem S512x1024 .bf16) (harg3 : arg3.IsWhole) (arg4 : Memref sig .tc .vmem S1x1x1024x512 .f32) (harg4 : arg4.IsWhole) (arg5 : Memref sig .tc .vmem S1x1x1024x512 .f32) (harg5 : arg5.IsWhole) (arg6 : Memref sig .tc .vmem S1x1x512x1024 .f32) (harg6 : arg6.IsWhole) (arg7 : Memref sig .tc .vmem S512x1024 .bf16) (harg7 : arg7.IsWhole)
    (T0 : S174.Idx → Elt F .i32) (T1 : S1.Idx → Elt F .i32)
    (x0 : S512x1024.Idx → Elt F .bf16) (x1 : S1x1x1024x512.Idx → Elt F .f32) (x2 : S1x1x1024x512.Idx → Elt F .f32) (x3 : S1x1x512x1024.Idx → Elt F .f32)
    (xa : Buf (Elt F) ((c : Thread nD τ).loc cc0_scratch0)) (y : S512x1024.Idx → Elt F .bf16)
    (k0_h1 : ¬(k0_cond1 i = 1#1)) (k0_h2 : ¬(k0_cond2 i (cnt T1) = 1#1)) (k0_h3 : (k0_cond3 i (cnt T1) = 1#1)) (k0_h4 : ¬(k0_cond4 i (cnt T1) = 1#1)) (K : PUnit → sProp 𝕄) :
    iprop(Ins c arg3 arg4 arg5 arg6 T0 T1 x0 x1 x2 x3
        ∗ owns (c : Thread nD τ) arg7 fullShare y
        ∗ (scr.view.loc (c : Thread nD τ) ↦{fullShare} xa)
        ∗ (iprop(Ins c arg3 arg4 arg5 arg6 T0 T1 x0 x1 x2 x3
            ∗ owns (c : Thread nD τ) arg7 fullShare (down (slot (c := c) ((i 0).val + 1) xa) x3)
            ∗ (scr.view.loc (c : Thread nD τ) ↦{fullShare} xa)) -∗ K ⟨⟩))
      ⊢ wp frame (wpE (defs₀ (F := F)) Variants.none c none) Set.univ (cc0_moe_experts i tb0 (Memref.isWhole_whole _) tb1 (Memref.isWhole_whole _) arg3 harg3 arg4 harg4 arg5 harg5 arg6 harg6 arg7 harg7 scr (Memref.isWhole_whole _)) K := by
  unfold owns
  rw [cc0_moe_experts_eq_skeleton]; unfold cc0_moe_experts_skel
  iintro ⟨⟨H0, H1, H2, H3, HT0, HT1⟩, ⟨%f4, %hf4, HO4⟩, HS0, Hk⟩
  obtain rfl := harg7.eq_unread hf4
  have hS0 : scr.IsWhole := Memref.isWhole_whole _
  have hT0 : tb0.IsWhole := Memref.isWhole_whole _
  have hT1 : tb1.IsWhole := Memref.isWhole_whole _
  sl_exec! (disch := first | (guard_target = ¬(k0_cond1 _ = _); exact k0_h1) | (guard_target = ¬(k0_cond2 _ _ = _); exact k0_h2) | (guard_target = (k0_cond3 _ _ = _); exact k0_h3) | (guard_target = ¬(k0_cond4 _ _ = _); exact k0_h4))
  sl_step
  iapply Hk
  isplitl [H0 H1 H2 H3 HT0 HT1]
  · isplitl [H0]; · iexact H0
    isplitl [H1]; · iexact H1
    isplitl [H2]; · iexact H2
    isplitl [H3]; · iexact H3
    isplitl [HT0]; · iexact HT0
    iexact HT1
  isplitl [HO4]
  · iexists _; isplitr; swap
    · iexact HO4
    · ipureintro
      exact (View.read_writes_full _ _ _ _ _).trans (down_read (off6_eq i) _ xa x3)
  iexact HS0

set_option maxHeartbeats 8000000 in
/-- At a point past it: the block before is zero. -/
theorem run_zero (c : Dev nD) (i : grid0.Coords) (arg3 : Memref sig .tc .vmem S512x1024 .bf16) (harg3 : arg3.IsWhole) (arg4 : Memref sig .tc .vmem S1x1x1024x512 .f32) (harg4 : arg4.IsWhole) (arg5 : Memref sig .tc .vmem S1x1x1024x512 .f32) (harg5 : arg5.IsWhole) (arg6 : Memref sig .tc .vmem S1x1x512x1024 .f32) (harg6 : arg6.IsWhole) (arg7 : Memref sig .tc .vmem S512x1024 .bf16) (harg7 : arg7.IsWhole)
    (T0 : S174.Idx → Elt F .i32) (T1 : S1.Idx → Elt F .i32)
    (x0 : S512x1024.Idx → Elt F .bf16) (x1 : S1x1x1024x512.Idx → Elt F .f32) (x2 : S1x1x1024x512.Idx → Elt F .f32) (x3 : S1x1x512x1024.Idx → Elt F .f32)
    (xa : Buf (Elt F) ((c : Thread nD τ).loc cc0_scratch0)) (y : S512x1024.Idx → Elt F .bf16)
    (k0_h1 : ¬(k0_cond1 i = 1#1)) (k0_h2 : ¬(k0_cond2 i (cnt T1) = 1#1)) (k0_h3 : ¬(k0_cond3 i (cnt T1) = 1#1)) (k0_h4 : (k0_cond4 i (cnt T1) = 1#1)) (K : PUnit → sProp 𝕄) :
    iprop(Ins c arg3 arg4 arg5 arg6 T0 T1 x0 x1 x2 x3
        ∗ owns (c : Thread nD τ) arg7 fullShare y
        ∗ (scr.view.loc (c : Thread nD τ) ↦{fullShare} xa)
        ∗ (iprop(Ins c arg3 arg4 arg5 arg6 T0 T1 x0 x1 x2 x3
            ∗ owns (c : Thread nD τ) arg7 fullShare (k0_pay5 (F := F))
            ∗ (scr.view.loc (c : Thread nD τ) ↦{fullShare} xa)) -∗ K ⟨⟩))
      ⊢ wp frame (wpE (defs₀ (F := F)) Variants.none c none) Set.univ (cc0_moe_experts i tb0 (Memref.isWhole_whole _) tb1 (Memref.isWhole_whole _) arg3 harg3 arg4 harg4 arg5 harg5 arg6 harg6 arg7 harg7 scr (Memref.isWhole_whole _)) K := by
  unfold owns
  rw [cc0_moe_experts_eq_skeleton]; unfold cc0_moe_experts_skel
  iintro ⟨⟨H0, H1, H2, H3, HT0, HT1⟩, ⟨%f4, %hf4, HO4⟩, HS0, Hk⟩
  obtain rfl := harg7.eq_unread hf4
  have hS0 : scr.IsWhole := Memref.isWhole_whole _
  have hT0 : tb0.IsWhole := Memref.isWhole_whole _
  have hT1 : tb1.IsWhole := Memref.isWhole_whole _
  sl_exec! (disch := first | (guard_target = ¬(k0_cond1 _ = _); exact k0_h1) | (guard_target = ¬(k0_cond2 _ _ = _); exact k0_h2) | (guard_target = ¬(k0_cond3 _ _ = _); exact k0_h3) | (guard_target = (k0_cond4 _ _ = _); exact k0_h4))
  sl_step
  iapply Hk
  isplitl [H0 H1 H2 H3 HT0 HT1]
  · isplitl [H0]; · iexact H0
    isplitl [H1]; · iexact H1
    isplitl [H2]; · iexact H2
    isplitl [H3]; · iexact H3
    isplitl [HT0]; · iexact HT0
    iexact HT1
  isplitl [HO4]
  · iexists _; isplitr; swap
    · iexact HO4
    · ipureintro
      exact View.read_writes_full _ _ _ _ _
  iexact HS0

end Cert.Exp

end
-- ==== Proof.ExpRun.lean ====
/- The experts call run from any launch memory whose tables are in range: what every point finds and leaves, and that the
   call ends with its arguments unchanged, its result at the blocks the points leave, and every counter at zero. -/
module

public import proofs.«01_k».proof.Proof.ExpBody
public import Idealize.ShloMosaic.Lib.Claim
public import Idealize.ShloMosaic.Lib.Pipeline.Kit
public import Idealize.ShloMosaic.Adequacy
public import Idealize.ShloMosaic.Init

@[expose] public section

set_option maxRecDepth 16384

noncomputable section

namespace Cert.Exp

open Cert.Kernel2Ideal Cert.Kernel2Ideal.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

variable {F : FTy → Type} [FloatOps F]

local notation "𝕄" => MT nD τ sig Unit (Elt F) ℕ (UR sig nD τ) ℕ

abbrev EP : Emb (UR sig nD τ) 𝕄 := emb₁

/-- The tables' contents at launch. -/
def tables (m : (ℓ : Loc nD τ sig) → Buf (Elt F) ℓ) : pre0.Contents (Elt F) := fun k => m (((0 : Dev nD) : Thread nD τ).loc (pre0.ref k))

/-- The launch memories the call is run from: the tables in range. -/
abbrev Fit (m : (ℓ : Loc nD τ sig) → Buf (Elt F) ℓ) : Prop := Good (tables m 0) (tables m 1)

/-- The pipeline at the launch memory's tables. -/
def adm (m : (ℓ : Loc nD τ sig) → Buf (Elt F) ℓ) (hg : Fit m) : (pcfg0 (F := F)).Adm := ⟨tables m, ok_of_good _ hg⟩
abbrev cfgA (m : (ℓ : Loc nD τ sig) → Buf (Elt F) ℓ) (hg : Fit m) : Pipeline.Cfg sig Λ₀ := cfg0 (F := F) (adm m hg)
abbrev pcs (m : (ℓ : Loc nD τ sig) → Buf (Elt F) ℓ) (hg : Fit m) : Fin 1 → Pipeline.Cfg sig Λ₀ := Pipeline.pin (pcfgs (F := F)) fun _ => adm m hg

variable (m : (ℓ : Loc nD τ sig) → Buf (Elt F) ℓ) (hg : Fit m)

/-- The number of blocks that hold rows. -/
abbrev rows : ℕ := count (tables m 1)

abbrev crd (t : Fin (cfgA m hg).N) : grid0.Coords := (cfgA m hg).grid.coords t

theorem crd_all : ∀ t : Fin grid0.N, (grid0.coords t 0).val = t.val := by decide +kernel
theorem crd_val (t : Fin (cfgA m hg).N) : (crd m hg t 0).val = t.val := crd_all t

/-! ## The staged memrefs and the windows' blocks -/

abbrev ms0 (t : Fin (cfgA m hg).N) : Memref sig .tc .vmem S512x1024 .bf16 := spec0_0.stage ((cfgA m hg).slots t (0 : Fin 5))
abbrev hs0 (t : Fin (cfgA m hg).N) : (ms0 m hg t).IsWhole := hstage0_0 (((cfgA m hg).slots t (0 : Fin 5)).cast nbuf0_0)
abbrev ms1 (t : Fin (cfgA m hg).N) : Memref sig .tc .vmem S1x1x1024x512 .f32 := spec0_1.stage ((cfgA m hg).slots t (1 : Fin 5))
abbrev hs1 (t : Fin (cfgA m hg).N) : (ms1 m hg t).IsWhole := hstage0_1 (((cfgA m hg).slots t (1 : Fin 5)).cast nbuf0_1)
abbrev ms2 (t : Fin (cfgA m hg).N) : Memref sig .tc .vmem S1x1x1024x512 .f32 := spec0_2.stage ((cfgA m hg).slots t (2 : Fin 5))
abbrev hs2 (t : Fin (cfgA m hg).N) : (ms2 m hg t).IsWhole := hstage0_2 (((cfgA m hg).slots t (2 : Fin 5)).cast nbuf0_2)
abbrev ms3 (t : Fin (cfgA m hg).N) : Memref sig .tc .vmem S1x1x512x1024 .f32 := spec0_3.stage ((cfgA m hg).slots t (3 : Fin 5))
abbrev hs3 (t : Fin (cfgA m hg).N) : (ms3 m hg t).IsWhole := hstage0_3 (((cfgA m hg).slots t (3 : Fin 5)).cast nbuf0_3)
abbrev ms4 (t : Fin (cfgA m hg).N) : Memref sig .tc .vmem S512x1024 .bf16 := spec0_4.stage ((cfgA m hg).slots t (4 : Fin 5))
abbrev hs4 (t : Fin (cfgA m hg).N) : (ms4 m hg t).IsWhole := hstage0_4 (((cfgA m hg).slots t (4 : Fin 5)).cast nbuf0_4)

/-- Window `w`'s block at point `t`, read off its array at launch. -/
def iblk (c : Dev nD) (w : Fin (cfgA m hg).W) (t : Fin (cfgA m hg).N) : (((cfgA m hg).win w).xblock (crd m hg t)).Idx → Elt F ((cfgA m hg).win w).elt :=
  (((cfgA m hg).win w).blk t).view.read (Elt F) (m (((cfgA m hg).win w).arr.view.loc (c : Thread nD τ)))

/-- Point `n` of the grid, the first again past the last. -/
def pt (n : ℕ) : Fin (cfgA m hg).N := ⟨n % (cfgA m hg).N, Nat.mod_lt _ (by show 0 < grid0.N; rw [N_0]; decide)⟩

theorem pt_val (t : Fin (cfgA m hg).N) : pt m hg t.val = t := Fin.ext (Nat.mod_eq_of_lt t.isLt)

/-- The activations of point `n`'s own block. -/
def act (c : Dev nD) (n : ℕ) : S1x512x512.Idx → Elt F .bf16 :=
  up (iblk m hg c (0 : Fin 5) (pt m hg n)) (iblk m hg c (1 : Fin 5) (pt m hg n)) (iblk m hg c (2 : Fin 5) (pt m hg n))

theorem act_at (c : Dev nD) (t : Fin (cfgA m hg).N) :
    act m hg c t.val = up (iblk m hg c (0 : Fin 5) t) (iblk m hg c (1 : Fin 5) t) (iblk m hg c (2 : Fin 5) t) := by
  unfold act; rw [pt_val]

/-- What the result's buffer holds after point `t`, past the first. -/
def outAt (c : Dev nD) (t : Fin (cfgA m hg).N) : S512x1024.Idx → Elt F .bf16 :=
  if t.val ≤ rows m then down (act m hg c (t.val - 1)) (iblk m hg c (3 : Fin 5) t) else k0_pay5 (F := F)

/-! ## The proof data -/

/-- Before point `t`: the scratch's slot of the other parity at the activations of the block before, while that block holds
    rows; the body's halves of the tables. -/
def Phi (c : Dev nD) (t : Fin ((cfgA m hg).N + 1)) : sProp 𝕄 :=
  iprop((∃ a, ⌜1 ≤ t.val → t.val ≤ rows m → slot (c := c) (t.val - 1) a = act m hg c (t.val - 1)⌝ ∗ (scr.view.loc (c : Thread nD τ) ↦{fullShare} a))
    ∗ (tb0.view.loc (c : Thread nD τ) ↦{fullShare.right} tables m 0) ∗ (tb1.view.loc (c : Thread nD τ) ↦{fullShare.right} tables m 1))

/-- The proof data of the one pipeline on core `c`. -/
def dats (_ : Fin 1) (c : Dev nD) : Dat τ (Elt F) Unit ℕ (UR sig nD τ) ℕ (cfgA m hg) c where
  A w := m (((cfgA m hg).win w).arr.view.loc (c : Thread nD τ))
  after w t := match w with
    | ⟨0, _⟩ => iblk m hg c (0 : Fin 5) t
    | ⟨1, _⟩ => iblk m hg c (1 : Fin 5) t
    | ⟨2, _⟩ => iblk m hg c (2 : Fin 5) t
    | ⟨3, _⟩ => iblk m hg c (3 : Fin 5) t
    | ⟨4, _⟩ => outAt m hg c t
  Φ t := Phi m hg c t
  q _ := fullShare
  owed _ := 0

theorem after0 (c : Dev nD) (t : Fin (cfgA m hg).N) : (dats m hg 0 c).after (0 : Fin 5) t = iblk m hg c (0 : Fin 5) t := rfl
theorem after1 (c : Dev nD) (t : Fin (cfgA m hg).N) : (dats m hg 0 c).after (1 : Fin 5) t = iblk m hg c (1 : Fin 5) t := rfl
theorem after2 (c : Dev nD) (t : Fin (cfgA m hg).N) : (dats m hg 0 c).after (2 : Fin 5) t = iblk m hg c (2 : Fin 5) t := rfl
theorem after3 (c : Dev nD) (t : Fin (cfgA m hg).N) : (dats m hg 0 c).after (3 : Fin 5) t = iblk m hg c (3 : Fin 5) t := rfl
theorem after4 (c : Dev nD) (t : Fin (cfgA m hg).N) : (dats m hg 0 c).after (4 : Fin 5) t = outAt m hg c t := rfl

theorem before0 (c : Dev nD) (t : Fin (cfgA m hg).N) (d) : (dats m hg 0 c).before (0 : Fin 5) t d = iblk m hg c (0 : Fin 5) t :=
  ((dats m hg 0 c).before_in_eq_fetched (0 : Fin 5) rfl (fun _ => rfl) (fun _ _ _ => rfl) (fun t => by rw [after0]; unfold Dat.blockOf iblk; rfl) t d).trans
    (by unfold Dat.fetched Dat.blockOf iblk; rfl)
theorem before1 (c : Dev nD) (t : Fin (cfgA m hg).N) (d) : (dats m hg 0 c).before (1 : Fin 5) t d = iblk m hg c (1 : Fin 5) t :=
  ((dats m hg 0 c).before_in_eq_fetched (1 : Fin 5) rfl (fun _ => rfl) (fun _ _ _ => rfl) (fun t => by rw [after1]; unfold Dat.blockOf iblk; rfl) t d).trans
    (by unfold Dat.fetched Dat.blockOf iblk; rfl)
theorem before2 (c : Dev nD) (t : Fin (cfgA m hg).N) (d) : (dats m hg 0 c).before (2 : Fin 5) t d = iblk m hg c (2 : Fin 5) t :=
  ((dats m hg 0 c).before_in_eq_fetched (2 : Fin 5) rfl (fun _ => rfl) (fun _ _ _ => rfl) (fun t => by rw [after2]; unfold Dat.blockOf iblk; rfl) t d).trans
    (by unfold Dat.fetched Dat.blockOf iblk; rfl)
theorem before3 (c : Dev nD) (t : Fin (cfgA m hg).N) (d) : (dats m hg 0 c).before (3 : Fin 5) t d = iblk m hg c (3 : Fin 5) t :=
  ((dats m hg 0 c).before_in_eq_fetched (3 : Fin 5) rfl (fun _ => rfl) (fun _ _ _ => rfl) (fun t => by rw [after3]; unfold Dat.blockOf iblk; rfl) t d).trans
    (by unfold Dat.fetched Dat.blockOf iblk; rfl)

/-! ## Which points leave the result's buffer, and which write it back -/

theorem word_at (pf : pre0.Contents (Elt F)) : (pf.atD 1 ![0] : BitVec 32) = (pf 1 : S1.Idx → BitVec 32) only :=
  (dif_pos (by decide)).trans (congrArg (pf 1 : S1.Idx → BitVec 32) (idx_one _))

theorem idle_first (t : Fin (cfgA m hg).N) (h0 : t.val = 0) : (cfgA m hg).idle (4 : Fin 5) ((cfgA m hg).grid.coords t) = true := by
  have h := crd_val m hg t
  have e := word_at (tables m)
  have n2 : ¬ k0_cond2 (crd m hg t) ((tables m).atD 1 ![0]) = 1#1 := fun hc => by
    have := (cond2_iff hg _ only).mp ((congrArg (fun w => k0_cond2 (crd m hg t) w) e).symm.trans hc); omega
  have n3 : ¬ k0_cond3 (crd m hg t) ((tables m).atD 1 ![0]) = 1#1 := fun hc => by
    have := (cond3_iff hg _ only).mp ((congrArg (fun w => k0_cond3 (crd m hg t) w) e).symm.trans hc); omega
  have n4 : ¬ k0_cond4 (crd m hg t) ((tables m).atD 1 ![0]) = 1#1 := fun hc => by
    have := (cond4_iff hg _ only).mp ((congrArg (fun w => k0_cond4 (crd m hg t) w) e).symm.trans hc); omega
  show (!(k0_cond2 (crd m hg t) ((tables m).atD 1 ![0]) == 1#1) && !(k0_cond3 (crd m hg t) ((tables m).atD 1 ![0]) == 1#1) && !(k0_cond4 (crd m hg t) ((tables m).atD 1 ![0]) == 1#1)) = true
  rw [beq_eq_false_iff_ne.mpr n2, beq_eq_false_iff_ne.mpr n3, beq_eq_false_iff_ne.mpr n4]; rfl

theorem idle_later (t : Fin (cfgA m hg).N) (h0 : 1 ≤ t.val) : (cfgA m hg).idle (4 : Fin 5) ((cfgA m hg).grid.coords t) = false := by
  have h := crd_val m hg t
  have e := word_at (tables m)
  have hr : rows m = count (tables m 1) := rfl
  show (!(k0_cond2 (crd m hg t) ((tables m).atD 1 ![0]) == 1#1) && !(k0_cond3 (crd m hg t) ((tables m).atD 1 ![0]) == 1#1) && !(k0_cond4 (crd m hg t) ((tables m).atD 1 ![0]) == 1#1)) = false
  rcases Nat.lt_trichotomy t.val (rows m) with hlt | heq | hgt
  · have : k0_cond2 (crd m hg t) ((tables m).atD 1 ![0]) = 1#1 :=
      (congrArg (fun w => k0_cond2 (crd m hg t) w) e).trans ((cond2_iff hg _ only).mpr ⟨by omega, by omega⟩)
    rw [beq_iff_eq.mpr this]; rfl
  · have : k0_cond3 (crd m hg t) ((tables m).atD 1 ![0]) = 1#1 :=
      (congrArg (fun w => k0_cond3 (crd m hg t) w) e).trans ((cond3_iff hg _ only).mpr ⟨by omega, by omega⟩)
    rw [beq_iff_eq.mpr this]; simp
  · have : k0_cond4 (crd m hg t) ((tables m).atD 1 ![0]) = 1#1 :=
      (congrArg (fun w => k0_cond4 (crd m hg t) w) e).trans ((cond4_iff hg _ only).mpr (by omega))
    rw [beq_iff_eq.mpr this]; simp

theorem flush_all : ∀ t : Fin grid0.N, Pipeline.Window.flushOf grid0 true cc0_transform_4 t = decide (1 ≤ t.val) := by decide +kernel
theorem flush_eq (t : Fin (cfgA m hg).N) : ((cfgA m hg).win (4 : Fin 5)).flush t = decide (1 ≤ t.val) := flush_all t

/-! ## The body at a point -/

theorem cnt_eq (T1 : S1.Idx → Elt F .i32) : cnt T1 = (T1 only : BitVec 32) := congrArg T1 (idx_one _)

theorem slot_congr {c : Dev nD} {n n' : ℕ} (f : Buf (Elt F) ((c : Thread nD τ).loc cc0_scratch0)) (h : n % 2 = n' % 2) : slot n f = slot n' f := by
  unfold slot; congr 2; simp only [h]

set_option maxHeartbeats 4000000 in
/-- The body at point `t`, from a scratch whose slot holds the block before: the result's buffer takes `outAt` past the
    first point, and the slot of the point's parity the point's activations, while the point's own block holds rows. -/
theorem body_at (c : Dev nD) (t : Fin (cfgA m hg).N) (a : Buf (Elt F) ((c : Thread nD τ).loc cc0_scratch0)) (y : S512x1024.Idx → Elt F .bf16)
    (ha : 1 ≤ t.val → t.val ≤ rows m → slot (c := c) (t.val - 1) a = act m hg c (t.val - 1)) (K : PUnit → sProp 𝕄) :
    iprop(Ins c (ms0 m hg t) (ms1 m hg t) (ms2 m hg t) (ms3 m hg t) (tables m 0) (tables m 1) (iblk m hg c (0 : Fin 5) t) (iblk m hg c (1 : Fin 5) t) (iblk m hg c (2 : Fin 5) t) (iblk m hg c (3 : Fin 5) t)
        ∗ owns (c : Thread nD τ) (ms4 m hg t) fullShare y
        ∗ (scr.view.loc (c : Thread nD τ) ↦{fullShare} a)
        ∗ (iprop(Ins c (ms0 m hg t) (ms1 m hg t) (ms2 m hg t) (ms3 m hg t) (tables m 0) (tables m 1) (iblk m hg c (0 : Fin 5) t) (iblk m hg c (1 : Fin 5) t) (iblk m hg c (2 : Fin 5) t) (iblk m hg c (3 : Fin 5) t)
            ∗ owns (c : Thread nD τ) (ms4 m hg t) fullShare (if t.val = 0 then y else outAt m hg c t)
            ∗ (∃ b, ⌜1 ≤ t.val + 1 → t.val + 1 ≤ rows m → slot (c := c) t.val b = act m hg c t.val⌝ ∗ (scr.view.loc (c : Thread nD τ) ↦{fullShare} b))) -∗ K ⟨⟩))
      ⊢ wp frame (wpE (defs₀ (F := F)) Variants.none c none) Set.univ (cc0_moe_experts (crd m hg t) tb0 (Memref.isWhole_whole _) tb1 (Memref.isWhole_whole _) (ms0 m hg t) (hs0 m hg t) (ms1 m hg t) (hs1 m hg t) (ms2 m hg t) (hs2 m hg t) (ms3 m hg t) (hs3 m hg t) (ms4 m hg t) (hs4 m hg t) scr (Memref.isWhole_whole _)) K := by
  have h := crd_val m hg t
  have hr : rows m = count (tables m 1) := rfl
  have hpos := count_pos hg
  have e := cnt_eq (tables m 1)
  have c1 := cond1_iff (crd m hg t)
  have c2 := cond2_iff hg (crd m hg t) only; rw [← e] at c2
  have c3 := cond3_iff hg (crd m hg t) only; rw [← e] at c3
  have c4 := cond4_iff hg (crd m hg t) only; rw [← e] at c4
  rw [h] at c1 c2 c3 c4
  rw [← hr] at c2 c3 c4 hpos
  by_cases h0 : t.val = 0
  · rw [if_pos h0]
    iintro ⟨HI, H4, HS, HK⟩
    iapply (run_first c (crd m hg t) (ms0 m hg t) (hs0 m hg t) (ms1 m hg t) (hs1 m hg t) (ms2 m hg t) (hs2 m hg t) (ms3 m hg t) (hs3 m hg t) (ms4 m hg t) (hs4 m hg t) (tables m 0) (tables m 1) (iblk m hg c (0 : Fin 5) t) (iblk m hg c (1 : Fin 5) t) (iblk m hg c (2 : Fin 5) t) (iblk m hg c (3 : Fin 5) t) a y (c1.mpr h0) (fun q => by have := c2.mp q; omega) (fun q => by have := c3.mp q; omega) (fun q => by have := c4.mp q; omega) K)
    isplitl [HI]; · iexact HI
    isplitl [H4]; · iexact H4
    isplitl [HS]; · iexact HS
    iintro ⟨HI, H4, ⟨%b, %hb, HS⟩⟩
    iapply HK
    isplitl [HI]; · iexact HI
    isplitl [H4]; · iexact H4
    iexists b
    isplitr; swap
    · iexact HS
    · ipureintro; intro _ _; rw [← slot_congr (n := (crd m hg t 0).val) (n' := t.val) b (by rw [h]), hb, act_at]
  rw [if_neg h0]
  have n1 : ¬ (k0_cond1 (crd m hg t) = 1#1) := fun q => h0 (c1.mp q)
  rcases Nat.lt_trichotomy t.val (rows m) with hlt | heq | hgt
  · have ho : down (slot (c := c) ((crd m hg t 0).val + 1) a) (iblk m hg c (3 : Fin 5) t) = outAt m hg c t := by
      unfold outAt; rw [if_pos (by omega), ← ha (by omega) (by omega), slot_congr (n := (crd m hg t 0).val + 1) (n' := t.val - 1) a (by rw [h]; omega)]
    rw [← ho]
    iintro ⟨HI, H4, HS, HK⟩
    iapply (run_mid c (crd m hg t) (ms0 m hg t) (hs0 m hg t) (ms1 m hg t) (hs1 m hg t) (ms2 m hg t) (hs2 m hg t) (ms3 m hg t) (hs3 m hg t) (ms4 m hg t) (hs4 m hg t) (tables m 0) (tables m 1) (iblk m hg c (0 : Fin 5) t) (iblk m hg c (1 : Fin 5) t) (iblk m hg c (2 : Fin 5) t) (iblk m hg c (3 : Fin 5) t) a y n1 (c2.mpr ⟨by omega, hlt⟩) (fun q => by have := c3.mp q; omega) (fun q => by have := c4.mp q; omega) K)
    isplitl [HI]; · iexact HI
    isplitl [H4]; · iexact H4
    isplitl [HS]; · iexact HS
    iintro ⟨HI, H4, ⟨%b, %hb, HS⟩⟩
    iapply HK
    isplitl [HI]; · iexact HI
    isplitl [H4]; · iexact H4
    iexists b
    isplitr; swap
    · iexact HS
    · ipureintro; intro _ _; rw [← slot_congr (n := (crd m hg t 0).val) (n' := t.val) b (by rw [h]), hb, act_at]
  · have ho : down (slot (c := c) ((crd m hg t 0).val + 1) a) (iblk m hg c (3 : Fin 5) t) = outAt m hg c t := by
      unfold outAt; rw [if_pos (by omega), ← ha (by omega) (by omega), slot_congr (n := (crd m hg t 0).val + 1) (n' := t.val - 1) a (by rw [h]; omega)]
    rw [← ho]
    iintro ⟨HI, H4, HS, HK⟩
    iapply (run_last c (crd m hg t) (ms0 m hg t) (hs0 m hg t) (ms1 m hg t) (hs1 m hg t) (ms2 m hg t) (hs2 m hg t) (ms3 m hg t) (hs3 m hg t) (ms4 m hg t) (hs4 m hg t) (tables m 0) (tables m 1) (iblk m hg c (0 : Fin 5) t) (iblk m hg c (1 : Fin 5) t) (iblk m hg c (2 : Fin 5) t) (iblk m hg c (3 : Fin 5) t) a y n1 (fun q => by have := c2.mp q; omega) (c3.mpr ⟨by omega, heq⟩) (fun q => by have := c4.mp q; omega) K)
    isplitl [HI]; · iexact HI
    isplitl [H4]; · iexact H4
    isplitl [HS]; · iexact HS
    iintro ⟨HI, H4, HS⟩
    iapply HK
    isplitl [HI]; · iexact HI
    isplitl [H4]; · iexact H4
    iexists a
    isplitr; swap
    · iexact HS
    · ipureintro; intro _ hle; omega
  · have ho : k0_pay5 (F := F) = outAt m hg c t := by unfold outAt; rw [if_neg (by omega)]
    rw [← ho]
    iintro ⟨HI, H4, HS, HK⟩
    iapply (run_zero c (crd m hg t) (ms0 m hg t) (hs0 m hg t) (ms1 m hg t) (hs1 m hg t) (ms2 m hg t) (hs2 m hg t) (ms3 m hg t) (hs3 m hg t) (ms4 m hg t) (hs4 m hg t) (tables m 0) (tables m 1) (iblk m hg c (0 : Fin 5) t) (iblk m hg c (1 : Fin 5) t) (iblk m hg c (2 : Fin 5) t) (iblk m hg c (3 : Fin 5) t) a y n1 (fun q => by have := c2.mp q; omega) (fun q => by have := c3.mp q; omega) (c4.mpr hgt) K)
    isplitl [HI]; · iexact HI
    isplitl [H4]; · iexact H4
    isplitl [HS]; · iexact HS
    iintro ⟨HI, H4, HS⟩
    iapply HK
    isplitl [HI]; · iexact HI
    isplitl [H4]; · iexact H4
    iexists a
    isplitr; swap
    · iexact HS
    · ipureintro; intro _ hle; omega

/-- The body as the pipeline runs it at point `t`. -/
abbrev bodyAt (t : Fin (cfgA m hg).N) : Prog (TpuEff nD τ sig (Elt F) Λ₀ .tc) PUnit :=
  cc0_moe_experts (crd m hg t) tb0 (Memref.isWhole_whole _) tb1 (Memref.isWhole_whole _) (ms0 m hg t) (hs0 m hg t) (ms1 m hg t) (hs1 m hg t) (ms2 m hg t) (hs2 m hg t) (ms3 m hg t) (hs3 m hg t) (ms4 m hg t) (hs4 m hg t) scr (Memref.isWhole_whole _)

set_option maxHeartbeats 4000000 in
/-- The body's obligation at point `t`, over the five windows' buffers. -/
theorem sound_at (c : Dev nD) (t : Fin (cfgA m hg).N) :
    iprop((dats m hg 0 c).Φ t.castSucc ∗ (dats m hg 0 c).owesAt () t.castSucc
        ∗ (∃ d, owns (c : Thread nD τ) (ms0 m hg t) fullShare ((dats m hg 0 c).before (0 : Fin 5) t d))
        ∗ (∃ d, owns (c : Thread nD τ) (ms1 m hg t) fullShare ((dats m hg 0 c).before (1 : Fin 5) t d))
        ∗ (∃ d, owns (c : Thread nD τ) (ms2 m hg t) fullShare ((dats m hg 0 c).before (2 : Fin 5) t d))
        ∗ (∃ d, owns (c : Thread nD τ) (ms3 m hg t) fullShare ((dats m hg 0 c).before (3 : Fin 5) t d))
        ∗ (∃ d, owns (c : Thread nD τ) (ms4 m hg t) fullShare ((dats m hg 0 c).before (4 : Fin 5) t d)))
      ⊢ wp frame (wpE (defs₀ (F := F)) Variants.none c none) Set.univ (bodyAt m hg t) fun _ =>
          iprop((dats m hg 0 c).Φ t.succ ∗ (dats m hg 0 c).owesAt () t.succ
            ∗ bigSep Finset.univ fun w : Fin (cfgA m hg).W =>
                match (cfgA m hg).idle w ((cfgA m hg).grid.coords t) with
                | true =>
                  match ((cfgA m hg).win w).flush t with
                  | false => iprop(∃ d, owns (c : Thread nD τ) (((cfgA m hg).win w).stage ((cfgA m hg).slots t w)) fullShare ((dats m hg 0 c).before w t d))
                  | true => owns (c : Thread nD τ) (((cfgA m hg).win w).stage ((cfgA m hg).slots t w)) fullShare ((dats m hg 0 c).after w t)
                | false => owns (c : Thread nD τ) (((cfgA m hg).win w).stage ((cfgA m hg).slots t w)) fullShare ((dats m hg 0 c).after w t)) := by
  rw [bigSep_W0]
  by_cases h0 : t.val = 0
  · have fr : ((cfgA m hg).win (4 : Fin 5)).flush t = false := by rw [flush_eq]; exact decide_eq_false (by omega)
    rewrite [idle_first m hg t h0]
    simp only [fr, before0, before1, before2, before3, after0, after1, after2, after3]
    rewrite [show (dats m hg 0 c).Φ t.succ = Phi m hg c t.succ from rfl, show (dats m hg 0 c).Φ t.castSucc = Phi m hg c t.castSucc from rfl,
      show (dats m hg 0 c).owesAt () t.succ = (dats m hg 0 c).owesAt () t.castSucc from rfl]
    unfold Phi; simp only [Fin.val_castSucc, Fin.val_succ, Nat.add_sub_cancel]
    iintro ⟨⟨⟨%a, %ha, HS⟩, HT0, HT1⟩, Ho, ⟨%d0, H0⟩, ⟨%d1, H1⟩, ⟨%d2, H2⟩, ⟨%d3, H3⟩, ⟨%d4, H4⟩⟩
    iapply (body_at m hg c t a _ ha _)
    isplitl [H0 H1 H2 H3 HT0 HT1]
    · isplitl [H0]; · iapply rep_of_owns; iexact H0
      isplitl [H1]; · iapply rep_of_owns; iexact H1
      isplitl [H2]; · iapply rep_of_owns; iexact H2
      isplitl [H3]; · iapply rep_of_owns; iexact H3
      isplitl [HT0]; · iexact HT0
      iexact HT1
    isplitl [H4]; · iexact H4
    isplitl [HS]; · iexact HS
    iintro ⟨⟨H0, H1, H2, H3, HT0, HT1⟩, H4, HS⟩
    isplitl [HS HT0 HT1]
    · isplitl [HS]; · iexact HS
      isplitl [HT0]; · iexact HT0
      iexact HT1
    isplitl [Ho]; · iexact Ho
    isplitl [H0]; · iapply owns_of_rep; iexact H0
    isplitl [H1]; · iapply owns_of_rep; iexact H1
    isplitl [H2]; · iapply owns_of_rep; iexact H2
    isplitl [H3]; · iapply owns_of_rep; iexact H3
    iexists d4; rw [if_pos h0]; iexact H4
  · rewrite [idle_later m hg t (by omega)]
    simp only [before0, before1, before2, before3, after0, after1, after2, after3, after4]
    rewrite [show (dats m hg 0 c).Φ t.succ = Phi m hg c t.succ from rfl, show (dats m hg 0 c).Φ t.castSucc = Phi m hg c t.castSucc from rfl,
      show (dats m hg 0 c).owesAt () t.succ = (dats m hg 0 c).owesAt () t.castSucc from rfl]
    unfold Phi; simp only [Fin.val_castSucc, Fin.val_succ, Nat.add_sub_cancel]
    iintro ⟨⟨⟨%a, %ha, HS⟩, HT0, HT1⟩, Ho, ⟨%d0, H0⟩, ⟨%d1, H1⟩, ⟨%d2, H2⟩, ⟨%d3, H3⟩, ⟨%d4, H4⟩⟩
    iapply (body_at m hg c t a _ ha _)
    isplitl [H0 H1 H2 H3 HT0 HT1]
    · isplitl [H0]; · iapply rep_of_owns; iexact H0
      isplitl [H1]; · iapply rep_of_owns; iexact H1
      isplitl [H2]; · iapply rep_of_owns; iexact H2
      isplitl [H3]; · iapply rep_of_owns; iexact H3
      isplitl [HT0]; · iexact HT0
      iexact HT1
    isplitl [H4]; · iexact H4
    isplitl [HS]; · iexact HS
    iintro ⟨⟨H0, H1, H2, H3, HT0, HT1⟩, H4, HS⟩
    isplitl [HS HT0 HT1]
    · isplitl [HS]; · iexact HS
      isplitl [HT0]; · iexact HT0
      iexact HT1
    isplitl [Ho]; · iexact Ho
    isplitl [H0]; · iapply owns_of_rep; iexact H0
    isplitl [H1]; · iapply owns_of_rep; iexact H1
    isplitl [H2]; · iapply owns_of_rep; iexact H2
    isplitl [H3]; · iapply owns_of_rep; iexact H3
    rw [if_neg h0]; iexact H4

/-- The library's body obligation, at every point. -/
theorem body_obligation (c : Dev nD) : BodyObligation (dats m hg 0 c) (defs₀ (F := F)) Variants.none () Set.univ := fun t => by
  rw [bigSep_W0]
  exact sound_at m hg c t

/-! ## The launch -/

/-- The rounds library's launch element. -/
def u₀ : UR sig nD τ :=
  initOf (Pipeline.cells (pcs m hg) ((launch0 (F := F)).cellOf_inj fun _ => adm m hg))
    (Pipeline.launchToks (pcs m hg) ((launch0 (F := F)).cellOf_inj fun _ => adm m hg))

theorem share_eq (c : Dev nD) (w : Fin (cfgA m hg).W) : (dats m hg 0 c).share w = fullShare := by unfold Dat.share; split <;> rfl

/-- The tables as the launch hands them over, one by one. -/
theorem held_eq (c : Dev nD) (q : Fin 2 → PosShare TreeShare) (v : pre0.Contents (Elt F)) :
    (Pipeline.prefHeld (Ix := Unit) (Name := ℕ) (U := UR sig nD τ) (Lvl := ℕ) pre0 c q v : sProp 𝕄)
      = iprop((((c : Thread nD τ).loc main_arg0) ↦{q 0} v 0) ∗ (((c : Thread nD τ).loc main_arg1) ↦{q 1} v 1)) := by
  unfold Pipeline.prefHeld
  rw [show (Finset.univ : Finset (Fin 2)) = insert (0 : Fin 2) {(1 : Fin 2)} from by decide,
    bigSep_insert (by decide), bigSep_singleton]
  rfl

/-- The invariant at the first point, where the scratch may hold anything. -/
theorem phi_first (c : Dev nD) :
    iprop(BI.emp ∗ Pipeline.prefHeld pre0 c (fun _ => fullShare.right) (adm m hg).1 ∗ Pipeline.scopedRest spec0 c) ⊢ (dats m hg 0 c).Φ 0 := by
  rw [held_eq, scopedRest0_eq, show (dats m hg 0 c).Φ 0 = Phi m hg c 0 from rfl]
  unfold Phi
  iintro ⟨-, ⟨HT0, HT1⟩, ⟨%a, HS⟩⟩
  isplitl [HS]
  · iexists a; isplitr; swap
    · iexact HS
    · ipureintro; intro hn; exact absurd (show 1 ≤ 0 from hn) (by decide)
  isplitl [HT0]
  · iexact HT0
  iexact HT1

/-- The invariant at the end, which gives the scratch back. -/
theorem phi_last (c : Dev nD) : (dats m hg 0 c).Φ (Fin.last (cfgA m hg).N) ⊢ iprop(BI.emp ∗ Pipeline.scopedRest spec0 c) := by
  rw [scopedRest0_eq, show (dats m hg 0 c).Φ (Fin.last (cfgA m hg).N) = Phi m hg c (Fin.last _) from rfl]
  unfold Phi
  iintro ⟨⟨%a, -, HS⟩, -, -⟩
  isplitr; · iempintro
  iexists a; iexact HS

theorem tables_at (c : Dev nD) (j : Fin 2) : m ((c : Thread nD τ).loc (pre0.ref j)) = (adm m hg).1 j := by
  obtain rfl : c = 0 := Subsingleton.elim _ _
  rfl

/-- The launch state. -/
def start (ρ : Dev nD → PrngReg) : MemSt nD τ sig (Elt F) := ⟨m, fun _ => 0, ρ⟩

/-- What the call ends at: every array at what the points leave, every table as it was. -/
def Ends : PUnit × MemSt nD τ sig (Elt F) → Prop := fun r =>
  ∀ c : Dev nD, (∀ w : Fin (cfgA m hg).W, r.2.mem (((cfgA m hg).win w).arr.view.loc (c : Thread nD τ)) = (dats m hg 0 c).arrAt w (cfgA m hg).N)
    ∧ ∀ j, r.2.mem ((c : Thread nD τ).loc (pre0.ref j)) = (adm m hg).1 j

set_option backward.isDefEq.respectTransparency.types false in
set_option maxHeartbeats 4000000 in
/-- The call from a launch memory whose tables are in range: it ends, at the contents above, with every counter at zero. -/
theorem run_ends (ρ : Dev nD → PrngReg) : θ_run (defs (F := F)) (onTc (τ := τ) (main (F := F))) (start m ρ) (fun r => Ends m hg r ∧ r.2.sem = fun _ => 0) :=
  Pipeline.θ_run_region_noSem_pf_quiescent pcfgs (fun _ => adm m hg) (dats m hg) () ((launch0 (F := F)).cellOf_inj fun _ => adm m hg) (0 : Fin 1)
    (launch0 (F := F)).win.to₀ (launch0 (F := F)).pre EP defs₀ Variants.none m ρ main
    (hbody := fun c => (body_obligation m hg c).loose) (hne := (launch0 (F := F)).block_pos)
    (harr := (launch0 (F := F)).arr_whole) (hstage := (launch0 (F := F)).stage_whole) (howed := fun _ _ => rfl)
    (u₀ := u₀ m hg) (hu₀ := .rfl)
    (V := fun c b => m ((c : Thread nD τ).loc b))
    (hmain := fun c Q => by
      delta main; simp only [Prog.bind_lift, Prog.pure_eq_ret]
      iintro ⟨Hk, Hb⟩; iapply Hk; iexact Hb)
    (hsplit := fun c => Pipeline.arrays_split (pcs m hg) (dats m hg) 0 (launch0 (F := F)).win.arr_inj c (launch0 (F := F)).arr_whole
      (share_eq m hg c) _ _ fun _ => rfl)
    (hpf := tables_at m hg)
    (X := fun _ => iprop(emp)) (Y := fun _ => iprop(emp)) (Z := fun _ => iprop(emp))
    (hX := fun c => by rw [unscopedRestP0_eq]; iintro -; isplitr <;> iempintro)
    (hin := phi_first m hg)
    (hout := phi_last m hg)
    (QY := fun _ _ => True)
    (hY := fun c s' => by
      iintro ⟨-, -, HSI⟩; imodintro
      isplitr; · ipureintro; trivial
      iexact HSI)
    (hQ := fun _ h hz => ⟨fun c => ⟨(h c).1, (h c).2.1⟩, hz⟩)

/-- The call ends with its result at what the points leave, its arguments unchanged and every counter at zero. -/
theorem run_call (ρ : Dev nD → PrngReg) : θ_run (defs (F := F)) (onTc (τ := τ) (main (F := F))) (start m ρ) (fun r =>
    (∀ c : Dev nD, r.2.mem ((c : Thread nD τ).loc main_v0) = (dats m hg 0 c).arrAt (4 : Fin 5) (cfgA m hg).N
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5))
    ∧ r.2.sem = fun _ => 0) :=
  (θ_run defs _ _).mono (fun _ h => ⟨fun c => ⟨(h.1 c).1 (4 : Fin 5),
    ((h.1 c).2 0).trans (tables_at m hg c 0).symm, ((h.1 c).2 1).trans (tables_at m hg c 1).symm,
    ((h.1 c).1 (0 : Fin 5)).trans ((dats m hg 0 c).arrAt_in (0 : Fin 5) rfl _), ((h.1 c).1 (1 : Fin 5)).trans ((dats m hg 0 c).arrAt_in (1 : Fin 5) rfl _),
    ((h.1 c).1 (2 : Fin 5)).trans ((dats m hg 0 c).arrAt_in (2 : Fin 5) rfl _), ((h.1 c).1 (3 : Fin 5)).trans ((dats m hg 0 c).arrAt_in (3 : Fin 5) rfl _)⟩, h.2⟩)
    (run_ends m hg ρ)

end Cert.Exp

end
-- ==== Proof.ExpArray.lean ====
/- The experts call's result array after the run, index by index, of its arguments: the rows of a block that holds rows go
   through the block's expert, and the other blocks are zero. -/
module

public import proofs.«01_k».proof.Proof.ExpRun
public import Idealize.ShloMosaic.Lib.Pointwise
public import Idealize.ShloMosaic.Lib.Pipeline.ValueKit

@[expose] public section

set_option maxRecDepth 16384

noncomputable section

namespace Cert.Exp

open Cert.Kernel2Ideal Cert.Kernel2Ideal.Gen Idealize.ShloMosaic Idealize.ShloMosaic.TcCoe Idealize.SL.Sem

/-- Lane `k` of the hidden layer of one row: the gated product of the row with the two first weights. -/
def hidden (x : Fin 1024 → EReal) (g u : Fin 1024 → Fin 512 → EReal) (k : Fin 512) : EReal :=
  (∑ d : Fin 1024, x d * g d k) * Ideal.logistic (∑ d : Fin 1024, x d * g d k) * ∑ d : Fin 1024, x d * u d k

/-- One row through one expert. -/
def expertRow (x : Fin 1024 → EReal) (g u : Fin 1024 → Fin 512 → EReal) (w : Fin 512 → Fin 1024 → EReal) (q : Fin 1024) : EReal :=
  ∑ k : Fin 512, hidden x g u k * w k q

theorem down_up (x0 : S512x1024.Idx → Elt Ideal .bf16) (x1 x2 : S1x1x1024x512.Idx → Elt Ideal .f32) (x3 : S1x1x512x1024.Idx → Elt Ideal .f32)
    (r : Fin 512) (q : Fin 1024) :
    down (F := Ideal) (up x0 x1 x2) x3 (ix2 r q)
    = expertRow (fun d => x0 (ix2 r d)) (fun d k => x1 (ix4 0 0 d k)) (fun d k => x2 (ix4 0 0 d k)) (fun k q => x3 (ix4 0 0 k q)) q := by
  unfold down up
  pointwise [k0_pay1, k0_pay2, expertRow, hidden]

theorem zero_at (r : Fin 512) (q : Fin 1024) : k0_pay5 (F := Ideal) (ix2 r q) = (0 : EReal) := by
  pointwise [k0_pay5]

variable (m : (l : Idealize.ShloMosaic.Loc nD τ sig) → Buf (Elt Ideal) l) (hg : Fit m) (c : Dev nD)

/-- The expert of block `n`, as an index. -/
def expertIx (n : ℕ) : Fin 16 := ⟨expert (tables m 0) n, expert_lt hg n⟩

/-! ## The blocks -/

theorem index0 (t : Fin (cfgA m hg).N) : ((cfgA m hg).win (0 : Fin 5)).index t = ![min t.val (rows m - 1), 0] :=
  (t0_eq (tables m) hg (crd m hg t)).trans (by rw [crd_val])
theorem index1 (t : Fin (cfgA m hg).N) : ((cfgA m hg).win (1 : Fin 5)).index t = ![0, expert (tables m 0) t.val, 0, 0] :=
  (t1_eq (tables m) (crd m hg t)).trans (by rw [crd_val])
theorem index2 (t : Fin (cfgA m hg).N) : ((cfgA m hg).win (2 : Fin 5)).index t = ![0, expert (tables m 0) t.val, 0, 0] :=
  (t2_eq (tables m) (crd m hg t)).trans (by rw [crd_val])
theorem index3 (t : Fin (cfgA m hg).N) : ((cfgA m hg).win (3 : Fin 5)).index t = ![0, expert (tables m 0) (t.val - 1), 0, 0] :=
  (t3_eq (tables m) (crd m hg t)).trans (by rw [crd_val])
theorem index4 (t : Fin (cfgA m hg).N) : ((cfgA m hg).win (4 : Fin 5)).index t = ![t.val - 1, 0] :=
  (t4_eq (crd m hg t)).trans (by rw [crd_val])

theorem lt_N (t : Fin (cfgA m hg).N) : t.val < 175 := t.isLt.trans_eq N_0

theorem blk0 (t : Fin (cfgA m hg).N) (h : t.val < rows m) (r : Fin 512) (d : Fin 1024) :
    iblk m hg c (0 : Fin 5) t (ix2 r d) = m ((c : Thread nD τ).loc main_arg2) (ix2 ⟨512 * t.val + r.val, by have := count_lt hg; have : rows m = count (tables m 1) := rfl; omega⟩ d) := by
  have h0 := index0 m hg t
  rw [Nat.min_eq_left (by omega)] at h0
  blk_ext [iblk, h0]

theorem blk1 (t : Fin (cfgA m hg).N) (d : Fin 1024) (k : Fin 512) :
    iblk m hg c (1 : Fin 5) t (ix4 0 0 d k) = m ((c : Thread nD τ).loc main_arg3) (ix4 0 (expertIx m hg t.val) d k) := by
  have h1 := index1 m hg t
  blk_ext [iblk, h1, expertIx]

theorem blk2 (t : Fin (cfgA m hg).N) (d : Fin 1024) (k : Fin 512) :
    iblk m hg c (2 : Fin 5) t (ix4 0 0 d k) = m ((c : Thread nD τ).loc main_arg4) (ix4 0 (expertIx m hg t.val) d k) := by
  have h2 := index2 m hg t
  blk_ext [iblk, h2, expertIx]

theorem blk3 (t : Fin (cfgA m hg).N) (k : Fin 512) (q : Fin 1024) :
    iblk m hg c (3 : Fin 5) t (ix4 0 0 k q) = m ((c : Thread nD τ).loc main_arg5) (ix4 0 (expertIx m hg (t.val - 1)) k q) := by
  have h3 := index3 m hg t
  blk_ext [iblk, h3, expertIx]

/-! ## The result -/

/-- The result at row `R`, column `q`. -/
def rowAt (R : Fin 89088) (q : Fin 1024) : EReal :=
  if R.val / 512 < rows m then
    expertRow (fun d => m ((c : Thread nD τ).loc main_arg2) (ix2 R d)) (fun d k => m ((c : Thread nD τ).loc main_arg3) (ix4 0 (expertIx m hg (R.val / 512)) d k))
      (fun d k => m ((c : Thread nD τ).loc main_arg4) (ix4 0 (expertIx m hg (R.val / 512)) d k)) (fun k q => m ((c : Thread nD τ).loc main_arg5) (ix4 0 (expertIx m hg (R.val / 512)) k q)) q
  else 0

/-- The result array. -/
def rowArr : S89088x1024.Idx → EReal := fun i => rowAt m hg c (i 0) (i 1)

theorem rowArr_at (R : Fin 89088) (q : Fin 1024) : rowArr m hg c (ix2 R q) = rowAt m hg c R q := rfl

/-- What point `t` leaves is the result's block before it. -/
theorem outAt_at (t : Fin (cfgA m hg).N) (h0 : 1 ≤ t.val) (r : Fin 512) (q : Fin 1024) :
    outAt m hg c t (ix2 r q) = rowAt m hg c ⟨512 * (t.val - 1) + r.val, by have := lt_N m hg t; omega⟩ q := by
  have hd : (512 * (t.val - 1) + r.val) / 512 = t.val - 1 := by omega
  have hN := lt_N m hg t
  unfold outAt rowAt
  simp only [hd]
  by_cases hc : t.val ≤ rows m
  · rw [if_pos hc, if_pos (by omega)]
    obtain ⟨s, hs⟩ : ∃ s : Fin (cfgA m hg).N, s.val = t.val - 1 := ⟨⟨t.val - 1, by have := t.isLt; omega⟩, rfl⟩
    simp only [← hs, act_at, down_up]
    simp only [blk0 m hg c s (by omega), blk1, blk2, blk3, ← hs]
  · rw [if_neg hc, if_neg (by omega), zero_at]

theorem nblk_all : ∀ a : Fin 2, ((cfgA m hg).win (4 : Fin 5)).nblk a = (![174, 1] : Fin 2 → ℕ) a := by
  unfold Pipeline.Window.nblk; intro a; fin_cases a
  · show (89088 + 512 - 1) / 512 = 174; decide
  · show (1024 + 1024 - 1) / 1024 = 1; decide

theorem covers : ((cfgA m hg).win (4 : Fin 5)).Covers := by
  refine ⟨fun a => by fin_cases a <;> (first | exact (by decide : 0 < 512) | exact (by decide : 0 < 1024)), fun β => ?_⟩
  have hb0 : (β 0).val < 174 := (β 0).isLt.trans_eq (nblk_all m hg 0)
  have hb1 : (β 1).val < 1 := (β 1).isLt.trans_eq (nblk_all m hg 1)
  refine ⟨⟨(β 0).val + 1, by show _ < grid0.N; rw [N_0]; omega⟩, ?_, fun a => ⟨?_, .inl rfl⟩⟩
  · rw [flush_eq]; exact decide_eq_true (by show 1 ≤ (β 0).val + 1; omega)
  · rw [index4]; fin_cases a
    · show (β 0).val + 1 - 1 = (β 0).val; omega
    · show 0 = (β 1).val; omega

/-- The result array after the run. -/
theorem final : (dats m hg 0 c).arrAt (4 : Fin 5) (cfgA m hg).N = rowArr m hg c := by
  refine (dats m hg 0 c).arrAt_eq_of_covers (4 : Fin 5) _ (covers m hg) (fun t hf y => ?_) (Memref.isWhole_whole _)
  rw [flush_eq, decide_eq_true_eq] at hf
  obtain ⟨r, q, rfl⟩ : ∃ (r : Fin 512) (q : Fin 1024), y = ix2 r q := ⟨y 0, y 1, eq_ix2 y⟩
  have ey : (((cfgA m hg).win (4 : Fin 5)).blk t).view.emb (ix2 r q) = ix2 ⟨512 * (t.val - 1) + r.val, by have := lt_N m hg t; omega⟩ q := by
    have h4 := index4 m hg t
    blk_ext [h4]
  rw [ey, rowArr_at, ← outAt_at m hg c t hf r q]
  rfl

/-- The call's run: its result, of its arguments. -/
theorem experts_run (ρ : Dev nD → PrngReg) : θ_run (defs (F := Ideal)) (onTc (τ := τ) (main (F := Ideal))) ⟨m, fun _ => 0, ρ⟩ (fun r => ∀ c : Dev nD,
      r.2.mem ((c : Thread nD τ).loc main_v0) = rowArr m hg c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5)) :=
  (θ_run defs _ _).mono (fun _ h c => ⟨(h.1 c).1.trans (final m hg c), (h.1 c).2⟩) (run_call m hg ρ)

end Cert.Exp

end
-- ==== Proof.ExpBlock.lean ====
/- The reference's words of the experts call: which block a row lies in. -/
module

public import Idealize.ShloMosaic.Lib.Pointwise

@[expose] public section

set_option maxRecDepth 16384

namespace Cert.Exp

open Idealize.ShloMosaic

/-- The division the reference takes of a row's word by the block's 512 rows, rounded down. -/
def blockWord (w : BitVec 32) : BitVec 32 :=
  Scalar.select
    (IntOp.andi
      (IntOp.cmpi CmpIPredicate.ne (if w = 0 then 0 else if w.msb = true then -1 else 1) (if 512#32 = 0 then 0 else if BitVec.msb 512#32 = true then -1 else 1 : BitVec 32))
      (IntOp.cmpi CmpIPredicate.ne (IntOp.remsi ArithUnit.host w 512#32) 0#32))
    (IntOp.subi (IntOp.divsi ArithUnit.host w 512#32) 1#32)
    (IntOp.divsi ArithUnit.host w 512#32)

theorem blockWord_all : ∀ (j : Fin 174) (r : Fin 512), blockWord (BitVec.ofNat 32 (512 * j.val + r.val)) = BitVec.ofNat 32 j.val := by
  decide +kernel

/-- A row's block. -/
theorem blockWord_row (R : Fin 89088) : blockWord (BitVec.ofNat 32 R.val) = BitVec.ofNat 32 (R.val / 512) := by
  have h := blockWord_all ⟨R.val / 512, by omega⟩ ⟨R.val % 512, Nat.mod_lt _ (by decide)⟩
  rwa [show 512 * (R.val / 512) + R.val % 512 = R.val from Nat.div_add_mod _ _] at h

end Cert.Exp
-- ==== Proof.ExpRef.lean ====
/- The reference's result of the experts call, row by row: of the sixteen experts' products only that of the row's own expert
   is kept, and none where the row's block holds no rows. -/
module

public import proofs.«01_k».proof.Proof.ExpArray
public import proofs.«01_k».proof.Proof.ExpBlock
public import proofs.«01_k».proof.Proof.Gen.Reference2Ideal.Run

@[expose] public section

set_option maxRecDepth 16384

noncomputable section

namespace Cert.Exp

open Cert.Reference2Ideal Cert.Reference2Ideal.Gen Cert.Reference2Ideal.Value Idealize.ShloMosaic Idealize.ShloMosaic.TcCoe Idealize.SL.Sem
open Idealize.ShloMosaic.StableHlo (launchContents)

/-! ## One expert's share of the sum -/

/-- One expert's product for every row, times the row's share `s` of that expert. -/
def share (X : FVec Ideal S89088x1024 .f32) (s : FVec Ideal S89088x1 .f32) (g u : FVec Ideal S1024x512 .f32) (w : FVec Ideal S512x1024 .f32) : FVec Ideal S89088x1024 .f32 :=
  mulf (broadcastInDim S89088x1024 ![0, 1] bcast_S89088x1_S89088x1024_0_1 s)
    (Host.dotGeneral dot_S89088x512_S512x1024_S89088x1024_1_0_0_1_n_n none
      (mulf (mulf (Host.dotGeneral dot_S89088x1024_S1024x512_S89088x512_1_0_0_1_n_n none X g)
        (Host.divf (broadcastInDim S89088x512 ![] bcast_S_S89088x512 (constant S_ .f32 0x3F800000#32))
          (addf (broadcastInDim S89088x512 ![] bcast_S_S89088x512 (constant S_ .f32 0x3F800000#32))
            (Host.exp (Host.negf (Host.dotGeneral dot_S89088x1024_S1024x512_S89088x512_1_0_0_1_n_n none X g))))))
        (Host.dotGeneral dot_S89088x1024_S1024x512_S89088x512_1_0_0_1_n_n none X u)) w)

theorem share_at (X : FVec Ideal S89088x1024 .f32) (s : FVec Ideal S89088x1 .f32) (g u : FVec Ideal S1024x512 .f32) (w : FVec Ideal S512x1024 .f32)
    (R : Fin 89088) (q : Fin 1024) :
    share X s g u w (ix2 R q) = s (ix2 R 0) * expertRow (fun d => X (ix2 R d)) (fun d k => g (ix2 d k)) (fun d k => u (ix2 d k)) (fun k q => w (ix2 k q)) q := by
  unfold share
  pointwise [expertRow, hidden, Ideal.logistic]

theorem slices_share (e : ℕ) (he : e < 16) : S89088x16.Slices ![0, e] S89088x1 :=
  ⟨rfl, fun a => by fin_cases a; exact (by decide : 0 + 89088 ≤ 89088); show e + 1 ≤ 16; omega⟩
theorem slices_in (e : ℕ) (he : e < 16) : S4x16x1024x512.Slices ![0, e, 0, 0] S1x1x1024x512 :=
  ⟨rfl, fun a => by fin_cases a; exact (by decide : 0 + 1 ≤ 4); show e + 1 ≤ 16; omega; exact (by decide : 0 + 1024 ≤ 1024); exact (by decide : 0 + 512 ≤ 512)⟩
theorem slices_out (e : ℕ) (he : e < 16) : S4x16x512x1024.Slices ![0, e, 0, 0] S1x1x512x1024 :=
  ⟨rfl, fun a => by fin_cases a; exact (by decide : 0 + 1 ≤ 4); show e + 1 ≤ 16; omega; exact (by decide : 0 + 512 ≤ 512); exact (by decide : 0 + 1024 ≤ 1024)⟩

/-- Expert `e`'s weights and shares, cut out of the stacks. -/
def cutIn (A : FVec Ideal S4x16x1024x512 .f32) (e : ℕ) (he : e < 16) : FVec Ideal S1024x512 .f32 :=
  shapeCast _ (extractStridedSlice S1x1x1024x512 ![0, e, 0, 0] A (slices_in e he)) shapeCasts_S1x1x1024x512_S1024x512
def cutOut (A : FVec Ideal S4x16x512x1024 .f32) (e : ℕ) (he : e < 16) : FVec Ideal S512x1024 .f32 :=
  shapeCast _ (extractStridedSlice S1x1x512x1024 ![0, e, 0, 0] A (slices_out e he)) shapeCasts_S1x1x512x1024_S512x1024
def cutShare (C : FVec Ideal S89088x16 .f32) (e : ℕ) (he : e < 16) : FVec Ideal S89088x1 .f32 :=
  id (extractStridedSlice S89088x1 ![0, e] C (slices_share e he))

theorem cutIn_at (A : FVec Ideal S4x16x1024x512 .f32) (e : Fin 16) (d : Fin 1024) (k : Fin 512) : cutIn A e.val e.isLt (ix2 d k) = A (ix4 0 e d k) := by
  unfold cutIn; pointwise
theorem cutOut_at (A : FVec Ideal S4x16x512x1024 .f32) (e : Fin 16) (k : Fin 512) (q : Fin 1024) : cutOut A e.val e.isLt (ix2 k q) = A (ix4 0 e k q) := by
  unfold cutOut; pointwise
theorem cutShare_at (C : FVec Ideal S89088x16 .f32) (e : Fin 16) (R : Fin 89088) : cutShare C e.val e.isLt (ix2 R 0) = C (ix2 R e) := by
  unfold cutShare; rw [id_eq]; pointwise

variable (V0 : Valuation τ sig (Elt Ideal))

/-- An entry of a result-shaped array, and of the rows' shares. -/
abbrev ent (A : FVec Ideal S89088x1024 .f32) (R : Fin 89088) (q : Fin 1024) : EReal := A (ix2 R q)
abbrev entShare (C : FVec Ideal S89088x16 .f32) (R : Fin 89088) (e : Fin 16) : EReal := C (ix2 R e)

/-- Expert `e`'s share of the result. -/
def part (e : ℕ) (he : e < 16) : FVec Ideal S89088x1024 .f32 :=
  share (res_main_v8 V0) (cutShare (res_main_v16 V0) e he) (cutIn (V0 (Proc.devRef .tc main_arg3)) e he) (cutIn (V0 (Proc.devRef .tc main_arg4)) e he)
    (cutOut (V0 (Proc.devRef .tc main_arg5)) e he)

theorem part_at (e : Fin 16) (R : Fin 89088) (q : Fin 1024) :
    part V0 e.val e.isLt (ix2 R q) = entShare (res_main_v16 V0) R e * expertRow (fun d => V0 (Proc.devRef .tc main_arg2) (ix2 R d))
      (fun d k => V0 (Proc.devRef .tc main_arg3) (ix4 0 e d k)) (fun d k => V0 (Proc.devRef .tc main_arg4) (ix4 0 e d k))
      (fun k q => V0 (Proc.devRef .tc main_arg5) (ix4 0 e k q)) q := by
  unfold part
  rw [share_at]
  simp only [cutIn_at, cutOut_at, cutShare_at]
  rfl

theorem sum96_at (R : Fin 89088) (q : Fin 1024) : ent (res_main_v96 V0) R q = ((((Ideal.ofBits .f32 0x00000000#32 + part V0 0 (by decide) (ix2 R q)) + part V0 1 (by decide) (ix2 R q)) + part V0 2 (by decide) (ix2 R q)) + part V0 3 (by decide) (ix2 R q)) + part V0 4 (by decide) (ix2 R q) := by
  unfold res_main_v96 res_main_v19 res_main_v35 res_main_v51 res_main_v67 res_main_v83
  rfl

theorem sum176_at (R : Fin 89088) (q : Fin 1024) : ent (res_main_v176 V0) R q = ((((ent (res_main_v96 V0) R q + part V0 5 (by decide) (ix2 R q)) + part V0 6 (by decide) (ix2 R q)) + part V0 7 (by decide) (ix2 R q)) + part V0 8 (by decide) (ix2 R q)) + part V0 9 (by decide) (ix2 R q) := by
  unfold res_main_v176 res_main_v99 res_main_v115 res_main_v131 res_main_v147 res_main_v163
  rfl

theorem sum256_at (R : Fin 89088) (q : Fin 1024) : ent (res_main_v256 V0) R q = ((((ent (res_main_v176 V0) R q + part V0 10 (by decide) (ix2 R q)) + part V0 11 (by decide) (ix2 R q)) + part V0 12 (by decide) (ix2 R q)) + part V0 13 (by decide) (ix2 R q)) + part V0 14 (by decide) (ix2 R q) := by
  unfold res_main_v256 res_main_v179 res_main_v195 res_main_v211 res_main_v227 res_main_v243
  rfl

/-- The result as the run leaves it. -/
def summed : FVec Ideal S89088x1024 .bf16 :=
  truncf .bf16 (addf (res_main_v256 V0) (part V0 15 (by decide))) bitsLt_bf16_f32

theorem summed_at (R : Fin 89088) (q : Fin 1024) : (summed V0 (ix2 R q) : EReal) = ∑ e : Fin 16, part V0 e.val e.isLt (ix2 R q) := by
  show ent (res_main_v256 V0) R q + part V0 15 (by decide) (ix2 R q) = _
  rw [sum256_at, sum176_at, sum96_at, Ideal.ofBits_zero_f32]
  simp only [Fin.sum_univ_succ, Fin.sum_univ_zero, zero_add, add_zero, add_assoc]
  rfl

/-! ## Whose expert a row is -/

theorem less_all : ∀ (j : Fin 174) (n : Fin 175), IntOp.cmpi CmpIPredicate.slt (BitVec.ofNat 32 j.val) (BitVec.ofNat 32 n.val) = if j.val < n.val then 1#1 else 0#1 := by
  intro j n
  have hj : (BitVec.ofNat 32 j.val).toInt = j.val := by
    have e : (BitVec.ofNat 32 j.val).toNat = j.val := by rw [BitVec.toNat_ofNat]; omega
    rw [BitVec.toInt_eq_toNat_of_lt (by omega), e]
  have hn : (BitVec.ofNat 32 n.val).toInt = n.val := by
    have e : (BitVec.ofNat 32 n.val).toNat = n.val := by rw [BitVec.toNat_ofNat]; omega
    rw [BitVec.toInt_eq_toNat_of_lt (by omega), e]
  show BitVec.ofBool (BitVec.slt _ _) = _
  rw [BitVec.slt, hj, hn]
  by_cases h : j.val < n.val
  · rw [if_pos h, decide_eq_true (by omega)]; rfl
  · rw [if_neg h, decide_eq_false (by omega)]; rfl
theorem same_all : ∀ x e : Fin 16, IntOp.cmpi CmpIPredicate.eq (BitVec.ofNat 32 x.val) (BitVec.ofNat 32 e.val) = if x.val = e.val then 1#1 else 0#1 := by decide +kernel
theorem none_all : ∀ e : Fin 16, IntOp.cmpi CmpIPredicate.eq 4294967295#32 (BitVec.ofNat 32 e.val) = 0#1 := by decide +kernel

/-- A row's share of an expert: one for the expert of the row's block, while that block holds rows. -/
theorem combine_at (be : S174.Idx → BitVec 32) (nv : S1.Idx → BitVec 32) (hg : Good be nv)
    (hb : V0 (Proc.devRef .tc main_arg0) = be) (hn : V0 (Proc.devRef .tc main_arg1) = nv) (R : Fin 89088) (e : Fin 16) :
    entShare (res_main_v16 V0) R e = if R.val / 512 < count nv ∧ expert be (R.val / 512) = e.val then 1 else 0 := by
  have hR : R.val / 512 < 174 := by omega
  have hc := count_lt hg
  have he := expert_lt hg (R.val / 512)
  have key : entShare (res_main_v16 V0) R e
      = Scalar.select (IntOp.cmpi CmpIPredicate.eq (Scalar.select (IntOp.cmpi CmpIPredicate.slt (blockWord (BitVec.ofNat 32 R.val)) (nv (ix1 0)))
          (be (ix1 ⟨R.val / 512, hR⟩)) 4294967295#32) (BitVec.ofNat 32 e.val)) (1 : EReal) 0 := by
    unfold res_main_v16 res_main_call0_v2 res_main_call0_v0 res_main_v0
    rw [hb, hn]
    pointwise
    rfl
  have hen : (ix1 ⟨R.val / 512, hR⟩ : S174.Idx) = entry (R.val / 512) := by
    funext a; fin_cases a; exact Fin.ext (Nat.min_eq_left (show R.val / 512 ≤ 173 by omega)).symm
  rw [key, blockWord_row, word_eq nv (ix1 0), hen, show be (entry (R.val / 512)) = BitVec.ofNat 32 (expert be (R.val / 512)) from by simp [expert]]
  generalize expert be (R.val / 512) = x at *
  generalize count nv = n at *
  generalize R.val / 512 = j at *
  have hs : IntOp.cmpi CmpIPredicate.slt (BitVec.ofNat 32 j) (BitVec.ofNat 32 n) = if j < n then 1#1 else 0#1 := less_all ⟨j, hR⟩ ⟨n, hc⟩
  have ho := same_all ⟨x, he⟩ e
  have hm := none_all e
  rw [hs]
  by_cases h1 : j < n
  · rw [if_pos h1, show ∀ a b : BitVec 32, Scalar.select 1#1 a b = a from fun _ _ => rfl, ho]
    by_cases h2 : x = e.val
    · rw [if_pos h2, if_pos ⟨h1, h2⟩]; rfl
    · rw [if_neg h2, if_neg fun h => h2 h.2]; rfl
  · rw [if_neg h1, show ∀ a b : BitVec 32, Scalar.select 0#1 a b = b from fun _ _ => rfl, hm, if_neg fun h => h1 h.1]; rfl

/-- The reference's result is the call's. -/
theorem summed_eq (m : (l : Idealize.ShloMosaic.Loc Kernel2Ideal.nD Kernel2Ideal.τ Kernel2Ideal.sig) → Buf (Elt Ideal) l) (hg : Fit m) (c : Dev Kernel2Ideal.nD)
    (h0 : V0 (Proc.devRef .tc main_arg0) = tables m 0) (h1 : V0 (Proc.devRef .tc main_arg1) = tables m 1)
    (h2 : V0 (Proc.devRef .tc main_arg2) = m ((c : Thread Kernel2Ideal.nD Kernel2Ideal.τ).loc Kernel2Ideal.main_arg2))
    (h3 : V0 (Proc.devRef .tc main_arg3) = m ((c : Thread Kernel2Ideal.nD Kernel2Ideal.τ).loc Kernel2Ideal.main_arg3))
    (h4 : V0 (Proc.devRef .tc main_arg4) = m ((c : Thread Kernel2Ideal.nD Kernel2Ideal.τ).loc Kernel2Ideal.main_arg4))
    (h5 : V0 (Proc.devRef .tc main_arg5) = m ((c : Thread Kernel2Ideal.nD Kernel2Ideal.τ).loc Kernel2Ideal.main_arg5)) :
    summed V0 = rowArr m hg c := by
  funext i
  obtain ⟨R, q, rfl⟩ : ∃ (R : Fin 89088) (q : Fin 1024), i = ix2 R q := ⟨i 0, i 1, eq_ix2 i⟩
  refine (summed_at V0 R q).trans ?_
  rw [rowArr_at]
  have hcomb := combine_at V0 (tables m 0) (tables m 1) hg h0 h1 R
  simp only [part_at, hcomb, h2, h3, h4, h5]
  unfold rowAt
  have hr : rows m = count (tables m 1) := rfl
  by_cases hb : R.val / 512 < rows m
  · rw [if_pos hb, Finset.sum_eq_single (expertIx m hg (R.val / 512))]
    · rw [if_pos ⟨hb, rfl⟩, one_mul]
    · intro e _ hne
      rw [if_neg fun h => hne (Fin.ext h.2.symm), zero_mul]
    · intro h; exact absurd (Finset.mem_univ _) h
  · rw [if_neg hb]
    refine Finset.sum_eq_zero fun e _ => ?_
    rw [if_neg fun h => hb h.1, zero_mul]

/-- The reference's run. -/
theorem experts_ref (m : (l : Idealize.ShloMosaic.Loc nD τ sig) → Buf (Elt Ideal) l) (ρ : Dev nD → PrngReg) :
    θ_run defs (onTc (τ := τ) (main (F := Ideal))) ⟨m, fun _ => 0, ρ⟩ fun r => ∀ c : Dev nD,
      r.2.mem ((c : Thread nD τ).loc main_v273) = summed (launchContents m c)
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5) :=
  (θ_run defs _ _).mono (fun _ h c => ⟨(h c).1.trans (by unfold summed part share res_main_v259; rfl), (h c).2⟩) (run m ρ)

end Cert.Exp

end
-- ==== Proof.ExpClaim.lean ====
/- The experts call's claims: the precondition's two ranges are the tables', so the call runs from every memory it admits, and
   its result is the reference's. -/
module

public import proofs.«01_k».proof.Defs
public import proofs.«01_k».proof.Proof.ExpRef
public import proofs.«01_k».proof.Proof.Gen.Kernel2
public import proofs.«01_k».proof.Proof.Gen.Pre_in_range

@[expose] public section

set_option maxRecDepth 16384

noncomputable section

namespace Cert.Exp

open Idealize.ShloMosaic Idealize.ShloMosaic.TcCoe Idealize.SL.Sem

/-- A conjunction of two comparisons' bits is one only where both hold. -/
theorem and_bits {p q : Bool} (h : BitVec.ofBool p &&& BitVec.ofBool q = 1#1) : p = true ∧ q = true := by
  revert h; cases p <;> cases q <;> decide

theorem range_word {b : BitVec 32} {lo hi : ℕ} (hhi : hi < 2 ^ 31) (h1 : (BitVec.ofNat 32 lo).sle b = true) (h2 : b.sle (BitVec.ofNat 32 hi) = true) (hlo : lo ≤ hi) :
    lo ≤ b.toNat ∧ b.toNat ≤ hi := by
  have el : (BitVec.ofNat 32 lo).toInt = lo := by
    have e : (BitVec.ofNat 32 lo).toNat = lo := by rw [BitVec.toNat_ofNat]; omega
    rw [BitVec.toInt_eq_toNat_of_lt (by omega), e]
  have eh : (BitVec.ofNat 32 hi).toInt = hi := by
    have e : (BitVec.ofNat 32 hi).toNat = hi := by rw [BitVec.toNat_ofNat]; omega
    rw [BitVec.toInt_eq_toNat_of_lt (by omega), e]
  rw [BitVec.sle, el, decide_eq_true_eq] at h1
  rw [BitVec.sle, eh, decide_eq_true_eq] at h2
  have hb := BitVec.toInt_eq_toNat_cond b
  have := b.isLt
  split at hb <;> omega

/-- The precondition, read at the tables. -/
theorem good_of_range {F : FTy → Type} [FloatOps F] (be : Cert.Kernel2Ideal.S174.Idx → BitVec 32) (nv : Cert.Kernel2Ideal.S1.Idx → BitVec 32)
    (x : FVec F Cert.Pre_in_range.S89088x1024 .bf16) (g u : FVec F Cert.Pre_in_range.S4x16x1024x512 .f32) (w : FVec F Cert.Pre_in_range.S4x16x512x1024 .f32)
    (h : (Cert.Pre_in_range.fn be nv x g u w).1 = (fun _ => 1#1) ∧ (Cert.Pre_in_range.fn be nv x g u w).2 = (fun _ => 1#1)) : Good be nv := by
  have hb : ∀ i, 0 ≤ (be i).toNat ∧ (be i).toNat ≤ 15 := fun i => by
    obtain ⟨h1, h2⟩ := and_bits (congrFun h.1 i)
    refine range_word (by decide) h1 ?_ (by decide)
    rw [BitVec.slt, decide_eq_true_eq] at h2
    rw [BitVec.sle, decide_eq_true_eq]
    have e1 : (16#32 : BitVec 32).toInt = 16 := by decide
    have e2 : (BitVec.ofNat 32 15).toInt = 15 := by decide
    change (be i).toInt < (16#32 : BitVec 32).toInt at h2
    omega
  have hn : ∀ i, 1 ≤ (nv i).toNat ∧ (nv i).toNat ≤ 174 := fun i => by
    obtain ⟨h1, h2⟩ := and_bits (congrFun h.2 i)
    exact range_word (by decide) h1 h2 (by decide)
  exact ⟨fun i => by have := hb i; omega, fun i => by have := hn i; omega, fun i => by have := hn i; omega⟩

/-- The printed call's tables fit, its memory read as the ideal call's: the two programs have one text. -/
theorem fit_kernel (m : (l : Idealize.ShloMosaic.Loc Cert.Kernel2.nD Cert.Kernel2.τ Cert.Kernel2.sig) → Buf (Elt Bits) l) (h : Cert.Pre_Kernel2 m) :
    Fit (F := Bits) m :=
  good_of_range (F := Bits) (m ((0 : Dev Cert.Kernel2.nD).tc.loc Cert.Kernel2.main_arg0)) (m ((0 : Dev Cert.Kernel2.nD).tc.loc Cert.Kernel2.main_arg1)) _ _ _ _ (h 0)

/-- The two body tables are one: each label's body is. -/
theorem bodies_eq : @Cert.Kernel2.defs₀ Bits _ _ = @Cert.Kernel2Ideal.defs₀ Bits _ _ := by
  refine congrArg (Defs.onTc (nD := Cert.Kernel2.nD) (τ := Cert.Kernel2.τ) (sig := Cert.Kernel2.sig) (Val := Elt Bits) (Λ := Cert.Kernel2.Λ₀)) ?_
  funext l a
  match l, a with
  | 0, (t, s) =>
    show Cert.Kernel2.cc0_moe_experts _ _ _ _ _ _ _ _ _ _ _ _ _ _ _ _ _ = Cert.Kernel2Ideal.cc0_moe_experts _ _ _ _ _ _ _ _ _ _ _ _ _ _ _ _ _
    rfl
  | ⟨_ + 1, h⟩, _ => exact absurd h (Nat.not_lt.2 (Nat.le_add_left _ _))

theorem defs_eq : @Cert.Kernel2.defs Bits _ _ = @Cert.Kernel2Ideal.defs Bits _ _ :=
  congrArg (Pipeline.defs (@Cert.Kernel2.pcfgs Bits _ _)) bodies_eq

theorem frame_kernel : Cert.quiescent_Kernel2 := fun m ρ h => by
  rw [defs_eq]
  exact (θ_run Cert.Kernel2Ideal.defs _ _).mono (fun _ h => ⟨fun c => (h.1 c).2, h.2⟩) (run_call (F := Bits) m (fit_kernel m h) ρ)

theorem frame_ideal : Cert.quiescent_Kernel2Ideal := fun m ρ h =>
  (θ_run Cert.Kernel2Ideal.defs _ _).mono (fun _ h => ⟨fun c => (h.1 c).2, h.2⟩)
    (run_call (F := Ideal) m (good_of_range (F := Ideal) _ _ _ _ _ _ (h 0)) ρ)

theorem frame_ref : Cert.quiescent_Reference2Ideal := fun m ρ _ =>
  (θ_run Cert.Reference2Ideal.defs _ _).mono (fun r h => ⟨fun c => (h c).2, sem_eq_zero_of_no_sems (by decide) r.2⟩) (experts_ref m ρ)

theorem value : Cert.algebraic_Kernel2Ideal_Reference2Ideal := fun m g m' g' h hag =>
  ⟨_, experts_run m (good_of_range (F := Ideal) _ _ _ _ _ _ (h 0)) g, (θ_run Cert.Reference2Ideal.defs _ _).mono (fun _ hr c => by
    obtain rfl : c = 0 := Subsingleton.elim _ _
    exact ⟨(hr 0).1.trans (summed_eq _ m _ 0 (hag 0).1 (hag 0).2.1 (hag 0).2.2.1 (hag 0).2.2.2.1 (hag 0).2.2.2.2.1 (hag 0).2.2.2.2.2), (hr 0).2⟩) (experts_ref m' g')⟩

end Cert.Exp

end
-- ==== Proof.MergeMath.lean ====
/- The merge of the three branches at one token, over extended reals: what both programs of the merge compute. -/
module

public import Idealize.ShloMosaic.Lib.Pointwise

@[expose] public section

noncomputable section

namespace Cert.Merge

open Idealize.ShloMosaic

/-- The root-mean-square normalisation of one row of 1024 lanes, scaled by `g` and by one plus `sc`, shifted by `sh`. -/
def normed (x g sc sh : Fin 1024 → EReal) (k : Fin 1024) : EReal :=
  x k * Ideal.rsqrt (Ideal.div (∑ j : Fin 1024, x j * x j) (Ideal.ofBits .f32 0x44800000#32) + Ideal.ofBits .f32 0x358637BD#32) * g k
    * (Ideal.ofBits .f32 0x3F800000#32 + sc k) + sh k

/-- Lane `k` of branch `n`'s gate among the 3072 gate columns. -/
abbrev col (n : Fin 3) (k : Fin 1024) : Fin 3072 := ⟨1024 * n.val + k.val, by omega⟩

/-- Branch `n`'s gate at lane `k`: the logistic function of the projected row `h`. -/
def gate (h : Fin 1024 → EReal) (wg : Fin 1024 → Fin 3072 → EReal) (bg : Fin 3072 → EReal) (n : Fin 3) (k : Fin 1024) : EReal :=
  Ideal.logistic ((∑ j : Fin 1024, h j * wg j (col n k)) + bg (col n k))

/-- A branch's row `o` through its own output weights. -/
def lift (o : Fin 512 → EReal) (wb : Fin 512 → Fin 1024 → EReal) (k : Fin 1024) : EReal := ∑ c : Fin 512, o c * wb c k

/-- The gated sum of the three branches. -/
def merged (h : Fin 1024 → EReal) (o0 o1 o2 : Fin 512 → EReal) (wg : Fin 1024 → Fin 3072 → EReal) (bg : Fin 3072 → EReal)
    (wb : Fin 3 → Fin 512 → Fin 1024 → EReal) (k : Fin 1024) : EReal :=
  gate h wg bg 0 k * lift o0 (wb 0) k + gate h wg bg 1 k * lift o1 (wb 1) k + gate h wg bg 2 k * lift o2 (wb 2) k

/-- The residual row after the merge. -/
def mixed (x g sc sh gt : Fin 1024 → EReal) (o0 o1 o2 : Fin 512 → EReal) (wg : Fin 1024 → Fin 3072 → EReal) (bg : Fin 3072 → EReal)
    (wb : Fin 3 → Fin 512 → Fin 1024 → EReal) (wo : Fin 1024 → Fin 1024 → EReal) (k : Fin 1024) : EReal :=
  x k + gt k * ∑ j : Fin 1024, merged (normed x g sc sh) o0 o1 o2 wg bg wb j * wo j k

end Cert.Merge

end
-- ==== Proof.MergeBlock.lean ====
/- One block of the merge kernel: each of its payloads read at a row and a lane, and the two blocks it leaves. -/
module

public import proofs.«01_k».proof.Proof.MergeMath
public import proofs.«01_k».proof.Proof.Gen.Kernel3Ideal.Frame
public import Idealize.ShloMosaic.Lib.Pipeline.ValueKit

@[expose] public section

set_option maxRecDepth 16384

noncomputable section

namespace Cert.Merge

open Cert.Kernel3Ideal Cert.Kernel3Ideal.Gen Idealize.ShloMosaic

theorem pay3_at (x : Vec Ideal S1x512x1024 .f32) (g : Vec Ideal S1x1024 .f32) (sc sh : Vec Ideal S1x1x1024 .f32) (r : Fin 512) (k : Fin 1024) :
    k0_pay3 x g sc sh (ix2 r k) = normed (fun k => x (ix3 0 r k)) (fun k => g (ix2 0 k)) (fun k => sc (ix3 0 0 k)) (fun k => sh (ix3 0 0 k)) k := by
  pointwise [k0_pay3, k0_pay2, normed]

/-- A gate of a block, of the normalised block `h`. -/
theorem pay6_at (h : FVec Ideal S512x1024 .bf16) (w : Vec Ideal S1x1024x1024 .bf16) (b : Vec Ideal S1x1024 .f32) (r : Fin 512) (k : Fin 1024) :
    k0_pay6 h w b (ix2 r k) = Ideal.logistic ((∑ j : Fin 1024, h (ix2 r j) * w (ix3 0 j k)) + b (ix2 0 k)) := by
  pointwise [k0_pay6]

theorem pay4_eq (x : Vec Ideal S1x512x1024 .f32) (g : Vec Ideal S1x1024 .f32) (sc sh : Vec Ideal S1x1x1024 .f32)
    (w : Vec Ideal S1x1024x1024 .bf16) (b : Vec Ideal S1x1024 .f32) : k0_pay4 x g sc sh w b = k0_pay6 (k0_pay3 x g sc sh) w b := rfl

theorem pay5_at (h : FVec Ideal S512x1024 .bf16) (g0 : FVec Ideal S512x1024 .f32) (o0 o1 : Vec Ideal S1x512x512 .bf16)
    (w0 w1 : Vec Ideal S1x1x512x1024 .bf16) (w : Vec Ideal S1x1024x1024 .bf16) (b : Vec Ideal S1x1024 .f32) (r : Fin 512) (k : Fin 1024) :
    k0_pay5 h g0 o0 w0 w b o1 w1 (ix2 r k) = g0 (ix2 r k) * (∑ c : Fin 512, o0 (ix3 0 r c) * w0 (ix4 0 0 c k))
      + Ideal.logistic ((∑ j : Fin 1024, h (ix2 r j) * w (ix3 0 j k)) + b (ix2 0 k)) * (∑ c : Fin 512, o1 (ix3 0 r c) * w1 (ix4 0 0 c k)) := by
  pointwise [k0_pay5]

theorem pay8_at (x : FVec Ideal S512x1024 .f32) (s g2 : FVec Ideal S512x1024 .f32) (o2 : FVec Ideal S512x512 .bf16)
    (w2 : Vec Ideal S1x1x512x1024 .bf16) (wo : Vec Ideal S1x1024x1024 .bf16) (gt : Vec Ideal S1x1x1024 .f32) (r : Fin 512) (k : Fin 1024) :
    k0_pay8 x s g2 o2 w2 wo gt (ix2 r k) = x (ix2 r k) + gt (ix3 0 0 k)
      * ∑ j : Fin 1024, (s (ix2 r j) + g2 (ix2 r j) * ∑ c : Fin 512, o2 (ix2 r c) * w2 (ix4 0 0 c j)) * wo (ix3 0 j k) := by
  pointwise [k0_pay8]

theorem pay2_at (x : Vec Ideal S1x512x1024 .f32) (r : Fin 512) (k : Fin 1024) : k0_pay2 x (ix2 r k) = x (ix3 0 r k) := by
  pointwise [k0_pay2]

theorem pay7_at (o : Vec Ideal S1x512x512 .bf16) (r c : Fin 512) : k0_pay7 o (ix2 r c) = o (ix3 0 r c) := by
  pointwise [k0_pay7]

theorem pay9_at (x : FVec Ideal S512x1024 .f32) (s g2 : FVec Ideal S512x1024 .f32) (o2 : FVec Ideal S512x512 .bf16)
    (w2 : Vec Ideal S1x1x512x1024 .bf16) (wo : Vec Ideal S1x1024x1024 .bf16) (gt : Vec Ideal S1x1x1024 .f32) (r : Fin 512) (k : Fin 1024) :
    k0_pay9 x s g2 o2 w2 wo gt (ix3 0 r k) = k0_pay8 x s g2 o2 w2 wo gt (ix2 r k) := by
  pointwise [k0_pay9]

/-- The second normalised block, of the residual block `v` that `k0_pay13` normalises. -/
theorem pay1_at (x : FVec Ideal S512x1024 .f32) (s g2 : FVec Ideal S512x1024 .f32) (o2 : FVec Ideal S512x512 .bf16)
    (w2 : Vec Ideal S1x1x512x1024 .bf16) (wo : Vec Ideal S1x1024x1024 .bf16) (gt sc sh : Vec Ideal S1x1x1024 .f32) (g : Vec Ideal S1x1024 .f32)
    (r : Fin 512) (k : Fin 1024) :
    k0_pay1 (k0_pay10 g) (k0_pay11 sc) (k0_pay12 sh) (k0_pay13 x s g2 o2 w2 wo gt) (ix3 0 r k)
    = normed (fun k => k0_pay8 x s g2 o2 w2 wo gt (ix2 r k)) (fun k => g (ix2 0 k)) (fun k => sc (ix3 0 0 k)) (fun k => sh (ix3 0 0 k)) k := by
  pointwise [k0_pay1, k0_pay10, k0_pay11, k0_pay12, k0_pay13, normed]

/-- The columns of one branch's gate, cut from the gate weights. -/
theorem ld_gate (x : Vec Ideal S1x1024x3072 .bf16) (n : Fin 3) {o : Fin 3 → ℕ} (ho : o = ![0, 0, 1024 * n.val])
    (i : ∀ a, o a + ![1, 1024, 1024] a ≤ S1x1024x3072.size a) (j k : Fin 1024) :
    View.ld x (Rect.unit o ![1, 1024, 1024] i) (ix3 0 j k) = x (ix3 0 j (col n k)) := by
  subst ho
  pointwise []

theorem ld_bias (x : Vec Ideal S1x3072 .f32) (n : Fin 3) {o : Fin 2 → ℕ} (ho : o = ![0, 1024 * n.val])
    (i : ∀ a, o a + ![1, 1024] a ≤ S1x3072.size a) (k : Fin 1024) :
    View.ld x (Rect.unit o ![1, 1024] i) (ix2 0 k) = x (ix2 0 (col n k)) := by
  subst ho
  pointwise []

theorem ld_branch (x : Vec Ideal S1x3x512x1024 .bf16) (n : Fin 3) {o : Fin 4 → ℕ} (ho : o = ![0, n.val, 0, 0])
    (i : ∀ a, o a + ![1, 1, 512, 1024] a ≤ S1x3x512x1024.size a) (c : Fin 512) (k : Fin 1024) :
    View.ld x (Rect.unit o ![1, 1, 512, 1024] i) (ix4 0 0 c k) = x (ix4 0 n c k) := by
  subst ho
  pointwise []

section Block

variable (x0 : Vec Ideal S1x512x1024 .f32) (x1 x2 x3 : Vec Ideal S1x512x512 .bf16) (x4 x5 x6 x7 x8 : Vec Ideal S1x1x1024 .f32)
  (x9 x10 : Vec Ideal S1x1024 .f32) (x11 : Vec Ideal S1x1024x3072 .bf16) (x12 : Vec Ideal S1x3072 .f32) (x13 : Vec Ideal S1x3x512x1024 .bf16)
  (x14 : Vec Ideal S1x1024x1024 .bf16)

/-- Row `r` of the residual block, of the blocks the kernel loads. -/
def rowOf (r : Fin 512) : Fin 1024 → EReal :=
  mixed (fun k => x0 (ix3 0 r k)) (fun k => x9 (ix2 0 k)) (fun k => x4 (ix3 0 0 k)) (fun k => x5 (ix3 0 0 k)) (fun k => x6 (ix3 0 0 k))
    (fun c => x1 (ix3 0 r c)) (fun c => x2 (ix3 0 r c)) (fun c => x3 (ix3 0 r c)) (fun j k => x11 (ix3 0 j k)) (fun k => x12 (ix2 0 k))
    (fun n c k => x13 (ix4 0 n c k)) (fun j k => x14 (ix3 0 j k))

theorem resid_at (r : Fin 512) (k : Fin 1024) :
    k0_pay8 (k0_pay14 x0 x1 x2 x3 x4 x5 x6 x7 x8 x9 x10 x11 x12 x13 x14) (k0_pay16 x0 x1 x2 x3 x4 x5 x6 x7 x8 x9 x10 x11 x12 x13 x14)
      (k0_pay17 x0 x1 x2 x3 x4 x5 x6 x7 x8 x9 x10 x11 x12 x13 x14) (k0_pay18 x0 x1 x2 x3 x4 x5 x6 x7 x8 x9 x10 x11 x12 x13 x14)
      (View.ld x13 r0_12) (View.ld x14 r0_13) (View.ld x6 r0_2) (ix2 r k)
    = rowOf x0 x1 x2 x3 x4 x5 x6 x9 x11 x12 x13 x14 r k := by
  have g0 : ∀ j k, View.ld x11 r0_3 (ix3 0 j k) = x11 (ix3 0 j (col 0 k)) := fun j k => ld_gate x11 0 rfl _ j k
  have g1 : ∀ j k, View.ld x11 r0_7 (ix3 0 j k) = x11 (ix3 0 j (col 1 k)) := fun j k => ld_gate x11 1 rfl _ j k
  have g2 : ∀ j k, View.ld x11 r0_10 (ix3 0 j k) = x11 (ix3 0 j (col 2 k)) := fun j k => ld_gate x11 2 rfl _ j k
  have b0 : ∀ k, View.ld x12 r0_4 (ix2 0 k) = x12 (ix2 0 (col 0 k)) := fun k => ld_bias x12 0 rfl _ k
  have b1 : ∀ k, View.ld x12 r0_8 (ix2 0 k) = x12 (ix2 0 (col 1 k)) := fun k => ld_bias x12 1 rfl _ k
  have b2 : ∀ k, View.ld x12 r0_11 (ix2 0 k) = x12 (ix2 0 (col 2 k)) := fun k => ld_bias x12 2 rfl _ k
  have w0 : ∀ c k, View.ld x13 r0_6 (ix4 0 0 c k) = x13 (ix4 0 0 c k) := fun c k => ld_branch x13 0 rfl _ c k
  have w1 : ∀ c k, View.ld x13 r0_9 (ix4 0 0 c k) = x13 (ix4 0 1 c k) := fun c k => ld_branch x13 1 rfl _ c k
  have w2 : ∀ c k, View.ld x13 r0_12 (ix4 0 0 c k) = x13 (ix4 0 2 c k) := fun c k => ld_branch x13 2 rfl _ c k
  have e0 : ∀ r k, View.ld x0 r0_0 (ix3 0 r k) = x0 (ix3 0 r k) := by intro r k; pointwise []
  have e1 : ∀ (x : Vec Ideal S1x512x512 .bf16) r c, View.ld x r0_5 (ix3 0 r c) = x (ix3 0 r c) := by intro x r k; pointwise []
  have e2 : ∀ (x : Vec Ideal S1x1x1024 .f32) k, View.ld x r0_2 (ix3 0 0 k) = x (ix3 0 0 k) := by intro x k; pointwise []
  have e3 : ∀ (x : Vec Ideal S1x1024 .f32) k, View.ld x r0_1 (ix2 0 k) = x (ix2 0 k) := by intro x k; pointwise []
  have e4 : ∀ j k, View.ld x14 r0_13 (ix3 0 j k) = x14 (ix3 0 j k) := by intro j k; pointwise []
  rw [pay8_at]
  simp only [k0_pay14, k0_pay16, k0_pay17, k0_pay18, k0_pay15, pay2_at, pay7_at, pay4_eq, pay5_at, pay6_at, pay3_at,
    g0, g1, g2, b0, b1, b2, w0, w1, w2, e0, e1 x1, e1 x2, e1 x3, e2 x4, e2 x5, e2 x6, e3 x9, e4]
  rfl

theorem out15_at (r : Fin 512) (k : Fin 1024) : out0_15 x0 x1 x2 x3 x4 x5 x6 x7 x8 x9 x10 x11 x12 x13 x14 (ix3 0 r k)
    = rowOf x0 x1 x2 x3 x4 x5 x6 x9 x11 x12 x13 x14 r k := by
  refine Eq.trans ?_ (resid_at x0 x1 x2 x3 x4 x5 x6 x7 x8 x9 x10 x11 x12 x13 x14 r k)
  rw [← pay9_at]
  unfold out0_15
  rw [View.canon_unit_zero (by decide)]

theorem out16_at (r : Fin 512) (k : Fin 1024) : out0_16 x0 x1 x2 x3 x4 x5 x6 x7 x8 x9 x10 x11 x12 x13 x14 (ix3 0 r k)
    = normed (rowOf x0 x1 x2 x3 x4 x5 x6 x9 x11 x12 x13 x14 r) (fun k => x10 (ix2 0 k)) (fun k => x7 (ix3 0 0 k)) (fun k => x8 (ix3 0 0 k)) k := by
  have e2 : ∀ (x : Vec Ideal S1x1x1024 .f32) k, View.ld x r0_2 (ix3 0 0 k) = x (ix3 0 0 k) := by intro x k; pointwise []
  have e3 : ∀ (x : Vec Ideal S1x1024 .f32) k, View.ld x r0_1 (ix2 0 k) = x (ix2 0 k) := by intro x k; pointwise []
  unfold out0_16
  rw [View.canon_unit_zero (by decide), pay1_at]
  simp only [resid_at, e2 x7, e2 x8, e3 x10]

end Block

end Cert.Merge

end
-- ==== Proof.MergeArray.lean ====
/- The merge kernel's two result arrays after the run, index by index, of its arguments. -/
module

public import proofs.«01_k».proof.Proof.MergeBlock
public import proofs.«01_k».proof.Proof.Gen.Kernel3Ideal.Value

@[expose] public section

set_option maxRecDepth 16384

noncomputable section

namespace Cert.Merge

open Cert.Kernel3Ideal Cert.Kernel3Ideal.Gen Cert.Kernel3Ideal.Value Idealize.ShloMosaic Idealize.ShloMosaic.TcCoe Idealize.SL.Sem

/-- The residual row after the merge, of token `t` of sequence `b`, of the argument arrays. -/
def rowAt (X : FVec Ideal S4x8192x1024 .f32) (O0 O1 O2 : FVec Ideal S4x8192x512 .bf16) (SC SH GT G : FVec Ideal S4x1024 .f32)
    (WG : FVec Ideal S4x1024x3072 .f32) (BG : FVec Ideal S4x3072 .f32) (WB : FVec Ideal S4x3x512x1024 .f32) (WO : FVec Ideal S4x1024x1024 .f32)
    (b : Fin 4) (t : Fin 8192) : Fin 1024 → EReal :=
  mixed (fun k => X (ix3 b t k)) (fun k => G (ix2 0 k)) (fun k => SC (ix2 b k)) (fun k => SH (ix2 b k)) (fun k => GT (ix2 b k))
    (fun c => O0 (ix3 b t c)) (fun c => O1 (ix3 b t c)) (fun c => O2 (ix3 b t c)) (fun j k => WG (ix3 0 j k)) (fun k => BG (ix2 0 k))
    (fun n c k => WB (ix4 0 n c k)) (fun j k => WO (ix3 0 j k))

/-- The residual array after the merge. -/
def resArr (X : FVec Ideal S4x8192x1024 .f32) (O0 O1 O2 : FVec Ideal S4x8192x512 .bf16) (SC SH GT G : FVec Ideal S4x1024 .f32)
    (WG : FVec Ideal S4x1024x3072 .f32) (BG : FVec Ideal S4x3072 .f32) (WB : FVec Ideal S4x3x512x1024 .f32) (WO : FVec Ideal S4x1024x1024 .f32) :
    FVec Ideal S4x8192x1024 .f32 := fun y => rowAt X O0 O1 O2 SC SH GT G WG BG WB WO (y 0) (y 1) (y 2)

/-- The normalised array the router and the experts take. -/
def ffnArr (X : FVec Ideal S4x8192x1024 .f32) (O0 O1 O2 : FVec Ideal S4x8192x512 .bf16) (SC SH GT SCF SHF G GF : FVec Ideal S4x1024 .f32)
    (WG : FVec Ideal S4x1024x3072 .f32) (BG : FVec Ideal S4x3072 .f32) (WB : FVec Ideal S4x3x512x1024 .f32) (WO : FVec Ideal S4x1024x1024 .f32) :
    FVec Ideal S4x8192x1024 .bf16 := fun y => normed (rowAt X O0 O1 O2 SC SH GT G WG BG WB WO (y 0) (y 1)) (fun k => GF (ix2 0 k))
      (fun k => SCF (ix2 (y 0) k)) (fun k => SHF (ix2 (y 0) k)) (y 2)

variable (m : (l : Idealize.ShloMosaic.Loc nD τ sig) → Buf (Elt Ideal) l) (c : Dev nD)

/-! The arrays the host prepares, of the arguments. -/

theorem V_scm (b : Fin 4) (k : Fin 1024) : V m c main_v0 (ix3 b 0 k) = m ((c : Thread nD τ).loc main_arg4) (ix2 b k) := by
  entry_read
  pointwise

theorem V_shm (b : Fin 4) (k : Fin 1024) : V m c main_v1 (ix3 b 0 k) = m ((c : Thread nD τ).loc main_arg5) (ix2 b k) := by
  entry_read
  pointwise

theorem V_gtm (b : Fin 4) (k : Fin 1024) : V m c main_v2 (ix3 b 0 k) = m ((c : Thread nD τ).loc main_arg6) (ix2 b k) := by
  entry_read
  pointwise

theorem V_scf (b : Fin 4) (k : Fin 1024) : V m c main_v3 (ix3 b 0 k) = m ((c : Thread nD τ).loc main_arg7) (ix2 b k) := by
  entry_read
  pointwise

theorem V_shf (b : Fin 4) (k : Fin 1024) : V m c main_v4 (ix3 b 0 k) = m ((c : Thread nD τ).loc main_arg8) (ix2 b k) := by
  entry_read
  pointwise

theorem V_gmix (k : Fin 1024) : V m c main_v10 (ix2 0 k) = m ((c : Thread nD τ).loc main_arg9) (ix2 0 k) := by
  entry_read
  pointwise

theorem V_gffn (k : Fin 1024) : V m c main_v13 (ix2 0 k) = m ((c : Thread nD τ).loc main_arg10) (ix2 0 k) := by
  entry_read
  pointwise

theorem V_bg (k : Fin 3072) : V m c main_v16 (ix2 0 k) = m ((c : Thread nD τ).loc main_arg12) (ix2 0 k) := by
  entry_read
  pointwise

theorem V_wg (l : Fin 4) (j : Fin 1024) (k : Fin 3072) : V m c main_v5 (ix3 l j k) = m ((c : Thread nD τ).loc main_arg11) (ix3 l j k) := by
  entry_read
  pointwise

theorem V_wb (l : Fin 4) (n : Fin 3) (j : Fin 512) (k : Fin 1024) : V m c main_v6 (ix4 l n j k) = m ((c : Thread nD τ).loc main_arg13) (ix4 l n j k) := by
  entry_read
  pointwise

theorem V_wo (l : Fin 4) (j k : Fin 1024) : V m c main_v7 (ix3 l j k) = m ((c : Thread nD τ).loc main_arg14) (ix3 l j k) := by
  entry_read
  pointwise

/-- Which block each window holds at a grid point. -/
theorem idx_all : ∀ t : Fin cfg0.N, win0_0.index t = ![t.val / 16, t.val % 16, 0]
    ∧ win0_1.index t = ![t.val / 16, t.val % 16, 0]
    ∧ win0_2.index t = ![t.val / 16, t.val % 16, 0]
    ∧ win0_3.index t = ![t.val / 16, t.val % 16, 0]
    ∧ win0_4.index t = ![t.val / 16, 0, 0]
    ∧ win0_5.index t = ![t.val / 16, 0, 0]
    ∧ win0_6.index t = ![t.val / 16, 0, 0]
    ∧ win0_7.index t = ![t.val / 16, 0, 0]
    ∧ win0_8.index t = ![t.val / 16, 0, 0]
    ∧ win0_9.index t = ![0, 0]
    ∧ win0_10.index t = ![0, 0]
    ∧ win0_11.index t = ![0, 0, 0]
    ∧ win0_12.index t = ![0, 0]
    ∧ win0_13.index t = ![0, 0, 0, 0]
    ∧ win0_14.index t = ![0, 0, 0]
    ∧ win0_15.index t = ![t.val / 16, t.val % 16, 0]
    ∧ win0_16.index t = ![t.val / 16, t.val % 16, 0] :=
  (by decide +kernel : ∀ t : Fin grid0.N, _)

/-- The sequence and the tokens of grid point `t`'s block. -/
abbrev seqOf (t : Fin cfg0.N) : Fin 4 := ⟨t.val / 16, by have := t.isLt; have : cfg0.N = 64 := rfl; omega⟩

abbrev tokOf (t : Fin cfg0.N) (r : Fin 512) : Fin 8192 := ⟨512 * (t.val % 16) + r.val, by omega⟩

theorem blk_x (t : Fin cfg0.N) (r : Fin 512) (k : Fin 1024) : iblk m c 0 t (ix3 0 r k)
    = m ((c : Thread nD τ).loc main_arg0) (ix3 (seqOf t) (tokOf t r) k) := by
  obtain ⟨h0, h1, h2, h3, h4, h5, h6, h7, h8, h9, h10, h11, h12, h13, h14, h15, h16⟩ := idx_all t
  blk_ext [iblk, h0, V_main_arg0]

theorem blk_o1 (t : Fin cfg0.N) (r k : Fin 512) : iblk m c 1 t (ix3 0 r k)
    = m ((c : Thread nD τ).loc main_arg1) (ix3 (seqOf t) (tokOf t r) k) := by
  obtain ⟨h0, h1, h2, h3, h4, h5, h6, h7, h8, h9, h10, h11, h12, h13, h14, h15, h16⟩ := idx_all t
  blk_ext [iblk, h1, V_main_arg1]

theorem blk_o2 (t : Fin cfg0.N) (r k : Fin 512) : iblk m c 2 t (ix3 0 r k)
    = m ((c : Thread nD τ).loc main_arg2) (ix3 (seqOf t) (tokOf t r) k) := by
  obtain ⟨h0, h1, h2, h3, h4, h5, h6, h7, h8, h9, h10, h11, h12, h13, h14, h15, h16⟩ := idx_all t
  blk_ext [iblk, h2, V_main_arg2]

theorem blk_o3 (t : Fin cfg0.N) (r k : Fin 512) : iblk m c 3 t (ix3 0 r k)
    = m ((c : Thread nD τ).loc main_arg3) (ix3 (seqOf t) (tokOf t r) k) := by
  obtain ⟨h0, h1, h2, h3, h4, h5, h6, h7, h8, h9, h10, h11, h12, h13, h14, h15, h16⟩ := idx_all t
  blk_ext [iblk, h3, V_main_arg3]

theorem blk_scm (t : Fin cfg0.N) (k : Fin 1024) : iblk m c 4 t (ix3 0 0 k)
    = m ((c : Thread nD τ).loc main_arg4) (ix2 (seqOf t) k) := by
  obtain ⟨h0, h1, h2, h3, h4, h5, h6, h7, h8, h9, h10, h11, h12, h13, h14, h15, h16⟩ := idx_all t
  refine Eq.trans ?_ (V_scm m c (seqOf t) k)
  blk_ext [iblk, h4]

theorem blk_shm (t : Fin cfg0.N) (k : Fin 1024) : iblk m c 5 t (ix3 0 0 k)
    = m ((c : Thread nD τ).loc main_arg5) (ix2 (seqOf t) k) := by
  obtain ⟨h0, h1, h2, h3, h4, h5, h6, h7, h8, h9, h10, h11, h12, h13, h14, h15, h16⟩ := idx_all t
  refine Eq.trans ?_ (V_shm m c (seqOf t) k)
  blk_ext [iblk, h5]

theorem blk_gtm (t : Fin cfg0.N) (k : Fin 1024) : iblk m c 6 t (ix3 0 0 k)
    = m ((c : Thread nD τ).loc main_arg6) (ix2 (seqOf t) k) := by
  obtain ⟨h0, h1, h2, h3, h4, h5, h6, h7, h8, h9, h10, h11, h12, h13, h14, h15, h16⟩ := idx_all t
  refine Eq.trans ?_ (V_gtm m c (seqOf t) k)
  blk_ext [iblk, h6]

theorem blk_scf (t : Fin cfg0.N) (k : Fin 1024) : iblk m c 7 t (ix3 0 0 k)
    = m ((c : Thread nD τ).loc main_arg7) (ix2 (seqOf t) k) := by
  obtain ⟨h0, h1, h2, h3, h4, h5, h6, h7, h8, h9, h10, h11, h12, h13, h14, h15, h16⟩ := idx_all t
  refine Eq.trans ?_ (V_scf m c (seqOf t) k)
  blk_ext [iblk, h7]

theorem blk_shf (t : Fin cfg0.N) (k : Fin 1024) : iblk m c 8 t (ix3 0 0 k)
    = m ((c : Thread nD τ).loc main_arg8) (ix2 (seqOf t) k) := by
  obtain ⟨h0, h1, h2, h3, h4, h5, h6, h7, h8, h9, h10, h11, h12, h13, h14, h15, h16⟩ := idx_all t
  refine Eq.trans ?_ (V_shf m c (seqOf t) k)
  blk_ext [iblk, h8]

theorem blk_gmix (t : Fin cfg0.N) (k : Fin 1024) : iblk m c 9 t (ix2 0 k)
    = m ((c : Thread nD τ).loc main_arg9) (ix2 0 k) := by
  obtain ⟨h0, h1, h2, h3, h4, h5, h6, h7, h8, h9, h10, h11, h12, h13, h14, h15, h16⟩ := idx_all t
  refine Eq.trans ?_ (V_gmix m c k)
  blk_ext [iblk, h9]

theorem blk_gffn (t : Fin cfg0.N) (k : Fin 1024) : iblk m c 10 t (ix2 0 k)
    = m ((c : Thread nD τ).loc main_arg10) (ix2 0 k) := by
  obtain ⟨h0, h1, h2, h3, h4, h5, h6, h7, h8, h9, h10, h11, h12, h13, h14, h15, h16⟩ := idx_all t
  refine Eq.trans ?_ (V_gffn m c k)
  blk_ext [iblk, h10]

theorem blk_wg (t : Fin cfg0.N) (j : Fin 1024) (k : Fin 3072) : iblk m c 11 t (ix3 0 j k)
    = m ((c : Thread nD τ).loc main_arg11) (ix3 0 j k) := by
  obtain ⟨h0, h1, h2, h3, h4, h5, h6, h7, h8, h9, h10, h11, h12, h13, h14, h15, h16⟩ := idx_all t
  refine Eq.trans ?_ (V_wg m c 0 j k)
  blk_ext [iblk, h11]

theorem blk_bg (t : Fin cfg0.N) (k : Fin 3072) : iblk m c 12 t (ix2 0 k)
    = m ((c : Thread nD τ).loc main_arg12) (ix2 0 k) := by
  obtain ⟨h0, h1, h2, h3, h4, h5, h6, h7, h8, h9, h10, h11, h12, h13, h14, h15, h16⟩ := idx_all t
  refine Eq.trans ?_ (V_bg m c k)
  blk_ext [iblk, h12]

theorem blk_wb (t : Fin cfg0.N) (n : Fin 3) (j : Fin 512) (k : Fin 1024) : iblk m c 13 t (ix4 0 n j k)
    = m ((c : Thread nD τ).loc main_arg13) (ix4 0 n j k) := by
  obtain ⟨h0, h1, h2, h3, h4, h5, h6, h7, h8, h9, h10, h11, h12, h13, h14, h15, h16⟩ := idx_all t
  refine Eq.trans ?_ (V_wb m c 0 n j k)
  blk_ext [iblk, h13]

theorem blk_wo (t : Fin cfg0.N) (j k : Fin 1024) : iblk m c 14 t (ix3 0 j k)
    = m ((c : Thread nD τ).loc main_arg14) (ix3 0 j k) := by
  obtain ⟨h0, h1, h2, h3, h4, h5, h6, h7, h8, h9, h10, h11, h12, h13, h14, h15, h16⟩ := idx_all t
  refine Eq.trans ?_ (V_wo m c 0 j k)
  blk_ext [iblk, h14]

/-- A row of the residual block at a grid point, of the arguments. -/
theorem rowOf_blk (t : Fin cfg0.N) (r : Fin 512) :
    rowOf (iblk m c 0 t) (iblk m c 1 t) (iblk m c 2 t) (iblk m c 3 t) (iblk m c 4 t) (iblk m c 5 t) (iblk m c 6 t) (iblk m c 9 t)
      (iblk m c 11 t) (iblk m c 12 t) (iblk m c 13 t) (iblk m c 14 t) r
    = rowAt (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg9)) (m ((c : Thread nD τ).loc main_arg11)) (m ((c : Thread nD τ).loc main_arg12)) (m ((c : Thread nD τ).loc main_arg13)) (m ((c : Thread nD τ).loc main_arg14))
      (seqOf t) (tokOf t r) := by
  unfold rowOf rowAt
  simp only [blk_x, blk_o1, blk_o2, blk_o3, blk_scm, blk_shm, blk_gtm, blk_gmix, blk_wg, blk_bg, blk_wb, blk_wo]

theorem final15 : (dats m 0 c).arrAt 15 cfg0.N = resArr (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg9)) (m ((c : Thread nD τ).loc main_arg11)) (m ((c : Thread nD τ).loc main_arg12)) (m ((c : Thread nD τ).loc main_arg13)) (m ((c : Thread nD τ).loc main_arg14)) := by
  refine (dats m 0 c).arrAt_eq_of_covers 15 _ (by decide +kernel) fun t hf y => ?_
  have e := congrFun (flushed15 m c t) y
  obtain ⟨z, r, k, rfl⟩ : ∃ (z : Fin 1) (r : Fin 512) (k : Fin 1024), y = ix3 z r k := ⟨y 0, y 1, y 2, eq_ix3 y⟩
  obtain rfl : z = 0 := Subsingleton.elim _ _
  have ey : ((cfg0.win 15).blk t).view.emb (ix3 0 r k) = ix3 (seqOf t) (tokOf t r) k := by
    obtain ⟨h0, h1, h2, h3, h4, h5, h6, h7, h8, h9, h10, h11, h12, h13, h14, h15, h16⟩ := idx_all t
    blk_ext [h15]
  rw [ey]
  refine e.trans ?_
  show out0_15 (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (ix3 0 r k) = _
  rw [out15_at]
  exact congrFun (rowOf_blk m c t r) k

theorem final16 : (dats m 0 c).arrAt 16 cfg0.N = ffnArr (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12)) (m ((c : Thread nD τ).loc main_arg13)) (m ((c : Thread nD τ).loc main_arg14)) := by
  refine (dats m 0 c).arrAt_eq_of_covers 16 _ (by decide +kernel) fun t hf y => ?_
  have e := congrFun (flushed16 m c t) y
  obtain ⟨z, r, k, rfl⟩ : ∃ (z : Fin 1) (r : Fin 512) (k : Fin 1024), y = ix3 z r k := ⟨y 0, y 1, y 2, eq_ix3 y⟩
  obtain rfl : z = 0 := Subsingleton.elim _ _
  have ey : ((cfg0.win 16).blk t).view.emb (ix3 0 r k) = ix3 (seqOf t) (tokOf t r) k := by
    obtain ⟨h0, h1, h2, h3, h4, h5, h6, h7, h8, h9, h10, h11, h12, h13, h14, h15, h16⟩ := idx_all t
    blk_ext [h16]
  rw [ey]
  refine e.trans ?_
  show out0_16 (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (ix3 0 r k) = _
  rw [out16_at]
  rw [rowOf_blk]
  simp only [blk_scf, blk_shf, blk_gffn]
  rfl

/-- The merge kernel's run: both results, of the arguments. -/
theorem kernel_run (ρ : Dev nD → PrngReg) : θ_run defs (onTc (τ := τ) (main (F := Ideal))) ⟨m, fun _ => 0, ρ⟩ fun r => ∀ c : Dev nD,
      r.2.mem ((c : Thread nD τ).loc main_v17_0) = resArr (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg9)) (m ((c : Thread nD τ).loc main_arg11)) (m ((c : Thread nD τ).loc main_arg12)) (m ((c : Thread nD τ).loc main_arg13)) (m ((c : Thread nD τ).loc main_arg14))
      ∧ r.2.mem ((c : Thread nD τ).loc main_v17_1) = ffnArr (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12)) (m ((c : Thread nD τ).loc main_arg13)) (m ((c : Thread nD τ).loc main_arg14))
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5)
      ∧ r.2.mem ((c : Thread nD τ).loc main_arg6) = m ((c : Thread nD τ).loc main_arg6)
      ∧ r.2.mem ((c : Thread nD τ).loc main_arg7) = m ((c : Thread nD τ).loc main_arg7)
      ∧ r.2.mem ((c : Thread nD τ).loc main_arg8) = m ((c : Thread nD τ).loc main_arg8)
      ∧ r.2.mem ((c : Thread nD τ).loc main_arg9) = m ((c : Thread nD τ).loc main_arg9)
      ∧ r.2.mem ((c : Thread nD τ).loc main_arg10) = m ((c : Thread nD τ).loc main_arg10)
      ∧ r.2.mem ((c : Thread nD τ).loc main_arg11) = m ((c : Thread nD τ).loc main_arg11)
      ∧ r.2.mem ((c : Thread nD τ).loc main_arg12) = m ((c : Thread nD τ).loc main_arg12)
      ∧ r.2.mem ((c : Thread nD τ).loc main_arg13) = m ((c : Thread nD τ).loc main_arg13)
      ∧ r.2.mem ((c : Thread nD τ).loc main_arg14) = m ((c : Thread nD τ).loc main_arg14) :=
  (θ_run defs _ _).mono (fun _ h c => ⟨(h c).1.trans (final15 m c), (h c).2.1.trans (final16 m c), (h c).2.2⟩) (run_blocks m ρ)

end Cert.Merge

end
-- ==== Proof.MergeRef.lean ====
/- The merge's reference: its stages read at an index, and its run, whose two results are the arrays the kernel ends with. -/
module

public import proofs.«01_k».proof.Proof.MergeArray
public import proofs.«01_k».proof.Proof.Gen.Reference3Ideal.Run

@[expose] public section

set_option maxRecDepth 16384

noncomputable section

namespace Cert.Merge

open Cert.Reference3Ideal Cert.Reference3Ideal.Gen Cert.Reference3Ideal.Value Idealize.ShloMosaic Idealize.ShloMosaic.TcCoe Idealize.SL.Sem

/-- The reference's normalisation with its scale and shift. -/
def hostNormed (X : FVec Ideal S4x8192x1024 .f32) (G SC SH : FVec Ideal S4x1024 .f32) : FVec Ideal S4x8192x1024 .f32 :=
  addf (mulf (mulf (mulf X (broadcastInDim S4x8192x1024 ![0, 1, 2] bcast_S4x8192x1_S4x8192x1024_0_1_2 (Host.rsqrt (addf (Host.divf (broadcastInDim
    S4x8192x1 ![0, 1] bcast_S4x8192_S4x8192x1_0_1 (Host.reduceAdd (mulf X X) (constant S_ .f32 0x00000000#32) reducesTo_S4x8192x1024_S4x8192_d2 h_S_))
    (broadcastInDim S4x8192x1 ![] bcast_S_S4x8192x1 (constant S_ .f32 0x44800000#32))) (broadcastInDim S4x8192x1 ![] bcast_S_S4x8192x1 (constant S_
    .f32 0x358637BD#32)))))) (broadcastInDim S4x8192x1024 ![0, 1, 2] bcast_S1x1x1024_S4x8192x1024_0_1_2 (broadcastInDim S1x1x1024 ![2]
    bcast_S1024_S1x1x1024_2 (shapeCast _ (extractStridedSlice S1x1024 ![0, 0] G slices_S4x1024_S1x1024_0_0) shapeCasts_S1x1024_S1024))))
    (broadcastInDim S4x8192x1024 ![0, 1, 2] bcast_S4x1x1024_S4x8192x1024_0_1_2 (addf (broadcastInDim S4x1x1024 ![] bcast_S_S4x1x1024 (constant S_ .f32
    0x3F800000#32)) (broadcastInDim S4x1x1024 ![0, 2] bcast_S4x1024_S4x1x1024_0_2 SC)))) (broadcastInDim S4x8192x1024 ![0, 1, 2]
    bcast_S4x1x1024_S4x8192x1024_0_1_2 (broadcastInDim S4x1x1024 ![0, 2] bcast_S4x1024_S4x1x1024_0_2 SH))

/-- The reference's gates of the three branches. -/
def hostGates (H : FVec Ideal S4x8192x1024 .f32) (WG : FVec Ideal S4x1024x3072 .f32) (BG : FVec Ideal S4x3072 .f32) :
    FVec Ideal S4x8192x3x1024 .f32 :=
  shapeCast _ (Host.divf (broadcastInDim S4x8192x3072 ![] bcast_S_S4x8192x3072 (constant S_ .f32 0x3F800000#32)) (addf (broadcastInDim S4x8192x3072
    ![] bcast_S_S4x8192x3072 (constant S_ .f32 0x3F800000#32)) (Host.exp (Host.negf (addf (Host.dotGeneral
    dot_S4x8192x1024_S1024x3072_S4x8192x3072_2_0_01_1_n_n none H (shapeCast _ (extractStridedSlice S1x1024x3072 ![0, 0, 0] WG
    slices_S4x1024x3072_S1x1024x3072_0_0_0) shapeCasts_S1x1024x3072_S1024x3072)) (broadcastInDim S4x8192x3072 ![0, 1, 2]
    bcast_S1x1x3072_S4x8192x3072_0_1_2 (broadcastInDim S1x1x3072 ![2] bcast_S3072_S1x1x3072_2 (shapeCast _ (extractStridedSlice S1x3072 ![0, 0] BG
    slices_S4x3072_S1x3072_0_0) shapeCasts_S1x3072_S3072)))))))) shapeCasts_S4x8192x3072_S4x8192x3x1024

/-- The three branches through their output weights. -/
def hostBranches (O0 O1 O2 : FVec Ideal S4x8192x512 .bf16) (WB : FVec Ideal S4x3x512x1024 .f32) : FVec Ideal S4x8192x3x1024 .f32 :=
  transpose S4x8192x3x1024 [2, 3, 0, 1] (Host.dotGeneral dot_S3x512x1024_S4x8192x3x512_S3x1024x4x8192_1_3_2_01_0_2 none (shapeCast _
    (extractStridedSlice S1x3x512x1024 ![0, 0, 0, 0] WB slices_S4x3x512x1024_S1x3x512x1024_0_0_0_0) shapeCasts_S1x3x512x1024_S3x512x1024)
    ((concatenate S4x8192x3x512 2 [⟨S4x8192x1x512, ((broadcastInDim S4x8192x1x512 ![0, 1, 3] bcast_S4x8192x512_S4x8192x1x512_0_1_3 (extf .f32 O0
    bitsLt_bf16_f32)) : (⟨S4x8192x1x512, .f32⟩ : BufTy).Contents (Elt Ideal))⟩, ⟨S4x8192x1x512, ((broadcastInDim S4x8192x1x512 ![0, 1, 3]
    bcast_S4x8192x512_S4x8192x1x512_0_1_3 (extf .f32 O1 bitsLt_bf16_f32)) : (⟨S4x8192x1x512, .f32⟩ : BufTy).Contents (Elt Ideal))⟩, ⟨S4x8192x1x512,
    ((broadcastInDim S4x8192x1x512 ![0, 1, 3] bcast_S4x8192x512_S4x8192x1x512_0_1_3 (extf .f32 O2 bitsLt_bf16_f32)) : (⟨S4x8192x1x512, .f32⟩ :
    BufTy).Contents (Elt Ideal))⟩] concatenates_S4x8192x1x512_S4x8192x1x512_S4x8192x1x512_S4x8192x3x512_d2 : FVec Ideal S4x8192x3x512 .f32)))
    transposes_S3x1024x4x8192_S4x8192x3x1024_2_3_0_1

/-- The gated sum over the branches. -/
def hostMerged (H : FVec Ideal S4x8192x1024 .f32) (O0 O1 O2 : FVec Ideal S4x8192x512 .bf16) (WG : FVec Ideal S4x1024x3072 .f32)
    (BG : FVec Ideal S4x3072 .f32) (WB : FVec Ideal S4x3x512x1024 .f32) : FVec Ideal S4x8192x1024 .f32 :=
  Host.reduceAdd (mulf (hostGates H WG BG) (hostBranches O0 O1 O2 WB)) (constant S_ .f32 0x00000000#32) reducesTo_S4x8192x3x1024_S4x8192x1024_d2 h_S_

/-- The residual array. -/
def hostResid (X : FVec Ideal S4x8192x1024 .f32) (O0 O1 O2 : FVec Ideal S4x8192x512 .bf16) (SC SH GT G : FVec Ideal S4x1024 .f32)
    (WG : FVec Ideal S4x1024x3072 .f32) (BG : FVec Ideal S4x3072 .f32) (WB : FVec Ideal S4x3x512x1024 .f32) (WO : FVec Ideal S4x1024x1024 .f32) :
    FVec Ideal S4x8192x1024 .f32 :=
  addf X (mulf (broadcastInDim S4x8192x1024 ![0, 1, 2] bcast_S4x1x1024_S4x8192x1024_0_1_2 (broadcastInDim S4x1x1024 ![0, 2]
    bcast_S4x1024_S4x1x1024_0_2 GT)) (Host.dotGeneral dot_S4x8192x1024_S1024x1024_S4x8192x1024_2_0_01_1_n_n none (hostMerged (hostNormed X G SC SH) O0
    O1 O2 WG BG WB) (shapeCast _ (extractStridedSlice S1x1024x1024 ![0, 0, 0] WO slices_S4x1024x1024_S1x1024x1024_0_0_0)
    shapeCasts_S1x1024x1024_S1024x1024)))

theorem normed_at (X : FVec Ideal S4x8192x1024 .f32) (G SC SH : FVec Ideal S4x1024 .f32) (b : Fin 4) (t : Fin 8192) (k : Fin 1024) :
    hostNormed X G SC SH (ix3 b t k)
    = normed (fun k => X (ix3 b t k)) (fun k => G (ix2 0 k)) (fun k => SC (ix2 b k)) (fun k => SH (ix2 b k)) k := by
  pointwise [hostNormed, normed]

theorem gates_at (H : FVec Ideal S4x8192x1024 .f32) (WG : FVec Ideal S4x1024x3072 .f32) (BG : FVec Ideal S4x3072 .f32)
    (b : Fin 4) (t : Fin 8192) (n : Fin 3) (k : Fin 1024) : hostGates H WG BG (ix4 b t n k)
    = gate (fun j => H (ix3 b t j)) (fun j k => WG (ix3 0 j k)) (fun k => BG (ix2 0 k)) n k := by
  pointwise [hostGates, gate, Ideal.logistic]
  simp only [col, Nat.mul_comm]

theorem branch0_at (O0 O1 O2 : FVec Ideal S4x8192x512 .bf16) (WB : FVec Ideal S4x3x512x1024 .f32) (b : Fin 4) (t : Fin 8192) (k : Fin 1024) :
    hostBranches O0 O1 O2 WB (ix4 b t 0 k) = lift (fun c => O0 (ix3 b t c)) (fun c k => WB (ix4 0 0 c k)) k := by
  pointwise [hostBranches, lift]
  exact Finset.sum_congr rfl fun _ _ => mul_comm _ _

theorem branch1_at (O0 O1 O2 : FVec Ideal S4x8192x512 .bf16) (WB : FVec Ideal S4x3x512x1024 .f32) (b : Fin 4) (t : Fin 8192) (k : Fin 1024) :
    hostBranches O0 O1 O2 WB (ix4 b t 1 k) = lift (fun c => O1 (ix3 b t c)) (fun c k => WB (ix4 0 1 c k)) k := by
  pointwise [hostBranches, lift]
  exact Finset.sum_congr rfl fun _ _ => mul_comm _ _

theorem branch2_at (O0 O1 O2 : FVec Ideal S4x8192x512 .bf16) (WB : FVec Ideal S4x3x512x1024 .f32) (b : Fin 4) (t : Fin 8192) (k : Fin 1024) :
    hostBranches O0 O1 O2 WB (ix4 b t 2 k) = lift (fun c => O2 (ix3 b t c)) (fun c k => WB (ix4 0 2 c k)) k := by
  pointwise [hostBranches, lift]
  exact Finset.sum_congr rfl fun _ _ => mul_comm _ _

theorem merged_at (H : FVec Ideal S4x8192x1024 .f32) (O0 O1 O2 : FVec Ideal S4x8192x512 .bf16) (WG : FVec Ideal S4x1024x3072 .f32)
    (BG : FVec Ideal S4x3072 .f32) (WB : FVec Ideal S4x3x512x1024 .f32) (b : Fin 4) (t : Fin 8192) (k : Fin 1024) :
    hostMerged H O0 O1 O2 WG BG WB (ix3 b t k)
    = merged (fun j => H (ix3 b t j)) (fun c => O0 (ix3 b t c)) (fun c => O1 (ix3 b t c)) (fun c => O2 (ix3 b t c))
        (fun j k => WG (ix3 0 j k)) (fun k => BG (ix2 0 k)) (fun n c k => WB (ix4 0 n c k)) k := by
  have e : hostMerged H O0 O1 O2 WG BG WB (ix3 b t k)
      = ∑ n : Fin 3, hostGates H WG BG (ix4 b t n k) * hostBranches O0 O1 O2 WB (ix4 b t n k) := by
    pointwise [hostMerged]
  rw [e, Fin.sum_univ_three, gates_at, gates_at, gates_at, branch0_at, branch1_at, branch2_at]
  rfl

theorem resid_row (X : FVec Ideal S4x8192x1024 .f32) (O0 O1 O2 : FVec Ideal S4x8192x512 .bf16) (SC SH GT G : FVec Ideal S4x1024 .f32)
    (WG : FVec Ideal S4x1024x3072 .f32) (BG : FVec Ideal S4x3072 .f32) (WB : FVec Ideal S4x3x512x1024 .f32) (WO : FVec Ideal S4x1024x1024 .f32)
    (b : Fin 4) (t : Fin 8192) (k : Fin 1024) :
    hostResid X O0 O1 O2 SC SH GT G WG BG WB WO (ix3 b t k) = rowAt X O0 O1 O2 SC SH GT G WG BG WB WO b t k := by
  have e : hostResid X O0 O1 O2 SC SH GT G WG BG WB WO (ix3 b t k) = X (ix3 b t k) + GT (ix2 b k)
      * ∑ j : Fin 1024, hostMerged (hostNormed X G SC SH) O0 O1 O2 WG BG WB (ix3 b t j) * WO (ix3 0 j k) := by
    pointwise [hostResid]
  rw [e]
  simp only [merged_at, normed_at]
  rfl

variable (m : (l : Idealize.ShloMosaic.Loc nD τ sig) → Buf (Elt Ideal) l) (c : Dev nD)

theorem hostResid_eq (X : FVec Ideal S4x8192x1024 .f32) (O0 O1 O2 : FVec Ideal S4x8192x512 .bf16) (SC SH GT G : FVec Ideal S4x1024 .f32)
    (WG : FVec Ideal S4x1024x3072 .f32) (BG : FVec Ideal S4x3072 .f32) (WB : FVec Ideal S4x3x512x1024 .f32) (WO : FVec Ideal S4x1024x1024 .f32) :
    hostResid X O0 O1 O2 SC SH GT G WG BG WB WO = resArr X O0 O1 O2 SC SH GT G WG BG WB WO := by
  funext y
  obtain ⟨b, t, k, rfl⟩ : ∃ (b : Fin 4) (t : Fin 8192) (k : Fin 1024), y = ix3 b t k := ⟨y 0, y 1, y 2, eq_ix3 y⟩
  exact resid_row X O0 O1 O2 SC SH GT G WG BG WB WO b t k

theorem ref_ffn : res_out1 m c = ffnArr (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12)) (m ((c : Thread nD τ).loc main_arg13)) (m ((c : Thread nD τ).loc main_arg14)) := by
  refine (show res_out1 m c = truncf .bf16 (hostNormed (hostResid (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg9)) (m ((c : Thread nD τ).loc main_arg11)) (m ((c : Thread nD τ).loc main_arg12)) (m ((c : Thread nD τ).loc main_arg13)) (m ((c : Thread nD τ).loc main_arg14)))
    (m ((c : Thread nD τ).loc main_arg10)) (m ((c : Thread nD τ).loc main_arg7)) (m ((c : Thread nD τ).loc main_arg8))) bitsLt_bf16_f32 from rfl).trans ?_
  funext y
  obtain ⟨b, t, k, rfl⟩ : ∃ (b : Fin 4) (t : Fin 8192) (k : Fin 1024), y = ix3 b t k := ⟨y 0, y 1, y 2, eq_ix3 y⟩
  refine (normed_at _ _ _ _ b t k).trans ?_
  simp only [resid_row]
  rfl

/-- The reference's run: both results, of the arguments. -/
theorem reference_run (ρ : Dev nD → PrngReg) : θ_run (defs (F := Ideal)) (onTc (τ := τ) (main (F := Ideal))) ⟨m, fun _ => 0, ρ⟩ fun r => ∀ c : Dev nD,
      r.2.mem ((c : Thread nD τ).loc main_v57) = resArr (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg9)) (m ((c : Thread nD τ).loc main_arg11)) (m ((c : Thread nD τ).loc main_arg12)) (m ((c : Thread nD τ).loc main_arg13)) (m ((c : Thread nD τ).loc main_arg14))
      ∧ r.2.mem ((c : Thread nD τ).loc main_v81) = ffnArr (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12)) (m ((c : Thread nD τ).loc main_arg13)) (m ((c : Thread nD τ).loc main_arg14))
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5)
      ∧ r.2.mem ((c : Thread nD τ).loc main_arg6) = m ((c : Thread nD τ).loc main_arg6)
      ∧ r.2.mem ((c : Thread nD τ).loc main_arg7) = m ((c : Thread nD τ).loc main_arg7)
      ∧ r.2.mem ((c : Thread nD τ).loc main_arg8) = m ((c : Thread nD τ).loc main_arg8)
      ∧ r.2.mem ((c : Thread nD τ).loc main_arg9) = m ((c : Thread nD τ).loc main_arg9)
      ∧ r.2.mem ((c : Thread nD τ).loc main_arg10) = m ((c : Thread nD τ).loc main_arg10)
      ∧ r.2.mem ((c : Thread nD τ).loc main_arg11) = m ((c : Thread nD τ).loc main_arg11)
      ∧ r.2.mem ((c : Thread nD τ).loc main_arg12) = m ((c : Thread nD τ).loc main_arg12)
      ∧ r.2.mem ((c : Thread nD τ).loc main_arg13) = m ((c : Thread nD τ).loc main_arg13)
      ∧ r.2.mem ((c : Thread nD τ).loc main_arg14) = m ((c : Thread nD τ).loc main_arg14) :=
  (θ_run defs _ _).mono (fun _ h c => ⟨(h c).1.trans (hostResid_eq _ _ _ _ _ _ _ _ _ _ _ _), (h c).2.1.trans (ref_ffn m c), (h c).2.2⟩) (run m ρ)

end Cert.Merge

end
-- ==== Proof.MergeClaim.lean ====
/- The merge's claims: the reference's frame and the value, of the two runs. -/
module

public import proofs.«01_k».proof.Defs
public import proofs.«01_k».proof.Proof.MergeRef
public import proofs.«01_k».proof.Proof.Gen.Kernel3Ideal
public import proofs.«01_k».proof.Proof.Gen.Reference3Ideal
public import Idealize.ShloMosaic.Adequacy
public import Idealize.ShloMosaic.Init

@[expose] public section

noncomputable section

namespace Cert.Merge

open Idealize.ShloMosaic Idealize.SL.Sem

/-- The reference keeps its arguments, and declares no semaphore. -/
theorem frame_ref : Cert.quiescent_Reference3Ideal := fun m ρ _ =>
  (θ_run Cert.Reference3Ideal.defs _ _).mono (fun r h => ⟨fun c => (h c).2.2, sem_eq_zero_of_no_sems (by decide) r.2⟩)
    (reference_run m ρ)

/-- Both sides end at `resArr` and `ffnArr` of their arguments, which agree. -/
theorem value : Cert.algebraic_Kernel3Ideal_Reference3Ideal := by
  intro m g m' g' _ hag
  refine ⟨_, _, kernel_run m g, (θ_run Cert.Reference3Ideal.defs _ _).mono (fun r h c => ?_) (reference_run m' g')⟩
  obtain ⟨h0, h1, h2⟩ := h c
  obtain ⟨a0, a1, a2, a3, a4, a5, a6, a7, a8, a9, a10, a11, a12, a13, a14⟩ := hag c
  refine ⟨h0.trans ?_, h1.trans ?_, h2⟩
  · rw [a0, a1, a2, a3, a4, a5, a6, a9, a11, a12, a13, a14]
  · rw [a0, a1, a2, a3, a4, a5, a6, a7, a8, a9, a10, a11, a12, a13, a14]

end Cert.Merge

end
-- ==== Proof.ProjMath.lean ====
/- The input projection at one token, over extended reals: what both of its programs compute. -/
module

public import proofs.«01_k».proof.Proof.MergeMath

@[expose] public section

noncomputable section

namespace Cert.Proj

open Idealize.ShloMosaic

/-- Lane `d` of head `n`, of four heads of 128 lanes. -/
abbrev lane (n : Fin 4) (d : Fin 128) : Fin 512 := ⟨128 * n.val + d.val, by omega⟩

/-- Lane `i` of head `q`, of eight heads of 64 lanes. -/
abbrev sub (q : Fin 8) (i : Fin 64) : Fin 512 := ⟨64 * q.val + i.val, by omega⟩

/-- Lane `l` of the projected row's column group `j`, of eleven groups of 512. -/
abbrev grp (j : Fin 11) (l : Fin 512) : Fin 5632 := ⟨512 * j.val + l.val, by omega⟩

theorem lane_zero (d : Fin 128) : lane 0 d = ⟨d.val, by omega⟩ := Fin.ext (Nat.zero_add _)

theorem sub_zero (i : Fin 64) : sub 0 i = ⟨i.val, by omega⟩ := Fin.ext (Nat.zero_add _)

/-- The row `h` through 512 columns `w` of the input weights. -/
def dotRow (h : Fin 1024 → EReal) (w : Fin 1024 → Fin 512 → EReal) (l : Fin 512) : EReal := ∑ k : Fin 1024, h k * w k l

/-- The lane that the rotation pairs with lane `d` of a head: the one half a head away. -/
abbrev other (d : Fin 128) : Fin 128 := ⟨(d.val + 128 - 64) % 128, by omega⟩

/-- The rotary embedding of a head `n` at lane `d`, from the cosines and the signed sines of a token. -/
def rot (a : Fin 512 → EReal) (cs sn : Fin 128 → EReal) (n : Fin 4) (d : Fin 128) : EReal :=
  a (lane n d) * cs d + a (lane n (other d)) * sn d

/-- The root-mean-square normalisation of head `q` at lane `i`. -/
def rms (a : Fin 512 → EReal) (q : Fin 8) (i : Fin 64) : EReal :=
  a (sub q i) * Ideal.rsqrt (Ideal.div (∑ j : Fin 64, a (sub q j) * a (sub q j)) (Ideal.ofBits .f32 0x42800000#32) + Ideal.ofBits .f32 0x358637BD#32)

/-- The lanes below 64, as the kernel's comparison tells them apart. -/
theorem low (d : Fin 128) : IntOp.cmpi .slt (BitVec.ofNat 32 d.val) 64#32 = if d.val < 64 then 1#1 else 0#1 := by
  revert d; decide

/-- What a lane reads of the two masked sums over the 128 lanes of two heads. -/
def masked (s : Fin 128 → EReal) (d : Fin 128) : EReal :=
  Scalar.select (IntOp.cmpi .slt (BitVec.ofNat 32 d.val) 64#32)
    (∑ x : Fin 128, Scalar.select (IntOp.cmpi .slt (BitVec.ofNat 32 x.val) 64#32) (s x) 0)
    (∑ x : Fin 128, Scalar.select (IntOp.cmpi .slt (BitVec.ofNat 32 x.val) 64#32) 0 (s x))

/-- Each half's lanes read the sum over that half. -/
theorem masked_at (s : Fin 128 → EReal) (p : Fin 2) (i : Fin 64) :
    masked s ⟨64 * p.val + i.val, by omega⟩ = ∑ j : Fin 64, s ⟨64 * p.val + j.val, by omega⟩ := by
  have split : ∀ f : Fin 128 → EReal, ∑ x, f x = (∑ j : Fin 64, f ⟨j.val, by omega⟩) + ∑ j : Fin 64, f ⟨64 + j.val, by omega⟩ :=
    fun f => Fin.sum_univ_add (a := 64) (b := 64) f
  have lo : ∀ j : Fin 64, IntOp.cmpi .slt (BitVec.ofNat 32 j.val) 64#32 = 1#1 := fun j => (low ⟨j.val, by omega⟩).trans (if_pos j.isLt)
  have hi : ∀ j : Fin 64, IntOp.cmpi .slt (BitVec.ofNat 32 (64 + j.val)) 64#32 = 0#1 :=
    fun j => (low ⟨64 + j.val, by omega⟩).trans (if_neg (Nat.not_lt.2 (Nat.le_add_right _ _)))
  have one : ∀ a b : EReal, Scalar.select 1#1 a b = a := fun _ _ => rfl
  have zer : ∀ a b : EReal, Scalar.select 0#1 a b = b := fun _ _ => rfl
  unfold masked
  rw [split, split]
  simp only [lo, hi, one, zer, Finset.sum_const_zero, add_zero, zero_add]
  fin_cases p
  · simp [lo, one]
  · simp [hi, zer]

/-- A product with 1/64 is a quotient by 64. -/
theorem div64 (x : EReal) : x * Ideal.ofBits .f32 0x3C800000#32 = Ideal.div x (Ideal.ofBits .f32 0x42800000#32) := by
  have e : Ideal.ofBits .f32 0x42800000#32 = ((64 : ℝ) : EReal) := by
    simp [Ideal.ofBits, Ideal.ieee, -EReal.coe_mul]
    norm_num
  have f : Ideal.ofBits .f32 0x3C800000#32 = ((1 / 64 : ℝ) : EReal) := by
    simp [Ideal.ofBits, Ideal.ieee, -EReal.coe_mul]
    norm_num
  rw [e, f, Ideal.div_coe (by norm_num : (64 : ℝ) ≠ 0)]

/-- A product with 1/16 is a quotient by 16. -/
theorem div16 (x : EReal) : x * Ideal.ofBits .f32 0x3D800000#32 = Ideal.div x (Ideal.ofBits .f32 0x41800000#32) := by
  have e : Ideal.ofBits .f32 0x41800000#32 = ((16 : ℝ) : EReal) := by
    simp [Ideal.ofBits, Ideal.ieee, -EReal.coe_mul]
    norm_num
  have f : Ideal.ofBits .f32 0x3D800000#32 = ((1 / 16 : ℝ) : EReal) := by
    simp [Ideal.ofBits, Ideal.ieee, -EReal.coe_mul]
    norm_num
  rw [e, f, Ideal.div_coe (by norm_num : (16 : ℝ) ≠ 0)]

/-- A function of a head of 128 lanes and a lane of it, at one of the 512 lanes. -/
def byLane (f : Fin 4 → Fin 128 → EReal) (l : Fin 512) : EReal := f ⟨l.val / 128, by omega⟩ ⟨l.val % 128, by omega⟩

/-- A function of a head of 64 lanes and a lane of it, at one of the 512 lanes. -/
def bySub (f : Fin 8 → Fin 64 → EReal) (l : Fin 512) : EReal := f ⟨l.val / 64, by omega⟩ ⟨l.val % 64, by omega⟩

/-- A function of a column group and a lane of it, at one of the 5632 columns. -/
def byGrp (f : Fin 11 → Fin 512 → EReal) (q : Fin 5632) : EReal := f ⟨q.val / 512, by omega⟩ ⟨q.val % 512, by omega⟩

theorem byLane_lane (f : Fin 4 → Fin 128 → EReal) (n : Fin 4) (d : Fin 128) : byLane f (lane n d) = f n d := by
  have h1 : (⟨(128 * n.val + d.val) / 128, by omega⟩ : Fin 4) = n := Fin.ext (by show (128 * n.val + d.val) / 128 = n.val; omega)
  have h2 : (⟨(128 * n.val + d.val) % 128, by omega⟩ : Fin 128) = d := Fin.ext (by show (128 * n.val + d.val) % 128 = d.val; omega)
  exact congrArg₂ f h1 h2

theorem bySub_sub (f : Fin 8 → Fin 64 → EReal) (q : Fin 8) (i : Fin 64) : bySub f (sub q i) = f q i := by
  have h1 : (⟨(64 * q.val + i.val) / 64, by omega⟩ : Fin 8) = q := Fin.ext (by show (64 * q.val + i.val) / 64 = q.val; omega)
  have h2 : (⟨(64 * q.val + i.val) % 64, by omega⟩ : Fin 64) = i := Fin.ext (by show (64 * q.val + i.val) % 64 = i.val; omega)
  exact congrArg₂ f h1 h2

theorem byGrp_grp (f : Fin 11 → Fin 512 → EReal) (j : Fin 11) (l : Fin 512) : byGrp f (grp j l) = f j l := by
  have h1 : (⟨(512 * j.val + l.val) / 512, by omega⟩ : Fin 11) = j := Fin.ext (by show (512 * j.val + l.val) / 512 = j.val; omega)
  have h2 : (⟨(512 * j.val + l.val) % 512, by omega⟩ : Fin 512) = l := Fin.ext (by show (512 * j.val + l.val) % 512 = l.val; omega)
  exact congrArg₂ f h1 h2

theorem exists_lane (l : Fin 512) : ∃ n d, l = lane n d :=
  ⟨⟨l.val / 128, by omega⟩, ⟨l.val % 128, by omega⟩, Fin.ext (by show l.val = 128 * (l.val / 128) + l.val % 128; omega)⟩

theorem exists_sub (l : Fin 512) : ∃ q i, l = sub q i :=
  ⟨⟨l.val / 64, by omega⟩, ⟨l.val % 64, by omega⟩, Fin.ext (by show l.val = 64 * (l.val / 64) + l.val % 64; omega)⟩

theorem exists_grp (q : Fin 5632) : ∃ j l, q = grp j l :=
  ⟨⟨q.val / 512, by omega⟩, ⟨q.val % 512, by omega⟩, Fin.ext (by show q.val = 512 * (q.val / 512) + q.val % 512; omega)⟩

/-- The eleven column groups a token leaves, of its projected groups `a`: rotated queries and scaled rotated keys, their values and gates
    as projected, the scaled queries of the gated branch with its keys, values and gates, and the normalised queries and keys of the
    attention with its values. -/
def outCell (a : Fin 11 → Fin 512 → EReal) (cs sn : Fin 128 → EReal) (gq gk : Fin 512 → EReal) (j : Fin 11) (l : Fin 512) : EReal :=
  match j with
  | 0 => byLane (rot (a 0) cs sn) l
  | 1 => byLane (rot (a 1) cs sn) l * Ideal.ofBits .f32 0x3DB504F3#32
  | 4 => a 4 l * Ideal.ofBits .f32 0x3DB504F3#32
  | 8 => bySub (rms (a 8)) l * gq l * Ideal.ofBits .f32 0x3E38AA3B#32
  | 9 => bySub (rms (a 9)) l * gk l
  | j => a j l

/-- The softplus function, as both programs print it. -/
def softplus (v : EReal) : EReal := max v 0 + Ideal.log1p (Ideal.exp (-FloatOps.absf (F := Ideal) (φ := .f32) v))

/-- The log of the decay at lane `l`, from the sixteen low-rank columns `u`. -/
def decay (u : Fin 16 → EReal) (a2 : Fin 16 → Fin 512 → EReal) (b : Fin 512 → EReal) (l : Fin 512) : EReal :=
  Ideal.div (-softplus (-(∑ i : Fin 16, u i * a2 i l + b l))) (Ideal.ofBits .f32 0x41800000#32)

/-- Padding the sixteen low-rank columns to 128 with zeros leaves their product as it is. -/
theorem padded_sum (u v : Fin 16 → EReal) (p w : Fin 128 → EReal) (hp : ∀ i : Fin 16, p ⟨i.val, by omega⟩ = u i)
    (hw : ∀ i : Fin 16, w ⟨i.val, by omega⟩ = v i) (hz : ∀ i : Fin 112, w ⟨16 + i.val, by omega⟩ = 0) :
    ∑ i : Fin 128, p i * w i = ∑ i : Fin 16, u i * v i := by
  have split : ∑ i : Fin 128, p i * w i = (∑ i : Fin 16, p ⟨i.val, by omega⟩ * w ⟨i.val, by omega⟩)
      + ∑ i : Fin 112, p ⟨16 + i.val, by omega⟩ * w ⟨16 + i.val, by omega⟩ := Fin.sum_univ_add (a := 16) (b := 112) fun i => p i * w i
  rw [split]
  simp only [hp, hw, hz, mul_zero, Finset.sum_const_zero, add_zero]

/-- The angle of token `t` at frequency `k`. -/
def angle (t : Fin 8192) (k : Fin 64) : EReal :=
  FloatOps.sitofp (F := Ideal) .f32 (BitVec.ofNat 32 t.val) * Ideal.pow (Ideal.ofBits .f32 0x461C4000#32)
    (Ideal.div (-FloatOps.sitofp (F := Ideal) .f32 (BitVec.ofNat 32 k.val)) (Ideal.ofBits .f32 0x42800000#32))

/-- The cosines of token `t` over a head's two halves. -/
def cosT (t : Fin 8192) (d : Fin 128) : EReal :=
  if h : d.val < 64 then Ideal.cos (angle t ⟨d.val, h⟩) else Ideal.cos (angle t ⟨d.val - 64, by omega⟩)

/-- The signed sines of token `t` over a head's two halves. -/
def sinT (t : Fin 8192) (d : Fin 128) : EReal :=
  if h : d.val < 64 then -Ideal.sin (angle t ⟨d.val, h⟩) else Ideal.sin (angle t ⟨d.val - 64, by omega⟩)

/-- The column of the input weights that a column group's lane reads: the sixteen low-rank columns lie between groups 7 and 8. -/
def src (q : Fin 5632) : Fin 5648 := if h : q.val < 4096 then ⟨q.val, by omega⟩ else ⟨4112 + (q.val - 4096), by omega⟩

end Cert.Proj

end
-- ==== Proof.ProjBlock.lean ====
/- One block of the input projection's kernel: each of its payloads read at a row and a lane, and the two blocks it leaves. -/
module

public import proofs.«01_k».proof.Proof.ProjMath
public import proofs.«01_k».proof.Proof.Gen.Kernel4Ideal.Frame
public import Idealize.ShloMosaic.Lib.Pipeline.ValueKit

@[expose] public section

set_option maxRecDepth 16384

noncomputable section

namespace Cert.Proj

open Cert.Kernel4Ideal Cert.Kernel4Ideal.Gen Idealize.ShloMosaic Cert.Merge

/-- Row `r` of the normalised block `h` through 512 columns of the weights. -/
def blkRow (h : FVec Ideal S512x1024 .bf16) (w : Vec Ideal S1x1024x512 .bf16) (r : Fin 512) : Fin 512 → EReal :=
  dotRow (fun k => h (ix2 r k)) (fun k l => w (ix3 0 k l))

theorem pay2_at (x : Vec Ideal S1x512x1024 .f32) (g : Vec Ideal S1x1024 .f32) (sc sh : Vec Ideal S1x1x1024 .f32) (r : Fin 512) (k : Fin 1024) :
    k0_pay2 x g sc sh (ix2 r k) = normed (fun k => x (ix3 0 r k)) (fun k => g (ix2 0 k)) (fun k => sc (ix3 0 0 k)) (fun k => sh (ix3 0 0 k)) k := by
  pointwise [k0_pay2, normed]

theorem pay6_at (h : FVec Ideal S512x1024 .bf16) (cs sn : FVec Ideal S512x128 .f32) (w : Vec Ideal S1x1024x512 .bf16) (r : Fin 512) (n : Fin 4) (d : Fin 128) :
    k0_pay6 h cs sn w (ix3 0 r (lane n d)) = rot (blkRow h w r) (fun d => cs (ix2 r d)) (fun d => sn (ix2 r d)) n d := by
  have e2 : 256 + d.val - 128 - 128 = d.val := by omega
  have e3 : 384 + d.val - 128 - 128 - 128 = d.val := by omega
  fin_cases n
  · pointwise [k0_pay6, rot, blkRow, dotRow]
    simp only [lane_zero]
  · pointwise [k0_pay6, rot, blkRow, dotRow]
    rfl
  · pointwise [k0_pay6, rot, blkRow, dotRow]
    simp (disch := omega) only [dif_neg, dif_pos, e2]
    rfl
  · pointwise [k0_pay6, rot, blkRow, dotRow]
    simp (disch := omega) only [dif_neg, dif_pos, e3]
    rfl

/-- The rotated keys of a block, from the payloads they are computed through. -/
def keys (h : FVec Ideal S512x1024 .bf16) (cs sn : FVec Ideal S512x128 .f32) (w : Vec Ideal S1x1024x512 .bf16) : FVec Ideal S1x512x512 .bf16 :=
  k0_pay12 cs sn (k0_pay7 h w) (k0_pay8 h cs sn w) (k0_pay9 h cs sn w) (k0_pay10 h w) (k0_pay11 h cs w) 64#32

theorem keys_at (h : FVec Ideal S512x1024 .bf16) (cs sn : FVec Ideal S512x128 .f32) (w : Vec Ideal S1x1024x512 .bf16) (r : Fin 512) (n : Fin 4) (d : Fin 128) :
    keys h cs sn w (ix3 0 r (lane n d)) = rot (blkRow h w r) (fun d => cs (ix2 r d)) (fun d => sn (ix2 r d)) n d * Ideal.ofBits .f32 0x3DB504F3#32 := by
  have e2 : 256 + d.val - 128 - 128 = d.val := by omega
  have e3 : 384 + d.val - 128 - 128 - 128 = d.val := by omega
  fin_cases n
  · pointwise [keys, k0_pay12, k0_pay7, k0_pay8, k0_pay9, k0_pay10, k0_pay11, rot, blkRow, dotRow]
    simp only [lane_zero]
  · pointwise [keys, k0_pay12, k0_pay7, k0_pay8, k0_pay9, k0_pay10, k0_pay11, rot, blkRow, dotRow]
    rfl
  · pointwise [keys, k0_pay12, k0_pay7, k0_pay8, k0_pay9, k0_pay10, k0_pay11, rot, blkRow, dotRow]
    simp (disch := omega) only [dif_neg, dif_pos, e2]
    rfl
  · pointwise [keys, k0_pay12, k0_pay7, k0_pay8, k0_pay9, k0_pay10, k0_pay11, rot, blkRow, dotRow]
    simp (disch := omega) only [dif_neg, dif_pos, e3]
    rfl

theorem pay1_at (h : FVec Ideal S512x1024 .bf16) (w : Vec Ideal S1x1024x512 .bf16) (r l : Fin 512) :
    k0_pay1 h w (ix3 0 r l) = blkRow h w r l := by
  pointwise [k0_pay1, blkRow, dotRow]

theorem pay13_at (h : FVec Ideal S512x1024 .bf16) (w : Vec Ideal S1x1024x512 .bf16) (r l : Fin 512) :
    k0_pay13 h w (ix3 0 r l) = blkRow h w r l := by
  pointwise [k0_pay13, blkRow, dotRow]

theorem pay17_at (h : FVec Ideal S512x1024 .bf16) (w : Vec Ideal S1x1024x512 .bf16) (r l : Fin 512) :
    k0_pay17 (k0_pay15 h w) (k0_pay16 (F := Ideal)) (ix3 0 r l) = blkRow h w r l * Ideal.ofBits .f32 0x3DB504F3#32 := by
  pointwise [k0_pay17, k0_pay15, k0_pay16, blkRow, dotRow]

theorem pay14_at (h : FVec Ideal S512x1024 .bf16) (w : Vec Ideal S1x1024x512 .bf16) (r l : Fin 512) :
    k0_pay14 h w (ix3 0 r l) = blkRow h w r l := by
  pointwise [k0_pay14, blkRow, dotRow]

theorem pay20_at (h : FVec Ideal S512x1024 .bf16) (w : Vec Ideal S1x1024x512 .bf16) (r l : Fin 512) :
    k0_pay20 h (k0_pay19 w) (constant S512x512 .f32 0x00000000#32) (ix3 0 r l) = blkRow h w r l := by
  pointwise [k0_pay20, k0_pay19, blkRow, dotRow]

theorem pay21_at (h : FVec Ideal S512x1024 .bf16) (w : Vec Ideal S1x1024x512 .bf16) (r l : Fin 512) :
    k0_pay21 h w (ix3 0 r l) = blkRow h w r l := by
  pointwise [k0_pay21, blkRow, dotRow]

theorem pay22_at (h : FVec Ideal S512x1024 .bf16) (w : Vec Ideal S1x1024x512 .bf16) (r l : Fin 512) :
    k0_pay22 h w (ix3 0 r l) = blkRow h w r l := by
  pointwise [k0_pay22, blkRow, dotRow]

/-- A pair of heads' normalisation under the lane mask is each head's own. -/
theorem masked_rms (a : Fin 512 → EReal) (n : Fin 4) (p : Fin 2) (i : Fin 64) :
    a (lane n ⟨64 * p.val + i.val, by omega⟩) * Ideal.rsqrt (masked (fun x => a (lane n x) * a (lane n x)) ⟨64 * p.val + i.val, by omega⟩
        * Ideal.ofBits .f32 0x3C800000#32 + Ideal.ofBits .f32 0x358637BD#32)
    = rms a ⟨2 * n.val + p.val, by omega⟩ i := by
  have e : ∀ j : Fin 64, lane n ⟨64 * p.val + j.val, by omega⟩ = sub ⟨2 * n.val + p.val, by omega⟩ j := fun j =>
    Fin.ext (by show 128 * n.val + (64 * p.val + j.val) = 64 * (2 * n.val + p.val) + j.val; omega)
  rw [masked_at, div64]
  simp only [e, rms]

/-- The normalised queries of a block, from the payloads they are computed through. -/
def qnorm (h : FVec Ideal S512x1024 .bf16) (w : Vec Ideal S1x1024x512 .bf16) (g : Vec Ideal S1x512 .f32) : FVec Ideal S1x512x512 .bf16 :=
  k0_pay36 (k0_pay24 g) (k0_pay30 k0_pay25 (k0_pay26 h w) (k0_pay27 h w) k0_pay28 (k0_pay29 (F := Ideal)))
    (k0_pay31 (k0_pay23 h w) k0_pay25) (k0_pay32 (k0_pay23 h w) k0_pay25) (k0_pay33 (k0_pay23 h w)) (k0_pay34 (k0_pay23 h w) k0_pay25)
    (k0_pay35 (F := Ideal))

theorem qnorm_lane (h : FVec Ideal S512x1024 .bf16) (w : Vec Ideal S1x1024x512 .bf16) (g : Vec Ideal S1x512 .f32) (r : Fin 512) (n : Fin 4) (d : Fin 128) :
    qnorm h w g (ix3 0 r (lane n d)) = blkRow h w r (lane n d) * Ideal.rsqrt (masked (fun x => blkRow h w r (lane n x) * blkRow h w r (lane n x)) d
        * Ideal.ofBits .f32 0x3C800000#32 + Ideal.ofBits .f32 0x358637BD#32) * g (ix2 0 (lane n d)) * Ideal.ofBits .f32 0x3E38AA3B#32 := by
  have e2 : 256 + d.val - 128 - 128 = d.val := by omega
  have e3 : 384 + d.val - 128 - 128 - 128 = d.val := by omega
  fin_cases n
  · pointwise [qnorm, k0_pay36, k0_pay30, k0_pay31, k0_pay32, k0_pay33, k0_pay34, k0_pay35, k0_pay24, k0_pay25, k0_pay26, k0_pay27, k0_pay28, k0_pay29, k0_pay23, masked, blkRow, dotRow]
    simp only [lane_zero]
  · pointwise [qnorm, k0_pay36, k0_pay30, k0_pay31, k0_pay32, k0_pay33, k0_pay34, k0_pay35, k0_pay24, k0_pay25, k0_pay26, k0_pay27, k0_pay28, k0_pay29, k0_pay23, masked, blkRow, dotRow]
    rfl
  · pointwise [qnorm, k0_pay36, k0_pay30, k0_pay31, k0_pay32, k0_pay33, k0_pay34, k0_pay35, k0_pay24, k0_pay25, k0_pay26, k0_pay27, k0_pay28, k0_pay29, k0_pay23, masked, blkRow, dotRow]
    simp (disch := omega) only [dif_neg, dif_pos, e2]
    rfl
  · pointwise [qnorm, k0_pay36, k0_pay30, k0_pay31, k0_pay32, k0_pay33, k0_pay34, k0_pay35, k0_pay24, k0_pay25, k0_pay26, k0_pay27, k0_pay28, k0_pay29, k0_pay23, masked, blkRow, dotRow]
    simp (disch := omega) only [dif_neg, dif_pos, e3]
    rfl

/-- The normalised keys of a block, from the payloads they are computed through. -/
def knorm (h : FVec Ideal S512x1024 .bf16) (w : Vec Ideal S1x1024x512 .bf16) (g : Vec Ideal S1x512 .f32) : FVec Ideal S1x512x512 .bf16 :=
  k0_pay49 (k0_pay37 h w) (k0_pay38 g) k0_pay39 (k0_pay42 (k0_pay40 h w) (k0_pay41 h w)) (k0_pay43 (k0_pay37 h w) k0_pay39)
    (k0_pay44 (k0_pay37 h w)) (k0_pay46 (k0_pay37 h w) k0_pay39) (k0_pay47 (k0_pay37 h w) k0_pay39) (k0_pay48 k0_pay39)

theorem knorm_lane (h : FVec Ideal S512x1024 .bf16) (w : Vec Ideal S1x1024x512 .bf16) (g : Vec Ideal S1x512 .f32) (r : Fin 512) (n : Fin 4) (d : Fin 128) :
    knorm h w g (ix3 0 r (lane n d)) = blkRow h w r (lane n d) * Ideal.rsqrt (masked (fun x => blkRow h w r (lane n x) * blkRow h w r (lane n x)) d
        * Ideal.ofBits .f32 0x3C800000#32 + Ideal.ofBits .f32 0x358637BD#32) * g (ix2 0 (lane n d)) := by
  have e2 : 256 + d.val - 128 - 128 = d.val := by omega
  have e3 : 384 + d.val - 128 - 128 - 128 = d.val := by omega
  fin_cases n
  · pointwise [knorm, k0_pay49, k0_pay37, k0_pay38, k0_pay39, k0_pay40, k0_pay41, k0_pay42, k0_pay43, k0_pay44, k0_pay45, k0_pay46, k0_pay47, k0_pay48, masked, blkRow, dotRow]
    simp only [lane_zero]
  · pointwise [knorm, k0_pay49, k0_pay37, k0_pay38, k0_pay39, k0_pay40, k0_pay41, k0_pay42, k0_pay43, k0_pay44, k0_pay45, k0_pay46, k0_pay47, k0_pay48, masked, blkRow, dotRow]
    rfl
  · pointwise [knorm, k0_pay49, k0_pay37, k0_pay38, k0_pay39, k0_pay40, k0_pay41, k0_pay42, k0_pay43, k0_pay44, k0_pay45, k0_pay46, k0_pay47, k0_pay48, masked, blkRow, dotRow]
    simp (disch := omega) only [dif_neg, dif_pos, e2]
    rfl
  · pointwise [knorm, k0_pay49, k0_pay37, k0_pay38, k0_pay39, k0_pay40, k0_pay41, k0_pay42, k0_pay43, k0_pay44, k0_pay45, k0_pay46, k0_pay47, k0_pay48, masked, blkRow, dotRow]
    simp (disch := omega) only [dif_neg, dif_pos, e3]
    rfl

/-- A lane of one of the eight heads, as a lane of one of the four pairs of heads. -/
theorem exists_half (l : Fin 512) : ∃ (n : Fin 4) (p : Fin 2) (i : Fin 64), l = lane n ⟨64 * p.val + i.val, by omega⟩
    ∧ l = sub ⟨2 * n.val + p.val, by omega⟩ i :=
  ⟨⟨l.val / 128, by omega⟩, ⟨l.val / 64 % 2, by omega⟩, ⟨l.val % 64, by omega⟩,
    Fin.ext (by show l.val = 128 * (l.val / 128) + (64 * (l.val / 64 % 2) + l.val % 64); omega),
    Fin.ext (by show l.val = 64 * (2 * (l.val / 128) + l.val / 64 % 2) + l.val % 64; omega)⟩

theorem qnorm_at (h : FVec Ideal S512x1024 .bf16) (w : Vec Ideal S1x1024x512 .bf16) (g : Vec Ideal S1x512 .f32) (r l : Fin 512) :
    qnorm h w g (ix3 0 r l) = bySub (rms (blkRow h w r)) l * g (ix2 0 l) * Ideal.ofBits .f32 0x3E38AA3B#32 := by
  obtain ⟨n, p, i, hl, hs⟩ := exists_half l
  have e : bySub (rms (blkRow h w r)) l = rms (blkRow h w r) ⟨2 * n.val + p.val, by omega⟩ i := by rw [hs, bySub_sub]
  rw [e, hl, qnorm_lane, masked_rms]

theorem knorm_at (h : FVec Ideal S512x1024 .bf16) (w : Vec Ideal S1x1024x512 .bf16) (g : Vec Ideal S1x512 .f32) (r l : Fin 512) :
    knorm h w g (ix3 0 r l) = bySub (rms (blkRow h w r)) l * g (ix2 0 l) := by
  obtain ⟨n, p, i, hl, hs⟩ := exists_half l
  have e : bySub (rms (blkRow h w r)) l = rms (blkRow h w r) ⟨2 * n.val + p.val, by omega⟩ i := by rw [hs, bySub_sub]
  rw [e, hl, knorm_lane, masked_rms]

theorem pay5_at (x : Vec Ideal S1x512x1024 .f32) (g : Vec Ideal S1x1024 .f32) (sc sh : Vec Ideal S1x1x1024 .f32) (w : Vec Ideal S1024x128 .bf16)
    (r : Fin 512) (d : Fin 128) : k0_pay5 x g sc sh w (ix2 r d) = ∑ k : Fin 1024, k0_pay2 x g sc sh (ix2 r k) * w (ix2 k d) := by
  pointwise [k0_pay5]

theorem pay18_at (v : FVec Ideal S512x128 .f32) (a : Vec Ideal S128x512 .bf16) (b : Vec Ideal S1x512 .f32) (r l : Fin 512) :
    k0_pay18 v a b (ix3 0 r l) = Ideal.div (-softplus (-(∑ x : Fin 128, v (ix2 r x) * a (ix2 x l) + b (ix2 0 l)))) (Ideal.ofBits .f32 0x41800000#32) := by
  rw [← div16]
  pointwise [k0_pay18, softplus]
  simp only [sub_eq_add_neg, zero_add, ne_eq, not_true_eq_false, if_false]

end Cert.Proj

end
-- ==== Proof.ProjOut.lean ====
/- The two blocks one grid point of the input projection's kernel leaves, index by index. -/
module

public import proofs.«01_k».proof.Proof.ProjBlock
public import Idealize.ShloMosaic.Lib.Pipeline.ReadBack

@[expose] public section

set_option maxRecDepth 16384

noncomputable section

namespace Cert.Proj

open Cert.Kernel4Ideal Cert.Kernel4Ideal.Gen Idealize.ShloMosaic Cert.Merge

variable (x0 : Vec Ideal S1x512x1024 .f32) (x1 x2 : Vec Ideal S1x1x1024 .f32) (x3 : Vec Ideal S1x1024 .f32) (x4 : Vec Ideal S1x1024x5632 .bf16)
  (x5 : Vec Ideal S1024x128 .bf16) (x6 : Vec Ideal S128x512 .bf16) (x7 : Vec Ideal S1x512 .f32) (x8 x9 : Vec Ideal S512x128 .f32)
  (x10 x11 : Vec Ideal S1x512 .f32)

/-- Row `r` of the normalised block. -/
def normRow (r : Fin 512) : Fin 1024 → EReal :=
  normed (fun k => x0 (ix3 0 r k)) (fun k => x3 (ix2 0 k)) (fun k => x1 (ix3 0 0 k)) (fun k => x2 (ix3 0 0 k))

/-- The column groups row `r` is projected to. -/
def groups (r : Fin 512) (j : Fin 11) : Fin 512 → EReal := dotRow (normRow x0 x1 x2 x3 r) (fun k l => x4 (ix3 0 k (grp j l)))

/-- The projected block. -/
def blkOut : FVec Ideal S1x512x5632 .bf16 := fun y =>
  byGrp (outCell (groups x0 x1 x2 x3 x4 (y 1)) (fun d => x8 (ix2 (y 1) d)) (fun d => x9 (ix2 (y 1) d)) (fun l => x10 (ix2 0 l)) (fun l => x11 (ix2 0 l))) (y 2)

theorem blkOut_at (r : Fin 512) (j : Fin 11) (l : Fin 512) (y : S1x512x5632.Idx) (h1 : (y 1).val = r.val) (h2 : (y 2).val = 512 * j.val + l.val) :
    blkOut x0 x1 x2 x3 x4 x8 x9 x10 x11 y
    = outCell (groups x0 x1 x2 x3 x4 r) (fun d => x8 (ix2 r d)) (fun d => x9 (ix2 r d)) (fun l => x10 (ix2 0 l)) (fun l => x11 (ix2 0 l)) j l := by
  have e1 : y 1 = r := Fin.ext h1
  have e2 : y 2 = grp j l := Fin.ext h2
  unfold blkOut
  rw [e1, e2]
  exact byGrp_grp _ j l

/-- A store of a column group's block holds that group of the projected block. -/
theorem piece (j : Fin 11) {o : Fin 3 → ℕ} (ho : o = ![0, 0, 512 * j.val]) (i : ∀ a, o a + S1x512x512.size a ≤ S1x512x5632.size a)
    (p : FVec Ideal S1x512x512 .bf16) (hp : ∀ r l, p (ix3 0 r l)
      = outCell (groups x0 x1 x2 x3 x4 r) (fun d => x8 (ix2 r d)) (fun d => x9 (ix2 r d)) (fun l => x10 (ix2 0 l)) (fun l => x11 (ix2 0 l)) j l)
    (x : S1x512x512.Idx) : p x = blkOut x0 x1 x2 x3 x4 x8 x9 x10 x11 ((Rect.unit (s := S1x512x5632) o S1x512x512.size i).emb x) := by
  subst ho
  obtain ⟨z, r, l, rfl⟩ : ∃ (z : Fin 1) (r l : Fin 512), x = ix3 z r l := ⟨x 0, x 1, x 2, eq_ix3 x⟩
  obtain rfl : z = 0 := Subsingleton.elim _ _
  rw [blkOut_at (r := r) (j := j) (l := l), hp]
  · simp
  · simp

theorem normRow_at (r : Fin 512) (k : Fin 1024) : k0_pay2 (View.ld x0 r0_0) (View.ld x3 r0_1) (View.ld x1 r0_2) (View.ld x2 r0_2) (ix2 r k)
    = normRow x0 x1 x2 x3 r k := by
  have e0 : ∀ r k, View.ld x0 r0_0 (ix3 0 r k) = x0 (ix3 0 r k) := by intro r k; pointwise []
  have e2 : ∀ (x : Vec Ideal S1x1x1024 .f32) k, View.ld x r0_2 (ix3 0 0 k) = x (ix3 0 0 k) := by intro x k; pointwise []
  have e3 : ∀ (x : Vec Ideal S1x1024 .f32) k, View.ld x r0_1 (ix2 0 k) = x (ix2 0 k) := by intro x k; pointwise []
  rw [pay2_at]
  simp only [e0, e2 x1, e2 x2, e3 x3]
  rfl

/-- A column group of the weights, as loaded. -/
theorem ld_cols (x : Vec Ideal S1x1024x5632 .bf16) (j : Fin 11) {o : Fin 3 → ℕ} (ho : o = ![0, 0, 512 * j.val])
    (i : ∀ a, o a + S1x1024x512.size a ≤ S1x1024x5632.size a) (k : Fin 1024) (l : Fin 512) :
    View.ld x (Rect.unit o S1x1024x512.size i) (ix3 0 k l) = x (ix3 0 k (grp j l)) := by
  subst ho
  pointwise []

theorem row_eq (j : Fin 11) {o : Fin 3 → ℕ} (ho : o = ![0, 0, 512 * j.val]) (i : ∀ a, o a + S1x1024x512.size a ≤ S1x1024x5632.size a) (r : Fin 512) :
    blkRow (k0_pay50 x0 x1 x2 x3 x4 x5 x6 x7 x8 x9 x10 x11) (View.ld x4 (Rect.unit o S1x1024x512.size i)) r = groups x0 x1 x2 x3 x4 r j := by
  have hw := ld_cols x4 j ho i
  unfold blkRow groups k0_pay50
  simp only [normRow_at, hw]

theorem cos_at (r : Fin 512) (d : Fin 128) : k0_pay51 x0 x1 x2 x3 x4 x5 x6 x7 x8 x9 x10 x11 (ix2 r d) = x8 (ix2 r d) := by
  pointwise [k0_pay51, k0_pay3]

theorem sin_at (r : Fin 512) (d : Fin 128) : k0_pay52 x0 x1 x2 x3 x4 x5 x6 x7 x8 x9 x10 x11 (ix2 r d) = x9 (ix2 r d) := by
  pointwise [k0_pay52, k0_pay4]

theorem gain_at (x : Vec Ideal S1x512 .f32) (l : Fin 512) : View.ld x r0_16 (ix2 0 l) = x (ix2 0 l) := by
  pointwise []

theorem pay6_byLane (h : FVec Ideal S512x1024 .bf16) (cs sn : FVec Ideal S512x128 .f32) (w : Vec Ideal S1x1024x512 .bf16) (r l : Fin 512) :
    k0_pay6 h cs sn w (ix3 0 r l) = byLane (rot (blkRow h w r) (fun d => cs (ix2 r d)) (fun d => sn (ix2 r d))) l := by
  obtain ⟨n, d, rfl⟩ := exists_lane l
  rw [pay6_at, byLane_lane]

theorem keys_byLane (h : FVec Ideal S512x1024 .bf16) (cs sn : FVec Ideal S512x128 .f32) (w : Vec Ideal S1x1024x512 .bf16) (r l : Fin 512) :
    keys h cs sn w (ix3 0 r l) = byLane (rot (blkRow h w r) (fun d => cs (ix2 r d)) (fun d => sn (ix2 r d))) l * Ideal.ofBits .f32 0x3DB504F3#32 := by
  obtain ⟨n, d, rfl⟩ := exists_lane l
  rw [keys_at, byLane_lane]

theorem out12_eq : out0_12 x0 x1 x2 x3 x4 x5 x6 x7 x8 x9 x10 x11 = blkOut x0 x1 x2 x3 x4 x8 x9 x10 x11 := by
  funext y
  unfold out0_12
  refine View.canon_apply_of_pieces _ _ (View.PiecesOf.mem ?_) y (cover0_12 _ _ _ _ _ _ _ _ _ _ _ y)
  refine ⟨?_, ?_, ?_, ?_, ?_, ?_, ?_, ?_, ?_, ?_, ?_, trivial⟩
  · refine piece x0 x1 x2 x3 x4 x8 x9 x10 x11 10 (o := ![0, 0, 5120]) rfl inb_S1x512x5632_S1x512x512_0_0_5120 _ fun r l => ?_
    refine (pay1_at _ _ r l).trans ?_
    rw [row_eq x0 x1 x2 x3 x4 x5 x6 x7 x8 x9 x10 x11 10 (o := ![0, 0, 5120]) rfl inb_S1x1024x5632_S1x1024x512_0_0_5120 r]
    rfl
  · refine piece x0 x1 x2 x3 x4 x8 x9 x10 x11 9 (o := ![0, 0, 4608]) rfl inb_S1x512x5632_S1x512x512_0_0_4608 _ fun r l => ?_
    refine (knorm_at (k0_pay50 x0 x1 x2 x3 x4 x5 x6 x7 x8 x9 x10 x11) (View.ld x4 r0_26) (View.ld x11 r0_16) r l).trans ?_
    rw [row_eq x0 x1 x2 x3 x4 x5 x6 x7 x8 x9 x10 x11 9 (o := ![0, 0, 4608]) rfl inb_S1x1024x5632_S1x1024x512_0_0_4608 r, gain_at x11 l]
    rfl
  · refine piece x0 x1 x2 x3 x4 x8 x9 x10 x11 8 (o := ![0, 0, 4096]) rfl inb_S1x512x5632_S1x512x512_0_0_4096 _ fun r l => ?_
    refine (qnorm_at (k0_pay50 x0 x1 x2 x3 x4 x5 x6 x7 x8 x9 x10 x11) (View.ld x4 r0_24) (View.ld x10 r0_16) r l).trans ?_
    rw [row_eq x0 x1 x2 x3 x4 x5 x6 x7 x8 x9 x10 x11 8 (o := ![0, 0, 4096]) rfl inb_S1x1024x5632_S1x1024x512_0_0_4096 r, gain_at x10 l]
    rfl
  · refine piece x0 x1 x2 x3 x4 x8 x9 x10 x11 7 (o := ![0, 0, 3584]) rfl inb_S1x512x5632_S1x512x512_0_0_3584 _ fun r l => ?_
    refine (pay22_at _ _ r l).trans ?_
    rw [row_eq x0 x1 x2 x3 x4 x5 x6 x7 x8 x9 x10 x11 7 (o := ![0, 0, 3584]) rfl inb_S1x1024x5632_S1x1024x512_0_0_3584 r]
    rfl
  · refine piece x0 x1 x2 x3 x4 x8 x9 x10 x11 6 (o := ![0, 0, 3072]) rfl inb_S1x512x5632_S1x512x512_0_0_3072 _ fun r l => ?_
    refine (pay21_at _ _ r l).trans ?_
    rw [row_eq x0 x1 x2 x3 x4 x5 x6 x7 x8 x9 x10 x11 6 (o := ![0, 0, 3072]) rfl inb_S1x1024x5632_S1x1024x512_0_0_3072 r]
    rfl
  · refine piece x0 x1 x2 x3 x4 x8 x9 x10 x11 5 (o := ![0, 0, 2560]) rfl inb_S1x512x5632_S1x512x512_0_0_2560 _ fun r l => ?_
    refine (pay20_at _ _ r l).trans ?_
    rw [row_eq x0 x1 x2 x3 x4 x5 x6 x7 x8 x9 x10 x11 5 (o := ![0, 0, 2560]) rfl inb_S1x1024x5632_S1x1024x512_0_0_2560 r]
    rfl
  · refine piece x0 x1 x2 x3 x4 x8 x9 x10 x11 4 (o := ![0, 0, 2048]) rfl inb_S1x512x5632_S1x512x512_0_0_2048 _ fun r l => ?_
    refine (pay17_at _ _ r l).trans ?_
    rw [row_eq x0 x1 x2 x3 x4 x5 x6 x7 x8 x9 x10 x11 4 (o := ![0, 0, 2048]) rfl inb_S1x1024x5632_S1x1024x512_0_0_2048 r]
    rfl
  · refine piece x0 x1 x2 x3 x4 x8 x9 x10 x11 3 (o := ![0, 0, 1536]) rfl inb_S1x512x5632_S1x512x512_0_0_1536 _ fun r l => ?_
    refine (pay14_at _ _ r l).trans ?_
    rw [row_eq x0 x1 x2 x3 x4 x5 x6 x7 x8 x9 x10 x11 3 (o := ![0, 0, 1536]) rfl inb_S1x1024x5632_S1x1024x512_0_0_1536 r]
    rfl
  · refine piece x0 x1 x2 x3 x4 x8 x9 x10 x11 2 (o := ![0, 0, 1024]) rfl inb_S1x512x5632_S1x512x512_0_0_1024 _ fun r l => ?_
    refine (pay13_at _ _ r l).trans ?_
    rw [row_eq x0 x1 x2 x3 x4 x5 x6 x7 x8 x9 x10 x11 2 (o := ![0, 0, 1024]) rfl inb_S1x1024x5632_S1x1024x512_0_0_1024 r]
    rfl
  · refine piece x0 x1 x2 x3 x4 x8 x9 x10 x11 1 (o := ![0, 0, 512]) rfl inb_S1x512x5632_S1x512x512_0_0_512 _ fun r l => ?_
    refine (keys_byLane (k0_pay50 x0 x1 x2 x3 x4 x5 x6 x7 x8 x9 x10 x11) _ _ (View.ld x4 r0_7) r l).trans ?_
    rw [row_eq x0 x1 x2 x3 x4 x5 x6 x7 x8 x9 x10 x11 1 (o := ![0, 0, 512]) rfl inb_S1x1024x5632_S1x1024x512_0_0_512 r]
    simp only [cos_at, sin_at]
    rfl
  · refine piece x0 x1 x2 x3 x4 x8 x9 x10 x11 0 (o := ![0, 0, 0]) rfl inb_S1x512x5632_S1x512x512_0_0_0 _ fun r l => ?_
    refine (pay6_byLane (k0_pay50 x0 x1 x2 x3 x4 x5 x6 x7 x8 x9 x10 x11) _ _ (View.ld x4 r0_5) r l).trans ?_
    rw [row_eq x0 x1 x2 x3 x4 x5 x6 x7 x8 x9 x10 x11 0 (o := ![0, 0, 0]) rfl inb_S1x1024x5632_S1x1024x512_0_0_0 r]
    simp only [cos_at, sin_at]
    rfl

/-- The decays' block, where the low-rank weights are padded from sixteen columns to 128 with zeros. -/
theorem out13_at (wa : Fin 1024 → Fin 16 → EReal) (a2 : Fin 16 → Fin 512 → EReal) (hwa : ∀ k (i : Fin 16), x5 (ix2 k ⟨i.val, by omega⟩) = wa k i)
    (ha2 : ∀ (i : Fin 16) l, x6 (ix2 ⟨i.val, by omega⟩ l) = a2 i l) (hz : ∀ (i : Fin 112) l, x6 (ix2 ⟨16 + i.val, by omega⟩ l) = (0 : EReal)) (r l : Fin 512) :
    out0_13 x0 x1 x2 x3 x4 x5 x6 x7 x8 x9 x10 x11 (ix3 0 r l)
    = decay (fun i => ∑ k : Fin 1024, normRow x0 x1 x2 x3 r k * wa k i) a2 (fun l => x7 (ix2 0 l)) l := by
  have e5 : ∀ k d, View.ld x5 r0_4 (ix2 k d) = x5 (ix2 k d) := by intro k d; pointwise []
  have e6 : ∀ k d, View.ld x6 r0_15 (ix2 k d) = x6 (ix2 k d) := by intro k d; pointwise []
  unfold out0_13
  rw [View.canon_unit_zero (by decide), pay18_at]
  simp only [pay5_at, normRow_at, e5, e6, gain_at x7]
  unfold decay
  rw [padded_sum (fun i => ∑ k : Fin 1024, normRow x0 x1 x2 x3 r k * wa k i) (fun i => a2 i l) _ (fun i => x6 (ix2 i l))
    (fun i => by simp only [hwa]) (fun i => ha2 i l) (fun i => hz i l)]

end Cert.Proj

end
-- ==== Proof.ProjArray.lean ====
/- The input projection kernel's two result arrays after the run, index by index, of its arguments. -/
module

public import proofs.«01_k».proof.Proof.ProjOut
public import proofs.«01_k».proof.Proof.Gen.Kernel4Ideal.Value

@[expose] public section

set_option maxRecDepth 16384

noncomputable section

namespace Cert.Proj

open Cert.Kernel4Ideal Cert.Kernel4Ideal.Gen Cert.Kernel4Ideal.Value Idealize.ShloMosaic Idealize.ShloMosaic.TcCoe Idealize.SL.Sem Cert.Merge

/-- The normalised row of token `t` of sequence `b`, of the argument arrays. -/
def rowN (X : FVec Ideal S4x8192x1024 .f32) (SC SH G : FVec Ideal S4x1024 .f32) (b : Fin 4) (t : Fin 8192) : Fin 1024 → EReal :=
  normed (fun k => X (ix3 b t k)) (fun k => G (ix2 0 k)) (fun k => SC (ix2 b k)) (fun k => SH (ix2 b k))

/-- Its eleven projected column groups. -/
def rowG (X : FVec Ideal S4x8192x1024 .f32) (SC SH G : FVec Ideal S4x1024 .f32) (W : FVec Ideal S4x1024x5648 .f32) (b : Fin 4) (t : Fin 8192)
    (j : Fin 11) : Fin 512 → EReal := dotRow (rowN X SC SH G b t) (fun k l => W (ix3 0 k (src (grp j l))))

/-- The column groups a token leaves in the result. -/
def rowO (X : FVec Ideal S4x8192x1024 .f32) (SC SH G : FVec Ideal S4x1024 .f32) (W : FVec Ideal S4x1024x5648 .f32) (GQ GK : FVec Ideal S4x64 .f32)
    (b : Fin 4) (t : Fin 8192) : Fin 11 → Fin 512 → EReal :=
  outCell (rowG X SC SH G W b t) (cosT t) (sinT t) (fun l => GQ (ix2 0 ⟨l.val % 64, by omega⟩)) (fun l => GK (ix2 0 ⟨l.val % 64, by omega⟩))

/-- The projected array. -/
def projArr (X : FVec Ideal S4x8192x1024 .f32) (SC SH G : FVec Ideal S4x1024 .f32) (W : FVec Ideal S4x1024x5648 .f32) (GQ GK : FVec Ideal S4x64 .f32) :
    FVec Ideal S4x8192x5632 .bf16 := fun y => byGrp (rowO X SC SH G W GQ GK (y 0) (y 1)) (y 2)

/-- The array of the decays' logs. -/
def decayArr (X : FVec Ideal S4x8192x1024 .f32) (SC SH G : FVec Ideal S4x1024 .f32) (W : FVec Ideal S4x1024x5648 .f32) (A2 : FVec Ideal S4x16x512 .f32)
    (AB : FVec Ideal S4x512 .f32) : FVec Ideal S4x8192x512 .f32 := fun y =>
  decay (fun i => ∑ k : Fin 1024, rowN X SC SH G (y 0) (y 1) k * W (ix3 0 k ⟨4096 + i.val, by omega⟩)) (fun i l => A2 (ix3 0 i l)) (fun l => AB (ix2 0 l)) (y 2)

variable (m : (l : Idealize.ShloMosaic.Loc nD τ sig) → Buf (Elt Ideal) l) (c : Dev nD)

/-! The arrays the host prepares, of the arguments. -/

theorem V_sc (b : Fin 4) (k : Fin 1024) : V m c main_v26 (ix3 b 0 k) = m ((c : Thread nD τ).loc main_arg1) (ix2 b k) := by
  entry_read
  simp only [hostOps0, hostOps0_1, hostOps0_2, hostOps0_3, hostOps0_4, List.flatten_cons, List.flatten_nil, List.cons_append, List.nil_append, List.append_nil]
  after_results
  pointwise

theorem V_sh (b : Fin 4) (k : Fin 1024) : V m c main_v27 (ix3 b 0 k) = m ((c : Thread nD τ).loc main_arg2) (ix2 b k) := by
  entry_read
  simp only [hostOps0, hostOps0_1, hostOps0_2, hostOps0_3, hostOps0_4, List.flatten_cons, List.flatten_nil, List.cons_append, List.nil_append, List.append_nil]
  after_results
  pointwise

theorem V_gm (k : Fin 1024) : V m c main_v30 (ix2 0 k) = m ((c : Thread nD τ).loc main_arg3) (ix2 0 k) := by
  entry_read
  simp only [hostOps0, hostOps0_1, hostOps0_2, hostOps0_3, hostOps0_4, List.flatten_cons, List.flatten_nil, List.cons_append, List.nil_append, List.append_nil]
  after_results
  pointwise

theorem V_w (l : Fin 4) (k : Fin 1024) (q : Fin 5632) : V m c main_v3 (ix3 l k q) = m ((c : Thread nD τ).loc main_arg4) (ix3 l k (src q)) := by
  entry_read
  simp only [hostOps0, hostOps0_1, hostOps0_2, hostOps0_3, hostOps0_4, List.flatten_cons, List.flatten_nil, List.cons_append, List.nil_append, List.append_nil]
  after_results
  pointwise
  unfold src
  split <;> rfl

/-- The padding's value is zero. -/
theorem pad_zero : FloatOps.sitofp (F := Ideal) .f32 (0#32) = (0 : EReal) := by
  show (((0#32 : BitVec 32).toInt : ℝ) : EReal) = 0
  simp

theorem V_wa (k : Fin 1024) (i : Fin 16) : V m c main_v32 (ix2 k ⟨i.val, by omega⟩)
    = m ((c : Thread nD τ).loc main_arg4) (ix3 0 k ⟨4096 + i.val, by omega⟩) := by
  entry_read
  simp only [hostOps0, hostOps0_1, hostOps0_2, hostOps0_3, hostOps0_4, List.flatten_cons, List.flatten_nil, List.cons_append, List.nil_append, List.append_nil]
  after_results
  pointwise
  show pad S4x1024x128 ![0, 0, 0] ![0, 0, 112] ![0, 0, 0] (extractStridedSlice S4x1024x16 ![0, 0, 4096] (m (c, Proc.tc.devRef main_arg4))
    slices_S4x1024x5648_S4x1024x16_0_0_4096) (sitofp (F := Ideal) .f32 (constantI S_ 32 0#32)) pads_S4x1024x16_S4x1024x128_000_000_01120 h_S_
    (ix3 0 k ⟨i.val, by omega⟩) = _
  pointwise

theorem pad_a2 (A : FVec Ideal S4x16x512 .f32) (i : Fin 16) (l : Fin 512) : pad S4x128x512 ![0, 0, 0] ![0, 112, 0] ![0, 0, 0] A (sitofp (F := Ideal) .f32 (constantI S_ 32 0#32))
    pads_S4x16x512_S4x128x512_000_01120_000 h_S_ (ix3 0 ⟨i.val, by omega⟩ l) = A (ix3 0 i l) := by
  pointwise

theorem pad_a2_zero (A : FVec Ideal S4x16x512 .f32) (i : Fin 112) (l : Fin 512) : pad S4x128x512 ![0, 0, 0] ![0, 112, 0] ![0, 0, 0] A (sitofp (F := Ideal) .f32 (constantI S_ 32 0#32))
    pads_S4x16x512_S4x128x512_000_01120_000 h_S_ (ix3 0 ⟨16 + i.val, by omega⟩ l) = (0 : EReal) := by
  pointwise
  exact pad_zero

theorem V_a2 (i : Fin 16) (l : Fin 512) : V m c main_v34 (ix2 ⟨i.val, by omega⟩ l) = m ((c : Thread nD τ).loc main_arg5) (ix3 0 i l) := by
  entry_read
  simp only [hostOps0, hostOps0_1, hostOps0_2, hostOps0_3, hostOps0_4, List.flatten_cons, List.flatten_nil, List.cons_append, List.nil_append, List.append_nil]
  after_results
  pointwise
  exact pad_a2 (m (c, Proc.tc.devRef main_arg5)) i l

theorem V_a2_zero (i : Fin 112) (l : Fin 512) : V m c main_v34 (ix2 ⟨16 + i.val, by omega⟩ l) = (0 : EReal) := by
  entry_read
  simp only [hostOps0, hostOps0_1, hostOps0_2, hostOps0_3, hostOps0_4, List.flatten_cons, List.flatten_nil, List.cons_append, List.nil_append, List.append_nil]
  after_results
  pointwise
  exact pad_a2_zero (m (c, Proc.tc.devRef main_arg5)) i l

theorem V_ab (l : Fin 512) : V m c main_v37 (ix2 0 l) = m ((c : Thread nD τ).loc main_arg6) (ix2 0 l) := by
  entry_read
  simp only [hostOps0, hostOps0_1, hostOps0_2, hostOps0_3, hostOps0_4, List.flatten_cons, List.flatten_nil, List.cons_append, List.nil_append, List.append_nil]
  after_results
  pointwise

theorem V_cos (t : Fin 8192) (d : Fin 128) : V m c main_v23 (ix2 t d) = cosT t d := by
  entry_read
  simp only [hostOps0, hostOps0_1, hostOps0_2, hostOps0_3, hostOps0_4, List.flatten_cons, List.flatten_nil, List.cons_append, List.nil_append, List.append_nil]
  after_results
  pointwise [cosT, angle]

theorem V_sin (t : Fin 8192) (d : Fin 128) : V m c main_v25 (ix2 t d) = sinT t d := by
  entry_read
  simp only [hostOps0, hostOps0_1, hostOps0_2, hostOps0_3, hostOps0_4, List.flatten_cons, List.flatten_nil, List.cons_append, List.nil_append, List.append_nil]
  after_results
  pointwise [sinT, angle]

theorem V_gq (l : Fin 512) : V m c main_v43 (ix2 0 l) = m ((c : Thread nD τ).loc main_arg7) (ix2 0 ⟨l.val % 64, by omega⟩) := by
  entry_read
  simp only [hostOps0, hostOps0_1, hostOps0_2, hostOps0_3, hostOps0_4, List.flatten_cons, List.flatten_nil, List.cons_append, List.nil_append, List.append_nil]
  after_results
  pointwise

theorem V_gk (l : Fin 512) : V m c main_v49 (ix2 0 l) = m ((c : Thread nD τ).loc main_arg8) (ix2 0 ⟨l.val % 64, by omega⟩) := by
  entry_read
  simp only [hostOps0, hostOps0_1, hostOps0_2, hostOps0_3, hostOps0_4, List.flatten_cons, List.flatten_nil, List.cons_append, List.nil_append, List.append_nil]
  after_results
  pointwise

/-- Which block each window holds at a grid point. -/
theorem idx_all : ∀ t : Fin cfg0.N, win0_0.index t = ![t.val / 16, t.val % 16, 0]
    ∧ win0_1.index t = ![t.val / 16, 0, 0]
    ∧ win0_2.index t = ![t.val / 16, 0, 0]
    ∧ win0_3.index t = ![0, 0]
    ∧ win0_4.index t = ![0, 0, 0]
    ∧ win0_5.index t = ![0, 0]
    ∧ win0_6.index t = ![0, 0]
    ∧ win0_7.index t = ![0, 0]
    ∧ win0_8.index t = ![t.val % 16, 0]
    ∧ win0_9.index t = ![t.val % 16, 0]
    ∧ win0_10.index t = ![0, 0]
    ∧ win0_11.index t = ![0, 0]
    ∧ win0_12.index t = ![t.val / 16, t.val % 16, 0]
    ∧ win0_13.index t = ![t.val / 16, t.val % 16, 0] :=
  (by decide +kernel : ∀ t : Fin grid0.N, _)

/-- The sequence and the tokens of grid point `t`'s block. -/
abbrev seqOf (t : Fin cfg0.N) : Fin 4 := ⟨t.val / 16, by have := t.isLt; have : cfg0.N = 64 := rfl; omega⟩

abbrev tokOf (t : Fin cfg0.N) (r : Fin 512) : Fin 8192 := ⟨512 * (t.val % 16) + r.val, by omega⟩

theorem blk_x (t : Fin cfg0.N) (r : Fin 512) (k : Fin 1024) : iblk m c 0 t (ix3 0 r k)
    = m ((c : Thread nD τ).loc main_arg0) (ix3 (seqOf t) (tokOf t r) k) := by
  obtain ⟨h0, h1, h2, h3, h4, h5, h6, h7, h8, h9, h10, h11, h12, h13⟩ := idx_all t
  blk_ext [iblk, h0, V_main_arg0]

theorem blk_sc (t : Fin cfg0.N) (k : Fin 1024) : iblk m c 1 t (ix3 0 0 k)
    = m ((c : Thread nD τ).loc main_arg1) (ix2 (seqOf t) k) := by
  obtain ⟨h0, h1, h2, h3, h4, h5, h6, h7, h8, h9, h10, h11, h12, h13⟩ := idx_all t
  refine Eq.trans ?_ (V_sc m c (seqOf t) k)
  blk_ext [iblk, h1]

theorem blk_sh (t : Fin cfg0.N) (k : Fin 1024) : iblk m c 2 t (ix3 0 0 k)
    = m ((c : Thread nD τ).loc main_arg2) (ix2 (seqOf t) k) := by
  obtain ⟨h0, h1, h2, h3, h4, h5, h6, h7, h8, h9, h10, h11, h12, h13⟩ := idx_all t
  refine Eq.trans ?_ (V_sh m c (seqOf t) k)
  blk_ext [iblk, h2]

theorem blk_gm (t : Fin cfg0.N) (k : Fin 1024) : iblk m c 3 t (ix2 0 k)
    = m ((c : Thread nD τ).loc main_arg3) (ix2 0 k) := by
  obtain ⟨h0, h1, h2, h3, h4, h5, h6, h7, h8, h9, h10, h11, h12, h13⟩ := idx_all t
  refine Eq.trans ?_ (V_gm m c k)
  blk_ext [iblk, h3]

theorem blk_w (t : Fin cfg0.N) (k : Fin 1024) (q : Fin 5632) : iblk m c 4 t (ix3 0 k q)
    = m ((c : Thread nD τ).loc main_arg4) (ix3 0 k (src q)) := by
  obtain ⟨h0, h1, h2, h3, h4, h5, h6, h7, h8, h9, h10, h11, h12, h13⟩ := idx_all t
  refine Eq.trans ?_ (V_w m c 0 k q)
  blk_ext [iblk, h4]

theorem blk_wa (t : Fin cfg0.N) (k : Fin 1024) (i : Fin 16) : iblk m c 5 t (ix2 k ⟨i.val, by omega⟩)
    = m ((c : Thread nD τ).loc main_arg4) (ix3 0 k ⟨4096 + i.val, by omega⟩) := by
  obtain ⟨h0, h1, h2, h3, h4, h5, h6, h7, h8, h9, h10, h11, h12, h13⟩ := idx_all t
  refine Eq.trans ?_ (V_wa m c k i)
  blk_ext [iblk, h5]

theorem blk_a2 (t : Fin cfg0.N) (i : Fin 16) (l : Fin 512) : iblk m c 6 t (ix2 ⟨i.val, by omega⟩ l)
    = m ((c : Thread nD τ).loc main_arg5) (ix3 0 i l) := by
  obtain ⟨h0, h1, h2, h3, h4, h5, h6, h7, h8, h9, h10, h11, h12, h13⟩ := idx_all t
  refine Eq.trans ?_ (V_a2 m c i l)
  blk_ext [iblk, h6]

theorem blk_a2_zero (t : Fin cfg0.N) (i : Fin 112) (l : Fin 512) : iblk m c 6 t (ix2 ⟨16 + i.val, by omega⟩ l)
    = (0 : EReal) := by
  obtain ⟨h0, h1, h2, h3, h4, h5, h6, h7, h8, h9, h10, h11, h12, h13⟩ := idx_all t
  refine Eq.trans ?_ (V_a2_zero m c i l)
  blk_ext [iblk, h6]

theorem blk_ab (t : Fin cfg0.N) (l : Fin 512) : iblk m c 7 t (ix2 0 l)
    = m ((c : Thread nD τ).loc main_arg6) (ix2 0 l) := by
  obtain ⟨h0, h1, h2, h3, h4, h5, h6, h7, h8, h9, h10, h11, h12, h13⟩ := idx_all t
  refine Eq.trans ?_ (V_ab m c l)
  blk_ext [iblk, h7]

theorem blk_cos (t : Fin cfg0.N) (r : Fin 512) (d : Fin 128) : iblk m c 8 t (ix2 r d)
    = cosT (tokOf t r) d := by
  obtain ⟨h0, h1, h2, h3, h4, h5, h6, h7, h8, h9, h10, h11, h12, h13⟩ := idx_all t
  refine Eq.trans ?_ (V_cos m c (tokOf t r) d)
  blk_ext [iblk, h8]

theorem blk_sin (t : Fin cfg0.N) (r : Fin 512) (d : Fin 128) : iblk m c 9 t (ix2 r d)
    = sinT (tokOf t r) d := by
  obtain ⟨h0, h1, h2, h3, h4, h5, h6, h7, h8, h9, h10, h11, h12, h13⟩ := idx_all t
  refine Eq.trans ?_ (V_sin m c (tokOf t r) d)
  blk_ext [iblk, h9]

theorem blk_gq (t : Fin cfg0.N) (l : Fin 512) : iblk m c 10 t (ix2 0 l)
    = m ((c : Thread nD τ).loc main_arg7) (ix2 0 ⟨l.val % 64, by omega⟩) := by
  obtain ⟨h0, h1, h2, h3, h4, h5, h6, h7, h8, h9, h10, h11, h12, h13⟩ := idx_all t
  refine Eq.trans ?_ (V_gq m c l)
  blk_ext [iblk, h10]

theorem blk_gk (t : Fin cfg0.N) (l : Fin 512) : iblk m c 11 t (ix2 0 l)
    = m ((c : Thread nD τ).loc main_arg8) (ix2 0 ⟨l.val % 64, by omega⟩) := by
  obtain ⟨h0, h1, h2, h3, h4, h5, h6, h7, h8, h9, h10, h11, h12, h13⟩ := idx_all t
  refine Eq.trans ?_ (V_gk m c l)
  blk_ext [iblk, h11]

theorem norm_blk (t : Fin cfg0.N) (r : Fin 512) : normRow (iblk m c 0 t) (iblk m c 1 t) (iblk m c 2 t) (iblk m c 3 t) r
    = rowN (m ((c : Thread nD τ).loc main_arg0)) (m ((c : Thread nD τ).loc main_arg1)) (m ((c : Thread nD τ).loc main_arg2)) (m ((c : Thread nD τ).loc main_arg3)) (seqOf t) (tokOf t r) := by
  unfold normRow rowN
  simp only [blk_x, blk_sc, blk_sh, blk_gm]

theorem groups_blk (t : Fin cfg0.N) (r : Fin 512) : groups (iblk m c 0 t) (iblk m c 1 t) (iblk m c 2 t) (iblk m c 3 t) (iblk m c 4 t) r
    = rowG (m ((c : Thread nD τ).loc main_arg0)) (m ((c : Thread nD τ).loc main_arg1)) (m ((c : Thread nD τ).loc main_arg2)) (m ((c : Thread nD τ).loc main_arg3)) (m ((c : Thread nD τ).loc main_arg4)) (seqOf t) (tokOf t r) := by
  unfold groups rowG
  simp only [norm_blk, blk_w]

theorem final12 : (dats m 0 c).arrAt 12 cfg0.N = projArr (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg7)) (m ((c : Thread nD τ).loc main_arg8)) := by
  refine (dats m 0 c).arrAt_eq_of_covers 12 _ (by decide +kernel) fun t hf y => ?_
  have e := congrFun (flushed12 m c t) y
  obtain ⟨z, r, q, rfl⟩ : ∃ (z : Fin 1) (r : Fin 512) (q : Fin 5632), y = ix3 z r q := ⟨y 0, y 1, y 2, eq_ix3 y⟩
  obtain rfl : z = 0 := Subsingleton.elim _ _
  have ey : ((cfg0.win 12).blk t).view.emb (ix3 0 r q) = ix3 (seqOf t) (tokOf t r) q := by
    obtain ⟨h0, h1, h2, h3, h4, h5, h6, h7, h8, h9, h10, h11, h12, h13⟩ := idx_all t
    blk_ext [h12]
  rw [ey]
  refine e.trans ?_
  show out0_12 (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (ix3 0 r q) = _
  rw [out12_eq]
  obtain ⟨j, l, rfl⟩ := exists_grp q
  rw [blkOut_at _ _ _ _ _ _ _ _ _ r j l _ rfl rfl, groups_blk]
  simp only [blk_cos, blk_sin, blk_gq, blk_gk]
  exact (byGrp_grp _ j l).symm

theorem final13 : (dats m 0 c).arrAt 13 cfg0.N = decayArr (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) := by
  refine (dats m 0 c).arrAt_eq_of_covers 13 _ (by decide +kernel) fun t hf y => ?_
  have e := congrFun (flushed13 m c t) y
  obtain ⟨z, r, l, rfl⟩ : ∃ (z : Fin 1) (r l : Fin 512), y = ix3 z r l := ⟨y 0, y 1, y 2, eq_ix3 y⟩
  obtain rfl : z = 0 := Subsingleton.elim _ _
  have ey : ((cfg0.win 13).blk t).view.emb (ix3 0 r l) = ix3 (seqOf t) (tokOf t r) l := by
    obtain ⟨h0, h1, h2, h3, h4, h5, h6, h7, h8, h9, h10, h11, h12, h13⟩ := idx_all t
    blk_ext [h13]
  rw [ey]
  refine e.trans ?_
  show out0_13 (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (ix3 0 r l) = _
  rw [out13_at _ _ _ _ _ _ _ _ _ _ _ _ _ _ (fun k i => blk_wa m c t k i) (fun i l => blk_a2 m c t i l) (fun i l => blk_a2_zero m c t i l), norm_blk]
  simp only [blk_ab]
  rfl

/-- The input projection kernel's run: both results, of the arguments. -/
theorem kernel_run (ρ : Dev nD → PrngReg) : θ_run defs (onTc (τ := τ) (main (F := Ideal))) ⟨m, fun _ => 0, ρ⟩ fun r => ∀ c : Dev nD,
      r.2.mem ((c : Thread nD τ).loc main_v50_0) = projArr (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg7)) (m ((c : Thread nD τ).loc main_arg8))
      ∧ r.2.mem ((c : Thread nD τ).loc main_v50_1) = decayArr (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6))
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5)
      ∧ r.2.mem ((c : Thread nD τ).loc main_arg6) = m ((c : Thread nD τ).loc main_arg6)
      ∧ r.2.mem ((c : Thread nD τ).loc main_arg7) = m ((c : Thread nD τ).loc main_arg7)
      ∧ r.2.mem ((c : Thread nD τ).loc main_arg8) = m ((c : Thread nD τ).loc main_arg8) :=
  (θ_run defs _ _).mono (fun _ h c => ⟨(h c).1.trans (final12 m c), (h c).2.1.trans (final13 m c), (h c).2.2⟩) (run_blocks m ρ)

end Cert.Proj

end
-- ==== Proof.ProjRef.lean ====
/- The input projection's reference: its stages read at an index, and its run, whose two results are the arrays the kernel ends with. -/
module

public import proofs.«01_k».proof.Proof.ProjArray
public import proofs.«01_k».proof.Proof.Gen.Reference4Ideal.Run

@[expose] public section

set_option maxRecDepth 16384

noncomputable section

namespace Cert.Proj

open Cert.Reference4Ideal Cert.Reference4Ideal.Gen Cert.Reference4Ideal.Value Idealize.ShloMosaic Idealize.ShloMosaic.TcCoe Idealize.SL.Sem Cert.Merge

/-- The reference's normalisation with its scale and shift. -/
def hostNormed (X : FVec Ideal S4x8192x1024 .f32) (G SC SH : FVec Ideal S4x1024 .f32) : FVec Ideal S4x8192x1024 .f32 :=
  addf (mulf (mulf (mulf X (broadcastInDim S4x8192x1024 ![0, 1, 2] bcast_S4x8192x1_S4x8192x1024_0_1_2 (Host.rsqrt (addf (Host.divf (broadcastInDim
    S4x8192x1 ![0, 1] bcast_S4x8192_S4x8192x1_0_1 (Host.reduceAdd (mulf X X) (constant S_ .f32 0x00000000#32) reducesTo_S4x8192x1024_S4x8192_d2 h_S_))
    (broadcastInDim S4x8192x1 ![] bcast_S_S4x8192x1 (constant S_ .f32 0x44800000#32))) (broadcastInDim S4x8192x1 ![] bcast_S_S4x8192x1 (constant S_
    .f32 0x358637BD#32)))))) (broadcastInDim S4x8192x1024 ![0, 1, 2] bcast_S1x1x1024_S4x8192x1024_0_1_2 (broadcastInDim S1x1x1024 ![2]
    bcast_S1024_S1x1x1024_2 (shapeCast _ (extractStridedSlice S1x1024 ![0, 0] G slices_S4x1024_S1x1024_0_0) shapeCasts_S1x1024_S1024))))
    (broadcastInDim S4x8192x1024 ![0, 1, 2] bcast_S4x1x1024_S4x8192x1024_0_1_2 (addf (broadcastInDim S4x1x1024 ![] bcast_S_S4x1x1024 (constant S_ .f32
    0x3F800000#32)) (broadcastInDim S4x1x1024 ![0, 2] bcast_S4x1024_S4x1x1024_0_2 SC)))) (broadcastInDim S4x8192x1024 ![0, 1, 2]
    bcast_S4x1x1024_S4x8192x1024_0_1_2 (broadcastInDim S4x1x1024 ![0, 2] bcast_S4x1024_S4x1x1024_0_2 SH))

/-- The projection to all columns. -/
def hostProj (H : FVec Ideal S4x8192x1024 .f32) (W : FVec Ideal S4x1024x5648 .f32) : FVec Ideal S4x8192x5648 .f32 :=
  Host.dotGeneral dot_S4x8192x1024_S1024x5648_S4x8192x5648_2_0_01_1_n_n none H
    (shapeCast _ (extractStridedSlice S1x1024x5648 ![0, 0, 0] W slices_S4x1024x5648_S1x1024x5648_0_0_0) shapeCasts_S1x1024x5648_S1024x5648)

/-- The angles of the rotation. -/
def hostAngle : FVec Ideal S8192x64 .f32 :=
  mulf (broadcastInDim S8192x64 ![0, 1] bcast_S8192x1_S8192x64_0_1 (broadcastInDim S8192x1 ![0] bcast_S8192_S8192x1_0 (sitofp .f32 (iotaInDim S8192 32 0))))
    (broadcastInDim S8192x64 ![0, 1] bcast_S1x64_S8192x64_0_1 (broadcastInDim S1x64 ![1] bcast_S64_S1x64_1
      (Host.powf (broadcastInDim S64 ![] bcast_S_S64 (constant S_ .f32 0x461C4000#32))
        (Host.divf (Host.negf (sitofp .f32 (iotaInDim S64 32 0))) (broadcastInDim S64 ![] bcast_S_S64 (constant S_ .f32 0x42800000#32))))))

/-- Columns as four heads. -/
def hostHeads (A : FVec Ideal S4x8192x512 .f32) : FVec Ideal S4x8192x4x128 .f32 := shapeCast _ A shapeCasts_S4x8192x512_S4x8192x4x128

/-- Columns as eight heads. -/
def hostSubs (A : FVec Ideal S4x8192x512 .f32) : FVec Ideal S4x8192x8x64 .f32 := shapeCast _ A shapeCasts_S4x8192x512_S4x8192x8x64

/-- The rotary embedding of four heads. -/
def hostRope (A : FVec Ideal S4x8192x512 .f32) : FVec Ideal S4x8192x4x128 .f32 :=
  concatenate S4x8192x4x128 3 [⟨S4x8192x4x64, subf (mulf (extractStridedSlice S4x8192x4x64 ![0, 0, 0, 0] (hostHeads A)
    slices_S4x8192x4x128_S4x8192x4x64_0_0_0_0) (broadcastInDim S4x8192x4x64 ![0, 1, 2, 3] bcast_S1x8192x1x64_S4x8192x4x64_0_1_2_3 (broadcastInDim
    S1x8192x1x64 ![1, 3] bcast_S8192x64_S1x8192x1x64_1_3 (Host.cos hostAngle)))) (mulf (extractStridedSlice S4x8192x4x64 ![0, 0, 0, 64] (hostHeads A)
    slices_S4x8192x4x128_S4x8192x4x64_0_0_0_64) (broadcastInDim S4x8192x4x64 ![0, 1, 2, 3] bcast_S1x8192x1x64_S4x8192x4x64_0_1_2_3 (broadcastInDim
    S1x8192x1x64 ![1, 3] bcast_S8192x64_S1x8192x1x64_1_3 (Host.sin hostAngle))))⟩, ⟨S4x8192x4x64, addf (mulf (extractStridedSlice S4x8192x4x64 ![0, 0,
    0, 0] (hostHeads A) slices_S4x8192x4x128_S4x8192x4x64_0_0_0_0) (broadcastInDim S4x8192x4x64 ![0, 1, 2, 3] bcast_S1x8192x1x64_S4x8192x4x64_0_1_2_3
    (broadcastInDim S1x8192x1x64 ![1, 3] bcast_S8192x64_S1x8192x1x64_1_3 (Host.sin hostAngle)))) (mulf (extractStridedSlice S4x8192x4x64 ![0, 0, 0,
    64] (hostHeads A) slices_S4x8192x4x128_S4x8192x4x64_0_0_0_64) (broadcastInDim S4x8192x4x64 ![0, 1, 2, 3] bcast_S1x8192x1x64_S4x8192x4x64_0_1_2_3
    (broadcastInDim S1x8192x1x64 ![1, 3] bcast_S8192x64_S1x8192x1x64_1_3 (Host.cos hostAngle))))⟩]
    concatenates_S4x8192x4x64_S4x8192x4x64_S4x8192x4x128_d3

/-- The normalisation of eight heads with its gain. -/
def hostRms (A : FVec Ideal S4x8192x512 .f32) (G : FVec Ideal S4x64 .f32) : FVec Ideal S4x8192x8x64 .f32 :=
  mulf (mulf (hostSubs A) (broadcastInDim S4x8192x8x64 ![0, 1, 2, 3] bcast_S4x8192x8x1_S4x8192x8x64_0_1_2_3 (Host.rsqrt (addf (Host.divf
    (broadcastInDim S4x8192x8x1 ![0, 1, 2] bcast_S4x8192x8_S4x8192x8x1_0_1_2 (Host.reduceAdd (mulf (hostSubs A) (hostSubs A)) (constant S_ .f32
    0x00000000#32) reducesTo_S4x8192x8x64_S4x8192x8_d3 h_S_)) (broadcastInDim S4x8192x8x1 ![] bcast_S_S4x8192x8x1 (constant S_ .f32 0x42800000#32)))
    (broadcastInDim S4x8192x8x1 ![] bcast_S_S4x8192x8x1 (constant S_ .f32 0x358637BD#32)))))) (broadcastInDim S4x8192x8x64 ![0, 1, 2, 3]
    bcast_S1x1x1x64_S4x8192x8x64_0_1_2_3 (broadcastInDim S1x1x1x64 ![3] bcast_S64_S1x1x1x64_3 (shapeCast _ (extractStridedSlice S1x64 ![0, 0] G
    slices_S4x64_S1x64_0_0) shapeCasts_S1x64_S64)))

/-- The low-rank decays before the logarithm of the logistic function. -/
def hostDecay (P : FVec Ideal S4x8192x5648 .f32) (A2 : FVec Ideal S4x16x512 .f32) (AB : FVec Ideal S4x512 .f32) : FVec Ideal S4x8192x512 .f32 :=
  addf (Host.dotGeneral dot_S4x8192x16_S16x512_S4x8192x512_2_0_01_1_n_n none (extractStridedSlice S4x8192x16 ![0, 0, 4096] P
    slices_S4x8192x5648_S4x8192x16_0_0_4096) (shapeCast _ (extractStridedSlice S1x16x512 ![0, 0, 0] A2 slices_S4x16x512_S1x16x512_0_0_0)
    shapeCasts_S1x16x512_S16x512)) (broadcastInDim S4x8192x512 ![0, 1, 2] bcast_S1x1x512_S4x8192x512_0_1_2 (broadcastInDim S1x1x512 ![2]
    bcast_S512_S1x1x512_2 (shapeCast _ (extractStridedSlice S1x512 ![0, 0] AB slices_S4x512_S1x512_0_0) shapeCasts_S1x512_S512)))

/-- The logarithm of the logistic function, over sixteen. -/
def hostLog (Z : FVec Ideal S4x8192x512 .f32) : FVec Ideal S4x8192x512 .f32 :=
  Host.divf (Host.negf (select (cmpf .une (subf (Host.negf Z) (broadcastInDim S4x8192x512 ![] bcast_S_S4x8192x512 (constant S_ .f32 0x00000000#32)))
    (subf (Host.negf Z) (broadcastInDim S4x8192x512 ![] bcast_S_S4x8192x512 (constant S_ .f32 0x00000000#32)))) (addf (Host.negf Z) (broadcastInDim
    S4x8192x512 ![] bcast_S_S4x8192x512 (constant S_ .f32 0x00000000#32))) (addf (maximumf (Host.negf Z) (broadcastInDim S4x8192x512 ![]
    bcast_S_S4x8192x512 (constant S_ .f32 0x00000000#32))) (Host.log1p (Host.exp (Host.negf (Host.absf (subf (Host.negf Z) (broadcastInDim S4x8192x512
    ![] bcast_S_S4x8192x512 (constant S_ .f32 0x00000000#32)))))))))) (broadcastInDim S4x8192x512 ![] bcast_S_S4x8192x512 (constant S_ .f32
    0x41800000#32))

/-- Eleven column groups side by side. -/
def hostCat (u0 u1 u2 u3 u4 u5 u6 u7 u8 u9 u10 : FVec Ideal S4x8192x512 .f32) : FVec Ideal S4x8192x5632 .f32 :=
  concatenate S4x8192x5632 2 [⟨S4x8192x512, u0⟩, ⟨S4x8192x512, u1⟩, ⟨S4x8192x512, u2⟩, ⟨S4x8192x512, u3⟩, ⟨S4x8192x512, u4⟩, ⟨S4x8192x512, u5⟩, ⟨S4x8192x512, u6⟩, ⟨S4x8192x512, u7⟩, ⟨S4x8192x512, u8⟩, ⟨S4x8192x512, u9⟩, ⟨S4x8192x512, u10⟩]
    concatenates_S4x8192x512_S4x8192x512_S4x8192x512_S4x8192x512_S4x8192x512_S4x8192x512_S4x8192x512_S4x8192x512_S4x8192x512_S4x8192x512_S4x8192x512_S4x8192x5632_d2

/-- All columns of the result, of the projected columns. -/
def hostCols (P : FVec Ideal S4x8192x5648 .f32) (GQ GK : FVec Ideal S4x64 .f32) : FVec Ideal S4x8192x5632 .f32 :=
  hostCat (shapeCast _ (hostRope (extractStridedSlice S4x8192x512 ![0, 0, 0] P slices_S4x8192x5648_S4x8192x512_0_0_0)) shapeCasts_S4x8192x4x128_S4x8192x512)
    (shapeCast _ (mulf (hostRope (extractStridedSlice S4x8192x512 ![0, 0, 512] P slices_S4x8192x5648_S4x8192x512_0_0_512)) (broadcastInDim S4x8192x4x128 ![] bcast_S_S4x8192x4x128 (constant S_ .f32 0x3DB504F3#32))) shapeCasts_S4x8192x4x128_S4x8192x512)
    (extractStridedSlice S4x8192x512 ![0, 0, 1024] P slices_S4x8192x5648_S4x8192x512_0_0_1024)
    (extractStridedSlice S4x8192x512 ![0, 0, 1536] P slices_S4x8192x5648_S4x8192x512_0_0_1536)
    (shapeCast _ (mulf (hostHeads (extractStridedSlice S4x8192x512 ![0, 0, 2048] P slices_S4x8192x5648_S4x8192x512_0_0_2048)) (broadcastInDim S4x8192x4x128 ![] bcast_S_S4x8192x4x128 (constant S_ .f32 0x3DB504F3#32))) shapeCasts_S4x8192x4x128_S4x8192x512)
    (extractStridedSlice S4x8192x512 ![0, 0, 2560] P slices_S4x8192x5648_S4x8192x512_0_0_2560)
    (extractStridedSlice S4x8192x512 ![0, 0, 3072] P slices_S4x8192x5648_S4x8192x512_0_0_3072)
    (extractStridedSlice S4x8192x512 ![0, 0, 3584] P slices_S4x8192x5648_S4x8192x512_0_0_3584)
    (shapeCast _ (mulf (hostRms (extractStridedSlice S4x8192x512 ![0, 0, 4112] P slices_S4x8192x5648_S4x8192x512_0_0_4112) GQ) (broadcastInDim S4x8192x8x64 ![] bcast_S_S4x8192x8x64 (constant S_ .f32 0x3E38AA3B#32))) shapeCasts_S4x8192x8x64_S4x8192x512)
    (shapeCast _ (hostRms (extractStridedSlice S4x8192x512 ![0, 0, 4624] P slices_S4x8192x5648_S4x8192x512_0_0_4624) GK) shapeCasts_S4x8192x8x64_S4x8192x512)
    (extractStridedSlice S4x8192x512 ![0, 0, 5136] P slices_S4x8192x5648_S4x8192x512_0_0_5136)

/-- The normalised input at a token. -/
theorem normed_at (X : FVec Ideal S4x8192x1024 .f32) (G SC SH : FVec Ideal S4x1024 .f32) (b : Fin 4) (t : Fin 8192) (k : Fin 1024) :
    hostNormed X G SC SH (ix3 b t k) = rowN X SC SH G b t k := by
  pointwise [hostNormed, rowN, normed]

/-- The projection at a token and a column. -/
theorem proj_at (H : FVec Ideal S4x8192x1024 .f32) (W : FVec Ideal S4x1024x5648 .f32) (b : Fin 4) (t : Fin 8192) (q : Fin 5648) :
    hostProj H W (ix3 b t q) = ∑ k : Fin 1024, H (ix3 b t k) * W (ix3 0 k q) := by
  pointwise [hostProj]

/-- The rotary embedding at a head and a lane. -/
theorem rope_at (A : FVec Ideal S4x8192x512 .f32) (b : Fin 4) (t : Fin 8192) (n : Fin 4) (d : Fin 128) :
    hostRope A (ix4 b t n d) = rot (fun l => A (ix3 b t l)) (cosT t) (sinT t) n d := by
  have e1 : (⟨n.val * 128 + d.val, by omega⟩ : Fin 512) = lane n d := Fin.ext (by show n.val * 128 + d.val = 128 * n.val + d.val; omega)
  by_cases hd : d.val < 64
  · have e2 : (⟨n.val * 128 + (64 + d.val), by omega⟩ : Fin 512) = lane n (other d) :=
      Fin.ext (by show n.val * 128 + (64 + d.val) = 128 * n.val + (d.val + 128 - 64) % 128; omega)
    pointwise [hostRope, hostHeads, hostAngle, rot, cosT, sinT, angle]
    simp only [dif_pos hd, e1, e2, sub_eq_add_neg, mul_neg]
  · have e2 : (⟨n.val * 128 + (d.val - 64), by omega⟩ : Fin 512) = lane n (other d) :=
      Fin.ext (by show n.val * 128 + (d.val - 64) = 128 * n.val + (d.val + 128 - 64) % 128; omega)
    have e3 : (⟨n.val * 128 + (64 + (d.val - 64)), by omega⟩ : Fin 512) = lane n d :=
      Fin.ext (by show n.val * 128 + (64 + (d.val - 64)) = 128 * n.val + d.val; omega)
    pointwise [hostRope, hostHeads, hostAngle, rot, cosT, sinT, angle]
    simp only [dif_neg hd, e2, e3]
    exact add_comm _ _

/-- The normalised head at a lane. -/
theorem rms_at (A : FVec Ideal S4x8192x512 .f32) (G : FVec Ideal S4x64 .f32) (b : Fin 4) (t : Fin 8192) (q : Fin 8) (i : Fin 64) :
    hostRms A G (ix4 b t q i) = rms (fun l => A (ix3 b t l)) q i * G (ix2 0 i) := by
  have e : ∀ x : Fin 64, (⟨q.val * 64 + x.val, by omega⟩ : Fin 512) = sub q x :=
    fun x => Fin.ext (by show q.val * 64 + x.val = 64 * q.val + x.val; omega)
  pointwise [hostRms, hostSubs, rms]
  simp only [e]

/-- The log of the logistic function at a lane. -/
theorem log_at (Z : FVec Ideal S4x8192x512 .f32) (b : Fin 4) (t : Fin 8192) (l : Fin 512) :
    hostLog Z (ix3 b t l) = Ideal.div (-softplus (-Z (ix3 b t l))) (Ideal.ofBits .f32 0x41800000#32) := by
  pointwise [hostLog, softplus]
  simp only [ne_eq, not_true_eq_false, if_false]

/-- The low-rank decay at a lane. -/
theorem decay_at (P : FVec Ideal S4x8192x5648 .f32) (A2 : FVec Ideal S4x16x512 .f32) (AB : FVec Ideal S4x512 .f32) (b : Fin 4) (t : Fin 8192) (l : Fin 512) :
    hostDecay P A2 AB (ix3 b t l) = ∑ i : Fin 16, P (ix3 b t ⟨4096 + i.val, by omega⟩) * A2 (ix3 0 i l) + AB (ix2 0 l) := by
  pointwise [hostDecay]

/-- The side-by-side groups, read in group 0. -/
theorem cat_0 (u0 u1 u2 u3 u4 u5 u6 u7 u8 u9 u10 : FVec Ideal S4x8192x512 .f32) (b : Fin 4) (t : Fin 8192) (l : Fin 512) :
    hostCat u0 u1 u2 u3 u4 u5 u6 u7 u8 u9 u10 (ix3 b t (grp 0 l)) = u0 (ix3 b t l) := by
  pointwise [hostCat]

/-- The side-by-side groups, read in group 1. -/
theorem cat_1 (u0 u1 u2 u3 u4 u5 u6 u7 u8 u9 u10 : FVec Ideal S4x8192x512 .f32) (b : Fin 4) (t : Fin 8192) (l : Fin 512) :
    hostCat u0 u1 u2 u3 u4 u5 u6 u7 u8 u9 u10 (ix3 b t (grp 1 l)) = u1 (ix3 b t l) := by
  pointwise [hostCat]

/-- The side-by-side groups, read in group 2. -/
theorem cat_2 (u0 u1 u2 u3 u4 u5 u6 u7 u8 u9 u10 : FVec Ideal S4x8192x512 .f32) (b : Fin 4) (t : Fin 8192) (l : Fin 512) :
    hostCat u0 u1 u2 u3 u4 u5 u6 u7 u8 u9 u10 (ix3 b t (grp 2 l)) = u2 (ix3 b t l) := by
  have e : 1024 + l.val - 512 - 512 = l.val := by omega
  pointwise [hostCat]
  rw [dif_neg (by omega), dif_neg (by omega), dif_pos (by omega)]
  simp only [e]

/-- The side-by-side groups, read in group 3. -/
theorem cat_3 (u0 u1 u2 u3 u4 u5 u6 u7 u8 u9 u10 : FVec Ideal S4x8192x512 .f32) (b : Fin 4) (t : Fin 8192) (l : Fin 512) :
    hostCat u0 u1 u2 u3 u4 u5 u6 u7 u8 u9 u10 (ix3 b t (grp 3 l)) = u3 (ix3 b t l) := by
  have e : 1536 + l.val - 512 - 512 - 512 = l.val := by omega
  pointwise [hostCat]
  rw [dif_neg (by omega), dif_neg (by omega), dif_neg (by omega), dif_pos (by omega)]
  simp only [e]

/-- The side-by-side groups, read in group 4. -/
theorem cat_4 (u0 u1 u2 u3 u4 u5 u6 u7 u8 u9 u10 : FVec Ideal S4x8192x512 .f32) (b : Fin 4) (t : Fin 8192) (l : Fin 512) :
    hostCat u0 u1 u2 u3 u4 u5 u6 u7 u8 u9 u10 (ix3 b t (grp 4 l)) = u4 (ix3 b t l) := by
  have e : 2048 + l.val - 512 - 512 - 512 - 512 = l.val := by omega
  pointwise [hostCat]
  rw [dif_neg (by omega), dif_neg (by omega), dif_neg (by omega), dif_neg (by omega), dif_pos (by omega)]
  simp only [e]

/-- The side-by-side groups, read in group 5. -/
theorem cat_5 (u0 u1 u2 u3 u4 u5 u6 u7 u8 u9 u10 : FVec Ideal S4x8192x512 .f32) (b : Fin 4) (t : Fin 8192) (l : Fin 512) :
    hostCat u0 u1 u2 u3 u4 u5 u6 u7 u8 u9 u10 (ix3 b t (grp 5 l)) = u5 (ix3 b t l) := by
  have e : 2560 + l.val - 512 - 512 - 512 - 512 - 512 = l.val := by omega
  pointwise [hostCat]
  rw [dif_neg (by omega), dif_neg (by omega), dif_neg (by omega), dif_neg (by omega), dif_neg (by omega), dif_pos (by omega)]
  simp only [e]

/-- The side-by-side groups, read in group 6. -/
theorem cat_6 (u0 u1 u2 u3 u4 u5 u6 u7 u8 u9 u10 : FVec Ideal S4x8192x512 .f32) (b : Fin 4) (t : Fin 8192) (l : Fin 512) :
    hostCat u0 u1 u2 u3 u4 u5 u6 u7 u8 u9 u10 (ix3 b t (grp 6 l)) = u6 (ix3 b t l) := by
  have e : 3072 + l.val - 512 - 512 - 512 - 512 - 512 - 512 = l.val := by omega
  pointwise [hostCat]
  rw [dif_neg (by omega), dif_neg (by omega), dif_neg (by omega), dif_neg (by omega), dif_neg (by omega), dif_neg (by omega), dif_pos (by omega)]
  simp only [e]

/-- The side-by-side groups, read in group 7. -/
theorem cat_7 (u0 u1 u2 u3 u4 u5 u6 u7 u8 u9 u10 : FVec Ideal S4x8192x512 .f32) (b : Fin 4) (t : Fin 8192) (l : Fin 512) :
    hostCat u0 u1 u2 u3 u4 u5 u6 u7 u8 u9 u10 (ix3 b t (grp 7 l)) = u7 (ix3 b t l) := by
  have e : 3584 + l.val - 512 - 512 - 512 - 512 - 512 - 512 - 512 = l.val := by omega
  pointwise [hostCat]
  rw [dif_neg (by omega), dif_neg (by omega), dif_neg (by omega), dif_neg (by omega), dif_neg (by omega), dif_neg (by omega), dif_neg (by omega), dif_pos (by omega)]
  simp only [e]

/-- The side-by-side groups, read in group 8. -/
theorem cat_8 (u0 u1 u2 u3 u4 u5 u6 u7 u8 u9 u10 : FVec Ideal S4x8192x512 .f32) (b : Fin 4) (t : Fin 8192) (l : Fin 512) :
    hostCat u0 u1 u2 u3 u4 u5 u6 u7 u8 u9 u10 (ix3 b t (grp 8 l)) = u8 (ix3 b t l) := by
  have e : 4096 + l.val - 512 - 512 - 512 - 512 - 512 - 512 - 512 - 512 = l.val := by omega
  pointwise [hostCat]
  rw [dif_neg (by omega), dif_neg (by omega), dif_neg (by omega), dif_neg (by omega), dif_neg (by omega), dif_neg (by omega), dif_neg (by omega), dif_neg (by omega), dif_pos (by omega)]
  simp only [e]

/-- The side-by-side groups, read in group 9. -/
theorem cat_9 (u0 u1 u2 u3 u4 u5 u6 u7 u8 u9 u10 : FVec Ideal S4x8192x512 .f32) (b : Fin 4) (t : Fin 8192) (l : Fin 512) :
    hostCat u0 u1 u2 u3 u4 u5 u6 u7 u8 u9 u10 (ix3 b t (grp 9 l)) = u9 (ix3 b t l) := by
  have e : 4608 + l.val - 512 - 512 - 512 - 512 - 512 - 512 - 512 - 512 - 512 = l.val := by omega
  pointwise [hostCat]
  rw [dif_neg (by omega), dif_neg (by omega), dif_neg (by omega), dif_neg (by omega), dif_neg (by omega), dif_neg (by omega), dif_neg (by omega), dif_neg (by omega), dif_neg (by omega), dif_pos (by omega)]
  simp only [e]

/-- The side-by-side groups, read in group 10. -/
theorem cat_10 (u0 u1 u2 u3 u4 u5 u6 u7 u8 u9 u10 : FVec Ideal S4x8192x512 .f32) (b : Fin 4) (t : Fin 8192) (l : Fin 512) :
    hostCat u0 u1 u2 u3 u4 u5 u6 u7 u8 u9 u10 (ix3 b t (grp 10 l)) = u10 (ix3 b t l) := by
  have e : 5120 + l.val - 512 - 512 - 512 - 512 - 512 - 512 - 512 - 512 - 512 - 512 = l.val := by omega
  pointwise [hostCat]
  rw [dif_neg (by omega), dif_neg (by omega), dif_neg (by omega), dif_neg (by omega), dif_neg (by omega), dif_neg (by omega), dif_neg (by omega), dif_neg (by omega), dif_neg (by omega), dif_neg (by omega)]
  simp only [e]

/-- Column group 0 reads the projected column `src` names. -/
theorem cut_0 (P : FVec Ideal S4x8192x5648 .f32) (b : Fin 4) (t : Fin 8192) (l : Fin 512) :
    (extractStridedSlice S4x8192x512 ![0, 0, 0] P slices_S4x8192x5648_S4x8192x512_0_0_0) (ix3 b t l) = P (ix3 b t (src (grp 0 l))) := by
  have e : src (grp 0 l) = ⟨l.val, by omega⟩ := (dif_pos (show 512 * 0 + l.val < 4096 by omega)).trans (Fin.ext (by show 512 * 0 + l.val = l.val; omega))
  rw [e]
  pointwise

/-- Column group 1 reads the projected column `src` names. -/
theorem cut_1 (P : FVec Ideal S4x8192x5648 .f32) (b : Fin 4) (t : Fin 8192) (l : Fin 512) :
    (extractStridedSlice S4x8192x512 ![0, 0, 512] P slices_S4x8192x5648_S4x8192x512_0_0_512) (ix3 b t l) = P (ix3 b t (src (grp 1 l))) := by
  have e : src (grp 1 l) = ⟨512 + l.val, by omega⟩ := (dif_pos (show 512 * 1 + l.val < 4096 by omega)).trans (Fin.ext (by show 512 * 1 + l.val = 512 + l.val; omega))
  rw [e]
  pointwise

/-- Column group 2 reads the projected column `src` names. -/
theorem cut_2 (P : FVec Ideal S4x8192x5648 .f32) (b : Fin 4) (t : Fin 8192) (l : Fin 512) :
    (extractStridedSlice S4x8192x512 ![0, 0, 1024] P slices_S4x8192x5648_S4x8192x512_0_0_1024) (ix3 b t l) = P (ix3 b t (src (grp 2 l))) := by
  have e : src (grp 2 l) = ⟨1024 + l.val, by omega⟩ := (dif_pos (show 512 * 2 + l.val < 4096 by omega)).trans (Fin.ext (by show 512 * 2 + l.val = 1024 + l.val; omega))
  rw [e]
  pointwise

/-- Column group 3 reads the projected column `src` names. -/
theorem cut_3 (P : FVec Ideal S4x8192x5648 .f32) (b : Fin 4) (t : Fin 8192) (l : Fin 512) :
    (extractStridedSlice S4x8192x512 ![0, 0, 1536] P slices_S4x8192x5648_S4x8192x512_0_0_1536) (ix3 b t l) = P (ix3 b t (src (grp 3 l))) := by
  have e : src (grp 3 l) = ⟨1536 + l.val, by omega⟩ := (dif_pos (show 512 * 3 + l.val < 4096 by omega)).trans (Fin.ext (by show 512 * 3 + l.val = 1536 + l.val; omega))
  rw [e]
  pointwise

/-- Column group 4 reads the projected column `src` names. -/
theorem cut_4 (P : FVec Ideal S4x8192x5648 .f32) (b : Fin 4) (t : Fin 8192) (l : Fin 512) :
    (extractStridedSlice S4x8192x512 ![0, 0, 2048] P slices_S4x8192x5648_S4x8192x512_0_0_2048) (ix3 b t l) = P (ix3 b t (src (grp 4 l))) := by
  have e : src (grp 4 l) = ⟨2048 + l.val, by omega⟩ := (dif_pos (show 512 * 4 + l.val < 4096 by omega)).trans (Fin.ext (by show 512 * 4 + l.val = 2048 + l.val; omega))
  rw [e]
  pointwise

/-- Column group 5 reads the projected column `src` names. -/
theorem cut_5 (P : FVec Ideal S4x8192x5648 .f32) (b : Fin 4) (t : Fin 8192) (l : Fin 512) :
    (extractStridedSlice S4x8192x512 ![0, 0, 2560] P slices_S4x8192x5648_S4x8192x512_0_0_2560) (ix3 b t l) = P (ix3 b t (src (grp 5 l))) := by
  have e : src (grp 5 l) = ⟨2560 + l.val, by omega⟩ := (dif_pos (show 512 * 5 + l.val < 4096 by omega)).trans (Fin.ext (by show 512 * 5 + l.val = 2560 + l.val; omega))
  rw [e]
  pointwise

/-- Column group 6 reads the projected column `src` names. -/
theorem cut_6 (P : FVec Ideal S4x8192x5648 .f32) (b : Fin 4) (t : Fin 8192) (l : Fin 512) :
    (extractStridedSlice S4x8192x512 ![0, 0, 3072] P slices_S4x8192x5648_S4x8192x512_0_0_3072) (ix3 b t l) = P (ix3 b t (src (grp 6 l))) := by
  have e : src (grp 6 l) = ⟨3072 + l.val, by omega⟩ := (dif_pos (show 512 * 6 + l.val < 4096 by omega)).trans (Fin.ext (by show 512 * 6 + l.val = 3072 + l.val; omega))
  rw [e]
  pointwise

/-- Column group 7 reads the projected column `src` names. -/
theorem cut_7 (P : FVec Ideal S4x8192x5648 .f32) (b : Fin 4) (t : Fin 8192) (l : Fin 512) :
    (extractStridedSlice S4x8192x512 ![0, 0, 3584] P slices_S4x8192x5648_S4x8192x512_0_0_3584) (ix3 b t l) = P (ix3 b t (src (grp 7 l))) := by
  have e : src (grp 7 l) = ⟨3584 + l.val, by omega⟩ := (dif_pos (show 512 * 7 + l.val < 4096 by omega)).trans (Fin.ext (by show 512 * 7 + l.val = 3584 + l.val; omega))
  rw [e]
  pointwise

/-- Column group 8 reads the projected column `src` names. -/
theorem cut_8 (P : FVec Ideal S4x8192x5648 .f32) (b : Fin 4) (t : Fin 8192) (l : Fin 512) :
    (extractStridedSlice S4x8192x512 ![0, 0, 4112] P slices_S4x8192x5648_S4x8192x512_0_0_4112) (ix3 b t l) = P (ix3 b t (src (grp 8 l))) := by
  have e : src (grp 8 l) = ⟨4112 + l.val, by omega⟩ := (dif_neg (show ¬512 * 8 + l.val < 4096 by omega)).trans (Fin.ext (by show 4112 + (512 * 8 + l.val - 4096) = 4112 + l.val; omega))
  rw [e]
  pointwise

/-- Column group 9 reads the projected column `src` names. -/
theorem cut_9 (P : FVec Ideal S4x8192x5648 .f32) (b : Fin 4) (t : Fin 8192) (l : Fin 512) :
    (extractStridedSlice S4x8192x512 ![0, 0, 4624] P slices_S4x8192x5648_S4x8192x512_0_0_4624) (ix3 b t l) = P (ix3 b t (src (grp 9 l))) := by
  have e : src (grp 9 l) = ⟨4624 + l.val, by omega⟩ := (dif_neg (show ¬512 * 9 + l.val < 4096 by omega)).trans (Fin.ext (by show 4112 + (512 * 9 + l.val - 4096) = 4624 + l.val; omega))
  rw [e]
  pointwise

/-- Column group 10 reads the projected column `src` names. -/
theorem cut_10 (P : FVec Ideal S4x8192x5648 .f32) (b : Fin 4) (t : Fin 8192) (l : Fin 512) :
    (extractStridedSlice S4x8192x512 ![0, 0, 5136] P slices_S4x8192x5648_S4x8192x512_0_0_5136) (ix3 b t l) = P (ix3 b t (src (grp 10 l))) := by
  have e : src (grp 10 l) = ⟨5136 + l.val, by omega⟩ := (dif_neg (show ¬512 * 10 + l.val < 4096 by omega)).trans (Fin.ext (by show 4112 + (512 * 10 + l.val - 4096) = 5136 + l.val; omega))
  rw [e]
  pointwise

/-- Four heads flattened, at a head and a lane. -/
theorem flat4_at (B : FVec Ideal S4x8192x4x128 .f32) (b : Fin 4) (t : Fin 8192) (n : Fin 4) (d : Fin 128) :
    shapeCast S4x8192x512 B shapeCasts_S4x8192x4x128_S4x8192x512 (ix3 b t (lane n d)) = B (ix4 b t n d) := by
  have e1 : (⟨(128 * n.val + d.val) / 128, by omega⟩ : Fin 4) = n := Fin.ext (by show (128 * n.val + d.val) / 128 = n.val; omega)
  have e2 : (⟨(128 * n.val + d.val) % 128, by omega⟩ : Fin 128) = d := Fin.ext (by show (128 * n.val + d.val) % 128 = d.val; omega)
  pointwise
  simp only [e1, e2]

/-- Eight heads flattened, at a head and a lane. -/
theorem flat8_at (B : FVec Ideal S4x8192x8x64 .f32) (b : Fin 4) (t : Fin 8192) (q : Fin 8) (i : Fin 64) :
    shapeCast S4x8192x512 B shapeCasts_S4x8192x8x64_S4x8192x512 (ix3 b t (sub q i)) = B (ix4 b t q i) := by
  have e1 : (⟨(64 * q.val + i.val) / 64, by omega⟩ : Fin 8) = q := Fin.ext (by show (64 * q.val + i.val) / 64 = q.val; omega)
  have e2 : (⟨(64 * q.val + i.val) % 64, by omega⟩ : Fin 64) = i := Fin.ext (by show (64 * q.val + i.val) % 64 = i.val; omega)
  pointwise
  simp only [e1, e2]

/-- Columns as four heads, at a head and a lane. -/
theorem heads_at (A : FVec Ideal S4x8192x512 .f32) (b : Fin 4) (t : Fin 8192) (n : Fin 4) (d : Fin 128) :
    hostHeads A (ix4 b t n d) = A (ix3 b t (lane n d)) := by
  have e1 : (⟨n.val * 128 + d.val, by omega⟩ : Fin 512) = lane n d := Fin.ext (by show n.val * 128 + d.val = 128 * n.val + d.val; omega)
  pointwise [hostHeads]
  simp only [e1]

/-- The result in column group 0. -/
theorem cols_0 (P : FVec Ideal S4x8192x5648 .f32) (GQ GK : FVec Ideal S4x64 .f32) (b : Fin 4) (t : Fin 8192) (l : Fin 512) :
    hostCols P GQ GK (ix3 b t (grp 0 l)) = byLane (rot (fun l => P (ix3 b t (src (grp 0 l)))) (cosT t) (sinT t)) l := by
  unfold hostCols
  rw [cat_0]
  obtain ⟨n, d, rfl⟩ := exists_lane l
  rw [flat4_at]
  rw [rope_at, byLane_lane]
  simp only [cut_0]

/-- The result in column group 1. -/
theorem cols_1 (P : FVec Ideal S4x8192x5648 .f32) (GQ GK : FVec Ideal S4x64 .f32) (b : Fin 4) (t : Fin 8192) (l : Fin 512) :
    hostCols P GQ GK (ix3 b t (grp 1 l)) = byLane (rot (fun l => P (ix3 b t (src (grp 1 l)))) (cosT t) (sinT t)) l * Ideal.ofBits .f32 0x3DB504F3#32 := by
  unfold hostCols
  rw [cat_1]
  obtain ⟨n, d, rfl⟩ := exists_lane l
  rw [flat4_at]
  show hostRope (extractStridedSlice S4x8192x512 ![0, 0, 512] P slices_S4x8192x5648_S4x8192x512_0_0_512) (ix4 b t n d) * Ideal.ofBits .f32 0x3DB504F3#32 = _
  rw [rope_at, byLane_lane]
  simp only [cut_1]

/-- The result in column group 2. -/
theorem cols_2 (P : FVec Ideal S4x8192x5648 .f32) (GQ GK : FVec Ideal S4x64 .f32) (b : Fin 4) (t : Fin 8192) (l : Fin 512) :
    hostCols P GQ GK (ix3 b t (grp 2 l)) = P (ix3 b t (src (grp 2 l))) := by
  unfold hostCols
  rw [cat_2]
  rw [cut_2]

/-- The result in column group 3. -/
theorem cols_3 (P : FVec Ideal S4x8192x5648 .f32) (GQ GK : FVec Ideal S4x64 .f32) (b : Fin 4) (t : Fin 8192) (l : Fin 512) :
    hostCols P GQ GK (ix3 b t (grp 3 l)) = P (ix3 b t (src (grp 3 l))) := by
  unfold hostCols
  rw [cat_3]
  rw [cut_3]

/-- The result in column group 4. -/
theorem cols_4 (P : FVec Ideal S4x8192x5648 .f32) (GQ GK : FVec Ideal S4x64 .f32) (b : Fin 4) (t : Fin 8192) (l : Fin 512) :
    hostCols P GQ GK (ix3 b t (grp 4 l)) = P (ix3 b t (src (grp 4 l))) * Ideal.ofBits .f32 0x3DB504F3#32 := by
  unfold hostCols
  rw [cat_4]
  obtain ⟨n, d, rfl⟩ := exists_lane l
  rw [flat4_at]
  show hostHeads (extractStridedSlice S4x8192x512 ![0, 0, 2048] P slices_S4x8192x5648_S4x8192x512_0_0_2048) (ix4 b t n d) * Ideal.ofBits .f32 0x3DB504F3#32 = _
  rw [heads_at, cut_4]

/-- The result in column group 5. -/
theorem cols_5 (P : FVec Ideal S4x8192x5648 .f32) (GQ GK : FVec Ideal S4x64 .f32) (b : Fin 4) (t : Fin 8192) (l : Fin 512) :
    hostCols P GQ GK (ix3 b t (grp 5 l)) = P (ix3 b t (src (grp 5 l))) := by
  unfold hostCols
  rw [cat_5]
  rw [cut_5]

/-- The result in column group 6. -/
theorem cols_6 (P : FVec Ideal S4x8192x5648 .f32) (GQ GK : FVec Ideal S4x64 .f32) (b : Fin 4) (t : Fin 8192) (l : Fin 512) :
    hostCols P GQ GK (ix3 b t (grp 6 l)) = P (ix3 b t (src (grp 6 l))) := by
  unfold hostCols
  rw [cat_6]
  rw [cut_6]

/-- The result in column group 7. -/
theorem cols_7 (P : FVec Ideal S4x8192x5648 .f32) (GQ GK : FVec Ideal S4x64 .f32) (b : Fin 4) (t : Fin 8192) (l : Fin 512) :
    hostCols P GQ GK (ix3 b t (grp 7 l)) = P (ix3 b t (src (grp 7 l))) := by
  unfold hostCols
  rw [cat_7]
  rw [cut_7]

/-- The result in column group 8. -/
theorem cols_8 (P : FVec Ideal S4x8192x5648 .f32) (GQ GK : FVec Ideal S4x64 .f32) (b : Fin 4) (t : Fin 8192) (l : Fin 512) :
    hostCols P GQ GK (ix3 b t (grp 8 l)) = bySub (rms (fun l => P (ix3 b t (src (grp 8 l))))) l * GQ (ix2 0 ⟨l.val % 64, by omega⟩) * Ideal.ofBits .f32 0x3E38AA3B#32 := by
  unfold hostCols
  rw [cat_8]
  obtain ⟨q, i, rfl⟩ := exists_sub l
  have e : (⟨(64 * q.val + i.val) % 64, by omega⟩ : Fin 64) = i := Fin.ext (by show (64 * q.val + i.val) % 64 = i.val; omega)
  rw [flat8_at]
  show hostRms (extractStridedSlice S4x8192x512 ![0, 0, 4112] P slices_S4x8192x5648_S4x8192x512_0_0_4112) GQ (ix4 b t q i) * Ideal.ofBits .f32 0x3E38AA3B#32 = _
  rw [rms_at, bySub_sub]
  simp only [cut_8, e]

/-- The result in column group 9. -/
theorem cols_9 (P : FVec Ideal S4x8192x5648 .f32) (GQ GK : FVec Ideal S4x64 .f32) (b : Fin 4) (t : Fin 8192) (l : Fin 512) :
    hostCols P GQ GK (ix3 b t (grp 9 l)) = bySub (rms (fun l => P (ix3 b t (src (grp 9 l))))) l * GK (ix2 0 ⟨l.val % 64, by omega⟩) := by
  unfold hostCols
  rw [cat_9]
  obtain ⟨q, i, rfl⟩ := exists_sub l
  have e : (⟨(64 * q.val + i.val) % 64, by omega⟩ : Fin 64) = i := Fin.ext (by show (64 * q.val + i.val) % 64 = i.val; omega)
  rw [flat8_at]
  rw [rms_at, bySub_sub]
  simp only [cut_9, e]

/-- The result in column group 10. -/
theorem cols_10 (P : FVec Ideal S4x8192x5648 .f32) (GQ GK : FVec Ideal S4x64 .f32) (b : Fin 4) (t : Fin 8192) (l : Fin 512) :
    hostCols P GQ GK (ix3 b t (grp 10 l)) = P (ix3 b t (src (grp 10 l))) := by
  unfold hostCols
  rw [cat_10]
  rw [cut_10]

/-- All columns of the result at a token's group and lane. -/
theorem cols_at (P : FVec Ideal S4x8192x5648 .f32) (GQ GK : FVec Ideal S4x64 .f32) (b : Fin 4) (t : Fin 8192) (j : Fin 11) (l : Fin 512) :
    hostCols P GQ GK (ix3 b t (grp j l)) = outCell (fun j l => P (ix3 b t (src (grp j l)))) (cosT t) (sinT t)
      (fun l => GQ (ix2 0 ⟨l.val % 64, by omega⟩)) (fun l => GK (ix2 0 ⟨l.val % 64, by omega⟩)) j l := by
  fin_cases j
  · exact cols_0 P GQ GK b t l
  · exact cols_1 P GQ GK b t l
  · exact cols_2 P GQ GK b t l
  · exact cols_3 P GQ GK b t l
  · exact cols_4 P GQ GK b t l
  · exact cols_5 P GQ GK b t l
  · exact cols_6 P GQ GK b t l
  · exact cols_7 P GQ GK b t l
  · exact cols_8 P GQ GK b t l
  · exact cols_9 P GQ GK b t l
  · exact cols_10 P GQ GK b t l

variable (m : (l : Idealize.ShloMosaic.Loc nD τ sig) → Buf (Elt Ideal) l) (c : Dev nD)

/-- The run's projection is the stage `hostProj`. -/
theorem res_proj (V0 : Valuation τ sig (Elt Ideal)) : res_main_v25 V0 = hostProj (hostNormed (V0 (Proc.devRef .tc main_arg0)) (V0 (Proc.devRef .tc main_arg3)) (V0 (Proc.devRef .tc main_arg1)) (V0 (Proc.devRef .tc main_arg2))) (V0 (Proc.devRef .tc main_arg4)) := rfl

/-- The run's columns are the stage `hostCols`. -/
theorem res_cols (V0 : Valuation τ sig (Elt Ideal)) : res_main_v152 V0 = hostCols (res_main_v25 V0) (V0 (Proc.devRef .tc main_arg7)) (V0 (Proc.devRef .tc main_arg8)) := rfl

/-- The columns are the array the kernel leaves. -/
theorem hostCols_eq (X : FVec Ideal S4x8192x1024 .f32) (SC SH G : FVec Ideal S4x1024 .f32) (W : FVec Ideal S4x1024x5648 .f32) (GQ GK : FVec Ideal S4x64 .f32) :
    truncf .bf16 (hostCols (hostProj (hostNormed X G SC SH) W) GQ GK) bitsLt_bf16_f32 = projArr X SC SH G W GQ GK := by
  funext y
  obtain ⟨b, t, q, rfl⟩ : ∃ (b : Fin 4) (t : Fin 8192) (q : Fin 5632), y = ix3 b t q := ⟨y 0, y 1, y 2, eq_ix3 y⟩
  obtain ⟨j, l, rfl⟩ := exists_grp q
  refine (cols_at _ GQ GK b t j l).trans ?_
  refine Eq.trans ?_ (byGrp_grp (rowO X SC SH G W GQ GK b t) j l).symm
  simp only [proj_at, normed_at]
  rfl

/-- The decays are the array the kernel leaves. -/
theorem hostDecay_eq (X : FVec Ideal S4x8192x1024 .f32) (SC SH G : FVec Ideal S4x1024 .f32) (W : FVec Ideal S4x1024x5648 .f32) (A2 : FVec Ideal S4x16x512 .f32)
    (AB : FVec Ideal S4x512 .f32) : hostLog (hostDecay (hostProj (hostNormed X G SC SH) W) A2 AB) = decayArr X SC SH G W A2 AB := by
  funext y
  obtain ⟨b, t, l, rfl⟩ : ∃ (b : Fin 4) (t : Fin 8192) (l : Fin 512), y = ix3 b t l := ⟨y 0, y 1, y 2, eq_ix3 y⟩
  refine (log_at _ b t l).trans ?_
  simp only [decay_at, proj_at, normed_at]
  rfl

/-- The run's columns, of the arguments. -/
theorem ref_cols : truncf .bf16 (res_main_v152 (StableHlo.launchContents m c)) bitsLt_bf16_f32 = projArr (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg7)) (m ((c : Thread nD τ).loc main_arg8)) := by
  rw [res_cols, res_proj]
  exact hostCols_eq _ _ _ _ _ _ _

/-- The reference's run: both results, of the arguments. -/
theorem reference_run (ρ : Dev nD → PrngReg) : θ_run (defs (F := Ideal)) (onTc (τ := τ) (main (F := Ideal))) ⟨m, fun _ => 0, ρ⟩ fun r => ∀ c : Dev nD,
      r.2.mem ((c : Thread nD τ).loc main_v153) = projArr (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg7)) (m ((c : Thread nD τ).loc main_arg8))
      ∧ r.2.mem ((c : Thread nD τ).loc main_v109) = decayArr (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6))
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5)
      ∧ r.2.mem ((c : Thread nD τ).loc main_arg6) = m ((c : Thread nD τ).loc main_arg6)
      ∧ r.2.mem ((c : Thread nD τ).loc main_arg7) = m ((c : Thread nD τ).loc main_arg7)
      ∧ r.2.mem ((c : Thread nD τ).loc main_arg8) = m ((c : Thread nD τ).loc main_arg8) :=
  (θ_run defs _ _).mono (fun _ h c => ⟨(h c).1.trans (ref_cols m c), (h c).2.1.trans
    ((show _ = hostLog (hostDecay (hostProj (hostNormed (m ((c : Thread nD τ).loc main_arg0)) (m ((c : Thread nD τ).loc main_arg3)) (m ((c : Thread nD τ).loc main_arg1)) (m ((c : Thread nD τ).loc main_arg2))) (m ((c : Thread nD τ).loc main_arg4))) (m ((c : Thread nD τ).loc main_arg5)) (m ((c : Thread nD τ).loc main_arg6))) from rfl).trans (hostDecay_eq _ _ _ _ _ _ _)), (h c).2.2⟩) (run m ρ)

end Cert.Proj

end
-- ==== Proof.ProjClaim.lean ====
/- The input projection's claims: the reference's frame and the value, of the two runs. -/
module

public import proofs.«01_k».proof.Defs
public import proofs.«01_k».proof.Proof.ProjRef
public import proofs.«01_k».proof.Proof.Gen.Kernel4Ideal
public import proofs.«01_k».proof.Proof.Gen.Reference4Ideal
public import Idealize.ShloMosaic.Adequacy
public import Idealize.ShloMosaic.Init

@[expose] public section

noncomputable section

namespace Cert.Proj

open Idealize.ShloMosaic Idealize.SL.Sem

/-- The reference keeps its arguments, and declares no semaphore. -/
theorem frame_ref : Cert.quiescent_Reference4Ideal := fun m ρ _ =>
  (θ_run Cert.Reference4Ideal.defs _ _).mono (fun r h => ⟨fun c => (h c).2.2, sem_eq_zero_of_no_sems (by decide) r.2⟩)
    (reference_run m ρ)

/-- Both sides end at `projArr` and `decayArr` of their arguments, which agree. -/
theorem value : Cert.algebraic_Kernel4Ideal_Reference4Ideal := by
  intro m g m' g' _ hag
  refine ⟨_, _, kernel_run m g, (θ_run Cert.Reference4Ideal.defs _ _).mono (fun r h c => ?_) (reference_run m' g')⟩
  obtain ⟨h0, h1, h2⟩ := h c
  obtain ⟨a0, a1, a2, a3, a4, a5, a6, a7, a8⟩ := hag c
  refine ⟨h0.trans ?_, h1.trans ?_, h2⟩
  · rw [a0, a1, a2, a3, a4, a7, a8]
  · rw [a0, a1, a2, a3, a4, a5, a6]

end Cert.Proj

end
-- ==== Proof.SamBlock.lean ====
/- The sample's block of the input projection's kernel: each of its payloads read at a row and a lane, and the two blocks it leaves. -/
module

public import proofs.«01_k».proof.Proof.ProjBlock
public import proofs.«01_k».proof.Proof.Gen.Kernel5Ideal.Frame
public import Idealize.ShloMosaic.Lib.Pipeline.ValueKit

@[expose] public section

set_option maxRecDepth 16384

noncomputable section

namespace Cert.Sam

open Cert.Kernel5Ideal Cert.Kernel5Ideal.Gen Idealize.ShloMosaic Cert.Merge Cert.Proj

/-- Row `r` of the normalised block `h` through 512 columns of the weights. -/
def blkRow (h : FVec Ideal S256x1024 .bf16) (w : Vec Ideal S1x1024x512 .bf16) (r : Fin 256) : Fin 512 → EReal :=
  dotRow (fun k => h (ix2 r k)) (fun k l => w (ix3 0 k l))

theorem pay2_at (x : Vec Ideal S1x256x1024 .f32) (g : Vec Ideal S1x1024 .f32) (sc sh : Vec Ideal S1x256x1024 .f32) (r : Fin 256) (k : Fin 1024) :
    k0_pay2 x g sc sh (ix2 r k) = normed (fun k => x (ix3 0 r k)) (fun k => g (ix2 0 k)) (fun k => sc (ix3 0 r k)) (fun k => sh (ix3 0 r k)) k := by
  pointwise [k0_pay2, normed]

theorem pay6_at (h : FVec Ideal S256x1024 .bf16) (cs sn : FVec Ideal S256x128 .f32) (w : Vec Ideal S1x1024x512 .bf16) (r : Fin 256) (n : Fin 4) (d : Fin 128) :
    k0_pay6 h cs sn w (ix3 0 r (lane n d)) = rot (blkRow h w r) (fun d => cs (ix2 r d)) (fun d => sn (ix2 r d)) n d := by
  have e2 : 256 + d.val - 128 - 128 = d.val := by omega
  have e3 : 384 + d.val - 128 - 128 - 128 = d.val := by omega
  fin_cases n
  · pointwise [k0_pay6, rot, blkRow, dotRow]
    simp only [lane_zero]
  · pointwise [k0_pay6, rot, blkRow, dotRow]
    rfl
  · pointwise [k0_pay6, rot, blkRow, dotRow]
    simp (disch := omega) only [dif_neg, dif_pos, e2]
    rfl
  · pointwise [k0_pay6, rot, blkRow, dotRow]
    simp (disch := omega) only [dif_neg, dif_pos, e3]
    rfl

/-- The rotated keys of a block, from the payloads they are computed through. -/
def keys (h : FVec Ideal S256x1024 .bf16) (cs sn : FVec Ideal S256x128 .f32) (w : Vec Ideal S1x1024x512 .bf16) : FVec Ideal S1x256x512 .bf16 :=
  k0_pay13 cs sn (k0_pay7 h w) (k0_pay8 h cs sn w) (k0_pay9 h cs sn w) (k0_pay11 h cs w) (k0_pay12 h sn w)

theorem keys_at (h : FVec Ideal S256x1024 .bf16) (cs sn : FVec Ideal S256x128 .f32) (w : Vec Ideal S1x1024x512 .bf16) (r : Fin 256) (n : Fin 4) (d : Fin 128) :
    keys h cs sn w (ix3 0 r (lane n d)) = rot (blkRow h w r) (fun d => cs (ix2 r d)) (fun d => sn (ix2 r d)) n d * Ideal.ofBits .f32 0x3DB504F3#32 := by
  have e2 : 256 + d.val - 128 - 128 = d.val := by omega
  have e3 : 384 + d.val - 128 - 128 - 128 = d.val := by omega
  fin_cases n
  · pointwise [keys, k0_pay13, k0_pay12, k0_pay7, k0_pay8, k0_pay9, k0_pay10, k0_pay11, rot, blkRow, dotRow]
    simp only [lane_zero]
  · pointwise [keys, k0_pay13, k0_pay12, k0_pay7, k0_pay8, k0_pay9, k0_pay10, k0_pay11, rot, blkRow, dotRow]
    rfl
  · pointwise [keys, k0_pay13, k0_pay12, k0_pay7, k0_pay8, k0_pay9, k0_pay10, k0_pay11, rot, blkRow, dotRow]
    simp (disch := omega) only [dif_neg, dif_pos, e2]
    rfl
  · pointwise [keys, k0_pay13, k0_pay12, k0_pay7, k0_pay8, k0_pay9, k0_pay10, k0_pay11, rot, blkRow, dotRow]
    simp (disch := omega) only [dif_neg, dif_pos, e3]
    rfl

theorem pay1_at (h : FVec Ideal S256x1024 .bf16) (w : Vec Ideal S1x1024x512 .bf16) (r : Fin 256) (l : Fin 512) :
    k0_pay1 h w (ix3 0 r l) = blkRow h w r l := by
  pointwise [k0_pay1, blkRow, dotRow]

theorem pay14_at (h : FVec Ideal S256x1024 .bf16) (w : Vec Ideal S1x1024x512 .bf16) (r : Fin 256) (l : Fin 512) :
    k0_pay14 h w (ix3 0 r l) = blkRow h w r l := by
  pointwise [k0_pay14, blkRow, dotRow]

theorem pay15_at (h : FVec Ideal S256x1024 .bf16) (w : Vec Ideal S1x1024x512 .bf16) (r : Fin 256) (l : Fin 512) :
    k0_pay15 h w (ix3 0 r l) = blkRow h w r l := by
  pointwise [k0_pay15, blkRow, dotRow]

theorem pay17_at (h : FVec Ideal S256x1024 .bf16) (w : Vec Ideal S1x1024x512 .bf16) (r : Fin 256) (l : Fin 512) :
    k0_pay17 (k0_pay16 h w) (ix3 0 r l) = blkRow h w r l * Ideal.ofBits .f32 0x3DB504F3#32 := by
  pointwise [k0_pay17, k0_pay16, blkRow, dotRow]

theorem pay20_at (h : FVec Ideal S256x1024 .bf16) (w : Vec Ideal S1x1024x512 .bf16) (r : Fin 256) (l : Fin 512) :
    k0_pay20 (k0_pay19 h w) (ix3 0 r l) = blkRow h w r l := by
  pointwise [k0_pay20, k0_pay19, blkRow, dotRow]

theorem pay21_at (h : FVec Ideal S256x1024 .bf16) (w : Vec Ideal S1x1024x512 .bf16) (r : Fin 256) (l : Fin 512) :
    k0_pay21 h w (ix3 0 r l) = blkRow h w r l := by
  pointwise [k0_pay21, blkRow, dotRow]

theorem pay22_at (h : FVec Ideal S256x1024 .bf16) (w : Vec Ideal S1x1024x512 .bf16) (r : Fin 256) (l : Fin 512) :
    k0_pay22 h w (ix3 0 r l) = blkRow h w r l := by
  pointwise [k0_pay22, blkRow, dotRow]

/-- The normalised queries of a block, from the payloads they are computed through. -/
def qnorm (h : FVec Ideal S256x1024 .bf16) (w : Vec Ideal S1x1024x512 .bf16) (g : Vec Ideal S1x512 .f32) : FVec Ideal S1x256x512 .bf16 :=
  k0_pay36 (k0_pay24 g) (k0_pay29 k0_pay25 (k0_pay26 h w) (k0_pay27 h w) (k0_pay28 h w)) (k0_pay30 (k0_pay23 h w) k0_pay25)
    (k0_pay33 k0_pay25 (k0_pay31 (k0_pay23 h w)) (k0_pay32 (k0_pay23 h w))) (k0_pay34 (k0_pay23 h w)) (k0_pay35 (k0_pay23 h w) k0_pay25)
    (Scalar.ofBits .f32 0x358637BD#32)

theorem qnorm_lane (h : FVec Ideal S256x1024 .bf16) (w : Vec Ideal S1x1024x512 .bf16) (g : Vec Ideal S1x512 .f32) (r : Fin 256) (n : Fin 4) (d : Fin 128) :
    qnorm h w g (ix3 0 r (lane n d)) = blkRow h w r (lane n d) * Ideal.rsqrt (masked (fun x => blkRow h w r (lane n x) * blkRow h w r (lane n x)) d
        * Ideal.ofBits .f32 0x3C800000#32 + Ideal.ofBits .f32 0x358637BD#32) * g (ix2 0 (lane n d)) * Ideal.ofBits .f32 0x3E38AA3B#32 := by
  have e2 : 256 + d.val - 128 - 128 = d.val := by omega
  have e3 : 384 + d.val - 128 - 128 - 128 = d.val := by omega
  fin_cases n
  · pointwise [qnorm, k0_pay36, k0_pay30, k0_pay31, k0_pay32, k0_pay33, k0_pay34, k0_pay35, k0_pay24, k0_pay25, k0_pay26, k0_pay27, k0_pay28, k0_pay29, k0_pay23, masked, blkRow, dotRow]
    simp only [lane_zero]
  · pointwise [qnorm, k0_pay36, k0_pay30, k0_pay31, k0_pay32, k0_pay33, k0_pay34, k0_pay35, k0_pay24, k0_pay25, k0_pay26, k0_pay27, k0_pay28, k0_pay29, k0_pay23, masked, blkRow, dotRow]
    rfl
  · pointwise [qnorm, k0_pay36, k0_pay30, k0_pay31, k0_pay32, k0_pay33, k0_pay34, k0_pay35, k0_pay24, k0_pay25, k0_pay26, k0_pay27, k0_pay28, k0_pay29, k0_pay23, masked, blkRow, dotRow]
    simp (disch := omega) only [dif_neg, dif_pos, e2]
    rfl
  · pointwise [qnorm, k0_pay36, k0_pay30, k0_pay31, k0_pay32, k0_pay33, k0_pay34, k0_pay35, k0_pay24, k0_pay25, k0_pay26, k0_pay27, k0_pay28, k0_pay29, k0_pay23, masked, blkRow, dotRow]
    simp (disch := omega) only [dif_neg, dif_pos, e3]
    rfl

/-- The normalised keys of a block, from the payloads they are computed through. -/
def knorm (h : FVec Ideal S256x1024 .bf16) (w : Vec Ideal S1x1024x512 .bf16) (g : Vec Ideal S1x512 .f32) : FVec Ideal S1x256x512 .bf16 :=
  k0_pay50 (k0_pay37 h w) (k0_pay38 g) k0_pay39 (k0_pay43 (k0_pay40 h w) (k0_pay41 h w) (k0_pay42 (F := Ideal)))
    (k0_pay44 (k0_pay37 h w) k0_pay39) (k0_pay45 (k0_pay37 h w)) (k0_pay47 (k0_pay37 h w) k0_pay39) (k0_pay48 k0_pay39) (k0_pay49 (k0_pay37 h w) k0_pay39)

theorem knorm_lane (h : FVec Ideal S256x1024 .bf16) (w : Vec Ideal S1x1024x512 .bf16) (g : Vec Ideal S1x512 .f32) (r : Fin 256) (n : Fin 4) (d : Fin 128) :
    knorm h w g (ix3 0 r (lane n d)) = blkRow h w r (lane n d) * Ideal.rsqrt (masked (fun x => blkRow h w r (lane n x) * blkRow h w r (lane n x)) d
        * Ideal.ofBits .f32 0x3C800000#32 + Ideal.ofBits .f32 0x358637BD#32) * g (ix2 0 (lane n d)) := by
  have e2 : 256 + d.val - 128 - 128 = d.val := by omega
  have e3 : 384 + d.val - 128 - 128 - 128 = d.val := by omega
  fin_cases n
  · pointwise [knorm, k0_pay50, k0_pay49, k0_pay37, k0_pay38, k0_pay39, k0_pay40, k0_pay41, k0_pay42, k0_pay43, k0_pay44, k0_pay45, k0_pay46, k0_pay47, k0_pay48, masked, blkRow, dotRow]
    simp only [lane_zero]
  · pointwise [knorm, k0_pay50, k0_pay49, k0_pay37, k0_pay38, k0_pay39, k0_pay40, k0_pay41, k0_pay42, k0_pay43, k0_pay44, k0_pay45, k0_pay46, k0_pay47, k0_pay48, masked, blkRow, dotRow]
    rfl
  · pointwise [knorm, k0_pay50, k0_pay49, k0_pay37, k0_pay38, k0_pay39, k0_pay40, k0_pay41, k0_pay42, k0_pay43, k0_pay44, k0_pay45, k0_pay46, k0_pay47, k0_pay48, masked, blkRow, dotRow]
    simp (disch := omega) only [dif_neg, dif_pos, e2]
    rfl
  · pointwise [knorm, k0_pay50, k0_pay49, k0_pay37, k0_pay38, k0_pay39, k0_pay40, k0_pay41, k0_pay42, k0_pay43, k0_pay44, k0_pay45, k0_pay46, k0_pay47, k0_pay48, masked, blkRow, dotRow]
    simp (disch := omega) only [dif_neg, dif_pos, e3]
    rfl

theorem qnorm_at (h : FVec Ideal S256x1024 .bf16) (w : Vec Ideal S1x1024x512 .bf16) (g : Vec Ideal S1x512 .f32) (r : Fin 256) (l : Fin 512) :
    qnorm h w g (ix3 0 r l) = bySub (rms (blkRow h w r)) l * g (ix2 0 l) * Ideal.ofBits .f32 0x3E38AA3B#32 := by
  obtain ⟨n, p, i, hl, hs⟩ := exists_half l
  have e : bySub (rms (blkRow h w r)) l = rms (blkRow h w r) ⟨2 * n.val + p.val, by omega⟩ i := by rw [hs, bySub_sub]
  rw [e, hl, qnorm_lane, masked_rms]

theorem knorm_at (h : FVec Ideal S256x1024 .bf16) (w : Vec Ideal S1x1024x512 .bf16) (g : Vec Ideal S1x512 .f32) (r : Fin 256) (l : Fin 512) :
    knorm h w g (ix3 0 r l) = bySub (rms (blkRow h w r)) l * g (ix2 0 l) := by
  obtain ⟨n, p, i, hl, hs⟩ := exists_half l
  have e : bySub (rms (blkRow h w r)) l = rms (blkRow h w r) ⟨2 * n.val + p.val, by omega⟩ i := by rw [hs, bySub_sub]
  rw [e, hl, knorm_lane, masked_rms]

theorem pay5_at (x : Vec Ideal S1x256x1024 .f32) (g : Vec Ideal S1x1024 .f32) (sc sh : Vec Ideal S1x256x1024 .f32) (w : Vec Ideal S1024x128 .bf16)
    (r : Fin 256) (d : Fin 128) : k0_pay5 x g sc sh w (ix2 r d) = ∑ k : Fin 1024, k0_pay2 x g sc sh (ix2 r k) * w (ix2 k d) := by
  pointwise [k0_pay5]

theorem pay18_at (v : FVec Ideal S256x128 .f32) (a : Vec Ideal S128x512 .bf16) (b : Vec Ideal S1x512 .f32) (r : Fin 256) (l : Fin 512) :
    k0_pay18 v a b (ix3 0 r l) = Ideal.div (-softplus (-(∑ x : Fin 128, v (ix2 r x) * a (ix2 x l) + b (ix2 0 l)))) (Ideal.ofBits .f32 0x41800000#32) := by
  rw [← div16]
  pointwise [k0_pay18, softplus]
  simp only [sub_eq_add_neg, zero_add, ne_eq, not_true_eq_false, if_false]

end Cert.Sam

end
-- ==== Proof.SamOut.lean ====
/- The two blocks the input projection's kernel leaves of the sample, index by index. -/
module

public import proofs.«01_k».proof.Proof.SamBlock
public import Idealize.ShloMosaic.Lib.Pipeline.ReadBack

@[expose] public section

set_option maxRecDepth 16384

noncomputable section

namespace Cert.Sam

open Cert.Kernel5Ideal Cert.Kernel5Ideal.Gen Idealize.ShloMosaic Cert.Merge Cert.Proj

variable (x0 : Vec Ideal S1x256x1024 .f32) (x1 x2 : Vec Ideal S1x256x1024 .f32) (x3 : Vec Ideal S1x1024 .f32) (x4 : Vec Ideal S1x1024x5632 .bf16)
  (x5 : Vec Ideal S1024x128 .bf16) (x6 : Vec Ideal S128x512 .bf16) (x7 : Vec Ideal S1x512 .f32) (x8 x9 : Vec Ideal S256x128 .f32)
  (x10 x11 : Vec Ideal S1x512 .f32)

/-- Row `r` of the normalised block. -/
def normRow (r : Fin 256) : Fin 1024 → EReal :=
  normed (fun k => x0 (ix3 0 r k)) (fun k => x3 (ix2 0 k)) (fun k => x1 (ix3 0 r k)) (fun k => x2 (ix3 0 r k))

/-- The column groups row `r` is projected to. -/
def groups (r : Fin 256) (j : Fin 11) : Fin 512 → EReal := dotRow (normRow x0 x1 x2 x3 r) (fun k l => x4 (ix3 0 k (grp j l)))

/-- The projected block. -/
def blkOut : FVec Ideal S1x256x5632 .bf16 := fun y =>
  byGrp (outCell (groups x0 x1 x2 x3 x4 (y 1)) (fun d => x8 (ix2 (y 1) d)) (fun d => x9 (ix2 (y 1) d)) (fun l => x10 (ix2 0 l)) (fun l => x11 (ix2 0 l))) (y 2)

theorem blkOut_at (r : Fin 256) (j : Fin 11) (l : Fin 512) (y : S1x256x5632.Idx) (h1 : (y 1).val = r.val) (h2 : (y 2).val = 512 * j.val + l.val) :
    blkOut x0 x1 x2 x3 x4 x8 x9 x10 x11 y
    = outCell (groups x0 x1 x2 x3 x4 r) (fun d => x8 (ix2 r d)) (fun d => x9 (ix2 r d)) (fun l => x10 (ix2 0 l)) (fun l => x11 (ix2 0 l)) j l := by
  have e1 : y 1 = r := Fin.ext h1
  have e2 : y 2 = grp j l := Fin.ext h2
  unfold blkOut
  rw [e1, e2]
  exact byGrp_grp _ j l

/-- A store of a column group's block holds that group of the projected block. -/
theorem piece (j : Fin 11) {o : Fin 3 → ℕ} (ho : o = ![0, 0, 512 * j.val]) (i : ∀ a, o a + S1x256x512.size a ≤ S1x256x5632.size a)
    (p : FVec Ideal S1x256x512 .bf16) (hp : ∀ r l, p (ix3 0 r l)
      = outCell (groups x0 x1 x2 x3 x4 r) (fun d => x8 (ix2 r d)) (fun d => x9 (ix2 r d)) (fun l => x10 (ix2 0 l)) (fun l => x11 (ix2 0 l)) j l)
    (x : S1x256x512.Idx) : p x = blkOut x0 x1 x2 x3 x4 x8 x9 x10 x11 ((Rect.unit (s := S1x256x5632) o S1x256x512.size i).emb x) := by
  subst ho
  obtain ⟨z, r, l, rfl⟩ : ∃ (z : Fin 1) (r : Fin 256) (l : Fin 512), x = ix3 z r l := ⟨x 0, x 1, x 2, eq_ix3 x⟩
  obtain rfl : z = 0 := Subsingleton.elim _ _
  rw [blkOut_at (r := r) (j := j) (l := l), hp]
  · simp
  · simp

theorem normRow_at (r : Fin 256) (k : Fin 1024) : k0_pay2 (View.ld x0 r0_0) (View.ld x3 r0_1) (View.ld x1 r0_0) (View.ld x2 r0_0) (ix2 r k)
    = normRow x0 x1 x2 x3 r k := by
  have e0 : ∀ (x : Vec Ideal S1x256x1024 .f32) r k, View.ld x r0_0 (ix3 0 r k) = x (ix3 0 r k) := by intro x r k; pointwise []
  have e3 : ∀ (x : Vec Ideal S1x1024 .f32) k, View.ld x r0_1 (ix2 0 k) = x (ix2 0 k) := by intro x k; pointwise []
  rw [pay2_at]
  simp only [e0 x0, e0 x1, e0 x2, e3 x3]
  rfl

/-- A column group of the weights, as loaded. -/
theorem ld_cols (x : Vec Ideal S1x1024x5632 .bf16) (j : Fin 11) {o : Fin 3 → ℕ} (ho : o = ![0, 0, 512 * j.val])
    (i : ∀ a, o a + S1x1024x512.size a ≤ S1x1024x5632.size a) (k : Fin 1024) (l : Fin 512) :
    View.ld x (Rect.unit o S1x1024x512.size i) (ix3 0 k l) = x (ix3 0 k (grp j l)) := by
  subst ho
  pointwise []

theorem row_eq (j : Fin 11) {o : Fin 3 → ℕ} (ho : o = ![0, 0, 512 * j.val]) (i : ∀ a, o a + S1x1024x512.size a ≤ S1x1024x5632.size a) (r : Fin 256) :
    blkRow (k0_pay51 x0 x1 x2 x3 x4 x5 x6 x7 x8 x9 x10 x11) (View.ld x4 (Rect.unit o S1x1024x512.size i)) r = groups x0 x1 x2 x3 x4 r j := by
  have hw := ld_cols x4 j ho i
  unfold blkRow groups k0_pay51
  simp only [normRow_at, hw]

theorem cos_at (r : Fin 256) (d : Fin 128) : k0_pay52 x0 x1 x2 x3 x4 x5 x6 x7 x8 x9 x10 x11 (ix2 r d) = x8 (ix2 r d) := by
  pointwise [k0_pay52, k0_pay3]

theorem sin_at (r : Fin 256) (d : Fin 128) : k0_pay53 x0 x1 x2 x3 x4 x5 x6 x7 x8 x9 x10 x11 (ix2 r d) = x9 (ix2 r d) := by
  pointwise [k0_pay53, k0_pay4]

theorem gain_at (x : Vec Ideal S1x512 .f32) (l : Fin 512) : View.ld x r0_15 (ix2 0 l) = x (ix2 0 l) := by
  pointwise []

theorem pay6_byLane (h : FVec Ideal S256x1024 .bf16) (cs sn : FVec Ideal S256x128 .f32) (w : Vec Ideal S1x1024x512 .bf16) (r : Fin 256) (l : Fin 512) :
    k0_pay6 h cs sn w (ix3 0 r l) = byLane (rot (blkRow h w r) (fun d => cs (ix2 r d)) (fun d => sn (ix2 r d))) l := by
  obtain ⟨n, d, rfl⟩ := exists_lane l
  rw [pay6_at, byLane_lane]

theorem keys_byLane (h : FVec Ideal S256x1024 .bf16) (cs sn : FVec Ideal S256x128 .f32) (w : Vec Ideal S1x1024x512 .bf16) (r : Fin 256) (l : Fin 512) :
    keys h cs sn w (ix3 0 r l) = byLane (rot (blkRow h w r) (fun d => cs (ix2 r d)) (fun d => sn (ix2 r d))) l * Ideal.ofBits .f32 0x3DB504F3#32 := by
  obtain ⟨n, d, rfl⟩ := exists_lane l
  rw [keys_at, byLane_lane]

theorem out12_eq : out0_12 x0 x1 x2 x3 x4 x5 x6 x7 x8 x9 x10 x11 = blkOut x0 x1 x2 x3 x4 x8 x9 x10 x11 := by
  funext y
  unfold out0_12
  refine View.canon_apply_of_pieces _ _ (View.PiecesOf.mem ?_) y (cover0_12 _ _ _ _ _ _ _ _ _ _ _ y)
  refine ⟨?_, ?_, ?_, ?_, ?_, ?_, ?_, ?_, ?_, ?_, ?_, trivial⟩
  · refine piece x0 x1 x2 x3 x4 x8 x9 x10 x11 10 (o := ![0, 0, 5120]) rfl inb_S1x256x5632_S1x256x512_0_0_5120 _ fun r l => ?_
    refine (pay1_at _ _ r l).trans ?_
    rw [row_eq x0 x1 x2 x3 x4 x5 x6 x7 x8 x9 x10 x11 10 (o := ![0, 0, 5120]) rfl inb_S1x1024x5632_S1x1024x512_0_0_5120 r]
    rfl
  · refine piece x0 x1 x2 x3 x4 x8 x9 x10 x11 9 (o := ![0, 0, 4608]) rfl inb_S1x256x5632_S1x256x512_0_0_4608 _ fun r l => ?_
    refine (knorm_at (k0_pay51 x0 x1 x2 x3 x4 x5 x6 x7 x8 x9 x10 x11) (View.ld x4 r0_25) (View.ld x11 r0_15) r l).trans ?_
    rw [row_eq x0 x1 x2 x3 x4 x5 x6 x7 x8 x9 x10 x11 9 (o := ![0, 0, 4608]) rfl inb_S1x1024x5632_S1x1024x512_0_0_4608 r, gain_at x11 l]
    rfl
  · refine piece x0 x1 x2 x3 x4 x8 x9 x10 x11 8 (o := ![0, 0, 4096]) rfl inb_S1x256x5632_S1x256x512_0_0_4096 _ fun r l => ?_
    refine (qnorm_at (k0_pay51 x0 x1 x2 x3 x4 x5 x6 x7 x8 x9 x10 x11) (View.ld x4 r0_23) (View.ld x10 r0_15) r l).trans ?_
    rw [row_eq x0 x1 x2 x3 x4 x5 x6 x7 x8 x9 x10 x11 8 (o := ![0, 0, 4096]) rfl inb_S1x1024x5632_S1x1024x512_0_0_4096 r, gain_at x10 l]
    rfl
  · refine piece x0 x1 x2 x3 x4 x8 x9 x10 x11 7 (o := ![0, 0, 3584]) rfl inb_S1x256x5632_S1x256x512_0_0_3584 _ fun r l => ?_
    refine (pay22_at _ _ r l).trans ?_
    rw [row_eq x0 x1 x2 x3 x4 x5 x6 x7 x8 x9 x10 x11 7 (o := ![0, 0, 3584]) rfl inb_S1x1024x5632_S1x1024x512_0_0_3584 r]
    rfl
  · refine piece x0 x1 x2 x3 x4 x8 x9 x10 x11 6 (o := ![0, 0, 3072]) rfl inb_S1x256x5632_S1x256x512_0_0_3072 _ fun r l => ?_
    refine (pay21_at _ _ r l).trans ?_
    rw [row_eq x0 x1 x2 x3 x4 x5 x6 x7 x8 x9 x10 x11 6 (o := ![0, 0, 3072]) rfl inb_S1x1024x5632_S1x1024x512_0_0_3072 r]
    rfl
  · refine piece x0 x1 x2 x3 x4 x8 x9 x10 x11 5 (o := ![0, 0, 2560]) rfl inb_S1x256x5632_S1x256x512_0_0_2560 _ fun r l => ?_
    refine (pay20_at _ _ r l).trans ?_
    rw [row_eq x0 x1 x2 x3 x4 x5 x6 x7 x8 x9 x10 x11 5 (o := ![0, 0, 2560]) rfl inb_S1x1024x5632_S1x1024x512_0_0_2560 r]
    rfl
  · refine piece x0 x1 x2 x3 x4 x8 x9 x10 x11 4 (o := ![0, 0, 2048]) rfl inb_S1x256x5632_S1x256x512_0_0_2048 _ fun r l => ?_
    refine (pay17_at _ _ r l).trans ?_
    rw [row_eq x0 x1 x2 x3 x4 x5 x6 x7 x8 x9 x10 x11 4 (o := ![0, 0, 2048]) rfl inb_S1x1024x5632_S1x1024x512_0_0_2048 r]
    rfl
  · refine piece x0 x1 x2 x3 x4 x8 x9 x10 x11 3 (o := ![0, 0, 1536]) rfl inb_S1x256x5632_S1x256x512_0_0_1536 _ fun r l => ?_
    refine (pay15_at _ _ r l).trans ?_
    rw [row_eq x0 x1 x2 x3 x4 x5 x6 x7 x8 x9 x10 x11 3 (o := ![0, 0, 1536]) rfl inb_S1x1024x5632_S1x1024x512_0_0_1536 r]
    rfl
  · refine piece x0 x1 x2 x3 x4 x8 x9 x10 x11 2 (o := ![0, 0, 1024]) rfl inb_S1x256x5632_S1x256x512_0_0_1024 _ fun r l => ?_
    refine (pay14_at _ _ r l).trans ?_
    rw [row_eq x0 x1 x2 x3 x4 x5 x6 x7 x8 x9 x10 x11 2 (o := ![0, 0, 1024]) rfl inb_S1x1024x5632_S1x1024x512_0_0_1024 r]
    rfl
  · refine piece x0 x1 x2 x3 x4 x8 x9 x10 x11 1 (o := ![0, 0, 512]) rfl inb_S1x256x5632_S1x256x512_0_0_512 _ fun r l => ?_
    refine (keys_byLane (k0_pay51 x0 x1 x2 x3 x4 x5 x6 x7 x8 x9 x10 x11) _ _ (View.ld x4 r0_6) r l).trans ?_
    rw [row_eq x0 x1 x2 x3 x4 x5 x6 x7 x8 x9 x10 x11 1 (o := ![0, 0, 512]) rfl inb_S1x1024x5632_S1x1024x512_0_0_512 r]
    simp only [cos_at, sin_at]
    rfl
  · refine piece x0 x1 x2 x3 x4 x8 x9 x10 x11 0 (o := ![0, 0, 0]) rfl inb_S1x256x5632_S1x256x512_0_0_0 _ fun r l => ?_
    refine (pay6_byLane (k0_pay51 x0 x1 x2 x3 x4 x5 x6 x7 x8 x9 x10 x11) _ _ (View.ld x4 r0_4) r l).trans ?_
    rw [row_eq x0 x1 x2 x3 x4 x5 x6 x7 x8 x9 x10 x11 0 (o := ![0, 0, 0]) rfl inb_S1x1024x5632_S1x1024x512_0_0_0 r]
    simp only [cos_at, sin_at]
    rfl

/-- The decays' block, where the low-rank weights are padded from sixteen columns to 128 with zeros. -/
theorem out13_at (wa : Fin 1024 → Fin 16 → EReal) (a2 : Fin 16 → Fin 512 → EReal) (hwa : ∀ k (i : Fin 16), x5 (ix2 k ⟨i.val, by omega⟩) = wa k i)
    (ha2 : ∀ (i : Fin 16) l, x6 (ix2 ⟨i.val, by omega⟩ l) = a2 i l) (hz : ∀ (i : Fin 112) l, x6 (ix2 ⟨16 + i.val, by omega⟩ l) = (0 : EReal)) (r : Fin 256) (l : Fin 512) :
    out0_13 x0 x1 x2 x3 x4 x5 x6 x7 x8 x9 x10 x11 (ix3 0 r l)
    = decay (fun i => ∑ k : Fin 1024, normRow x0 x1 x2 x3 r k * wa k i) a2 (fun l => x7 (ix2 0 l)) l := by
  have e5 : ∀ k d, View.ld x5 r0_3 (ix2 k d) = x5 (ix2 k d) := by intro k d; pointwise []
  have e6 : ∀ k d, View.ld x6 r0_14 (ix2 k d) = x6 (ix2 k d) := by intro k d; pointwise []
  unfold out0_13
  rw [View.canon_unit_zero (by decide), pay18_at]
  simp only [pay5_at, normRow_at, e5, e6, gain_at x7]
  unfold decay
  rw [padded_sum (fun i => ∑ k : Fin 1024, normRow x0 x1 x2 x3 r k * wa k i) (fun i => a2 i l) _ (fun i => x6 (ix2 i l))
    (fun i => by simp only [hwa]) (fun i => ha2 i l) (fun i => hz i l)]

end Cert.Sam

end
-- ==== Proof.SamArray.lean ====
/- The input projection kernel's two result arrays of the sample after the run, index by index, of its arguments. -/
module

public import proofs.«01_k».proof.Proof.SamOut
public import proofs.«01_k».proof.Proof.Gen.Kernel5Ideal.Value

@[expose] public section

set_option maxRecDepth 16384

noncomputable section

namespace Cert.Sam

open Cert.Kernel5Ideal Cert.Kernel5Ideal.Gen Cert.Kernel5Ideal.Value Idealize.ShloMosaic Idealize.ShloMosaic.TcCoe Idealize.SL.Sem Cert.Merge Cert.Proj

/-- The angS of the sample's token `t` at frequency `k`: its position follows the past. -/
def angS (t : Fin 16) (k : Fin 64) : EReal :=
  (Ideal.ofBits .f32 0x44800000#32 + FloatOps.sitofp (F := Ideal) .f32 (BitVec.ofNat 32 t.val)) * Ideal.pow (Ideal.ofBits .f32 0x461C4000#32)
    (Ideal.div (-FloatOps.sitofp (F := Ideal) .f32 (BitVec.ofNat 32 k.val)) (Ideal.ofBits .f32 0x42800000#32))

/-- The cosines of token `t` over a head's two halves. -/
def cosS (t : Fin 16) (d : Fin 128) : EReal :=
  if h : d.val < 64 then Ideal.cos (angS t ⟨d.val, h⟩) else Ideal.cos (angS t ⟨d.val - 64, by omega⟩)

/-- The signed sines of token `t` over a head's two halves. -/
def sinS (t : Fin 16) (d : Fin 128) : EReal :=
  if h : d.val < 64 then -Ideal.sin (angS t ⟨d.val, h⟩) else Ideal.sin (angS t ⟨d.val - 64, by omega⟩)

/-- The sequence and the token of a row. -/
abbrev seqOf (r : Fin 256) : Fin 16 := ⟨r.val / 16, by omega⟩

abbrev tokOf (r : Fin 256) : Fin 16 := ⟨r.val % 16, by omega⟩

/-- The normalised row of token `t` of sequence `b`, of the argument arrays. -/
def rowN (X : FVec Ideal S16x16x1024 .f32) (SC SH : FVec Ideal S16x1024 .f32) (G : FVec Ideal S4x1024 .f32) (b t : Fin 16) : Fin 1024 → EReal :=
  normed (fun k => X (ix3 b t k)) (fun k => G (ix2 0 k)) (fun k => SC (ix2 b k)) (fun k => SH (ix2 b k))

/-- Its eleven projected column groups. -/
def rowG (X : FVec Ideal S16x16x1024 .f32) (SC SH : FVec Ideal S16x1024 .f32) (G : FVec Ideal S4x1024 .f32) (W : FVec Ideal S4x1024x5648 .f32) (b t : Fin 16)
    (j : Fin 11) : Fin 512 → EReal := dotRow (rowN X SC SH G b t) (fun k l => W (ix3 0 k (src (grp j l))))

/-- The column groups a token leaves in the result. -/
def rowO (X : FVec Ideal S16x16x1024 .f32) (SC SH : FVec Ideal S16x1024 .f32) (G : FVec Ideal S4x1024 .f32) (W : FVec Ideal S4x1024x5648 .f32) (GQ GK : FVec Ideal S4x64 .f32)
    (b t : Fin 16) : Fin 11 → Fin 512 → EReal :=
  outCell (rowG X SC SH G W b t) (cosS t) (sinS t) (fun l => GQ (ix2 0 ⟨l.val % 64, by omega⟩)) (fun l => GK (ix2 0 ⟨l.val % 64, by omega⟩))

/-- The projected array. -/
def projArr (X : FVec Ideal S16x16x1024 .f32) (SC SH : FVec Ideal S16x1024 .f32) (G : FVec Ideal S4x1024 .f32) (W : FVec Ideal S4x1024x5648 .f32) (GQ GK : FVec Ideal S4x64 .f32) :
    FVec Ideal S1x256x5632 .bf16 := fun y => byGrp (rowO X SC SH G W GQ GK (seqOf (y 1)) (tokOf (y 1))) (y 2)

/-- The array of the decays' logs. -/
def decayArr (X : FVec Ideal S16x16x1024 .f32) (SC SH : FVec Ideal S16x1024 .f32) (G : FVec Ideal S4x1024 .f32) (W : FVec Ideal S4x1024x5648 .f32) (A2 : FVec Ideal S4x16x512 .f32)
    (AB : FVec Ideal S4x512 .f32) : FVec Ideal S1x256x512 .f32 := fun y =>
  decay (fun i => ∑ k : Fin 1024, rowN X SC SH G (seqOf (y 1)) (tokOf (y 1)) k * W (ix3 0 k ⟨4096 + i.val, by omega⟩)) (fun i l => A2 (ix3 0 i l)) (fun l => AB (ix2 0 l)) (y 2)

variable (m : (l : Idealize.ShloMosaic.Loc nD τ sig) → Buf (Elt Ideal) l) (c : Dev nD)

/-! The arrays the host prepares, of the arguments. -/

theorem V_x (r : Fin 256) (k : Fin 1024) : V m c main_v34 (ix3 0 r k) = m ((c : Thread nD τ).loc main_arg0) (ix3 (seqOf r) (tokOf r) k) := by
  entry_read
  simp only [hostOps0, hostOps0_1, hostOps0_2, hostOps0_3, hostOps0_4, List.flatten_cons, List.flatten_nil, List.cons_append, List.nil_append, List.append_nil]
  after_results
  pointwise

theorem V_sc (r : Fin 256) (k : Fin 1024) : V m c main_v37 (ix3 0 r k) = m ((c : Thread nD τ).loc main_arg1) (ix2 (seqOf r) k) := by
  entry_read
  simp only [hostOps0, hostOps0_1, hostOps0_2, hostOps0_3, hostOps0_4, List.flatten_cons, List.flatten_nil, List.cons_append, List.nil_append, List.append_nil]
  after_results
  pointwise

theorem V_sh (r : Fin 256) (k : Fin 1024) : V m c main_v40 (ix3 0 r k) = m ((c : Thread nD τ).loc main_arg2) (ix2 (seqOf r) k) := by
  entry_read
  simp only [hostOps0, hostOps0_1, hostOps0_2, hostOps0_3, hostOps0_4, List.flatten_cons, List.flatten_nil, List.cons_append, List.nil_append, List.append_nil]
  after_results
  pointwise

theorem V_gm (k : Fin 1024) : V m c main_v43 (ix2 0 k) = m ((c : Thread nD τ).loc main_arg3) (ix2 0 k) := by
  entry_read
  simp only [hostOps0, hostOps0_1, hostOps0_2, hostOps0_3, hostOps0_4, List.flatten_cons, List.flatten_nil, List.cons_append, List.nil_append, List.append_nil]
  after_results
  pointwise

theorem V_w (l : Fin 4) (k : Fin 1024) (q : Fin 5632) : V m c main_v3 (ix3 l k q) = m ((c : Thread nD τ).loc main_arg4) (ix3 l k (src q)) := by
  entry_read
  simp only [hostOps0, hostOps0_1, hostOps0_2, hostOps0_3, hostOps0_4, List.flatten_cons, List.flatten_nil, List.cons_append, List.nil_append, List.append_nil]
  after_results
  pointwise
  unfold src
  split <;> rfl

/-- The padding's value is zero. -/
theorem pad_zero : FloatOps.sitofp (F := Ideal) .f32 (0#32) = (0 : EReal) := by
  show (((0#32 : BitVec 32).toInt : ℝ) : EReal) = 0
  simp

theorem V_wa (k : Fin 1024) (i : Fin 16) : V m c main_v45 (ix2 k ⟨i.val, by omega⟩)
    = m ((c : Thread nD τ).loc main_arg4) (ix3 0 k ⟨4096 + i.val, by omega⟩) := by
  entry_read
  simp only [hostOps0, hostOps0_1, hostOps0_2, hostOps0_3, hostOps0_4, List.flatten_cons, List.flatten_nil, List.cons_append, List.nil_append, List.append_nil]
  after_results
  pointwise
  show pad S4x1024x128 ![0, 0, 0] ![0, 0, 112] ![0, 0, 0] (extractStridedSlice S4x1024x16 ![0, 0, 4096] (m (c, Proc.tc.devRef main_arg4))
    slices_S4x1024x5648_S4x1024x16_0_0_4096) (sitofp (F := Ideal) .f32 (constantI S_ 32 0#32)) pads_S4x1024x16_S4x1024x128_000_000_01120 h_S_
    (ix3 0 k ⟨i.val, by omega⟩) = _
  pointwise

theorem pad_a2 (A : FVec Ideal S4x16x512 .f32) (i : Fin 16) (l : Fin 512) : pad S4x128x512 ![0, 0, 0] ![0, 112, 0] ![0, 0, 0] A (sitofp (F := Ideal) .f32 (constantI S_ 32 0#32))
    pads_S4x16x512_S4x128x512_000_01120_000 h_S_ (ix3 0 ⟨i.val, by omega⟩ l) = A (ix3 0 i l) := by
  pointwise

theorem pad_a2_zero (A : FVec Ideal S4x16x512 .f32) (i : Fin 112) (l : Fin 512) : pad S4x128x512 ![0, 0, 0] ![0, 112, 0] ![0, 0, 0] A (sitofp (F := Ideal) .f32 (constantI S_ 32 0#32))
    pads_S4x16x512_S4x128x512_000_01120_000 h_S_ (ix3 0 ⟨16 + i.val, by omega⟩ l) = (0 : EReal) := by
  pointwise
  exact pad_zero

theorem V_a2 (i : Fin 16) (l : Fin 512) : V m c main_v47 (ix2 ⟨i.val, by omega⟩ l) = m ((c : Thread nD τ).loc main_arg5) (ix3 0 i l) := by
  entry_read
  simp only [hostOps0, hostOps0_1, hostOps0_2, hostOps0_3, hostOps0_4, List.flatten_cons, List.flatten_nil, List.cons_append, List.nil_append, List.append_nil]
  after_results
  pointwise
  exact pad_a2 (m (c, Proc.tc.devRef main_arg5)) i l

theorem V_a2_zero (i : Fin 112) (l : Fin 512) : V m c main_v47 (ix2 ⟨16 + i.val, by omega⟩ l) = (0 : EReal) := by
  entry_read
  simp only [hostOps0, hostOps0_1, hostOps0_2, hostOps0_3, hostOps0_4, List.flatten_cons, List.flatten_nil, List.cons_append, List.nil_append, List.append_nil]
  after_results
  pointwise
  exact pad_a2_zero (m (c, Proc.tc.devRef main_arg5)) i l

theorem V_ab (l : Fin 512) : V m c main_v50 (ix2 0 l) = m ((c : Thread nD τ).loc main_arg6) (ix2 0 l) := by
  entry_read
  simp only [hostOps0, hostOps0_1, hostOps0_2, hostOps0_3, hostOps0_4, List.flatten_cons, List.flatten_nil, List.cons_append, List.nil_append, List.append_nil]
  after_results
  pointwise

theorem V_cos (r : Fin 256) (d : Fin 128) : V m c main_v30 (ix2 r d) = cosS (tokOf r) d := by
  entry_read
  simp only [hostOps0, hostOps0_1, hostOps0_2, hostOps0_3, hostOps0_4, List.flatten_cons, List.flatten_nil, List.cons_append, List.nil_append, List.append_nil]
  after_results
  pointwise [cosS, angS]

theorem V_sin (r : Fin 256) (d : Fin 128) : V m c main_v33 (ix2 r d) = sinS (tokOf r) d := by
  entry_read
  simp only [hostOps0, hostOps0_1, hostOps0_2, hostOps0_3, hostOps0_4, List.flatten_cons, List.flatten_nil, List.cons_append, List.nil_append, List.append_nil]
  after_results
  pointwise [sinS, angS]

theorem V_gq (l : Fin 512) : V m c main_v56 (ix2 0 l) = m ((c : Thread nD τ).loc main_arg7) (ix2 0 ⟨l.val % 64, by omega⟩) := by
  entry_read
  simp only [hostOps0, hostOps0_1, hostOps0_2, hostOps0_3, hostOps0_4, List.flatten_cons, List.flatten_nil, List.cons_append, List.nil_append, List.append_nil]
  after_results
  pointwise

theorem V_gk (l : Fin 512) : V m c main_v62 (ix2 0 l) = m ((c : Thread nD τ).loc main_arg8) (ix2 0 ⟨l.val % 64, by omega⟩) := by
  entry_read
  simp only [hostOps0, hostOps0_1, hostOps0_2, hostOps0_3, hostOps0_4, List.flatten_cons, List.flatten_nil, List.cons_append, List.nil_append, List.append_nil]
  after_results
  pointwise

/-- Which block each window holds at a grid point. -/
theorem idx_all : ∀ t : Fin cfg0.N, win0_0.index t = ![0, 0, 0]
    ∧ win0_1.index t = ![0, 0, 0]
    ∧ win0_2.index t = ![0, 0, 0]
    ∧ win0_3.index t = ![0, 0]
    ∧ win0_4.index t = ![0, 0, 0]
    ∧ win0_5.index t = ![0, 0]
    ∧ win0_6.index t = ![0, 0]
    ∧ win0_7.index t = ![0, 0]
    ∧ win0_8.index t = ![0, 0]
    ∧ win0_9.index t = ![0, 0]
    ∧ win0_10.index t = ![0, 0]
    ∧ win0_11.index t = ![0, 0]
    ∧ win0_12.index t = ![0, 0, 0]
    ∧ win0_13.index t = ![0, 0, 0] :=
  (by decide +kernel : ∀ t : Fin grid0.N, _)

theorem blk_x (t : Fin cfg0.N) (r : Fin 256) (k : Fin 1024) : iblk m c 0 t (ix3 0 r k) = m ((c : Thread nD τ).loc main_arg0) (ix3 (seqOf r) (tokOf r) k) := by
  obtain ⟨h0, h1, h2, h3, h4, h5, h6, h7, h8, h9, h10, h11, h12, h13⟩ := idx_all t
  refine Eq.trans ?_ (V_x m c r k)
  blk_ext [iblk, h0]

theorem blk_sc (t : Fin cfg0.N) (r : Fin 256) (k : Fin 1024) : iblk m c 1 t (ix3 0 r k) = m ((c : Thread nD τ).loc main_arg1) (ix2 (seqOf r) k) := by
  obtain ⟨h0, h1, h2, h3, h4, h5, h6, h7, h8, h9, h10, h11, h12, h13⟩ := idx_all t
  refine Eq.trans ?_ (V_sc m c r k)
  blk_ext [iblk, h1]

theorem blk_sh (t : Fin cfg0.N) (r : Fin 256) (k : Fin 1024) : iblk m c 2 t (ix3 0 r k) = m ((c : Thread nD τ).loc main_arg2) (ix2 (seqOf r) k) := by
  obtain ⟨h0, h1, h2, h3, h4, h5, h6, h7, h8, h9, h10, h11, h12, h13⟩ := idx_all t
  refine Eq.trans ?_ (V_sh m c r k)
  blk_ext [iblk, h2]

theorem blk_gm (t : Fin cfg0.N) (k : Fin 1024) : iblk m c 3 t (ix2 0 k)
    = m ((c : Thread nD τ).loc main_arg3) (ix2 0 k) := by
  obtain ⟨h0, h1, h2, h3, h4, h5, h6, h7, h8, h9, h10, h11, h12, h13⟩ := idx_all t
  refine Eq.trans ?_ (V_gm m c k)
  blk_ext [iblk, h3]

theorem blk_w (t : Fin cfg0.N) (k : Fin 1024) (q : Fin 5632) : iblk m c 4 t (ix3 0 k q)
    = m ((c : Thread nD τ).loc main_arg4) (ix3 0 k (src q)) := by
  obtain ⟨h0, h1, h2, h3, h4, h5, h6, h7, h8, h9, h10, h11, h12, h13⟩ := idx_all t
  refine Eq.trans ?_ (V_w m c 0 k q)
  blk_ext [iblk, h4]

theorem blk_wa (t : Fin cfg0.N) (k : Fin 1024) (i : Fin 16) : iblk m c 5 t (ix2 k ⟨i.val, by omega⟩)
    = m ((c : Thread nD τ).loc main_arg4) (ix3 0 k ⟨4096 + i.val, by omega⟩) := by
  obtain ⟨h0, h1, h2, h3, h4, h5, h6, h7, h8, h9, h10, h11, h12, h13⟩ := idx_all t
  refine Eq.trans ?_ (V_wa m c k i)
  blk_ext [iblk, h5]

theorem blk_a2 (t : Fin cfg0.N) (i : Fin 16) (l : Fin 512) : iblk m c 6 t (ix2 ⟨i.val, by omega⟩ l)
    = m ((c : Thread nD τ).loc main_arg5) (ix3 0 i l) := by
  obtain ⟨h0, h1, h2, h3, h4, h5, h6, h7, h8, h9, h10, h11, h12, h13⟩ := idx_all t
  refine Eq.trans ?_ (V_a2 m c i l)
  blk_ext [iblk, h6]

theorem blk_a2_zero (t : Fin cfg0.N) (i : Fin 112) (l : Fin 512) : iblk m c 6 t (ix2 ⟨16 + i.val, by omega⟩ l)
    = (0 : EReal) := by
  obtain ⟨h0, h1, h2, h3, h4, h5, h6, h7, h8, h9, h10, h11, h12, h13⟩ := idx_all t
  refine Eq.trans ?_ (V_a2_zero m c i l)
  blk_ext [iblk, h6]

theorem blk_ab (t : Fin cfg0.N) (l : Fin 512) : iblk m c 7 t (ix2 0 l)
    = m ((c : Thread nD τ).loc main_arg6) (ix2 0 l) := by
  obtain ⟨h0, h1, h2, h3, h4, h5, h6, h7, h8, h9, h10, h11, h12, h13⟩ := idx_all t
  refine Eq.trans ?_ (V_ab m c l)
  blk_ext [iblk, h7]

theorem blk_cos (t : Fin cfg0.N) (r : Fin 256) (d : Fin 128) : iblk m c 8 t (ix2 r d)
    = cosS (tokOf r) d := by
  obtain ⟨h0, h1, h2, h3, h4, h5, h6, h7, h8, h9, h10, h11, h12, h13⟩ := idx_all t
  refine Eq.trans ?_ (V_cos m c r d)
  blk_ext [iblk, h8]

theorem blk_sin (t : Fin cfg0.N) (r : Fin 256) (d : Fin 128) : iblk m c 9 t (ix2 r d)
    = sinS (tokOf r) d := by
  obtain ⟨h0, h1, h2, h3, h4, h5, h6, h7, h8, h9, h10, h11, h12, h13⟩ := idx_all t
  refine Eq.trans ?_ (V_sin m c r d)
  blk_ext [iblk, h9]

theorem blk_gq (t : Fin cfg0.N) (l : Fin 512) : iblk m c 10 t (ix2 0 l)
    = m ((c : Thread nD τ).loc main_arg7) (ix2 0 ⟨l.val % 64, by omega⟩) := by
  obtain ⟨h0, h1, h2, h3, h4, h5, h6, h7, h8, h9, h10, h11, h12, h13⟩ := idx_all t
  refine Eq.trans ?_ (V_gq m c l)
  blk_ext [iblk, h10]

theorem blk_gk (t : Fin cfg0.N) (l : Fin 512) : iblk m c 11 t (ix2 0 l)
    = m ((c : Thread nD τ).loc main_arg8) (ix2 0 ⟨l.val % 64, by omega⟩) := by
  obtain ⟨h0, h1, h2, h3, h4, h5, h6, h7, h8, h9, h10, h11, h12, h13⟩ := idx_all t
  refine Eq.trans ?_ (V_gk m c l)
  blk_ext [iblk, h11]

theorem norm_blk (t : Fin cfg0.N) (r : Fin 256) : normRow (iblk m c 0 t) (iblk m c 1 t) (iblk m c 2 t) (iblk m c 3 t) r
    = rowN (m ((c : Thread nD τ).loc main_arg0)) (m ((c : Thread nD τ).loc main_arg1)) (m ((c : Thread nD τ).loc main_arg2)) (m ((c : Thread nD τ).loc main_arg3)) (seqOf r) (tokOf r) := by
  unfold normRow rowN
  simp only [blk_x, blk_sc, blk_sh, blk_gm]

theorem groups_blk (t : Fin cfg0.N) (r : Fin 256) : groups (iblk m c 0 t) (iblk m c 1 t) (iblk m c 2 t) (iblk m c 3 t) (iblk m c 4 t) r
    = rowG (m ((c : Thread nD τ).loc main_arg0)) (m ((c : Thread nD τ).loc main_arg1)) (m ((c : Thread nD τ).loc main_arg2)) (m ((c : Thread nD τ).loc main_arg3)) (m ((c : Thread nD τ).loc main_arg4)) (seqOf r) (tokOf r) := by
  unfold groups rowG
  simp only [norm_blk, blk_w]

theorem final12 : (dats m 0 c).arrAt 12 cfg0.N = projArr (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg7)) (m ((c : Thread nD τ).loc main_arg8)) := by
  refine (dats m 0 c).arrAt_eq_of_covers 12 _ (by decide +kernel) fun t hf y => ?_
  have e := congrFun (flushed12 m c t) y
  obtain ⟨z, r, q, rfl⟩ : ∃ (z : Fin 1) (r : Fin 256) (q : Fin 5632), y = ix3 z r q := ⟨y 0, y 1, y 2, eq_ix3 y⟩
  obtain rfl : z = 0 := Subsingleton.elim _ _
  have ey : ((cfg0.win 12).blk t).view.emb (ix3 0 r q) = ix3 0 r q := by
    obtain ⟨h0, h1, h2, h3, h4, h5, h6, h7, h8, h9, h10, h11, h12, h13⟩ := idx_all t
    blk_ext [h12]
  rw [ey]
  refine e.trans ?_
  show out0_12 (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (ix3 0 r q) = _
  rw [out12_eq]
  obtain ⟨j, l, rfl⟩ := exists_grp q
  rw [blkOut_at _ _ _ _ _ _ _ _ _ r j l _ rfl rfl, groups_blk]
  simp only [blk_cos, blk_sin, blk_gq, blk_gk]
  exact (byGrp_grp _ j l).symm

theorem final13 : (dats m 0 c).arrAt 13 cfg0.N = decayArr (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) := by
  refine (dats m 0 c).arrAt_eq_of_covers 13 _ (by decide +kernel) fun t hf y => ?_
  have e := congrFun (flushed13 m c t) y
  obtain ⟨z, r, l, rfl⟩ : ∃ (z : Fin 1) (r : Fin 256) (l : Fin 512), y = ix3 z r l := ⟨y 0, y 1, y 2, eq_ix3 y⟩
  obtain rfl : z = 0 := Subsingleton.elim _ _
  have ey : ((cfg0.win 13).blk t).view.emb (ix3 0 r l) = ix3 0 r l := by
    obtain ⟨h0, h1, h2, h3, h4, h5, h6, h7, h8, h9, h10, h11, h12, h13⟩ := idx_all t
    blk_ext [h13]
  rw [ey]
  refine e.trans ?_
  show out0_13 (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (ix3 0 r l) = _
  rw [out13_at _ _ _ _ _ _ _ _ _ _ _ _ _ _ (fun k i => blk_wa m c t k i) (fun i l => blk_a2 m c t i l) (fun i l => blk_a2_zero m c t i l), norm_blk]
  simp only [blk_ab]
  rfl

/-- The input projection kernel's run: both results, of the arguments. -/
theorem kernel_run (ρ : Dev nD → PrngReg) : θ_run defs (onTc (τ := τ) (main (F := Ideal))) ⟨m, fun _ => 0, ρ⟩ fun r => ∀ c : Dev nD,
      r.2.mem ((c : Thread nD τ).loc main_v63_0) = projArr (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg7)) (m ((c : Thread nD τ).loc main_arg8))
      ∧ r.2.mem ((c : Thread nD τ).loc main_v63_1) = decayArr (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6))
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5)
      ∧ r.2.mem ((c : Thread nD τ).loc main_arg6) = m ((c : Thread nD τ).loc main_arg6)
      ∧ r.2.mem ((c : Thread nD τ).loc main_arg7) = m ((c : Thread nD τ).loc main_arg7)
      ∧ r.2.mem ((c : Thread nD τ).loc main_arg8) = m ((c : Thread nD τ).loc main_arg8) :=
  (θ_run defs _ _).mono (fun _ h c => ⟨(h c).1.trans (final12 m c), (h c).2.1.trans (final13 m c), (h c).2.2⟩) (run_blocks m ρ)

end Cert.Sam

end
-- ==== Proof.SamRef.lean ====
/- The input projection's reference at the sample's shapes: its stages read at an index, and its run, whose two results are the arrays the kernel ends with. -/
module

public import proofs.«01_k».proof.Proof.SamArray
public import proofs.«01_k».proof.Proof.Gen.Reference5Ideal.Run

@[expose] public section

set_option maxRecDepth 16384

noncomputable section

namespace Cert.Sam

open Cert.Reference5Ideal Cert.Reference5Ideal.Gen Cert.Reference5Ideal.Value Idealize.ShloMosaic Idealize.ShloMosaic.TcCoe Idealize.SL.Sem Cert.Merge Cert.Proj

/-- The reference's normalisation with its scale and shift. -/
def hostNormed (X : FVec Ideal S16x16x1024 .f32) (G : FVec Ideal S4x1024 .f32) (SC SH : FVec Ideal S16x1024 .f32) : FVec Ideal S16x16x1024 .f32 :=
  addf (mulf (mulf (mulf X (broadcastInDim S16x16x1024 ![0, 1, 2] bcast_S16x16x1_S16x16x1024_0_1_2 (Host.rsqrt (addf (Host.divf (broadcastInDim
    S16x16x1 ![0, 1] bcast_S16x16_S16x16x1_0_1 (Host.reduceAdd (mulf X X) (constant S_ .f32 0x00000000#32) reducesTo_S16x16x1024_S16x16_d2 h_S_))
    (broadcastInDim S16x16x1 ![] bcast_S_S16x16x1 (constant S_ .f32 0x44800000#32))) (broadcastInDim S16x16x1 ![] bcast_S_S16x16x1 (constant S_
    .f32 0x358637BD#32)))))) (broadcastInDim S16x16x1024 ![0, 1, 2] bcast_S1x1x1024_S16x16x1024_0_1_2 (broadcastInDim S1x1x1024 ![2]
    bcast_S1024_S1x1x1024_2 (shapeCast _ (extractStridedSlice S1x1024 ![0, 0] G slices_S4x1024_S1x1024_0_0) shapeCasts_S1x1024_S1024))))
    (broadcastInDim S16x16x1024 ![0, 1, 2] bcast_S16x1x1024_S16x16x1024_0_1_2 (addf (broadcastInDim S16x1x1024 ![] bcast_S_S16x1x1024 (constant S_ .f32
    0x3F800000#32)) (broadcastInDim S16x1x1024 ![0, 2] bcast_S16x1024_S16x1x1024_0_2 SC)))) (broadcastInDim S16x16x1024 ![0, 1, 2]
    bcast_S16x1x1024_S16x16x1024_0_1_2 (broadcastInDim S16x1x1024 ![0, 2] bcast_S16x1024_S16x1x1024_0_2 SH))

/-- The projection to all columns. -/
def hostProj (H : FVec Ideal S16x16x1024 .f32) (W : FVec Ideal S4x1024x5648 .f32) : FVec Ideal S16x16x5648 .f32 :=
  Host.dotGeneral dot_S16x16x1024_S1024x5648_S16x16x5648_2_0_01_1_n_n none H
    (shapeCast _ (extractStridedSlice S1x1024x5648 ![0, 0, 0] W slices_S4x1024x5648_S1x1024x5648_0_0_0) shapeCasts_S1x1024x5648_S1024x5648)

/-- The angles of the rotation. -/
def hostAngle : FVec Ideal S16x64 .f32 :=
  mulf (broadcastInDim S16x64 ![0, 1] bcast_S16x1_S16x64_0_1 (broadcastInDim S16x1 ![0] bcast_S16_S16x1_0 (addf (broadcastInDim S16 ![] bcast_S_S16 (constant S_ .f32 0x44800000#32)) (sitofp .f32 (iotaInDim S16 32 0)))))
    (broadcastInDim S16x64 ![0, 1] bcast_S1x64_S16x64_0_1 (broadcastInDim S1x64 ![1] bcast_S64_S1x64_1
      (Host.powf (broadcastInDim S64 ![] bcast_S_S64 (constant S_ .f32 0x461C4000#32))
        (Host.divf (Host.negf (sitofp .f32 (iotaInDim S64 32 0))) (broadcastInDim S64 ![] bcast_S_S64 (constant S_ .f32 0x42800000#32))))))

/-- Columns as four heads. -/
def hostHeads (A : FVec Ideal S16x16x512 .f32) : FVec Ideal S16x16x4x128 .f32 := shapeCast _ A shapeCasts_S16x16x512_S16x16x4x128

/-- Columns as eight heads. -/
def hostSubs (A : FVec Ideal S16x16x512 .f32) : FVec Ideal S16x16x8x64 .f32 := shapeCast _ A shapeCasts_S16x16x512_S16x16x8x64

/-- The rotary embedding of four heads. -/
def hostRope (A : FVec Ideal S16x16x512 .f32) : FVec Ideal S16x16x4x128 .f32 :=
  concatenate S16x16x4x128 3 [⟨S16x16x4x64, subf (mulf (extractStridedSlice S16x16x4x64 ![0, 0, 0, 0] (hostHeads A)
    slices_S16x16x4x128_S16x16x4x64_0_0_0_0) (broadcastInDim S16x16x4x64 ![0, 1, 2, 3] bcast_S1x16x1x64_S16x16x4x64_0_1_2_3 (broadcastInDim
    S1x16x1x64 ![1, 3] bcast_S16x64_S1x16x1x64_1_3 (Host.cos hostAngle)))) (mulf (extractStridedSlice S16x16x4x64 ![0, 0, 0, 64] (hostHeads A)
    slices_S16x16x4x128_S16x16x4x64_0_0_0_64) (broadcastInDim S16x16x4x64 ![0, 1, 2, 3] bcast_S1x16x1x64_S16x16x4x64_0_1_2_3 (broadcastInDim
    S1x16x1x64 ![1, 3] bcast_S16x64_S1x16x1x64_1_3 (Host.sin hostAngle))))⟩, ⟨S16x16x4x64, addf (mulf (extractStridedSlice S16x16x4x64 ![0, 0,
    0, 0] (hostHeads A) slices_S16x16x4x128_S16x16x4x64_0_0_0_0) (broadcastInDim S16x16x4x64 ![0, 1, 2, 3] bcast_S1x16x1x64_S16x16x4x64_0_1_2_3
    (broadcastInDim S1x16x1x64 ![1, 3] bcast_S16x64_S1x16x1x64_1_3 (Host.sin hostAngle)))) (mulf (extractStridedSlice S16x16x4x64 ![0, 0, 0,
    64] (hostHeads A) slices_S16x16x4x128_S16x16x4x64_0_0_0_64) (broadcastInDim S16x16x4x64 ![0, 1, 2, 3] bcast_S1x16x1x64_S16x16x4x64_0_1_2_3
    (broadcastInDim S1x16x1x64 ![1, 3] bcast_S16x64_S1x16x1x64_1_3 (Host.cos hostAngle))))⟩]
    concatenates_S16x16x4x64_S16x16x4x64_S16x16x4x128_d3

/-- The normalisation of eight heads with its gain. -/
def hostRms (A : FVec Ideal S16x16x512 .f32) (G : FVec Ideal S4x64 .f32) : FVec Ideal S16x16x8x64 .f32 :=
  mulf (mulf (hostSubs A) (broadcastInDim S16x16x8x64 ![0, 1, 2, 3] bcast_S16x16x8x1_S16x16x8x64_0_1_2_3 (Host.rsqrt (addf (Host.divf
    (broadcastInDim S16x16x8x1 ![0, 1, 2] bcast_S16x16x8_S16x16x8x1_0_1_2 (Host.reduceAdd (mulf (hostSubs A) (hostSubs A)) (constant S_ .f32
    0x00000000#32) reducesTo_S16x16x8x64_S16x16x8_d3 h_S_)) (broadcastInDim S16x16x8x1 ![] bcast_S_S16x16x8x1 (constant S_ .f32 0x42800000#32)))
    (broadcastInDim S16x16x8x1 ![] bcast_S_S16x16x8x1 (constant S_ .f32 0x358637BD#32)))))) (broadcastInDim S16x16x8x64 ![0, 1, 2, 3]
    bcast_S1x1x1x64_S16x16x8x64_0_1_2_3 (broadcastInDim S1x1x1x64 ![3] bcast_S64_S1x1x1x64_3 (shapeCast _ (extractStridedSlice S1x64 ![0, 0] G
    slices_S4x64_S1x64_0_0) shapeCasts_S1x64_S64)))

/-- The low-rank decays before the logarithm of the logistic function. -/
def hostDecay (P : FVec Ideal S16x16x5648 .f32) (A2 : FVec Ideal S4x16x512 .f32) (AB : FVec Ideal S4x512 .f32) : FVec Ideal S16x16x512 .f32 :=
  addf (Host.dotGeneral dot_S16x16x16_S16x512_S16x16x512_2_0_01_1_n_n none (extractStridedSlice S16x16x16 ![0, 0, 4096] P
    slices_S16x16x5648_S16x16x16_0_0_4096) (shapeCast _ (extractStridedSlice S1x16x512 ![0, 0, 0] A2 slices_S4x16x512_S1x16x512_0_0_0)
    shapeCasts_S1x16x512_S16x512)) (broadcastInDim S16x16x512 ![0, 1, 2] bcast_S1x1x512_S16x16x512_0_1_2 (broadcastInDim S1x1x512 ![2]
    bcast_S512_S1x1x512_2 (shapeCast _ (extractStridedSlice S1x512 ![0, 0] AB slices_S4x512_S1x512_0_0) shapeCasts_S1x512_S512)))

/-- The logarithm of the logistic function, over sixteen. -/
def hostLog (Z : FVec Ideal S16x16x512 .f32) : FVec Ideal S16x16x512 .f32 :=
  Host.divf (Host.negf (select (cmpf .une (subf (Host.negf Z) (broadcastInDim S16x16x512 ![] bcast_S_S16x16x512 (constant S_ .f32 0x00000000#32)))
    (subf (Host.negf Z) (broadcastInDim S16x16x512 ![] bcast_S_S16x16x512 (constant S_ .f32 0x00000000#32)))) (addf (Host.negf Z) (broadcastInDim
    S16x16x512 ![] bcast_S_S16x16x512 (constant S_ .f32 0x00000000#32))) (addf (maximumf (Host.negf Z) (broadcastInDim S16x16x512 ![]
    bcast_S_S16x16x512 (constant S_ .f32 0x00000000#32))) (Host.log1p (Host.exp (Host.negf (Host.absf (subf (Host.negf Z) (broadcastInDim S16x16x512
    ![] bcast_S_S16x16x512 (constant S_ .f32 0x00000000#32)))))))))) (broadcastInDim S16x16x512 ![] bcast_S_S16x16x512 (constant S_ .f32
    0x41800000#32))

/-- Eleven column groups side by side. -/
def hostCat (u0 u1 u2 u3 u4 u5 u6 u7 u8 u9 u10 : FVec Ideal S16x16x512 .f32) : FVec Ideal S16x16x5632 .f32 :=
  concatenate S16x16x5632 2 [⟨S16x16x512, u0⟩, ⟨S16x16x512, u1⟩, ⟨S16x16x512, u2⟩, ⟨S16x16x512, u3⟩, ⟨S16x16x512, u4⟩, ⟨S16x16x512, u5⟩, ⟨S16x16x512, u6⟩, ⟨S16x16x512, u7⟩, ⟨S16x16x512, u8⟩, ⟨S16x16x512, u9⟩, ⟨S16x16x512, u10⟩]
    concatenates_S16x16x512_S16x16x512_S16x16x512_S16x16x512_S16x16x512_S16x16x512_S16x16x512_S16x16x512_S16x16x512_S16x16x512_S16x16x512_S16x16x5632_d2

/-- All columns of the result, of the projected columns. -/
def hostCols (P : FVec Ideal S16x16x5648 .f32) (GQ GK : FVec Ideal S4x64 .f32) : FVec Ideal S16x16x5632 .f32 :=
  hostCat (shapeCast _ (hostRope (extractStridedSlice S16x16x512 ![0, 0, 0] P slices_S16x16x5648_S16x16x512_0_0_0)) shapeCasts_S16x16x4x128_S16x16x512)
    (shapeCast _ (mulf (hostRope (extractStridedSlice S16x16x512 ![0, 0, 512] P slices_S16x16x5648_S16x16x512_0_0_512)) (broadcastInDim S16x16x4x128 ![] bcast_S_S16x16x4x128 (constant S_ .f32 0x3DB504F3#32))) shapeCasts_S16x16x4x128_S16x16x512)
    (extractStridedSlice S16x16x512 ![0, 0, 1024] P slices_S16x16x5648_S16x16x512_0_0_1024)
    (extractStridedSlice S16x16x512 ![0, 0, 1536] P slices_S16x16x5648_S16x16x512_0_0_1536)
    (shapeCast _ (mulf (hostHeads (extractStridedSlice S16x16x512 ![0, 0, 2048] P slices_S16x16x5648_S16x16x512_0_0_2048)) (broadcastInDim S16x16x4x128 ![] bcast_S_S16x16x4x128 (constant S_ .f32 0x3DB504F3#32))) shapeCasts_S16x16x4x128_S16x16x512)
    (extractStridedSlice S16x16x512 ![0, 0, 2560] P slices_S16x16x5648_S16x16x512_0_0_2560)
    (extractStridedSlice S16x16x512 ![0, 0, 3072] P slices_S16x16x5648_S16x16x512_0_0_3072)
    (extractStridedSlice S16x16x512 ![0, 0, 3584] P slices_S16x16x5648_S16x16x512_0_0_3584)
    (shapeCast _ (mulf (hostRms (extractStridedSlice S16x16x512 ![0, 0, 4112] P slices_S16x16x5648_S16x16x512_0_0_4112) GQ) (broadcastInDim S16x16x8x64 ![] bcast_S_S16x16x8x64 (constant S_ .f32 0x3E38AA3B#32))) shapeCasts_S16x16x8x64_S16x16x512)
    (shapeCast _ (hostRms (extractStridedSlice S16x16x512 ![0, 0, 4624] P slices_S16x16x5648_S16x16x512_0_0_4624) GK) shapeCasts_S16x16x8x64_S16x16x512)
    (extractStridedSlice S16x16x512 ![0, 0, 5136] P slices_S16x16x5648_S16x16x512_0_0_5136)

/-- The normalised input at a token. -/
theorem normed_at (X : FVec Ideal S16x16x1024 .f32) (G : FVec Ideal S4x1024 .f32) (SC SH : FVec Ideal S16x1024 .f32) (b t : Fin 16) (k : Fin 1024) :
    hostNormed X G SC SH (ix3 b t k) = rowN X SC SH G b t k := by
  pointwise [hostNormed, rowN, normed]

/-- The projection at a token and a column. -/
theorem proj_at (H : FVec Ideal S16x16x1024 .f32) (W : FVec Ideal S4x1024x5648 .f32) (b t : Fin 16) (q : Fin 5648) :
    hostProj H W (ix3 b t q) = ∑ k : Fin 1024, H (ix3 b t k) * W (ix3 0 k q) := by
  pointwise [hostProj]

/-- The rotary embedding at a head and a lane. -/
theorem rope_at (A : FVec Ideal S16x16x512 .f32) (b t : Fin 16) (n : Fin 4) (d : Fin 128) :
    hostRope A (ix4 b t n d) = rot (fun l => A (ix3 b t l)) (cosS t) (sinS t) n d := by
  have e1 : (⟨n.val * 128 + d.val, by omega⟩ : Fin 512) = lane n d := Fin.ext (by show n.val * 128 + d.val = 128 * n.val + d.val; omega)
  by_cases hd : d.val < 64
  · have e2 : (⟨n.val * 128 + (64 + d.val), by omega⟩ : Fin 512) = lane n (other d) :=
      Fin.ext (by show n.val * 128 + (64 + d.val) = 128 * n.val + (d.val + 128 - 64) % 128; omega)
    pointwise [hostRope, hostHeads, hostAngle, rot, cosS, sinS, angS]
    simp only [dif_pos hd, e1, e2, sub_eq_add_neg, mul_neg]
  · have e2 : (⟨n.val * 128 + (d.val - 64), by omega⟩ : Fin 512) = lane n (other d) :=
      Fin.ext (by show n.val * 128 + (d.val - 64) = 128 * n.val + (d.val + 128 - 64) % 128; omega)
    have e3 : (⟨n.val * 128 + (64 + (d.val - 64)), by omega⟩ : Fin 512) = lane n d :=
      Fin.ext (by show n.val * 128 + (64 + (d.val - 64)) = 128 * n.val + d.val; omega)
    pointwise [hostRope, hostHeads, hostAngle, rot, cosS, sinS, angS]
    simp only [dif_neg hd, e2, e3]
    exact add_comm _ _

/-- The normalised head at a lane. -/
theorem rms_at (A : FVec Ideal S16x16x512 .f32) (G : FVec Ideal S4x64 .f32) (b t : Fin 16) (q : Fin 8) (i : Fin 64) :
    hostRms A G (ix4 b t q i) = rms (fun l => A (ix3 b t l)) q i * G (ix2 0 i) := by
  have e : ∀ x : Fin 64, (⟨q.val * 64 + x.val, by omega⟩ : Fin 512) = sub q x :=
    fun x => Fin.ext (by show q.val * 64 + x.val = 64 * q.val + x.val; omega)
  pointwise [hostRms, hostSubs, rms]
  simp only [e]

/-- The log of the logistic function at a lane. -/
theorem log_at (Z : FVec Ideal S16x16x512 .f32) (b t : Fin 16) (l : Fin 512) :
    hostLog Z (ix3 b t l) = Ideal.div (-softplus (-Z (ix3 b t l))) (Ideal.ofBits .f32 0x41800000#32) := by
  pointwise [hostLog, softplus]
  simp only [ne_eq, not_true_eq_false, if_false]

/-- The low-rank decay at a lane. -/
theorem decay_at (P : FVec Ideal S16x16x5648 .f32) (A2 : FVec Ideal S4x16x512 .f32) (AB : FVec Ideal S4x512 .f32) (b t : Fin 16) (l : Fin 512) :
    hostDecay P A2 AB (ix3 b t l) = ∑ i : Fin 16, P (ix3 b t ⟨4096 + i.val, by omega⟩) * A2 (ix3 0 i l) + AB (ix2 0 l) := by
  pointwise [hostDecay]

/-- The side-by-side groups, read in group 0. -/
theorem cat_0 (u0 u1 u2 u3 u4 u5 u6 u7 u8 u9 u10 : FVec Ideal S16x16x512 .f32) (b t : Fin 16) (l : Fin 512) :
    hostCat u0 u1 u2 u3 u4 u5 u6 u7 u8 u9 u10 (ix3 b t (grp 0 l)) = u0 (ix3 b t l) := by
  pointwise [hostCat]

/-- The side-by-side groups, read in group 1. -/
theorem cat_1 (u0 u1 u2 u3 u4 u5 u6 u7 u8 u9 u10 : FVec Ideal S16x16x512 .f32) (b t : Fin 16) (l : Fin 512) :
    hostCat u0 u1 u2 u3 u4 u5 u6 u7 u8 u9 u10 (ix3 b t (grp 1 l)) = u1 (ix3 b t l) := by
  pointwise [hostCat]

/-- The side-by-side groups, read in group 2. -/
theorem cat_2 (u0 u1 u2 u3 u4 u5 u6 u7 u8 u9 u10 : FVec Ideal S16x16x512 .f32) (b t : Fin 16) (l : Fin 512) :
    hostCat u0 u1 u2 u3 u4 u5 u6 u7 u8 u9 u10 (ix3 b t (grp 2 l)) = u2 (ix3 b t l) := by
  have e : 1024 + l.val - 512 - 512 = l.val := by omega
  pointwise [hostCat]
  rw [dif_neg (by omega), dif_neg (by omega), dif_pos (by omega)]
  simp only [e]

/-- The side-by-side groups, read in group 3. -/
theorem cat_3 (u0 u1 u2 u3 u4 u5 u6 u7 u8 u9 u10 : FVec Ideal S16x16x512 .f32) (b t : Fin 16) (l : Fin 512) :
    hostCat u0 u1 u2 u3 u4 u5 u6 u7 u8 u9 u10 (ix3 b t (grp 3 l)) = u3 (ix3 b t l) := by
  have e : 1536 + l.val - 512 - 512 - 512 = l.val := by omega
  pointwise [hostCat]
  rw [dif_neg (by omega), dif_neg (by omega), dif_neg (by omega), dif_pos (by omega)]
  simp only [e]

/-- The side-by-side groups, read in group 4. -/
theorem cat_4 (u0 u1 u2 u3 u4 u5 u6 u7 u8 u9 u10 : FVec Ideal S16x16x512 .f32) (b t : Fin 16) (l : Fin 512) :
    hostCat u0 u1 u2 u3 u4 u5 u6 u7 u8 u9 u10 (ix3 b t (grp 4 l)) = u4 (ix3 b t l) := by
  have e : 2048 + l.val - 512 - 512 - 512 - 512 = l.val := by omega
  pointwise [hostCat]
  rw [dif_neg (by omega), dif_neg (by omega), dif_neg (by omega), dif_neg (by omega), dif_pos (by omega)]
  simp only [e]

/-- The side-by-side groups, read in group 5. -/
theorem cat_5 (u0 u1 u2 u3 u4 u5 u6 u7 u8 u9 u10 : FVec Ideal S16x16x512 .f32) (b t : Fin 16) (l : Fin 512) :
    hostCat u0 u1 u2 u3 u4 u5 u6 u7 u8 u9 u10 (ix3 b t (grp 5 l)) = u5 (ix3 b t l) := by
  have e : 2560 + l.val - 512 - 512 - 512 - 512 - 512 = l.val := by omega
  pointwise [hostCat]
  rw [dif_neg (by omega), dif_neg (by omega), dif_neg (by omega), dif_neg (by omega), dif_neg (by omega), dif_pos (by omega)]
  simp only [e]

/-- The side-by-side groups, read in group 6. -/
theorem cat_6 (u0 u1 u2 u3 u4 u5 u6 u7 u8 u9 u10 : FVec Ideal S16x16x512 .f32) (b t : Fin 16) (l : Fin 512) :
    hostCat u0 u1 u2 u3 u4 u5 u6 u7 u8 u9 u10 (ix3 b t (grp 6 l)) = u6 (ix3 b t l) := by
  have e : 3072 + l.val - 512 - 512 - 512 - 512 - 512 - 512 = l.val := by omega
  pointwise [hostCat]
  rw [dif_neg (by omega), dif_neg (by omega), dif_neg (by omega), dif_neg (by omega), dif_neg (by omega), dif_neg (by omega), dif_pos (by omega)]
  simp only [e]

/-- The side-by-side groups, read in group 7. -/
theorem cat_7 (u0 u1 u2 u3 u4 u5 u6 u7 u8 u9 u10 : FVec Ideal S16x16x512 .f32) (b t : Fin 16) (l : Fin 512) :
    hostCat u0 u1 u2 u3 u4 u5 u6 u7 u8 u9 u10 (ix3 b t (grp 7 l)) = u7 (ix3 b t l) := by
  have e : 3584 + l.val - 512 - 512 - 512 - 512 - 512 - 512 - 512 = l.val := by omega
  pointwise [hostCat]
  rw [dif_neg (by omega), dif_neg (by omega), dif_neg (by omega), dif_neg (by omega), dif_neg (by omega), dif_neg (by omega), dif_neg (by omega), dif_pos (by omega)]
  simp only [e]

/-- The side-by-side groups, read in group 8. -/
theorem cat_8 (u0 u1 u2 u3 u4 u5 u6 u7 u8 u9 u10 : FVec Ideal S16x16x512 .f32) (b t : Fin 16) (l : Fin 512) :
    hostCat u0 u1 u2 u3 u4 u5 u6 u7 u8 u9 u10 (ix3 b t (grp 8 l)) = u8 (ix3 b t l) := by
  have e : 4096 + l.val - 512 - 512 - 512 - 512 - 512 - 512 - 512 - 512 = l.val := by omega
  pointwise [hostCat]
  rw [dif_neg (by omega), dif_neg (by omega), dif_neg (by omega), dif_neg (by omega), dif_neg (by omega), dif_neg (by omega), dif_neg (by omega), dif_neg (by omega), dif_pos (by omega)]
  simp only [e]

/-- The side-by-side groups, read in group 9. -/
theorem cat_9 (u0 u1 u2 u3 u4 u5 u6 u7 u8 u9 u10 : FVec Ideal S16x16x512 .f32) (b t : Fin 16) (l : Fin 512) :
    hostCat u0 u1 u2 u3 u4 u5 u6 u7 u8 u9 u10 (ix3 b t (grp 9 l)) = u9 (ix3 b t l) := by
  have e : 4608 + l.val - 512 - 512 - 512 - 512 - 512 - 512 - 512 - 512 - 512 = l.val := by omega
  pointwise [hostCat]
  rw [dif_neg (by omega), dif_neg (by omega), dif_neg (by omega), dif_neg (by omega), dif_neg (by omega), dif_neg (by omega), dif_neg (by omega), dif_neg (by omega), dif_neg (by omega), dif_pos (by omega)]
  simp only [e]

/-- The side-by-side groups, read in group 10. -/
theorem cat_10 (u0 u1 u2 u3 u4 u5 u6 u7 u8 u9 u10 : FVec Ideal S16x16x512 .f32) (b t : Fin 16) (l : Fin 512) :
    hostCat u0 u1 u2 u3 u4 u5 u6 u7 u8 u9 u10 (ix3 b t (grp 10 l)) = u10 (ix3 b t l) := by
  have e : 5120 + l.val - 512 - 512 - 512 - 512 - 512 - 512 - 512 - 512 - 512 - 512 = l.val := by omega
  pointwise [hostCat]
  rw [dif_neg (by omega), dif_neg (by omega), dif_neg (by omega), dif_neg (by omega), dif_neg (by omega), dif_neg (by omega), dif_neg (by omega), dif_neg (by omega), dif_neg (by omega), dif_neg (by omega)]
  simp only [e]

/-- Column group 0 reads the projected column `src` names. -/
theorem cut_0 (P : FVec Ideal S16x16x5648 .f32) (b t : Fin 16) (l : Fin 512) :
    (extractStridedSlice S16x16x512 ![0, 0, 0] P slices_S16x16x5648_S16x16x512_0_0_0) (ix3 b t l) = P (ix3 b t (src (grp 0 l))) := by
  have e : src (grp 0 l) = ⟨l.val, by omega⟩ := (dif_pos (show 512 * 0 + l.val < 4096 by omega)).trans (Fin.ext (by show 512 * 0 + l.val = l.val; omega))
  rw [e]
  pointwise

/-- Column group 1 reads the projected column `src` names. -/
theorem cut_1 (P : FVec Ideal S16x16x5648 .f32) (b t : Fin 16) (l : Fin 512) :
    (extractStridedSlice S16x16x512 ![0, 0, 512] P slices_S16x16x5648_S16x16x512_0_0_512) (ix3 b t l) = P (ix3 b t (src (grp 1 l))) := by
  have e : src (grp 1 l) = ⟨512 + l.val, by omega⟩ := (dif_pos (show 512 * 1 + l.val < 4096 by omega)).trans (Fin.ext (by show 512 * 1 + l.val = 512 + l.val; omega))
  rw [e]
  pointwise

/-- Column group 2 reads the projected column `src` names. -/
theorem cut_2 (P : FVec Ideal S16x16x5648 .f32) (b t : Fin 16) (l : Fin 512) :
    (extractStridedSlice S16x16x512 ![0, 0, 1024] P slices_S16x16x5648_S16x16x512_0_0_1024) (ix3 b t l) = P (ix3 b t (src (grp 2 l))) := by
  have e : src (grp 2 l) = ⟨1024 + l.val, by omega⟩ := (dif_pos (show 512 * 2 + l.val < 4096 by omega)).trans (Fin.ext (by show 512 * 2 + l.val = 1024 + l.val; omega))
  rw [e]
  pointwise

/-- Column group 3 reads the projected column `src` names. -/
theorem cut_3 (P : FVec Ideal S16x16x5648 .f32) (b t : Fin 16) (l : Fin 512) :
    (extractStridedSlice S16x16x512 ![0, 0, 1536] P slices_S16x16x5648_S16x16x512_0_0_1536) (ix3 b t l) = P (ix3 b t (src (grp 3 l))) := by
  have e : src (grp 3 l) = ⟨1536 + l.val, by omega⟩ := (dif_pos (show 512 * 3 + l.val < 4096 by omega)).trans (Fin.ext (by show 512 * 3 + l.val = 1536 + l.val; omega))
  rw [e]
  pointwise

/-- Column group 4 reads the projected column `src` names. -/
theorem cut_4 (P : FVec Ideal S16x16x5648 .f32) (b t : Fin 16) (l : Fin 512) :
    (extractStridedSlice S16x16x512 ![0, 0, 2048] P slices_S16x16x5648_S16x16x512_0_0_2048) (ix3 b t l) = P (ix3 b t (src (grp 4 l))) := by
  have e : src (grp 4 l) = ⟨2048 + l.val, by omega⟩ := (dif_pos (show 512 * 4 + l.val < 4096 by omega)).trans (Fin.ext (by show 512 * 4 + l.val = 2048 + l.val; omega))
  rw [e]
  pointwise

/-- Column group 5 reads the projected column `src` names. -/
theorem cut_5 (P : FVec Ideal S16x16x5648 .f32) (b t : Fin 16) (l : Fin 512) :
    (extractStridedSlice S16x16x512 ![0, 0, 2560] P slices_S16x16x5648_S16x16x512_0_0_2560) (ix3 b t l) = P (ix3 b t (src (grp 5 l))) := by
  have e : src (grp 5 l) = ⟨2560 + l.val, by omega⟩ := (dif_pos (show 512 * 5 + l.val < 4096 by omega)).trans (Fin.ext (by show 512 * 5 + l.val = 2560 + l.val; omega))
  rw [e]
  pointwise

/-- Column group 6 reads the projected column `src` names. -/
theorem cut_6 (P : FVec Ideal S16x16x5648 .f32) (b t : Fin 16) (l : Fin 512) :
    (extractStridedSlice S16x16x512 ![0, 0, 3072] P slices_S16x16x5648_S16x16x512_0_0_3072) (ix3 b t l) = P (ix3 b t (src (grp 6 l))) := by
  have e : src (grp 6 l) = ⟨3072 + l.val, by omega⟩ := (dif_pos (show 512 * 6 + l.val < 4096 by omega)).trans (Fin.ext (by show 512 * 6 + l.val = 3072 + l.val; omega))
  rw [e]
  pointwise

/-- Column group 7 reads the projected column `src` names. -/
theorem cut_7 (P : FVec Ideal S16x16x5648 .f32) (b t : Fin 16) (l : Fin 512) :
    (extractStridedSlice S16x16x512 ![0, 0, 3584] P slices_S16x16x5648_S16x16x512_0_0_3584) (ix3 b t l) = P (ix3 b t (src (grp 7 l))) := by
  have e : src (grp 7 l) = ⟨3584 + l.val, by omega⟩ := (dif_pos (show 512 * 7 + l.val < 4096 by omega)).trans (Fin.ext (by show 512 * 7 + l.val = 3584 + l.val; omega))
  rw [e]
  pointwise

/-- Column group 8 reads the projected column `src` names. -/
theorem cut_8 (P : FVec Ideal S16x16x5648 .f32) (b t : Fin 16) (l : Fin 512) :
    (extractStridedSlice S16x16x512 ![0, 0, 4112] P slices_S16x16x5648_S16x16x512_0_0_4112) (ix3 b t l) = P (ix3 b t (src (grp 8 l))) := by
  have e : src (grp 8 l) = ⟨4112 + l.val, by omega⟩ := (dif_neg (show ¬512 * 8 + l.val < 4096 by omega)).trans (Fin.ext (by show 4112 + (512 * 8 + l.val - 4096) = 4112 + l.val; omega))
  rw [e]
  pointwise

/-- Column group 9 reads the projected column `src` names. -/
theorem cut_9 (P : FVec Ideal S16x16x5648 .f32) (b t : Fin 16) (l : Fin 512) :
    (extractStridedSlice S16x16x512 ![0, 0, 4624] P slices_S16x16x5648_S16x16x512_0_0_4624) (ix3 b t l) = P (ix3 b t (src (grp 9 l))) := by
  have e : src (grp 9 l) = ⟨4624 + l.val, by omega⟩ := (dif_neg (show ¬512 * 9 + l.val < 4096 by omega)).trans (Fin.ext (by show 4112 + (512 * 9 + l.val - 4096) = 4624 + l.val; omega))
  rw [e]
  pointwise

/-- Column group 10 reads the projected column `src` names. -/
theorem cut_10 (P : FVec Ideal S16x16x5648 .f32) (b t : Fin 16) (l : Fin 512) :
    (extractStridedSlice S16x16x512 ![0, 0, 5136] P slices_S16x16x5648_S16x16x512_0_0_5136) (ix3 b t l) = P (ix3 b t (src (grp 10 l))) := by
  have e : src (grp 10 l) = ⟨5136 + l.val, by omega⟩ := (dif_neg (show ¬512 * 10 + l.val < 4096 by omega)).trans (Fin.ext (by show 4112 + (512 * 10 + l.val - 4096) = 5136 + l.val; omega))
  rw [e]
  pointwise

/-- Four heads flattened, at a head and a lane. -/
theorem flat4_at (B : FVec Ideal S16x16x4x128 .f32) (b t : Fin 16) (n : Fin 4) (d : Fin 128) :
    shapeCast S16x16x512 B shapeCasts_S16x16x4x128_S16x16x512 (ix3 b t (lane n d)) = B (ix4 b t n d) := by
  have e1 : (⟨(128 * n.val + d.val) / 128, by omega⟩ : Fin 4) = n := Fin.ext (by show (128 * n.val + d.val) / 128 = n.val; omega)
  have e2 : (⟨(128 * n.val + d.val) % 128, by omega⟩ : Fin 128) = d := Fin.ext (by show (128 * n.val + d.val) % 128 = d.val; omega)
  pointwise
  simp only [e1, e2]

/-- Eight heads flattened, at a head and a lane. -/
theorem flat8_at (B : FVec Ideal S16x16x8x64 .f32) (b t : Fin 16) (q : Fin 8) (i : Fin 64) :
    shapeCast S16x16x512 B shapeCasts_S16x16x8x64_S16x16x512 (ix3 b t (sub q i)) = B (ix4 b t q i) := by
  have e1 : (⟨(64 * q.val + i.val) / 64, by omega⟩ : Fin 8) = q := Fin.ext (by show (64 * q.val + i.val) / 64 = q.val; omega)
  have e2 : (⟨(64 * q.val + i.val) % 64, by omega⟩ : Fin 64) = i := Fin.ext (by show (64 * q.val + i.val) % 64 = i.val; omega)
  pointwise
  simp only [e1, e2]

/-- Columns as four heads, at a head and a lane. -/
theorem heads_at (A : FVec Ideal S16x16x512 .f32) (b t : Fin 16) (n : Fin 4) (d : Fin 128) :
    hostHeads A (ix4 b t n d) = A (ix3 b t (lane n d)) := by
  have e1 : (⟨n.val * 128 + d.val, by omega⟩ : Fin 512) = lane n d := Fin.ext (by show n.val * 128 + d.val = 128 * n.val + d.val; omega)
  pointwise [hostHeads]
  simp only [e1]

/-- The result in column group 0. -/
theorem cols_0 (P : FVec Ideal S16x16x5648 .f32) (GQ GK : FVec Ideal S4x64 .f32) (b t : Fin 16) (l : Fin 512) :
    hostCols P GQ GK (ix3 b t (grp 0 l)) = byLane (rot (fun l => P (ix3 b t (src (grp 0 l)))) (cosS t) (sinS t)) l := by
  unfold hostCols
  rw [cat_0]
  obtain ⟨n, d, rfl⟩ := exists_lane l
  rw [flat4_at]
  rw [rope_at, byLane_lane]
  simp only [cut_0]

/-- The result in column group 1. -/
theorem cols_1 (P : FVec Ideal S16x16x5648 .f32) (GQ GK : FVec Ideal S4x64 .f32) (b t : Fin 16) (l : Fin 512) :
    hostCols P GQ GK (ix3 b t (grp 1 l)) = byLane (rot (fun l => P (ix3 b t (src (grp 1 l)))) (cosS t) (sinS t)) l * Ideal.ofBits .f32 0x3DB504F3#32 := by
  unfold hostCols
  rw [cat_1]
  obtain ⟨n, d, rfl⟩ := exists_lane l
  rw [flat4_at]
  show hostRope (extractStridedSlice S16x16x512 ![0, 0, 512] P slices_S16x16x5648_S16x16x512_0_0_512) (ix4 b t n d) * Ideal.ofBits .f32 0x3DB504F3#32 = _
  rw [rope_at, byLane_lane]
  simp only [cut_1]

/-- The result in column group 2. -/
theorem cols_2 (P : FVec Ideal S16x16x5648 .f32) (GQ GK : FVec Ideal S4x64 .f32) (b t : Fin 16) (l : Fin 512) :
    hostCols P GQ GK (ix3 b t (grp 2 l)) = P (ix3 b t (src (grp 2 l))) := by
  unfold hostCols
  rw [cat_2]
  rw [cut_2]

/-- The result in column group 3. -/
theorem cols_3 (P : FVec Ideal S16x16x5648 .f32) (GQ GK : FVec Ideal S4x64 .f32) (b t : Fin 16) (l : Fin 512) :
    hostCols P GQ GK (ix3 b t (grp 3 l)) = P (ix3 b t (src (grp 3 l))) := by
  unfold hostCols
  rw [cat_3]
  rw [cut_3]

/-- The result in column group 4. -/
theorem cols_4 (P : FVec Ideal S16x16x5648 .f32) (GQ GK : FVec Ideal S4x64 .f32) (b t : Fin 16) (l : Fin 512) :
    hostCols P GQ GK (ix3 b t (grp 4 l)) = P (ix3 b t (src (grp 4 l))) * Ideal.ofBits .f32 0x3DB504F3#32 := by
  unfold hostCols
  rw [cat_4]
  obtain ⟨n, d, rfl⟩ := exists_lane l
  rw [flat4_at]
  show hostHeads (extractStridedSlice S16x16x512 ![0, 0, 2048] P slices_S16x16x5648_S16x16x512_0_0_2048) (ix4 b t n d) * Ideal.ofBits .f32 0x3DB504F3#32 = _
  rw [heads_at, cut_4]

/-- The result in column group 5. -/
theorem cols_5 (P : FVec Ideal S16x16x5648 .f32) (GQ GK : FVec Ideal S4x64 .f32) (b t : Fin 16) (l : Fin 512) :
    hostCols P GQ GK (ix3 b t (grp 5 l)) = P (ix3 b t (src (grp 5 l))) := by
  unfold hostCols
  rw [cat_5]
  rw [cut_5]

/-- The result in column group 6. -/
theorem cols_6 (P : FVec Ideal S16x16x5648 .f32) (GQ GK : FVec Ideal S4x64 .f32) (b t : Fin 16) (l : Fin 512) :
    hostCols P GQ GK (ix3 b t (grp 6 l)) = P (ix3 b t (src (grp 6 l))) := by
  unfold hostCols
  rw [cat_6]
  rw [cut_6]

/-- The result in column group 7. -/
theorem cols_7 (P : FVec Ideal S16x16x5648 .f32) (GQ GK : FVec Ideal S4x64 .f32) (b t : Fin 16) (l : Fin 512) :
    hostCols P GQ GK (ix3 b t (grp 7 l)) = P (ix3 b t (src (grp 7 l))) := by
  unfold hostCols
  rw [cat_7]
  rw [cut_7]

/-- The result in column group 8. -/
theorem cols_8 (P : FVec Ideal S16x16x5648 .f32) (GQ GK : FVec Ideal S4x64 .f32) (b t : Fin 16) (l : Fin 512) :
    hostCols P GQ GK (ix3 b t (grp 8 l)) = bySub (rms (fun l => P (ix3 b t (src (grp 8 l))))) l * GQ (ix2 0 ⟨l.val % 64, by omega⟩) * Ideal.ofBits .f32 0x3E38AA3B#32 := by
  unfold hostCols
  rw [cat_8]
  obtain ⟨q, i, rfl⟩ := exists_sub l
  have e : (⟨(64 * q.val + i.val) % 64, by omega⟩ : Fin 64) = i := Fin.ext (by show (64 * q.val + i.val) % 64 = i.val; omega)
  rw [flat8_at]
  show hostRms (extractStridedSlice S16x16x512 ![0, 0, 4112] P slices_S16x16x5648_S16x16x512_0_0_4112) GQ (ix4 b t q i) * Ideal.ofBits .f32 0x3E38AA3B#32 = _
  rw [rms_at, bySub_sub]
  simp only [cut_8, e]

/-- The result in column group 9. -/
theorem cols_9 (P : FVec Ideal S16x16x5648 .f32) (GQ GK : FVec Ideal S4x64 .f32) (b t : Fin 16) (l : Fin 512) :
    hostCols P GQ GK (ix3 b t (grp 9 l)) = bySub (rms (fun l => P (ix3 b t (src (grp 9 l))))) l * GK (ix2 0 ⟨l.val % 64, by omega⟩) := by
  unfold hostCols
  rw [cat_9]
  obtain ⟨q, i, rfl⟩ := exists_sub l
  have e : (⟨(64 * q.val + i.val) % 64, by omega⟩ : Fin 64) = i := Fin.ext (by show (64 * q.val + i.val) % 64 = i.val; omega)
  rw [flat8_at]
  rw [rms_at, bySub_sub]
  simp only [cut_9, e]

/-- The result in column group 10. -/
theorem cols_10 (P : FVec Ideal S16x16x5648 .f32) (GQ GK : FVec Ideal S4x64 .f32) (b t : Fin 16) (l : Fin 512) :
    hostCols P GQ GK (ix3 b t (grp 10 l)) = P (ix3 b t (src (grp 10 l))) := by
  unfold hostCols
  rw [cat_10]
  rw [cut_10]

/-- All columns of the result at a token's group and lane. -/
theorem cols_at (P : FVec Ideal S16x16x5648 .f32) (GQ GK : FVec Ideal S4x64 .f32) (b t : Fin 16) (j : Fin 11) (l : Fin 512) :
    hostCols P GQ GK (ix3 b t (grp j l)) = outCell (fun j l => P (ix3 b t (src (grp j l)))) (cosS t) (sinS t)
      (fun l => GQ (ix2 0 ⟨l.val % 64, by omega⟩)) (fun l => GK (ix2 0 ⟨l.val % 64, by omega⟩)) j l := by
  fin_cases j
  · exact cols_0 P GQ GK b t l
  · exact cols_1 P GQ GK b t l
  · exact cols_2 P GQ GK b t l
  · exact cols_3 P GQ GK b t l
  · exact cols_4 P GQ GK b t l
  · exact cols_5 P GQ GK b t l
  · exact cols_6 P GQ GK b t l
  · exact cols_7 P GQ GK b t l
  · exact cols_8 P GQ GK b t l
  · exact cols_9 P GQ GK b t l
  · exact cols_10 P GQ GK b t l

variable (m : (l : Idealize.ShloMosaic.Loc nD τ sig) → Buf (Elt Ideal) l) (c : Dev nD)

/-- The run's projection is the stage `hostProj`. -/
theorem res_proj (V0 : Valuation τ sig (Elt Ideal)) : res_main_v25 V0 = hostProj (hostNormed (V0 (Proc.devRef .tc main_arg0)) (V0 (Proc.devRef .tc main_arg3)) (V0 (Proc.devRef .tc main_arg1)) (V0 (Proc.devRef .tc main_arg2))) (V0 (Proc.devRef .tc main_arg4)) := rfl

/-- The run's columns are the stage `hostCols`. -/
theorem res_cols (V0 : Valuation τ sig (Elt Ideal)) : res_main_v154 V0 = hostCols (res_main_v25 V0) (V0 (Proc.devRef .tc main_arg7)) (V0 (Proc.devRef .tc main_arg8)) := rfl

/-- The sequences' columns one after another, at a row. -/
theorem row_cols (A : FVec Ideal S16x16x5632 .bf16) (r : Fin 256) (q : Fin 5632) :
    shapeCast S1x256x5632 A shapeCasts_S16x16x5632_S1x256x5632 (ix3 0 r q) = A (ix3 (seqOf r) (tokOf r) q) := by
  pointwise

/-- The sequences' decays one after another, at a row. -/
theorem row_decay (A : FVec Ideal S16x16x512 .f32) (r : Fin 256) (l : Fin 512) :
    shapeCast S1x256x512 A shapeCasts_S16x16x512_S1x256x512 (ix3 0 r l) = A (ix3 (seqOf r) (tokOf r) l) := by
  pointwise

/-- The columns are the array the kernel leaves. -/
theorem hostCols_eq (X : FVec Ideal S16x16x1024 .f32) (SC SH : FVec Ideal S16x1024 .f32) (G : FVec Ideal S4x1024 .f32) (W : FVec Ideal S4x1024x5648 .f32) (GQ GK : FVec Ideal S4x64 .f32) :
    shapeCast S1x256x5632 (truncf .bf16 (hostCols (hostProj (hostNormed X G SC SH) W) GQ GK) bitsLt_bf16_f32) shapeCasts_S16x16x5632_S1x256x5632 = projArr X SC SH G W GQ GK := by
  funext y
  obtain ⟨z, r, q, rfl⟩ : ∃ (z : Fin 1) (r : Fin 256) (q : Fin 5632), y = ix3 z r q := ⟨y 0, y 1, y 2, eq_ix3 y⟩
  obtain rfl : z = 0 := Subsingleton.elim _ _
  obtain ⟨j, l, rfl⟩ := exists_grp q
  refine (row_cols _ r _).trans ((cols_at _ GQ GK (seqOf r) (tokOf r) j l).trans ?_)
  refine Eq.trans ?_ (byGrp_grp (rowO X SC SH G W GQ GK (seqOf r) (tokOf r)) j l).symm
  simp only [proj_at, normed_at]
  rfl

/-- The decays are the array the kernel leaves. -/
theorem hostDecay_eq (X : FVec Ideal S16x16x1024 .f32) (SC SH : FVec Ideal S16x1024 .f32) (G : FVec Ideal S4x1024 .f32) (W : FVec Ideal S4x1024x5648 .f32) (A2 : FVec Ideal S4x16x512 .f32)
    (AB : FVec Ideal S4x512 .f32) : shapeCast S1x256x512 (hostLog (hostDecay (hostProj (hostNormed X G SC SH) W) A2 AB)) shapeCasts_S16x16x512_S1x256x512 = decayArr X SC SH G W A2 AB := by
  funext y
  obtain ⟨z, r, l, rfl⟩ : ∃ (z : Fin 1) (r : Fin 256) (l : Fin 512), y = ix3 z r l := ⟨y 0, y 1, y 2, eq_ix3 y⟩
  obtain rfl : z = 0 := Subsingleton.elim _ _
  refine (row_decay _ r l).trans ((log_at _ (seqOf r) (tokOf r) l).trans ?_)
  simp only [decay_at, proj_at, normed_at]
  rfl

/-- The run's columns, of the arguments. -/
theorem ref_cols : shapeCast S1x256x5632 (truncf .bf16 (res_main_v154 (StableHlo.launchContents m c)) bitsLt_bf16_f32) shapeCasts_S16x16x5632_S1x256x5632 = projArr (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg7)) (m ((c : Thread nD τ).loc main_arg8)) := by
  rw [res_cols, res_proj]
  exact hostCols_eq _ _ _ _ _ _ _

/-- The reference's run: both results, of the arguments. -/
theorem reference_run (ρ : Dev nD → PrngReg) : θ_run (defs (F := Ideal)) (onTc (τ := τ) (main (F := Ideal))) ⟨m, fun _ => 0, ρ⟩ fun r => ∀ c : Dev nD,
      r.2.mem ((c : Thread nD τ).loc main_v156) = projArr (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg7)) (m ((c : Thread nD τ).loc main_arg8))
      ∧ r.2.mem ((c : Thread nD τ).loc main_v157) = decayArr (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6))
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5)
      ∧ r.2.mem ((c : Thread nD τ).loc main_arg6) = m ((c : Thread nD τ).loc main_arg6)
      ∧ r.2.mem ((c : Thread nD τ).loc main_arg7) = m ((c : Thread nD τ).loc main_arg7)
      ∧ r.2.mem ((c : Thread nD τ).loc main_arg8) = m ((c : Thread nD τ).loc main_arg8) :=
  (θ_run defs _ _).mono (fun _ h c => ⟨(h c).1.trans (ref_cols m c), (h c).2.1.trans
    ((show _ = shapeCast S1x256x512 (hostLog (hostDecay (hostProj (hostNormed (m ((c : Thread nD τ).loc main_arg0)) (m ((c : Thread nD τ).loc main_arg3)) (m ((c : Thread nD τ).loc main_arg1)) (m ((c : Thread nD τ).loc main_arg2))) (m ((c : Thread nD τ).loc main_arg4))) (m ((c : Thread nD τ).loc main_arg5)) (m ((c : Thread nD τ).loc main_arg6)))) shapeCasts_S16x16x512_S1x256x512 from rfl).trans (hostDecay_eq _ _ _ _ _ _ _)), (h c).2.2⟩) (run m ρ)

end Cert.Sam

end
-- ==== Proof.SamClaim.lean ====
/- The input projection's claims at the sample's shapes: the reference's frame and the value, of the two runs. -/
module

public import proofs.«01_k».proof.Defs
public import proofs.«01_k».proof.Proof.SamRef
public import proofs.«01_k».proof.Proof.Gen.Kernel5Ideal
public import proofs.«01_k».proof.Proof.Gen.Reference5Ideal
public import Idealize.ShloMosaic.Adequacy
public import Idealize.ShloMosaic.Init

@[expose] public section

noncomputable section

namespace Cert.Sam

open Idealize.ShloMosaic Idealize.SL.Sem

/-- The reference keeps its arguments, and declares no semaphore. -/
theorem frame_ref : Cert.quiescent_Reference5Ideal := fun m ρ _ =>
  (θ_run Cert.Reference5Ideal.defs _ _).mono (fun r h => ⟨fun c => (h c).2.2, sem_eq_zero_of_no_sems (by decide) r.2⟩)
    (reference_run m ρ)

/-- Both sides end at `projArr` and `decayArr` of their arguments, which agree. -/
theorem value : Cert.algebraic_Kernel5Ideal_Reference5Ideal := by
  intro m g m' g' _ hag
  refine ⟨_, _, kernel_run m g, (θ_run Cert.Reference5Ideal.defs _ _).mono (fun r h c => ?_) (reference_run m' g')⟩
  obtain ⟨h0, h1, h2⟩ := h c
  obtain ⟨a0, a1, a2, a3, a4, a5, a6, a7, a8⟩ := hag c
  refine ⟨h0.trans ?_, h1.trans ?_, h2⟩
  · rw [a0, a1, a2, a3, a4, a7, a8]
  · rw [a0, a1, a2, a3, a4, a5, a6]

end Cert.Sam

end
-- ==== Proof.AdaArray.lean ====
/- The modulation's kernel: its block at a row and a column, and the array it leaves, of its arguments. -/
module

public import proofs.«01_k».proof.Proof.Gen.Kernel6Ideal.Value
public import Idealize.ShloMosaic.Lib.Pipeline.ValueKit

@[expose] public section

set_option maxRecDepth 16384

noncomputable section

namespace Cert.Ada

open Cert.Kernel6Ideal Cert.Kernel6Ideal.Gen Cert.Kernel6Ideal.Value Idealize.ShloMosaic Idealize.ShloMosaic.TcCoe Idealize.SL.Sem

/-- The conditions of the two batches one after the other, with zeros to a whole number of eight rows. -/
def cond (CP : FVec Ideal S4x1024 .f32) (CS : FVec Ideal S16x1024 .f32) (r : Fin 24) (k : Fin 1024) : EReal :=
  if h : r.val < 4 then CP (ix2 ⟨r.val, h⟩ k)
  else if h : r.val - 4 < 16 then CS (ix2 ⟨r.val - 4, h⟩ k) else Ideal.ofBits .f32 0x00000000#32

/-- A row's conditions through the sigmoid-weighted unit and one layer's column, with its bias. -/
def modCell (c w : Fin 1024 → EReal) (b : EReal) : EReal := (∑ k : Fin 1024, c k * Ideal.logistic (c k) * w k) + b

/-- The modulation of all layers. -/
def modArr (CP : FVec Ideal S4x1024 .f32) (CS : FVec Ideal S16x1024 .f32) (W : FVec Ideal S4x1024x6144 .f32) (B : FVec Ideal S4x6144 .f32) :
    FVec Ideal S4x24x6144 .f32 := fun y => modCell (cond CP CS (y 1)) (fun k => W (ix3 (y 0) k (y 2))) (B (ix2 (y 0) (y 2)))

theorem pay_at (x : Vec Ideal S24x1024 .f32) (w : Vec Ideal S1x1024x1536 .f32) (b : Vec Ideal S1x1x1536 .f32) (r : Fin 24) (q : Fin 1536) :
    k0_pay1 x w b (ix3 0 r q) = modCell (fun k => x (ix2 r k)) (fun k => w (ix3 0 k q)) (b (ix3 0 0 q)) := by
  pointwise [k0_pay1, modCell]

/-- The block a grid point leaves, of the blocks it loads. -/
theorem out_at (x : Vec Ideal S24x1024 .f32) (w : Vec Ideal S1x1024x1536 .f32) (b : Vec Ideal S1x1x1536 .f32) (r : Fin 24) (q : Fin 1536) :
    out0_3 x w b (ix3 0 r q) = modCell (fun k => x (ix2 r k)) (fun k => w (ix3 0 k q)) (b (ix3 0 0 q)) := by
  have e0 : ∀ r k, View.ld x r0_0 (ix2 r k) = x (ix2 r k) := by intro r k; pointwise []
  have e1 : ∀ k q, View.ld w r0_1 (ix3 0 k q) = w (ix3 0 k q) := by intro k q; pointwise []
  have e2 : ∀ q, View.ld b r0_2 (ix3 0 0 q) = b (ix3 0 0 q) := by intro q; pointwise []
  unfold out0_3
  rw [View.canon_unit_zero (by decide), pay_at]
  simp only [e0, e1, e2]

variable (m : (l : Idealize.ShloMosaic.Loc nD τ sig) → Buf (Elt Ideal) l) (c : Dev nD)

/-! The arrays the host prepares, of the arguments. -/

/-- The conditions as the host lays them out. -/
theorem rows_at (CP : FVec Ideal S4x1024 .f32) (CS : FVec Ideal S16x1024 .f32) (r : Fin 24) (k : Fin 1024) :
    concatenate S24x1024 0 [⟨S4x1024, CP⟩, ⟨S16x1024, CS⟩, ⟨S4x1024, broadcastInDim S4x1024 ![] bcast_S_S4x1024 (constant (F := Ideal) S_ .f32 0x00000000#32)⟩]
      concatenates_S4x1024_S16x1024_S4x1024_S24x1024_d0 (ix2 r k) = cond CP CS r k := by
  pointwise [cond]

theorem V_rows : V m c main_v1 = concatenate S24x1024 0 [⟨S4x1024, (m ((c : Thread nD τ).loc main_arg0) : FVec Ideal S4x1024 .f32)⟩,
      ⟨S16x1024, (m ((c : Thread nD τ).loc main_arg1) : FVec Ideal S16x1024 .f32)⟩,
      ⟨S4x1024, broadcastInDim S4x1024 ![] bcast_S_S4x1024 (constant (F := Ideal) S_ .f32 0x00000000#32)⟩]
      concatenates_S4x1024_S16x1024_S4x1024_S24x1024_d0 := by
  show StableHlo.after hostOps0 (fun b => m (c, b)) (Proc.devRef .tc main_v1) = _
  simp only [hostOps0]
  after_results_simp
  all_goals (try dsimp only [Matrix.cons_val])
  all_goals (try after_results_simp)
  all_goals rfl

theorem V_cond (r : Fin 24) (k : Fin 1024) : V m c main_v1 (ix2 r k)
    = cond (m ((c : Thread nD τ).loc main_arg0)) (m ((c : Thread nD τ).loc main_arg1)) r k := by
  rw [V_rows]
  exact rows_at _ _ r k

theorem V_bias (l : Fin 4) (q : Fin 6144) : V m c main_v2 (ix3 l 0 q) = m ((c : Thread nD τ).loc main_arg3) (ix2 l q) := by
  entry_read
  pointwise

/-- Which block each window holds at a grid point. -/
theorem idx_all : ∀ t : Fin cfg0.N, win0_0.index t = ![0, 0]
    ∧ win0_1.index t = ![t.val / 4, 0, t.val % 4]
    ∧ win0_2.index t = ![t.val / 4, 0, t.val % 4]
    ∧ win0_3.index t = ![t.val / 4, 0, t.val % 4] :=
  (by decide +kernel : ∀ t : Fin grid0.N, _)

/-- The layer and the columns of grid point `t`'s block. -/
abbrev layOf (t : Fin cfg0.N) : Fin 4 := ⟨t.val / 4, by have := t.isLt; have : cfg0.N = 16 := rfl; omega⟩

abbrev colOf (t : Fin cfg0.N) (q : Fin 1536) : Fin 6144 := ⟨1536 * (t.val % 4) + q.val, by omega⟩

theorem blk_c (t : Fin cfg0.N) (r : Fin 24) (k : Fin 1024) : iblk m c 0 t (ix2 r k)
    = cond (m ((c : Thread nD τ).loc main_arg0)) (m ((c : Thread nD τ).loc main_arg1)) r k := by
  obtain ⟨h0, h1, h2, h3⟩ := idx_all t
  refine Eq.trans ?_ (V_cond m c r k)
  blk_ext [iblk, h0]

theorem blk_w (t : Fin cfg0.N) (k : Fin 1024) (q : Fin 1536) : iblk m c 1 t (ix3 0 k q)
    = m ((c : Thread nD τ).loc main_arg2) (ix3 (layOf t) k (colOf t q)) := by
  obtain ⟨h0, h1, h2, h3⟩ := idx_all t
  blk_ext [iblk, h1, V_main_arg2]

theorem blk_b (t : Fin cfg0.N) (q : Fin 1536) : iblk m c 2 t (ix3 0 0 q)
    = m ((c : Thread nD τ).loc main_arg3) (ix2 (layOf t) (colOf t q)) := by
  obtain ⟨h0, h1, h2, h3⟩ := idx_all t
  refine Eq.trans ?_ (V_bias m c (layOf t) (colOf t q))
  blk_ext [iblk, h2]

/-- The array after the last grid point. -/
theorem final3 : (dats m 0 c).arrAt 3 cfg0.N = modArr (m ((c : Thread nD τ).loc main_arg0)) (m ((c : Thread nD τ).loc main_arg1))
    (m ((c : Thread nD τ).loc main_arg2)) (m ((c : Thread nD τ).loc main_arg3)) := by
  refine (dats m 0 c).arrAt_eq_of_covers 3 _ (by decide +kernel) fun t hf y => ?_
  have e := congrFun (flushed3 m c t) y
  obtain ⟨z, r, q, rfl⟩ : ∃ (z : Fin 1) (r : Fin 24) (q : Fin 1536), y = ix3 z r q := ⟨y 0, y 1, y 2, eq_ix3 y⟩
  obtain rfl : z = 0 := Subsingleton.elim _ _
  have ey : ((cfg0.win 3).blk t).view.emb (ix3 0 r q) = ix3 (layOf t) r (colOf t q) := by
    obtain ⟨h0, h1, h2, h3⟩ := idx_all t
    blk_ext [h3]
  rw [ey]
  refine e.trans ?_
  show out0_3 (iblk m c 0 t) (iblk m c 1 t) (iblk m c 2 t) (ix3 0 r q) = _
  rw [out_at]
  simp only [blk_c, blk_w, blk_b]
  rfl

/-- The modulation kernel's run: its result, of the arguments. -/
theorem kernel_run (ρ : Dev nD → PrngReg) : θ_run defs (onTc (τ := τ) (main (F := Ideal))) ⟨m, fun _ => 0, ρ⟩ fun r => ∀ c : Dev nD,
      r.2.mem ((c : Thread nD τ).loc main_v3) = modArr (m ((c : Thread nD τ).loc main_arg0)) (m ((c : Thread nD τ).loc main_arg1))
        (m ((c : Thread nD τ).loc main_arg2)) (m ((c : Thread nD τ).loc main_arg3))
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3) :=
  (θ_run defs _ _).mono (fun _ h c => ⟨(h c).1.trans (final3 m c), (h c).2⟩) (run_blocks m ρ)

end Cert.Ada

end
-- ==== Proof.AdaRef.lean ====
/- The modulation's reference: its stages read at an index, its run, and the call's claims. -/
module

public import proofs.«01_k».proof.Defs
public import proofs.«01_k».proof.Proof.AdaArray
public import proofs.«01_k».proof.Proof.Gen.Kernel6Ideal
public import proofs.«01_k».proof.Proof.Gen.Reference6Ideal
public import proofs.«01_k».proof.Proof.Gen.Reference6Ideal.Run
public import Idealize.ShloMosaic.Adequacy
public import Idealize.ShloMosaic.Init

@[expose] public section

set_option maxRecDepth 16384

noncomputable section

namespace Cert.Ada

open Cert.Reference6Ideal Cert.Reference6Ideal.Gen Cert.Reference6Ideal.Value Idealize.ShloMosaic Idealize.ShloMosaic.TcCoe Idealize.SL.Sem

/-- The conditions one after the other. -/
def hostCond (CP : FVec Ideal S4x1024 .f32) (CS : FVec Ideal S16x1024 .f32) : FVec Ideal S24x1024 .f32 :=
  concatenate S24x1024 0 [⟨S4x1024, CP⟩, ⟨S16x1024, CS⟩, ⟨S4x1024, broadcastInDim S4x1024 ![] bcast_S_S4x1024 (constant S_ .f32 0x00000000#32)⟩]
    concatenates_S4x1024_S16x1024_S4x1024_S24x1024_d0

/-- The sigmoid-weighted unit. -/
def hostSilu (C : FVec Ideal S24x1024 .f32) : FVec Ideal S24x1024 .f32 :=
  mulf C (Host.divf (broadcastInDim S24x1024 ![] bcast_S_S24x1024 (constant S_ .f32 0x3F800000#32))
    (addf (broadcastInDim S24x1024 ![] bcast_S_S24x1024 (constant S_ .f32 0x3F800000#32)) (Host.exp (Host.negf C))))

/-- One layer's modulation, of its weights and bias. -/
def hostLayer (C : FVec Ideal S24x1024 .f32) (W : FVec Ideal S1x1024x6144 .f32) (B : FVec Ideal S1x6144 .f32) : FVec Ideal S1x24x6144 .f32 :=
  broadcastInDim S1x24x6144 ![1, 2] bcast_S24x6144_S1x24x6144_1_2 (addf (Host.dotGeneral dot_S24x1024_S1024x6144_S24x6144_1_0_0_1_n_n none
    (hostSilu C) (shapeCast _ W shapeCasts_S1x1024x6144_S1024x6144)) (broadcastInDim S24x6144 ![0, 1] bcast_S1x6144_S24x6144_0_1
    (broadcastInDim S1x6144 ![1] bcast_S6144_S1x6144_1 (shapeCast _ B shapeCasts_S1x6144_S6144))))

/-- The layers one after the other. -/
def hostStack (u0 u1 u2 u3 : FVec Ideal S1x24x6144 .f32) : FVec Ideal S4x24x6144 .f32 :=
  concatenate S4x24x6144 0 [⟨S1x24x6144, u0⟩, ⟨S1x24x6144, u1⟩, ⟨S1x24x6144, u2⟩, ⟨S1x24x6144, u3⟩]
    concatenates_S1x24x6144_S1x24x6144_S1x24x6144_S1x24x6144_S4x24x6144_d0

/-- The reference's result. -/
def hostMod (C : FVec Ideal S24x1024 .f32) (W : FVec Ideal S4x1024x6144 .f32) (B : FVec Ideal S4x6144 .f32) : FVec Ideal S4x24x6144 .f32 :=
  hostStack
    (hostLayer C (extractStridedSlice S1x1024x6144 ![0, 0, 0] W slices_S4x1024x6144_S1x1024x6144_0_0_0) (extractStridedSlice S1x6144 ![0, 0] B slices_S4x6144_S1x6144_0_0))
    (hostLayer C (extractStridedSlice S1x1024x6144 ![1, 0, 0] W slices_S4x1024x6144_S1x1024x6144_1_0_0) (extractStridedSlice S1x6144 ![1, 0] B slices_S4x6144_S1x6144_1_0))
    (hostLayer C (extractStridedSlice S1x1024x6144 ![2, 0, 0] W slices_S4x1024x6144_S1x1024x6144_2_0_0) (extractStridedSlice S1x6144 ![2, 0] B slices_S4x6144_S1x6144_2_0))
    (hostLayer C (extractStridedSlice S1x1024x6144 ![3, 0, 0] W slices_S4x1024x6144_S1x1024x6144_3_0_0) (extractStridedSlice S1x6144 ![3, 0] B slices_S4x6144_S1x6144_3_0))

theorem cond_at (CP : FVec Ideal S4x1024 .f32) (CS : FVec Ideal S16x1024 .f32) (r : Fin 24) (k : Fin 1024) :
    hostCond CP CS (ix2 r k) = cond CP CS r k := by
  pointwise [hostCond, cond]

/-- A layer at a row and a column. -/
theorem layer_at (C : FVec Ideal S24x1024 .f32) (W : FVec Ideal S1x1024x6144 .f32) (B : FVec Ideal S1x6144 .f32) (r : Fin 24) (q : Fin 6144) :
    hostLayer C W B (ix3 0 r q) = modCell (fun k => C (ix2 r k)) (fun k => W (ix3 0 k q)) (B (ix2 0 q)) := by
  pointwise [hostLayer, hostSilu, modCell, Ideal.logistic]

theorem stack_0 (u0 u1 u2 u3 : FVec Ideal S1x24x6144 .f32) (r : Fin 24) (q : Fin 6144) : hostStack u0 u1 u2 u3 (ix3 0 r q) = u0 (ix3 0 r q) := by
  pointwise [hostStack]

theorem stack_1 (u0 u1 u2 u3 : FVec Ideal S1x24x6144 .f32) (r : Fin 24) (q : Fin 6144) : hostStack u0 u1 u2 u3 (ix3 1 r q) = u1 (ix3 0 r q) := by
  pointwise [hostStack]

theorem stack_2 (u0 u1 u2 u3 : FVec Ideal S1x24x6144 .f32) (r : Fin 24) (q : Fin 6144) : hostStack u0 u1 u2 u3 (ix3 2 r q) = u2 (ix3 0 r q) := by
  pointwise [hostStack]

theorem stack_3 (u0 u1 u2 u3 : FVec Ideal S1x24x6144 .f32) (r : Fin 24) (q : Fin 6144) : hostStack u0 u1 u2 u3 (ix3 3 r q) = u3 (ix3 0 r q) := by
  pointwise [hostStack]

/-- A layer's weights and bias, cut from all layers'. -/
theorem cut_at (W : FVec Ideal S4x1024x6144 .f32) (B : FVec Ideal S4x6144 .f32) (l : Fin 4) (C : FVec Ideal S24x1024 .f32) (r : Fin 24) (q : Fin 6144) :
    hostMod C W B (ix3 l r q) = modCell (fun k => C (ix2 r k)) (fun k => W (ix3 l k q)) (B (ix2 l q)) := by
  unfold hostMod
  fin_cases l
  · refine (stack_0 _ _ _ _ r q).trans ((layer_at _ _ _ r q).trans ?_)
    refine congr (congrArg _ (funext fun k => ?_)) ?_ <;> pointwise
  · refine (stack_1 _ _ _ _ r q).trans ((layer_at _ _ _ r q).trans ?_)
    refine congr (congrArg _ (funext fun k => ?_)) ?_ <;> pointwise
  · refine (stack_2 _ _ _ _ r q).trans ((layer_at _ _ _ r q).trans ?_)
    refine congr (congrArg _ (funext fun k => ?_)) ?_ <;> pointwise
  · refine (stack_3 _ _ _ _ r q).trans ((layer_at _ _ _ r q).trans ?_)
    refine congr (congrArg _ (funext fun k => ?_)) ?_ <;> pointwise

/-- The reference's result is the array the kernel leaves. -/
theorem hostMod_eq (CP : FVec Ideal S4x1024 .f32) (CS : FVec Ideal S16x1024 .f32) (W : FVec Ideal S4x1024x6144 .f32) (B : FVec Ideal S4x6144 .f32) :
    hostMod (hostCond CP CS) W B = modArr CP CS W B := by
  funext y
  obtain ⟨l, r, q, rfl⟩ : ∃ (l : Fin 4) (r : Fin 24) (q : Fin 6144), y = ix3 l r q := ⟨y 0, y 1, y 2, eq_ix3 y⟩
  refine (cut_at W B l _ r q).trans ?_
  simp only [cond_at]
  rfl

variable (m : (l : Idealize.ShloMosaic.Loc nD τ sig) → Buf (Elt Ideal) l) (c : Dev nD)

/-- The run's result is the stage `hostMod`. -/
theorem res_mod : res_main_v42 m c = hostMod (hostCond (m ((c : Thread nD τ).loc main_arg0)) (m ((c : Thread nD τ).loc main_arg1)))
    (m ((c : Thread nD τ).loc main_arg2)) (m ((c : Thread nD τ).loc main_arg3)) := rfl

/-- The reference's run: its result, of the arguments. -/
theorem reference_run (ρ : Dev nD → PrngReg) : θ_run (defs (F := Ideal)) (onTc (τ := τ) (main (F := Ideal))) ⟨m, fun _ => 0, ρ⟩ fun r => ∀ c : Dev nD,
      r.2.mem ((c : Thread nD τ).loc main_v42) = modArr (m ((c : Thread nD τ).loc main_arg0)) (m ((c : Thread nD τ).loc main_arg1))
        (m ((c : Thread nD τ).loc main_arg2)) (m ((c : Thread nD τ).loc main_arg3))
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3) :=
  (θ_run defs _ _).mono (fun _ h c => ⟨(h c).1.trans ((res_mod m c).trans (hostMod_eq _ _ _ _)), (h c).2⟩) (run m ρ)

/-- The reference keeps its arguments, and declares no semaphore. -/
theorem frame_ref : Cert.quiescent_Reference6Ideal := fun m ρ _ =>
  (θ_run Cert.Reference6Ideal.defs _ _).mono (fun r h => ⟨fun c => (h c).2, sem_eq_zero_of_no_sems (by decide) r.2⟩)
    (reference_run m ρ)

/-- Both sides end at `modArr` of their arguments, which agree. -/
theorem value : Cert.algebraic_Kernel6Ideal_Reference6Ideal := by
  intro m g m' g' _ hag
  refine ⟨_, kernel_run m g, (θ_run Cert.Reference6Ideal.defs _ _).mono (fun r h c => ?_) (reference_run m' g')⟩
  obtain ⟨h0, h1⟩ := h c
  obtain ⟨a0, a1, a2, a3⟩ := hag c
  exact ⟨h0.trans (by rw [a0, a1, a2, a3]), h1⟩

end Cert.Ada

end
-- ==== Proof.lean ====
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.KernelIdeal.Value
public import proofs.«01_k».proof.Proof.Gen.ReferenceIdeal.Run
public import proofs.«01_k».proof.Proof.RefRun
public import proofs.«01_k».proof.Proof.ExpClaim
public import proofs.«01_k».proof.Proof.MergeClaim
public import proofs.«01_k».proof.Proof.ProjClaim
public import proofs.«01_k».proof.Proof.SamClaim
public import proofs.«01_k».proof.Proof.AdaRef
public import proofs.«01_k».proof.Proof.Gen.Kernel2
public import proofs.«01_k».proof.Proof.Gen.Kernel2.Skeleton
public import proofs.«01_k».proof.Proof.Gen.Kernel2.Launch
public import proofs.«01_k».proof.Proof.Gen.Kernel2Ideal
public import proofs.«01_k».proof.Proof.Gen.Kernel2Ideal.Skeleton
public import proofs.«01_k».proof.Proof.Gen.Kernel2Ideal.Launch
public import proofs.«01_k».proof.Proof.Gen.Reference2Ideal
public import proofs.«01_k».proof.Proof.Gen.Reference2Ideal.Run
public import proofs.«01_k».proof.Proof.Gen.Kernel3
public import proofs.«01_k».proof.Proof.Gen.Kernel3.Skeleton
public import proofs.«01_k».proof.Proof.Gen.Kernel3.Launch
public import proofs.«01_k».proof.Proof.Gen.Kernel3.Points
public import proofs.«01_k».proof.Proof.Gen.Kernel3.Frame
public import proofs.«01_k».proof.Proof.Gen.Kernel3Ideal
public import proofs.«01_k».proof.Proof.Gen.Kernel3Ideal.Skeleton
public import proofs.«01_k».proof.Proof.Gen.Kernel3Ideal.Launch
public import proofs.«01_k».proof.Proof.Gen.Kernel3Ideal.Points
public import proofs.«01_k».proof.Proof.Gen.Kernel3Ideal.Frame
public import proofs.«01_k».proof.Proof.Gen.Kernel3Ideal.Value
public import proofs.«01_k».proof.Proof.Gen.Reference3Ideal
public import proofs.«01_k».proof.Proof.Gen.Reference3Ideal.Run
public import proofs.«01_k».proof.Proof.Gen.Kernel4
public import proofs.«01_k».proof.Proof.Gen.Kernel4.Skeleton
public import proofs.«01_k».proof.Proof.Gen.Kernel4.Launch
public import proofs.«01_k».proof.Proof.Gen.Kernel4.Points
public import proofs.«01_k».proof.Proof.Gen.Kernel4.Frame
public import proofs.«01_k».proof.Proof.Gen.Kernel4Ideal
public import proofs.«01_k».proof.Proof.Gen.Kernel4Ideal.Skeleton
public import proofs.«01_k».proof.Proof.Gen.Kernel4Ideal.Launch
public import proofs.«01_k».proof.Proof.Gen.Kernel4Ideal.Points
public import proofs.«01_k».proof.Proof.Gen.Kernel4Ideal.Frame
public import proofs.«01_k».proof.Proof.Gen.Kernel4Ideal.Value
public import proofs.«01_k».proof.Proof.Gen.Reference4Ideal
public import proofs.«01_k».proof.Proof.Gen.Reference4Ideal.Run
public import proofs.«01_k».proof.Proof.Gen.Kernel5
public import proofs.«01_k».proof.Proof.Gen.Kernel5.Skeleton
public import proofs.«01_k».proof.Proof.Gen.Kernel5.Launch
public import proofs.«01_k».proof.Proof.Gen.Kernel5.Points
public import proofs.«01_k».proof.Proof.Gen.Kernel5.Frame
public import proofs.«01_k».proof.Proof.Gen.Kernel5Ideal
public import proofs.«01_k».proof.Proof.Gen.Kernel5Ideal.Skeleton
public import proofs.«01_k».proof.Proof.Gen.Kernel5Ideal.Launch
public import proofs.«01_k».proof.Proof.Gen.Kernel5Ideal.Points
public import proofs.«01_k».proof.Proof.Gen.Kernel5Ideal.Frame
public import proofs.«01_k».proof.Proof.Gen.Kernel5Ideal.Value
public import proofs.«01_k».proof.Proof.Gen.Reference5Ideal
public import proofs.«01_k».proof.Proof.Gen.Reference5Ideal.Run
public import proofs.«01_k».proof.Proof.Gen.Kernel6
public import proofs.«01_k».proof.Proof.Gen.Kernel6.Skeleton
public import proofs.«01_k».proof.Proof.Gen.Kernel6.Launch
public import proofs.«01_k».proof.Proof.Gen.Kernel6.Points
public import proofs.«01_k».proof.Proof.Gen.Kernel6.Frame
public import proofs.«01_k».proof.Proof.Gen.Kernel6Ideal
public import proofs.«01_k».proof.Proof.Gen.Kernel6Ideal.Skeleton
public import proofs.«01_k».proof.Proof.Gen.Kernel6Ideal.Launch
public import proofs.«01_k».proof.Proof.Gen.Kernel6Ideal.Points
public import proofs.«01_k».proof.Proof.Gen.Kernel6Ideal.Frame
public import proofs.«01_k».proof.Proof.Gen.Kernel6Ideal.Value
public import proofs.«01_k».proof.Proof.Gen.Reference6Ideal
public import proofs.«01_k».proof.Proof.Gen.Reference6Ideal.Run
public import proofs.«01_k».proof.Proof.Gen.Pre_in_range
public import Idealize.ShloMosaic.Adequacy
public import Idealize.ShloMosaic.Init

@[expose] public section

noncomputable section

namespace Cert.Proof

open Idealize.ShloMosaic Idealize.SL.Sem Cert.Kernel

/-- The reference keeps its arguments, and declares no semaphore. -/
theorem ref_frame : Cert.quiescent_ReferenceIdeal := fun m ρ _ =>
  (θ_run Cert.ReferenceIdeal.defs _ _).mono (fun r h => ⟨fun c => (h c).2.2, sem_eq_zero_of_no_sems (by decide) r.2⟩)
    (Cert.Ret.reference_run m ρ)

/-- Both sides end at `Ret.outArr` and `Ret.stateArr` of their arguments, which agree. -/
theorem ret_value : Cert.algebraic_KernelIdeal_ReferenceIdeal := fun m g m' g' _ hag =>
  ⟨_, _, Cert.Ret.kernel_run m g, (θ_run Cert.ReferenceIdeal.defs _ _).mono (fun _ h c => by
    have hr := h c
    rw [(hag c).1, (hag c).2.1, (hag c).2.2] at hr ⊢
    exact hr) (Cert.Ret.reference_run m' g')⟩

theorem claim : Cert.Claim := ⟨Cert.Kernel.Gen.facts, Cert.KernelIdeal.Gen.facts, Cert.ReferenceIdeal.Gen.facts,
  Cert.Kernel2.Gen.facts, Cert.Kernel2Ideal.Gen.facts, Cert.Reference2Ideal.Gen.facts,
  Cert.Kernel3.Gen.facts, Cert.Kernel3Ideal.Gen.facts, Cert.Reference3Ideal.Gen.facts,
  Cert.Kernel4.Gen.facts, Cert.Kernel4Ideal.Gen.facts, Cert.Reference4Ideal.Gen.facts,
  Cert.Kernel5.Gen.facts, Cert.Kernel5Ideal.Gen.facts, Cert.Reference5Ideal.Gen.facts,
  Cert.Kernel6.Gen.facts, Cert.Kernel6Ideal.Gen.facts, Cert.Reference6Ideal.Gen.facts, Cert.Pre_in_range.Gen.facts,
  fun m ρ _ => Cert.Kernel.Gen.frame m ρ, fun m ρ _ => Cert.KernelIdeal.Gen.frame m ρ, ref_frame,
  Cert.Exp.frame_kernel, Cert.Exp.frame_ideal, Cert.Exp.frame_ref, fun m ρ _ => Cert.Exp.frame_ref m ρ trivial,
  fun m ρ _ => Cert.Kernel3.Gen.frame m ρ, fun m ρ _ => Cert.Kernel3Ideal.Gen.frame m ρ, Cert.Merge.frame_ref,
  fun m ρ _ => Cert.Kernel4.Gen.frame m ρ, fun m ρ _ => Cert.Kernel4Ideal.Gen.frame m ρ, Cert.Proj.frame_ref,
  fun m ρ _ => Cert.Kernel5.Gen.frame m ρ, fun m ρ _ => Cert.Kernel5Ideal.Gen.frame m ρ, Cert.Sam.frame_ref,
  fun m ρ _ => Cert.Kernel6.Gen.frame m ρ, fun m ρ _ => Cert.Kernel6Ideal.Gen.frame m ρ, Cert.Ada.frame_ref,
  trivial, ret_value, trivial, Cert.Exp.value, trivial, Cert.Merge.value, trivial, Cert.Proj.value,
  trivial, Cert.Sam.value, trivial, Cert.Ada.value⟩

end Cert.Proof

end
